-- ==== Defs.lean ====
def Pre_PairShare (m : (ℓ : Loc Cert.PairShare.nD Cert.PairShare.τ Cert.PairShare.sig) → Buf (Elt Bits) ℓ) : Prop :=
  True

def Pre_PairShareIdeal (m : (ℓ : Loc Cert.PairShareIdeal.nD Cert.PairShareIdeal.τ Cert.PairShareIdeal.sig) → Buf (Elt Ideal) ℓ) : Prop :=
  True

def Pre_PairShareRefIdeal (m : (ℓ : Loc Cert.PairShareRefIdeal.nD Cert.PairShareRefIdeal.τ Cert.PairShareRefIdeal.sig) → Buf (Elt Ideal) ℓ) : Prop :=
  True

def Pre_PairShareRef (m : (ℓ : Loc Cert.PairShareRef.nD Cert.PairShareRef.τ Cert.PairShareRef.sig) → Buf (Elt Bits) ℓ) : Prop :=
  True

def Pre_ChipExchange (m : (ℓ : Loc Cert.ChipExchange.nD Cert.ChipExchange.τ Cert.ChipExchange.sig) → Buf (Elt Bits) ℓ) : Prop :=
  True

def Pre_ChipExchangeIdeal (m : (ℓ : Loc Cert.ChipExchangeIdeal.nD Cert.ChipExchangeIdeal.τ Cert.ChipExchangeIdeal.sig) → Buf (Elt Ideal) ℓ) : Prop :=
  True

def Pre_ChipExchangeRefIdeal (m : (ℓ : Loc Cert.ChipExchangeRefIdeal.nD Cert.ChipExchangeRefIdeal.τ Cert.ChipExchangeRefIdeal.sig) → Buf (Elt Ideal) ℓ) : Prop :=
  True

def Pre_ChipExchangeRef (m : (ℓ : Loc Cert.ChipExchangeRef.nD Cert.ChipExchangeRef.τ Cert.ChipExchangeRef.sig) → Buf (Elt Bits) ℓ) : Prop :=
  True

def Pre_PairExchange (m : (ℓ : Loc Cert.PairExchange.nD Cert.PairExchange.τ Cert.PairExchange.sig) → Buf (Elt Bits) ℓ) : Prop :=
  True

def Pre_PairExchangeIdeal (m : (ℓ : Loc Cert.PairExchangeIdeal.nD Cert.PairExchangeIdeal.τ Cert.PairExchangeIdeal.sig) → Buf (Elt Ideal) ℓ) : Prop :=
  True

def Pre_PairExchangeRefIdeal (m : (ℓ : Loc Cert.PairExchangeRefIdeal.nD Cert.PairExchangeRefIdeal.τ Cert.PairExchangeRefIdeal.sig) → Buf (Elt Ideal) ℓ) : Prop :=
  True

def Pre_PairExchangeRef (m : (ℓ : Loc Cert.PairExchangeRef.nD Cert.PairExchangeRef.τ Cert.PairExchangeRef.sig) → Buf (Elt Bits) ℓ) : Prop :=
  True

def Pre_GatherWeights (m : (ℓ : Loc Cert.GatherWeights.nD Cert.GatherWeights.τ Cert.GatherWeights.sig) → Buf (Elt Bits) ℓ) : Prop :=
  True

def Pre_GatherWeightsIdeal (m : (ℓ : Loc Cert.GatherWeightsIdeal.nD Cert.GatherWeightsIdeal.τ Cert.GatherWeightsIdeal.sig) → Buf (Elt Ideal) ℓ) : Prop :=
  True

def Pre_GatherWeightsRefIdeal (m : (ℓ : Loc Cert.GatherWeightsRefIdeal.nD Cert.GatherWeightsRefIdeal.τ Cert.GatherWeightsRefIdeal.sig) → Buf (Elt Ideal) ℓ) : Prop :=
  True

def Pre_GatherWeightsRef (m : (ℓ : Loc Cert.GatherWeightsRef.nD Cert.GatherWeightsRef.τ Cert.GatherWeightsRef.sig) → Buf (Elt Bits) ℓ) : Prop :=
  True

def Pre_PairAddIn (m : (ℓ : Loc Cert.PairAddIn.nD Cert.PairAddIn.τ Cert.PairAddIn.sig) → Buf (Elt Bits) ℓ) : Prop :=
  True

def Pre_PairAddInIdeal (m : (ℓ : Loc Cert.PairAddInIdeal.nD Cert.PairAddInIdeal.τ Cert.PairAddInIdeal.sig) → Buf (Elt Ideal) ℓ) : Prop :=
  True

def Pre_PairAddInRefIdeal (m : (ℓ : Loc Cert.PairAddInRefIdeal.nD Cert.PairAddInRefIdeal.τ Cert.PairAddInRefIdeal.sig) → Buf (Elt Ideal) ℓ) : Prop :=
  True

def Pre_PairAddInRef (m : (ℓ : Loc Cert.PairAddInRef.nD Cert.PairAddInRef.τ Cert.PairAddInRef.sig) → Buf (Elt Bits) ℓ) : Prop :=
  True

def Pre_PairAddOut (m : (ℓ : Loc Cert.PairAddOut.nD Cert.PairAddOut.τ Cert.PairAddOut.sig) → Buf (Elt Bits) ℓ) : Prop :=
  True

def Pre_PairAddOutIdeal (m : (ℓ : Loc Cert.PairAddOutIdeal.nD Cert.PairAddOutIdeal.τ Cert.PairAddOutIdeal.sig) → Buf (Elt Ideal) ℓ) : Prop :=
  True

def Pre_PairAddOutRefIdeal (m : (ℓ : Loc Cert.PairAddOutRefIdeal.nD Cert.PairAddOutRefIdeal.τ Cert.PairAddOutRefIdeal.sig) → Buf (Elt Ideal) ℓ) : Prop :=
  True

def Pre_PairAddOutRef (m : (ℓ : Loc Cert.PairAddOutRef.nD Cert.PairAddOutRef.τ Cert.PairAddOutRef.sig) → Buf (Elt Bits) ℓ) : Prop :=
  True

def Pre_ChipAddIn (m : (ℓ : Loc Cert.ChipAddIn.nD Cert.ChipAddIn.τ Cert.ChipAddIn.sig) → Buf (Elt Bits) ℓ) : Prop :=
  True

def Pre_ChipAddInIdeal (m : (ℓ : Loc Cert.ChipAddInIdeal.nD Cert.ChipAddInIdeal.τ Cert.ChipAddInIdeal.sig) → Buf (Elt Ideal) ℓ) : Prop :=
  True

def Pre_ChipAddInRefIdeal (m : (ℓ : Loc Cert.ChipAddInRefIdeal.nD Cert.ChipAddInRefIdeal.τ Cert.ChipAddInRefIdeal.sig) → Buf (Elt Ideal) ℓ) : Prop :=
  True

def Pre_ChipAddOut (m : (ℓ : Loc Cert.ChipAddOut.nD Cert.ChipAddOut.τ Cert.ChipAddOut.sig) → Buf (Elt Bits) ℓ) : Prop :=
  True

def Pre_ChipAddOutIdeal (m : (ℓ : Loc Cert.ChipAddOutIdeal.nD Cert.ChipAddOutIdeal.τ Cert.ChipAddOutIdeal.sig) → Buf (Elt Ideal) ℓ) : Prop :=
  True

def Pre_ChipAddOutRefIdeal (m : (ℓ : Loc Cert.ChipAddOutRefIdeal.nD Cert.ChipAddOutRefIdeal.τ Cert.ChipAddOutRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRefIdeal (m : (ℓ : Loc Cert.GradXRefIdeal.nD Cert.GradXRefIdeal.τ Cert.GradXRefIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_GradWOutRefIdeal (m : (ℓ : Loc Cert.GradWOutRefIdeal.nD Cert.GradWOutRefIdeal.τ Cert.GradWOutRefIdeal.sig) → Buf (Elt Ideal) ℓ) : Prop :=
  True

def Pre_GradWZ (m : (ℓ : Loc Cert.GradWZ.nD Cert.GradWZ.τ Cert.GradWZ.sig) → Buf (Elt Bits) ℓ) : Prop :=
  True

def Pre_GradWZIdeal (m : (ℓ : Loc Cert.GradWZIdeal.nD Cert.GradWZIdeal.τ Cert.GradWZIdeal.sig) → Buf (Elt Ideal) ℓ) : Prop :=
  True

def Pre_GradWZRefIdeal (m : (ℓ : Loc Cert.GradWZRefIdeal.nD Cert.GradWZRefIdeal.τ Cert.GradWZRefIdeal.sig) → Buf (Elt Ideal) ℓ) : Prop :=
  True

def Pre_GradWXbc (m : (ℓ : Loc Cert.GradWXbc.nD Cert.GradWXbc.τ Cert.GradWXbc.sig) → Buf (Elt Bits) ℓ) : Prop :=
  True

def Pre_GradWXbcIdeal (m : (ℓ : Loc Cert.GradWXbcIdeal.nD Cert.GradWXbcIdeal.τ Cert.GradWXbcIdeal.sig) → Buf (Elt Ideal) ℓ) : Prop :=
  True

def Pre_GradWXbcRefIdeal (m : (ℓ : Loc Cert.GradWXbcRefIdeal.nD Cert.GradWXbcRefIdeal.τ Cert.GradWXbcRefIdeal.sig) → Buf (Elt Ideal) ℓ) : Prop :=
  True

def Pre_GradWKv (m : (ℓ : Loc Cert.GradWKv.nD Cert.GradWKv.τ Cert.GradWKv.sig) → Buf (Elt Bits) ℓ) : Prop :=
  True

def Pre_GradWKvIdeal (m : (ℓ : Loc Cert.GradWKvIdeal.nD Cert.GradWKvIdeal.τ Cert.GradWKvIdeal.sig) → Buf (Elt Ideal) ℓ) : Prop :=
  True

def Pre_GradWKvRefIdeal (m : (ℓ : Loc Cert.GradWKvRefIdeal.nD Cert.GradWKvRefIdeal.τ Cert.GradWKvRefIdeal.sig) → Buf (Elt Ideal) ℓ) : Prop :=
  True

def Pre_GradWDt (m : (ℓ : Loc Cert.GradWDt.nD Cert.GradWDt.τ Cert.GradWDt.sig) → Buf (Elt Bits) ℓ) : Prop :=
  True

def Pre_GradWDtIdeal (m : (ℓ : Loc Cert.GradWDtIdeal.nD Cert.GradWDtIdeal.τ Cert.GradWDtIdeal.sig) → Buf (Elt Ideal) ℓ) : Prop :=
  True

def Pre_GradWDtRefIdeal (m : (ℓ : Loc Cert.GradWDtRefIdeal.nD Cert.GradWDtRefIdeal.τ Cert.GradWDtRefIdeal.sig) → Buf (Elt Ideal) ℓ) : Prop :=
  True

def Pre_OutLnLoss (m : (ℓ : Loc Cert.OutLnLoss.nD Cert.OutLnLoss.τ Cert.OutLnLoss.sig) → Buf (Elt Bits) ℓ) : Prop :=
  True

def Pre_OutLnLossIdeal (m : (ℓ : Loc Cert.OutLnLossIdeal.nD Cert.OutLnLossIdeal.τ Cert.OutLnLossIdeal.sig) → Buf (Elt Ideal) ℓ) : Prop :=
  True

def Pre_OutLnLossRefIdeal (m : (ℓ : Loc Cert.OutLnLossRefIdeal.nD Cert.OutLnLossRefIdeal.τ Cert.OutLnLossRefIdeal.sig) → Buf (Elt Ideal) ℓ) : Prop :=
  True

def quiescent_PairShare [hPairShare : Cert.PairShare.Facts] : Prop :=
  ∀ (m : (ℓ : Loc Cert.PairShare.nD Cert.PairShare.τ Cert.PairShare.sig) → Buf (Elt Bits) ℓ) (g : Dev Cert.PairShare.nD → PrngReg), Pre_PairShare m →
    θ_run (Cert.PairShare.defs (F := Bits)) (onTc (τ := Cert.PairShare.τ) (Cert.PairShare.main (F := Bits))) ⟨m, fun _ => 0, g⟩ (fun r => (∀ c : Dev Cert.PairShare.nD,
      r.2.mem ((c.tc : Thread Cert.PairShare.nD Cert.PairShare.τ).loc Cert.PairShare.main_arg0) = m ((c.tc : Thread Cert.PairShare.nD Cert.PairShare.τ).loc Cert.PairShare.main_arg0)
      ∧ r.2.mem ((c.tc : Thread Cert.PairShare.nD Cert.PairShare.τ).loc Cert.PairShare.main_arg1) = m ((c.tc : Thread Cert.PairShare.nD Cert.PairShare.τ).loc Cert.PairShare.main_arg1))
      ∧ r.2.sem = fun _ => 0)

def quiescent_PairShareIdeal [hPairShareIdeal : Cert.PairShareIdeal.Facts] : Prop :=
  ∀ (m : (ℓ : Loc Cert.PairShareIdeal.nD Cert.PairShareIdeal.τ Cert.PairShareIdeal.sig) → Buf (Elt Ideal) ℓ) (g : Dev Cert.PairShareIdeal.nD → PrngReg), Pre_PairShareIdeal m →
    θ_run (Cert.PairShareIdeal.defs (F := Ideal)) (onTc (τ := Cert.PairShareIdeal.τ) (Cert.PairShareIdeal.main (F := Ideal))) ⟨m, fun _ => 0, g⟩ (fun r => (∀ c : Dev Cert.PairShareIdeal.nD,
      r.2.mem ((c.tc : Thread Cert.PairShareIdeal.nD Cert.PairShareIdeal.τ).loc Cert.PairShareIdeal.main_arg0) = m ((c.tc : Thread Cert.PairShareIdeal.nD Cert.PairShareIdeal.τ).loc Cert.PairShareIdeal.main_arg0)
      ∧ r.2.mem ((c.tc : Thread Cert.PairShareIdeal.nD Cert.PairShareIdeal.τ).loc Cert.PairShareIdeal.main_arg1) = m ((c.tc : Thread Cert.PairShareIdeal.nD Cert.PairShareIdeal.τ).loc Cert.PairShareIdeal.main_arg1))
      ∧ r.2.sem = fun _ => 0)

def quiescent_PairShareRefIdeal [hPairShareRefIdeal : Cert.PairShareRefIdeal.Facts] : Prop :=
  ∀ (m : (ℓ : Loc Cert.PairShareRefIdeal.nD Cert.PairShareRefIdeal.τ Cert.PairShareRefIdeal.sig) → Buf (Elt Ideal) ℓ) (g : Dev Cert.PairShareRefIdeal.nD → PrngReg), Pre_PairShareRefIdeal m →
    θ_run (Cert.PairShareRefIdeal.defs (F := Ideal)) (onTc (τ := Cert.PairShareRefIdeal.τ) (Cert.PairShareRefIdeal.main (F := Ideal))) ⟨m, fun _ => 0, g⟩ (fun r => (∀ c : Dev Cert.PairShareRefIdeal.nD,
      r.2.mem ((c.tc : Thread Cert.PairShareRefIdeal.nD Cert.PairShareRefIdeal.τ).loc Cert.PairShareRefIdeal.main_arg0) = m ((c.tc : Thread Cert.PairShareRefIdeal.nD Cert.PairShareRefIdeal.τ).loc Cert.PairShareRefIdeal.main_arg0)
      ∧ r.2.mem ((c.tc : Thread Cert.PairShareRefIdeal.nD Cert.PairShareRefIdeal.τ).loc Cert.PairShareRefIdeal.main_arg1) = m ((c.tc : Thread Cert.PairShareRefIdeal.nD Cert.PairShareRefIdeal.τ).loc Cert.PairShareRefIdeal.main_arg1))
      ∧ r.2.sem = fun _ => 0)

def quiescent_PairShareRef [hPairShareRef : Cert.PairShareRef.Facts] : Prop :=
  ∀ (m : (ℓ : Loc Cert.PairShareRef.nD Cert.PairShareRef.τ Cert.PairShareRef.sig) → Buf (Elt Bits) ℓ) (g : Dev Cert.PairShareRef.nD → PrngReg), Pre_PairShareRef m →
    θ_run (Cert.PairShareRef.defs (F := Bits)) (onTc (τ := Cert.PairShareRef.τ) (Cert.PairShareRef.main (F := Bits))) ⟨m, fun _ => 0, g⟩ (fun r => (∀ c : Dev Cert.PairShareRef.nD,
      r.2.mem ((c.tc : Thread Cert.PairShareRef.nD Cert.PairShareRef.τ).loc Cert.PairShareRef.main_arg0) = m ((c.tc : Thread Cert.PairShareRef.nD Cert.PairShareRef.τ).loc Cert.PairShareRef.main_arg0)
      ∧ r.2.mem ((c.tc : Thread Cert.PairShareRef.nD Cert.PairShareRef.τ).loc Cert.PairShareRef.main_arg1) = m ((c.tc : Thread Cert.PairShareRef.nD Cert.PairShareRef.τ).loc Cert.PairShareRef.main_arg1))
      ∧ r.2.sem = fun _ => 0)

def quiescent_ChipExchange [hChipExchange : Cert.ChipExchange.Facts] : Prop :=
  ∀ (m : (ℓ : Loc Cert.ChipExchange.nD Cert.ChipExchange.τ Cert.ChipExchange.sig) → Buf (Elt Bits) ℓ) (g : Dev Cert.ChipExchange.nD → PrngReg), Pre_ChipExchange m →
    θ_run (Cert.ChipExchange.defs (F := Bits)) (onTc (τ := Cert.ChipExchange.τ) (Cert.ChipExchange.main (F := Bits))) ⟨m, fun _ => 0, g⟩ (fun r => (∀ c : Dev Cert.ChipExchange.nD,
      r.2.mem ((c.tc : Thread Cert.ChipExchange.nD Cert.ChipExchange.τ).loc Cert.ChipExchange.main_arg0) = m ((c.tc : Thread Cert.ChipExchange.nD Cert.ChipExchange.τ).loc Cert.ChipExchange.main_arg0)
      ∧ r.2.mem ((c.tc : Thread Cert.ChipExchange.nD Cert.ChipExchange.τ).loc Cert.ChipExchange.main_arg1) = m ((c.tc : Thread Cert.ChipExchange.nD Cert.ChipExchange.τ).loc Cert.ChipExchange.main_arg1))
      ∧ r.2.sem = fun _ => 0)

def quiescent_ChipExchangeIdeal [hChipExchangeIdeal : Cert.ChipExchangeIdeal.Facts] : Prop :=
  ∀ (m : (ℓ : Loc Cert.ChipExchangeIdeal.nD Cert.ChipExchangeIdeal.τ Cert.ChipExchangeIdeal.sig) → Buf (Elt Ideal) ℓ) (g : Dev Cert.ChipExchangeIdeal.nD → PrngReg), Pre_ChipExchangeIdeal m →
    θ_run (Cert.ChipExchangeIdeal.defs (F := Ideal)) (onTc (τ := Cert.ChipExchangeIdeal.τ) (Cert.ChipExchangeIdeal.main (F := Ideal))) ⟨m, fun _ => 0, g⟩ (fun r => (∀ c : Dev Cert.ChipExchangeIdeal.nD,
      r.2.mem ((c.tc : Thread Cert.ChipExchangeIdeal.nD Cert.ChipExchangeIdeal.τ).loc Cert.ChipExchangeIdeal.main_arg0) = m ((c.tc : Thread Cert.ChipExchangeIdeal.nD Cert.ChipExchangeIdeal.τ).loc Cert.ChipExchangeIdeal.main_arg0)
      ∧ r.2.mem ((c.tc : Thread Cert.ChipExchangeIdeal.nD Cert.ChipExchangeIdeal.τ).loc Cert.ChipExchangeIdeal.main_arg1) = m ((c.tc : Thread Cert.ChipExchangeIdeal.nD Cert.ChipExchangeIdeal.τ).loc Cert.ChipExchangeIdeal.main_arg1))
      ∧ r.2.sem = fun _ => 0)

def quiescent_ChipExchangeRefIdeal [hChipExchangeRefIdeal : Cert.ChipExchangeRefIdeal.Facts] : Prop :=
  ∀ (m : (ℓ : Loc Cert.ChipExchangeRefIdeal.nD Cert.ChipExchangeRefIdeal.τ Cert.ChipExchangeRefIdeal.sig) → Buf (Elt Ideal) ℓ) (g : Dev Cert.ChipExchangeRefIdeal.nD → PrngReg), Pre_ChipExchangeRefIdeal m →
    θ_run (Cert.ChipExchangeRefIdeal.defs (F := Ideal)) (onTc (τ := Cert.ChipExchangeRefIdeal.τ) (Cert.ChipExchangeRefIdeal.main (F := Ideal))) ⟨m, fun _ => 0, g⟩ (fun r => (∀ c : Dev Cert.ChipExchangeRefIdeal.nD,
      r.2.mem ((c.tc : Thread Cert.ChipExchangeRefIdeal.nD Cert.ChipExchangeRefIdeal.τ).loc Cert.ChipExchangeRefIdeal.main_arg0) = m ((c.tc : Thread Cert.ChipExchangeRefIdeal.nD Cert.ChipExchangeRefIdeal.τ).loc Cert.ChipExchangeRefIdeal.main_arg0)
      ∧ r.2.mem ((c.tc : Thread Cert.ChipExchangeRefIdeal.nD Cert.ChipExchangeRefIdeal.τ).loc Cert.ChipExchangeRefIdeal.main_arg1) = m ((c.tc : Thread Cert.ChipExchangeRefIdeal.nD Cert.ChipExchangeRefIdeal.τ).loc Cert.ChipExchangeRefIdeal.main_arg1))
      ∧ r.2.sem = fun _ => 0)

def quiescent_ChipExchangeRef [hChipExchangeRef : Cert.ChipExchangeRef.Facts] : Prop :=
  ∀ (m : (ℓ : Loc Cert.ChipExchangeRef.nD Cert.ChipExchangeRef.τ Cert.ChipExchangeRef.sig) → Buf (Elt Bits) ℓ) (g : Dev Cert.ChipExchangeRef.nD → PrngReg), Pre_ChipExchangeRef m →
    θ_run (Cert.ChipExchangeRef.defs (F := Bits)) (onTc (τ := Cert.ChipExchangeRef.τ) (Cert.ChipExchangeRef.main (F := Bits))) ⟨m, fun _ => 0, g⟩ (fun r => (∀ c : Dev Cert.ChipExchangeRef.nD,
      r.2.mem ((c.tc : Thread Cert.ChipExchangeRef.nD Cert.ChipExchangeRef.τ).loc Cert.ChipExchangeRef.main_arg0) = m ((c.tc : Thread Cert.ChipExchangeRef.nD Cert.ChipExchangeRef.τ).loc Cert.ChipExchangeRef.main_arg0)
      ∧ r.2.mem ((c.tc : Thread Cert.ChipExchangeRef.nD Cert.ChipExchangeRef.τ).loc Cert.ChipExchangeRef.main_arg1) = m ((c.tc : Thread Cert.ChipExchangeRef.nD Cert.ChipExchangeRef.τ).loc Cert.ChipExchangeRef.main_arg1))
      ∧ r.2.sem = fun _ => 0)

def quiescent_PairExchange [hPairExchange : Cert.PairExchange.Facts] : Prop :=
  ∀ (m : (ℓ : Loc Cert.PairExchange.nD Cert.PairExchange.τ Cert.PairExchange.sig) → Buf (Elt Bits) ℓ) (g : Dev Cert.PairExchange.nD → PrngReg), Pre_PairExchange m →
    θ_run (Cert.PairExchange.defs (F := Bits)) (onTc (τ := Cert.PairExchange.τ) (Cert.PairExchange.main (F := Bits))) ⟨m, fun _ => 0, g⟩ (fun r => (∀ c : Dev Cert.PairExchange.nD,
      r.2.mem ((c.tc : Thread Cert.PairExchange.nD Cert.PairExchange.τ).loc Cert.PairExchange.main_arg0) = m ((c.tc : Thread Cert.PairExchange.nD Cert.PairExchange.τ).loc Cert.PairExchange.main_arg0)
      ∧ r.2.mem ((c.tc : Thread Cert.PairExchange.nD Cert.PairExchange.τ).loc Cert.PairExchange.main_arg1) = m ((c.tc : Thread Cert.PairExchange.nD Cert.PairExchange.τ).loc Cert.PairExchange.main_arg1)
      ∧ r.2.mem ((c.tc : Thread Cert.PairExchange.nD Cert.PairExchange.τ).loc Cert.PairExchange.main_arg2) = m ((c.tc : Thread Cert.PairExchange.nD Cert.PairExchange.τ).loc Cert.PairExchange.main_arg2))
      ∧ r.2.sem = fun _ => 0)

def quiescent_PairExchangeIdeal [hPairExchangeIdeal : Cert.PairExchangeIdeal.Facts] : Prop :=
  ∀ (m : (ℓ : Loc Cert.PairExchangeIdeal.nD Cert.PairExchangeIdeal.τ Cert.PairExchangeIdeal.sig) → Buf (Elt Ideal) ℓ) (g : Dev Cert.PairExchangeIdeal.nD → PrngReg), Pre_PairExchangeIdeal m →
    θ_run (Cert.PairExchangeIdeal.defs (F := Ideal)) (onTc (τ := Cert.PairExchangeIdeal.τ) (Cert.PairExchangeIdeal.main (F := Ideal))) ⟨m, fun _ => 0, g⟩ (fun r => (∀ c : Dev Cert.PairExchangeIdeal.nD,
      r.2.mem ((c.tc : Thread Cert.PairExchangeIdeal.nD Cert.PairExchangeIdeal.τ).loc Cert.PairExchangeIdeal.main_arg0) = m ((c.tc : Thread Cert.PairExchangeIdeal.nD Cert.PairExchangeIdeal.τ).loc Cert.PairExchangeIdeal.main_arg0)
      ∧ r.2.mem ((c.tc : Thread Cert.PairExchangeIdeal.nD Cert.PairExchangeIdeal.τ).loc Cert.PairExchangeIdeal.main_arg1) = m ((c.tc : Thread Cert.PairExchangeIdeal.nD Cert.PairExchangeIdeal.τ).loc Cert.PairExchangeIdeal.main_arg1)
      ∧ r.2.mem ((c.tc : Thread Cert.PairExchangeIdeal.nD Cert.PairExchangeIdeal.τ).loc Cert.PairExchangeIdeal.main_arg2) = m ((c.tc : Thread Cert.PairExchangeIdeal.nD Cert.PairExchangeIdeal.τ).loc Cert.PairExchangeIdeal.main_arg2))
      ∧ r.2.sem = fun _ => 0)

def quiescent_PairExchangeRefIdeal [hPairExchangeRefIdeal : Cert.PairExchangeRefIdeal.Facts] : Prop :=
  ∀ (m : (ℓ : Loc Cert.PairExchangeRefIdeal.nD Cert.PairExchangeRefIdeal.τ Cert.PairExchangeRefIdeal.sig) → Buf (Elt Ideal) ℓ) (g : Dev Cert.PairExchangeRefIdeal.nD → PrngReg), Pre_PairExchangeRefIdeal m →
    θ_run (Cert.PairExchangeRefIdeal.defs (F := Ideal)) (onTc (τ := Cert.PairExchangeRefIdeal.τ) (Cert.PairExchangeRefIdeal.main (F := Ideal))) ⟨m, fun _ => 0, g⟩ (fun r => (∀ c : Dev Cert.PairExchangeRefIdeal.nD,
      r.2.mem ((c.tc : Thread Cert.PairExchangeRefIdeal.nD Cert.PairExchangeRefIdeal.τ).loc Cert.PairExchangeRefIdeal.main_arg0) = m ((c.tc : Thread Cert.PairExchangeRefIdeal.nD Cert.PairExchangeRefIdeal.τ).loc Cert.PairExchangeRefIdeal.main_arg0)
      ∧ r.2.mem ((c.tc : Thread Cert.PairExchangeRefIdeal.nD Cert.PairExchangeRefIdeal.τ).loc Cert.PairExchangeRefIdeal.main_arg1) = m ((c.tc : Thread Cert.PairExchangeRefIdeal.nD Cert.PairExchangeRefIdeal.τ).loc Cert.PairExchangeRefIdeal.main_arg1)
      ∧ r.2.mem ((c.tc : Thread Cert.PairExchangeRefIdeal.nD Cert.PairExchangeRefIdeal.τ).loc Cert.PairExchangeRefIdeal.main_arg2) = m ((c.tc : Thread Cert.PairExchangeRefIdeal.nD Cert.PairExchangeRefIdeal.τ).loc Cert.PairExchangeRefIdeal.main_arg2))
      ∧ r.2.sem = fun _ => 0)

def quiescent_PairExchangeRef [hPairExchangeRef : Cert.PairExchangeRef.Facts] : Prop :=
  ∀ (m : (ℓ : Loc Cert.PairExchangeRef.nD Cert.PairExchangeRef.τ Cert.PairExchangeRef.sig) → Buf (Elt Bits) ℓ) (g : Dev Cert.PairExchangeRef.nD → PrngReg), Pre_PairExchangeRef m →
    θ_run (Cert.PairExchangeRef.defs (F := Bits)) (onTc (τ := Cert.PairExchangeRef.τ) (Cert.PairExchangeRef.main (F := Bits))) ⟨m, fun _ => 0, g⟩ (fun r => (∀ c : Dev Cert.PairExchangeRef.nD,
      r.2.mem ((c.tc : Thread Cert.PairExchangeRef.nD Cert.PairExchangeRef.τ).loc Cert.PairExchangeRef.main_arg0) = m ((c.tc : Thread Cert.PairExchangeRef.nD Cert.PairExchangeRef.τ).loc Cert.PairExchangeRef.main_arg0)
      ∧ r.2.mem ((c.tc : Thread Cert.PairExchangeRef.nD Cert.PairExchangeRef.τ).loc Cert.PairExchangeRef.main_arg1) = m ((c.tc : Thread Cert.PairExchangeRef.nD Cert.PairExchangeRef.τ).loc Cert.PairExchangeRef.main_arg1)
      ∧ r.2.mem ((c.tc : Thread Cert.PairExchangeRef.nD Cert.PairExchangeRef.τ).loc Cert.PairExchangeRef.main_arg2) = m ((c.tc : Thread Cert.PairExchangeRef.nD Cert.PairExchangeRef.τ).loc Cert.PairExchangeRef.main_arg2))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0)
      ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
      ∧ r.2.mem ((c.tc : Thread Cert.GatherWeights.nD Cert.GatherWeights.τ).loc Cert.GatherWeights.main_arg2) = m ((c.tc : Thread Cert.GatherWeights.nD Cert.GatherWeights.τ).loc Cert.GatherWeights.main_arg2))
      ∧ r.2.sem = fun _ => 0)

def quiescent_GatherWeightsIdeal [hGatherWeightsIdeal : Cert.GatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg), Pre_GatherWeightsIdeal m →
    θ_run (Cert.GatherWeightsIdeal.defs (F := Ideal)) (onTc (τ := Cert.GatherWeightsIdeal.τ) (Cert.GatherWeightsIdeal.main (F := Ideal))) ⟨m, fun _ => 0, g⟩ (fun r => (∀ c : Dev Cert.GatherWeightsIdeal.nD,
      r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
      ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
      ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2))
      ∧ r.2.sem = fun _ => 0)

def quiescent_GatherWeightsRefIdeal [hGatherWeightsRefIdeal : Cert.GatherWeightsRefIdeal.Facts] : Prop :=
  ∀ (m : (ℓ : Loc Cert.GatherWeightsRefIdeal.nD Cert.GatherWeightsRefIdeal.τ Cert.GatherWeightsRefIdeal.sig) → Buf (Elt Ideal) ℓ) (g : Dev Cert.GatherWeightsRefIdeal.nD → PrngReg), Pre_GatherWeightsRefIdeal m →
    θ_run (Cert.GatherWeightsRefIdeal.defs (F := Ideal)) (onTc (τ := Cert.GatherWeightsRefIdeal.τ) (Cert.GatherWeightsRefIdeal.main (F := Ideal))) ⟨m, fun _ => 0, g⟩ (fun r => (∀ c : Dev Cert.GatherWeightsRefIdeal.nD,
      r.2.mem ((c.tc : Thread Cert.GatherWeightsRefIdeal.nD Cert.GatherWeightsRefIdeal.τ).loc Cert.GatherWeightsRefIdeal.main_arg0) = m ((c.tc : Thread Cert.GatherWeightsRefIdeal.nD Cert.GatherWeightsRefIdeal.τ).loc Cert.GatherWeightsRefIdeal.main_arg0)
      ∧ r.2.mem ((c.tc : Thread Cert.GatherWeightsRefIdeal.nD Cert.GatherWeightsRefIdeal.τ).loc Cert.GatherWeightsRefIdeal.main_arg1) = m ((c.tc : Thread Cert.GatherWeightsRefIdeal.nD Cert.GatherWeightsRefIdeal.τ).loc Cert.GatherWeightsRefIdeal.main_arg1)
      ∧ r.2.mem ((c.tc : Thread Cert.GatherWeightsRefIdeal.nD Cert.GatherWeightsRefIdeal.τ).loc Cert.GatherWeightsRefIdeal.main_arg2) = m ((c.tc : Thread Cert.GatherWeightsRefIdeal.nD Cert.GatherWeightsRefIdeal.τ).loc Cert.GatherWeightsRefIdeal.main_arg2))
      ∧ r.2.sem = fun _ => 0)

def quiescent_GatherWeightsRef [hGatherWeightsRef : Cert.GatherWeightsRef.Facts] : Prop :=
  ∀ (m : (ℓ : Loc Cert.GatherWeightsRef.nD Cert.GatherWeightsRef.τ Cert.GatherWeightsRef.sig) → Buf (Elt Bits) ℓ) (g : Dev Cert.GatherWeightsRef.nD → PrngReg), Pre_GatherWeightsRef m →
    θ_run (Cert.GatherWeightsRef.defs (F := Bits)) (onTc (τ := Cert.GatherWeightsRef.τ) (Cert.GatherWeightsRef.main (F := Bits))) ⟨m, fun _ => 0, g⟩ (fun r => (∀ c : Dev Cert.GatherWeightsRef.nD,
      r.2.mem ((c.tc : Thread Cert.GatherWeightsRef.nD Cert.GatherWeightsRef.τ).loc Cert.GatherWeightsRef.main_arg0) = m ((c.tc : Thread Cert.GatherWeightsRef.nD Cert.GatherWeightsRef.τ).loc Cert.GatherWeightsRef.main_arg0)
      ∧ r.2.mem ((c.tc : Thread Cert.GatherWeightsRef.nD Cert.GatherWeightsRef.τ).loc Cert.GatherWeightsRef.main_arg1) = m ((c.tc : Thread Cert.GatherWeightsRef.nD Cert.GatherWeightsRef.τ).loc Cert.GatherWeightsRef.main_arg1)
      ∧ r.2.mem ((c.tc : Thread Cert.GatherWeightsRef.nD Cert.GatherWeightsRef.τ).loc Cert.GatherWeightsRef.main_arg2) = m ((c.tc : Thread Cert.GatherWeightsRef.nD Cert.GatherWeightsRef.τ).loc Cert.GatherWeightsRef.main_arg2))
      ∧ r.2.sem = fun _ => 0)

def quiescent_PairAddIn [hPairAddIn : Cert.PairAddIn.Facts] : Prop :=
  ∀ (m : (ℓ : Loc Cert.PairAddIn.nD Cert.PairAddIn.τ Cert.PairAddIn.sig) → Buf (Elt Bits) ℓ) (g : Dev Cert.PairAddIn.nD → PrngReg), Pre_PairAddIn m →
    θ_run (Cert.PairAddIn.defs (F := Bits)) (onTc (τ := Cert.PairAddIn.τ) (Cert.PairAddIn.main (F := Bits))) ⟨m, fun _ => 0, g⟩ (fun r => (∀ c : Dev Cert.PairAddIn.nD,
      r.2.mem ((c.tc : Thread Cert.PairAddIn.nD Cert.PairAddIn.τ).loc Cert.PairAddIn.main_arg0) = m ((c.tc : Thread Cert.PairAddIn.nD Cert.PairAddIn.τ).loc Cert.PairAddIn.main_arg0)
      ∧ r.2.mem ((c.tc : Thread Cert.PairAddIn.nD Cert.PairAddIn.τ).loc Cert.PairAddIn.main_arg1) = m ((c.tc : Thread Cert.PairAddIn.nD Cert.PairAddIn.τ).loc Cert.PairAddIn.main_arg1))
      ∧ r.2.sem = fun _ => 0)

def quiescent_PairAddInIdeal [hPairAddInIdeal : Cert.PairAddInIdeal.Facts] : Prop :=
  ∀ (m : (ℓ : Loc Cert.PairAddInIdeal.nD Cert.PairAddInIdeal.τ Cert.PairAddInIdeal.sig) → Buf (Elt Ideal) ℓ) (g : Dev Cert.PairAddInIdeal.nD → PrngReg), Pre_PairAddInIdeal m →
    θ_run (Cert.PairAddInIdeal.defs (F := Ideal)) (onTc (τ := Cert.PairAddInIdeal.τ) (Cert.PairAddInIdeal.main (F := Ideal))) ⟨m, fun _ => 0, g⟩ (fun r => (∀ c : Dev Cert.PairAddInIdeal.nD,
      r.2.mem ((c.tc : Thread Cert.PairAddInIdeal.nD Cert.PairAddInIdeal.τ).loc Cert.PairAddInIdeal.main_arg0) = m ((c.tc : Thread Cert.PairAddInIdeal.nD Cert.PairAddInIdeal.τ).loc Cert.PairAddInIdeal.main_arg0)
      ∧ r.2.mem ((c.tc : Thread Cert.PairAddInIdeal.nD Cert.PairAddInIdeal.τ).loc Cert.PairAddInIdeal.main_arg1) = m ((c.tc : Thread Cert.PairAddInIdeal.nD Cert.PairAddInIdeal.τ).loc Cert.PairAddInIdeal.main_arg1))
      ∧ r.2.sem = fun _ => 0)

def quiescent_PairAddInRefIdeal [hPairAddInRefIdeal : Cert.PairAddInRefIdeal.Facts] : Prop :=
  ∀ (m : (ℓ : Loc Cert.PairAddInRefIdeal.nD Cert.PairAddInRefIdeal.τ Cert.PairAddInRefIdeal.sig) → Buf (Elt Ideal) ℓ) (g : Dev Cert.PairAddInRefIdeal.nD → PrngReg), Pre_PairAddInRefIdeal m →
    θ_run (Cert.PairAddInRefIdeal.defs (F := Ideal)) (onTc (τ := Cert.PairAddInRefIdeal.τ) (Cert.PairAddInRefIdeal.main (F := Ideal))) ⟨m, fun _ => 0, g⟩ (fun r => (∀ c : Dev Cert.PairAddInRefIdeal.nD,
      r.2.mem ((c.tc : Thread Cert.PairAddInRefIdeal.nD Cert.PairAddInRefIdeal.τ).loc Cert.PairAddInRefIdeal.main_arg0) = m ((c.tc : Thread Cert.PairAddInRefIdeal.nD Cert.PairAddInRefIdeal.τ).loc Cert.PairAddInRefIdeal.main_arg0)
      ∧ r.2.mem ((c.tc : Thread Cert.PairAddInRefIdeal.nD Cert.PairAddInRefIdeal.τ).loc Cert.PairAddInRefIdeal.main_arg1) = m ((c.tc : Thread Cert.PairAddInRefIdeal.nD Cert.PairAddInRefIdeal.τ).loc Cert.PairAddInRefIdeal.main_arg1))
      ∧ r.2.sem = fun _ => 0)

def quiescent_PairAddInRef [hPairAddInRef : Cert.PairAddInRef.Facts] : Prop :=
  ∀ (m : (ℓ : Loc Cert.PairAddInRef.nD Cert.PairAddInRef.τ Cert.PairAddInRef.sig) → Buf (Elt Bits) ℓ) (g : Dev Cert.PairAddInRef.nD → PrngReg), Pre_PairAddInRef m →
    θ_run (Cert.PairAddInRef.defs (F := Bits)) (onTc (τ := Cert.PairAddInRef.τ) (Cert.PairAddInRef.main (F := Bits))) ⟨m, fun _ => 0, g⟩ (fun r => (∀ c : Dev Cert.PairAddInRef.nD,
      r.2.mem ((c.tc : Thread Cert.PairAddInRef.nD Cert.PairAddInRef.τ).loc Cert.PairAddInRef.main_arg0) = m ((c.tc : Thread Cert.PairAddInRef.nD Cert.PairAddInRef.τ).loc Cert.PairAddInRef.main_arg0)
      ∧ r.2.mem ((c.tc : Thread Cert.PairAddInRef.nD Cert.PairAddInRef.τ).loc Cert.PairAddInRef.main_arg1) = m ((c.tc : Thread Cert.PairAddInRef.nD Cert.PairAddInRef.τ).loc Cert.PairAddInRef.main_arg1))
      ∧ r.2.sem = fun _ => 0)

def quiescent_PairAddOut [hPairAddOut : Cert.PairAddOut.Facts] : Prop :=
  ∀ (m : (ℓ : Loc Cert.PairAddOut.nD Cert.PairAddOut.τ Cert.PairAddOut.sig) → Buf (Elt Bits) ℓ) (g : Dev Cert.PairAddOut.nD → PrngReg), Pre_PairAddOut m →
    θ_run (Cert.PairAddOut.defs (F := Bits)) (onTc (τ := Cert.PairAddOut.τ) (Cert.PairAddOut.main (F := Bits))) ⟨m, fun _ => 0, g⟩ (fun r => (∀ c : Dev Cert.PairAddOut.nD,
      r.2.mem ((c.tc : Thread Cert.PairAddOut.nD Cert.PairAddOut.τ).loc Cert.PairAddOut.main_arg0) = m ((c.tc : Thread Cert.PairAddOut.nD Cert.PairAddOut.τ).loc Cert.PairAddOut.main_arg0)
      ∧ r.2.mem ((c.tc : Thread Cert.PairAddOut.nD Cert.PairAddOut.τ).loc Cert.PairAddOut.main_arg1) = m ((c.tc : Thread Cert.PairAddOut.nD Cert.PairAddOut.τ).loc Cert.PairAddOut.main_arg1))
      ∧ r.2.sem = fun _ => 0)

def quiescent_PairAddOutIdeal [hPairAddOutIdeal : Cert.PairAddOutIdeal.Facts] : Prop :=
  ∀ (m : (ℓ : Loc Cert.PairAddOutIdeal.nD Cert.PairAddOutIdeal.τ Cert.PairAddOutIdeal.sig) → Buf (Elt Ideal) ℓ) (g : Dev Cert.PairAddOutIdeal.nD → PrngReg), Pre_PairAddOutIdeal m →
    θ_run (Cert.PairAddOutIdeal.defs (F := Ideal)) (onTc (τ := Cert.PairAddOutIdeal.τ) (Cert.PairAddOutIdeal.main (F := Ideal))) ⟨m, fun _ => 0, g⟩ (fun r => (∀ c : Dev Cert.PairAddOutIdeal.nD,
      r.2.mem ((c.tc : Thread Cert.PairAddOutIdeal.nD Cert.PairAddOutIdeal.τ).loc Cert.PairAddOutIdeal.main_arg0) = m ((c.tc : Thread Cert.PairAddOutIdeal.nD Cert.PairAddOutIdeal.τ).loc Cert.PairAddOutIdeal.main_arg0)
      ∧ r.2.mem ((c.tc : Thread Cert.PairAddOutIdeal.nD Cert.PairAddOutIdeal.τ).loc Cert.PairAddOutIdeal.main_arg1) = m ((c.tc : Thread Cert.PairAddOutIdeal.nD Cert.PairAddOutIdeal.τ).loc Cert.PairAddOutIdeal.main_arg1))
      ∧ r.2.sem = fun _ => 0)

def quiescent_PairAddOutRefIdeal [hPairAddOutRefIdeal : Cert.PairAddOutRefIdeal.Facts] : Prop :=
  ∀ (m : (ℓ : Loc Cert.PairAddOutRefIdeal.nD Cert.PairAddOutRefIdeal.τ Cert.PairAddOutRefIdeal.sig) → Buf (Elt Ideal) ℓ) (g : Dev Cert.PairAddOutRefIdeal.nD → PrngReg), Pre_PairAddOutRefIdeal m →
    θ_run (Cert.PairAddOutRefIdeal.defs (F := Ideal)) (onTc (τ := Cert.PairAddOutRefIdeal.τ) (Cert.PairAddOutRefIdeal.main (F := Ideal))) ⟨m, fun _ => 0, g⟩ (fun r => (∀ c : Dev Cert.PairAddOutRefIdeal.nD,
      r.2.mem ((c.tc : Thread Cert.PairAddOutRefIdeal.nD Cert.PairAddOutRefIdeal.τ).loc Cert.PairAddOutRefIdeal.main_arg0) = m ((c.tc : Thread Cert.PairAddOutRefIdeal.nD Cert.PairAddOutRefIdeal.τ).loc Cert.PairAddOutRefIdeal.main_arg0)
      ∧ r.2.mem ((c.tc : Thread Cert.PairAddOutRefIdeal.nD Cert.PairAddOutRefIdeal.τ).loc Cert.PairAddOutRefIdeal.main_arg1) = m ((c.tc : Thread Cert.PairAddOutRefIdeal.nD Cert.PairAddOutRefIdeal.τ).loc Cert.PairAddOutRefIdeal.main_arg1))
      ∧ r.2.sem = fun _ => 0)

def quiescent_PairAddOutRef [hPairAddOutRef : Cert.PairAddOutRef.Facts] : Prop :=
  ∀ (m : (ℓ : Loc Cert.PairAddOutRef.nD Cert.PairAddOutRef.τ Cert.PairAddOutRef.sig) → Buf (Elt Bits) ℓ) (g : Dev Cert.PairAddOutRef.nD → PrngReg), Pre_PairAddOutRef m →
    θ_run (Cert.PairAddOutRef.defs (F := Bits)) (onTc (τ := Cert.PairAddOutRef.τ) (Cert.PairAddOutRef.main (F := Bits))) ⟨m, fun _ => 0, g⟩ (fun r => (∀ c : Dev Cert.PairAddOutRef.nD,
      r.2.mem ((c.tc : Thread Cert.PairAddOutRef.nD Cert.PairAddOutRef.τ).loc Cert.PairAddOutRef.main_arg0) = m ((c.tc : Thread Cert.PairAddOutRef.nD Cert.PairAddOutRef.τ).loc Cert.PairAddOutRef.main_arg0)
      ∧ r.2.mem ((c.tc : Thread Cert.PairAddOutRef.nD Cert.PairAddOutRef.τ).loc Cert.PairAddOutRef.main_arg1) = m ((c.tc : Thread Cert.PairAddOutRef.nD Cert.PairAddOutRef.τ).loc Cert.PairAddOutRef.main_arg1))
      ∧ r.2.sem = fun _ => 0)

def quiescent_ChipAddIn [hChipAddIn : Cert.ChipAddIn.Facts] : Prop :=
  ∀ (m : (ℓ : Loc Cert.ChipAddIn.nD Cert.ChipAddIn.τ Cert.ChipAddIn.sig) → Buf (Elt Bits) ℓ) (g : Dev Cert.ChipAddIn.nD → PrngReg), Pre_ChipAddIn m →
    θ_run (Cert.ChipAddIn.defs (F := Bits)) (onTc (τ := Cert.ChipAddIn.τ) (Cert.ChipAddIn.main (F := Bits))) ⟨m, fun _ => 0, g⟩ (fun r => (∀ c : Dev Cert.ChipAddIn.nD,
      r.2.mem ((c.tc : Thread Cert.ChipAddIn.nD Cert.ChipAddIn.τ).loc Cert.ChipAddIn.main_arg0) = m ((c.tc : Thread Cert.ChipAddIn.nD Cert.ChipAddIn.τ).loc Cert.ChipAddIn.main_arg0))
      ∧ r.2.sem = fun _ => 0)

def quiescent_ChipAddInIdeal [hChipAddInIdeal : Cert.ChipAddInIdeal.Facts] : Prop :=
  ∀ (m : (ℓ : Loc Cert.ChipAddInIdeal.nD Cert.ChipAddInIdeal.τ Cert.ChipAddInIdeal.sig) → Buf (Elt Ideal) ℓ) (g : Dev Cert.ChipAddInIdeal.nD → PrngReg), Pre_ChipAddInIdeal m →
    θ_run (Cert.ChipAddInIdeal.defs (F := Ideal)) (onTc (τ := Cert.ChipAddInIdeal.τ) (Cert.ChipAddInIdeal.main (F := Ideal))) ⟨m, fun _ => 0, g⟩ (fun r => (∀ c : Dev Cert.ChipAddInIdeal.nD,
      r.2.mem ((c.tc : Thread Cert.ChipAddInIdeal.nD Cert.ChipAddInIdeal.τ).loc Cert.ChipAddInIdeal.main_arg0) = m ((c.tc : Thread Cert.ChipAddInIdeal.nD Cert.ChipAddInIdeal.τ).loc Cert.ChipAddInIdeal.main_arg0))
      ∧ r.2.sem = fun _ => 0)

def quiescent_ChipAddInRefIdeal [hChipAddInRefIdeal : Cert.ChipAddInRefIdeal.Facts] : Prop :=
  ∀ (m : (ℓ : Loc Cert.ChipAddInRefIdeal.nD Cert.ChipAddInRefIdeal.τ Cert.ChipAddInRefIdeal.sig) → Buf (Elt Ideal) ℓ) (g : Dev Cert.ChipAddInRefIdeal.nD → PrngReg), Pre_ChipAddInRefIdeal m →
    θ_run (Cert.ChipAddInRefIdeal.defs (F := Ideal)) (onTc (τ := Cert.ChipAddInRefIdeal.τ) (Cert.ChipAddInRefIdeal.main (F := Ideal))) ⟨m, fun _ => 0, g⟩ (fun r => (∀ c : Dev Cert.ChipAddInRefIdeal.nD,
      r.2.mem ((c.tc : Thread Cert.ChipAddInRefIdeal.nD Cert.ChipAddInRefIdeal.τ).loc Cert.ChipAddInRefIdeal.main_arg0) = m ((c.tc : Thread Cert.ChipAddInRefIdeal.nD Cert.ChipAddInRefIdeal.τ).loc Cert.ChipAddInRefIdeal.main_arg0))
      ∧ r.2.sem = fun _ => 0)

def quiescent_ChipAddOut [hChipAddOut : Cert.ChipAddOut.Facts] : Prop :=
  ∀ (m : (ℓ : Loc Cert.ChipAddOut.nD Cert.ChipAddOut.τ Cert.ChipAddOut.sig) → Buf (Elt Bits) ℓ) (g : Dev Cert.ChipAddOut.nD → PrngReg), Pre_ChipAddOut m →
    θ_run (Cert.ChipAddOut.defs (F := Bits)) (onTc (τ := Cert.ChipAddOut.τ) (Cert.ChipAddOut.main (F := Bits))) ⟨m, fun _ => 0, g⟩ (fun r => (∀ c : Dev Cert.ChipAddOut.nD,
      r.2.mem ((c.tc : Thread Cert.ChipAddOut.nD Cert.ChipAddOut.τ).loc Cert.ChipAddOut.main_arg0) = m ((c.tc : Thread Cert.ChipAddOut.nD Cert.ChipAddOut.τ).loc Cert.ChipAddOut.main_arg0))
      ∧ r.2.sem = fun _ => 0)

def quiescent_ChipAddOutIdeal [hChipAddOutIdeal : Cert.ChipAddOutIdeal.Facts] : Prop :=
  ∀ (m : (ℓ : Loc Cert.ChipAddOutIdeal.nD Cert.ChipAddOutIdeal.τ Cert.ChipAddOutIdeal.sig) → Buf (Elt Ideal) ℓ) (g : Dev Cert.ChipAddOutIdeal.nD → PrngReg), Pre_ChipAddOutIdeal m →
    θ_run (Cert.ChipAddOutIdeal.defs (F := Ideal)) (onTc (τ := Cert.ChipAddOutIdeal.τ) (Cert.ChipAddOutIdeal.main (F := Ideal))) ⟨m, fun _ => 0, g⟩ (fun r => (∀ c : Dev Cert.ChipAddOutIdeal.nD,
      r.2.mem ((c.tc : Thread Cert.ChipAddOutIdeal.nD Cert.ChipAddOutIdeal.τ).loc Cert.ChipAddOutIdeal.main_arg0) = m ((c.tc : Thread Cert.ChipAddOutIdeal.nD Cert.ChipAddOutIdeal.τ).loc Cert.ChipAddOutIdeal.main_arg0))
      ∧ r.2.sem = fun _ => 0)

def quiescent_ChipAddOutRefIdeal [hChipAddOutRefIdeal : Cert.ChipAddOutRefIdeal.Facts] : Prop :=
  ∀ (m : (ℓ : Loc Cert.ChipAddOutRefIdeal.nD Cert.ChipAddOutRefIdeal.τ Cert.ChipAddOutRefIdeal.sig) → Buf (Elt Ideal) ℓ) (g : Dev Cert.ChipAddOutRefIdeal.nD → PrngReg), Pre_ChipAddOutRefIdeal m →
    θ_run (Cert.ChipAddOutRefIdeal.defs (F := Ideal)) (onTc (τ := Cert.ChipAddOutRefIdeal.τ) (Cert.ChipAddOutRefIdeal.main (F := Ideal))) ⟨m, fun _ => 0, g⟩ (fun r => (∀ c : Dev Cert.ChipAddOutRefIdeal.nD,
      r.2.mem ((c.tc : Thread Cert.ChipAddOutRefIdeal.nD Cert.ChipAddOutRefIdeal.τ).loc Cert.ChipAddOutRefIdeal.main_arg0) = m ((c.tc : Thread Cert.ChipAddOutRefIdeal.nD Cert.ChipAddOutRefIdeal.τ).loc Cert.ChipAddOutRefIdeal.main_arg0))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4)
      ∧ r.2.mem ((c.tc : Thread Cert.GradX.nD Cert.GradX.τ).loc Cert.GradX.main_arg5) = m ((c.tc : Thread Cert.GradX.nD Cert.GradX.τ).loc Cert.GradX.main_arg5)
      ∧ r.2.mem ((c.tc : Thread Cert.GradX.nD Cert.GradX.τ).loc Cert.GradX.main_arg6) = m ((c.tc : Thread Cert.GradX.nD Cert.GradX.τ).loc Cert.GradX.main_arg6)
      ∧ r.2.mem ((c.tc : Thread Cert.GradX.nD Cert.GradX.τ).loc Cert.GradX.main_arg7) = m ((c.tc : Thread Cert.GradX.nD Cert.GradX.τ).loc Cert.GradX.main_arg7))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
      ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
      ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
      ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2)
      ∧ r.2.mem ((c.tc : Thread Cert.GradXRefIdeal.nD Cert.GradXRefIdeal.τ).loc Cert.GradXRefIdeal.main_arg3) = m ((c.tc : Thread Cert.GradXRefIdeal.nD Cert.GradXRefIdeal.τ).loc Cert.GradXRefIdeal.main_arg3)
      ∧ r.2.mem ((c.tc : Thread Cert.GradXRefIdeal.nD Cert.GradXRefIdeal.τ).loc Cert.GradXRefIdeal.main_arg4) = m ((c.tc : Thread Cert.GradXRefIdeal.nD Cert.GradXRefIdeal.τ).loc Cert.GradXRefIdeal.main_arg4)
      ∧ r.2.mem ((c.tc : Thread Cert.GradXRefIdeal.nD Cert.GradXRefIdeal.τ).loc Cert.GradXRefIdeal.main_arg5) = m ((c.tc : Thread Cert.GradXRefIdeal.nD Cert.GradXRefIdeal.τ).loc Cert.GradXRefIdeal.main_arg5)
      ∧ r.2.mem ((c.tc : Thread Cert.GradXRefIdeal.nD Cert.GradXRefIdeal.τ).loc Cert.GradXRefIdeal.main_arg6) = m ((c.tc : Thread Cert.GradXRefIdeal.nD Cert.GradXRefIdeal.τ).loc Cert.GradXRefIdeal.main_arg6)
      ∧ r.2.mem ((c.tc : Thread Cert.GradXRefIdeal.nD Cert.GradXRefIdeal.τ).loc Cert.GradXRefIdeal.main_arg7) = m ((c.tc : Thread Cert.GradXRefIdeal.nD Cert.GradXRefIdeal.τ).loc Cert.GradXRefIdeal.main_arg7))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_GradWOutRefIdeal [hGradWOutRefIdeal : Cert.GradWOutRefIdeal.Facts] : Prop :=
  ∀ (m : (ℓ : Loc Cert.GradWOutRefIdeal.nD Cert.GradWOutRefIdeal.τ Cert.GradWOutRefIdeal.sig) → Buf (Elt Ideal) ℓ) (g : Dev Cert.GradWOutRefIdeal.nD → PrngReg), Pre_GradWOutRefIdeal m →
    θ_run (Cert.GradWOutRefIdeal.defs (F := Ideal)) (onTc (τ := Cert.GradWOutRefIdeal.τ) (Cert.GradWOutRefIdeal.main (F := Ideal))) ⟨m, fun _ => 0, g⟩ (fun r => (∀ c : Dev Cert.GradWOutRefIdeal.nD,
      r.2.mem ((c.tc : Thread Cert.GradWOutRefIdeal.nD Cert.GradWOutRefIdeal.τ).loc Cert.GradWOutRefIdeal.main_arg0) = m ((c.tc : Thread Cert.GradWOutRefIdeal.nD Cert.GradWOutRefIdeal.τ).loc Cert.GradWOutRefIdeal.main_arg0)
      ∧ r.2.mem ((c.tc : Thread Cert.GradWOutRefIdeal.nD Cert.GradWOutRefIdeal.τ).loc Cert.GradWOutRefIdeal.main_arg1) = m ((c.tc : Thread Cert.GradWOutRefIdeal.nD Cert.GradWOutRefIdeal.τ).loc Cert.GradWOutRefIdeal.main_arg1))
      ∧ r.2.sem = fun _ => 0)

def quiescent_GradWZ [hGradWZ : Cert.GradWZ.Facts] : Prop :=
  ∀ (m : (ℓ : Loc Cert.GradWZ.nD Cert.GradWZ.τ Cert.GradWZ.sig) → Buf (Elt Bits) ℓ) (g : Dev Cert.GradWZ.nD → PrngReg), Pre_GradWZ m →
    θ_run (Cert.GradWZ.defs (F := Bits)) (onTc (τ := Cert.GradWZ.τ) (Cert.GradWZ.main (F := Bits))) ⟨m, fun _ => 0, g⟩ (fun r => (∀ c : Dev Cert.GradWZ.nD,
      r.2.mem ((c.tc : Thread Cert.GradWZ.nD Cert.GradWZ.τ).loc Cert.GradWZ.main_arg0) = m ((c.tc : Thread Cert.GradWZ.nD Cert.GradWZ.τ).loc Cert.GradWZ.main_arg0)
      ∧ r.2.mem ((c.tc : Thread Cert.GradWZ.nD Cert.GradWZ.τ).loc Cert.GradWZ.main_arg1) = m ((c.tc : Thread Cert.GradWZ.nD Cert.GradWZ.τ).loc Cert.GradWZ.main_arg1))
      ∧ r.2.sem = fun _ => 0)

def quiescent_GradWZIdeal [hGradWZIdeal : Cert.GradWZIdeal.Facts] : Prop :=
  ∀ (m : (ℓ : Loc Cert.GradWZIdeal.nD Cert.GradWZIdeal.τ Cert.GradWZIdeal.sig) → Buf (Elt Ideal) ℓ) (g : Dev Cert.GradWZIdeal.nD → PrngReg), Pre_GradWZIdeal m →
    θ_run (Cert.GradWZIdeal.defs (F := Ideal)) (onTc (τ := Cert.GradWZIdeal.τ) (Cert.GradWZIdeal.main (F := Ideal))) ⟨m, fun _ => 0, g⟩ (fun r => (∀ c : Dev Cert.GradWZIdeal.nD,
      r.2.mem ((c.tc : Thread Cert.GradWZIdeal.nD Cert.GradWZIdeal.τ).loc Cert.GradWZIdeal.main_arg0) = m ((c.tc : Thread Cert.GradWZIdeal.nD Cert.GradWZIdeal.τ).loc Cert.GradWZIdeal.main_arg0)
      ∧ r.2.mem ((c.tc : Thread Cert.GradWZIdeal.nD Cert.GradWZIdeal.τ).loc Cert.GradWZIdeal.main_arg1) = m ((c.tc : Thread Cert.GradWZIdeal.nD Cert.GradWZIdeal.τ).loc Cert.GradWZIdeal.main_arg1))
      ∧ r.2.sem = fun _ => 0)

def quiescent_GradWZRefIdeal [hGradWZRefIdeal : Cert.GradWZRefIdeal.Facts] : Prop :=
  ∀ (m : (ℓ : Loc Cert.GradWZRefIdeal.nD Cert.GradWZRefIdeal.τ Cert.GradWZRefIdeal.sig) → Buf (Elt Ideal) ℓ) (g : Dev Cert.GradWZRefIdeal.nD → PrngReg), Pre_GradWZRefIdeal m →
    θ_run (Cert.GradWZRefIdeal.defs (F := Ideal)) (onTc (τ := Cert.GradWZRefIdeal.τ) (Cert.GradWZRefIdeal.main (F := Ideal))) ⟨m, fun _ => 0, g⟩ (fun r => (∀ c : Dev Cert.GradWZRefIdeal.nD,
      r.2.mem ((c.tc : Thread Cert.GradWZRefIdeal.nD Cert.GradWZRefIdeal.τ).loc Cert.GradWZRefIdeal.main_arg0) = m ((c.tc : Thread Cert.GradWZRefIdeal.nD Cert.GradWZRefIdeal.τ).loc Cert.GradWZRefIdeal.main_arg0)
      ∧ r.2.mem ((c.tc : Thread Cert.GradWZRefIdeal.nD Cert.GradWZRefIdeal.τ).loc Cert.GradWZRefIdeal.main_arg1) = m ((c.tc : Thread Cert.GradWZRefIdeal.nD Cert.GradWZRefIdeal.τ).loc Cert.GradWZRefIdeal.main_arg1))
      ∧ r.2.sem = fun _ => 0)

def quiescent_GradWXbc [hGradWXbc : Cert.GradWXbc.Facts] : Prop :=
  ∀ (m : (ℓ : Loc Cert.GradWXbc.nD Cert.GradWXbc.τ Cert.GradWXbc.sig) → Buf (Elt Bits) ℓ) (g : Dev Cert.GradWXbc.nD → PrngReg), Pre_GradWXbc m →
    θ_run (Cert.GradWXbc.defs (F := Bits)) (onTc (τ := Cert.GradWXbc.τ) (Cert.GradWXbc.main (F := Bits))) ⟨m, fun _ => 0, g⟩ (fun r => (∀ c : Dev Cert.GradWXbc.nD,
      r.2.mem ((c.tc : Thread Cert.GradWXbc.nD Cert.GradWXbc.τ).loc Cert.GradWXbc.main_arg0) = m ((c.tc : Thread Cert.GradWXbc.nD Cert.GradWXbc.τ).loc Cert.GradWXbc.main_arg0)
      ∧ r.2.mem ((c.tc : Thread Cert.GradWXbc.nD Cert.GradWXbc.τ).loc Cert.GradWXbc.main_arg1) = m ((c.tc : Thread Cert.GradWXbc.nD Cert.GradWXbc.τ).loc Cert.GradWXbc.main_arg1))
      ∧ r.2.sem = fun _ => 0)

def quiescent_GradWXbcIdeal [hGradWXbcIdeal : Cert.GradWXbcIdeal.Facts] : Prop :=
  ∀ (m : (ℓ : Loc Cert.GradWXbcIdeal.nD Cert.GradWXbcIdeal.τ Cert.GradWXbcIdeal.sig) → Buf (Elt Ideal) ℓ) (g : Dev Cert.GradWXbcIdeal.nD → PrngReg), Pre_GradWXbcIdeal m →
    θ_run (Cert.GradWXbcIdeal.defs (F := Ideal)) (onTc (τ := Cert.GradWXbcIdeal.τ) (Cert.GradWXbcIdeal.main (F := Ideal))) ⟨m, fun _ => 0, g⟩ (fun r => (∀ c : Dev Cert.GradWXbcIdeal.nD,
      r.2.mem ((c.tc : Thread Cert.GradWXbcIdeal.nD Cert.GradWXbcIdeal.τ).loc Cert.GradWXbcIdeal.main_arg0) = m ((c.tc : Thread Cert.GradWXbcIdeal.nD Cert.GradWXbcIdeal.τ).loc Cert.GradWXbcIdeal.main_arg0)
      ∧ r.2.mem ((c.tc : Thread Cert.GradWXbcIdeal.nD Cert.GradWXbcIdeal.τ).loc Cert.GradWXbcIdeal.main_arg1) = m ((c.tc : Thread Cert.GradWXbcIdeal.nD Cert.GradWXbcIdeal.τ).loc Cert.GradWXbcIdeal.main_arg1))
      ∧ r.2.sem = fun _ => 0)

def quiescent_GradWXbcRefIdeal [hGradWXbcRefIdeal : Cert.GradWXbcRefIdeal.Facts] : Prop :=
  ∀ (m : (ℓ : Loc Cert.GradWXbcRefIdeal.nD Cert.GradWXbcRefIdeal.τ Cert.GradWXbcRefIdeal.sig) → Buf (Elt Ideal) ℓ) (g : Dev Cert.GradWXbcRefIdeal.nD → PrngReg), Pre_GradWXbcRefIdeal m →
    θ_run (Cert.GradWXbcRefIdeal.defs (F := Ideal)) (onTc (τ := Cert.GradWXbcRefIdeal.τ) (Cert.GradWXbcRefIdeal.main (F := Ideal))) ⟨m, fun _ => 0, g⟩ (fun r => (∀ c : Dev Cert.GradWXbcRefIdeal.nD,
      r.2.mem ((c.tc : Thread Cert.GradWXbcRefIdeal.nD Cert.GradWXbcRefIdeal.τ).loc Cert.GradWXbcRefIdeal.main_arg0) = m ((c.tc : Thread Cert.GradWXbcRefIdeal.nD Cert.GradWXbcRefIdeal.τ).loc Cert.GradWXbcRefIdeal.main_arg0)
      ∧ r.2.mem ((c.tc : Thread Cert.GradWXbcRefIdeal.nD Cert.GradWXbcRefIdeal.τ).loc Cert.GradWXbcRefIdeal.main_arg1) = m ((c.tc : Thread Cert.GradWXbcRefIdeal.nD Cert.GradWXbcRefIdeal.τ).loc Cert.GradWXbcRefIdeal.main_arg1))
      ∧ r.2.sem = fun _ => 0)

def quiescent_GradWKv [hGradWKv : Cert.GradWKv.Facts] : Prop :=
  ∀ (m : (ℓ : Loc Cert.GradWKv.nD Cert.GradWKv.τ Cert.GradWKv.sig) → Buf (Elt Bits) ℓ) (g : Dev Cert.GradWKv.nD → PrngReg), Pre_GradWKv m →
    θ_run (Cert.GradWKv.defs (F := Bits)) (onTc (τ := Cert.GradWKv.τ) (Cert.GradWKv.main (F := Bits))) ⟨m, fun _ => 0, g⟩ (fun r => (∀ c : Dev Cert.GradWKv.nD,
      r.2.mem ((c.tc : Thread Cert.GradWKv.nD Cert.GradWKv.τ).loc Cert.GradWKv.main_arg0) = m ((c.tc : Thread Cert.GradWKv.nD Cert.GradWKv.τ).loc Cert.GradWKv.main_arg0)
      ∧ r.2.mem ((c.tc : Thread Cert.GradWKv.nD Cert.GradWKv.τ).loc Cert.GradWKv.main_arg1) = m ((c.tc : Thread Cert.GradWKv.nD Cert.GradWKv.τ).loc Cert.GradWKv.main_arg1))
      ∧ r.2.sem = fun _ => 0)

def quiescent_GradWKvIdeal [hGradWKvIdeal : Cert.GradWKvIdeal.Facts] : Prop :=
  ∀ (m : (ℓ : Loc Cert.GradWKvIdeal.nD Cert.GradWKvIdeal.τ Cert.GradWKvIdeal.sig) → Buf (Elt Ideal) ℓ) (g : Dev Cert.GradWKvIdeal.nD → PrngReg), Pre_GradWKvIdeal m →
    θ_run (Cert.GradWKvIdeal.defs (F := Ideal)) (onTc (τ := Cert.GradWKvIdeal.τ) (Cert.GradWKvIdeal.main (F := Ideal))) ⟨m, fun _ => 0, g⟩ (fun r => (∀ c : Dev Cert.GradWKvIdeal.nD,
      r.2.mem ((c.tc : Thread Cert.GradWKvIdeal.nD Cert.GradWKvIdeal.τ).loc Cert.GradWKvIdeal.main_arg0) = m ((c.tc : Thread Cert.GradWKvIdeal.nD Cert.GradWKvIdeal.τ).loc Cert.GradWKvIdeal.main_arg0)
      ∧ r.2.mem ((c.tc : Thread Cert.GradWKvIdeal.nD Cert.GradWKvIdeal.τ).loc Cert.GradWKvIdeal.main_arg1) = m ((c.tc : Thread Cert.GradWKvIdeal.nD Cert.GradWKvIdeal.τ).loc Cert.GradWKvIdeal.main_arg1))
      ∧ r.2.sem = fun _ => 0)

def quiescent_GradWKvRefIdeal [hGradWKvRefIdeal : Cert.GradWKvRefIdeal.Facts] : Prop :=
  ∀ (m : (ℓ : Loc Cert.GradWKvRefIdeal.nD Cert.GradWKvRefIdeal.τ Cert.GradWKvRefIdeal.sig) → Buf (Elt Ideal) ℓ) (g : Dev Cert.GradWKvRefIdeal.nD → PrngReg), Pre_GradWKvRefIdeal m →
    θ_run (Cert.GradWKvRefIdeal.defs (F := Ideal)) (onTc (τ := Cert.GradWKvRefIdeal.τ) (Cert.GradWKvRefIdeal.main (F := Ideal))) ⟨m, fun _ => 0, g⟩ (fun r => (∀ c : Dev Cert.GradWKvRefIdeal.nD,
      r.2.mem ((c.tc : Thread Cert.GradWKvRefIdeal.nD Cert.GradWKvRefIdeal.τ).loc Cert.GradWKvRefIdeal.main_arg0) = m ((c.tc : Thread Cert.GradWKvRefIdeal.nD Cert.GradWKvRefIdeal.τ).loc Cert.GradWKvRefIdeal.main_arg0)
      ∧ r.2.mem ((c.tc : Thread Cert.GradWKvRefIdeal.nD Cert.GradWKvRefIdeal.τ).loc Cert.GradWKvRefIdeal.main_arg1) = m ((c.tc : Thread Cert.GradWKvRefIdeal.nD Cert.GradWKvRefIdeal.τ).loc Cert.GradWKvRefIdeal.main_arg1))
      ∧ r.2.sem = fun _ => 0)

def quiescent_GradWDt [hGradWDt : Cert.GradWDt.Facts] : Prop :=
  ∀ (m : (ℓ : Loc Cert.GradWDt.nD Cert.GradWDt.τ Cert.GradWDt.sig) → Buf (Elt Bits) ℓ) (g : Dev Cert.GradWDt.nD → PrngReg), Pre_GradWDt m →
    θ_run (Cert.GradWDt.defs (F := Bits)) (onTc (τ := Cert.GradWDt.τ) (Cert.GradWDt.main (F := Bits))) ⟨m, fun _ => 0, g⟩ (fun r => (∀ c : Dev Cert.GradWDt.nD,
      r.2.mem ((c.tc : Thread Cert.GradWDt.nD Cert.GradWDt.τ).loc Cert.GradWDt.main_arg0) = m ((c.tc : Thread Cert.GradWDt.nD Cert.GradWDt.τ).loc Cert.GradWDt.main_arg0)
      ∧ r.2.mem ((c.tc : Thread Cert.GradWDt.nD Cert.GradWDt.τ).loc Cert.GradWDt.main_arg1) = m ((c.tc : Thread Cert.GradWDt.nD Cert.GradWDt.τ).loc Cert.GradWDt.main_arg1))
      ∧ r.2.sem = fun _ => 0)

def quiescent_GradWDtIdeal [hGradWDtIdeal : Cert.GradWDtIdeal.Facts] : Prop :=
  ∀ (m : (ℓ : Loc Cert.GradWDtIdeal.nD Cert.GradWDtIdeal.τ Cert.GradWDtIdeal.sig) → Buf (Elt Ideal) ℓ) (g : Dev Cert.GradWDtIdeal.nD → PrngReg), Pre_GradWDtIdeal m →
    θ_run (Cert.GradWDtIdeal.defs (F := Ideal)) (onTc (τ := Cert.GradWDtIdeal.τ) (Cert.GradWDtIdeal.main (F := Ideal))) ⟨m, fun _ => 0, g⟩ (fun r => (∀ c : Dev Cert.GradWDtIdeal.nD,
      r.2.mem ((c.tc : Thread Cert.GradWDtIdeal.nD Cert.GradWDtIdeal.τ).loc Cert.GradWDtIdeal.main_arg0) = m ((c.tc : Thread Cert.GradWDtIdeal.nD Cert.GradWDtIdeal.τ).loc Cert.GradWDtIdeal.main_arg0)
      ∧ r.2.mem ((c.tc : Thread Cert.GradWDtIdeal.nD Cert.GradWDtIdeal.τ).loc Cert.GradWDtIdeal.main_arg1) = m ((c.tc : Thread Cert.GradWDtIdeal.nD Cert.GradWDtIdeal.τ).loc Cert.GradWDtIdeal.main_arg1))
      ∧ r.2.sem = fun _ => 0)

def quiescent_GradWDtRefIdeal [hGradWDtRefIdeal : Cert.GradWDtRefIdeal.Facts] : Prop :=
  ∀ (m : (ℓ : Loc Cert.GradWDtRefIdeal.nD Cert.GradWDtRefIdeal.τ Cert.GradWDtRefIdeal.sig) → Buf (Elt Ideal) ℓ) (g : Dev Cert.GradWDtRefIdeal.nD → PrngReg), Pre_GradWDtRefIdeal m →
    θ_run (Cert.GradWDtRefIdeal.defs (F := Ideal)) (onTc (τ := Cert.GradWDtRefIdeal.τ) (Cert.GradWDtRefIdeal.main (F := Ideal))) ⟨m, fun _ => 0, g⟩ (fun r => (∀ c : Dev Cert.GradWDtRefIdeal.nD,
      r.2.mem ((c.tc : Thread Cert.GradWDtRefIdeal.nD Cert.GradWDtRefIdeal.τ).loc Cert.GradWDtRefIdeal.main_arg0) = m ((c.tc : Thread Cert.GradWDtRefIdeal.nD Cert.GradWDtRefIdeal.τ).loc Cert.GradWDtRefIdeal.main_arg0)
      ∧ r.2.mem ((c.tc : Thread Cert.GradWDtRefIdeal.nD Cert.GradWDtRefIdeal.τ).loc Cert.GradWDtRefIdeal.main_arg1) = m ((c.tc : Thread Cert.GradWDtRefIdeal.nD Cert.GradWDtRefIdeal.τ).loc Cert.GradWDtRefIdeal.main_arg1))
      ∧ r.2.sem = fun _ => 0)

def quiescent_OutLnLoss [hOutLnLoss : Cert.OutLnLoss.Facts] : Prop :=
  ∀ (m : (ℓ : Loc Cert.OutLnLoss.nD Cert.OutLnLoss.τ Cert.OutLnLoss.sig) → Buf (Elt Bits) ℓ) (g : Dev Cert.OutLnLoss.nD → PrngReg), Pre_OutLnLoss m →
    θ_run (Cert.OutLnLoss.defs (F := Bits)) (onTc (τ := Cert.OutLnLoss.τ) (Cert.OutLnLoss.main (F := Bits))) ⟨m, fun _ => 0, g⟩ (fun r => (∀ c : Dev Cert.OutLnLoss.nD,
      r.2.mem ((c.tc : Thread Cert.OutLnLoss.nD Cert.OutLnLoss.τ).loc Cert.OutLnLoss.main_arg0) = m ((c.tc : Thread Cert.OutLnLoss.nD Cert.OutLnLoss.τ).loc Cert.OutLnLoss.main_arg0)
      ∧ r.2.mem ((c.tc : Thread Cert.OutLnLoss.nD Cert.OutLnLoss.τ).loc Cert.OutLnLoss.main_arg1) = m ((c.tc : Thread Cert.OutLnLoss.nD Cert.OutLnLoss.τ).loc Cert.OutLnLoss.main_arg1)
      ∧ r.2.mem ((c.tc : Thread Cert.OutLnLoss.nD Cert.OutLnLoss.τ).loc Cert.OutLnLoss.main_arg2) = m ((c.tc : Thread Cert.OutLnLoss.nD Cert.OutLnLoss.τ).loc Cert.OutLnLoss.main_arg2)
      ∧ r.2.mem ((c.tc : Thread Cert.OutLnLoss.nD Cert.OutLnLoss.τ).loc Cert.OutLnLoss.main_arg3) = m ((c.tc : Thread Cert.OutLnLoss.nD Cert.OutLnLoss.τ).loc Cert.OutLnLoss.main_arg3)
      ∧ r.2.mem ((c.tc : Thread Cert.OutLnLoss.nD Cert.OutLnLoss.τ).loc Cert.OutLnLoss.main_arg4) = m ((c.tc : Thread Cert.OutLnLoss.nD Cert.OutLnLoss.τ).loc Cert.OutLnLoss.main_arg4)
      ∧ r.2.mem ((c.tc : Thread Cert.OutLnLoss.nD Cert.OutLnLoss.τ).loc Cert.OutLnLoss.main_arg5) = m ((c.tc : Thread Cert.OutLnLoss.nD Cert.OutLnLoss.τ).loc Cert.OutLnLoss.main_arg5)
      ∧ r.2.mem ((c.tc : Thread Cert.OutLnLoss.nD Cert.OutLnLoss.τ).loc Cert.OutLnLoss.main_arg6) = m ((c.tc : Thread Cert.OutLnLoss.nD Cert.OutLnLoss.τ).loc Cert.OutLnLoss.main_arg6))
      ∧ r.2.sem = fun _ => 0)

def quiescent_OutLnLossIdeal [hOutLnLossIdeal : Cert.OutLnLossIdeal.Facts] : Prop :=
  ∀ (m : (ℓ : Loc Cert.OutLnLossIdeal.nD Cert.OutLnLossIdeal.τ Cert.OutLnLossIdeal.sig) → Buf (Elt Ideal) ℓ) (g : Dev Cert.OutLnLossIdeal.nD → PrngReg), Pre_OutLnLossIdeal m →
    θ_run (Cert.OutLnLossIdeal.defs (F := Ideal)) (onTc (τ := Cert.OutLnLossIdeal.τ) (Cert.OutLnLossIdeal.main (F := Ideal))) ⟨m, fun _ => 0, g⟩ (fun r => (∀ c : Dev Cert.OutLnLossIdeal.nD,
      r.2.mem ((c.tc : Thread Cert.OutLnLossIdeal.nD Cert.OutLnLossIdeal.τ).loc Cert.OutLnLossIdeal.main_arg0) = m ((c.tc : Thread Cert.OutLnLossIdeal.nD Cert.OutLnLossIdeal.τ).loc Cert.OutLnLossIdeal.main_arg0)
      ∧ r.2.mem ((c.tc : Thread Cert.OutLnLossIdeal.nD Cert.OutLnLossIdeal.τ).loc Cert.OutLnLossIdeal.main_arg1) = m ((c.tc : Thread Cert.OutLnLossIdeal.nD Cert.OutLnLossIdeal.τ).loc Cert.OutLnLossIdeal.main_arg1)
      ∧ r.2.mem ((c.tc : Thread Cert.OutLnLossIdeal.nD Cert.OutLnLossIdeal.τ).loc Cert.OutLnLossIdeal.main_arg2) = m ((c.tc : Thread Cert.OutLnLossIdeal.nD Cert.OutLnLossIdeal.τ).loc Cert.OutLnLossIdeal.main_arg2)
      ∧ r.2.mem ((c.tc : Thread Cert.OutLnLossIdeal.nD Cert.OutLnLossIdeal.τ).loc Cert.OutLnLossIdeal.main_arg3) = m ((c.tc : Thread Cert.OutLnLossIdeal.nD Cert.OutLnLossIdeal.τ).loc Cert.OutLnLossIdeal.main_arg3)
      ∧ r.2.mem ((c.tc : Thread Cert.OutLnLossIdeal.nD Cert.OutLnLossIdeal.τ).loc Cert.OutLnLossIdeal.main_arg4) = m ((c.tc : Thread Cert.OutLnLossIdeal.nD Cert.OutLnLossIdeal.τ).loc Cert.OutLnLossIdeal.main_arg4)
      ∧ r.2.mem ((c.tc : Thread Cert.OutLnLossIdeal.nD Cert.OutLnLossIdeal.τ).loc Cert.OutLnLossIdeal.main_arg5) = m ((c.tc : Thread Cert.OutLnLossIdeal.nD Cert.OutLnLossIdeal.τ).loc Cert.OutLnLossIdeal.main_arg5)
      ∧ r.2.mem ((c.tc : Thread Cert.OutLnLossIdeal.nD Cert.OutLnLossIdeal.τ).loc Cert.OutLnLossIdeal.main_arg6) = m ((c.tc : Thread Cert.OutLnLossIdeal.nD Cert.OutLnLossIdeal.τ).loc Cert.OutLnLossIdeal.main_arg6))
      ∧ r.2.sem = fun _ => 0)

def quiescent_OutLnLossRefIdeal [hOutLnLossRefIdeal : Cert.OutLnLossRefIdeal.Facts] : Prop :=
  ∀ (m : (ℓ : Loc Cert.OutLnLossRefIdeal.nD Cert.OutLnLossRefIdeal.τ Cert.OutLnLossRefIdeal.sig) → Buf (Elt Ideal) ℓ) (g : Dev Cert.OutLnLossRefIdeal.nD → PrngReg), Pre_OutLnLossRefIdeal m →
    θ_run (Cert.OutLnLossRefIdeal.defs (F := Ideal)) (onTc (τ := Cert.OutLnLossRefIdeal.τ) (Cert.OutLnLossRefIdeal.main (F := Ideal))) ⟨m, fun _ => 0, g⟩ (fun r => (∀ c : Dev Cert.OutLnLossRefIdeal.nD,
      r.2.mem ((c.tc : Thread Cert.OutLnLossRefIdeal.nD Cert.OutLnLossRefIdeal.τ).loc Cert.OutLnLossRefIdeal.main_arg0) = m ((c.tc : Thread Cert.OutLnLossRefIdeal.nD Cert.OutLnLossRefIdeal.τ).loc Cert.OutLnLossRefIdeal.main_arg0)
      ∧ r.2.mem ((c.tc : Thread Cert.OutLnLossRefIdeal.nD Cert.OutLnLossRefIdeal.τ).loc Cert.OutLnLossRefIdeal.main_arg1) = m ((c.tc : Thread Cert.OutLnLossRefIdeal.nD Cert.OutLnLossRefIdeal.τ).loc Cert.OutLnLossRefIdeal.main_arg1)
      ∧ r.2.mem ((c.tc : Thread Cert.OutLnLossRefIdeal.nD Cert.OutLnLossRefIdeal.τ).loc Cert.OutLnLossRefIdeal.main_arg2) = m ((c.tc : Thread Cert.OutLnLossRefIdeal.nD Cert.OutLnLossRefIdeal.τ).loc Cert.OutLnLossRefIdeal.main_arg2)
      ∧ r.2.mem ((c.tc : Thread Cert.OutLnLossRefIdeal.nD Cert.OutLnLossRefIdeal.τ).loc Cert.OutLnLossRefIdeal.main_arg3) = m ((c.tc : Thread Cert.OutLnLossRefIdeal.nD Cert.OutLnLossRefIdeal.τ).loc Cert.OutLnLossRefIdeal.main_arg3)
      ∧ r.2.mem ((c.tc : Thread Cert.OutLnLossRefIdeal.nD Cert.OutLnLossRefIdeal.τ).loc Cert.OutLnLossRefIdeal.main_arg4) = m ((c.tc : Thread Cert.OutLnLossRefIdeal.nD Cert.OutLnLossRefIdeal.τ).loc Cert.OutLnLossRefIdeal.main_arg4)
      ∧ r.2.mem ((c.tc : Thread Cert.OutLnLossRefIdeal.nD Cert.OutLnLossRefIdeal.τ).loc Cert.OutLnLossRefIdeal.main_arg5) = m ((c.tc : Thread Cert.OutLnLossRefIdeal.nD Cert.OutLnLossRefIdeal.τ).loc Cert.OutLnLossRefIdeal.main_arg5)
      ∧ r.2.mem ((c.tc : Thread Cert.OutLnLossRefIdeal.nD Cert.OutLnLossRefIdeal.τ).loc Cert.OutLnLossRefIdeal.main_arg6) = m ((c.tc : Thread Cert.OutLnLossRefIdeal.nD Cert.OutLnLossRefIdeal.τ).loc Cert.OutLnLossRefIdeal.main_arg6))
      ∧ r.2.sem = fun _ => 0)

def preserves_PairShare_PairShareIdeal : Prop :=
  True

def algebraic_PairShareIdeal_PairShareRefIdeal [hPairShareIdeal : Cert.PairShareIdeal.Facts] [hPairShareRefIdeal : Cert.PairShareRefIdeal.Facts] : Prop :=
  ∀ (m : (ℓ : Loc Cert.PairShareIdeal.nD Cert.PairShareIdeal.τ Cert.PairShareIdeal.sig) → Buf (Elt Ideal) ℓ) (g : Dev Cert.PairShareIdeal.nD → PrngReg)
    (m' : (ℓ : Loc Cert.PairShareRefIdeal.nD Cert.PairShareRefIdeal.τ Cert.PairShareRefIdeal.sig) → Buf (Elt Ideal) ℓ) (g' : Dev Cert.PairShareRefIdeal.nD → PrngReg), Pre_PairShareIdeal m →
    (∀ c : Dev Cert.PairShareIdeal.nD,
      m ((c.tc : Thread Cert.PairShareIdeal.nD Cert.PairShareIdeal.τ).loc Cert.PairShareIdeal.main_arg0) = Layout.block ⟨2, ![512, 1284]⟩ ⟨2, ![4096, 1284]⟩ 0 8 c (m' (((0 : Dev Cert.PairShareRefIdeal.nD).tc : Thread Cert.PairShareRefIdeal.nD Cert.PairShareRefIdeal.τ).loc Cert.PairShareRefIdeal.main_arg0))
      ∧ m ((c.tc : Thread Cert.PairShareIdeal.nD Cert.PairShareIdeal.τ).loc Cert.PairShareIdeal.main_arg1) = Layout.block ⟨2, ![256, 1024]⟩ ⟨2, ![2048, 1024]⟩ 0 8 c (m' (((0 : Dev Cert.PairShareRefIdeal.nD).tc : Thread Cert.PairShareRefIdeal.nD Cert.PairShareRefIdeal.τ).loc Cert.PairShareRefIdeal.main_arg1))) →
    ∃ (v0 : Buf (Elt Ideal) (((0 : Dev Cert.PairShareRefIdeal.nD).tc : Thread Cert.PairShareRefIdeal.nD Cert.PairShareRefIdeal.τ).loc Cert.PairShareRefIdeal.main_v2)) (v1 : Buf (Elt Ideal) (((0 : Dev Cert.PairShareRefIdeal.nD).tc : Thread Cert.PairShareRefIdeal.nD Cert.PairShareRefIdeal.τ).loc Cert.PairShareRefIdeal.main_v5)),
      θ_run (Cert.PairShareIdeal.defs (F := Ideal)) (onTc (τ := Cert.PairShareIdeal.τ) (Cert.PairShareIdeal.main (F := Ideal))) ⟨m, fun _ => 0, g⟩ (fun r => ∀ c : Dev Cert.PairShareIdeal.nD,
          r.2.mem ((c.tc : Thread Cert.PairShareIdeal.nD Cert.PairShareIdeal.τ).loc Cert.PairShareIdeal.main_v1_0) = Layout.block ⟨2, ![1024, 1284]⟩ ⟨2, ![8192, 1284]⟩ 0 8 c v0
          ∧ r.2.mem ((c.tc : Thread Cert.PairShareIdeal.nD Cert.PairShareIdeal.τ).loc Cert.PairShareIdeal.main_v1_1) = Layout.block ⟨2, ![512, 1024]⟩ ⟨2, ![4096, 1024]⟩ 0 8 c v1
          ∧ r.2.mem ((c.tc : Thread Cert.PairShareIdeal.nD Cert.PairShareIdeal.τ).loc Cert.PairShareIdeal.main_arg0) = m ((c.tc : Thread Cert.PairShareIdeal.nD Cert.PairShareIdeal.τ).loc Cert.PairShareIdeal.main_arg0)
          ∧ r.2.mem ((c.tc : Thread Cert.PairShareIdeal.nD Cert.PairShareIdeal.τ).loc Cert.PairShareIdeal.main_arg1) = m ((c.tc : Thread Cert.PairShareIdeal.nD Cert.PairShareIdeal.τ).loc Cert.PairShareIdeal.main_arg1))
      ∧ θ_run (Cert.PairShareRefIdeal.defs (F := Ideal)) (onTc (τ := Cert.PairShareRefIdeal.τ) (Cert.PairShareRefIdeal.main (F := Ideal))) ⟨m', fun _ => 0, g'⟩ (fun r =>
          r.2.mem (((0 : Dev Cert.PairShareRefIdeal.nD).tc : Thread Cert.PairShareRefIdeal.nD Cert.PairShareRefIdeal.τ).loc Cert.PairShareRefIdeal.main_v2) = v0
          ∧ r.2.mem (((0 : Dev Cert.PairShareRefIdeal.nD).tc : Thread Cert.PairShareRefIdeal.nD Cert.PairShareRefIdeal.τ).loc Cert.PairShareRefIdeal.main_v5) = v1
          ∧ r.2.mem (((0 : Dev Cert.PairShareRefIdeal.nD).tc : Thread Cert.PairShareRefIdeal.nD Cert.PairShareRefIdeal.τ).loc Cert.PairShareRefIdeal.main_arg0) = m' (((0 : Dev Cert.PairShareRefIdeal.nD).tc : Thread Cert.PairShareRefIdeal.nD Cert.PairShareRefIdeal.τ).loc Cert.PairShareRefIdeal.main_arg0)
          ∧ r.2.mem (((0 : Dev Cert.PairShareRefIdeal.nD).tc : Thread Cert.PairShareRefIdeal.nD Cert.PairShareRefIdeal.τ).loc Cert.PairShareRefIdeal.main_arg1) = m' (((0 : Dev Cert.PairShareRefIdeal.nD).tc : Thread Cert.PairShareRefIdeal.nD Cert.PairShareRefIdeal.τ).loc Cert.PairShareRefIdeal.main_arg1))

def bitexact_PairShare_PairShareRef [hPairShare : Cert.PairShare.Facts] [hPairShareRef : Cert.PairShareRef.Facts] : Prop :=
  ∀ (m : (ℓ : Loc Cert.PairShare.nD Cert.PairShare.τ Cert.PairShare.sig) → Buf (Elt Bits) ℓ) (g : Dev Cert.PairShare.nD → PrngReg)
    (m' : (ℓ : Loc Cert.PairShareRef.nD Cert.PairShareRef.τ Cert.PairShareRef.sig) → Buf (Elt Bits) ℓ) (g' : Dev Cert.PairShareRef.nD → PrngReg), Pre_PairShare m →
    (∀ c : Dev Cert.PairShare.nD,
      m ((c.tc : Thread Cert.PairShare.nD Cert.PairShare.τ).loc Cert.PairShare.main_arg0) = Layout.block ⟨2, ![512, 1284]⟩ ⟨2, ![4096, 1284]⟩ 0 8 c (m' (((0 : Dev Cert.PairShareRef.nD).tc : Thread Cert.PairShareRef.nD Cert.PairShareRef.τ).loc Cert.PairShareRef.main_arg0))
      ∧ m ((c.tc : Thread Cert.PairShare.nD Cert.PairShare.τ).loc Cert.PairShare.main_arg1) = Layout.block ⟨2, ![256, 1024]⟩ ⟨2, ![2048, 1024]⟩ 0 8 c (m' (((0 : Dev Cert.PairShareRef.nD).tc : Thread Cert.PairShareRef.nD Cert.PairShareRef.τ).loc Cert.PairShareRef.main_arg1))) →
    ∃ (v0 : Buf (Elt Bits) (((0 : Dev Cert.PairShareRef.nD).tc : Thread Cert.PairShareRef.nD Cert.PairShareRef.τ).loc Cert.PairShareRef.main_v2)) (v1 : Buf (Elt Bits) (((0 : Dev Cert.PairShareRef.nD).tc : Thread Cert.PairShareRef.nD Cert.PairShareRef.τ).loc Cert.PairShareRef.main_v5)),
      θ_run (Cert.PairShare.defs (F := Bits)) (onTc (τ := Cert.PairShare.τ) (Cert.PairShare.main (F := Bits))) ⟨m, fun _ => 0, g⟩ (fun r => ∀ c : Dev Cert.PairShare.nD,
          r.2.mem ((c.tc : Thread Cert.PairShare.nD Cert.PairShare.τ).loc Cert.PairShare.main_v1_0) = Layout.block ⟨2, ![1024, 1284]⟩ ⟨2, ![8192, 1284]⟩ 0 8 c v0
          ∧ r.2.mem ((c.tc : Thread Cert.PairShare.nD Cert.PairShare.τ).loc Cert.PairShare.main_v1_1) = Layout.block ⟨2, ![512, 1024]⟩ ⟨2, ![4096, 1024]⟩ 0 8 c v1
          ∧ r.2.mem ((c.tc : Thread Cert.PairShare.nD Cert.PairShare.τ).loc Cert.PairShare.main_arg0) = m ((c.tc : Thread Cert.PairShare.nD Cert.PairShare.τ).loc Cert.PairShare.main_arg0)
          ∧ r.2.mem ((c.tc : Thread Cert.PairShare.nD Cert.PairShare.τ).loc Cert.PairShare.main_arg1) = m ((c.tc : Thread Cert.PairShare.nD Cert.PairShare.τ).loc Cert.PairShare.main_arg1))
      ∧ θ_run (Cert.PairShareRef.defs (F := Bits)) (onTc (τ := Cert.PairShareRef.τ) (Cert.PairShareRef.main (F := Bits))) ⟨m', fun _ => 0, g'⟩ (fun r =>
          r.2.mem (((0 : Dev Cert.PairShareRef.nD).tc : Thread Cert.PairShareRef.nD Cert.PairShareRef.τ).loc Cert.PairShareRef.main_v2) = v0
          ∧ r.2.mem (((0 : Dev Cert.PairShareRef.nD).tc : Thread Cert.PairShareRef.nD Cert.PairShareRef.τ).loc Cert.PairShareRef.main_v5) = v1
          ∧ r.2.mem (((0 : Dev Cert.PairShareRef.nD).tc : Thread Cert.PairShareRef.nD Cert.PairShareRef.τ).loc Cert.PairShareRef.main_arg0) = m' (((0 : Dev Cert.PairShareRef.nD).tc : Thread Cert.PairShareRef.nD Cert.PairShareRef.τ).loc Cert.PairShareRef.main_arg0)
          ∧ r.2.mem (((0 : Dev Cert.PairShareRef.nD).tc : Thread Cert.PairShareRef.nD Cert.PairShareRef.τ).loc Cert.PairShareRef.main_arg1) = m' (((0 : Dev Cert.PairShareRef.nD).tc : Thread Cert.PairShareRef.nD Cert.PairShareRef.τ).loc Cert.PairShareRef.main_arg1))

def preserves_ChipExchange_ChipExchangeIdeal : Prop :=
  True

def algebraic_ChipExchangeIdeal_ChipExchangeRefIdeal [hChipExchangeIdeal : Cert.ChipExchangeIdeal.Facts] [hChipExchangeRefIdeal : Cert.ChipExchangeRefIdeal.Facts] : Prop :=
  ∀ (m : (ℓ : Loc Cert.ChipExchangeIdeal.nD Cert.ChipExchangeIdeal.τ Cert.ChipExchangeIdeal.sig) → Buf (Elt Ideal) ℓ) (g : Dev Cert.ChipExchangeIdeal.nD → PrngReg)
    (m' : (ℓ : Loc Cert.ChipExchangeRefIdeal.nD Cert.ChipExchangeRefIdeal.τ Cert.ChipExchangeRefIdeal.sig) → Buf (Elt Ideal) ℓ) (g' : Dev Cert.ChipExchangeRefIdeal.nD → PrngReg), Pre_ChipExchangeIdeal m →
    (∀ c : Dev Cert.ChipExchangeIdeal.nD,
      m ((c.tc : Thread Cert.ChipExchangeIdeal.nD Cert.ChipExchangeIdeal.τ).loc Cert.ChipExchangeIdeal.main_arg0) = Layout.block ⟨3, ![4, 512, 1284]⟩ ⟨3, ![32, 512, 1284]⟩ 0 8 c (m' (((0 : Dev Cert.ChipExchangeRefIdeal.nD).tc : Thread Cert.ChipExchangeRefIdeal.nD Cert.ChipExchangeRefIdeal.τ).loc Cert.ChipExchangeRefIdeal.main_arg0))
      ∧ m ((c.tc : Thread Cert.ChipExchangeIdeal.nD Cert.ChipExchangeIdeal.τ).loc Cert.ChipExchangeIdeal.main_arg1) = Layout.block ⟨3, ![4, 256, 1024]⟩ ⟨3, ![32, 256, 1024]⟩ 0 8 c (m' (((0 : Dev Cert.ChipExchangeRefIdeal.nD).tc : Thread Cert.ChipExchangeRefIdeal.nD Cert.ChipExchangeRefIdeal.τ).loc Cert.ChipExchangeRefIdeal.main_arg1))) →
    ∃ (v0 : Buf (Elt Ideal) (((0 : Dev Cert.ChipExchangeRefIdeal.nD).tc : Thread Cert.ChipExchangeRefIdeal.nD Cert.ChipExchangeRefIdeal.τ).loc Cert.ChipExchangeRefIdeal.main_v2)) (v1 : Buf (Elt Ideal) (((0 : Dev Cert.ChipExchangeRefIdeal.nD).tc : Thread Cert.ChipExchangeRefIdeal.nD Cert.ChipExchangeRefIdeal.τ).loc Cert.ChipExchangeRefIdeal.main_v5)),
      θ_run (Cert.ChipExchangeIdeal.defs (F := Ideal)) (onTc (τ := Cert.ChipExchangeIdeal.τ) (Cert.ChipExchangeIdeal.main (F := Ideal))) ⟨m, fun _ => 0, g⟩ (fun r => ∀ c : Dev Cert.ChipExchangeIdeal.nD,
          r.2.mem ((c.tc : Thread Cert.ChipExchangeIdeal.nD Cert.ChipExchangeIdeal.τ).loc Cert.ChipExchangeIdeal.main_v1_0) = Layout.block ⟨3, ![4, 512, 1284]⟩ ⟨3, ![32, 512, 1284]⟩ 0 8 c v0
          ∧ r.2.mem ((c.tc : Thread Cert.ChipExchangeIdeal.nD Cert.ChipExchangeIdeal.τ).loc Cert.ChipExchangeIdeal.main_v1_1) = Layout.block ⟨3, ![4, 256, 1024]⟩ ⟨3, ![32, 256, 1024]⟩ 0 8 c v1
          ∧ r.2.mem ((c.tc : Thread Cert.ChipExchangeIdeal.nD Cert.ChipExchangeIdeal.τ).loc Cert.ChipExchangeIdeal.main_arg0) = m ((c.tc : Thread Cert.ChipExchangeIdeal.nD Cert.ChipExchangeIdeal.τ).loc Cert.ChipExchangeIdeal.main_arg0)
          ∧ r.2.mem ((c.tc : Thread Cert.ChipExchangeIdeal.nD Cert.ChipExchangeIdeal.τ).loc Cert.ChipExchangeIdeal.main_arg1) = m ((c.tc : Thread Cert.ChipExchangeIdeal.nD Cert.ChipExchangeIdeal.τ).loc Cert.ChipExchangeIdeal.main_arg1))
      ∧ θ_run (Cert.ChipExchangeRefIdeal.defs (F := Ideal)) (onTc (τ := Cert.ChipExchangeRefIdeal.τ) (Cert.ChipExchangeRefIdeal.main (F := Ideal))) ⟨m', fun _ => 0, g'⟩ (fun r =>
          r.2.mem (((0 : Dev Cert.ChipExchangeRefIdeal.nD).tc : Thread Cert.ChipExchangeRefIdeal.nD Cert.ChipExchangeRefIdeal.τ).loc Cert.ChipExchangeRefIdeal.main_v2) = v0
          ∧ r.2.mem (((0 : Dev Cert.ChipExchangeRefIdeal.nD).tc : Thread Cert.ChipExchangeRefIdeal.nD Cert.ChipExchangeRefIdeal.τ).loc Cert.ChipExchangeRefIdeal.main_v5) = v1
          ∧ r.2.mem (((0 : Dev Cert.ChipExchangeRefIdeal.nD).tc : Thread Cert.ChipExchangeRefIdeal.nD Cert.ChipExchangeRefIdeal.τ).loc Cert.ChipExchangeRefIdeal.main_arg0) = m' (((0 : Dev Cert.ChipExchangeRefIdeal.nD).tc : Thread Cert.ChipExchangeRefIdeal.nD Cert.ChipExchangeRefIdeal.τ).loc Cert.ChipExchangeRefIdeal.main_arg0)
          ∧ r.2.mem (((0 : Dev Cert.ChipExchangeRefIdeal.nD).tc : Thread Cert.ChipExchangeRefIdeal.nD Cert.ChipExchangeRefIdeal.τ).loc Cert.ChipExchangeRefIdeal.main_arg1) = m' (((0 : Dev Cert.ChipExchangeRefIdeal.nD).tc : Thread Cert.ChipExchangeRefIdeal.nD Cert.ChipExchangeRefIdeal.τ).loc Cert.ChipExchangeRefIdeal.main_arg1))

def bitexact_ChipExchange_ChipExchangeRef [hChipExchange : Cert.ChipExchange.Facts] [hChipExchangeRef : Cert.ChipExchangeRef.Facts] : Prop :=
  ∀ (m : (ℓ : Loc Cert.ChipExchange.nD Cert.ChipExchange.τ Cert.ChipExchange.sig) → Buf (Elt Bits) ℓ) (g : Dev Cert.ChipExchange.nD → PrngReg)
    (m' : (ℓ : Loc Cert.ChipExchangeRef.nD Cert.ChipExchangeRef.τ Cert.ChipExchangeRef.sig) → Buf (Elt Bits) ℓ) (g' : Dev Cert.ChipExchangeRef.nD → PrngReg), Pre_ChipExchange m →
    (∀ c : Dev Cert.ChipExchange.nD,
      m ((c.tc : Thread Cert.ChipExchange.nD Cert.ChipExchange.τ).loc Cert.ChipExchange.main_arg0) = Layout.block ⟨3, ![4, 512, 1284]⟩ ⟨3, ![32, 512, 1284]⟩ 0 8 c (m' (((0 : Dev Cert.ChipExchangeRef.nD).tc : Thread Cert.ChipExchangeRef.nD Cert.ChipExchangeRef.τ).loc Cert.ChipExchangeRef.main_arg0))
      ∧ m ((c.tc : Thread Cert.ChipExchange.nD Cert.ChipExchange.τ).loc Cert.ChipExchange.main_arg1) = Layout.block ⟨3, ![4, 256, 1024]⟩ ⟨3, ![32, 256, 1024]⟩ 0 8 c (m' (((0 : Dev Cert.ChipExchangeRef.nD).tc : Thread Cert.ChipExchangeRef.nD Cert.ChipExchangeRef.τ).loc Cert.ChipExchangeRef.main_arg1))) →
    ∃ (v0 : Buf (Elt Bits) (((0 : Dev Cert.ChipExchangeRef.nD).tc : Thread Cert.ChipExchangeRef.nD Cert.ChipExchangeRef.τ).loc Cert.ChipExchangeRef.main_v2)) (v1 : Buf (Elt Bits) (((0 : Dev Cert.ChipExchangeRef.nD).tc : Thread Cert.ChipExchangeRef.nD Cert.ChipExchangeRef.τ).loc Cert.ChipExchangeRef.main_v5)),
      θ_run (Cert.ChipExchange.defs (F := Bits)) (onTc (τ := Cert.ChipExchange.τ) (Cert.ChipExchange.main (F := Bits))) ⟨m, fun _ => 0, g⟩ (fun r => ∀ c : Dev Cert.ChipExchange.nD,
          r.2.mem ((c.tc : Thread Cert.ChipExchange.nD Cert.ChipExchange.τ).loc Cert.ChipExchange.main_v1_0) = Layout.block ⟨3, ![4, 512, 1284]⟩ ⟨3, ![32, 512, 1284]⟩ 0 8 c v0
          ∧ r.2.mem ((c.tc : Thread Cert.ChipExchange.nD Cert.ChipExchange.τ).loc Cert.ChipExchange.main_v1_1) = Layout.block ⟨3, ![4, 256, 1024]⟩ ⟨3, ![32, 256, 1024]⟩ 0 8 c v1
          ∧ r.2.mem ((c.tc : Thread Cert.ChipExchange.nD Cert.ChipExchange.τ).loc Cert.ChipExchange.main_arg0) = m ((c.tc : Thread Cert.ChipExchange.nD Cert.ChipExchange.τ).loc Cert.ChipExchange.main_arg0)
          ∧ r.2.mem ((c.tc : Thread Cert.ChipExchange.nD Cert.ChipExchange.τ).loc Cert.ChipExchange.main_arg1) = m ((c.tc : Thread Cert.ChipExchange.nD Cert.ChipExchange.τ).loc Cert.ChipExchange.main_arg1))
      ∧ θ_run (Cert.ChipExchangeRef.defs (F := Bits)) (onTc (τ := Cert.ChipExchangeRef.τ) (Cert.ChipExchangeRef.main (F := Bits))) ⟨m', fun _ => 0, g'⟩ (fun r =>
          r.2.mem (((0 : Dev Cert.ChipExchangeRef.nD).tc : Thread Cert.ChipExchangeRef.nD Cert.ChipExchangeRef.τ).loc Cert.ChipExchangeRef.main_v2) = v0
          ∧ r.2.mem (((0 : Dev Cert.ChipExchangeRef.nD).tc : Thread Cert.ChipExchangeRef.nD Cert.ChipExchangeRef.τ).loc Cert.ChipExchangeRef.main_v5) = v1
          ∧ r.2.mem (((0 : Dev Cert.ChipExchangeRef.nD).tc : Thread Cert.ChipExchangeRef.nD Cert.ChipExchangeRef.τ).loc Cert.ChipExchangeRef.main_arg0) = m' (((0 : Dev Cert.ChipExchangeRef.nD).tc : Thread Cert.ChipExchangeRef.nD Cert.ChipExchangeRef.τ).loc Cert.ChipExchangeRef.main_arg0)
          ∧ r.2.mem (((0 : Dev Cert.ChipExchangeRef.nD).tc : Thread Cert.ChipExchangeRef.nD Cert.ChipExchangeRef.τ).loc Cert.ChipExchangeRef.main_arg1) = m' (((0 : Dev Cert.ChipExchangeRef.nD).tc : Thread Cert.ChipExchangeRef.nD Cert.ChipExchangeRef.τ).loc Cert.ChipExchangeRef.main_arg1))

def preserves_PairExchange_PairExchangeIdeal : Prop :=
  True

def algebraic_PairExchangeIdeal_PairExchangeRefIdeal [hPairExchangeIdeal : Cert.PairExchangeIdeal.Facts] [hPairExchangeRefIdeal : Cert.PairExchangeRefIdeal.Facts] : Prop :=
  ∀ (m : (ℓ : Loc Cert.PairExchangeIdeal.nD Cert.PairExchangeIdeal.τ Cert.PairExchangeIdeal.sig) → Buf (Elt Ideal) ℓ) (g : Dev Cert.PairExchangeIdeal.nD → PrngReg)
    (m' : (ℓ : Loc Cert.PairExchangeRefIdeal.nD Cert.PairExchangeRefIdeal.τ Cert.PairExchangeRefIdeal.sig) → Buf (Elt Ideal) ℓ) (g' : Dev Cert.PairExchangeRefIdeal.nD → PrngReg), Pre_PairExchangeIdeal m →
    (∀ c : Dev Cert.PairExchangeIdeal.nD,
      m ((c.tc : Thread Cert.PairExchangeIdeal.nD Cert.PairExchangeIdeal.τ).loc Cert.PairExchangeIdeal.main_arg0) = Layout.block ⟨3, ![4, 1024, 1284]⟩ ⟨3, ![32, 1024, 1284]⟩ 0 8 c (m' (((0 : Dev Cert.PairExchangeRefIdeal.nD).tc : Thread Cert.PairExchangeRefIdeal.nD Cert.PairExchangeRefIdeal.τ).loc Cert.PairExchangeRefIdeal.main_arg0))
      ∧ m ((c.tc : Thread Cert.PairExchangeIdeal.nD Cert.PairExchangeIdeal.τ).loc Cert.PairExchangeIdeal.main_arg1) = Layout.block ⟨3, ![4, 512, 1024]⟩ ⟨3, ![32, 512, 1024]⟩ 0 8 c (m' (((0 : Dev Cert.PairExchangeRefIdeal.nD).tc : Thread Cert.PairExchangeRefIdeal.nD Cert.PairExchangeRefIdeal.τ).loc Cert.PairExchangeRefIdeal.main_arg1))
      ∧ m ((c.tc : Thread Cert.PairExchangeIdeal.nD Cert.PairExchangeIdeal.τ).loc Cert.PairExchangeIdeal.main_arg2) = Layout.block ⟨2, ![8, 6784]⟩ ⟨2, ![64, 6784]⟩ 0 8 c (m' (((0 : Dev Cert.PairExchangeRefIdeal.nD).tc : Thread Cert.PairExchangeRefIdeal.nD Cert.PairExchangeRefIdeal.τ).loc Cert.PairExchangeRefIdeal.main_arg2))) →
    ∃ (v0 : Buf (Elt Ideal) (((0 : Dev Cert.PairExchangeRefIdeal.nD).tc : Thread Cert.PairExchangeRefIdeal.nD Cert.PairExchangeRefIdeal.τ).loc Cert.PairExchangeRefIdeal.main_v8)) (v1 : Buf (Elt Ideal) (((0 : Dev Cert.PairExchangeRefIdeal.nD).tc : Thread Cert.PairExchangeRefIdeal.nD Cert.PairExchangeRefIdeal.τ).loc Cert.PairExchangeRefIdeal.main_v12)) (v2 : Buf (Elt Ideal) (((0 : Dev Cert.PairExchangeRefIdeal.nD).tc : Thread Cert.PairExchangeRefIdeal.nD Cert.PairExchangeRefIdeal.τ).loc Cert.PairExchangeRefIdeal.main_v16)) (v3 : Buf (Elt Ideal) (((0 : Dev Cert.PairExchangeRefIdeal.nD).tc : Thread Cert.PairExchangeRefIdeal.nD Cert.PairExchangeRefIdeal.τ).loc Cert.PairExchangeRefIdeal.main_v20)) (v4 : Buf (Elt Ideal) (((0 : Dev Cert.PairExchangeRefIdeal.nD).tc : Thread Cert.PairExchangeRefIdeal.nD Cert.PairExchangeRefIdeal.τ).loc Cert.PairExchangeRefIdeal.main_v4)),
      θ_run (Cert.PairExchangeIdeal.defs (F := Ideal)) (onTc (τ := Cert.PairExchangeIdeal.τ) (Cert.PairExchangeIdeal.main (F := Ideal))) ⟨m, fun _ => 0, g⟩ (fun r => ∀ c : Dev Cert.PairExchangeIdeal.nD,
          r.2.mem ((c.tc : Thread Cert.PairExchangeIdeal.nD Cert.PairExchangeIdeal.τ).loc Cert.PairExchangeIdeal.main_v1_0) = Layout.block ⟨3, ![4, 512, 1284]⟩ ⟨3, ![32, 512, 1284]⟩ 0 8 c v0
          ∧ r.2.mem ((c.tc : Thread Cert.PairExchangeIdeal.nD Cert.PairExchangeIdeal.τ).loc Cert.PairExchangeIdeal.main_v1_1) = Layout.block ⟨3, ![4, 256, 1024]⟩ ⟨3, ![32, 256, 1024]⟩ 0 8 c v1
          ∧ r.2.mem ((c.tc : Thread Cert.PairExchangeIdeal.nD Cert.PairExchangeIdeal.τ).loc Cert.PairExchangeIdeal.main_v1_2) = Layout.block ⟨3, ![4, 512, 1284]⟩ ⟨3, ![32, 512, 1284]⟩ 0 8 c v2
          ∧ r.2.mem ((c.tc : Thread Cert.PairExchangeIdeal.nD Cert.PairExchangeIdeal.τ).loc Cert.PairExchangeIdeal.main_v1_3) = Layout.block ⟨3, ![4, 256, 1024]⟩ ⟨3, ![32, 256, 1024]⟩ 0 8 c v3
          ∧ r.2.mem ((c.tc : Thread Cert.PairExchangeIdeal.nD Cert.PairExchangeIdeal.τ).loc Cert.PairExchangeIdeal.main_v1_4) = Layout.block ⟨3, ![8, 8, 6784]⟩ ⟨3, ![64, 8, 6784]⟩ 0 8 c v4
          ∧ r.2.mem ((c.tc : Thread Cert.PairExchangeIdeal.nD Cert.PairExchangeIdeal.τ).loc Cert.PairExchangeIdeal.main_arg0) = m ((c.tc : Thread Cert.PairExchangeIdeal.nD Cert.PairExchangeIdeal.τ).loc Cert.PairExchangeIdeal.main_arg0)
          ∧ r.2.mem ((c.tc : Thread Cert.PairExchangeIdeal.nD Cert.PairExchangeIdeal.τ).loc Cert.PairExchangeIdeal.main_arg1) = m ((c.tc : Thread Cert.PairExchangeIdeal.nD Cert.PairExchangeIdeal.τ).loc Cert.PairExchangeIdeal.main_arg1)
          ∧ r.2.mem ((c.tc : Thread Cert.PairExchangeIdeal.nD Cert.PairExchangeIdeal.τ).loc Cert.PairExchangeIdeal.main_arg2) = m ((c.tc : Thread Cert.PairExchangeIdeal.nD Cert.PairExchangeIdeal.τ).loc Cert.PairExchangeIdeal.main_arg2))
      ∧ θ_run (Cert.PairExchangeRefIdeal.defs (F := Ideal)) (onTc (τ := Cert.PairExchangeRefIdeal.τ) (Cert.PairExchangeRefIdeal.main (F := Ideal))) ⟨m', fun _ => 0, g'⟩ (fun r =>
          r.2.mem (((0 : Dev Cert.PairExchangeRefIdeal.nD).tc : Thread Cert.PairExchangeRefIdeal.nD Cert.PairExchangeRefIdeal.τ).loc Cert.PairExchangeRefIdeal.main_v8) = v0
          ∧ r.2.mem (((0 : Dev Cert.PairExchangeRefIdeal.nD).tc : Thread Cert.PairExchangeRefIdeal.nD Cert.PairExchangeRefIdeal.τ).loc Cert.PairExchangeRefIdeal.main_v12) = v1
          ∧ r.2.mem (((0 : Dev Cert.PairExchangeRefIdeal.nD).tc : Thread Cert.PairExchangeRefIdeal.nD Cert.PairExchangeRefIdeal.τ).loc Cert.PairExchangeRefIdeal.main_v16) = v2
          ∧ r.2.mem (((0 : Dev Cert.PairExchangeRefIdeal.nD).tc : Thread Cert.PairExchangeRefIdeal.nD Cert.PairExchangeRefIdeal.τ).loc Cert.PairExchangeRefIdeal.main_v20) = v3
          ∧ r.2.mem (((0 : Dev Cert.PairExchangeRefIdeal.nD).tc : Thread Cert.PairExchangeRefIdeal.nD Cert.PairExchangeRefIdeal.τ).loc Cert.PairExchangeRefIdeal.main_v4) = v4
          ∧ r.2.mem (((0 : Dev Cert.PairExchangeRefIdeal.nD).tc : Thread Cert.PairExchangeRefIdeal.nD Cert.PairExchangeRefIdeal.τ).loc Cert.PairExchangeRefIdeal.main_arg0) = m' (((0 : Dev Cert.PairExchangeRefIdeal.nD).tc : Thread Cert.PairExchangeRefIdeal.nD Cert.PairExchangeRefIdeal.τ).loc Cert.PairExchangeRefIdeal.main_arg0)
          ∧ r.2.mem (((0 : Dev Cert.PairExchangeRefIdeal.nD).tc : Thread Cert.PairExchangeRefIdeal.nD Cert.PairExchangeRefIdeal.τ).loc Cert.PairExchangeRefIdeal.main_arg1) = m' (((0 : Dev Cert.PairExchangeRefIdeal.nD).tc : Thread Cert.PairExchangeRefIdeal.nD Cert.PairExchangeRefIdeal.τ).loc Cert.PairExchangeRefIdeal.main_arg1)
          ∧ r.2.mem (((0 : Dev Cert.PairExchangeRefIdeal.nD).tc : Thread Cert.PairExchangeRefIdeal.nD Cert.PairExchangeRefIdeal.τ).loc Cert.PairExchangeRefIdeal.main_arg2) = m' (((0 : Dev Cert.PairExchangeRefIdeal.nD).tc : Thread Cert.PairExchangeRefIdeal.nD Cert.PairExchangeRefIdeal.τ).loc Cert.PairExchangeRefIdeal.main_arg2))

def bitexact_PairExchange_PairExchangeRef [hPairExchange : Cert.PairExchange.Facts] [hPairExchangeRef : Cert.PairExchangeRef.Facts] : Prop :=
  ∀ (m : (ℓ : Loc Cert.PairExchange.nD Cert.PairExchange.τ Cert.PairExchange.sig) → Buf (Elt Bits) ℓ) (g : Dev Cert.PairExchange.nD → PrngReg)
    (m' : (ℓ : Loc Cert.PairExchangeRef.nD Cert.PairExchangeRef.τ Cert.PairExchangeRef.sig) → Buf (Elt Bits) ℓ) (g' : Dev Cert.PairExchangeRef.nD → PrngReg), Pre_PairExchange m →
    (∀ c : Dev Cert.PairExchange.nD,
      m ((c.tc : Thread Cert.PairExchange.nD Cert.PairExchange.τ).loc Cert.PairExchange.main_arg0) = Layout.block ⟨3, ![4, 1024, 1284]⟩ ⟨3, ![32, 1024, 1284]⟩ 0 8 c (m' (((0 : Dev Cert.PairExchangeRef.nD).tc : Thread Cert.PairExchangeRef.nD Cert.PairExchangeRef.τ).loc Cert.PairExchangeRef.main_arg0))
      ∧ m ((c.tc : Thread Cert.PairExchange.nD Cert.PairExchange.τ).loc Cert.PairExchange.main_arg1) = Layout.block ⟨3, ![4, 512, 1024]⟩ ⟨3, ![32, 512, 1024]⟩ 0 8 c (m' (((0 : Dev Cert.PairExchangeRef.nD).tc : Thread Cert.PairExchangeRef.nD Cert.PairExchangeRef.τ).loc Cert.PairExchangeRef.main_arg1))
      ∧ m ((c.tc : Thread Cert.PairExchange.nD Cert.PairExchange.τ).loc Cert.PairExchange.main_arg2) = Layout.block ⟨2, ![8, 6784]⟩ ⟨2, ![64, 6784]⟩ 0 8 c (m' (((0 : Dev Cert.PairExchangeRef.nD).tc : Thread Cert.PairExchangeRef.nD Cert.PairExchangeRef.τ).loc Cert.PairExchangeRef.main_arg2))) →
    ∃ (v0 : Buf (Elt Bits) (((0 : Dev Cert.PairExchangeRef.nD).tc : Thread Cert.PairExchangeRef.nD Cert.PairExchangeRef.τ).loc Cert.PairExchangeRef.main_v8)) (v1 : Buf (Elt Bits) (((0 : Dev Cert.PairExchangeRef.nD).tc : Thread Cert.PairExchangeRef.nD Cert.PairExchangeRef.τ).loc Cert.PairExchangeRef.main_v12)) (v2 : Buf (Elt Bits) (((0 : Dev Cert.PairExchangeRef.nD).tc : Thread Cert.PairExchangeRef.nD Cert.PairExchangeRef.τ).loc Cert.PairExchangeRef.main_v16)) (v3 : Buf (Elt Bits) (((0 : Dev Cert.PairExchangeRef.nD).tc : Thread Cert.PairExchangeRef.nD Cert.PairExchangeRef.τ).loc Cert.PairExchangeRef.main_v20)) (v4 : Buf (Elt Bits) (((0 : Dev Cert.PairExchangeRef.nD).tc : Thread Cert.PairExchangeRef.nD Cert.PairExchangeRef.τ).loc Cert.PairExchangeRef.main_v4)),
      θ_run (Cert.PairExchange.defs (F := Bits)) (onTc (τ := Cert.PairExchange.τ) (Cert.PairExchange.main (F := Bits))) ⟨m, fun _ => 0, g⟩ (fun r => ∀ c : Dev Cert.PairExchange.nD,
          r.2.mem ((c.tc : Thread Cert.PairExchange.nD Cert.PairExchange.τ).loc Cert.PairExchange.main_v1_0) = Layout.block ⟨3, ![4, 512, 1284]⟩ ⟨3, ![32, 512, 1284]⟩ 0 8 c v0
          ∧ r.2.mem ((c.tc : Thread Cert.PairExchange.nD Cert.PairExchange.τ).loc Cert.PairExchange.main_v1_1) = Layout.block ⟨3, ![4, 256, 1024]⟩ ⟨3, ![32, 256, 1024]⟩ 0 8 c v1
          ∧ r.2.mem ((c.tc : Thread Cert.PairExchange.nD Cert.PairExchange.τ).loc Cert.PairExchange.main_v1_2) = Layout.block ⟨3, ![4, 512, 1284]⟩ ⟨3, ![32, 512, 1284]⟩ 0 8 c v2
          ∧ r.2.mem ((c.tc : Thread Cert.PairExchange.nD Cert.PairExchange.τ).loc Cert.PairExchange.main_v1_3) = Layout.block ⟨3, ![4, 256, 1024]⟩ ⟨3, ![32, 256, 1024]⟩ 0 8 c v3
          ∧ r.2.mem ((c.tc : Thread Cert.PairExchange.nD Cert.PairExchange.τ).loc Cert.PairExchange.main_v1_4) = Layout.block ⟨3, ![8, 8, 6784]⟩ ⟨3, ![64, 8, 6784]⟩ 0 8 c v4
          ∧ r.2.mem ((c.tc : Thread Cert.PairExchange.nD Cert.PairExchange.τ).loc Cert.PairExchange.main_arg0) = m ((c.tc : Thread Cert.PairExchange.nD Cert.PairExchange.τ).loc Cert.PairExchange.main_arg0)
          ∧ r.2.mem ((c.tc : Thread Cert.PairExchange.nD Cert.PairExchange.τ).loc Cert.PairExchange.main_arg1) = m ((c.tc : Thread Cert.PairExchange.nD Cert.PairExchange.τ).loc Cert.PairExchange.main_arg1)
          ∧ r.2.mem ((c.tc : Thread Cert.PairExchange.nD Cert.PairExchange.τ).loc Cert.PairExchange.main_arg2) = m ((c.tc : Thread Cert.PairExchange.nD Cert.PairExchange.τ).loc Cert.PairExchange.main_arg2))
      ∧ θ_run (Cert.PairExchangeRef.defs (F := Bits)) (onTc (τ := Cert.PairExchangeRef.τ) (Cert.PairExchangeRef.main (F := Bits))) ⟨m', fun _ => 0, g'⟩ (fun r =>
          r.2.mem (((0 : Dev Cert.PairExchangeRef.nD).tc : Thread Cert.PairExchangeRef.nD Cert.PairExchangeRef.τ).loc Cert.PairExchangeRef.main_v8) = v0
          ∧ r.2.mem (((0 : Dev Cert.PairExchangeRef.nD).tc : Thread Cert.PairExchangeRef.nD Cert.PairExchangeRef.τ).loc Cert.PairExchangeRef.main_v12) = v1
          ∧ r.2.mem (((0 : Dev Cert.PairExchangeRef.nD).tc : Thread Cert.PairExchangeRef.nD Cert.PairExchangeRef.τ).loc Cert.PairExchangeRef.main_v16) = v2
          ∧ r.2.mem (((0 : Dev Cert.PairExchangeRef.nD).tc : Thread Cert.PairExchangeRef.nD Cert.PairExchangeRef.τ).loc Cert.PairExchangeRef.main_v20) = v3
          ∧ r.2.mem (((0 : Dev Cert.PairExchangeRef.nD).tc : Thread Cert.PairExchangeRef.nD Cert.PairExchangeRef.τ).loc Cert.PairExchangeRef.main_v4) = v4
          ∧ r.2.mem (((0 : Dev Cert.PairExchangeRef.nD).tc : Thread Cert.PairExchangeRef.nD Cert.PairExchangeRef.τ).loc Cert.PairExchangeRef.main_arg0) = m' (((0 : Dev Cert.PairExchangeRef.nD).tc : Thread Cert.PairExchangeRef.nD Cert.PairExchangeRef.τ).loc Cert.PairExchangeRef.main_arg0)
          ∧ r.2.mem (((0 : Dev Cert.PairExchangeRef.nD).tc : Thread Cert.PairExchangeRef.nD Cert.PairExchangeRef.τ).loc Cert.PairExchangeRef.main_arg1) = m' (((0 : Dev Cert.PairExchangeRef.nD).tc : Thread Cert.PairExchangeRef.nD Cert.PairExchangeRef.τ).loc Cert.PairExchangeRef.main_arg1)
          ∧ r.2.mem (((0 : Dev Cert.PairExchangeRef.nD).tc : Thread Cert.PairExchangeRef.nD Cert.PairExchangeRef.τ).loc Cert.PairExchangeRef.main_arg2) = m' (((0 : Dev Cert.PairExchangeRef.nD).tc : Thread Cert.PairExchangeRef.nD Cert.PairExchangeRef.τ).loc Cert.PairExchangeRef.main_arg2))

def preserves_GatherWeights_GatherWeightsIdeal : Prop :=
  True

def algebraic_GatherWeightsIdeal_GatherWeightsRefIdeal [hGatherWeightsIdeal : Cert.GatherWeightsIdeal.Facts] [hGatherWeightsRefIdeal : Cert.GatherWeightsRefIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg)
    (m' : (ℓ : Loc Cert.GatherWeightsRefIdeal.nD Cert.GatherWeightsRefIdeal.τ Cert.GatherWeightsRefIdeal.sig) → Buf (Elt Ideal) ℓ) (g' : Dev Cert.GatherWeightsRefIdeal.nD → PrngReg), Pre_GatherWeightsIdeal m →
    (∀ c : Dev Cert.GatherWeightsIdeal.nD,
      m ((c.tc : Thread Cert.GatherWeightsIdeal.nD Cert.GatherWeightsIdeal.τ).loc Cert.GatherWeightsIdeal.main_arg0) = Layout.blockN ⟨2, ![1024, 1284]⟩ ⟨2, ![4096, 1284]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg0))
      ∧ m ((c.tc : Thread Cert.GatherWeightsIdeal.nD Cert.GatherWeightsIdeal.τ).loc Cert.GatherWeightsIdeal.main_arg1) = Layout.blockN ⟨2, ![512, 1024]⟩ ⟨2, ![2048, 1024]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg1))
      ∧ m ((c.tc : Thread Cert.GatherWeightsIdeal.nD Cert.GatherWeightsIdeal.τ).loc Cert.GatherWeightsIdeal.main_arg2) = Layout.blockN ⟨2, ![8, 384]⟩ ⟨2, ![32, 384]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg2))) →
    ∃ (v0 : Buf (Elt Ideal) (((0 : Dev Cert.GatherWeightsRefIdeal.nD).tc : Thread Cert.GatherWeightsRefIdeal.nD Cert.GatherWeightsRefIdeal.τ).loc Cert.GatherWeightsRefIdeal.main_v0)) (v1 : Buf (Elt Ideal) (((0 : Dev Cert.GatherWeightsRefIdeal.nD).tc : Thread Cert.GatherWeightsRefIdeal.nD Cert.GatherWeightsRefIdeal.τ).loc Cert.GatherWeightsRefIdeal.main_v1)) (v2 : Buf (Elt Ideal) (((0 : Dev Cert.GatherWeightsRefIdeal.nD).tc : Thread Cert.GatherWeightsRefIdeal.nD Cert.GatherWeightsRefIdeal.τ).loc Cert.GatherWeightsRefIdeal.main_v2)),
      θ_run (Cert.GatherWeightsIdeal.defs (F := Ideal)) (onTc (τ := Cert.GatherWeightsIdeal.τ) (Cert.GatherWeightsIdeal.main (F := Ideal))) ⟨m, fun _ => 0, g⟩ (fun r => ∀ c : Dev Cert.GatherWeightsIdeal.nD,
          r.2.mem ((c.tc : Thread Cert.GatherWeightsIdeal.nD Cert.GatherWeightsIdeal.τ).loc Cert.GatherWeightsIdeal.main_v1_0) = v0
          ∧ r.2.mem ((c.tc : Thread Cert.GatherWeightsIdeal.nD Cert.GatherWeightsIdeal.τ).loc Cert.GatherWeightsIdeal.main_v1_1) = v1
          ∧ r.2.mem ((c.tc : Thread Cert.GatherWeightsIdeal.nD Cert.GatherWeightsIdeal.τ).loc Cert.GatherWeightsIdeal.main_v1_2) = v2
          ∧ r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
          ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
          ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2))
      ∧ θ_run (Cert.GatherWeightsRefIdeal.defs (F := Ideal)) (onTc (τ := Cert.GatherWeightsRefIdeal.τ) (Cert.GatherWeightsRefIdeal.main (F := Ideal))) ⟨m', fun _ => 0, g'⟩ (fun r =>
          r.2.mem (((0 : Dev Cert.GatherWeightsRefIdeal.nD).tc : Thread Cert.GatherWeightsRefIdeal.nD Cert.GatherWeightsRefIdeal.τ).loc Cert.GatherWeightsRefIdeal.main_v0) = v0
          ∧ r.2.mem (((0 : Dev Cert.GatherWeightsRefIdeal.nD).tc : Thread Cert.GatherWeightsRefIdeal.nD Cert.GatherWeightsRefIdeal.τ).loc Cert.GatherWeightsRefIdeal.main_v1) = v1
          ∧ r.2.mem (((0 : Dev Cert.GatherWeightsRefIdeal.nD).tc : Thread Cert.GatherWeightsRefIdeal.nD Cert.GatherWeightsRefIdeal.τ).loc Cert.GatherWeightsRefIdeal.main_v2) = v2
          ∧ r.2.mem (((0 : Dev Cert.GatherWeightsRefIdeal.nD).tc : Thread Cert.GatherWeightsRefIdeal.nD Cert.GatherWeightsRefIdeal.τ).loc Cert.GatherWeightsRefIdeal.main_arg0) = m' (((0 : Dev Cert.GatherWeightsRefIdeal.nD).tc : Thread Cert.GatherWeightsRefIdeal.nD Cert.GatherWeightsRefIdeal.τ).loc Cert.GatherWeightsRefIdeal.main_arg0)
          ∧ r.2.mem (((0 : Dev Cert.GatherWeightsRefIdeal.nD).tc : Thread Cert.GatherWeightsRefIdeal.nD Cert.GatherWeightsRefIdeal.τ).loc Cert.GatherWeightsRefIdeal.main_arg1) = m' (((0 : Dev Cert.GatherWeightsRefIdeal.nD).tc : Thread Cert.GatherWeightsRefIdeal.nD Cert.GatherWeightsRefIdeal.τ).loc Cert.GatherWeightsRefIdeal.main_arg1)
          ∧ r.2.mem (((0 : Dev Cert.GatherWeightsRefIdeal.nD).tc : Thread Cert.GatherWeightsRefIdeal.nD Cert.GatherWeightsRefIdeal.τ).loc Cert.GatherWeightsRefIdeal.main_arg2) = m' (((0 : Dev Cert.GatherWeightsRefIdeal.nD).tc : Thread Cert.GatherWeightsRefIdeal.nD Cert.GatherWeightsRefIdeal.τ).loc Cert.GatherWeightsRefIdeal.main_arg2))

def bitexact_GatherWeights_GatherWeightsRef [hGatherWeights : Cert.GatherWeights.Facts] [hGatherWeightsRef : Cert.GatherWeightsRef.Facts] : Prop :=
  ∀ (m : (ℓ : Loc Cert.GatherWeights.nD Cert.GatherWeights.τ Cert.GatherWeights.sig) → Buf (Elt Bits) ℓ) (g : Dev Cert.GatherWeights.nD → PrngReg)
    (m' : (ℓ : Loc Cert.GatherWeightsRef.nD Cert.GatherWeightsRef.τ Cert.GatherWeightsRef.sig) → Buf (Elt Bits) ℓ) (g' : Dev Cert.GatherWeightsRef.nD → PrngReg), Pre_GatherWeights m →
    (∀ c : Dev Cert.GatherWeights.nD,
      m ((c.tc : Thread Cert.GatherWeights.nD Cert.GatherWeights.τ).loc Cert.GatherWeights.main_arg0) = Layout.blockN ⟨2, ![1024, 1284]⟩ ⟨2, ![4096, 1284]⟩ (Layout.meshBlock [2, 2, 2] ![[0, 1], []] c) (m' (((0 : Dev Cert.GatherWeightsRef.nD).tc : Thread Cert.GatherWeightsRef.nD Cert.GatherWeightsRef.τ).loc Cert.GatherWeightsRef.main_arg0))
      ∧ m ((c.tc : Thread Cert.GatherWeights.nD Cert.GatherWeights.τ).loc Cert.GatherWeights.main_arg1) = Layout.blockN ⟨2, ![512, 1024]⟩ ⟨2, ![2048, 1024]⟩ (Layout.meshBlock [2, 2, 2] ![[0, 1], []] c) (m' (((0 : Dev Cert.GatherWeightsRef.nD).tc : Thread Cert.GatherWeightsRef.nD Cert.GatherWeightsRef.τ).loc Cert.GatherWeightsRef.main_arg1))
      ∧ m ((c.tc : Thread Cert.GatherWeights.nD Cert.GatherWeights.τ).loc Cert.GatherWeights.main_arg2) = Layout.blockN ⟨2, ![8, 384]⟩ ⟨2, ![32, 384]⟩ (Layout.meshBlock [2, 2, 2] ![[0, 1], []] c) (m' (((0 : Dev Cert.GatherWeightsRef.nD).tc : Thread Cert.GatherWeightsRef.nD Cert.GatherWeightsRef.τ).loc Cert.GatherWeightsRef.main_arg2))) →
    ∃ (v0 : Buf (Elt Bits) (((0 : Dev Cert.GatherWeightsRef.nD).tc : Thread Cert.GatherWeightsRef.nD Cert.GatherWeightsRef.τ).loc Cert.GatherWeightsRef.main_v0)) (v1 : Buf (Elt Bits) (((0 : Dev Cert.GatherWeightsRef.nD).tc : Thread Cert.GatherWeightsRef.nD Cert.GatherWeightsRef.τ).loc Cert.GatherWeightsRef.main_v1)) (v2 : Buf (Elt Bits) (((0 : Dev Cert.GatherWeightsRef.nD).tc : Thread Cert.GatherWeightsRef.nD Cert.GatherWeightsRef.τ).loc Cert.GatherWeightsRef.main_v2)),
      θ_run (Cert.GatherWeights.defs (F := Bits)) (onTc (τ := Cert.GatherWeights.τ) (Cert.GatherWeights.main (F := Bits))) ⟨m, fun _ => 0, g⟩ (fun r => ∀ c : Dev Cert.GatherWeights.nD,
          r.2.mem ((c.tc : Thread Cert.GatherWeights.nD Cert.GatherWeights.τ).loc Cert.GatherWeights.main_v1_0) = v0
          ∧ r.2.mem ((c.tc : Thread Cert.GatherWeights.nD Cert.GatherWeights.τ).loc Cert.GatherWeights.main_v1_1) = v1
          ∧ r.2.mem ((c.tc : Thread Cert.GatherWeights.nD Cert.GatherWeights.τ).loc Cert.GatherWeights.main_v1_2) = v2
          ∧ r.2.mem ((c.tc : Thread Cert.GatherWeights.nD Cert.GatherWeights.τ).loc Cert.GatherWeights.main_arg0) = m ((c.tc : Thread Cert.GatherWeights.nD Cert.GatherWeights.τ).loc Cert.GatherWeights.main_arg0)
          ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
          ∧ r.2.mem ((c.tc : Thread Cert.GatherWeights.nD Cert.GatherWeights.τ).loc Cert.GatherWeights.main_arg2) = m ((c.tc : Thread Cert.GatherWeights.nD Cert.GatherWeights.τ).loc Cert.GatherWeights.main_arg2))
      ∧ θ_run (Cert.GatherWeightsRef.defs (F := Bits)) (onTc (τ := Cert.GatherWeightsRef.τ) (Cert.GatherWeightsRef.main (F := Bits))) ⟨m', fun _ => 0, g'⟩ (fun r =>
          r.2.mem (((0 : Dev Cert.GatherWeightsRef.nD).tc : Thread Cert.GatherWeightsRef.nD Cert.GatherWeightsRef.τ).loc Cert.GatherWeightsRef.main_v0) = v0
          ∧ r.2.mem (((0 : Dev Cert.GatherWeightsRef.nD).tc : Thread Cert.GatherWeightsRef.nD Cert.GatherWeightsRef.τ).loc Cert.GatherWeightsRef.main_v1) = v1
          ∧ r.2.mem (((0 : Dev Cert.GatherWeightsRef.nD).tc : Thread Cert.GatherWeightsRef.nD Cert.GatherWeightsRef.τ).loc Cert.GatherWeightsRef.main_v2) = v2
          ∧ r.2.mem (((0 : Dev Cert.GatherWeightsRef.nD).tc : Thread Cert.GatherWeightsRef.nD Cert.GatherWeightsRef.τ).loc Cert.GatherWeightsRef.main_arg0) = m' (((0 : Dev Cert.GatherWeightsRef.nD).tc : Thread Cert.GatherWeightsRef.nD Cert.GatherWeightsRef.τ).loc Cert.GatherWeightsRef.main_arg0)
          ∧ r.2.mem (((0 : Dev Cert.GatherWeightsRef.nD).tc : Thread Cert.GatherWeightsRef.nD Cert.GatherWeightsRef.τ).loc Cert.GatherWeightsRef.main_arg1) = m' (((0 : Dev Cert.GatherWeightsRef.nD).tc : Thread Cert.GatherWeightsRef.nD Cert.GatherWeightsRef.τ).loc Cert.GatherWeightsRef.main_arg1)
          ∧ r.2.mem (((0 : Dev Cert.GatherWeightsRef.nD).tc : Thread Cert.GatherWeightsRef.nD Cert.GatherWeightsRef.τ).loc Cert.GatherWeightsRef.main_arg2) = m' (((0 : Dev Cert.GatherWeightsRef.nD).tc : Thread Cert.GatherWeightsRef.nD Cert.GatherWeightsRef.τ).loc Cert.GatherWeightsRef.main_arg2))

def preserves_PairAddIn_PairAddInIdeal : Prop :=
  True

def algebraic_PairAddInIdeal_PairAddInRefIdeal [hPairAddInIdeal : Cert.PairAddInIdeal.Facts] [hPairAddInRefIdeal : Cert.PairAddInRefIdeal.Facts] : Prop :=
  ∀ (m : (ℓ : Loc Cert.PairAddInIdeal.nD Cert.PairAddInIdeal.τ Cert.PairAddInIdeal.sig) → Buf (Elt Ideal) ℓ) (g : Dev Cert.PairAddInIdeal.nD → PrngReg)
    (m' : (ℓ : Loc Cert.PairAddInRefIdeal.nD Cert.PairAddInRefIdeal.τ Cert.PairAddInRefIdeal.sig) → Buf (Elt Ideal) ℓ) (g' : Dev Cert.PairAddInRefIdeal.nD → PrngReg), Pre_PairAddInIdeal m →
    (∀ c : Dev Cert.PairAddInIdeal.nD,
      m' ((c.tc : Thread Cert.PairAddInRefIdeal.nD Cert.PairAddInRefIdeal.τ).loc Cert.PairAddInRefIdeal.main_arg0) = m ((c.tc : Thread Cert.PairAddInIdeal.nD Cert.PairAddInIdeal.τ).loc Cert.PairAddInIdeal.main_arg0)
      ∧ m' ((c.tc : Thread Cert.PairAddInRefIdeal.nD Cert.PairAddInRefIdeal.τ).loc Cert.PairAddInRefIdeal.main_arg1) = m ((c.tc : Thread Cert.PairAddInIdeal.nD Cert.PairAddInIdeal.τ).loc Cert.PairAddInIdeal.main_arg1)) →
    ∃ (v0 : (c : Dev Cert.PairAddInIdeal.nD) → Buf (Elt Ideal) ((c.tc : Thread Cert.PairAddInIdeal.nD Cert.PairAddInIdeal.τ).loc Cert.PairAddInIdeal.main_v0)),
      θ_run (Cert.PairAddInIdeal.defs (F := Ideal)) (onTc (τ := Cert.PairAddInIdeal.τ) (Cert.PairAddInIdeal.main (F := Ideal))) ⟨m, fun _ => 0, g⟩ (fun r => ∀ c : Dev Cert.PairAddInIdeal.nD,
          r.2.mem ((c.tc : Thread Cert.PairAddInIdeal.nD Cert.PairAddInIdeal.τ).loc Cert.PairAddInIdeal.main_v0) = v0 c
          ∧ r.2.mem ((c.tc : Thread Cert.PairAddInIdeal.nD Cert.PairAddInIdeal.τ).loc Cert.PairAddInIdeal.main_arg0) = m ((c.tc : Thread Cert.PairAddInIdeal.nD Cert.PairAddInIdeal.τ).loc Cert.PairAddInIdeal.main_arg0)
          ∧ r.2.mem ((c.tc : Thread Cert.PairAddInIdeal.nD Cert.PairAddInIdeal.τ).loc Cert.PairAddInIdeal.main_arg1) = m ((c.tc : Thread Cert.PairAddInIdeal.nD Cert.PairAddInIdeal.τ).loc Cert.PairAddInIdeal.main_arg1))
      ∧ θ_run (Cert.PairAddInRefIdeal.defs (F := Ideal)) (onTc (τ := Cert.PairAddInRefIdeal.τ) (Cert.PairAddInRefIdeal.main (F := Ideal))) ⟨m', fun _ => 0, g'⟩ (fun r => ∀ c : Dev Cert.PairAddInRefIdeal.nD,
          r.2.mem ((c.tc : Thread Cert.PairAddInRefIdeal.nD Cert.PairAddInRefIdeal.τ).loc Cert.PairAddInRefIdeal.main_v0) = v0 c
          ∧ r.2.mem ((c.tc : Thread Cert.PairAddInRefIdeal.nD Cert.PairAddInRefIdeal.τ).loc Cert.PairAddInRefIdeal.main_arg0) = m' ((c.tc : Thread Cert.PairAddInRefIdeal.nD Cert.PairAddInRefIdeal.τ).loc Cert.PairAddInRefIdeal.main_arg0)
          ∧ r.2.mem ((c.tc : Thread Cert.PairAddInRefIdeal.nD Cert.PairAddInRefIdeal.τ).loc Cert.PairAddInRefIdeal.main_arg1) = m' ((c.tc : Thread Cert.PairAddInRefIdeal.nD Cert.PairAddInRefIdeal.τ).loc Cert.PairAddInRefIdeal.main_arg1))

def bitexact_PairAddIn_PairAddInRef [hPairAddIn : Cert.PairAddIn.Facts] [hPairAddInRef : Cert.PairAddInRef.Facts] : Prop :=
  ∀ (m : (ℓ : Loc Cert.PairAddIn.nD Cert.PairAddIn.τ Cert.PairAddIn.sig) → Buf (Elt Bits) ℓ) (g : Dev Cert.PairAddIn.nD → PrngReg)
    (m' : (ℓ : Loc Cert.PairAddInRef.nD Cert.PairAddInRef.τ Cert.PairAddInRef.sig) → Buf (Elt Bits) ℓ) (g' : Dev Cert.PairAddInRef.nD → PrngReg), Pre_PairAddIn m →
    (∀ c : Dev Cert.PairAddIn.nD,
      m' ((c.tc : Thread Cert.PairAddInRef.nD Cert.PairAddInRef.τ).loc Cert.PairAddInRef.main_arg0) = m ((c.tc : Thread Cert.PairAddIn.nD Cert.PairAddIn.τ).loc Cert.PairAddIn.main_arg0)
      ∧ m' ((c.tc : Thread Cert.PairAddInRef.nD Cert.PairAddInRef.τ).loc Cert.PairAddInRef.main_arg1) = m ((c.tc : Thread Cert.PairAddIn.nD Cert.PairAddIn.τ).loc Cert.PairAddIn.main_arg1)) →
    ∃ (v0 : (c : Dev Cert.PairAddIn.nD) → Buf (Elt Bits) ((c.tc : Thread Cert.PairAddIn.nD Cert.PairAddIn.τ).loc Cert.PairAddIn.main_v0)),
      θ_run (Cert.PairAddIn.defs (F := Bits)) (onTc (τ := Cert.PairAddIn.τ) (Cert.PairAddIn.main (F := Bits))) ⟨m, fun _ => 0, g⟩ (fun r => ∀ c : Dev Cert.PairAddIn.nD,
          r.2.mem ((c.tc : Thread Cert.PairAddIn.nD Cert.PairAddIn.τ).loc Cert.PairAddIn.main_v0) = v0 c
          ∧ r.2.mem ((c.tc : Thread Cert.PairAddIn.nD Cert.PairAddIn.τ).loc Cert.PairAddIn.main_arg0) = m ((c.tc : Thread Cert.PairAddIn.nD Cert.PairAddIn.τ).loc Cert.PairAddIn.main_arg0)
          ∧ r.2.mem ((c.tc : Thread Cert.PairAddIn.nD Cert.PairAddIn.τ).loc Cert.PairAddIn.main_arg1) = m ((c.tc : Thread Cert.PairAddIn.nD Cert.PairAddIn.τ).loc Cert.PairAddIn.main_arg1))
      ∧ θ_run (Cert.PairAddInRef.defs (F := Bits)) (onTc (τ := Cert.PairAddInRef.τ) (Cert.PairAddInRef.main (F := Bits))) ⟨m', fun _ => 0, g'⟩ (fun r => ∀ c : Dev Cert.PairAddInRef.nD,
          r.2.mem ((c.tc : Thread Cert.PairAddInRef.nD Cert.PairAddInRef.τ).loc Cert.PairAddInRef.main_v0) = v0 c
          ∧ r.2.mem ((c.tc : Thread Cert.PairAddInRef.nD Cert.PairAddInRef.τ).loc Cert.PairAddInRef.main_arg0) = m' ((c.tc : Thread Cert.PairAddInRef.nD Cert.PairAddInRef.τ).loc Cert.PairAddInRef.main_arg0)
          ∧ r.2.mem ((c.tc : Thread Cert.PairAddInRef.nD Cert.PairAddInRef.τ).loc Cert.PairAddInRef.main_arg1) = m' ((c.tc : Thread Cert.PairAddInRef.nD Cert.PairAddInRef.τ).loc Cert.PairAddInRef.main_arg1))

def preserves_PairAddOut_PairAddOutIdeal : Prop :=
  True

def algebraic_PairAddOutIdeal_PairAddOutRefIdeal [hPairAddOutIdeal : Cert.PairAddOutIdeal.Facts] [hPairAddOutRefIdeal : Cert.PairAddOutRefIdeal.Facts] : Prop :=
  ∀ (m : (ℓ : Loc Cert.PairAddOutIdeal.nD Cert.PairAddOutIdeal.τ Cert.PairAddOutIdeal.sig) → Buf (Elt Ideal) ℓ) (g : Dev Cert.PairAddOutIdeal.nD → PrngReg)
    (m' : (ℓ : Loc Cert.PairAddOutRefIdeal.nD Cert.PairAddOutRefIdeal.τ Cert.PairAddOutRefIdeal.sig) → Buf (Elt Ideal) ℓ) (g' : Dev Cert.PairAddOutRefIdeal.nD → PrngReg), Pre_PairAddOutIdeal m →
    (∀ c : Dev Cert.PairAddOutIdeal.nD,
      m' ((c.tc : Thread Cert.PairAddOutRefIdeal.nD Cert.PairAddOutRefIdeal.τ).loc Cert.PairAddOutRefIdeal.main_arg0) = m ((c.tc : Thread Cert.PairAddOutIdeal.nD Cert.PairAddOutIdeal.τ).loc Cert.PairAddOutIdeal.main_arg0)
      ∧ m' ((c.tc : Thread Cert.PairAddOutRefIdeal.nD Cert.PairAddOutRefIdeal.τ).loc Cert.PairAddOutRefIdeal.main_arg1) = m ((c.tc : Thread Cert.PairAddOutIdeal.nD Cert.PairAddOutIdeal.τ).loc Cert.PairAddOutIdeal.main_arg1)) →
    ∃ (v0 : (c : Dev Cert.PairAddOutIdeal.nD) → Buf (Elt Ideal) ((c.tc : Thread Cert.PairAddOutIdeal.nD Cert.PairAddOutIdeal.τ).loc Cert.PairAddOutIdeal.main_v0)),
      θ_run (Cert.PairAddOutIdeal.defs (F := Ideal)) (onTc (τ := Cert.PairAddOutIdeal.τ) (Cert.PairAddOutIdeal.main (F := Ideal))) ⟨m, fun _ => 0, g⟩ (fun r => ∀ c : Dev Cert.PairAddOutIdeal.nD,
          r.2.mem ((c.tc : Thread Cert.PairAddOutIdeal.nD Cert.PairAddOutIdeal.τ).loc Cert.PairAddOutIdeal.main_v0) = v0 c
          ∧ r.2.mem ((c.tc : Thread Cert.PairAddOutIdeal.nD Cert.PairAddOutIdeal.τ).loc Cert.PairAddOutIdeal.main_arg0) = m ((c.tc : Thread Cert.PairAddOutIdeal.nD Cert.PairAddOutIdeal.τ).loc Cert.PairAddOutIdeal.main_arg0)
          ∧ r.2.mem ((c.tc : Thread Cert.PairAddOutIdeal.nD Cert.PairAddOutIdeal.τ).loc Cert.PairAddOutIdeal.main_arg1) = m ((c.tc : Thread Cert.PairAddOutIdeal.nD Cert.PairAddOutIdeal.τ).loc Cert.PairAddOutIdeal.main_arg1))
      ∧ θ_run (Cert.PairAddOutRefIdeal.defs (F := Ideal)) (onTc (τ := Cert.PairAddOutRefIdeal.τ) (Cert.PairAddOutRefIdeal.main (F := Ideal))) ⟨m', fun _ => 0, g'⟩ (fun r => ∀ c : Dev Cert.PairAddOutRefIdeal.nD,
          r.2.mem ((c.tc : Thread Cert.PairAddOutRefIdeal.nD Cert.PairAddOutRefIdeal.τ).loc Cert.PairAddOutRefIdeal.main_v0) = v0 c
          ∧ r.2.mem ((c.tc : Thread Cert.PairAddOutRefIdeal.nD Cert.PairAddOutRefIdeal.τ).loc Cert.PairAddOutRefIdeal.main_arg0) = m' ((c.tc : Thread Cert.PairAddOutRefIdeal.nD Cert.PairAddOutRefIdeal.τ).loc Cert.PairAddOutRefIdeal.main_arg0)
          ∧ r.2.mem ((c.tc : Thread Cert.PairAddOutRefIdeal.nD Cert.PairAddOutRefIdeal.τ).loc Cert.PairAddOutRefIdeal.main_arg1) = m' ((c.tc : Thread Cert.PairAddOutRefIdeal.nD Cert.PairAddOutRefIdeal.τ).loc Cert.PairAddOutRefIdeal.main_arg1))

def bitexact_PairAddOut_PairAddOutRef [hPairAddOut : Cert.PairAddOut.Facts] [hPairAddOutRef : Cert.PairAddOutRef.Facts] : Prop :=
  ∀ (m : (ℓ : Loc Cert.PairAddOut.nD Cert.PairAddOut.τ Cert.PairAddOut.sig) → Buf (Elt Bits) ℓ) (g : Dev Cert.PairAddOut.nD → PrngReg)
    (m' : (ℓ : Loc Cert.PairAddOutRef.nD Cert.PairAddOutRef.τ Cert.PairAddOutRef.sig) → Buf (Elt Bits) ℓ) (g' : Dev Cert.PairAddOutRef.nD → PrngReg), Pre_PairAddOut m →
    (∀ c : Dev Cert.PairAddOut.nD,
      m' ((c.tc : Thread Cert.PairAddOutRef.nD Cert.PairAddOutRef.τ).loc Cert.PairAddOutRef.main_arg0) = m ((c.tc : Thread Cert.PairAddOut.nD Cert.PairAddOut.τ).loc Cert.PairAddOut.main_arg0)
      ∧ m' ((c.tc : Thread Cert.PairAddOutRef.nD Cert.PairAddOutRef.τ).loc Cert.PairAddOutRef.main_arg1) = m ((c.tc : Thread Cert.PairAddOut.nD Cert.PairAddOut.τ).loc Cert.PairAddOut.main_arg1)) →
    ∃ (v0 : (c : Dev Cert.PairAddOut.nD) → Buf (Elt Bits) ((c.tc : Thread Cert.PairAddOut.nD Cert.PairAddOut.τ).loc Cert.PairAddOut.main_v0)),
      θ_run (Cert.PairAddOut.defs (F := Bits)) (onTc (τ := Cert.PairAddOut.τ) (Cert.PairAddOut.main (F := Bits))) ⟨m, fun _ => 0, g⟩ (fun r => ∀ c : Dev Cert.PairAddOut.nD,
          r.2.mem ((c.tc : Thread Cert.PairAddOut.nD Cert.PairAddOut.τ).loc Cert.PairAddOut.main_v0) = v0 c
          ∧ r.2.mem ((c.tc : Thread Cert.PairAddOut.nD Cert.PairAddOut.τ).loc Cert.PairAddOut.main_arg0) = m ((c.tc : Thread Cert.PairAddOut.nD Cert.PairAddOut.τ).loc Cert.PairAddOut.main_arg0)
          ∧ r.2.mem ((c.tc : Thread Cert.PairAddOut.nD Cert.PairAddOut.τ).loc Cert.PairAddOut.main_arg1) = m ((c.tc : Thread Cert.PairAddOut.nD Cert.PairAddOut.τ).loc Cert.PairAddOut.main_arg1))
      ∧ θ_run (Cert.PairAddOutRef.defs (F := Bits)) (onTc (τ := Cert.PairAddOutRef.τ) (Cert.PairAddOutRef.main (F := Bits))) ⟨m', fun _ => 0, g'⟩ (fun r => ∀ c : Dev Cert.PairAddOutRef.nD,
          r.2.mem ((c.tc : Thread Cert.PairAddOutRef.nD Cert.PairAddOutRef.τ).loc Cert.PairAddOutRef.main_v0) = v0 c
          ∧ r.2.mem ((c.tc : Thread Cert.PairAddOutRef.nD Cert.PairAddOutRef.τ).loc Cert.PairAddOutRef.main_arg0) = m' ((c.tc : Thread Cert.PairAddOutRef.nD Cert.PairAddOutRef.τ).loc Cert.PairAddOutRef.main_arg0)
          ∧ r.2.mem ((c.tc : Thread Cert.PairAddOutRef.nD Cert.PairAddOutRef.τ).loc Cert.PairAddOutRef.main_arg1) = m' ((c.tc : Thread Cert.PairAddOutRef.nD Cert.PairAddOutRef.τ).loc Cert.PairAddOutRef.main_arg1))

def preserves_ChipAddIn_ChipAddInIdeal : Prop :=
  True

def algebraic_ChipAddInIdeal_ChipAddInRefIdeal [hChipAddInIdeal : Cert.ChipAddInIdeal.Facts] [hChipAddInRefIdeal : Cert.ChipAddInRefIdeal.Facts] : Prop :=
  ∀ (m : (ℓ : Loc Cert.ChipAddInIdeal.nD Cert.ChipAddInIdeal.τ Cert.ChipAddInIdeal.sig) → Buf (Elt Ideal) ℓ) (g : Dev Cert.ChipAddInIdeal.nD → PrngReg)
    (m' : (ℓ : Loc Cert.ChipAddInRefIdeal.nD Cert.ChipAddInRefIdeal.τ Cert.ChipAddInRefIdeal.sig) → Buf (Elt Ideal) ℓ) (g' : Dev Cert.ChipAddInRefIdeal.nD → PrngReg), Pre_ChipAddInIdeal m →
    (∀ c : Dev Cert.ChipAddInIdeal.nD,
      m' ((c.tc : Thread Cert.ChipAddInRefIdeal.nD Cert.ChipAddInRefIdeal.τ).loc Cert.ChipAddInRefIdeal.main_arg0) = m ((c.tc : Thread Cert.ChipAddInIdeal.nD Cert.ChipAddInIdeal.τ).loc Cert.ChipAddInIdeal.main_arg0)) →
    ∃ (v0 : (c : Dev Cert.ChipAddInIdeal.nD) → Buf (Elt Ideal) ((c.tc : Thread Cert.ChipAddInIdeal.nD Cert.ChipAddInIdeal.τ).loc Cert.ChipAddInIdeal.main_v0)),
      θ_run (Cert.ChipAddInIdeal.defs (F := Ideal)) (onTc (τ := Cert.ChipAddInIdeal.τ) (Cert.ChipAddInIdeal.main (F := Ideal))) ⟨m, fun _ => 0, g⟩ (fun r => ∀ c : Dev Cert.ChipAddInIdeal.nD,
          r.2.mem ((c.tc : Thread Cert.ChipAddInIdeal.nD Cert.ChipAddInIdeal.τ).loc Cert.ChipAddInIdeal.main_v0) = v0 c
          ∧ r.2.mem ((c.tc : Thread Cert.ChipAddInIdeal.nD Cert.ChipAddInIdeal.τ).loc Cert.ChipAddInIdeal.main_arg0) = m ((c.tc : Thread Cert.ChipAddInIdeal.nD Cert.ChipAddInIdeal.τ).loc Cert.ChipAddInIdeal.main_arg0))
      ∧ θ_run (Cert.ChipAddInRefIdeal.defs (F := Ideal)) (onTc (τ := Cert.ChipAddInRefIdeal.τ) (Cert.ChipAddInRefIdeal.main (F := Ideal))) ⟨m', fun _ => 0, g'⟩ (fun r => ∀ c : Dev Cert.ChipAddInRefIdeal.nD,
          r.2.mem ((c.tc : Thread Cert.ChipAddInRefIdeal.nD Cert.ChipAddInRefIdeal.τ).loc Cert.ChipAddInRefIdeal.main_v0) = v0 c
          ∧ r.2.mem ((c.tc : Thread Cert.ChipAddInRefIdeal.nD Cert.ChipAddInRefIdeal.τ).loc Cert.ChipAddInRefIdeal.main_arg0) = m' ((c.tc : Thread Cert.ChipAddInRefIdeal.nD Cert.ChipAddInRefIdeal.τ).loc Cert.ChipAddInRefIdeal.main_arg0))

def preserves_ChipAddOut_ChipAddOutIdeal : Prop :=
  True

def algebraic_ChipAddOutIdeal_ChipAddOutRefIdeal [hChipAddOutIdeal : Cert.ChipAddOutIdeal.Facts] [hChipAddOutRefIdeal : Cert.ChipAddOutRefIdeal.Facts] : Prop :=
  ∀ (m : (ℓ : Loc Cert.ChipAddOutIdeal.nD Cert.ChipAddOutIdeal.τ Cert.ChipAddOutIdeal.sig) → Buf (Elt Ideal) ℓ) (g : Dev Cert.ChipAddOutIdeal.nD → PrngReg)
    (m' : (ℓ : Loc Cert.ChipAddOutRefIdeal.nD Cert.ChipAddOutRefIdeal.τ Cert.ChipAddOutRefIdeal.sig) → Buf (Elt Ideal) ℓ) (g' : Dev Cert.ChipAddOutRefIdeal.nD → PrngReg), Pre_ChipAddOutIdeal m →
    (∀ c : Dev Cert.ChipAddOutIdeal.nD,
      m' ((c.tc : Thread Cert.ChipAddOutRefIdeal.nD Cert.ChipAddOutRefIdeal.τ).loc Cert.ChipAddOutRefIdeal.main_arg0) = m ((c.tc : Thread Cert.ChipAddOutIdeal.nD Cert.ChipAddOutIdeal.τ).loc Cert.ChipAddOutIdeal.main_arg0)) →
    ∃ (v0 : (c : Dev Cert.ChipAddOutIdeal.nD) → Buf (Elt Ideal) ((c.tc : Thread Cert.ChipAddOutIdeal.nD Cert.ChipAddOutIdeal.τ).loc Cert.ChipAddOutIdeal.main_v0)),
      θ_run (Cert.ChipAddOutIdeal.defs (F := Ideal)) (onTc (τ := Cert.ChipAddOutIdeal.τ) (Cert.ChipAddOutIdeal.main (F := Ideal))) ⟨m, fun _ => 0, g⟩ (fun r => ∀ c : Dev Cert.ChipAddOutIdeal.nD,
          r.2.mem ((c.tc : Thread Cert.ChipAddOutIdeal.nD Cert.ChipAddOutIdeal.τ).loc Cert.ChipAddOutIdeal.main_v0) = v0 c
          ∧ r.2.mem ((c.tc : Thread Cert.ChipAddOutIdeal.nD Cert.ChipAddOutIdeal.τ).loc Cert.ChipAddOutIdeal.main_arg0) = m ((c.tc : Thread Cert.ChipAddOutIdeal.nD Cert.ChipAddOutIdeal.τ).loc Cert.ChipAddOutIdeal.main_arg0))
      ∧ θ_run (Cert.ChipAddOutRefIdeal.defs (F := Ideal)) (onTc (τ := Cert.ChipAddOutRefIdeal.τ) (Cert.ChipAddOutRefIdeal.main (F := Ideal))) ⟨m', fun _ => 0, g'⟩ (fun r => ∀ c : Dev Cert.ChipAddOutRefIdeal.nD,
          r.2.mem ((c.tc : Thread Cert.ChipAddOutRefIdeal.nD Cert.ChipAddOutRefIdeal.τ).loc Cert.ChipAddOutRefIdeal.main_v0) = v0 c
          ∧ r.2.mem ((c.tc : Thread Cert.ChipAddOutRefIdeal.nD Cert.ChipAddOutRefIdeal.τ).loc Cert.ChipAddOutRefIdeal.main_arg0) = m' ((c.tc : Thread Cert.ChipAddOutRefIdeal.nD Cert.ChipAddOutRefIdeal.τ).loc Cert.ChipAddOutRefIdeal.main_arg0))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v23) = v0 c
          ∧ r.2.mem ((c.tc : Thread Cert.AdamwInRefIdeal.nD Cert.AdamwInRefIdeal.τ).loc Cert.AdamwInRefIdeal.main_v4) = v1 c
          ∧ r.2.mem ((c.tc : Thread Cert.AdamwInRefIdeal.nD Cert.AdamwInRefIdeal.τ).loc Cert.AdamwInRefIdeal.main_v10) = v2 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v23) = v0 c
          ∧ r.2.mem ((c.tc : Thread Cert.AdamwOutRefIdeal.nD Cert.AdamwOutRefIdeal.τ).loc Cert.AdamwOutRefIdeal.main_v4) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)) (v6 : (c : Dev Cert.InProjIdeal.nD) → Buf (Elt Ideal) ((c.tc : Thread Cert.InProjIdeal.nD Cert.InProjIdeal.τ).loc Cert.InProjIdeal.main_v0_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_v0_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_v3) = v1 c
          ∧ r.2.mem ((c.tc : Thread Cert.InProjRefIdeal.nD Cert.InProjRefIdeal.τ).loc Cert.InProjRefIdeal.main_v4) = v2 c
          ∧ r.2.mem ((c.tc : Thread Cert.InProjRefIdeal.nD Cert.InProjRefIdeal.τ).loc Cert.InProjRefIdeal.main_v5) = v3 c
          ∧ r.2.mem ((c.tc : Thread Cert.InProjRefIdeal.nD Cert.InProjRefIdeal.τ).loc Cert.InProjRefIdeal.main_v6) = v4 c
          ∧ r.2.mem ((c.tc : Thread Cert.InProjRefIdeal.nD Cert.InProjRefIdeal.τ).loc Cert.InProjRefIdeal.main_v7) = v5 c
          ∧ r.2.mem ((c.tc : Thread Cert.InProjRefIdeal.nD Cert.InProjRefIdeal.τ).loc Cert.InProjRefIdeal.main_v8) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)
      ∧ m' ((c.tc : Thread Cert.GradXRefIdeal.nD Cert.GradXRefIdeal.τ).loc Cert.GradXRefIdeal.main_arg3) = m ((c.tc : Thread Cert.GradXIdeal.nD Cert.GradXIdeal.τ).loc Cert.GradXIdeal.main_arg3)
      ∧ m' ((c.tc : Thread Cert.GradXRefIdeal.nD Cert.GradXRefIdeal.τ).loc Cert.GradXRefIdeal.main_arg4) = m ((c.tc : Thread Cert.GradXIdeal.nD Cert.GradXIdeal.τ).loc Cert.GradXIdeal.main_arg4)
      ∧ m' ((c.tc : Thread Cert.GradXRefIdeal.nD Cert.GradXRefIdeal.τ).loc Cert.GradXRefIdeal.main_arg5) = m ((c.tc : Thread Cert.GradXIdeal.nD Cert.GradXIdeal.τ).loc Cert.GradXIdeal.main_arg5)
      ∧ m' ((c.tc : Thread Cert.GradXRefIdeal.nD Cert.GradXRefIdeal.τ).loc Cert.GradXRefIdeal.main_arg6) = m ((c.tc : Thread Cert.GradXIdeal.nD Cert.GradXIdeal.τ).loc Cert.GradXIdeal.main_arg6)
      ∧ m' ((c.tc : Thread Cert.GradXRefIdeal.nD Cert.GradXRefIdeal.τ).loc Cert.GradXRefIdeal.main_arg7) = m ((c.tc : Thread Cert.GradXIdeal.nD Cert.GradXIdeal.τ).loc Cert.GradXIdeal.main_arg7)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4)
          ∧ r.2.mem ((c.tc : Thread Cert.GradXIdeal.nD Cert.GradXIdeal.τ).loc Cert.GradXIdeal.main_arg5) = m ((c.tc : Thread Cert.GradXIdeal.nD Cert.GradXIdeal.τ).loc Cert.GradXIdeal.main_arg5)
          ∧ r.2.mem ((c.tc : Thread Cert.GradXIdeal.nD Cert.GradXIdeal.τ).loc Cert.GradXIdeal.main_arg6) = m ((c.tc : Thread Cert.GradXIdeal.nD Cert.GradXIdeal.τ).loc Cert.GradXIdeal.main_arg6)
          ∧ r.2.mem ((c.tc : Thread Cert.GradXIdeal.nD Cert.GradXIdeal.τ).loc Cert.GradXIdeal.main_arg7) = m ((c.tc : Thread Cert.GradXIdeal.nD Cert.GradXIdeal.τ).loc Cert.GradXIdeal.main_arg7))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v5) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2)
          ∧ r.2.mem ((c.tc : Thread Cert.GradXRefIdeal.nD Cert.GradXRefIdeal.τ).loc Cert.GradXRefIdeal.main_arg3) = m' ((c.tc : Thread Cert.GradXRefIdeal.nD Cert.GradXRefIdeal.τ).loc Cert.GradXRefIdeal.main_arg3)
          ∧ r.2.mem ((c.tc : Thread Cert.GradXRefIdeal.nD Cert.GradXRefIdeal.τ).loc Cert.GradXRefIdeal.main_arg4) = m' ((c.tc : Thread Cert.GradXRefIdeal.nD Cert.GradXRefIdeal.τ).loc Cert.GradXRefIdeal.main_arg4)
          ∧ r.2.mem ((c.tc : Thread Cert.GradXRefIdeal.nD Cert.GradXRefIdeal.τ).loc Cert.GradXRefIdeal.main_arg5) = m' ((c.tc : Thread Cert.GradXRefIdeal.nD Cert.GradXRefIdeal.τ).loc Cert.GradXRefIdeal.main_arg5)
          ∧ r.2.mem ((c.tc : Thread Cert.GradXRefIdeal.nD Cert.GradXRefIdeal.τ).loc Cert.GradXRefIdeal.main_arg6) = m' ((c.tc : Thread Cert.GradXRefIdeal.nD Cert.GradXRefIdeal.τ).loc Cert.GradXRefIdeal.main_arg6)
          ∧ r.2.mem ((c.tc : Thread Cert.GradXRefIdeal.nD Cert.GradXRefIdeal.τ).loc Cert.GradXRefIdeal.main_arg7) = m' ((c.tc : Thread Cert.GradXRefIdeal.nD Cert.GradXRefIdeal.τ).loc Cert.GradXRefIdeal.main_arg7))

def preserves_GradWOut_GradWOutIdeal : Prop :=
  True

def algebraic_GradWOutIdeal_GradWOutRefIdeal [hGradWOutIdeal : Cert.GradWOutIdeal.Facts] [hGradWOutRefIdeal : Cert.GradWOutRefIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.GradWOutRefIdeal.nD Cert.GradWOutRefIdeal.τ Cert.GradWOutRefIdeal.sig) → Buf (Elt Ideal) ℓ) (g' : Dev Cert.GradWOutRefIdeal.nD → PrngReg), Pre_GradWOutIdeal m →
    (∀ c : Dev Cert.GradWOutIdeal.nD,
      m' ((c.tc : Thread Cert.GradWOutRefIdeal.nD Cert.GradWOutRefIdeal.τ).loc Cert.GradWOutRefIdeal.main_arg0) = m ((c.tc : Thread Cert.GradWOutIdeal.nD Cert.GradWOutIdeal.τ).loc Cert.GradWOutIdeal.main_arg0)
      ∧ m' ((c.tc : Thread Cert.GradWOutRefIdeal.nD Cert.GradWOutRefIdeal.τ).loc Cert.GradWOutRefIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.GradWOutRefIdeal.defs (F := Ideal)) (onTc (τ := Cert.GradWOutRefIdeal.τ) (Cert.GradWOutRefIdeal.main (F := Ideal))) ⟨m', fun _ => 0, g'⟩ (fun r => ∀ c : Dev Cert.GradWOutRefIdeal.nD,
          r.2.mem ((c.tc : Thread Cert.GradWOutRefIdeal.nD Cert.GradWOutRefIdeal.τ).loc Cert.GradWOutRefIdeal.main_v0) = v0 c
          ∧ r.2.mem ((c.tc : Thread Cert.GradWOutRefIdeal.nD Cert.GradWOutRefIdeal.τ).loc Cert.GradWOutRefIdeal.main_arg0) = m' ((c.tc : Thread Cert.GradWOutRefIdeal.nD Cert.GradWOutRefIdeal.τ).loc Cert.GradWOutRefIdeal.main_arg0)
          ∧ r.2.mem ((c.tc : Thread Cert.GradWOutRefIdeal.nD Cert.GradWOutRefIdeal.τ).loc Cert.GradWOutRefIdeal.main_arg1) = m' ((c.tc : Thread Cert.GradWOutRefIdeal.nD Cert.GradWOutRefIdeal.τ).loc Cert.GradWOutRefIdeal.main_arg1))

def preserves_GradWZ_GradWZIdeal : Prop :=
  True

def algebraic_GradWZIdeal_GradWZRefIdeal [hGradWZIdeal : Cert.GradWZIdeal.Facts] [hGradWZRefIdeal : Cert.GradWZRefIdeal.Facts] : Prop :=
  ∀ (m : (ℓ : Loc Cert.GradWZIdeal.nD Cert.GradWZIdeal.τ Cert.GradWZIdeal.sig) → Buf (Elt Ideal) ℓ) (g : Dev Cert.GradWZIdeal.nD → PrngReg)
    (m' : (ℓ : Loc Cert.GradWZRefIdeal.nD Cert.GradWZRefIdeal.τ Cert.GradWZRefIdeal.sig) → Buf (Elt Ideal) ℓ) (g' : Dev Cert.GradWZRefIdeal.nD → PrngReg), Pre_GradWZIdeal m →
    (∀ c : Dev Cert.GradWZIdeal.nD,
      m' ((c.tc : Thread Cert.GradWZRefIdeal.nD Cert.GradWZRefIdeal.τ).loc Cert.GradWZRefIdeal.main_arg0) = m ((c.tc : Thread Cert.GradWZIdeal.nD Cert.GradWZIdeal.τ).loc Cert.GradWZIdeal.main_arg0)
      ∧ m' ((c.tc : Thread Cert.GradWZRefIdeal.nD Cert.GradWZRefIdeal.τ).loc Cert.GradWZRefIdeal.main_arg1) = m ((c.tc : Thread Cert.GradWZIdeal.nD Cert.GradWZIdeal.τ).loc Cert.GradWZIdeal.main_arg1)) →
    ∃ (v0 : (c : Dev Cert.GradWZIdeal.nD) → Buf (Elt Ideal) ((c.tc : Thread Cert.GradWZIdeal.nD Cert.GradWZIdeal.τ).loc Cert.GradWZIdeal.main_v0)),
      θ_run (Cert.GradWZIdeal.defs (F := Ideal)) (onTc (τ := Cert.GradWZIdeal.τ) (Cert.GradWZIdeal.main (F := Ideal))) ⟨m, fun _ => 0, g⟩ (fun r => ∀ c : Dev Cert.GradWZIdeal.nD,
          r.2.mem ((c.tc : Thread Cert.GradWZIdeal.nD Cert.GradWZIdeal.τ).loc Cert.GradWZIdeal.main_v0) = v0 c
          ∧ r.2.mem ((c.tc : Thread Cert.GradWZIdeal.nD Cert.GradWZIdeal.τ).loc Cert.GradWZIdeal.main_arg0) = m ((c.tc : Thread Cert.GradWZIdeal.nD Cert.GradWZIdeal.τ).loc Cert.GradWZIdeal.main_arg0)
          ∧ r.2.mem ((c.tc : Thread Cert.GradWZIdeal.nD Cert.GradWZIdeal.τ).loc Cert.GradWZIdeal.main_arg1) = m ((c.tc : Thread Cert.GradWZIdeal.nD Cert.GradWZIdeal.τ).loc Cert.GradWZIdeal.main_arg1))
      ∧ θ_run (Cert.GradWZRefIdeal.defs (F := Ideal)) (onTc (τ := Cert.GradWZRefIdeal.τ) (Cert.GradWZRefIdeal.main (F := Ideal))) ⟨m', fun _ => 0, g'⟩ (fun r => ∀ c : Dev Cert.GradWZRefIdeal.nD,
          r.2.mem ((c.tc : Thread Cert.GradWZRefIdeal.nD Cert.GradWZRefIdeal.τ).loc Cert.GradWZRefIdeal.main_v1) = v0 c
          ∧ r.2.mem ((c.tc : Thread Cert.GradWZRefIdeal.nD Cert.GradWZRefIdeal.τ).loc Cert.GradWZRefIdeal.main_arg0) = m' ((c.tc : Thread Cert.GradWZRefIdeal.nD Cert.GradWZRefIdeal.τ).loc Cert.GradWZRefIdeal.main_arg0)
          ∧ r.2.mem ((c.tc : Thread Cert.GradWZRefIdeal.nD Cert.GradWZRefIdeal.τ).loc Cert.GradWZRefIdeal.main_arg1) = m' ((c.tc : Thread Cert.GradWZRefIdeal.nD Cert.GradWZRefIdeal.τ).loc Cert.GradWZRefIdeal.main_arg1))

def preserves_GradWXbc_GradWXbcIdeal : Prop :=
  True

def algebraic_GradWXbcIdeal_GradWXbcRefIdeal [hGradWXbcIdeal : Cert.GradWXbcIdeal.Facts] [hGradWXbcRefIdeal : Cert.GradWXbcRefIdeal.Facts] : Prop :=
  ∀ (m : (ℓ : Loc Cert.GradWXbcIdeal.nD Cert.GradWXbcIdeal.τ Cert.GradWXbcIdeal.sig) → Buf (Elt Ideal) ℓ) (g : Dev Cert.GradWXbcIdeal.nD → PrngReg)
    (m' : (ℓ : Loc Cert.GradWXbcRefIdeal.nD Cert.GradWXbcRefIdeal.τ Cert.GradWXbcRefIdeal.sig) → Buf (Elt Ideal) ℓ) (g' : Dev Cert.GradWXbcRefIdeal.nD → PrngReg), Pre_GradWXbcIdeal m →
    (∀ c : Dev Cert.GradWXbcIdeal.nD,
      m' ((c.tc : Thread Cert.GradWXbcRefIdeal.nD Cert.GradWXbcRefIdeal.τ).loc Cert.GradWXbcRefIdeal.main_arg0) = m ((c.tc : Thread Cert.GradWXbcIdeal.nD Cert.GradWXbcIdeal.τ).loc Cert.GradWXbcIdeal.main_arg0)
      ∧ m' ((c.tc : Thread Cert.GradWXbcRefIdeal.nD Cert.GradWXbcRefIdeal.τ).loc Cert.GradWXbcRefIdeal.main_arg1) = m ((c.tc : Thread Cert.GradWXbcIdeal.nD Cert.GradWXbcIdeal.τ).loc Cert.GradWXbcIdeal.main_arg1)) →
    ∃ (v0 : (c : Dev Cert.GradWXbcIdeal.nD) → Buf (Elt Ideal) ((c.tc : Thread Cert.GradWXbcIdeal.nD Cert.GradWXbcIdeal.τ).loc Cert.GradWXbcIdeal.main_v0)),
      θ_run (Cert.GradWXbcIdeal.defs (F := Ideal)) (onTc (τ := Cert.GradWXbcIdeal.τ) (Cert.GradWXbcIdeal.main (F := Ideal))) ⟨m, fun _ => 0, g⟩ (fun r => ∀ c : Dev Cert.GradWXbcIdeal.nD,
          r.2.mem ((c.tc : Thread Cert.GradWXbcIdeal.nD Cert.GradWXbcIdeal.τ).loc Cert.GradWXbcIdeal.main_v0) = v0 c
          ∧ r.2.mem ((c.tc : Thread Cert.GradWXbcIdeal.nD Cert.GradWXbcIdeal.τ).loc Cert.GradWXbcIdeal.main_arg0) = m ((c.tc : Thread Cert.GradWXbcIdeal.nD Cert.GradWXbcIdeal.τ).loc Cert.GradWXbcIdeal.main_arg0)
          ∧ r.2.mem ((c.tc : Thread Cert.GradWXbcIdeal.nD Cert.GradWXbcIdeal.τ).loc Cert.GradWXbcIdeal.main_arg1) = m ((c.tc : Thread Cert.GradWXbcIdeal.nD Cert.GradWXbcIdeal.τ).loc Cert.GradWXbcIdeal.main_arg1))
      ∧ θ_run (Cert.GradWXbcRefIdeal.defs (F := Ideal)) (onTc (τ := Cert.GradWXbcRefIdeal.τ) (Cert.GradWXbcRefIdeal.main (F := Ideal))) ⟨m', fun _ => 0, g'⟩ (fun r => ∀ c : Dev Cert.GradWXbcRefIdeal.nD,
          r.2.mem ((c.tc : Thread Cert.GradWXbcRefIdeal.nD Cert.GradWXbcRefIdeal.τ).loc Cert.GradWXbcRefIdeal.main_v1) = v0 c
          ∧ r.2.mem ((c.tc : Thread Cert.GradWXbcRefIdeal.nD Cert.GradWXbcRefIdeal.τ).loc Cert.GradWXbcRefIdeal.main_arg0) = m' ((c.tc : Thread Cert.GradWXbcRefIdeal.nD Cert.GradWXbcRefIdeal.τ).loc Cert.GradWXbcRefIdeal.main_arg0)
          ∧ r.2.mem ((c.tc : Thread Cert.GradWXbcRefIdeal.nD Cert.GradWXbcRefIdeal.τ).loc Cert.GradWXbcRefIdeal.main_arg1) = m' ((c.tc : Thread Cert.GradWXbcRefIdeal.nD Cert.GradWXbcRefIdeal.τ).loc Cert.GradWXbcRefIdeal.main_arg1))

def preserves_GradWKv_GradWKvIdeal : Prop :=
  True

def algebraic_GradWKvIdeal_GradWKvRefIdeal [hGradWKvIdeal : Cert.GradWKvIdeal.Facts] [hGradWKvRefIdeal : Cert.GradWKvRefIdeal.Facts] : Prop :=
  ∀ (m : (ℓ : Loc Cert.GradWKvIdeal.nD Cert.GradWKvIdeal.τ Cert.GradWKvIdeal.sig) → Buf (Elt Ideal) ℓ) (g : Dev Cert.GradWKvIdeal.nD → PrngReg)
    (m' : (ℓ : Loc Cert.GradWKvRefIdeal.nD Cert.GradWKvRefIdeal.τ Cert.GradWKvRefIdeal.sig) → Buf (Elt Ideal) ℓ) (g' : Dev Cert.GradWKvRefIdeal.nD → PrngReg), Pre_GradWKvIdeal m →
    (∀ c : Dev Cert.GradWKvIdeal.nD,
      m' ((c.tc : Thread Cert.GradWKvRefIdeal.nD Cert.GradWKvRefIdeal.τ).loc Cert.GradWKvRefIdeal.main_arg0) = m ((c.tc : Thread Cert.GradWKvIdeal.nD Cert.GradWKvIdeal.τ).loc Cert.GradWKvIdeal.main_arg0)
      ∧ m' ((c.tc : Thread Cert.GradWKvRefIdeal.nD Cert.GradWKvRefIdeal.τ).loc Cert.GradWKvRefIdeal.main_arg1) = m ((c.tc : Thread Cert.GradWKvIdeal.nD Cert.GradWKvIdeal.τ).loc Cert.GradWKvIdeal.main_arg1)) →
    ∃ (v0 : (c : Dev Cert.GradWKvIdeal.nD) → Buf (Elt Ideal) ((c.tc : Thread Cert.GradWKvIdeal.nD Cert.GradWKvIdeal.τ).loc Cert.GradWKvIdeal.main_v0)),
      θ_run (Cert.GradWKvIdeal.defs (F := Ideal)) (onTc (τ := Cert.GradWKvIdeal.τ) (Cert.GradWKvIdeal.main (F := Ideal))) ⟨m, fun _ => 0, g⟩ (fun r => ∀ c : Dev Cert.GradWKvIdeal.nD,
          r.2.mem ((c.tc : Thread Cert.GradWKvIdeal.nD Cert.GradWKvIdeal.τ).loc Cert.GradWKvIdeal.main_v0) = v0 c
          ∧ r.2.mem ((c.tc : Thread Cert.GradWKvIdeal.nD Cert.GradWKvIdeal.τ).loc Cert.GradWKvIdeal.main_arg0) = m ((c.tc : Thread Cert.GradWKvIdeal.nD Cert.GradWKvIdeal.τ).loc Cert.GradWKvIdeal.main_arg0)
          ∧ r.2.mem ((c.tc : Thread Cert.GradWKvIdeal.nD Cert.GradWKvIdeal.τ).loc Cert.GradWKvIdeal.main_arg1) = m ((c.tc : Thread Cert.GradWKvIdeal.nD Cert.GradWKvIdeal.τ).loc Cert.GradWKvIdeal.main_arg1))
      ∧ θ_run (Cert.GradWKvRefIdeal.defs (F := Ideal)) (onTc (τ := Cert.GradWKvRefIdeal.τ) (Cert.GradWKvRefIdeal.main (F := Ideal))) ⟨m', fun _ => 0, g'⟩ (fun r => ∀ c : Dev Cert.GradWKvRefIdeal.nD,
          r.2.mem ((c.tc : Thread Cert.GradWKvRefIdeal.nD Cert.GradWKvRefIdeal.τ).loc Cert.GradWKvRefIdeal.main_v1) = v0 c
          ∧ r.2.mem ((c.tc : Thread Cert.GradWKvRefIdeal.nD Cert.GradWKvRefIdeal.τ).loc Cert.GradWKvRefIdeal.main_arg0) = m' ((c.tc : Thread Cert.GradWKvRefIdeal.nD Cert.GradWKvRefIdeal.τ).loc Cert.GradWKvRefIdeal.main_arg0)
          ∧ r.2.mem ((c.tc : Thread Cert.GradWKvRefIdeal.nD Cert.GradWKvRefIdeal.τ).loc Cert.GradWKvRefIdeal.main_arg1) = m' ((c.tc : Thread Cert.GradWKvRefIdeal.nD Cert.GradWKvRefIdeal.τ).loc Cert.GradWKvRefIdeal.main_arg1))

def preserves_GradWDt_GradWDtIdeal : Prop :=
  True

def algebraic_GradWDtIdeal_GradWDtRefIdeal [hGradWDtIdeal : Cert.GradWDtIdeal.Facts] [hGradWDtRefIdeal : Cert.GradWDtRefIdeal.Facts] : Prop :=
  ∀ (m : (ℓ : Loc Cert.GradWDtIdeal.nD Cert.GradWDtIdeal.τ Cert.GradWDtIdeal.sig) → Buf (Elt Ideal) ℓ) (g : Dev Cert.GradWDtIdeal.nD → PrngReg)
    (m' : (ℓ : Loc Cert.GradWDtRefIdeal.nD Cert.GradWDtRefIdeal.τ Cert.GradWDtRefIdeal.sig) → Buf (Elt Ideal) ℓ) (g' : Dev Cert.GradWDtRefIdeal.nD → PrngReg), Pre_GradWDtIdeal m →
    (∀ c : Dev Cert.GradWDtIdeal.nD,
      m' ((c.tc : Thread Cert.GradWDtRefIdeal.nD Cert.GradWDtRefIdeal.τ).loc Cert.GradWDtRefIdeal.main_arg0) = m ((c.tc : Thread Cert.GradWDtIdeal.nD Cert.GradWDtIdeal.τ).loc Cert.GradWDtIdeal.main_arg0)
      ∧ m' ((c.tc : Thread Cert.GradWDtRefIdeal.nD Cert.GradWDtRefIdeal.τ).loc Cert.GradWDtRefIdeal.main_arg1) = m ((c.tc : Thread Cert.GradWDtIdeal.nD Cert.GradWDtIdeal.τ).loc Cert.GradWDtIdeal.main_arg1)) →
    ∃ (v0 : (c : Dev Cert.GradWDtIdeal.nD) → Buf (Elt Ideal) ((c.tc : Thread Cert.GradWDtIdeal.nD Cert.GradWDtIdeal.τ).loc Cert.GradWDtIdeal.main_v0)),
      θ_run (Cert.GradWDtIdeal.defs (F := Ideal)) (onTc (τ := Cert.GradWDtIdeal.τ) (Cert.GradWDtIdeal.main (F := Ideal))) ⟨m, fun _ => 0, g⟩ (fun r => ∀ c : Dev Cert.GradWDtIdeal.nD,
          r.2.mem ((c.tc : Thread Cert.GradWDtIdeal.nD Cert.GradWDtIdeal.τ).loc Cert.GradWDtIdeal.main_v0) = v0 c
          ∧ r.2.mem ((c.tc : Thread Cert.GradWDtIdeal.nD Cert.GradWDtIdeal.τ).loc Cert.GradWDtIdeal.main_arg0) = m ((c.tc : Thread Cert.GradWDtIdeal.nD Cert.GradWDtIdeal.τ).loc Cert.GradWDtIdeal.main_arg0)
          ∧ r.2.mem ((c.tc : Thread Cert.GradWDtIdeal.nD Cert.GradWDtIdeal.τ).loc Cert.GradWDtIdeal.main_arg1) = m ((c.tc : Thread Cert.GradWDtIdeal.nD Cert.GradWDtIdeal.τ).loc Cert.GradWDtIdeal.main_arg1))
      ∧ θ_run (Cert.GradWDtRefIdeal.defs (F := Ideal)) (onTc (τ := Cert.GradWDtRefIdeal.τ) (Cert.GradWDtRefIdeal.main (F := Ideal))) ⟨m', fun _ => 0, g'⟩ (fun r => ∀ c : Dev Cert.GradWDtRefIdeal.nD,
          r.2.mem ((c.tc : Thread Cert.GradWDtRefIdeal.nD Cert.GradWDtRefIdeal.τ).loc Cert.GradWDtRefIdeal.main_v1) = v0 c
          ∧ r.2.mem ((c.tc : Thread Cert.GradWDtRefIdeal.nD Cert.GradWDtRefIdeal.τ).loc Cert.GradWDtRefIdeal.main_arg0) = m' ((c.tc : Thread Cert.GradWDtRefIdeal.nD Cert.GradWDtRefIdeal.τ).loc Cert.GradWDtRefIdeal.main_arg0)
          ∧ r.2.mem ((c.tc : Thread Cert.GradWDtRefIdeal.nD Cert.GradWDtRefIdeal.τ).loc Cert.GradWDtRefIdeal.main_arg1) = m' ((c.tc : Thread Cert.GradWDtRefIdeal.nD Cert.GradWDtRefIdeal.τ).loc Cert.GradWDtRefIdeal.main_arg1))

def preserves_OutLnLoss_OutLnLossIdeal : Prop :=
  True

def algebraic_OutLnLossIdeal_OutLnLossRefIdeal [hOutLnLossIdeal : Cert.OutLnLossIdeal.Facts] [hOutLnLossRefIdeal : Cert.OutLnLossRefIdeal.Facts] : Prop :=
  ∀ (m : (ℓ : Loc Cert.OutLnLossIdeal.nD Cert.OutLnLossIdeal.τ Cert.OutLnLossIdeal.sig) → Buf (Elt Ideal) ℓ) (g : Dev Cert.OutLnLossIdeal.nD → PrngReg)
    (m' : (ℓ : Loc Cert.OutLnLossRefIdeal.nD Cert.OutLnLossRefIdeal.τ Cert.OutLnLossRefIdeal.sig) → Buf (Elt Ideal) ℓ) (g' : Dev Cert.OutLnLossRefIdeal.nD → PrngReg), Pre_OutLnLossIdeal m →
    (∀ c : Dev Cert.OutLnLossIdeal.nD,
      m' ((c.tc : Thread Cert.OutLnLossRefIdeal.nD Cert.OutLnLossRefIdeal.τ).loc Cert.OutLnLossRefIdeal.main_arg0) = m ((c.tc : Thread Cert.OutLnLossIdeal.nD Cert.OutLnLossIdeal.τ).loc Cert.OutLnLossIdeal.main_arg0)
      ∧ m' ((c.tc : Thread Cert.OutLnLossRefIdeal.nD Cert.OutLnLossRefIdeal.τ).loc Cert.OutLnLossRefIdeal.main_arg1) = m ((c.tc : Thread Cert.OutLnLossIdeal.nD Cert.OutLnLossIdeal.τ).loc Cert.OutLnLossIdeal.main_arg1)
      ∧ m' ((c.tc : Thread Cert.OutLnLossRefIdeal.nD Cert.OutLnLossRefIdeal.τ).loc Cert.OutLnLossRefIdeal.main_arg2) = m ((c.tc : Thread Cert.OutLnLossIdeal.nD Cert.OutLnLossIdeal.τ).loc Cert.OutLnLossIdeal.main_arg2)
      ∧ m' ((c.tc : Thread Cert.OutLnLossRefIdeal.nD Cert.OutLnLossRefIdeal.τ).loc Cert.OutLnLossRefIdeal.main_arg3) = m ((c.tc : Thread Cert.OutLnLossIdeal.nD Cert.OutLnLossIdeal.τ).loc Cert.OutLnLossIdeal.main_arg3)
      ∧ m' ((c.tc : Thread Cert.OutLnLossRefIdeal.nD Cert.OutLnLossRefIdeal.τ).loc Cert.OutLnLossRefIdeal.main_arg4) = m ((c.tc : Thread Cert.OutLnLossIdeal.nD Cert.OutLnLossIdeal.τ).loc Cert.OutLnLossIdeal.main_arg4)
      ∧ m' ((c.tc : Thread Cert.OutLnLossRefIdeal.nD Cert.OutLnLossRefIdeal.τ).loc Cert.OutLnLossRefIdeal.main_arg5) = m ((c.tc : Thread Cert.OutLnLossIdeal.nD Cert.OutLnLossIdeal.τ).loc Cert.OutLnLossIdeal.main_arg5)
      ∧ m' ((c.tc : Thread Cert.OutLnLossRefIdeal.nD Cert.OutLnLossRefIdeal.τ).loc Cert.OutLnLossRefIdeal.main_arg6) = m ((c.tc : Thread Cert.OutLnLossIdeal.nD Cert.OutLnLossIdeal.τ).loc Cert.OutLnLossIdeal.main_arg6)) →
    ∃ (v0 : (c : Dev Cert.OutLnLossIdeal.nD) → Buf (Elt Ideal) ((c.tc : Thread Cert.OutLnLossIdeal.nD Cert.OutLnLossIdeal.τ).loc Cert.OutLnLossIdeal.main_v0_0)) (v1 : (c : Dev Cert.OutLnLossIdeal.nD) → Buf (Elt Ideal) ((c.tc : Thread Cert.OutLnLossIdeal.nD Cert.OutLnLossIdeal.τ).loc Cert.OutLnLossIdeal.main_v0_1)) (v2 : (c : Dev Cert.OutLnLossIdeal.nD) → Buf (Elt Ideal) ((c.tc : Thread Cert.OutLnLossIdeal.nD Cert.OutLnLossIdeal.τ).loc Cert.OutLnLossIdeal.main_v0_2)) (v3 : (c : Dev Cert.OutLnLossIdeal.nD) → Buf (Elt Ideal) ((c.tc : Thread Cert.OutLnLossIdeal.nD Cert.OutLnLossIdeal.τ).loc Cert.OutLnLossIdeal.main_v0_3)) (v4 : (c : Dev Cert.OutLnLossIdeal.nD) → Buf (Elt Ideal) ((c.tc : Thread Cert.OutLnLossIdeal.nD Cert.OutLnLossIdeal.τ).loc Cert.OutLnLossIdeal.main_v0_4)) (v5 : (c : Dev Cert.OutLnLossIdeal.nD) → Buf (Elt Ideal) ((c.tc : Thread Cert.OutLnLossIdeal.nD Cert.OutLnLossIdeal.τ).loc Cert.OutLnLossIdeal.main_v0_5)),
      θ_run (Cert.OutLnLossIdeal.defs (F := Ideal)) (onTc (τ := Cert.OutLnLossIdeal.τ) (Cert.OutLnLossIdeal.main (F := Ideal))) ⟨m, fun _ => 0, g⟩ (fun r => ∀ c : Dev Cert.OutLnLossIdeal.nD,
          r.2.mem ((c.tc : Thread Cert.OutLnLossIdeal.nD Cert.OutLnLossIdeal.τ).loc Cert.OutLnLossIdeal.main_v0_0) = v0 c
          ∧ r.2.mem ((c.tc : Thread Cert.OutLnLossIdeal.nD Cert.OutLnLossIdeal.τ).loc Cert.OutLnLossIdeal.main_v0_1) = v1 c
          ∧ r.2.mem ((c.tc : Thread Cert.OutLnLossIdeal.nD Cert.OutLnLossIdeal.τ).loc Cert.OutLnLossIdeal.main_v0_2) = v2 c
          ∧ r.2.mem ((c.tc : Thread Cert.OutLnLossIdeal.nD Cert.OutLnLossIdeal.τ).loc Cert.OutLnLossIdeal.main_v0_3) = v3 c
          ∧ r.2.mem ((c.tc : Thread Cert.OutLnLossIdeal.nD Cert.OutLnLossIdeal.τ).loc Cert.OutLnLossIdeal.main_v0_4) = v4 c
          ∧ r.2.mem ((c.tc : Thread Cert.OutLnLossIdeal.nD Cert.OutLnLossIdeal.τ).loc Cert.OutLnLossIdeal.main_v0_5) = v5 c
          ∧ r.2.mem ((c.tc : Thread Cert.OutLnLossIdeal.nD Cert.OutLnLossIdeal.τ).loc Cert.OutLnLossIdeal.main_arg0) = m ((c.tc : Thread Cert.OutLnLossIdeal.nD Cert.OutLnLossIdeal.τ).loc Cert.OutLnLossIdeal.main_arg0)
          ∧ r.2.mem ((c.tc : Thread Cert.OutLnLossIdeal.nD Cert.OutLnLossIdeal.τ).loc Cert.OutLnLossIdeal.main_arg1) = m ((c.tc : Thread Cert.OutLnLossIdeal.nD Cert.OutLnLossIdeal.τ).loc Cert.OutLnLossIdeal.main_arg1)
          ∧ r.2.mem ((c.tc : Thread Cert.OutLnLossIdeal.nD Cert.OutLnLossIdeal.τ).loc Cert.OutLnLossIdeal.main_arg2) = m ((c.tc : Thread Cert.OutLnLossIdeal.nD Cert.OutLnLossIdeal.τ).loc Cert.OutLnLossIdeal.main_arg2)
          ∧ r.2.mem ((c.tc : Thread Cert.OutLnLossIdeal.nD Cert.OutLnLossIdeal.τ).loc Cert.OutLnLossIdeal.main_arg3) = m ((c.tc : Thread Cert.OutLnLossIdeal.nD Cert.OutLnLossIdeal.τ).loc Cert.OutLnLossIdeal.main_arg3)
          ∧ r.2.mem ((c.tc : Thread Cert.OutLnLossIdeal.nD Cert.OutLnLossIdeal.τ).loc Cert.OutLnLossIdeal.main_arg4) = m ((c.tc : Thread Cert.OutLnLossIdeal.nD Cert.OutLnLossIdeal.τ).loc Cert.OutLnLossIdeal.main_arg4)
          ∧ r.2.mem ((c.tc : Thread Cert.OutLnLossIdeal.nD Cert.OutLnLossIdeal.τ).loc Cert.OutLnLossIdeal.main_arg5) = m ((c.tc : Thread Cert.OutLnLossIdeal.nD Cert.OutLnLossIdeal.τ).loc Cert.OutLnLossIdeal.main_arg5)
          ∧ r.2.mem ((c.tc : Thread Cert.OutLnLossIdeal.nD Cert.OutLnLossIdeal.τ).loc Cert.OutLnLossIdeal.main_arg6) = m ((c.tc : Thread Cert.OutLnLossIdeal.nD Cert.OutLnLossIdeal.τ).loc Cert.OutLnLossIdeal.main_arg6))
      ∧ θ_run (Cert.OutLnLossRefIdeal.defs (F := Ideal)) (onTc (τ := Cert.OutLnLossRefIdeal.τ) (Cert.OutLnLossRefIdeal.main (F := Ideal))) ⟨m', fun _ => 0, g'⟩ (fun r => ∀ c : Dev Cert.OutLnLossRefIdeal.nD,
          r.2.mem ((c.tc : Thread Cert.OutLnLossRefIdeal.nD Cert.OutLnLossRefIdeal.τ).loc Cert.OutLnLossRefIdeal.main_v54) = v0 c
          ∧ r.2.mem ((c.tc : Thread Cert.OutLnLossRefIdeal.nD Cert.OutLnLossRefIdeal.τ).loc Cert.OutLnLossRefIdeal.main_v56) = v1 c
          ∧ r.2.mem ((c.tc : Thread Cert.OutLnLossRefIdeal.nD Cert.OutLnLossRefIdeal.τ).loc Cert.OutLnLossRefIdeal.main_v57) = v2 c
          ∧ r.2.mem ((c.tc : Thread Cert.OutLnLossRefIdeal.nD Cert.OutLnLossRefIdeal.τ).loc Cert.OutLnLossRefIdeal.main_v58) = v3 c
          ∧ r.2.mem ((c.tc : Thread Cert.OutLnLossRefIdeal.nD Cert.OutLnLossRefIdeal.τ).loc Cert.OutLnLossRefIdeal.main_v61) = v4 c
          ∧ r.2.mem ((c.tc : Thread Cert.OutLnLossRefIdeal.nD Cert.OutLnLossRefIdeal.τ).loc Cert.OutLnLossRefIdeal.main_v63) = v5 c
          ∧ r.2.mem ((c.tc : Thread Cert.OutLnLossRefIdeal.nD Cert.OutLnLossRefIdeal.τ).loc Cert.OutLnLossRefIdeal.main_arg0) = m' ((c.tc : Thread Cert.OutLnLossRefIdeal.nD Cert.OutLnLossRefIdeal.τ).loc Cert.OutLnLossRefIdeal.main_arg0)
          ∧ r.2.mem ((c.tc : Thread Cert.OutLnLossRefIdeal.nD Cert.OutLnLossRefIdeal.τ).loc Cert.OutLnLossRefIdeal.main_arg1) = m' ((c.tc : Thread Cert.OutLnLossRefIdeal.nD Cert.OutLnLossRefIdeal.τ).loc Cert.OutLnLossRefIdeal.main_arg1)
          ∧ r.2.mem ((c.tc : Thread Cert.OutLnLossRefIdeal.nD Cert.OutLnLossRefIdeal.τ).loc Cert.OutLnLossRefIdeal.main_arg2) = m' ((c.tc : Thread Cert.OutLnLossRefIdeal.nD Cert.OutLnLossRefIdeal.τ).loc Cert.OutLnLossRefIdeal.main_arg2)
          ∧ r.2.mem ((c.tc : Thread Cert.OutLnLossRefIdeal.nD Cert.OutLnLossRefIdeal.τ).loc Cert.OutLnLossRefIdeal.main_arg3) = m' ((c.tc : Thread Cert.OutLnLossRefIdeal.nD Cert.OutLnLossRefIdeal.τ).loc Cert.OutLnLossRefIdeal.main_arg3)
          ∧ r.2.mem ((c.tc : Thread Cert.OutLnLossRefIdeal.nD Cert.OutLnLossRefIdeal.τ).loc Cert.OutLnLossRefIdeal.main_arg4) = m' ((c.tc : Thread Cert.OutLnLossRefIdeal.nD Cert.OutLnLossRefIdeal.τ).loc Cert.OutLnLossRefIdeal.main_arg4)
          ∧ r.2.mem ((c.tc : Thread Cert.OutLnLossRefIdeal.nD Cert.OutLnLossRefIdeal.τ).loc Cert.OutLnLossRefIdeal.main_arg5) = m' ((c.tc : Thread Cert.OutLnLossRefIdeal.nD Cert.OutLnLossRefIdeal.τ).loc Cert.OutLnLossRefIdeal.main_arg5)
          ∧ r.2.mem ((c.tc : Thread Cert.OutLnLossRefIdeal.nD Cert.OutLnLossRefIdeal.τ).loc Cert.OutLnLossRefIdeal.main_arg6) = m' ((c.tc : Thread Cert.OutLnLossRefIdeal.nD Cert.OutLnLossRefIdeal.τ).loc Cert.OutLnLossRefIdeal.main_arg6))

def Claim : Prop :=
  ∃ (hPairShare : Cert.PairShare.Facts) (hPairShareIdeal : Cert.PairShareIdeal.Facts) (hPairShareRefIdeal : Cert.PairShareRefIdeal.Facts) (hPairShareRef : Cert.PairShareRef.Facts) (hChipExchange : Cert.ChipExchange.Facts) (hChipExchangeIdeal : Cert.ChipExchangeIdeal.Facts) (hChipExchangeRefIdeal : Cert.ChipExchangeRefIdeal.Facts) (hChipExchangeRef : Cert.ChipExchangeRef.Facts) (hPairExchange : Cert.PairExchange.Facts) (hPairExchangeIdeal : Cert.PairExchangeIdeal.Facts) (hPairExchangeRefIdeal : Cert.PairExchangeRefIdeal.Facts) (hPairExchangeRef : Cert.PairExchangeRef.Facts) (hGatherWeights : Cert.GatherWeights.Facts) (hGatherWeightsIdeal : Cert.GatherWeightsIdeal.Facts) (hGatherWeightsRefIdeal : Cert.GatherWeightsRefIdeal.Facts) (hGatherWeightsRef : Cert.GatherWeightsRef.Facts) (hPairAddIn : Cert.PairAddIn.Facts) (hPairAddInIdeal : Cert.PairAddInIdeal.Facts) (hPairAddInRefIdeal : Cert.PairAddInRefIdeal.Facts) (hPairAddInRef : Cert.PairAddInRef.Facts) (hPairAddOut : Cert.PairAddOut.Facts) (hPairAddOutIdeal : Cert.PairAddOutIdeal.Facts) (hPairAddOutRefIdeal : Cert.PairAddOutRefIdeal.Facts) (hPairAddOutRef : Cert.PairAddOutRef.Facts) (hChipAddIn : Cert.ChipAddIn.Facts) (hChipAddInIdeal : Cert.ChipAddInIdeal.Facts) (hChipAddInRefIdeal : Cert.ChipAddInRefIdeal.Facts) (hChipAddOut : Cert.ChipAddOut.Facts) (hChipAddOutIdeal : Cert.ChipAddOutIdeal.Facts) (hChipAddOutRefIdeal : Cert.ChipAddOutRefIdeal.Facts) (hSumSlots : Cert.SumSlots.Facts) (hSumSlotsIdeal : Cert.SumSlotsIdeal.Facts) (hSumSlotsRefIdeal : Cert.SumSlotsRefIdeal.Facts) (hAdamwIn : Cert.AdamwIn.Facts) (hAdamwInIdeal : Cert.AdamwInIdeal.Facts) (hAdamwInRefIdeal : Cert.AdamwInRefIdeal.Facts) (hAdamwOut : Cert.AdamwOut.Facts) (hAdamwOutIdeal : Cert.AdamwOutIdeal.Facts) (hAdamwOutRefIdeal : Cert.AdamwOutRefIdeal.Facts) (hAdamwSmall : Cert.AdamwSmall.Facts) (hAdamwSmallIdeal : Cert.AdamwSmallIdeal.Facts) (hAdamwSmallRefIdeal : Cert.AdamwSmallRefIdeal.Facts) (hInProj : Cert.InProj.Facts) (hInProjIdeal : Cert.InProjIdeal.Facts) (hInProjRefIdeal : Cert.InProjRefIdeal.Facts) (hGradX : Cert.GradX.Facts) (hGradXIdeal : Cert.GradXIdeal.Facts) (hGradXRefIdeal : Cert.GradXRefIdeal.Facts) (hGradWOut : Cert.GradWOut.Facts) (hGradWOutIdeal : Cert.GradWOutIdeal.Facts) (hGradWOutRefIdeal : Cert.GradWOutRefIdeal.Facts) (hGradWZ : Cert.GradWZ.Facts) (hGradWZIdeal : Cert.GradWZIdeal.Facts) (hGradWZRefIdeal : Cert.GradWZRefIdeal.Facts) (hGradWXbc : Cert.GradWXbc.Facts) (hGradWXbcIdeal : Cert.GradWXbcIdeal.Facts) (hGradWXbcRefIdeal : Cert.GradWXbcRefIdeal.Facts) (hGradWKv : Cert.GradWKv.Facts) (hGradWKvIdeal : Cert.GradWKvIdeal.Facts) (hGradWKvRefIdeal : Cert.GradWKvRefIdeal.Facts) (hGradWDt : Cert.GradWDt.Facts) (hGradWDtIdeal : Cert.GradWDtIdeal.Facts) (hGradWDtRefIdeal : Cert.GradWDtRefIdeal.Facts) (hOutLnLoss : Cert.OutLnLoss.Facts) (hOutLnLossIdeal : Cert.OutLnLossIdeal.Facts) (hOutLnLossRefIdeal : Cert.OutLnLossRefIdeal.Facts),
    quiescent_PairShare (hPairShare := hPairShare)
    ∧ quiescent_PairShareIdeal (hPairShareIdeal := hPairShareIdeal)
    ∧ quiescent_PairShareRefIdeal (hPairShareRefIdeal := hPairShareRefIdeal)
    ∧ quiescent_PairShareRef (hPairShareRef := hPairShareRef)
    ∧ quiescent_ChipExchange (hChipExchange := hChipExchange)
    ∧ quiescent_ChipExchangeIdeal (hChipExchangeIdeal := hChipExchangeIdeal)
    ∧ quiescent_ChipExchangeRefIdeal (hChipExchangeRefIdeal := hChipExchangeRefIdeal)
    ∧ quiescent_ChipExchangeRef (hChipExchangeRef := hChipExchangeRef)
    ∧ quiescent_PairExchange (hPairExchange := hPairExchange)
    ∧ quiescent_PairExchangeIdeal (hPairExchangeIdeal := hPairExchangeIdeal)
    ∧ quiescent_PairExchangeRefIdeal (hPairExchangeRefIdeal := hPairExchangeRefIdeal)
    ∧ quiescent_PairExchangeRef (hPairExchangeRef := hPairExchangeRef)
    ∧ quiescent_GatherWeights (hGatherWeights := hGatherWeights)
    ∧ quiescent_GatherWeightsIdeal (hGatherWeightsIdeal := hGatherWeightsIdeal)
    ∧ quiescent_GatherWeightsRefIdeal (hGatherWeightsRefIdeal := hGatherWeightsRefIdeal)
    ∧ quiescent_GatherWeightsRef (hGatherWeightsRef := hGatherWeightsRef)
    ∧ quiescent_PairAddIn (hPairAddIn := hPairAddIn)
    ∧ quiescent_PairAddInIdeal (hPairAddInIdeal := hPairAddInIdeal)
    ∧ quiescent_PairAddInRefIdeal (hPairAddInRefIdeal := hPairAddInRefIdeal)
    ∧ quiescent_PairAddInRef (hPairAddInRef := hPairAddInRef)
    ∧ quiescent_PairAddOut (hPairAddOut := hPairAddOut)
    ∧ quiescent_PairAddOutIdeal (hPairAddOutIdeal := hPairAddOutIdeal)
    ∧ quiescent_PairAddOutRefIdeal (hPairAddOutRefIdeal := hPairAddOutRefIdeal)
    ∧ quiescent_PairAddOutRef (hPairAddOutRef := hPairAddOutRef)
    ∧ quiescent_ChipAddIn (hChipAddIn := hChipAddIn)
    ∧ quiescent_ChipAddInIdeal (hChipAddInIdeal := hChipAddInIdeal)
    ∧ quiescent_ChipAddInRefIdeal (hChipAddInRefIdeal := hChipAddInRefIdeal)
    ∧ quiescent_ChipAddOut (hChipAddOut := hChipAddOut)
    ∧ quiescent_ChipAddOutIdeal (hChipAddOutIdeal := hChipAddOutIdeal)
    ∧ quiescent_ChipAddOutRefIdeal (hChipAddOutRefIdeal := hChipAddOutRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_InProj (hInProj := hInProj)
    ∧ quiescent_InProjIdeal (hInProjIdeal := hInProjIdeal)
    ∧ quiescent_InProjRefIdeal (hInProjRefIdeal := hInProjRefIdeal)
    ∧ quiescent_GradX (hGradX := hGradX)
    ∧ quiescent_GradXIdeal (hGradXIdeal := hGradXIdeal)
    ∧ quiescent_GradXRefIdeal (hGradXRefIdeal := hGradXRefIdeal)
    ∧ quiescent_GradWOut (hGradWOut := hGradWOut)
    ∧ quiescent_GradWOutIdeal (hGradWOutIdeal := hGradWOutIdeal)
    ∧ quiescent_GradWOutRefIdeal (hGradWOutRefIdeal := hGradWOutRefIdeal)
    ∧ quiescent_GradWZ (hGradWZ := hGradWZ)
    ∧ quiescent_GradWZIdeal (hGradWZIdeal := hGradWZIdeal)
    ∧ quiescent_GradWZRefIdeal (hGradWZRefIdeal := hGradWZRefIdeal)
    ∧ quiescent_GradWXbc (hGradWXbc := hGradWXbc)
    ∧ quiescent_GradWXbcIdeal (hGradWXbcIdeal := hGradWXbcIdeal)
    ∧ quiescent_GradWXbcRefIdeal (hGradWXbcRefIdeal := hGradWXbcRefIdeal)
    ∧ quiescent_GradWKv (hGradWKv := hGradWKv)
    ∧ quiescent_GradWKvIdeal (hGradWKvIdeal := hGradWKvIdeal)
    ∧ quiescent_GradWKvRefIdeal (hGradWKvRefIdeal := hGradWKvRefIdeal)
    ∧ quiescent_GradWDt (hGradWDt := hGradWDt)
    ∧ quiescent_GradWDtIdeal (hGradWDtIdeal := hGradWDtIdeal)
    ∧ quiescent_GradWDtRefIdeal (hGradWDtRefIdeal := hGradWDtRefIdeal)
    ∧ quiescent_OutLnLoss (hOutLnLoss := hOutLnLoss)
    ∧ quiescent_OutLnLossIdeal (hOutLnLossIdeal := hOutLnLossIdeal)
    ∧ quiescent_OutLnLossRefIdeal (hOutLnLossRefIdeal := hOutLnLossRefIdeal)
    ∧ preserves_PairShare_PairShareIdeal
    ∧ algebraic_PairShareIdeal_PairShareRefIdeal (hPairShareIdeal := hPairShareIdeal) (hPairShareRefIdeal := hPairShareRefIdeal)
    ∧ bitexact_PairShare_PairShareRef (hPairShare := hPairShare) (hPairShareRef := hPairShareRef)
    ∧ preserves_ChipExchange_ChipExchangeIdeal
    ∧ algebraic_ChipExchangeIdeal_ChipExchangeRefIdeal (hChipExchangeIdeal := hChipExchangeIdeal) (hChipExchangeRefIdeal := hChipExchangeRefIdeal)
    ∧ bitexact_ChipExchange_ChipExchangeRef (hChipExchange := hChipExchange) (hChipExchangeRef := hChipExchangeRef)
    ∧ preserves_PairExchange_PairExchangeIdeal
    ∧ algebraic_PairExchangeIdeal_PairExchangeRefIdeal (hPairExchangeIdeal := hPairExchangeIdeal) (hPairExchangeRefIdeal := hPairExchangeRefIdeal)
    ∧ bitexact_PairExchange_PairExchangeRef (hPairExchange := hPairExchange) (hPairExchangeRef := hPairExchangeRef)
    ∧ preserves_GatherWeights_GatherWeightsIdeal
    ∧ algebraic_GatherWeightsIdeal_GatherWeightsRefIdeal (hGatherWeightsIdeal := hGatherWeightsIdeal) (hGatherWeightsRefIdeal := hGatherWeightsRefIdeal)
    ∧ bitexact_GatherWeights_GatherWeightsRef (hGatherWeights := hGatherWeights) (hGatherWeightsRef := hGatherWeightsRef)
    ∧ preserves_PairAddIn_PairAddInIdeal
    ∧ algebraic_PairAddInIdeal_PairAddInRefIdeal (hPairAddInIdeal := hPairAddInIdeal) (hPairAddInRefIdeal := hPairAddInRefIdeal)
    ∧ bitexact_PairAddIn_PairAddInRef (hPairAddIn := hPairAddIn) (hPairAddInRef := hPairAddInRef)
    ∧ preserves_PairAddOut_PairAddOutIdeal
    ∧ algebraic_PairAddOutIdeal_PairAddOutRefIdeal (hPairAddOutIdeal := hPairAddOutIdeal) (hPairAddOutRefIdeal := hPairAddOutRefIdeal)
    ∧ bitexact_PairAddOut_PairAddOutRef (hPairAddOut := hPairAddOut) (hPairAddOutRef := hPairAddOutRef)
    ∧ preserves_ChipAddIn_ChipAddInIdeal
    ∧ algebraic_ChipAddInIdeal_ChipAddInRefIdeal (hChipAddInIdeal := hChipAddInIdeal) (hChipAddInRefIdeal := hChipAddInRefIdeal)
    ∧ preserves_ChipAddOut_ChipAddOutIdeal
    ∧ algebraic_ChipAddOutIdeal_ChipAddOutRefIdeal (hChipAddOutIdeal := hChipAddOutIdeal) (hChipAddOutRefIdeal := hChipAddOutRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_InProj_InProjIdeal
    ∧ algebraic_InProjIdeal_InProjRefIdeal (hInProjIdeal := hInProjIdeal) (hInProjRefIdeal := hInProjRefIdeal)
    ∧ preserves_GradX_GradXIdeal
    ∧ algebraic_GradXIdeal_GradXRefIdeal (hGradXIdeal := hGradXIdeal) (hGradXRefIdeal := hGradXRefIdeal)
    ∧ preserves_GradWOut_GradWOutIdeal
    ∧ algebraic_GradWOutIdeal_GradWOutRefIdeal (hGradWOutIdeal := hGradWOutIdeal) (hGradWOutRefIdeal := hGradWOutRefIdeal)
    ∧ preserves_GradWZ_GradWZIdeal
    ∧ algebraic_GradWZIdeal_GradWZRefIdeal (hGradWZIdeal := hGradWZIdeal) (hGradWZRefIdeal := hGradWZRefIdeal)
    ∧ preserves_GradWXbc_GradWXbcIdeal
    ∧ algebraic_GradWXbcIdeal_GradWXbcRefIdeal (hGradWXbcIdeal := hGradWXbcIdeal) (hGradWXbcRefIdeal := hGradWXbcRefIdeal)
    ∧ preserves_GradWKv_GradWKvIdeal
    ∧ algebraic_GradWKvIdeal_GradWKvRefIdeal (hGradWKvIdeal := hGradWKvIdeal) (hGradWKvRefIdeal := hGradWKvRefIdeal)
    ∧ preserves_GradWDt_GradWDtIdeal
    ∧ algebraic_GradWDtIdeal_GradWDtRefIdeal (hGradWDtIdeal := hGradWDtIdeal) (hGradWDtRefIdeal := hGradWDtRefIdeal)
    ∧ preserves_OutLnLoss_OutLnLossIdeal
    ∧ algebraic_OutLnLossIdeal_OutLnLossRefIdeal (hOutLnLossIdeal := hOutLnLossIdeal) (hOutLnLossRefIdeal := hOutLnLossRefIdeal)
-- ==== PairShare.lean ====
abbrev S512x1284 : Shape := ⟨2, ![512, 1284]⟩
abbrev S256x1024 : Shape := ⟨2, ![256, 1024]⟩
abbrev S1024x1284 : Shape := ⟨2, ![1024, 1284]⟩
abbrev S512x1024 : Shape := ⟨2, ![512, 1024]⟩
abbrev S2 : Shape := ⟨1, ![2]⟩
abbrev S1 : Shape := ⟨1, ![1]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S512x1284, .f32⟩
  | .hbm, ⟨1, _⟩ => ⟨S256x1024, .f32⟩
  | .hbm, ⟨2, _⟩ => ⟨S1024x1284, .f32⟩
  | .hbm, ⟨3, _⟩ => ⟨S512x1024, .f32⟩
  | _, _ => ⟨S512x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v10 : BitVec 32 := Scalar.muli v8 c512_i32
  let c0_i32_4 : BitVec 32 := 0#32
  ![v10.toNat, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v15 : BitVec 32 := Scalar.muli v2 c4_i32_8
  let v16 : BitVec 32 := Scalar.addi c0_i32_9 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v17 : BitVec 32 := Scalar.muli v5 c2_i32_10
  let v18 : BitVec 32 := Scalar.addi v16 v17
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_11 : BitVec 32 := 1#32
  let v19 : BitVec 32 := Scalar.muli v9 c1_i32_11
  let v20 : BitVec 32 := Scalar.addi v18 v19
  v20.toNat
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v26 : BitVec 32 := Scalar.muli v8 c256_i32
  let c0_i32_14 : BitVec 32 := 0#32
  ![v26.toNat, 0]
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v31 : BitVec 32 := Scalar.muli v2 c4_i32_18
  let v32 : BitVec 32 := Scalar.addi c0_i32_19 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v33 : BitVec 32 := Scalar.muli v5 c2_i32_20
  let v34 : BitVec 32 := Scalar.addi v32 v33
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_21 : BitVec 32 := 1#32
  let v35 : BitVec 32 := Scalar.muli v9 c1_i32_21
  let v36 : BitVec 32 := Scalar.addi v34 v35
  v36.toNat
def k0_off3 (d0 : Dev nD) : Fin 2 → Nat :=
  let c1_i32_30 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v51 : BitVec 32 := Scalar.subi c1_i32_30 v8
  let c256_i32_31 : BitVec 32 := 256#32
  let v52 : BitVec 32 := Scalar.muli v51 c256_i32_31
  let c0_i32_38 : BitVec 32 := 0#32
  ![v52.toNat, 0]
-- ==== PairShareRef.lean ====
abbrev S4096x1284 : Shape := ⟨2, ![4096, 1284]⟩
abbrev S2048x1024 : Shape := ⟨2, ![2048, 1024]⟩
abbrev S4x1x1024x1284 : Shape := ⟨4, ![4, 1, 1024, 1284]⟩
abbrev S4x2x1024x1284 : Shape := ⟨4, ![4, 2, 1024, 1284]⟩
abbrev S8192x1284 : Shape := ⟨2, ![8192, 1284]⟩
abbrev S4x1x512x1024 : Shape := ⟨4, ![4, 1, 512, 1024]⟩
abbrev S4x2x512x1024 : Shape := ⟨4, ![4, 2, 512, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1284, .f32⟩
  | .hbm, ⟨1, _⟩ => ⟨S2048x1024, .f32⟩
  | .hbm, ⟨2, _⟩ => ⟨S4x1x1024x1284, .f32⟩
  | .hbm, ⟨3, _⟩ => ⟨S4x2x1024x1284, .f32⟩
  | .hbm, ⟨4, _⟩ => ⟨S8192x1284, .f32⟩
  | .hbm, ⟨5, _⟩ => ⟨S4x1x512x1024, .f32⟩
  | .hbm, ⟨6, _⟩ => ⟨S4x2x512x1024, .f32⟩
  | .hbm, ⟨7, _⟩ => ⟨S4096x1024, .f32⟩
  | _, _ => ⟨S4096x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== ChipExchange.lean ====
abbrev S4x512x1284 : Shape := ⟨3, ![4, 512, 1284]⟩
abbrev S4x256x1024 : Shape := ⟨3, ![4, 256, 1024]⟩
abbrev S2x3 : Shape := ⟨2, ![2, 3]⟩
abbrev S2 : Shape := ⟨1, ![2]⟩
abbrev S1 : Shape := ⟨1, ![1]⟩
abbrev S_ : Shape := ⟨0, ![]⟩
abbrev S1x512x1284 : Shape := ⟨3, ![1, 512, 1284]⟩
abbrev S512x1284 : Shape := ⟨2, ![512, 1284]⟩
abbrev S1x1 : Shape := ⟨2, ![1, 1]⟩
abbrev S1x256x1024 : Shape := ⟨3, ![1, 256, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x1284, .f32⟩
  | .hbm, ⟨1, _⟩ => ⟨S4x256x1024, .f32⟩
  | .hbm, ⟨2, _⟩ => ⟨S4x512x1284, .f32⟩
  | .hbm, ⟨3, _⟩ => ⟨S4x256x1024, .f32⟩
  | _, _ => ⟨S4x512x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_8 : BitVec 32 := 0#32
  let c0_i32_9 : BitVec 32 := 0#32
  ![v10.toNat, 0, 0]
def k0_off2 (d0 : Dev nD) : Fin 3 → Nat :=
  let c2_i32_12 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v21 : BitVec 32 := Scalar.muli c2_i32_12 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.addi v21 v5
  let c0_i32_23 : BitVec 32 := 0#32
  let c0_i32_24 : BitVec 32 := 0#32
  ![v22.toNat, 0, 0]
def k0_dev1 (d0 : Dev nD) : Nat :=
  let c0_i32_18 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_17 : BitVec 32 := 4#32
  let v23 : BitVec 32 := Scalar.muli v11 c4_i32_17
  let v24 : BitVec 32 := Scalar.addi c0_i32_18 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v25 : BitVec 32 := Scalar.muli v5 c2_i32_19
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v27 : BitVec 32 := Scalar.muli v8 c1_i32_20
  let v28 : BitVec 32 := Scalar.addi v26 v27
  v28.toNat
def k0_off3 (d0 : Dev nD) : Fin 3 → Nat :=
  let c2_i32_25 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c2_i32_25 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v38 : BitVec 32 := Scalar.addi v37 v12
  let c0_i32_36 : BitVec 32 := 0#32
  let c0_i32_37 : BitVec 32 := 0#32
  ![v38.toNat, 0, 0]
def k0_dev2 (d0 : Dev nD) : Nat :=
  let c0_i32_31 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_30 : BitVec 32 := 4#32
  let v39 : BitVec 32 := Scalar.muli v2 c4_i32_30
  let v40 : BitVec 32 := Scalar.addi c0_i32_31 v39
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_32 : BitVec 32 := 2#32
  let v41 : BitVec 32 := Scalar.muli v12 c2_i32_32
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v43 : BitVec 32 := Scalar.muli v8 c1_i32_33
  let v44 : BitVec 32 := Scalar.addi v42 v43
  v44.toNat
def k0_off4 (d0 : Dev nD) : Fin 3 → Nat :=
  let c2_i32_38 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v53 : BitVec 32 := Scalar.muli c2_i32_38 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v54 : BitVec 32 := Scalar.addi v53 v14
  let c0_i32_49 : BitVec 32 := 0#32
  let c0_i32_50 : BitVec 32 := 0#32
  ![v54.toNat, 0, 0]
def k0_dev3 (d0 : Dev nD) : Nat :=
  let c0_i32_44 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_43 : BitVec 32 := 4#32
  let v55 : BitVec 32 := Scalar.muli v13 c4_i32_43
  let v56 : BitVec 32 := Scalar.addi c0_i32_44 v55
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_45 : BitVec 32 := 2#32
  let v57 : BitVec 32 := Scalar.muli v14 c2_i32_45
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v59 : BitVec 32 := Scalar.muli v8 c1_i32_46
  let v60 : BitVec 32 := Scalar.addi v58 v59
  v60.toNat
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_52 : BitVec 32 := 0#32
  let c0_i32_53 : BitVec 32 := 0#32
  ![v10.toNat, 0, 0]
def k0_off6 (d0 : Dev nD) : Fin 3 → Nat :=
  let c2_i32_56 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v75 : BitVec 32 := Scalar.muli c2_i32_56 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v76 : BitVec 32 := Scalar.addi v75 v5
  let c0_i32_67 : BitVec 32 := 0#32
  let c0_i32_68 : BitVec 32 := 0#32
  ![v76.toNat, 0, 0]
def k0_dev4 (d0 : Dev nD) : Nat :=
  let c0_i32_62 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_61 : BitVec 32 := 4#32
  let v77 : BitVec 32 := Scalar.muli v11 c4_i32_61
  let v78 : BitVec 32 := Scalar.addi c0_i32_62 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_63 : BitVec 32 := 2#32
  let v79 : BitVec 32 := Scalar.muli v5 c2_i32_63
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v81 : BitVec 32 := Scalar.muli v8 c1_i32_64
  let v82 : BitVec 32 := Scalar.addi v80 v81
  v82.toNat
def k0_off7 (d0 : Dev nD) : Fin 3 → Nat :=
  let c2_i32_69 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v91 : BitVec 32 := Scalar.muli c2_i32_69 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v92 : BitVec 32 := Scalar.addi v91 v12
  let c0_i32_80 : BitVec 32 := 0#32
  let c0_i32_81 : BitVec 32 := 0#32
  ![v92.toNat, 0, 0]
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v93 : BitVec 32 := Scalar.muli v2 c4_i32_74
  let v94 : BitVec 32 := Scalar.addi c0_i32_75 v93
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_76 : BitVec 32 := 2#32
  let v95 : BitVec 32 := Scalar.muli v12 c2_i32_76
  let v96 : BitVec 32 := Scalar.addi v94 v95
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v97 : BitVec 32 := Scalar.muli v8 c1_i32_77
  let v98 : BitVec 32 := Scalar.addi v96 v97
  v98.toNat
def k0_off8 (d0 : Dev nD) : Fin 3 → Nat :=
  let c2_i32_82 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v107 : BitVec 32 := Scalar.muli c2_i32_82 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v108 : BitVec 32 := Scalar.addi v107 v14
  let c0_i32_93 : BitVec 32 := 0#32
  let c0_i32_94 : BitVec 32 := 0#32
  ![v108.toNat, 0, 0]
def k0_dev6 (d0 : Dev nD) : Nat :=
  let c0_i32_88 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_87 : BitVec 32 := 4#32
  let v109 : BitVec 32 := Scalar.muli v13 c4_i32_87
  let v110 : BitVec 32 := Scalar.addi c0_i32_88 v109
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_89 : BitVec 32 := 2#32
  let v111 : BitVec 32 := Scalar.muli v14 c2_i32_89
  let v112 : BitVec 32 := Scalar.addi v110 v111
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v113 : BitVec 32 := Scalar.muli v8 c1_i32_90
  let v114 : BitVec 32 := Scalar.addi v112 v113
  v114.toNat
-- ==== ChipExchangeRef.lean ====
abbrev S32x512x1284 : Shape := ⟨3, ![32, 512, 1284]⟩
abbrev S32x256x1024 : Shape := ⟨3, ![32, 256, 1024]⟩
abbrev S4x2x4x512x1284 : Shape := ⟨5, ![4, 2, 4, 512, 1284]⟩
abbrev S4x2x4x256x1024 : Shape := ⟨5, ![4, 2, 4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32x512x1284, .f32⟩
  | .hbm, ⟨1, _⟩ => ⟨S32x256x1024, .f32⟩
  | .hbm, ⟨2, _⟩ => ⟨S4x2x4x512x1284, .f32⟩
  | .hbm, ⟨3, _⟩ => ⟨S4x2x4x512x1284, .f32⟩
  | .hbm, ⟨4, _⟩ => ⟨S32x512x1284, .f32⟩
  | .hbm, ⟨5, _⟩ => ⟨S4x2x4x256x1024, .f32⟩
  | .hbm, ⟨6, _⟩ => ⟨S4x2x4x256x1024, .f32⟩
  | .hbm, ⟨7, _⟩ => ⟨S32x256x1024, .f32⟩
  | _, _ => ⟨S32x512x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== PairExchange.lean ====
abbrev S4x1024x1284 : Shape := ⟨3, ![4, 1024, 1284]⟩
abbrev S4x512x1024 : Shape := ⟨3, ![4, 512, 1024]⟩
abbrev S8x6784 : Shape := ⟨2, ![8, 6784]⟩
abbrev S4x512x1284 : Shape := ⟨3, ![4, 512, 1284]⟩
abbrev S4x256x1024 : Shape := ⟨3, ![4, 256, 1024]⟩
abbrev S8x8x6784 : Shape := ⟨3, ![8, 8, 6784]⟩
abbrev S2 : Shape := ⟨1, ![2]⟩
abbrev S7 : Shape := ⟨1, ![7]⟩
abbrev S3 : Shape := ⟨1, ![3]⟩
abbrev S1 : Shape := ⟨1, ![1]⟩
abbrev S_ : Shape := ⟨0, ![]⟩
abbrev S1x8x6784 : Shape := ⟨3, ![1, 8, 6784]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x1284, .f32⟩
  | .hbm, ⟨1, _⟩ => ⟨S4x512x1024, .f32⟩
  | .hbm, ⟨2, _⟩ => ⟨S8x6784, .f32⟩
  | .hbm, ⟨3, _⟩ => ⟨S4x512x1284, .f32⟩
  | .hbm, ⟨4, _⟩ => ⟨S4x256x1024, .f32⟩
  | .hbm, ⟨5, _⟩ => ⟨S4x512x1284, .f32⟩
  | .hbm, ⟨6, _⟩ => ⟨S4x256x1024, .f32⟩
  | .hbm, ⟨7, _⟩ => ⟨S8x8x6784, .f32⟩
  | _, _ => ⟨S4x1024x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  let c0_i32_7 : BitVec 32 := 0#32
  ![v12.toNat, 0, 0]
def k0_off2 (d0 : Dev nD) : Fin 3 → Nat :=
  let c0_i32_9 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v18 : BitVec 32 := Scalar.muli v8 c512_i32
  let c0_i32_10 : BitVec 32 := 0#32
  ![0, v18.toNat, 0]
def k0_off3 (d0 : Dev nD) : Fin 3 → Nat :=
  let c0_i32_19 : BitVec 32 := 0#32
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_11 v8
  let c512_i32_12 : BitVec 32 := 512#32
  let v23 : BitVec 32 := Scalar.muli v22 c512_i32_12
  let c0_i32_20 : BitVec 32 := 0#32
  ![0, v23.toNat, 0]
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v24 : BitVec 32 := Scalar.muli v2 c4_i32_15
  let v25 : BitVec 32 := Scalar.addi c0_i32_16 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v26 : BitVec 32 := Scalar.muli v5 c2_i32_17
  let v27 : BitVec 32 := Scalar.addi v25 v26
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_18 : BitVec 32 := 1#32
  let v28 : BitVec 32 := Scalar.muli v13 c1_i32_18
  let v29 : BitVec 32 := Scalar.addi v27 v28
  v29.toNat
def k0_off4 (d0 : Dev nD) : Fin 3 → Nat :=
  let c0_i32_22 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v35 : BitVec 32 := Scalar.muli v8 c256_i32
  let c0_i32_23 : BitVec 32 := 0#32
  ![0, v35.toNat, 0]
def k0_off5 (d0 : Dev nD) : Fin 3 → Nat :=
  let c0_i32_32 : BitVec 32 := 0#32
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_24 v8
  let c256_i32_25 : BitVec 32 := 256#32
  let v40 : BitVec 32 := Scalar.muli v39 c256_i32_25
  let c0_i32_33 : BitVec 32 := 0#32
  ![0, v40.toNat, 0]
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v41 : BitVec 32 := Scalar.muli v2 c4_i32_28
  let v42 : BitVec 32 := Scalar.addi c0_i32_29 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v43 : BitVec 32 := Scalar.muli v5 c2_i32_30
  let v44 : BitVec 32 := Scalar.addi v42 v43
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_31 : BitVec 32 := 1#32
  let v45 : BitVec 32 := Scalar.muli v13 c1_i32_31
  let v46 : BitVec 32 := Scalar.addi v44 v45
  v46.toNat
def k0_dev3 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_34 : BitVec 32 := 0#32
  let v52 : BitVec 32 := Scalar.xori v2 c0_i32_34
  let c4_i32_39 : BitVec 32 := 4#32
  let v55 : BitVec 32 := Scalar.muli v52 c4_i32_39
  let v56 : BitVec 32 := Scalar.addi c0_i32_40 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_35 : BitVec 32 := 0#32
  let v53 : BitVec 32 := Scalar.xori v5 c0_i32_35
  let c2_i32_41 : BitVec 32 := 2#32
  let v57 : BitVec 32 := Scalar.muli v53 c2_i32_41
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v54 : BitVec 32 := Scalar.xori v8 c1_i32_36
  let c1_i32_42 : BitVec 32 := 1#32
  let v59 : BitVec 32 := Scalar.muli v54 c1_i32_42
  let v60 : BitVec 32 := Scalar.addi v58 v59
  v60.toNat
def k0_dev4 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_45 : BitVec 32 := 0#32
  let v67 : BitVec 32 := Scalar.xori v2 c0_i32_45
  let c4_i32_50 : BitVec 32 := 4#32
  let v70 : BitVec 32 := Scalar.muli v67 c4_i32_50
  let v71 : BitVec 32 := Scalar.addi c0_i32_51 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_46 : BitVec 32 := 1#32
  let v68 : BitVec 32 := Scalar.xori v5 c1_i32_46
  let c2_i32_52 : BitVec 32 := 2#32
  let v72 : BitVec 32 := Scalar.muli v68 c2_i32_52
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_47 : BitVec 32 := 0#32
  let v69 : BitVec 32 := Scalar.xori v8 c0_i32_47
  let c1_i32_53 : BitVec 32 := 1#32
  let v74 : BitVec 32 := Scalar.muli v69 c1_i32_53
  let v75 : BitVec 32 := Scalar.addi v73 v74
  v75.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_56 : BitVec 32 := 0#32
  let v82 : BitVec 32 := Scalar.xori v2 c0_i32_56
  let c4_i32_61 : BitVec 32 := 4#32
  let v85 : BitVec 32 := Scalar.muli v82 c4_i32_61
  let v86 : BitVec 32 := Scalar.addi c0_i32_62 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_57 : BitVec 32 := 1#32
  let v83 : BitVec 32 := Scalar.xori v5 c1_i32_57
  let c2_i32_63 : BitVec 32 := 2#32
  let v87 : BitVec 32 := Scalar.muli v83 c2_i32_63
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v84 : BitVec 32 := Scalar.xori v8 c1_i32_58
  let c1_i32_64 : BitVec 32 := 1#32
  let v89 : BitVec 32 := Scalar.muli v84 c1_i32_64
  let v90 : BitVec 32 := Scalar.addi v88 v89
  v90.toNat
def k0_dev6 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v97 : BitVec 32 := Scalar.xori v2 c1_i32_67
  let c4_i32_71 : BitVec 32 := 4#32
  let v100 : BitVec 32 := Scalar.muli v97 c4_i32_71
  let v101 : BitVec 32 := Scalar.addi c0_i32_72 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_68 : BitVec 32 := 0#32
  let v98 : BitVec 32 := Scalar.xori v5 c0_i32_68
  let c2_i32_73 : BitVec 32 := 2#32
  let v102 : BitVec 32 := Scalar.muli v98 c2_i32_73
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_69 : BitVec 32 := 0#32
  let v99 : BitVec 32 := Scalar.xori v8 c0_i32_69
  let c1_i32_74 : BitVec 32 := 1#32
  let v104 : BitVec 32 := Scalar.muli v99 c1_i32_74
  let v105 : BitVec 32 := Scalar.addi v103 v104
  v105.toNat
def k0_dev7 (d0 : Dev nD) : Nat :=
  let c0_i32_83 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_77 : BitVec 32 := 1#32
  let v112 : BitVec 32 := Scalar.xori v2 c1_i32_77
  let c4_i32_82 : BitVec 32 := 4#32
  let v115 : BitVec 32 := Scalar.muli v112 c4_i32_82
  let v116 : BitVec 32 := Scalar.addi c0_i32_83 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_78 : BitVec 32 := 0#32
  let v113 : BitVec 32 := Scalar.xori v5 c0_i32_78
  let c2_i32_84 : BitVec 32 := 2#32
  let v117 : BitVec 32 := Scalar.muli v113 c2_i32_84
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_79 : BitVec 32 := 1#32
  let v114 : BitVec 32 := Scalar.xori v8 c1_i32_79
  let c1_i32_85 : BitVec 32 := 1#32
  let v119 : BitVec 32 := Scalar.muli v114 c1_i32_85
  let v120 : BitVec 32 := Scalar.addi v118 v119
  v120.toNat
def k0_dev8 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_88 : BitVec 32 := 1#32
  let v127 : BitVec 32 := Scalar.xori v2 c1_i32_88
  let c4_i32_92 : BitVec 32 := 4#32
  let v130 : BitVec 32 := Scalar.muli v127 c4_i32_92
  let v131 : BitVec 32 := Scalar.addi c0_i32_93 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_89 : BitVec 32 := 1#32
  let v128 : BitVec 32 := Scalar.xori v5 c1_i32_89
  let c2_i32_94 : BitVec 32 := 2#32
  let v132 : BitVec 32 := Scalar.muli v128 c2_i32_94
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_90 : BitVec 32 := 0#32
  let v129 : BitVec 32 := Scalar.xori v8 c0_i32_90
  let c1_i32_95 : BitVec 32 := 1#32
  let v134 : BitVec 32 := Scalar.muli v129 c1_i32_95
  let v135 : BitVec 32 := Scalar.addi v133 v134
  v135.toNat
def k0_dev9 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_98 : BitVec 32 := 1#32
  let v142 : BitVec 32 := Scalar.xori v2 c1_i32_98
  let c4_i32_102 : BitVec 32 := 4#32
  let v145 : BitVec 32 := Scalar.muli v142 c4_i32_102
  let v146 : BitVec 32 := Scalar.addi c0_i32_103 v145
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_99 : BitVec 32 := 1#32
  let v143 : BitVec 32 := Scalar.xori v5 c1_i32_99
  let c2_i32_104 : BitVec 32 := 2#32
  let v147 : BitVec 32 := Scalar.muli v143 c2_i32_104
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v144 : BitVec 32 := Scalar.xori v8 c1_i32_100
  let c1_i32_105 : BitVec 32 := 1#32
  let v149 : BitVec 32 := Scalar.muli v144 c1_i32_105
  let v150 : BitVec 32 := Scalar.addi v148 v149
  v150.toNat
-- ==== PairExchangeRef.lean ====
abbrev S32x1024x1284 : Shape := ⟨3, ![32, 1024, 1284]⟩
abbrev S32x512x1024 : Shape := ⟨3, ![32, 512, 1024]⟩
abbrev S64x6784 : Shape := ⟨2, ![64, 6784]⟩
abbrev S4x2x4x1024x1284 : Shape := ⟨5, ![4, 2, 4, 1024, 1284]⟩
abbrev S4x2x4x512x1024 : Shape := ⟨5, ![4, 2, 4, 512, 1024]⟩
abbrev S1x8x8x6784 : Shape := ⟨4, ![1, 8, 8, 6784]⟩
abbrev S8x8x8x6784 : Shape := ⟨4, ![8, 8, 8, 6784]⟩
abbrev S64x8x6784 : Shape := ⟨3, ![64, 8, 6784]⟩
abbrev S4x1x4x512x1284 : Shape := ⟨5, ![4, 1, 4, 512, 1284]⟩
abbrev S4x2x4x512x1284 : Shape := ⟨5, ![4, 2, 4, 512, 1284]⟩
abbrev S32x512x1284 : Shape := ⟨3, ![32, 512, 1284]⟩
abbrev S4x1x4x256x1024 : Shape := ⟨5, ![4, 1, 4, 256, 1024]⟩
abbrev S4x2x4x256x1024 : Shape := ⟨5, ![4, 2, 4, 256, 1024]⟩
abbrev S32x256x1024 : Shape := ⟨3, ![32, 256, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x1024x1284, .f32⟩
  | .hbm, ⟨1, _⟩ => ⟨S32x512x1024, .f32⟩
  | .hbm, ⟨2, _⟩ => ⟨S64x6784, .f32⟩
  | .hbm, ⟨3, _⟩ => ⟨S4x2x4x1024x1284, .f32⟩
  | .hbm, ⟨4, _⟩ => ⟨S4x2x4x512x1024, .f32⟩
  | .hbm, ⟨5, _⟩ => ⟨S1x8x8x6784, .f32⟩
  | .hbm, ⟨6, _⟩ => ⟨S8x8x8x6784, .f32⟩
  | .hbm, ⟨7, _⟩ => ⟨S64x8x6784, .f32⟩
  | .hbm, ⟨8, _⟩ => ⟨S4x1x4x512x1284, .f32⟩
  | .hbm, ⟨9, _⟩ => ⟨S4x1x4x512x1284, .f32⟩
  | .hbm, ⟨10, _⟩ => ⟨S4x2x4x512x1284, .f32⟩
  | .hbm, ⟨11, _⟩ => ⟨S32x512x1284, .f32⟩
  | .hbm, ⟨12, _⟩ => ⟨S4x1x4x256x1024, .f32⟩
  | .hbm, ⟨13, _⟩ => ⟨S4x1x4x256x1024, .f32⟩
  | .hbm, ⟨14, _⟩ => ⟨S4x2x4x256x1024, .f32⟩
  | .hbm, ⟨15, _⟩ => ⟨S32x256x1024, .f32⟩
  | .hbm, ⟨16, _⟩ => ⟨S4x1x4x512x1284, .f32⟩
  | .hbm, ⟨17, _⟩ => ⟨S4x1x4x512x1284, .f32⟩
  | .hbm, ⟨18, _⟩ => ⟨S4x2x4x512x1284, .f32⟩
  | .hbm, ⟨19, _⟩ => ⟨S32x512x1284, .f32⟩
  | .hbm, ⟨20, _⟩ => ⟨S4x1x4x256x1024, .f32⟩
  | .hbm, ⟨21, _⟩ => ⟨S4x1x4x256x1024, .f32⟩
  | .hbm, ⟨22, _⟩ => ⟨S4x2x4x256x1024, .f32⟩
  | .hbm, ⟨23, _⟩ => ⟨S32x256x1024, .f32⟩
  | _, _ => ⟨S32x1024x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩

abbrev nD : Nat := 1
abbrev τ : Topo := Topo.v7x

variable {F : FTy → Type} [FloatOps F]
-- ==== GatherWeights.lean ====
abbrev S1024x1284 : Shape := ⟨2, ![1024, 1284]⟩
abbrev S512x1024 : Shape := ⟨2, ![512, 1024]⟩
abbrev S8x384 : Shape := ⟨2, ![8, 384]⟩
abbrev S4x1024x1284 : Shape := ⟨3, ![4, 1024, 1284]⟩
abbrev S4x512x1024 : Shape := ⟨3, ![4, 512, 1024]⟩
abbrev S4x8x384 : Shape := ⟨3, ![4, 8, 384]⟩
abbrev S2x6 : Shape := ⟨2, ![2, 6]⟩
abbrev S3 : Shape := ⟨1, ![3]⟩
abbrev S1 : Shape := ⟨1, ![1]⟩
abbrev S_ : Shape := ⟨0, ![]⟩
abbrev S1x1024x1284 : Shape := ⟨3, ![1, 1024, 1284]⟩
abbrev S1x512x1024 : Shape := ⟨3, ![1, 512, 1024]⟩
abbrev S1x8x384 : Shape := ⟨3, ![1, 8, 384]⟩
abbrev S1x1 : Shape := ⟨2, ![1, 1]⟩
abbrev S512x1284 : Shape := ⟨2, ![512, 1284]⟩
abbrev S1x512x1284 : Shape := ⟨3, ![1, 512, 1284]⟩
abbrev S256x1024 : Shape := ⟨2, ![256, 1024]⟩
abbrev S1x256x1024 : Shape := ⟨3, ![1, 256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1284, .bf16⟩
  | .hbm, ⟨1, _⟩ => ⟨S512x1024, .bf16⟩
  | .hbm, ⟨2, _⟩ => ⟨S8x384, .f32⟩
  | .hbm, ⟨3, _⟩ => ⟨S4x1024x1284, .bf16⟩
  | .hbm, ⟨4, _⟩ => ⟨S4x512x1024, .bf16⟩
  | .hbm, ⟨5, _⟩ => ⟨S4x8x384, .f32⟩
  | _, _ => ⟨S1024x1284, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_9 : BitVec 32 := 0#32
  let c0_i32_10 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_12 : BitVec 32 := 0#32
  let c0_i32_13 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_15 : BitVec 32 := 0#32
  let c0_i32_16 : BitVec 32 := 0#32
  ![v10.toNat, 0, 0]
def k0_off4 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_17 : BitVec 32 := 512#32
  let v29 : BitVec 32 := Scalar.muli v8 c512_i32_17
  let c0_i32_28 : BitVec 32 := 0#32
  ![v29.toNat, 0]
def k0_off5 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_17 : BitVec 32 := 512#32
  let v29 : BitVec 32 := Scalar.muli v8 c512_i32_17
  let c0_i32_27 : BitVec 32 := 0#32
  ![v10.toNat, v29.toNat, 0]
def k0_dev1 (d0 : Dev nD) : Nat :=
  let c0_i32_23 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_22 : BitVec 32 := 4#32
  let v30 : BitVec 32 := Scalar.muli v12 c4_i32_22
  let v31 : BitVec 32 := Scalar.addi c0_i32_23 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v32 : BitVec 32 := Scalar.muli v5 c2_i32_24
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v34 : BitVec 32 := Scalar.muli v8 c1_i32_25
  let v35 : BitVec 32 := Scalar.addi v33 v34
  v35.toNat
def k0_dev2 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v46 : BitVec 32 := Scalar.muli v2 c4_i32_36
  let v47 : BitVec 32 := Scalar.addi c0_i32_37 v46
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_38 : BitVec 32 := 2#32
  let v48 : BitVec 32 := Scalar.muli v13 c2_i32_38
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v50 : BitVec 32 := Scalar.muli v8 c1_i32_39
  let v51 : BitVec 32 := Scalar.addi v49 v50
  v51.toNat
def k0_dev3 (d0 : Dev nD) : Nat :=
  let c0_i32_51 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_50 : BitVec 32 := 4#32
  let v62 : BitVec 32 := Scalar.muli v14 c4_i32_50
  let v63 : BitVec 32 := Scalar.addi c0_i32_51 v62
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_52 : BitVec 32 := 2#32
  let v64 : BitVec 32 := Scalar.muli v15 c2_i32_52
  let v65 : BitVec 32 := Scalar.addi v63 v64
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v66 : BitVec 32 := Scalar.muli v8 c1_i32_53
  let v67 : BitVec 32 := Scalar.addi v65 v66
  v67.toNat
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_58 : BitVec 32 := 256#32
  let v77 : BitVec 32 := Scalar.muli v8 c256_i32_58
  let c0_i32_69 : BitVec 32 := 0#32
  ![v77.toNat, 0]
def k0_off7 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_58 : BitVec 32 := 256#32
  let v77 : BitVec 32 := Scalar.muli v8 c256_i32_58
  let c0_i32_68 : BitVec 32 := 0#32
  ![v10.toNat, v77.toNat, 0]
def k0_dev4 (d0 : Dev nD) : Nat :=
  let c0_i32_64 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_63 : BitVec 32 := 4#32
  let v78 : BitVec 32 := Scalar.muli v12 c4_i32_63
  let v79 : BitVec 32 := Scalar.addi c0_i32_64 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v80 : BitVec 32 := Scalar.muli v5 c2_i32_65
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v82 : BitVec 32 := Scalar.muli v8 c1_i32_66
  let v83 : BitVec 32 := Scalar.addi v81 v82
  v83.toNat
def k0_dev5 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v94 : BitVec 32 := Scalar.muli v2 c4_i32_77
  let v95 : BitVec 32 := Scalar.addi c0_i32_78 v94
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_79 : BitVec 32 := 2#32
  let v96 : BitVec 32 := Scalar.muli v13 c2_i32_79
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v98 : BitVec 32 := Scalar.muli v8 c1_i32_80
  let v99 : BitVec 32 := Scalar.addi v97 v98
  v99.toNat
def k0_dev6 (d0 : Dev nD) : Nat :=
  let c0_i32_92 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_91 : BitVec 32 := 4#32
  let v110 : BitVec 32 := Scalar.muli v14 c4_i32_91
  let v111 : BitVec 32 := Scalar.addi c0_i32_92 v110
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_93 : BitVec 32 := 2#32
  let v112 : BitVec 32 := Scalar.muli v15 c2_i32_93
  let v113 : BitVec 32 := Scalar.addi v111 v112
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v114 : BitVec 32 := Scalar.muli v8 c1_i32_94
  let v115 : BitVec 32 := Scalar.addi v113 v114
  v115.toNat
def k0_dev7 (d0 : Dev nD) : Nat :=
  let c0_i32_102 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_101 : BitVec 32 := 4#32
  let v124 : BitVec 32 := Scalar.muli v12 c4_i32_101
  let v125 : BitVec 32 := Scalar.addi c0_i32_102 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v126 : BitVec 32 := Scalar.muli v5 c2_i32_103
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v128 : BitVec 32 := Scalar.muli v8 c1_i32_104
  let v129 : BitVec 32 := Scalar.addi v127 v128
  v129.toNat
def k0_dev8 (d0 : Dev nD) : Nat :=
  let c0_i32_110 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_109 : BitVec 32 := 4#32
  let v136 : BitVec 32 := Scalar.muli v2 c4_i32_109
  let v137 : BitVec 32 := Scalar.addi c0_i32_110 v136
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_111 : BitVec 32 := 2#32
  let v138 : BitVec 32 := Scalar.muli v13 c2_i32_111
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v140 : BitVec 32 := Scalar.muli v8 c1_i32_112
  let v141 : BitVec 32 := Scalar.addi v139 v140
  v141.toNat
def k0_dev9 (d0 : Dev nD) : Nat :=
  let c0_i32_118 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_117 : BitVec 32 := 4#32
  let v148 : BitVec 32 := Scalar.muli v14 c4_i32_117
  let v149 : BitVec 32 := Scalar.addi c0_i32_118 v148
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_119 : BitVec 32 := 2#32
  let v150 : BitVec 32 := Scalar.muli v15 c2_i32_119
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v152 : BitVec 32 := Scalar.muli v8 c1_i32_120
  let v153 : BitVec 32 := Scalar.addi v151 v152
  v153.toNat
def k0_off8 (d0 : Dev nD) : Fin 3 → Nat :=
  let c2_i32_123 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v160 : BitVec 32 := Scalar.muli c2_i32_123 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.addi v160 v5
  let c0_i32_133 : BitVec 32 := 0#32
  let c0_i32_134 : BitVec 32 := 0#32
  ![v161.toNat, 0, 0]
def k0_off9 (d0 : Dev nD) : Fin 3 → Nat :=
  let c2_i32_123 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v160 : BitVec 32 := Scalar.muli c2_i32_123 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.addi v160 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_124 : BitVec 32 := 512#32
  let v162 : BitVec 32 := Scalar.muli v8 c512_i32_124
  let c0_i32_137 : BitVec 32 := 0#32
  ![v161.toNat, v162.toNat, 0]
def k0_dev10 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v177 : BitVec 32 := Scalar.muli v2 c4_i32_142
  let v178 : BitVec 32 := Scalar.addi c0_i32_143 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v179 : BitVec 32 := Scalar.muli v5 c2_i32_144
  let v180 : BitVec 32 := Scalar.addi v178 v179
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_145 : BitVec 32 := 1#32
  let v181 : BitVec 32 := Scalar.muli v11 c1_i32_145
  let v182 : BitVec 32 := Scalar.addi v180 v181
  v182.toNat
def k0_off10 (d0 : Dev nD) : Fin 3 → Nat :=
  let c2_i32_152 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v193 : BitVec 32 := Scalar.muli c2_i32_152 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v194 : BitVec 32 := Scalar.addi v193 v13
  let c0_i32_162 : BitVec 32 := 0#32
  let c0_i32_163 : BitVec 32 := 0#32
  ![v194.toNat, 0, 0]
def k0_off11 (d0 : Dev nD) : Fin 3 → Nat :=
  let c2_i32_152 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v193 : BitVec 32 := Scalar.muli c2_i32_152 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v194 : BitVec 32 := Scalar.addi v193 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_153 : BitVec 32 := 512#32
  let v195 : BitVec 32 := Scalar.muli v8 c512_i32_153
  let c0_i32_166 : BitVec 32 := 0#32
  ![v194.toNat, v195.toNat, 0]
def k0_dev11 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v210 : BitVec 32 := Scalar.muli v2 c4_i32_172
  let v211 : BitVec 32 := Scalar.addi c0_i32_173 v210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v212 : BitVec 32 := Scalar.muli v5 c2_i32_174
  let v213 : BitVec 32 := Scalar.addi v211 v212
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_175 : BitVec 32 := 1#32
  let v214 : BitVec 32 := Scalar.muli v11 c1_i32_175
  let v215 : BitVec 32 := Scalar.addi v213 v214
  v215.toNat
def k0_off12 (d0 : Dev nD) : Fin 3 → Nat :=
  let c2_i32_182 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v226 : BitVec 32 := Scalar.muli c2_i32_182 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v227 : BitVec 32 := Scalar.addi v226 v15
  let c0_i32_192 : BitVec 32 := 0#32
  let c0_i32_193 : BitVec 32 := 0#32
  ![v227.toNat, 0, 0]
def k0_off13 (d0 : Dev nD) : Fin 3 → Nat :=
  let c2_i32_182 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v226 : BitVec 32 := Scalar.muli c2_i32_182 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v227 : BitVec 32 := Scalar.addi v226 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_183 : BitVec 32 := 512#32
  let v228 : BitVec 32 := Scalar.muli v8 c512_i32_183
  let c0_i32_196 : BitVec 32 := 0#32
  ![v227.toNat, v228.toNat, 0]
def k0_dev12 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v243 : BitVec 32 := Scalar.muli v2 c4_i32_201
  let v244 : BitVec 32 := Scalar.addi c0_i32_202 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v245 : BitVec 32 := Scalar.muli v5 c2_i32_203
  let v246 : BitVec 32 := Scalar.addi v244 v245
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_204 : BitVec 32 := 1#32
  let v247 : BitVec 32 := Scalar.muli v11 c1_i32_204
  let v248 : BitVec 32 := Scalar.addi v246 v247
  v248.toNat
def k0_off14 (d0 : Dev nD) : Fin 3 → Nat :=
  let c2_i32_211 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v259 : BitVec 32 := Scalar.muli c2_i32_211 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v260 : BitVec 32 := Scalar.addi v259 v5
  let c0_i32_221 : BitVec 32 := 0#32
  let c0_i32_222 : BitVec 32 := 0#32
  ![v260.toNat, 0, 0]
def k0_off15 (d0 : Dev nD) : Fin 3 → Nat :=
  let c2_i32_211 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v259 : BitVec 32 := Scalar.muli c2_i32_211 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v260 : BitVec 32 := Scalar.addi v259 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_212 : BitVec 32 := 256#32
  let v261 : BitVec 32 := Scalar.muli v8 c256_i32_212
  let c0_i32_225 : BitVec 32 := 0#32
  ![v260.toNat, v261.toNat, 0]
def k0_dev13 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v276 : BitVec 32 := Scalar.muli v2 c4_i32_231
  let v277 : BitVec 32 := Scalar.addi c0_i32_232 v276
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v278 : BitVec 32 := Scalar.muli v5 c2_i32_233
  let v279 : BitVec 32 := Scalar.addi v277 v278
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_234 : BitVec 32 := 1#32
  let v280 : BitVec 32 := Scalar.muli v11 c1_i32_234
  let v281 : BitVec 32 := Scalar.addi v279 v280
  v281.toNat
def k0_off16 (d0 : Dev nD) : Fin 3 → Nat :=
  let c2_i32_241 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v292 : BitVec 32 := Scalar.muli c2_i32_241 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v293 : BitVec 32 := Scalar.addi v292 v13
  let c0_i32_251 : BitVec 32 := 0#32
  let c0_i32_252 : BitVec 32 := 0#32
  ![v293.toNat, 0, 0]
def k0_off17 (d0 : Dev nD) : Fin 3 → Nat :=
  let c2_i32_241 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v292 : BitVec 32 := Scalar.muli c2_i32_241 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v293 : BitVec 32 := Scalar.addi v292 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_242 : BitVec 32 := 256#32
  let v294 : BitVec 32 := Scalar.muli v8 c256_i32_242
  let c0_i32_255 : BitVec 32 := 0#32
  ![v293.toNat, v294.toNat, 0]
def k0_dev14 (d0 : Dev nD) : Nat :=
  let c0_i32_262 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_261 : BitVec 32 := 4#32
  let v309 : BitVec 32 := Scalar.muli v2 c4_i32_261
  let v310 : BitVec 32 := Scalar.addi c0_i32_262 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_263 : BitVec 32 := 2#32
  let v311 : BitVec 32 := Scalar.muli v5 c2_i32_263
  let v312 : BitVec 32 := Scalar.addi v310 v311
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_264 : BitVec 32 := 1#32
  let v313 : BitVec 32 := Scalar.muli v11 c1_i32_264
  let v314 : BitVec 32 := Scalar.addi v312 v313
  v314.toNat
def k0_off18 (d0 : Dev nD) : Fin 3 → Nat :=
  let c2_i32_271 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v325 : BitVec 32 := Scalar.muli c2_i32_271 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v326 : BitVec 32 := Scalar.addi v325 v15
  let c0_i32_281 : BitVec 32 := 0#32
  let c0_i32_282 : BitVec 32 := 0#32
  ![v326.toNat, 0, 0]
def k0_off19 (d0 : Dev nD) : Fin 3 → Nat :=
  let c2_i32_271 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v325 : BitVec 32 := Scalar.muli c2_i32_271 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v326 : BitVec 32 := Scalar.addi v325 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_272 : BitVec 32 := 256#32
  let v327 : BitVec 32 := Scalar.muli v8 c256_i32_272
  let c0_i32_285 : BitVec 32 := 0#32
  ![v326.toNat, v327.toNat, 0]
def k0_dev15 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v342 : BitVec 32 := Scalar.muli v2 c4_i32_291
  let v343 : BitVec 32 := Scalar.addi c0_i32_292 v342
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_293 : BitVec 32 := 2#32
  let v344 : BitVec 32 := Scalar.muli v5 c2_i32_293
  let v345 : BitVec 32 := Scalar.addi v343 v344
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_294 : BitVec 32 := 1#32
  let v346 : BitVec 32 := Scalar.muli v11 c1_i32_294
  let v347 : BitVec 32 := Scalar.addi v345 v346
  v347.toNat
def k0_off20 (d0 : Dev nD) : Fin 2 → Nat :=
  let c1_i32_302 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v360 : BitVec 32 := Scalar.subi c1_i32_302 v8
  let c512_i32_303 : BitVec 32 := 512#32
  let v361 : BitVec 32 := Scalar.muli v360 c512_i32_303
  let c0_i32_314 : BitVec 32 := 0#32
  ![v361.toNat, 0]
def k0_off21 (d0 : Dev nD) : Fin 3 → Nat :=
  let c2_i32_301 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v358 : BitVec 32 := Scalar.muli c2_i32_301 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v359 : BitVec 32 := Scalar.addi v358 v5
  let c1_i32_302 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v360 : BitVec 32 := Scalar.subi c1_i32_302 v8
  let c512_i32_303 : BitVec 32 := 512#32
  let v361 : BitVec 32 := Scalar.muli v360 c512_i32_303
  let c0_i32_316 : BitVec 32 := 0#32
  ![v359.toNat, v361.toNat, 0]
def k0_off22 (d0 : Dev nD) : Fin 3 → Nat :=
  let c2_i32_318 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v376 : BitVec 32 := Scalar.muli c2_i32_318 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v377 : BitVec 32 := Scalar.addi v376 v13
  let c1_i32_319 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v378 : BitVec 32 := Scalar.subi c1_i32_319 v8
  let c512_i32_320 : BitVec 32 := 512#32
  let v379 : BitVec 32 := Scalar.muli v378 c512_i32_320
  let c0_i32_333 : BitVec 32 := 0#32
  ![v377.toNat, v379.toNat, 0]
def k0_off23 (d0 : Dev nD) : Fin 3 → Nat :=
  let c2_i32_335 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v394 : BitVec 32 := Scalar.muli c2_i32_335 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v395 : BitVec 32 := Scalar.addi v394 v15
  let c1_i32_336 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v396 : BitVec 32 := Scalar.subi c1_i32_336 v8
  let c512_i32_337 : BitVec 32 := 512#32
  let v397 : BitVec 32 := Scalar.muli v396 c512_i32_337
  let c0_i32_350 : BitVec 32 := 0#32
  ![v395.toNat, v397.toNat, 0]
def k0_off24 (d0 : Dev nD) : Fin 2 → Nat :=
  let c1_i32_353 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v414 : BitVec 32 := Scalar.subi c1_i32_353 v8
  let c256_i32_354 : BitVec 32 := 256#32
  let v415 : BitVec 32 := Scalar.muli v414 c256_i32_354
  let c0_i32_365 : BitVec 32 := 0#32
  ![v415.toNat, 0]
def k0_off25 (d0 : Dev nD) : Fin 3 → Nat :=
  let c2_i32_352 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v412 : BitVec 32 := Scalar.muli c2_i32_352 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v413 : BitVec 32 := Scalar.addi v412 v5
  let c1_i32_353 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v414 : BitVec 32 := Scalar.subi c1_i32_353 v8
  let c256_i32_354 : BitVec 32 := 256#32
  let v415 : BitVec 32 := Scalar.muli v414 c256_i32_354
  let c0_i32_367 : BitVec 32 := 0#32
  ![v413.toNat, v415.toNat, 0]
def k0_off26 (d0 : Dev nD) : Fin 3 → Nat :=
  let c2_i32_369 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v430 : BitVec 32 := Scalar.muli c2_i32_369 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v431 : BitVec 32 := Scalar.addi v430 v13
  let c1_i32_370 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v432 : BitVec 32 := Scalar.subi c1_i32_370 v8
  let c256_i32_371 : BitVec 32 := 256#32
  let v433 : BitVec 32 := Scalar.muli v432 c256_i32_371
  let c0_i32_384 : BitVec 32 := 0#32
  ![v431.toNat, v433.toNat, 0]
def k0_off27 (d0 : Dev nD) : Fin 3 → Nat :=
  let c2_i32_386 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v448 : BitVec 32 := Scalar.muli c2_i32_386 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v449 : BitVec 32 := Scalar.addi v448 v15
  let c1_i32_387 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v450 : BitVec 32 := Scalar.subi c1_i32_387 v8
  let c256_i32_388 : BitVec 32 := 256#32
  let v451 : BitVec 32 := Scalar.muli v450 c256_i32_388
  let c0_i32_401 : BitVec 32 := 0#32
  ![v449.toNat, v451.toNat, 0]
-- ==== GatherWeightsRef.lean ====
abbrev S4096x1284 : Shape := ⟨2, ![4096, 1284]⟩
abbrev S2048x1024 : Shape := ⟨2, ![2048, 1024]⟩
abbrev S32x384 : Shape := ⟨2, ![32, 384]⟩
abbrev S4x1024x1284 : Shape := ⟨3, ![4, 1024, 1284]⟩
abbrev S4x512x1024 : Shape := ⟨3, ![4, 512, 1024]⟩
abbrev S4x8x384 : Shape := ⟨3, ![4, 8, 384]⟩

abbrev nBuf : Space → Nat
  | .hbm => 6
  | .vmem => 0
  | .smem => 0
  | _ => 0

abbrev bufTy : (tb : Table) → Fin (tcTables nBuf tb) → BufTy
  | .hbm, ⟨0, _⟩ => ⟨S4096x1284, .bf16⟩
  | .hbm, ⟨1, _⟩ => ⟨S2048x1024, .bf16⟩
  | .hbm, ⟨2, _⟩ => ⟨S32x384, .f32⟩
  | .hbm, ⟨3, _⟩ => ⟨S4x1024x1284, .bf16⟩
  | .hbm, ⟨4, _⟩ => ⟨S4x512x1024, .bf16⟩
  | .hbm, ⟨5, _⟩ => ⟨S4x8x384, .f32⟩
  | _, _ => ⟨S4096x1284, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PairAddIn.lean ====
abbrev S4x512x1284 : Shape := ⟨3, ![4, 512, 1284]⟩
abbrev S1x128x1284 : Shape := ⟨3, ![1, 128, 1284]⟩

abbrev nBuf : Space → Nat
  | .hbm => 3
  | .vmem => 6
  | .smem => 0
  | _ => 0

abbrev bufTy : (tb : Table) → Fin (tcTables nBuf tb) → BufTy
  | .hbm, ⟨0, _⟩ => ⟨S4x512x1284, .f32⟩
  | .hbm, ⟨1, _⟩ => ⟨S4x512x1284, .f32⟩
  | .hbm, ⟨2, _⟩ => ⟨S4x512x1284, .f32⟩
  | .local _ .vmem, ⟨0, _⟩ => ⟨S1x128x1284, .f32⟩
  | .local _ .vmem, ⟨1, _⟩ => ⟨S1x128x1284, .f32⟩
  | .local _ .vmem, ⟨2, _⟩ => ⟨S1x128x1284, .f32⟩
  | .local _ .vmem, ⟨3, _⟩ => ⟨S1x128x1284, .f32⟩
  | .local _ .vmem, ⟨4, _⟩ => ⟨S1x128x1284, .f32⟩
  | .local _ .vmem, ⟨5, _⟩ => ⟨S1x128x1284, .f32⟩
  | _, _ => ⟨S4x512x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddInRefIdeal.lean ====
abbrev S4x512x1284 : Shape := ⟨3, ![4, 512, 1284]⟩

abbrev nBuf : Space → Nat
  | .hbm => 3
  | .vmem => 0
  | .smem => 0
  | _ => 0

abbrev bufTy : (tb : Table) → Fin (tcTables nBuf tb) → BufTy
  | .hbm, ⟨0, _⟩ => ⟨S4x512x1284, .f32⟩
  | .hbm, ⟨1, _⟩ => ⟨S4x512x1284, .f32⟩
  | .hbm, ⟨2, _⟩ => ⟨S4x512x1284, .f32⟩
  | _, _ => ⟨S4x512x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairAddInRef.lean ====
abbrev S4x512x1284 : Shape := ⟨3, ![4, 512, 1284]⟩

abbrev nBuf : Space → Nat
  | .hbm => 3
  | .vmem => 0
  | .smem => 0
  | _ => 0

abbrev bufTy : (tb : Table) → Fin (tcTables nBuf tb) → BufTy
  | .hbm, ⟨0, _⟩ => ⟨S4x512x1284, .f32⟩
  | .hbm, ⟨1, _⟩ => ⟨S4x512x1284, .f32⟩
  | .hbm, ⟨2, _⟩ => ⟨S4x512x1284, .f32⟩
  | _, _ => ⟨S4x512x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairAddOut.lean ====
abbrev S4x256x1024 : Shape := ⟨3, ![4, 256, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddOutRef.lean ====
abbrev S4x256x1024 : Shape := ⟨3, ![4, 256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ChipAddIn.lean ====
abbrev S4x512x1284 : Shape := ⟨3, ![4, 512, 1284]⟩
abbrev S512x1284 : Shape := ⟨2, ![512, 1284]⟩
abbrev S1x128x1284 : Shape := ⟨3, ![1, 128, 1284]⟩
abbrev S128x1284 : Shape := ⟨2, ![128, 1284]⟩

abbrev nBuf : Space → Nat
  | .hbm => 2
  | .vmem => 10
  | .smem => 0
  | _ => 0

abbrev bufTy : (tb : Table) → Fin (tcTables nBuf tb) → BufTy
  | .hbm, ⟨0, _⟩ => ⟨S4x512x1284, .f32⟩
  | .hbm, ⟨1, _⟩ => ⟨S512x1284, .f32⟩
  | .local _ .vmem, ⟨0, _⟩ => ⟨S1x128x1284, .f32⟩
  | .local _ .vmem, ⟨1, _⟩ => ⟨S1x128x1284, .f32⟩
  | .local _ .vmem, ⟨2, _⟩ => ⟨S1x128x1284, .f32⟩
  | .local _ .vmem, ⟨3, _⟩ => ⟨S1x128x1284, .f32⟩
  | .local _ .vmem, ⟨4, _⟩ => ⟨S1x128x1284, .f32⟩
  | .local _ .vmem, ⟨5, _⟩ => ⟨S1x128x1284, .f32⟩
  | .local _ .vmem, ⟨6, _⟩ => ⟨S1x128x1284, .f32⟩
  | .local _ .vmem, ⟨7, _⟩ => ⟨S1x128x1284, .f32⟩
  | .local _ .vmem, ⟨8, _⟩ => ⟨S128x1284, .f32⟩
  | .local _ .vmem, ⟨9, _⟩ => ⟨S128x1284, .f32⟩
  | _, _ => ⟨S4x512x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipAddInRefIdeal.lean ====
abbrev S4x512x1284 : Shape := ⟨3, ![4, 512, 1284]⟩
abbrev S_ : Shape := ⟨0, ![]⟩
abbrev S512x1284 : Shape := ⟨2, ![512, 1284]⟩

abbrev nBuf : Space → Nat
  | .hbm => 3
  | .vmem => 0
  | .smem => 0
  | _ => 0

abbrev bufTy : (tb : Table) → Fin (tcTables nBuf tb) → BufTy
  | .hbm, ⟨0, _⟩ => ⟨S4x512x1284, .f32⟩
  | .hbm, ⟨1, _⟩ => ⟨S_, .f32⟩
  | .hbm, ⟨2, _⟩ => ⟨S512x1284, .f32⟩
  | _, _ => ⟨S4x512x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ChipAddOut.lean ====
abbrev S4x256x1024 : Shape := ⟨3, ![4, 256, 1024]⟩
abbrev S256x1024 : Shape := ⟨2, ![256, 1024]⟩
abbrev S1x128x1024 : Shape := ⟨3, ![1, 128, 1024]⟩
abbrev S128x1024 : Shape := ⟨2, ![128, 1024]⟩

abbrev nBuf : Space → Nat
  | .hbm => 2
  | .vmem => 10
  | .smem => 0
  | _ => 0

abbrev bufTy : (tb : Table) → Fin (tcTables nBuf tb) → BufTy
  | .hbm, ⟨0, _⟩ => ⟨S4x256x1024, .f32⟩
  | .hbm, ⟨1, _⟩ => ⟨S256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S128x1024, .f32⟩
  | .local _ .vmem, ⟨9, _⟩ => ⟨S128x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipAddOutRefIdeal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S_, .f32⟩
  | .hbm, ⟨2, _⟩ => ⟨S256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumSlots.lean ====
abbrev S8x8x6784 : Shape := ⟨3, ![8, 8, 6784]⟩
abbrev S8x6784 : Shape := ⟨2, ![8, 6784]⟩
abbrev S1x8x6784 : Shape := ⟨3, ![1, 8, 6784]⟩

abbrev nBuf : Space → Nat
  | .hbm => 2
  | .vmem => 2
  | .smem => 0
  | _ => 0

abbrev bufTy : (tb : Table) → Fin (tcTables nBuf tb) → BufTy
  | .hbm, ⟨0, _⟩ => ⟨S8x8x6784, .f32⟩
  | .hbm, ⟨1, _⟩ => ⟨S8x6784, .f32⟩
  | .local _ .vmem, ⟨0, _⟩ => ⟨S8x8x6784, .f32⟩
  | .local _ .vmem, ⟨1, _⟩ => ⟨S8x6784, .f32⟩
  | _, _ => ⟨S8x8x6784, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x6784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x6784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSlotsRefIdeal.lean ====
abbrev S8x8x6784 : Shape := ⟨3, ![8, 8, 6784]⟩
abbrev S_ : Shape := ⟨0, ![]⟩
abbrev S8x6784 : Shape := ⟨2, ![8, 6784]⟩

abbrev nBuf : Space → Nat
  | .hbm => 3
  | .vmem => 0
  | .smem => 0
  | _ => 0

abbrev bufTy : (tb : Table) → Fin (tcTables nBuf tb) → BufTy
  | .hbm, ⟨0, _⟩ => ⟨S8x8x6784, .f32⟩
  | .hbm, ⟨1, _⟩ => ⟨S_, .f32⟩
  | .hbm, ⟨2, _⟩ => ⟨S8x6784, .f32⟩
  | _, _ => ⟨S8x8x6784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamwIn.lean ====
abbrev S1024x1284 : Shape := ⟨2, ![1024, 1284]⟩
abbrev S128x1284 : Shape := ⟨2, ![128, 1284]⟩

abbrev nBuf : Space → Nat
  | .hbm => 7
  | .vmem => 14
  | .smem => 0
  | _ => 0

abbrev bufTy : (tb : Table) → Fin (tcTables nBuf tb) → BufTy
  | .hbm, ⟨0, _⟩ => ⟨S1024x1284, .f32⟩
  | .hbm, ⟨1, _⟩ => ⟨S1024x1284, .f32⟩
  | .hbm, ⟨2, _⟩ => ⟨S1024x1284, .f32⟩
  | .hbm, ⟨3, _⟩ => ⟨S1024x1284, .f32⟩
  | .hbm, ⟨4, _⟩ => ⟨S1024x1284, .f32⟩
  | .hbm, ⟨5, _⟩ => ⟨S1024x1284, .f32⟩
  | .hbm, ⟨6, _⟩ => ⟨S1024x1284, .f32⟩
  | .local _ .vmem, ⟨0, _⟩ => ⟨S128x1284, .f32⟩
  | .local _ .vmem, ⟨1, _⟩ => ⟨S128x1284, .f32⟩
  | .local _ .vmem, ⟨2, _⟩ => ⟨S128x1284, .f32⟩
  | .local _ .vmem, ⟨3, _⟩ => ⟨S128x1284, .f32⟩
  | .local _ .vmem, ⟨4, _⟩ => ⟨S128x1284, .f32⟩
  | .local _ .vmem, ⟨5, _⟩ => ⟨S128x1284, .f32⟩
  | .local _ .vmem, ⟨6, _⟩ => ⟨S128x1284, .f32⟩
  | .local _ .vmem, ⟨7, _⟩ => ⟨S128x1284, .f32⟩
  | .local _ .vmem, ⟨8, _⟩ => ⟨S128x1284, .f32⟩
  | .local _ .vmem, ⟨9, _⟩ => ⟨S128x1284, .f32⟩
  | .local _ .vmem, ⟨10, _⟩ => ⟨S128x1284, .f32⟩
  | .local _ .vmem, ⟨11, _⟩ => ⟨S128x1284, .f32⟩
  | .local _ .vmem, ⟨12, _⟩ => ⟨S128x1284, .f32⟩
  | .local _ .vmem, ⟨13, _⟩ => ⟨S128x1284, .f32⟩
  | _, _ => ⟨S1024x1284, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1284 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1284 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1284 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1284 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1284 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1284 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1284 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInRefIdeal.lean ====
abbrev S1024x1284 : Shape := ⟨2, ![1024, 1284]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1284, .f32⟩
  | .hbm, ⟨1, _⟩ => ⟨S1024x1284, .f32⟩
  | .hbm, ⟨2, _⟩ => ⟨S1024x1284, .f32⟩
  | .hbm, ⟨3, _⟩ => ⟨S1024x1284, .f32⟩
  | .hbm, ⟨4, _⟩ => ⟨S_, .f32⟩
  | .hbm, ⟨5, _⟩ => ⟨S1024x1284, .f32⟩
  | .hbm, ⟨6, _⟩ => ⟨S1024x1284, .f32⟩
  | .hbm, ⟨7, _⟩ => ⟨S_, .f32⟩
  | .hbm, ⟨8, _⟩ => ⟨S1024x1284, .f32⟩
  | .hbm, ⟨9, _⟩ => ⟨S1024x1284, .f32⟩
  | .hbm, ⟨10, _⟩ => ⟨S1024x1284, .f32⟩
  | .hbm, ⟨11, _⟩ => ⟨S_, .f32⟩
  | .hbm, ⟨12, _⟩ => ⟨S1024x1284, .f32⟩
  | .hbm, ⟨13, _⟩ => ⟨S1024x1284, .f32⟩
  | .hbm, ⟨14, _⟩ => ⟨S1024x1284, .f32⟩
  | .hbm, ⟨15, _⟩ => ⟨S_, .f32⟩
  | .hbm, ⟨16, _⟩ => ⟨S1024x1284, .f32⟩
  | .hbm, ⟨17, _⟩ => ⟨S1024x1284, .f32⟩
  | .hbm, ⟨18, _⟩ => ⟨S1024x1284, .f32⟩
  | .hbm, ⟨19, _⟩ => ⟨S_, .f32⟩
  | .hbm, ⟨20, _⟩ => ⟨S1024x1284, .f32⟩
  | .hbm, ⟨21, _⟩ => ⟨S1024x1284, .f32⟩
  | .hbm, ⟨22, _⟩ => ⟨S_, .f32⟩
  | .hbm, ⟨23, _⟩ => ⟨S1024x1284, .f32⟩
  | .hbm, ⟨24, _⟩ => ⟨S1024x1284, .f32⟩
  | .hbm, ⟨25, _⟩ => ⟨S1024x1284, .f32⟩
  | .hbm, ⟨26, _⟩ => ⟨S_, .f32⟩
  | .hbm, ⟨27, _⟩ => ⟨S1024x1284, .f32⟩
  | .hbm, ⟨28, _⟩ => ⟨S1024x1284, .f32⟩
  | .hbm, ⟨29, _⟩ => ⟨S1024x1284, .f32⟩
  | .hbm, ⟨30, _⟩ => ⟨S_, .f32⟩
  | .hbm, ⟨31, _⟩ => ⟨S1024x1284, .f32⟩
  | .hbm, ⟨32, _⟩ => ⟨S1024x1284, .f32⟩
  | .hbm, ⟨33, _⟩ => ⟨S1024x1284, .f32⟩
  | .hbm, ⟨34, _⟩ => ⟨S_, .f32⟩
  | .hbm, ⟨35, _⟩ => ⟨S1024x1284, .f32⟩
  | .hbm, ⟨36, _⟩ => ⟨S1024x1284, .f32⟩
  | _, _ => ⟨S1024x1284, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S8x5120 : Shape := ⟨2, ![8, 5120]⟩

abbrev nBuf : Space → Nat
  | .hbm => 7
  | .vmem => 7
  | .smem => 0
  | _ => 0

abbrev bufTy : (tb : Table) → Fin (tcTables nBuf tb) → BufTy
  | .hbm, ⟨0, _⟩ => ⟨S8x5120, .f32⟩
  | .hbm, ⟨1, _⟩ => ⟨S8x5120, .f32⟩
  | .hbm, ⟨2, _⟩ => ⟨S8x5120, .f32⟩
  | .hbm, ⟨3, _⟩ => ⟨S8x5120, .f32⟩
  | .hbm, ⟨4, _⟩ => ⟨S8x5120, .f32⟩
  | .hbm, ⟨5, _⟩ => ⟨S8x5120, .f32⟩
  | .hbm, ⟨6, _⟩ => ⟨S8x5120, .f32⟩
  | .local _ .vmem, ⟨0, _⟩ => ⟨S8x5120, .f32⟩
  | .local _ .vmem, ⟨1, _⟩ => ⟨S8x5120, .f32⟩
  | .local _ .vmem, ⟨2, _⟩ => ⟨S8x5120, .f32⟩
  | .local _ .vmem, ⟨3, _⟩ => ⟨S8x5120, .f32⟩
  | .local _ .vmem, ⟨4, _⟩ => ⟨S8x5120, .f32⟩
  | .local _ .vmem, ⟨5, _⟩ => ⟨S8x5120, .f32⟩
  | .local _ .vmem, ⟨6, _⟩ => ⟨S8x5120, .f32⟩
  | _, _ => ⟨S8x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwSmallRefIdeal.lean ====
abbrev S8x5120 : Shape := ⟨2, ![8, 5120]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x5120, .f32⟩
  | .hbm, ⟨1, _⟩ => ⟨S8x5120, .f32⟩
  | .hbm, ⟨2, _⟩ => ⟨S8x5120, .f32⟩
  | .hbm, ⟨3, _⟩ => ⟨S8x5120, .f32⟩
  | .hbm, ⟨4, _⟩ => ⟨S_, .f32⟩
  | .hbm, ⟨5, _⟩ => ⟨S8x5120, .f32⟩
  | .hbm, ⟨6, _⟩ => ⟨S8x5120, .f32⟩
  | .hbm, ⟨7, _⟩ => ⟨S_, .f32⟩
  | .hbm, ⟨8, _⟩ => ⟨S8x5120, .f32⟩
  | .hbm, ⟨9, _⟩ => ⟨S8x5120, .f32⟩
  | .hbm, ⟨10, _⟩ => ⟨S8x5120, .f32⟩
  | .hbm, ⟨11, _⟩ => ⟨S_, .f32⟩
  | .hbm, ⟨12, _⟩ => ⟨S8x5120, .f32⟩
  | .hbm, ⟨13, _⟩ => ⟨S8x5120, .f32⟩
  | .hbm, ⟨14, _⟩ => ⟨S8x5120, .f32⟩
  | .hbm, ⟨15, _⟩ => ⟨S_, .f32⟩
  | .hbm, ⟨16, _⟩ => ⟨S8x5120, .f32⟩
  | .hbm, ⟨17, _⟩ => ⟨S8x5120, .f32⟩
  | .hbm, ⟨18, _⟩ => ⟨S8x5120, .f32⟩
  | .hbm, ⟨19, _⟩ => ⟨S_, .f32⟩
  | .hbm, ⟨20, _⟩ => ⟨S8x5120, .f32⟩
  | .hbm, ⟨21, _⟩ => ⟨S8x5120, .f32⟩
  | .hbm, ⟨22, _⟩ => ⟨S_, .f32⟩
  | .hbm, ⟨23, _⟩ => ⟨S8x5120, .f32⟩
  | .hbm, ⟨24, _⟩ => ⟨S8x5120, .f32⟩
  | .hbm, ⟨25, _⟩ => ⟨S8x5120, .f32⟩
  | .hbm, ⟨26, _⟩ => ⟨S_, .f32⟩
  | .hbm, ⟨27, _⟩ => ⟨S8x5120, .f32⟩
  | .hbm, ⟨28, _⟩ => ⟨S8x5120, .f32⟩
  | .hbm, ⟨29, _⟩ => ⟨S8x5120, .f32⟩
  | .hbm, ⟨30, _⟩ => ⟨S_, .f32⟩
  | .hbm, ⟨31, _⟩ => ⟨S8x5120, .f32⟩
  | .hbm, ⟨32, _⟩ => ⟨S8x5120, .f32⟩
  | .hbm, ⟨33, _⟩ => ⟨S8x5120, .f32⟩
  | .hbm, ⟨34, _⟩ => ⟨S_, .f32⟩
  | .hbm, ⟨35, _⟩ => ⟨S8x5120, .f32⟩
  | .hbm, ⟨36, _⟩ => ⟨S8x5120, .f32⟩
  | _, _ => ⟨S8x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InProj.lean ====
abbrev S4096x1024 : Shape := ⟨2, ![4096, 1024]⟩
abbrev S1024x5248 : Shape := ⟨2, ![1024, 5248]⟩
abbrev S4096x1536 : Shape := ⟨2, ![4096, 1536]⟩
abbrev S4096x512 : Shape := ⟨2, ![4096, 512]⟩
abbrev S4096x128 : Shape := ⟨2, ![4096, 128]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x5248, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1536, .f32⟩
  | .hbm, ⟨6, _⟩ => ⟨S4096x512, .f32⟩
  | .hbm, ⟨7, _⟩ => ⟨S4096x128, .f32⟩
  | .hbm, ⟨8, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1024x5248, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1536, .f32⟩
  | .local _ .vmem, ⟨10, _⟩ => ⟨S256x1536, .f32⟩
  | .local _ .vmem, ⟨11, _⟩ => ⟨S256x512, .f32⟩
  | .local _ .vmem, ⟨12, _⟩ => ⟨S256x512, .f32⟩
  | .local _ .vmem, ⟨13, _⟩ => ⟨S256x128, .f32⟩
  | .local _ .vmem, ⟨14, _⟩ => ⟨S256x128, .f32⟩
  | .local _ .vmem, ⟨15, _⟩ => ⟨S256x1024, .bf16⟩
  | .local _ .vmem, ⟨16, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5248 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InProjRefIdeal.lean ====
abbrev S4096x1024 : Shape := ⟨2, ![4096, 1024]⟩
abbrev S1024x5248 : Shape := ⟨2, ![1024, 5248]⟩
abbrev S4096x5248 : Shape := ⟨2, ![4096, 5248]⟩
abbrev S4096x1536 : Shape := ⟨2, ![4096, 1536]⟩
abbrev S4096x512 : Shape := ⟨2, ![4096, 512]⟩
abbrev S4096x128 : Shape := ⟨2, ![4096, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5248, .bf16⟩
  | .hbm, ⟨2, _⟩ => ⟨S1024x5248, .f32⟩
  | .hbm, ⟨3, _⟩ => ⟨S4096x5248, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1536, .f32⟩
  | .hbm, ⟨8, _⟩ => ⟨S4096x512, .f32⟩
  | .hbm, ⟨9, _⟩ => ⟨S4096x128, .f32⟩
  | .hbm, ⟨10, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== GradX.lean ====
abbrev S4096x1024 : Shape := ⟨2, ![4096, 1024]⟩
abbrev S4096x1536 : Shape := ⟨2, ![4096, 1536]⟩
abbrev S4096x512 : Shape := ⟨2, ![4096, 512]⟩
abbrev S4096x128 : Shape := ⟨2, ![4096, 128]⟩
abbrev S1024x5248 : Shape := ⟨2, ![1024, 5248]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩

abbrev nBuf : Space → Nat
  | .hbm => 9
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S1024x5248, .bf16⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1536, .f32⟩
  | .local _ .vmem, ⟨9, _⟩ => ⟨S256x1536, .f32⟩
  | .local _ .vmem, ⟨10, _⟩ => ⟨S256x512, .f32⟩
  | .local _ .vmem, ⟨11, _⟩ => ⟨S256x512, .f32⟩
  | .local _ .vmem, ⟨12, _⟩ => ⟨S256x128, .f32⟩
  | .local _ .vmem, ⟨13, _⟩ => ⟨S256x128, .f32⟩
  | .local _ .vmem, ⟨14, _⟩ => ⟨S1024x5248, .bf16⟩
  | .local _ .vmem, ⟨15, _⟩ => ⟨S256x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5248 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GradXRefIdeal.lean ====
abbrev S4096x1024 : Shape := ⟨2, ![4096, 1024]⟩
abbrev S4096x1536 : Shape := ⟨2, ![4096, 1536]⟩
abbrev S4096x512 : Shape := ⟨2, ![4096, 512]⟩
abbrev S4096x128 : Shape := ⟨2, ![4096, 128]⟩
abbrev S1024x5248 : Shape := ⟨2, ![1024, 5248]⟩
abbrev S4096x5248 : Shape := ⟨2, ![4096, 5248]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1536, .f32⟩
  | .hbm, ⟨5, _⟩ => ⟨S4096x512, .f32⟩
  | .hbm, ⟨6, _⟩ => ⟨S4096x128, .f32⟩
  | .hbm, ⟨7, _⟩ => ⟨S1024x5248, .bf16⟩
  | .hbm, ⟨8, _⟩ => ⟨S4096x5248, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S1024x5248, .f32⟩
  | .hbm, ⟨13, _⟩ => ⟨S4096x1024, .f32⟩
  | .hbm, ⟨14, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== GradWOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWOutRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradWZ.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWZRefIdeal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradWXbc.lean ====
abbrev S4096x1024 : Shape := ⟨2, ![4096, 1024]⟩
abbrev S4096x1536 : Shape := ⟨2, ![4096, 1536]⟩
abbrev S1024x1536 : Shape := ⟨2, ![1024, 1536]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .f32⟩
  | .hbm, ⟨2, _⟩ => ⟨S1024x1536, .f32⟩
  | .local _ .vmem, ⟨0, _⟩ => ⟨S512x1024, .bf16⟩
  | .local _ .vmem, ⟨1, _⟩ => ⟨S512x1024, .bf16⟩
  | .local _ .vmem, ⟨2, _⟩ => ⟨S512x768, .f32⟩
  | .local _ .vmem, ⟨3, _⟩ => ⟨S512x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradWXbcRefIdeal.lean ====
abbrev S4096x1024 : Shape := ⟨2, ![4096, 1024]⟩
abbrev S4096x1536 : Shape := ⟨2, ![4096, 1536]⟩
abbrev S1024x1536 : Shape := ⟨2, ![1024, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .f32⟩
  | .hbm, ⟨2, _⟩ => ⟨S4096x1024, .f32⟩
  | .hbm, ⟨3, _⟩ => ⟨S1024x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradWKv.lean ====
abbrev S4096x1024 : Shape := ⟨2, ![4096, 1024]⟩
abbrev S4096x512 : Shape := ⟨2, ![4096, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWKvRefIdeal.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x1024, .f32⟩
  | .hbm, ⟨3, _⟩ => ⟨S1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradWDt.lean ====
abbrev S4096x1024 : Shape := ⟨2, ![4096, 1024]⟩
abbrev S4096x128 : Shape := ⟨2, ![4096, 128]⟩
abbrev S1024x128 : Shape := ⟨2, ![1024, 128]⟩
abbrev S512x1024 : Shape := ⟨2, ![512, 1024]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S1024x128, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradWDtRefIdeal.lean ====
abbrev S4096x1024 : Shape := ⟨2, ![4096, 1024]⟩
abbrev S4096x128 : Shape := ⟨2, ![4096, 128]⟩
abbrev S1024x128 : Shape := ⟨2, ![1024, 128]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .f32⟩
  | .hbm, ⟨2, _⟩ => ⟨S4096x1024, .f32⟩
  | .hbm, ⟨3, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutLnLoss.lean ====
abbrev S4096x1024 : Shape := ⟨2, ![4096, 1024]⟩
abbrev S2048x1024 : Shape := ⟨2, ![2048, 1024]⟩
abbrev S1x1024 : Shape := ⟨2, ![1, 1024]⟩
abbrev S1x128 : Shape := ⟨2, ![1, 128]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2048x1024, .bf16⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1x128, .f32⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x128, .f32⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutLnLossRefIdeal.lean ====
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x128 : Shape := ⟨2, ![1, 128]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2048x1024, .bf16⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x2048, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x2048, .f32⟩
  | .hbm, ⟨78, _⟩ => ⟨S4096x1024, .f32⟩
  | .hbm, ⟨79, _⟩ => ⟨S4096x1024, .f32⟩
  | .hbm, ⟨80, _⟩ => ⟨S1x128, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1024, .f32⟩
  | .hbm, ⟨87, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_cst_15 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Proof.Exchange.Launch.lean ====
/-
# Launching one kernel whose buffers all lie in HBM

A kernel that exchanges data without a handshake writes into its peers' result arrays, so a peer's array has to be
shared out before any core runs. `run_dealt` launches an @main that is one kernel call without windows, without
prefetched tables: the kernel's own semaphores, at zero, and the unscoped buffers of ALL cores are handed to one update
(`hdeal`) that deals each core what its body starts from.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic Idealize.ShloMosaic.TcCoe Idealize.ShloMosaic.Pipeline Idealize.ShloMosaic.Pipeline.PerCore
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {P : Type} [Fintype P]

local notation "𝕄" => MT nD τ sig Ix Val Name U Lvl

variable (pcs : P → PCfg sig Λ₀ Val) (a : Dev nD → (p : P) → (pcs p).Adm)
  (rdats : (p : P) → (c : Dev nD) → RDat τ Val Ix Name U Lvl (pinD pcs a c p) c) (ι : Ix)
  (phinj : Function.Injective (cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

/-- What a core holds once its boundary holdings are taken apart: its scoped buffers, the pipeline's semaphores, the
    semaphores nobody uses. -/
def shell (c : Dev nD) : sProp 𝕄 :=
  iprop(scopedBufs (c.tc : Thread nD τ) ∗ cellsSems0 (pinD pcs a) p c ∗ idleSems0 (pinD pcs a) phinj p (fun _ => ho) c)

include phinj hw ho in
/-- The boundary holdings of a core: its shell and its own semaphores at zero. -/
theorem boundary_own (c : Dev nD) :
    (boundary (c.tc : Thread nD τ) : sProp 𝕄) ⊢ iprop(shell pcs a phinj p ho c ∗ ownSems0 osem c) := by
  unfold boundary shell
  rw [scopedSems0_split (pinD pcs a) phinj p (fun _ => hw) (fun _ => ho) c]
  iintro ⟨Hsc, ⟨⟨Hcells, Hos⟩, Hidle⟩, -⟩
  isplitr [Hos]
  · isplitl [Hsc]; · iexact Hsc
    isplitl [Hcells] <;> iassumption
  · iexact Hos

/-- Levels assigned once for the whole machine, where only the TensorCores' cells have any. -/
theorem levels_all (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hnone (d : Dev nD) (q : Proc τ) (hq : q ≠ .tc) : (coreLevAts ((d, q) : Thread nD τ) L lv : sProp 𝕄) = BI.emp := by
    unfold coreLevAts
    rw [bigSep_congr (Ψ := fun _ : SemLoc sig => (BI.emp : sProp 𝕄)) fun sm _ => by
      rw [hL (((d, q) : Thread nD τ), sm) hq, BI.bigSep_empty], BI.bigSep_emp_const]
  have hothers : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun q hq => hnone d q (Finset.ne_of_mem_erase hq)).trans
        (BI.bigSep_emp_const _), BI.bigSep_emp_const]
  have hall : (levAts L lv : sProp 𝕄) = bigSep Finset.univ fun c : Thread nD τ => coreLevAts c L lv :=
    bigSep_univ_prod fun g : GSem nD τ sig => bigSep (L g) fun i => levAt g i (lv g i)
  refine (bigSep_mono fun c _ => lev_assign_cells (c.tc : Thread nD τ) L lv).trans ((BI.bigSep_bupd _ _).trans (BI.bupd_mono ?_))
  have hdrop : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ iprop((bigSep Finset.univ fun d : Dev nD => coreLevAts (d.tc : Thread nD τ) L lv)
          ∗ bigSep Finset.univ fun d : Dev nD => bigSep (Finset.univ.erase Proc.tc) fun q => (coreLevAts ((d, q) : Thread nD τ) L lv : sProp 𝕄)) := by
    rw [hothers, bigSep_sep']
    iintro ⟨-, H⟩
    isplitl [H]; · iexact H
    iempintro
  rw [hall, bigSep_threads (fun c : Thread nD τ => coreLevAts c L lv)]
  exact hdrop

include phinj hw ho in
/-- One kernel call without windows, launched with every core's own semaphores and unscoped buffers dealt out together.
    `O₀` is what the cores owe at the start; `G` the ghost state the launch funds; `G'` what each core has been dealt;
    `hbegin` gathers it, the core's launch credit and the level facts into the body's precondition; `hend` takes the
    body's postcondition apart into what is read at the end (`Y`) and the semaphores, back at zero. -/
theorem run_dealt [DecidableEq P] [Preorder Lvl] [∀ e, Nonempty (Val e)] [Infinite Name]
    [EP.LandsIn (upEmb : UEmb _ 𝕄)] [IsEmpty (Fin (pcs p).W)] [IsEmpty (Fin (pcs p).pre.K)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, (rdats p c).BodyObligation defs₀ 𝒱₀ ι Set.univ)
    (O₀ : Dev nD → CellTallies nD τ sig Ix) (howed₀ : ∀ c, (rdats p c).owed 0 = O₀ c) (howedN : ∀ c, (rdats p c).owed (Fin.last _) = 0)
    (L : GSem nD τ sig → Finset Ix) (lv : GSem nD τ sig → Ix → Lvl) (hL : ∀ g : GSem nD τ sig, g.1.2 ≠ .tc → L g = ∅)
    (G G' : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hdeal : (bigSep Finset.univ fun c => iprop(ownSems0 osem c ∗ unscopedBufs c (fun b => m ((c.tc : Thread nD τ).loc b)) ∗ G c) : sProp 𝕄)
      ⊢ |={Set.univ}=> bigSep Finset.univ G')
    (hbegin : ∀ c, iprop(levAts L lv ∗ launchCred O₀ c ∗ G' c ∗ scopedRest (pinD pcs a c p).spec c) ⊢ (rdats p c).Φ 0)
    (Y : Dev nD → sProp 𝕄)
    (hend : ∀ c, (rdats p c).Φ (Fin.last (pinD pcs a c p).N) ⊢ iprop(Y c ∗ ownSems0 osem c ∗ scopedRest (pinD pcs a c p).spec c))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q := by
  classical
  have hstage : ∀ (c : Dev nD) (w) s, (((pinD pcs a c p).spec w).stage s).IsWhole := fun _ w => isEmptyElim (α := Fin (pcs p).W) w
  have hsb := fun c : Dev nD => scopedBufs_split (pinD pcs a) p c hw.stage_scoped hw.stage_inj (hstage c) (nD := nD) (τ := τ) (Ix := Ix) (Val := Val) (Name := Name) (U := U) (Lvl := Lvl)
  let pre : Dev nD → sProp 𝕄 := fun c => iprop(shell pcs a phinj p ho c ∗ owes (c.tc : Thread nD τ) (O₀ c) ∅ ∗ levAts L lv
    ∗ launchCred O₀ c ∗ cellsGhost (pinD pcs a) EP p c ∗ toksInit (pinD pcs a) EP p c ∗ G' c)
  let fin : Dev nD → sProp 𝕄 := fun c => iprop(Y c ∗ scopedSems0 (c.tc : Thread nD τ))
  refine (θ_run (Pipeline.defs pcs defs₀) _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu (Pipeline.defs pcs defs₀) _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · -- at launch: each core's holdings taken apart, then the deal over all cores
    have hcore (c : Dev nD) :
        coreInit (Ix := Ix) (Name := Name) (U := U) (Lvl := Lvl) (owing O₀) 0 (⟨m, fun _ => 0, g⟩ : MemSt nD τ sig Val) (c.tc : Thread nD τ)
          ⊢ iprop(shell pcs a phinj p ho c ∗ ownSems0 osem c ∗ unscopedBufs c (fun b => m ((c.tc : Thread nD τ).loc b))
              ∗ owes (c.tc : Thread nD τ) (O₀ c) ∅ ∗ levels0 c ∗ launchCred O₀ c) :=
      (coreInit_boundary_owing O₀ m g c).trans (by
        iintro ⟨Hb, Hub, -, HL, Hlv, -, Hcr⟩
        ihave H := (boundary_own pcs a phinj p hw ho c) $$ Hb
        icases H with ⟨H1, Hos⟩
        isplitl [H1]; · iexact H1
        isplitl [Hos]; · iexact Hos
        isplitl [Hub]; · iexact Hub
        isplitl [HL]; · iexact HL
        isplitl [Hlv] <;> iassumption)
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => shell pcs a phinj p ho c)
            ∗ (bigSep Finset.univ fun c : Dev nD => ownSems0 (Ix := Ix) (Name := Name) (U := U) (Lvl := Lvl) (Val := Val) (τ := τ) osem c)
            ∗ (bigSep Finset.univ fun c : Dev nD => unscopedBufs c fun b => m ((c.tc : Thread nD τ).loc b))
            ∗ (bigSep Finset.univ fun c : Dev nD => owes (c.tc : Thread nD τ) (O₀ c) ∅)
            ∗ (bigSep Finset.univ fun c : Dev nD => levels0 (Ix := Ix) (Val := Val) (Name := Name) (U := U) (Lvl := Lvl) (τ := τ) (sig := sig) c)
            ∗ (bigSep Finset.univ fun c : Dev nD => launchCred (Name := Name) (U := U) (Lvl := Lvl) (Val := Val) O₀ c) : sProp 𝕄) := by
      refine (bigSep_mono fun c _ => hcore c).trans ?_
      simp only [bigSep_sep']
      exact BI.Entails.refl _
    iintro ⟨Hcores, Hu⟩
    ihave Hc := hcores $$ Hcores
    icases Hc with ⟨Hsh, Hos, Hub, HL, Hlv, Hcr⟩
    imod (levels_all L lv hL) $$ Hlv with Hla
    imod hu₀ $$ Hu with ⟨HP, HG⟩
    imod (fund_ghost (pinD pcs a) EP phinj) $$ HP with ⟨Hg, Ht⟩
    imod hdeal $$ [Hos Hub HG] with HG'
    · rw [bigSep_sep', bigSep_sep']; isplitl [Hos]; · iexact Hos
      isplitl [Hub] <;> iassumption
    imodintro
    iexists ()
    isplitr []
    · simp only [pre, bigSep_sep']
      isplitl [Hsh]; · iexact Hsh
      isplitl [HL]; · iexact HL
      isplitl [Hla]; · iapply (BI.bigSep_intro_persistent (S := Finset.univ) fun (c : Dev nD) _ => (BI.Entails.refl (levAts L lv : sProp 𝕄))); iexact Hla
      isplitl [Hcr]; · iexact Hcr
      isplitl [Hg]; · iapply (hpick fun p' c => cellsGhost (pinD pcs a) EP p' c); iexact Hg
      isplitl [Ht]; · iapply (hpick fun p' c => toksInit (pinD pcs a) EP p' c); iexact Ht
      iexact HG'
    · iempintro
  · -- each core: the call, then the return
    have hin : iprop(iprop(levAts L lv ∗ launchCred O₀ c ∗ G' c) ∗ prefHeld (pcs p).pre c (fun _ => fullShare.right) (a c p).1 ∗ scopedRest (pinD pcs a c p).spec c)
        ⊢ (rdats p c).Φ 0 := by
      iintro ⟨⟨Hl, Hc, HG⟩, -, Hr⟩
      iapply (hbegin c)
      isplitl [Hl]; · iexact Hl
      isplitl [Hc]; · iexact Hc
      isplitl [HG] <;> iassumption
    have hout : iprop((rdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [scopedSems0_split (pinD pcs a) phinj p (fun _ => hw) (fun _ => ho) c, hsb c]
      iintro ⟨HΦ, Hcells, Hst, Hidle⟩
      ihave H := (hend c) $$ HΦ
      icases H with ⟨HY, Hos, Hrest⟩
      isplitl [HY]; · iexact HY
      isplitl [Hcells Hos Hidle]
      · isplitl [Hcells Hos]; · isplitl [Hcells] <;> iassumption
        iexact Hidle
      isplitl [Hst] <;> iassumption
    have hnoArr : (BI.emp : sProp 𝕄) ⊢ (rdats p c).arrays (rdats p c).A := by
      unfold RDat.arrays
      rw [show (Finset.univ : Finset (Fin (pinD pcs a c p).W)) = ∅ from Finset.univ_eq_empty (α := Fin (pcs p).W), BI.bigSep_empty]
    have hnoPref : (BI.emp : sProp 𝕄) ⊢ prefHeld (pcs p).pre c (fun _ => fullShare.right) (a c p).1 := by
      unfold prefHeld
      rw [Finset.univ_eq_empty, BI.bigSep_empty]
    have hnoWait : (BI.emp : sProp 𝕄) ⊢ PerCore.RDat.cellsWaits (pinD pcs a) rdats ι p c := by
      unfold PerCore.RDat.cellsWaits
      rw [show (Finset.univ : Finset (Fin (pinD pcs a c p).W)) = ∅ from Finset.univ_eq_empty (α := Fin (pcs p).W), BI.bigSep_empty]
    simp only [pre, shell]
    rw [hmain c]
    iintro ⟨⟨Hsc, Hcells, Hidle⟩, HL, #Hla, Hcr, Hg, Ht, HG⟩
    iapply (fupd_wp frame (wpE (Pipeline.defs pcs defs₀) (Variants.lift 𝒱₀) (c.tc : Thread nD τ) none) Set.univ _ _)
    imod (PerCore.RDat.cellsInit_alloc (pinD pcs a) rdats EP phinj p c) $$ [Hcells Hg] with ⟨%κ, -, Hinit⟩
    · isplitl [Hcells] <;> iassumption
    imodintro
    iapply (PerCore.RDat.wp_customCall_entry_frame pcs a rdats ι EP κ phinj p defs₀ 𝒱₀ (fun _ => fullShare.right) c Set.univ (fun _ _ => Set.mem_univ _)
        (hbody c) (fun w => isEmptyElim (α := Fin (pcs p).W) w) none (fun u h => nomatch h) (X := iprop(levAts L lv ∗ launchCred O₀ c ∗ G' c)) (Y := Y c)
        (R := scopedRest (pinD pcs a c p).spec c) (I := idleSems0 (pinD pcs a) phinj p (fun _ => ho) c)
        (Entails.of_eq (hsb c)) hin hout
        (k := fun _ => .ret ⟨⟩) (Q := fun _ => post (liftTc fin BI.emp) (c.tc : Thread nD τ))) $$ [HL Hinit Ht Hcr HG Hidle Hsc]
    · isplitl [HL Hinit Ht]
      · unfold PerCore.RDat.EntryPre RDat.owesAt owesWithin
        rw [howed₀ c]
        isplitr; · iapply hnoArr; iempintro
        isplitl [HL]
        · iexists ∅; isplitr; · ipureintro; rw [Finset.coe_empty]; exact Set.empty_subset _
          iexact HL
        isplitr; · iapply hnoWait; iempintro
        isplitl [Hinit] <;> iassumption
      isplitr; · iapply hnoPref; iempintro
      isplitl [Hcr HG]
      · isplitr; · iexact Hla
        isplitl [Hcr] <;> iassumption
      isplitl [Hidle]; · iexact Hidle
      iexact Hsc
    iintro ⟨Hpost, HY, Hss2, -⟩
    rw [wp_ret]; imodintro
    unfold post PerCore.RDat.EntryPost RDat.owesAt owesWithin; simp only [liftTc_tc, fin]
    rw [howedN c]
    icases Hpost with ⟨-, ⟨%W, -, HW⟩⟩
    isplitr [HW]
    · isplitl [HY] <;> iassumption
    · iexists W; iexact HW
  · -- what is left, read against a final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Cert.Exchange

end
-- ==== Proof.Exchange.Protocol.lean ====
/-
# A one-shot exchange

The protocol of a kernel that only copies: every DMA semaphore of a device is credited once, by one copy of one device,
and is waited for once. A `Plan` names the semaphores (by a finite type `K`), whose semaphore the copies of a device
credit (`dest`), which of them are credited from another device (`far`), what a copy has to hold when it is issued
(`need`) and what the waiting device receives (`pay`).

`State` is what a device holds at a moment of its body, and `wp_local`, `wp_remote`, `wp_wait` are the three steps a
body is made of. `deal` makes every device's first state out of what the launch gives.
-/
module

public import proofs.«01_k».proof.Proof.Exchange.Launch
public import Idealize.ShloMosaic.Lib.Pipeline.Kit
public import Idealize.ShloMosaic.Lib.Rounds

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic (embL embR)

/-- The ghost state: the pipeline's copy of the rounds and the exchange's. -/
abbrev UU (nD : ℕ) (τ : Topo) (sig : RefSig) : Type := UR sig nD τ × UR sig nD τ

/-- The resources the assertions speak of. -/
abbrev Res (nD : ℕ) (τ : Topo) (sig : RefSig) (Val : EltTy → Type) : Type := MT nD τ sig Unit Val ℕ (UU nD τ sig) ℕ

variable {nD : ℕ} {τ : Topo} {sig : RefSig} {Val : EltTy → Type}

local notation "𝕄" => Res nD τ sig Val

abbrev EP : Emb (UR sig nD τ) (Res nD τ sig Val) := embL
abbrev ER : Emb (UR sig nD τ) (Res nD τ sig Val) := embR

/-- Who copies what to whom, told by the semaphores the copies credit. -/
structure Plan (nD : ℕ) (τ : Topo) (sig : RefSig) (Val : EltTy → Type) (K : Type) [Fintype K] where
  sem : K → SemLoc sig
  sem_inj : Function.Injective sem
  /-- The units the copy credits. -/
  amt : K → ℕ
  amt_pos : ∀ s, 0 < amt s
  /-- Device `c` issues the copy that credits semaphore `s` of device `dest s c`. -/
  dest : K → Equiv.Perm (Dev nD)
  /-- Whether the issuer is another device, so that the credit is owed from the start. -/
  far : K → Bool
  /-- A device waits for `s` only while the credits it still owes have a larger rank. -/
  rank : K → ℕ
  /-- What device `c` holds towards the copy that credits `s`. -/
  need : Dev nD → K → sProp (Res nD τ sig Val)
  /-- What device `c` gets from waiting for its `s`. -/
  pay : Dev nD → K → sProp (Res nD τ sig Val)
  /-- The semaphores whose payloads a device holds at the end, not having passed them on. -/
  hold : Finset K := Finset.univ
  pay_storable : ∀ c s, BI.Storable (upEmb : UEmb _ (Res nD τ sig Val)) (pay c s)

section Sets

variable {K : Type} [DecidableEq K]

theorem bigSep_take {T : Finset K} {s : K} (h : s ∈ T) (Φ : K → sProp 𝕄) : bigSep T Φ = iprop(Φ s ∗ bigSep (T.erase s) Φ) := by
  conv_lhs => rw [← Finset.insert_erase h]
  rw [BI.bigSep_insert (Finset.notMem_erase s T)]; rfl

theorem bigSep_put {T : Finset K} {s : K} (h : s ∉ T) (Φ : K → sProp 𝕄) : bigSep (insert s T) Φ = iprop(Φ s ∗ bigSep T Φ) := by
  rw [BI.bigSep_insert h]; rfl

end Sets

namespace Plan

variable {K : Type} [Fintype K] [DecidableEq K] (P : Plan nD τ sig Val K)

/-- Semaphore `s` of device `c`. -/
abbrev cell (c : Dev nD) (s : K) : GSem nD τ sig := ((c.tc : Thread nD τ), P.sem s)

theorem cell_inj : Function.Injective fun p : Dev nD × K => P.cell p.1 p.2 := by
  rintro ⟨c, s⟩ ⟨c', s'⟩ h
  have hc : c = c' := congrArg (fun g : GSem nD τ sig => g.1.1) h
  have hs : s = s' := P.sem_inj (congrArg Prod.snd h)
  rw [hc, hs]

open Classical in
/-- One round, one duty per semaphore. -/
def rd : Rounds.Schedule (GSem nD τ sig) Unit 𝕄 where
  duties g r := if r = 0 ∧ ∃ p : Dev nD × K, P.cell p.1 p.2 = g then {()} else ∅
  unitless _ := False
  amount g _ _ := if h : ∃ s, P.sem s = g.2 then P.amt h.choose else 1
  payload g _ _ := if h : ∃ s, P.sem s = g.2 then P.pay g.1.1 h.choose else iprop(emp)
  amount_pos g _ _ _ := by
    split
    · exact P.amt_pos _
    · exact Nat.one_pos

instance rd_storable (g : GSem nD τ sig) (r : ℕ) (d : Unit) : BI.Storable (upEmb : UEmb _ 𝕄) (P.rd.payload g r d) := by
  unfold rd; dsimp only
  split
  · exact P.pay_storable _ _
  · infer_instance

theorem choose_sem (s : K) (h : ∃ s', P.sem s' = P.sem s) : h.choose = s := P.sem_inj h.choose_spec

theorem rd_duties (c : Dev nD) (s : K) : P.rd.duties (P.cell c s) 0 = {()} := if_pos ⟨rfl, (c, s), rfl⟩
theorem rd_duties_later (g : GSem nD τ sig) (r : ℕ) (hr : 1 ≤ r) : P.rd.duties g r = ∅ := if_neg fun h => by omega
theorem rd_amount (c : Dev nD) (s : K) (u : Unit) : P.rd.amount (P.cell c s) 0 u = P.amt s := by
  have h : ∃ s', P.sem s' = P.sem s := ⟨s, rfl⟩
  refine (dif_pos h).trans ?_
  rw [P.choose_sem s h]
theorem rd_payload (c : Dev nD) (s : K) (u : Unit) : P.rd.payload (P.cell c s) 0 u = P.pay c s := by
  have h : ∃ s', P.sem s' = P.sem s := ⟨s, rfl⟩
  refine (dif_pos h).trans ?_
  rw [P.choose_sem s h]
theorem rd_expect (c : Dev nD) (s : K) : P.rd.expect (P.cell c s) 0 = P.amt s := by
  unfold Schedule.expect Schedule.amountOf; rw [rd_duties, Finset.sum_singleton, rd_amount]
theorem rd_rest (c : Dev nD) (s : K) :
    bigSep (P.rd.duties (P.cell c s) 0 \ ∅) (fun u => P.rd.payload (P.cell c s) 0 u) = P.pay c s := by
  rw [Finset.sdiff_empty, rd_duties, BI.bigSep_singleton, rd_payload]

/-! ## Levels and dues -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c.tc : Thread nD τ), sm) = {()} := if_pos rfl

open Classical in
def lv (g : GSem nD τ sig) (_ : Unit) : ℕ := if h : ∃ s, P.sem s = g.2 then P.rank h.choose else 0
theorem lv_cell (c : Dev nD) (s : K) : P.lv (P.cell c s) () = P.rank s := by
  have h : ∃ s', P.sem s' = P.sem s := ⟨s, rfl⟩
  refine (dif_pos h).trans ?_
  rw [P.choose_sem s h]

/-- What device `c` still owes when the copies crediting `T` are not issued. -/
def due (c : Dev nD) (T : Finset K) : CellTallies nD τ sig Unit :=
  ∑ s ∈ T.filter fun s => P.far s = true, tallyAt (P.cell (P.dest s c) s) () (P.amt s)

theorem due_far {c : Dev nD} {T : Finset K} {s : K} (h : s ∈ T) (hf : P.far s = true) :
    P.due c T = P.due c (T.erase s) + tallyAt (P.cell (P.dest s c) s) () (P.amt s) := by
  unfold due
  rw [Finset.filter_erase, Finset.sum_erase_add _ _ (Finset.mem_filter.mpr ⟨h, hf⟩)]
theorem due_near {c : Dev nD} {T : Finset K} {s : K} (hf : P.far s = false) : P.due c T = P.due c (T.erase s) := by
  unfold due
  rw [Finset.filter_erase, Finset.erase_eq_of_notMem fun h => by rw [(Finset.mem_filter.mp h).2] at hf; cases hf]
theorem due_empty (c : Dev nD) : P.due c ∅ = 0 := rfl

theorem due_pos {c : Dev nD} {T : Finset K} {g : GSem nD τ sig} {u : Unit} (h : 0 < P.due c T g u) :
    ∃ s ∈ T, P.far s = true ∧ g = P.cell (P.dest s c) s := by
  unfold due at h
  rw [Finset.sum_apply, Finsupp.finsetSum_apply] at h
  obtain ⟨s, hs, hp⟩ := Finset.exists_ne_zero_of_sum_ne_zero (Nat.pos_iff_ne_zero.mp h)
  refine ⟨s, (Finset.mem_filter.mp hs).1, (Finset.mem_filter.mp hs).2, ?_⟩
  by_contra hn
  rw [tallyAt_apply, if_neg fun h' => hn h'.1] at hp
  exact hp rfl

theorem mayWait (c : Dev nD) (s : K) (T : Finset K) (h : ∀ s' ∈ T, P.far s' = true → P.rank s < P.rank s') :
    (levAts L P.lv : sProp 𝕄) ⊢ MayWait (c.tc : Thread nD τ) (P.sem s) () (P.due c T) :=
  MayOwe.of_cut (L := L) (lev := P.lv) (P.rank s)
    (fun p hp => by rw [Finset.mem_singleton.mp hp, L_tc]; exact Finset.mem_singleton_self _)
    (fun g u hg => by
      obtain ⟨s', -, -, rfl⟩ := P.due_pos hg
      rw [L_tc]; exact Finset.mem_singleton_self _)
    (fun p hp => by rw [Finset.mem_singleton.mp hp]; exact le_of_eq (P.lv_cell c s))
    (fun g u hg => by
      obtain ⟨s', hs', hf, rfl⟩ := P.due_pos hg
      exact lt_of_lt_of_eq (h s' hs' hf) (P.lv_cell _ _).symm)

/-! ## What a device holds -/

/-- What every device knows: the semaphores' invariants, that they are in their round, the levels. -/
def books (κ : Dev nD × K → ℕ) : sProp 𝕄 :=
  iprop((bigSep Finset.univ fun p : Dev nD × K => cellInv ER P.rd (κ p) (P.cell p.1 p.2))
    ∗ (bigSep Finset.univ fun p : Dev nD × K => reached ER (P.cell p.1 p.2) 0) ∗ levAts L P.lv)

instance books_persistent (κ : Dev nD × K → ℕ) : BI.Persistent (P.books κ) := by unfold books; infer_instance

theorem books_inv (κ : Dev nD × K → ℕ) (c : Dev nD) (s : K) : P.books κ ⊢ cellInv ER P.rd (κ (c, s)) (P.cell c s) := by
  have h : (bigSep Finset.univ fun p : Dev nD × K => cellInv ER P.rd (κ p) (P.cell p.1 p.2) : sProp 𝕄)
      ⊢ cellInv ER P.rd (κ (c, s)) (P.cell c s) := BI.bigSep_elim (Finset.mem_univ (c, s))
  unfold books
  iintro ⟨H, -, -⟩
  iapply h; iexact H
theorem books_reached (κ : Dev nD × K → ℕ) (c : Dev nD) (s : K) : P.books κ ⊢ reached ER (P.cell c s) 0 := by
  have h : (bigSep Finset.univ fun p : Dev nD × K => reached ER (P.cell p.1 p.2) 0 : sProp 𝕄) ⊢ reached ER (P.cell c s) 0 :=
    BI.bigSep_elim (Finset.mem_univ (c, s))
  unfold books
  iintro ⟨-, H, -⟩
  iapply h; iexact H
theorem books_lev (κ : Dev nD × K → ℕ) : P.books κ ⊢ levAts L P.lv := by
  unfold books
  iintro ⟨-, -, H⟩
  iexact H

/-- The right to credit `s`, with what the copy needs. -/
def ticket (c : Dev nD) (s : K) : sProp 𝕄 := iprop(dutyTok ER (P.cell (P.dest s c) s) 0 () ∗ P.need c s)

/-- Device `c` in the middle of its body: the copies crediting `T` are still to be issued, those crediting `C` are
    issued (or owed by others) and not waited for, `A` are the semaphores it has not waited for, `V` those it has, and
    it holds what it got from `D`. -/
def State (κ : Dev nD × K → ℕ) (c : Dev nD) (T C A V D : Finset K) : sProp 𝕄 :=
  iprop(P.books κ ∗ bigSep T (P.ticket c) ∗ bigSep C (fun s => cred (tallyAt (P.cell c s) () (P.amt s)))
    ∗ bigSep A (fun s => atPos ER (P.cell c s) 0 ∅ 0) ∗ bigSep V (fun s => semVal (P.cell c s) 0) ∗ bigSep D (P.pay c)
    ∗ ∃ W, owes (c.tc : Thread nD τ) (P.due c T) W)

section Steps

variable {Λ : Idealize.SL.Sem.Labels} (defs : Defs nD τ sig Val Λ) (𝒱 : Variants)
variable {P}
variable {κ : Dev nD × K → ℕ} {c : Dev nD} {T C A V D : Finset K} {α : Type} {Q : α → sProp (Res nD τ sig Val)}

/-- A copy within the device, crediting its own `s`. -/
theorem wp_local (s : K) {sp sp' : Space} {sh : Shape} {e : EltTy} {src : Memref sig .tc sp sh e} {dst : Memref sig .tc sp' sh e} {sem : SemLoc sig}
    {hsrc : src.view.WordExact} {hdst : dst.view.WordExact} {hsem : DmaTarget.Typed (nD := nD) (p := (c.tc : Thread nD τ).2) sp sem (DmaTarget.here (p := (c.tc : Thread nD τ).2) dst)}
    {k : PUnit → Prog (TpuEff nD τ sig Val Λ .tc) α} {q : PosShare TreeShare}
    {fs : Buf Val (src.view.loc (c.tc : Thread nD τ))} {fd : Buf Val (dst.view.loc (c.tc : Thread nD τ))}
    (hs : sem = P.sem s) (hto : P.dest s c = c) (hfar : P.far s = false) (hamt : dst.view.amount sem = P.amt s)
    (hneed : P.need c s ⊢ iprop((src.view.loc (c.tc : Thread nD τ) ↦[src.view.set]{q} fs) ∗ (dst.view.loc (c.tc : Thread nD τ) ↦[dst.view.set]{fullShare} fd)))
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ P.pay c s)
    (hT : s ∈ T) (hC : s ∉ C)
    (h : P.State κ c (T.erase s) (insert s C) A V D ⊢ wp frame (wpE defs 𝒱 (c.tc : Thread nD τ) none) Set.univ (k ⟨⟩) Q) :
    P.State κ c T C A V D ⊢ wp frame (wpE defs 𝒱 (c.tc : Thread nD τ) none) Set.univ (.op (.enqueueDma src (.here dst) sem hsrc hdst hsem) k) Q := by
  subst hs
  unfold State
  rw [bigSep_take hT]
  iintro ⟨#HB, ⟨Htk, HT⟩, HC, HA, HV, HD, HO⟩
  unfold ticket
  icases Htk with ⟨Hd, Hn⟩
  rw [hto]
  ihave Hn' := hneed $$ Hn
  icases Hn' with ⟨Hs, Hdst⟩
  iapply (Rounds.wp_copy_pointsTo 𝒱 ER P.rd (c.tc : Thread nD τ) none (κ := κ (c, s)) (r := 0) (d := ())
    (by rw [rd_duties]; exact Finset.mem_singleton_self _) () (P.amt s) hamt (P.rd_amount c s ())
    (hpay.trans (Entails.of_eq (P.rd_payload c s ()).symm))) $$ [Hs Hdst Hd]
  · isplitr; · iapply (P.books_inv κ c s); iexact HB
    isplitl [Hs]; · iexact Hs
    isplitl [Hdst]; · iexact Hdst
    isplitl [Hd]; · iexact Hd
    iapply (P.books_reached κ c s); iexact HB
  iintro Hc
  iapply h
  unfold State
  rw [bigSep_put hC]
  isplitr; · iexact HB
  isplitl [HT]; · iexact HT
  isplitl [Hc HC]
  · isplitl [Hc] <;> iassumption
  isplitl [HA]; · iexact HA
  isplitl [HV]; · iexact HV
  isplitl [HD]; · iexact HD
  rw [P.due_near (c := c) (T := T) hfar]
  iexact HO

/-- A copy to device `c'`, crediting its `s` and, when the source is read, the issuer's own `s'`; it may use up `X` too. -/
theorem wp_send (X : sProp 𝕄) (s s' : K) (c' : Dev nD) {sp sp' : Space} {sh : Shape} {e : EltTy} {src : Memref sig .tc sp sh e} {dst : Memref sig .tc sp' sh e}
    {hsc : dst.view.ref.isScScratch = false} {sS sem : SemLoc sig}
    {hsrc : src.view.WordExact} {hdst : dst.view.WordExact} {hsem : DmaTarget.Typed (p := (c.tc : Thread nD τ).2) sp sem (.remote (c'.tc : Thread nD τ) dst sS hsc)}
    {k : PUnit → Prog (TpuEff nD τ sig Val Λ .tc) α} {q : PosShare TreeShare}
    {fs : Buf Val (src.view.loc (c.tc : Thread nD τ))} {fd : Buf Val (dst.view.loc (c'.tc : Thread nD τ))}
    (hs : sem = P.sem s) (hs' : sS = P.sem s') (hto : P.dest s c = c') (hto' : P.dest s' c = c) (hfar : P.far s = true) (hfar' : P.far s' = false)
    (hamt : dst.view.amount sem = P.amt s) (hamt' : P.amt s' = P.amt s)
    (hneed : iprop(X ∗ P.need c s ∗ P.need c s') ⊢ iprop((src.view.loc (c.tc : Thread nD τ) ↦[src.view.set]{q} fs) ∗ (dst.view.loc (c'.tc : Thread nD τ) ↦[dst.view.set]{fullShare} fd)))
    (hpay : (dst.view.loc (c'.tc : Thread nD τ) ↦[dst.view.set]{fullShare} (dst.view.write Val fd (src.view.read Val fs) Finset.univ)) ⊢ P.pay c' s)
    (hpay' : (src.view.loc (c.tc : Thread nD τ) ↦[src.view.set]{q} fs) ⊢ P.pay c s')
    (hT : s ∈ T) (hT' : s' ∈ T.erase s) (hC : s' ∉ C)
    (h : P.State κ c ((T.erase s).erase s') (insert s' C) A V D ⊢ wp frame (wpE defs 𝒱 (c.tc : Thread nD τ) none) Set.univ (k ⟨⟩) Q)
    (hr : τ.routes (c.tc : Thread nD τ) (c'.tc : Thread nD τ) = true := by routes) :
    iprop(P.State κ c T C A V D ∗ X) ⊢ wp frame (wpE defs 𝒱 (c.tc : Thread nD τ) none) Set.univ
      (.op (.enqueueDma src (.remote (c'.tc : Thread nD τ) dst sS hsc) sem hsrc hdst hsem) k) Q := by
  subst hs hs' hto
  unfold State
  rw [bigSep_take hT, bigSep_take hT']
  iintro ⟨⟨#HB, ⟨Htk, Htk', HT⟩, HC, HA, HV, HD, ⟨%W, HO⟩⟩, HX⟩
  unfold ticket
  icases Htk with ⟨Hd, Hn⟩
  icases Htk' with ⟨Hd', Hn'⟩
  rw [hto']
  ihave Hr := hneed $$ [HX Hn Hn']
  · isplitl [HX]; · iexact HX
    isplitl [Hn] <;> iassumption
  icases Hr with ⟨Hs, Hdst⟩
  iapply (Rounds.wp_send_pointsTo 𝒱 ER P.rd (c.tc : Thread nD τ) none (κ₁ := κ (c, s')) (κ₂ := κ (P.dest s c, s)) (r₁ := 0) (r₂ := 0) (d₁ := ()) (d₂ := ())
    (by rw [rd_duties]; exact Finset.mem_singleton_self _) (by rw [rd_duties]; exact Finset.mem_singleton_self _) () () (P.amt s) hamt
    ((P.rd_amount c s' ()).trans hamt') (P.rd_amount (P.dest s c) s ()) (P.due c (T.erase s)) (P.due_far hT hfar) (W := W)
    (hpay'.trans (Entails.of_eq (P.rd_payload c s' ()).symm)) (hpay.trans (Entails.of_eq (P.rd_payload (P.dest s c) s ()).symm)) hr) $$ [Hs Hdst Hd Hd' HO]
  · isplitr; · iapply (P.books_inv κ c s'); iexact HB
    isplitr; · iapply (P.books_inv κ (P.dest s c) s); iexact HB
    isplitl [Hs]; · iexact Hs
    isplitl [Hdst]; · iexact Hdst
    isplitl [HO]; · iexact HO
    isplitl [Hd']; · iexact Hd'
    isplitr; · iapply (P.books_reached κ c s'); iexact HB
    isplitl [Hd]; · iexact Hd
    iapply (P.books_reached κ (P.dest s c) s); iexact HB
  iintro ⟨Hc, HO⟩
  iapply h
  unfold State
  rw [bigSep_put hC, ← P.due_near (c := c) (T := T.erase s) hfar', hamt']
  isplitr; · iexact HB
  isplitl [HT]; · iexact HT
  isplitl [Hc HC]
  · isplitl [Hc] <;> iassumption
  isplitl [HA]; · iexact HA
  isplitl [HV]; · iexact HV
  isplitl [HD]; · iexact HD
  iexists W; iexact HO

/-- A payload taken from what a device holds. -/
theorem State_take {s : K} (hs : s ∈ D) : P.State κ c T C A V D ⊢ iprop(P.State κ c T C A V (D.erase s) ∗ P.pay c s) := by
  unfold State
  rw [bigSep_take hs]
  iintro ⟨HB, HT, HC, HA, HV, ⟨Hp, HD⟩, HO⟩
  isplitr [Hp]
  · isplitl [HB]; · iexact HB
    isplitl [HT]; · iexact HT
    isplitl [HC]; · iexact HC
    isplitl [HA]; · iexact HA
    isplitl [HV]; · iexact HV
    isplitl [HD] <;> iassumption
  iexact Hp

/-- The wait for `s`: its payload, and its counter back at zero. -/
theorem wp_wait (s : K) {sp sp' : Space} {sh sh' : Shape} {e e' : EltTy} {sm : DmaSem sig} {κd : Kind}
    {src : Memref sig .tc sp' sh' e'} {dst : Memref sig κd sp sh e}
    {hsrc : src.view.WordExact} {hdst : dst.view.WordExact} {k : PUnit → Prog (TpuEff nD τ sig Val Λ .tc) α}
    (hs : SemLoc.dma sm = P.sem s) (hamt : dst.view.dmaCredit = P.amt s)
    (hrank : ∀ s' ∈ T, P.far s' = true → P.rank s < P.rank s')
    (hC : s ∈ C) (hA : s ∈ A) (hV : s ∉ V) (hD : s ∉ D)
    (h : P.State κ c T (C.erase s) (A.erase s) (insert s V) (insert s D) ⊢ wp frame (wpE defs 𝒱 (c.tc : Thread nD τ) none) Set.univ (k ⟨⟩) Q) :
    P.State κ c T C A V D ⊢ wp frame (wpE defs 𝒱 (c.tc : Thread nD τ) none) Set.univ (.op (.waitDma2 sm src dst hsrc hdst) k) Q := by
  unfold State
  rw [bigSep_take hC, bigSep_take hA]
  iintro ⟨#HB, HT, ⟨Hc, HC⟩, ⟨Ha, HA⟩, HV, HD, ⟨%W, HO⟩⟩
  iapply (Rounds.wp_wait_rest_token 𝒱 ER P.rd (c.tc : Thread nD τ) none (sm := P.sem s) (k' := P.amt s) (κ := κ (c, s))
      (fun K => by rw [wpE_waitDma2_eq 𝒱 (c.tc : Thread nD τ) none Set.univ, hs, hamt]) (Set.mem_univ _) () (O := P.due c T) (W := W) (R := 0) (m := 0) (T := ∅)
      (by rw [Nat.zero_add, rd_expect])) $$ [Hc HO Ha]
  · isplitr; · iapply (P.books_inv κ c s); iexact HB
    isplitl [Hc]; · iexact Hc
    isplitl [HO]; · iexact HO
    isplitr; · iapply (P.mayWait c s T hrank); iapply (P.books_lev κ); iexact HB
    iexact Ha
  iintro ⟨HO, Ha, -, Hp⟩
  ihave Hp := (Entails.of_eq (P.rd_rest c s)) $$ Hp
  imod (Rounds.cell_close ER P.rd (Set.mem_univ (κ (c, s))) (fun h => h) (R := 0 + 1) (P.rd_duties_later (P.cell c s))) $$ [Ha] with Hz
  · isplitr; · iapply (P.books_inv κ c s); iexact HB
    iexact Ha
  iapply h
  unfold State
  rw [bigSep_put hV, bigSep_put hD]
  isplitr; · iexact HB
  isplitl [HT]; · iexact HT
  isplitl [HC]; · iexact HC
  isplitl [HA]; · iexact HA
  isplitl [Hz HV]
  · isplitl [Hz] <;> iassumption
  isplitl [Hp HD]
  · isplitl [Hp] <;> iassumption
  iexists (insert (P.sem s, ()) W); iexact HO

end Steps

/-! ## The launch -/

/-- What a device is dealt. -/
def dealt (κ : Dev nD × K → ℕ) (c : Dev nD) : sProp 𝕄 :=
  iprop(bigSep Finset.univ (P.ticket c) ∗ bigSep Finset.univ fun s => atPos ER (P.cell c s) 0 ∅ 0)

def cells : Finset (GSem nD τ sig) := Finset.univ.map ⟨fun p : Dev nD × K => P.cell p.1 p.2, P.cell_inj⟩
def toks : Finset (GSem nD τ sig × ℕ × Unit) :=
  Finset.univ.map ⟨fun p : Dev nD × K => (P.cell p.1 p.2, 0, ()), fun _ _ h => P.cell_inj (congrArg Prod.fst h)⟩

/-- The ghost state the launch funds for a device's semaphores. -/
def funded (c : Dev nD) : sProp 𝕄 :=
  iprop((bigSep Finset.univ fun s => roundState ER P.rd (P.cell c s) 0) ∗ (bigSep Finset.univ fun s => reached ER (P.cell c s) 0)
    ∗ (bigSep Finset.univ fun s => atPos ER (P.cell c s) 0 ∅ 0) ∗ bigSep Finset.univ fun s => dutyTok ER (P.cell c s) 0 ())

theorem fund : BI.own (ER (initOf P.cells P.toks)) ⊢ (|==> bigSep Finset.univ P.funded : sProp 𝕄) := by
  have hX (Φ : GSem nD τ sig → sProp 𝕄) : bigSep P.cells Φ = bigSep Finset.univ fun c : Dev nD => bigSep Finset.univ fun s => Φ (P.cell c s) := by
    unfold cells; rw [bigSep_map, BI.bigSep_univ_prod]; rfl
  have hT : bigSep P.toks (fun x => (dutyTok ER x.1 x.2.1 x.2.2 : sProp 𝕄))
      = bigSep Finset.univ fun c : Dev nD => bigSep Finset.univ fun s => dutyTok ER (P.cell c s) 0 () := by
    unfold toks; rw [bigSep_map, BI.bigSep_univ_prod]; rfl
  iintro H
  imod (Rounds.fund ER P.rd P.cells P.toks) $$ H with ⟨Hst, Hr, Hat, Htok⟩
  imodintro
  ihave Hst' := (Entails.of_eq (hX fun g => roundState ER P.rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold funded; simp only [bigSep_sep']
  isplitl [Hst']; · iexact Hst'
  isplitl [Hr']; · iexact Hr'
  isplitl [Hat'] <;> iassumption

/-- The tokens handed to the issuers: device `c` gets the token of its `dest s c`. -/
theorem toks_dealt :
    (bigSep Finset.univ fun c : Dev nD => bigSep Finset.univ fun s => (dutyTok ER (P.cell c s) 0 () : sProp 𝕄))
      = bigSep Finset.univ fun c : Dev nD => bigSep Finset.univ fun s => dutyTok ER (P.cell (P.dest s c) s) 0 () := by
  rw [Pipeline.bigSep_univ_comm, Pipeline.bigSep_univ_comm (fun (c : Dev nD) (s : K) => (dutyTok ER (P.cell (P.dest s c) s) 0 () : sProp 𝕄))]
  exact bigSep_congr fun s _ => BI.bigSep_univ_equiv (P.dest s) (fun c : Dev nD => (dutyTok ER (P.cell c s) 0 () : sProp 𝕄))

/-- What a device holds after the deal, but for the levels and the launch's credit. -/
def given (keep : Dev nD → sProp 𝕄) (c : Dev nD) : sProp 𝕄 :=
  iprop(∃ κ, (bigSep Finset.univ fun p : Dev nD × K => cellInv ER P.rd (κ p) (P.cell p.1 p.2))
    ∗ (bigSep Finset.univ fun p : Dev nD × K => reached ER (P.cell p.1 p.2) 0) ∗ P.dealt κ c ∗ keep c)

/-- The invariants made, the tokens handed out, the buffers lent: `U` is what the launch gives of the buffers, `keep` what
    a device keeps for itself. -/
theorem deal {U keep : Dev nD → sProp 𝕄}
    (hbuf : bigSep Finset.univ U ⊢ bigSep Finset.univ fun c => iprop(bigSep Finset.univ (P.need c) ∗ keep c)) :
    (bigSep Finset.univ fun c => iprop(Pipeline.ownSems0 P.sem c ∗ U c ∗ P.funded c) : sProp 𝕄)
      ⊢ |={Set.univ}=> bigSep Finset.univ (P.given keep) := by
  have hinv : iprop((bigSep Finset.univ fun c : Dev nD => Pipeline.ownSems0 P.sem c)
        ∗ bigSep Finset.univ fun c : Dev nD => bigSep Finset.univ fun s => roundState ER P.rd (P.cell c s) 0)
      ⊢ (|={Set.univ}=> bigSep Finset.univ fun p : Dev nD × K => iprop(∃ κ : ℕ, cellInv ER P.rd κ (P.cell p.1 p.2)) : sProp 𝕄) := by
    rw [show (bigSep Finset.univ fun c : Dev nD => (Pipeline.ownSems0 P.sem c : sProp 𝕄))
        = bigSep Finset.univ fun c : Dev nD => bigSep Finset.univ fun s => semVal (P.cell c s) 0 from rfl,
      ← BI.bigSep_univ_prod (fun p : Dev nD × K => (semVal (P.cell p.1 p.2) 0 : sProp 𝕄)),
      ← BI.bigSep_univ_prod (fun p : Dev nD × K => (roundState ER P.rd (P.cell p.1 p.2) 0 : sProp 𝕄)), ← bigSep_sep']
    exact (bigSep_mono fun p _ => (Rounds.body_intro ER P.rd (P.cell p.1 p.2)).trans inv_alloc).trans (bigSep_fupd _ _)
  have hgive (κ : Dev nD × K → ℕ) :
      iprop(((bigSep Finset.univ fun p : Dev nD × K => cellInv ER P.rd (κ p) (P.cell p.1 p.2))
          ∗ (bigSep Finset.univ fun p : Dev nD × K => reached ER (P.cell p.1 p.2) 0))
        ∗ bigSep Finset.univ fun c => iprop(P.dealt κ c ∗ keep c))
      ⊢ (bigSep Finset.univ (P.given keep) : sProp 𝕄) := by
    have hone (c : Dev nD) : iprop(((bigSep Finset.univ fun p : Dev nD × K => cellInv ER P.rd (κ p) (P.cell p.1 p.2))
          ∗ (bigSep Finset.univ fun p : Dev nD × K => reached ER (P.cell p.1 p.2) 0)) ∗ P.dealt κ c ∗ keep c) ⊢ P.given keep c := by
      unfold given
      iintro ⟨⟨HI, HR⟩, HD, HK⟩
      iexists κ
      isplitl [HI]; · iexact HI
      isplitl [HR]; · iexact HR
      isplitl [HD] <;> iassumption
    refine (sep_mono_left (BI.bigSep_of_persistent (Finset.univ : Finset (Dev nD)) _)).trans ?_
    rw [← bigSep_sep']
    exact bigSep_mono fun c _ => hone c
  unfold funded
  simp only [bigSep_sep']
  iintro ⟨Hsem, HU, Hst, Hr, Hat, Htok⟩
  imod hinv $$ [Hsem Hst] with HI
  · isplitl [Hsem] <;> iassumption
  imodintro
  ihave HK := (BI.bigSep_exists_pi Finset.univ (fun (p : Dev nD × K) (κ : ℕ) => (cellInv ER P.rd κ (P.cell p.1 p.2) : sProp 𝕄))) $$ HI
  icases HK with ⟨%κ, HI⟩
  ihave Hb := hbuf $$ HU
  ihave Htok' := (Entails.of_eq P.toks_dealt) $$ Htok
  ihave Hr' := (Entails.of_eq (BI.bigSep_univ_prod (fun p : Dev nD × K => (reached ER (P.cell p.1 p.2) 0 : sProp 𝕄))).symm) $$ Hr
  iapply (hgive κ)
  isplitl [HI Hr']
  · isplitl [HI] <;> iassumption
  unfold dealt ticket
  simp only [bigSep_sep']
  icases Hb with ⟨Hn, Hkeep⟩
  isplitr [Hkeep]
  · isplitr [Hat]
    · isplitl [Htok'] <;> iassumption
    iexact Hat
  iexact Hkeep

/-- The semaphores credited from another device. -/
def fars : Finset K := Finset.univ.filter fun s => P.far s = true

/-- The launch's credit: every far semaphore is owed its units by one device. -/
theorem credit (c : Dev nD) :
    (Pipeline.launchCred (fun d => P.due d Finset.univ) c : sProp 𝕄) ⊢ bigSep P.fars fun s => cred (tallyAt (P.cell c s) () (P.amt s)) := by
  unfold due
  rw [Pipeline.launchCred_sum]
  exact bigSep_mono fun s _ =>
    Pipeline.launchCred_tallyAt (P.sem s) (P.dest s) (P.dest s).symm (P.dest s).apply_symm_apply (P.dest s).symm_apply_apply () (P.amt s) c

/-- The body's invariant at its start: everything still to be done. -/
def start (keep : Dev nD → sProp 𝕄) (c : Dev nD) : sProp 𝕄 :=
  iprop(∃ κ, P.books κ ∗ bigSep P.fars (fun s => cred (tallyAt (P.cell c s) () (P.amt s))) ∗ P.dealt κ c ∗ keep c)
/-- The body's invariant at its end: every semaphore at zero, every payload it keeps in hand. -/
def stop (keep : Dev nD → sProp 𝕄) (c : Dev nD) : sProp 𝕄 :=
  iprop((bigSep Finset.univ fun s => semVal (P.cell c s) 0) ∗ bigSep P.hold (P.pay c) ∗ keep c)

variable {Λ₀ : Idealize.SL.Sem.Labels}

/-- The proof data of a call without windows and with one grid point. -/
def dat (cfg : Pipeline.Cfg sig Λ₀) (hW : Fin cfg.W → False) (keep : Dev nD → sProp 𝕄) (c : Dev nD) :
    Pipeline.Dat τ Val Unit ℕ (UU nD τ sig) ℕ cfg c where
  A w := (hW w).elim
  after w _ := (hW w).elim
  Φ t := if t.val = 0 then P.start keep c else P.stop keep c
  q w := (hW w).elim
  owed t := if t.val = 0 then P.due c Finset.univ else 0

theorem dat_Φ (cfg : Pipeline.Cfg sig Λ₀) (hW : Fin cfg.W → False) (keep : Dev nD → sProp 𝕄) (c : Dev nD) (t : Fin (cfg.N + 1)) :
    (P.dat cfg hW keep c).Φ t = if t.val = 0 then P.start keep c else P.stop keep c := rfl
theorem dat_owed (cfg : Pipeline.Cfg sig Λ₀) (hW : Fin cfg.W → False) (keep : Dev nD → sProp 𝕄) (c : Dev nD) (t : Fin (cfg.N + 1)) :
    (P.dat cfg hW keep c).owed t = if t.val = 0 then P.due c Finset.univ else 0 := rfl
theorem dat_Φ_first (cfg : Pipeline.Cfg sig Λ₀) (hW : Fin cfg.W → False) (keep : Dev nD → sProp 𝕄) (c : Dev nD) :
    (P.dat cfg hW keep c).Φ 0 = P.start keep c := by
  rw [dat_Φ, if_pos (Fin.val_zero _)]
theorem dat_Φ_last (cfg : Pipeline.Cfg sig Λ₀) (hW : Fin cfg.W → False) (hN : cfg.N = 1) (keep : Dev nD → sProp 𝕄) (c : Dev nD) :
    (P.dat cfg hW keep c).Φ (Fin.last cfg.N) = P.stop keep c := by
  rw [dat_Φ, if_neg (by rw [Fin.val_last, hN]; exact one_ne_zero)]
theorem dat_owed_first (cfg : Pipeline.Cfg sig Λ₀) (hW : Fin cfg.W → False) (keep : Dev nD → sProp 𝕄) (c : Dev nD) :
    (P.dat cfg hW keep c).owed 0 = P.due c Finset.univ := by
  rw [dat_owed, if_pos (Fin.val_zero _)]
theorem dat_owed_last (cfg : Pipeline.Cfg sig Λ₀) (hW : Fin cfg.W → False) (hN : cfg.N = 1) (keep : Dev nD → sProp 𝕄) (c : Dev nD) :
    (P.dat cfg hW keep c).owed (Fin.last cfg.N) = 0 := by
  rw [dat_owed, if_neg (by rw [Fin.val_last, hN]; exact one_ne_zero)]

/-- The body obligation, from the body run on the state at its start. -/
theorem obligation (cfg : Pipeline.Cfg sig Λ₀) (hW : Fin cfg.W → False) (hN : cfg.N = 1) (keep : Dev nD → sProp 𝕄) (c : Dev nD)
    (defs₀ : Defs nD τ sig Val Λ₀) (𝒱₀ : Variants)
    (hbody : ∀ κ (t : Fin cfg.N), P.State κ c Finset.univ P.fars Finset.univ ∅ ∅ ⊢ wp frame (wpE defs₀ 𝒱₀ (c.tc : Thread nD τ) none) Set.univ
      (defs₀ .tc cfg.body (cfg.bodyArgs t (cfg.slots t))) fun _ => P.State κ c ∅ ∅ ∅ Finset.univ P.hold) :
    Pipeline.BodyObligation (P.dat cfg hW keep c) defs₀ 𝒱₀ () Set.univ := fun t => by
  have h0 : t.castSucc.val = 0 := by have := t.isLt; rw [Fin.val_castSucc]; omega
  have h1 : t.succ.val ≠ 0 := by simp
  have hΦ0 : (P.dat cfg hW keep c).Φ t.castSucc = P.start keep c := by rw [dat_Φ, if_pos h0]
  have hΦ1 : (P.dat cfg hW keep c).Φ t.succ = P.stop keep c := by rw [dat_Φ, if_neg h1]
  have hO0 : (P.dat cfg hW keep c).owed t.castSucc = P.due c Finset.univ := by rw [dat_owed, if_pos h0]
  have hO1 : (P.dat cfg hW keep c).owed t.succ = 0 := by rw [dat_owed, if_neg h1]
  haveI : IsEmpty (Fin cfg.W) := ⟨hW⟩
  have hemp (Φ : Fin cfg.W → sProp 𝕄) : bigSep Finset.univ Φ = iprop(emp) := by
    rw [Finset.univ_eq_empty, BI.bigSep_empty]; rfl
  rw [hemp, hemp]
  unfold Pipeline.Dat.owesAt Pipeline.owesWithin
  rw [hΦ0, hΦ1, hO0, hO1]
  have hpost (κ : Dev nD × K → ℕ) : iprop(P.State κ c ∅ ∅ ∅ Finset.univ P.hold ∗ keep c)
      ⊢ iprop(P.stop keep c ∗ (∃ W, ⌜∀ x ∈ W, x ∈ (P.dat cfg hW keep c).bound () t.succ⌝ ∗ owes (c.tc : Thread nD τ) 0 W) ∗ emp) := by
    unfold State stop
    rw [P.due_empty]
    iintro ⟨⟨-, -, -, -, HV, HD, ⟨%W, HO⟩⟩, HK⟩
    isplitl [HV HD HK]
    · isplitl [HV]; · iexact HV
      isplitl [HD] <;> iassumption
    isplitl [HO]
    · iexists W
      isplitr; · ipureintro; exact fun x _ => Or.inl trivial
      iexact HO
    iempintro
  unfold start dealt
  iintro ⟨⟨%κ, HB, HC, ⟨HT, HA⟩, HK⟩, ⟨%W, -, HO⟩, -⟩
  iapply (wp_mono frame (wpE defs₀ 𝒱₀ (c.tc : Thread nD τ) none) Set.univ fun _ => hpost κ)
  iapply (wp_frame_r frame (wpE defs₀ 𝒱₀ (c.tc : Thread nD τ) none) Set.univ)
  isplitr [HK]
  · iapply (hbody κ t)
    unfold State
    isplitl [HB]; · iexact HB
    isplitl [HT]; · iexact HT
    isplitl [HC]; · iexact HC
    isplitl [HA]; · iexact HA
    rw [BI.bigSep_empty, BI.bigSep_empty]
    isplitr; · iempintro
    isplitr; · iempintro
    iexists W; iexact HO
  iexact HK

/-- A reading of the final state keeps it. -/
theorem read_keep {A S : sProp 𝕄} {φ : Prop} (h : iprop(A ∗ S) ⊢ (⌜φ⌝ : sProp 𝕄)) : iprop(A ∗ S) ⊢ |={Set.univ}=> iprop(⌜φ⌝ ∗ S) := by
  refine Idealize.SL.BI.Laws.pure_elim φ h fun hφ => ?_
  iintro ⟨-, H⟩
  imodintro
  isplitr; · ipureintro; exact hφ
  iexact H

/-- A program that is one call of this kind: what its devices hold at the end (`pay`, `keep`), read off the final memory. -/
theorem run {Pi : Type} [Fintype Pi] [DecidableEq Pi] [∀ e, Nonempty (Val e)] (cfgs : Pi → Pipeline.Cfg sig Λ₀)
    (cinj : Function.Injective (Pipeline.cellOf (nD := nD) (τ := τ) cfgs)) (p : Pi) (hW : ∀ p, Fin (cfgs p).W → False) (hN : (cfgs p).N = 1)
    (hw : Pipeline.WinFacts₀ (cfgs p).spec) (ho : Pipeline.OwnSemFacts (cfgs p).spec P.sem)
    (hrest : ∀ c : Dev nD, (Pipeline.scopedRest (cfgs p).spec c : sProp 𝕄) = iprop(emp))
    (defs₀ : Defs nD τ sig Val Λ₀) (𝒱₀ : Variants) (m : (ℓ : Loc nD τ sig) → Buf Val ℓ) (g : Dev nD → PrngReg)
    (main : Dev nD → Prog (TpuEff nD τ sig Val (Pipeline.Sig Λ₀ Pi fun p => ((cfgs p).toPCfg (Val := Val)).Adm) .tc) PUnit)
    (hmain : ∀ c, main c = .op (.customCall (Pipeline.entry p) ()) fun _ => .ret ⟨⟩)
    (keep : Dev nD → sProp 𝕄)
    (hbuf : (bigSep Finset.univ fun c : Dev nD => unscopedBufs c fun b => m ((c.tc : Thread nD τ).loc b))
      ⊢ bigSep Finset.univ fun c => iprop(bigSep Finset.univ (P.need c) ∗ keep c))
    (hbody : ∀ c κ (t : Fin (cfgs p).N), P.State κ c Finset.univ P.fars Finset.univ ∅ ∅ ⊢ wp frame (wpE defs₀ 𝒱₀ (c.tc : Thread nD τ) none) Set.univ
      (defs₀ .tc (cfgs p).body ((cfgs p).bodyArgs t ((cfgs p).slots t))) fun _ => P.State κ c ∅ ∅ ∅ Finset.univ P.hold)
    (QY : Dev nD → MemSt nD τ sig Val → Prop)
    (hread : ∀ c (s' : Phys nD τ sig Val), iprop((bigSep P.hold (P.pay c) ∗ keep c) ∗ SI s') ⊢ (⌜QY c s'.mem⌝ : sProp 𝕄))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs (fun p => (cfgs p).toPCfg) defs₀) (onTc main) ⟨m, fun _ => 0, g⟩ Q := by
  haveI : IsEmpty (Fin ((cfgs p).toPCfg (Val := Val)).W) := ⟨hW p⟩
  haveI : IsEmpty (Fin ((cfgs p).toPCfg (Val := Val)).pre.K) := ⟨fun k => k.elim0⟩
  refine run_dealt (fun p => (cfgs p).toPCfg) (fun _ p => (cfgs p).toPCfg_adm) (fun p c => (P.dat (cfgs p) (hW p) keep c).toR) () cinj p hw ho EP defs₀ 𝒱₀
    m g main hmain (fun c => (P.obligation (cfgs p) (hW p) hN keep c defs₀ 𝒱₀ (hbody c)).toR) (fun c => P.due c Finset.univ)
    (fun c => P.dat_owed_first (cfgs p) (hW p) keep c) (fun c => P.dat_owed_last (cfgs p) (hW p) hN keep c) L P.lv L_of_ne
    P.funded (P.given keep)
    (initOf (Pipeline.PerCore.cells (Pipeline.pinD (fun p => (cfgs p).toPCfg (Val := Val)) fun _ p => (cfgs p).toPCfg_adm) cinj)
      (Pipeline.PerCore.launchToks (Pipeline.pinD (fun p => (cfgs p).toPCfg (Val := Val)) fun _ p => (cfgs p).toPCfg_adm) cinj), initOf P.cells P.toks) ?_ (P.deal hbuf) (fun c => ?_)
    (fun c => iprop(bigSep P.hold (P.pay c) ∗ keep c)) (fun c => ?_) QY (fun c s' => read_keep (hread c s')) hQ
  · iintro Hu
    ihave H := (ownU_pair _ _) $$ Hu
    icases H with ⟨HP, HX⟩
    imod P.fund $$ HX with HG
    imodintro
    isplitl [HP] <;> iassumption
  · refine BIBase.Entails.trans ?_ (Entails.of_eq (P.dat_Φ_first (cfgs p) (hW p) keep c).symm)
    unfold start books given
    iintro ⟨HL, HC, ⟨%κ, HI, HR, HD, HK⟩, -⟩
    ihave HC' := (P.credit c) $$ HC
    iexists κ
    isplitl [HI HR HL]
    · isplitl [HI]; · iexact HI
      isplitl [HR] <;> iassumption
    isplitl [HC']; · iexact HC'
    isplitl [HD] <;> iassumption
  · refine BIBase.Entails.trans (Entails.of_eq (P.dat_Φ_last (cfgs p) (hW p) hN keep c)) ?_
    unfold stop
    iintro ⟨HV, HD, HK⟩
    isplitl [HD HK]
    · isplitl [HD] <;> iassumption
    isplitl [HV]; · iapply (Entails.of_eq (show (bigSep Finset.univ fun s => semVal (P.cell c s) 0 : sProp 𝕄) = Pipeline.ownSems0 P.sem c from rfl)); iexact HV
    iapply (Entails.of_eq (hrest c).symm); iempintro

end Plan

end Cert.Exchange

end
-- ==== Proof.Exchange.Moves.lean ====
/-
# An exchange given by its copies

`Moves` is a plan whose assertions are read off the copies themselves: every data semaphore is credited by one copy of
one device, a whole memref to a whole memref, and what the copy brings is what its source held at the launch. A sender's
own semaphore is credited by the same copy and carries nothing.

A copy may also pass on what another has brought: it then reads the place the other has written, which its issuer gives away for
the time and has back with its own semaphore.
-/
module

public import proofs.«01_k».proof.Proof.Exchange.Protocol

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}

local notation "𝕄" => Res nD τ sig Val

/-- A copy: where it reads and where it writes. -/
structure Copy (sig : RefSig) where
  {sp : Space}
  {sp' : Space}
  {sh : Shape}
  {e : EltTy}
  src : Memref sig .tc sp sh e
  dst : Memref sig .tc sp' sh e

structure Moves (nD : ℕ) (sig : RefSig) (K : Type) [Fintype K] where
  sem : K → SemLoc sig
  sem_inj : Function.Injective sem
  amt : K → ℕ
  amt_pos : ∀ s, 0 < amt s
  dest : K → Equiv.Perm (Dev nD)
  far : K → Bool
  /-- The copy that device `c` issues on semaphore `s` of device `dest s c`; none where `s` only tells a sender that its
      copy has been read. Of a copy that passes on another's, the source is where the first of them reads. -/
  copy : Dev nD → K → Option (Copy sig)
  /-- Which share of its source the copy is lent. -/
  lend : K → ℕ
  /-- The semaphore with which came what the copy crediting `s` passes on. -/
  relay : K → Option K := fun _ => none
  /-- The semaphore whose goods come with `s`: another one's, where `s` tells that they have been passed on. -/
  goods : K → K := id
  /-- The semaphores whose goods a device holds at the end. -/
  hold : Finset K := Finset.univ

/-- What a device keeps of a buffer it has lent `n` times: each time it gives the right half away. -/
def kept : ℕ → PosShare TreeShare
  | 0 => fullShare
  | n + 1 => (kept n).left
/-- The share given away at lending `n`. -/
def lent (n : ℕ) : PosShare TreeShare := (kept n).right

/-- The launch's memory. -/
abbrev Mem (nD : ℕ) (τ : Topo) (sig : RefSig) (Val : EltTy → Type) : Type := (ℓ : Loc nD τ sig) → Buf Val ℓ

namespace Copy

variable (x : Copy sig) (m : Mem nD τ sig Val)

/-- The source, along a share. -/
def source (c : Dev nD) (q : PosShare TreeShare) : sProp 𝕄 :=
  x.src.view.loc (c.tc : Thread nD τ) ↦[x.src.view.set]{q} m (x.src.view.loc (c.tc : Thread nD τ))
/-- The place it writes, as the launch leaves it. -/
def place (c : Dev nD) : sProp 𝕄 :=
  x.dst.view.loc (c.tc : Thread nD τ) ↦[x.dst.view.set]{fullShare} m (x.dst.view.loc (c.tc : Thread nD τ))
/-- The place once the copy from device `d` has arrived on `c`. -/
def brought (d c : Dev nD) : sProp 𝕄 :=
  x.dst.view.loc (c.tc : Thread nD τ) ↦[x.dst.view.set]{fullShare}
    x.dst.view.write Val (m (x.dst.view.loc (c.tc : Thread nD τ))) (x.src.view.read Val (m (x.src.view.loc (d.tc : Thread nD τ)))) Finset.univ

instance brought_storable (d c : Dev nD) : BI.Storable (upEmb : UEmb _ 𝕄) (x.brought m d c) := by
  unfold brought; infer_instance

/-- The copy's elements have arrived in memory `m'`. -/
def Arrived (d c : Dev nD) (m' : Mem nD τ sig Val) : Prop :=
  ∀ i, x.dst.view.read Val (m' (x.dst.view.loc (c.tc : Thread nD τ))) i = x.src.view.read Val (m (x.src.view.loc (d.tc : Thread nD τ))) i

theorem arrived (d c : Dev nD) (s' : Phys nD τ sig Val) :
    iprop(x.brought m d c ∗ SI s') ⊢ (⌜x.Arrived m d c s'.mem.mem⌝ : sProp 𝕄) := by
  unfold brought
  iintro ⟨H, HSI⟩
  icombine HSI H gives %h
  ipureintro
  intro i
  have hi := h (x.dst.view.emb i) (x.dst.view.emb_mem_set i)
  unfold View.read
  rw [hi, View.write_emb_of_mem _ _ (Finset.mem_univ i)]
  simp
  rfl

end Copy

namespace Moves

variable {K : Type} [Fintype K] [DecidableEq K] (M : Moves nD sig K) (m : Mem nD τ sig Val)

/-- The device whose memory the copy of `c` crediting `s` brings. -/
def origin (c : Dev nD) (s : K) : Dev nD :=
  match M.relay s with
  | none => c
  | some t => (M.dest t).symm c

/-- A copy that passes on what came in is made after the one it waits for. -/
def rank (s : K) : ℕ := if (M.relay s).isSome then 1 else 0

/-- What the launch lends the copy of `c` crediting `s`. -/
def source (c : Dev nD) (s : K) : sProp 𝕄 :=
  match M.relay s, M.copy c s with
  | none, some x => x.source m c (lent (M.lend s))
  | _, _ => iprop(emp)
/-- The place on device `c` that the copy crediting its `s` writes. -/
def place (c : Dev nD) (s : K) : sProp 𝕄 :=
  match M.copy ((M.dest s).symm c) s with
  | none => iprop(emp)
  | some x => x.place m c
def brought (c : Dev nD) (s : K) : sProp 𝕄 :=
  match M.copy ((M.dest s).symm c) s with
  | none => iprop(emp)
  | some x => x.brought m (M.origin ((M.dest s).symm c) s) c

def plan : Plan nD τ sig Val K where
  sem := M.sem
  sem_inj := M.sem_inj
  amt := M.amt
  amt_pos := M.amt_pos
  dest := M.dest
  far := M.far
  rank := M.rank
  need c s := iprop(M.place m (M.dest s c) s ∗ M.source m c s)
  pay c s := M.brought m c (M.goods s)
  hold := M.hold
  pay_storable c s := by
    unfold brought
    cases M.copy ((M.dest (M.goods s)).symm c) (M.goods s) <;> infer_instance

theorem origin_own {c : Dev nD} {s : K} (hr : M.relay s = none) : M.origin c s = c := by
  unfold origin; rw [hr]
theorem origin_relay {d c : Dev nD} {s t : K} (hr : M.relay s = some t) (hd : M.dest t d = c) : M.origin c s = d := by
  unfold origin; rw [hr]; exact (Equiv.symm_apply_eq _).mpr hd.symm

theorem need_eq {c c' : Dev nD} {s : K} {x : Copy sig} (hr : M.relay s = none) (hx : M.copy c s = some x) (hto : M.dest s c = c') :
    (M.plan m).need c s = iprop(x.place m c' ∗ x.source m c (lent (M.lend s))) := by
  subst hto
  show iprop(M.place m (M.dest s c) s ∗ M.source m c s) = _
  unfold place source
  rw [Equiv.symm_apply_apply, hx, hr]

theorem need_relay {c c' : Dev nD} {s t : K} {x : Copy sig} (hr : M.relay s = some t) (hx : M.copy c s = some x) (hto : M.dest s c = c') :
    (M.plan m).need c s = iprop(x.place m c' ∗ emp) := by
  subst hto
  show iprop(M.place m (M.dest s c) s ∗ M.source m c s) = _
  unfold place source
  rw [Equiv.symm_apply_apply, hx, hr]

theorem brought_eq {c c' : Dev nD} {s : K} {x : Copy sig} (hx : M.copy c s = some x) (hto : M.dest s c = c') :
    M.brought m c' s = x.brought m (M.origin c s) c' := by
  subst hto
  unfold brought
  rw [Equiv.symm_apply_apply, hx]

theorem pay_eq {c c' : Dev nD} {s t : K} {x : Copy sig} (hg : M.goods t = s) (hx : M.copy c s = some x) (hto : M.dest s c = c') :
    (M.plan m).pay c' t = x.brought m (M.origin c s) c' := by
  subst hg
  exact M.brought_eq m hx hto

theorem pay_none {c c' : Dev nD} {s : K} (hg : M.goods s = s) (hx : M.copy c s = none) (hto : M.dest s c = c') :
    (M.plan m).pay c' s = iprop(emp) := by
  subst hto
  show M.brought m (M.dest s c) (M.goods s) = _
  rw [hg]
  unfold brought
  rw [Equiv.symm_apply_apply, hx]

section Steps

variable {Λ : Idealize.SL.Sem.Labels} (defs : Defs nD τ sig Val Λ) (𝒱 : Variants)
variable {M m}
variable {κ : Dev nD × K → ℕ} {c : Dev nD} {T C A V D : Finset K} {α : Type} {Q : α → sProp (Res nD τ sig Val)}

/-- A copy within the device. -/
theorem wp_local (s : K) {sp sp' : Space} {sh : Shape} {e : EltTy} {src : Memref sig .tc sp sh e} {dst : Memref sig .tc sp' sh e} {sem : SemLoc sig}
    {hsrc : src.view.WordExact} {hdst : dst.view.WordExact} {hsem : DmaTarget.Typed (nD := nD) (p := (c.tc : Thread nD τ).2) sp sem (DmaTarget.here (p := (c.tc : Thread nD τ).2) dst)}
    {k : PUnit → Prog (TpuEff nD τ sig Val Λ .tc) α}
    (hs : sem = M.sem s) (hx : M.copy c s = some ⟨src, dst⟩) (hto : M.dest s c = c) (hfar : M.far s = false)
    (hamt : dst.view.amount sem = M.amt s) (hT : s ∈ T) (hC : s ∉ C)
    (h : (M.plan m).State κ c (T.erase s) (insert s C) A V D ⊢ wp frame (wpE defs 𝒱 (c.tc : Thread nD τ) none) Set.univ (k ⟨⟩) Q)
    (hr : M.relay s = none := by rfl) (hg : M.goods s = s := by rfl) :
    (M.plan m).State κ c T C A V D ⊢ wp frame (wpE defs 𝒱 (c.tc : Thread nD τ) none) Set.univ
      (.op (.enqueueDma src (.here dst) sem hsrc hdst hsem) k) Q := by
  refine Plan.wp_local (P := M.plan m) defs 𝒱 s (q := lent (M.lend s)) (fs := m _) (fd := m _) hs hto hfar hamt ?_ ?_ hT hC h
  · rw [M.need_eq m hr hx hto]
    unfold Copy.place Copy.source
    iintro ⟨H1, H2⟩
    isplitl [H2] <;> iassumption
  · rw [M.pay_eq m hg hx hto, M.origin_own hr]
    unfold Copy.brought
    iintro ⟨H1, H2⟩
    iexact H1

/-- A copy to another device. -/
theorem wp_remote (s s' : K) (c' : Dev nD) {sp sp' : Space} {sh : Shape} {e : EltTy} {src : Memref sig .tc sp sh e} {dst : Memref sig .tc sp' sh e}
    {hsc : dst.view.ref.isScScratch = false} {sS sem : SemLoc sig}
    {hsrc : src.view.WordExact} {hdst : dst.view.WordExact} {hsem : DmaTarget.Typed (p := (c.tc : Thread nD τ).2) sp sem (.remote (c'.tc : Thread nD τ) dst sS hsc)}
    {k : PUnit → Prog (TpuEff nD τ sig Val Λ .tc) α}
    (hs : sem = M.sem s) (hs' : sS = M.sem s') (hx : M.copy c s = some ⟨src, dst⟩) (hx' : M.copy c s' = none)
    (hto : M.dest s c = c') (hto' : M.dest s' c = c) (hfar : M.far s = true) (hfar' : M.far s' = false)
    (hamt : dst.view.amount sem = M.amt s) (hamt' : M.amt s' = M.amt s) (hT : s ∈ T) (hT' : s' ∈ T.erase s) (hC : s' ∉ C)
    (h : (M.plan m).State κ c ((T.erase s).erase s') (insert s' C) A V D ⊢ wp frame (wpE defs 𝒱 (c.tc : Thread nD τ) none) Set.univ (k ⟨⟩) Q)
    (hl : M.relay s = none := by rfl) (hg : M.goods s = s := by rfl) (hg' : M.goods s' = s' := by rfl)
    (hr : τ.routes (c.tc : Thread nD τ) (c'.tc : Thread nD τ) = true := by routes) :
    (M.plan m).State κ c T C A V D ⊢ wp frame (wpE defs 𝒱 (c.tc : Thread nD τ) none) Set.univ
      (.op (.enqueueDma src (.remote (c'.tc : Thread nD τ) dst sS hsc) sem hsrc hdst hsem) k) Q := by
  refine BI.sep_emp_intro.trans (Plan.wp_send (P := M.plan m) defs 𝒱 iprop(emp) s s' c' (q := lent (M.lend s)) (fs := m _) (fd := m _)
    hs hs' hto hto' hfar hfar' hamt hamt' ?_ ?_ ?_ hT hT' hC h hr)
  · rw [M.need_eq m hl hx hto]
    unfold Copy.place Copy.source
    iintro ⟨-, ⟨H1, H2⟩, -⟩
    isplitl [H2] <;> iassumption
  · rw [M.pay_eq m hg hx hto, M.origin_own hl]
    unfold Copy.brought
    exact .rfl
  · rw [M.pay_none m hg' hx' hto']
    iintro -
    iempintro

/-- A copy that passes on what the copy from `d` has brought with semaphore `r`. -/
theorem wp_relay (s s' r : K) (d c' : Dev nD) {sp sp' : Space} {sh : Shape} {e : EltTy} {src₀ : Memref sig .tc sp' sh e} {x : Memref sig .tc sp sh e}
    {hsc : x.view.ref.isScScratch = false} {sS sem : SemLoc sig}
    {hsrc : x.view.WordExact} {hdst : x.view.WordExact} {hsem : DmaTarget.Typed (p := (c.tc : Thread nD τ).2) sp sem (.remote (c'.tc : Thread nD τ) x sS hsc)}
    {k : PUnit → Prog (TpuEff nD τ sig Val Λ .tc) α}
    (hs : sem = M.sem s) (hs' : sS = M.sem s') (hx : M.copy c s = some ⟨src₀, x⟩) (hx₀ : M.copy d r = some ⟨src₀, x⟩)
    (hd : M.dest r d = c) (hto : M.dest s c = c') (hto' : M.dest s' c = c) (hfar : M.far s = true) (hfar' : M.far s' = false)
    (hamt : x.view.amount sem = M.amt s) (hamt' : M.amt s' = M.amt s) (hT : s ∈ T) (hT' : s' ∈ T.erase s) (hC : s' ∉ C) (hD : r ∈ D)
    (h : (M.plan m).State κ c ((T.erase s).erase s') (insert s' C) A V (D.erase r) ⊢ wp frame (wpE defs 𝒱 (c.tc : Thread nD τ) none) Set.univ (k ⟨⟩) Q)
    (hl : M.relay s = some r := by rfl) (hl₀ : M.relay r = none := by rfl) (hg : M.goods s = s := by rfl) (hg' : M.goods s' = r := by rfl)
    (hg₀ : M.goods r = r := by rfl)
    (hr : τ.routes (c.tc : Thread nD τ) (c'.tc : Thread nD τ) = true := by routes) :
    (M.plan m).State κ c T C A V D ⊢ wp frame (wpE defs 𝒱 (c.tc : Thread nD τ) none) Set.univ
      (.op (.enqueueDma x (.remote (c'.tc : Thread nD τ) x sS hsc) sem hsrc hdst hsem) k) Q := by
  refine (Plan.State_take hD).trans (Plan.wp_send (P := M.plan m) defs 𝒱 ((M.plan m).pay c r) s s' c' (q := fullShare)
    (fs := x.view.write Val (m (x.view.loc (c.tc : Thread nD τ))) (src₀.view.read Val (m (src₀.view.loc (d.tc : Thread nD τ)))) Finset.univ) (fd := m _)
    hs hs' hto hto' hfar hfar' hamt hamt' ?_ ?_ ?_ hT hT' hC h hr)
  · rw [M.need_relay m hl hx hto, M.pay_eq m hg₀ hx₀ hd, M.origin_own hl₀]
    unfold Copy.place Copy.brought
    iintro ⟨H1, ⟨H2, -⟩, -⟩
    isplitl [H1] <;> iassumption
  · rw [M.pay_eq m hg hx hto, M.origin_relay hl hd, View.read_write_univ]
    unfold Copy.brought
    exact .rfl
  · rw [M.pay_eq m hg' hx₀ hd, M.origin_own hl₀]
    unfold Copy.brought
    exact .rfl

/-- A wait while copies are still to be issued, or after some have been passed on. -/
theorem wp_wait_early (s : K) {sp sp' : Space} {sh sh' : Shape} {e e' : EltTy} {sm : DmaSem sig} {κd : Kind}
    {src : Memref sig .tc sp' sh' e'} {dst : Memref sig κd sp sh e}
    {hsrc : src.view.WordExact} {hdst : dst.view.WordExact} {k : PUnit → Prog (TpuEff nD τ sig Val Λ .tc) α}
    (hs : SemLoc.dma sm = M.sem s) (hamt : dst.view.dmaCredit = M.amt s)
    (hrank : ∀ s' ∈ T, M.far s' = true → M.rank s < M.rank s')
    (hC : s ∈ C) (hA : s ∈ A) (hV : s ∉ V) (hD : s ∉ D)
    (h : (M.plan m).State κ c T (C.erase s) (A.erase s) (insert s V) (insert s D) ⊢ wp frame (wpE defs 𝒱 (c.tc : Thread nD τ) none) Set.univ (k ⟨⟩) Q) :
    (M.plan m).State κ c T C A V D ⊢ wp frame (wpE defs 𝒱 (c.tc : Thread nD τ) none) Set.univ (.op (.waitDma2 sm src dst hsrc hdst) k) Q :=
  Plan.wp_wait (P := M.plan m) defs 𝒱 s hs hamt hrank hC hA hV hD h

/-- A wait. -/
theorem wp_wait (s : K) {sp sp' : Space} {sh sh' : Shape} {e e' : EltTy} {sm : DmaSem sig} {κd : Kind}
    {src : Memref sig .tc sp' sh' e'} {dst : Memref sig κd sp sh e}
    {hsrc : src.view.WordExact} {hdst : dst.view.WordExact} {k : PUnit → Prog (TpuEff nD τ sig Val Λ .tc) α}
    (hs : SemLoc.dma sm = M.sem s) (hamt : dst.view.dmaCredit = M.amt s)
    (hC : s ∈ C) (hA : s ∈ A) (hV : s ∉ V)
    (h : (M.plan m).State κ c ∅ (C.erase s) (A.erase s) (insert s V) (insert s V) ⊢ wp frame (wpE defs 𝒱 (c.tc : Thread nD τ) none) Set.univ (k ⟨⟩) Q) :
    (M.plan m).State κ c ∅ C A V V ⊢ wp frame (wpE defs 𝒱 (c.tc : Thread nD τ) none) Set.univ (.op (.waitDma2 sm src dst hsrc hdst) k) Q :=
  Plan.wp_wait (P := M.plan m) defs 𝒱 s hs hamt (fun _ h => absurd h (Finset.notMem_empty _)) hC hA hV hV h

/-- The same state, its sets told in another way. -/
theorem State_cast {T' C' A' V' D' : Finset K} {p : Prog (TpuEff nD τ sig Val Λ .tc) α} (hT : T = T') (hC : C = C') (hA : A = A') (hV : V = V') (hD : D = D')
    (h : (M.plan m).State κ c T' C' A' V' D' ⊢ wp frame (wpE defs 𝒱 (c.tc : Thread nD τ) none) Set.univ p Q) :
    (M.plan m).State κ c T C A V D ⊢ wp frame (wpE defs 𝒱 (c.tc : Thread nD τ) none) Set.univ p Q := by
  subst hT hC hA hV hD; exact h

end Steps

/-! ### The buffers -/

theorem bigSep_two {I : Type} [DecidableEq I] {J J' : Finset I} (h : Disjoint J J') (Φ : I → sProp 𝕄) :
    bigSep (J ∪ J') Φ = iprop(bigSep J Φ ∗ bigSep J' Φ) := BI.bigSep_union h
theorem bigSep_one_more {I : Type} [DecidableEq I] {J : Finset I} {i : I} (h : i ∉ J) (Φ : I → sProp 𝕄) :
    bigSep (insert i J) Φ = iprop(Φ i ∗ bigSep J Φ) := BI.bigSep_insert h

/-- A buffer cut into the places of the copies of `J`. -/
theorem cut_places {ℓ : Loc nD τ sig} (f : Buf Val ℓ) (J : Finset K) (I : K → Finset (Idx ℓ)) (Φ : K → sProp 𝕄)
    (hΦ : ∀ s ∈ J, Φ s = iprop(ℓ ↦[I s]{fullShare} f)) (hI : ∀ s ∈ J, ∀ s' ∈ J, s ≠ s' → Disjoint (I s) (I s')) :
    iprop(ℓ ↦{fullShare} f) ⊢ bigSep J Φ := by
  rw [bigSep_congr hΦ, ← pointsTo_biUnion J I hI]
  have h := (pointsTo_split_subset (Ix := Unit) (Name := ℕ) (U := UU nD τ sig) (Lvl := ℕ) (ℓ := ℓ) (q := fullShare) (f := f) (Finset.subset_univ (J.biUnion I))).1
  refine h.trans ?_
  iintro ⟨H, -⟩
  iexact H

/-- A buffer lent along the first `n` shares, the rest kept. -/
theorem lend_shares {ℓ : Loc nD τ sig} (f : Buf Val ℓ) (n : ℕ) :
    iprop(ℓ ↦{fullShare} f) ⊢ iprop((ℓ ↦{kept n} f) ∗ bigSep (Finset.range n) fun i => (ℓ ↦{lent i} f : sProp 𝕄)) := by
  induction n with
  | zero =>
    rw [Finset.range_zero, BI.bigSep_empty]
    iintro H
    isplitl [H]; · iexact H
    iempintro
  | succ n ih =>
    rw [Finset.range_add_one, bigSep_one_more Finset.notMem_range_self]
    have h : iprop(ℓ ↦{kept n} f) ⊢ (iprop((ℓ ↦{kept (n + 1)} f) ∗ ℓ ↦{lent n} f) : sProp 𝕄) :=
      (pointsTo_share (PosShare.mem_left_op_right _)).1
    refine ih.trans ?_
    iintro ⟨H, HR⟩
    ihave H' := h $$ H
    icases H' with ⟨H1, H2⟩
    isplitl [H1]; · iexact H1
    isplitl [H2] <;> iassumption

/-- A buffer lent to the copies of `J`, the rest kept. -/
theorem lend_sources {ℓ : Loc nD τ sig} (f : Buf Val ℓ) (n : ℕ) (J : Finset K) (I : K → Finset (Idx ℓ)) (ix : K → ℕ) (Φ : K → sProp 𝕄)
    (hΦ : ∀ s ∈ J, Φ s = iprop(ℓ ↦[I s]{lent (ix s)} f)) (hinj : Set.InjOn ix J) (hn : ∀ s ∈ J, ix s < n) :
    iprop(ℓ ↦{fullShare} f) ⊢ iprop((ℓ ↦{kept n} f) ∗ bigSep J Φ) := by
  have hJ : J.image ix ⊆ Finset.range n := fun i hi => by
    obtain ⟨s, hs, rfl⟩ := Finset.mem_image.mp hi
    exact Finset.mem_range.mpr (hn s hs)
  have himg : ∀ J : Finset K, Set.InjOn ix J → (bigSep (J.image ix) (fun i => (ℓ ↦{lent i} f : sProp 𝕄))) = bigSep J fun s => (ℓ ↦{lent (ix s)} f : sProp 𝕄) := by
    intro J
    induction J using Finset.induction_on with
    | empty => intro _; rw [Finset.image_empty, BI.bigSep_empty, BI.bigSep_empty]
    | insert s J hs ih =>
      intro hJ
      have hs' : ix s ∉ J.image ix := fun h => by
        obtain ⟨t, ht, he⟩ := Finset.mem_image.mp h
        exact hs (hJ (Finset.mem_coe.mpr (Finset.mem_insert_of_mem ht)) (Finset.mem_coe.mpr (Finset.mem_insert_self s J)) he ▸ ht)
      rw [Finset.image_insert, BI.bigSep_insert hs', BI.bigSep_insert hs, ih (hJ.mono (Finset.coe_subset.mpr (Finset.subset_insert s J)))]
  have hsub : bigSep (Finset.range n) (fun i => (ℓ ↦{lent i} f : sProp 𝕄)) ⊢ bigSep J Φ := by
    refine (BI.bigSep_subset hJ).trans ?_
    rw [himg J hinj]
    refine bigSep_mono fun s hs => ?_
    rw [hΦ s hs]
    refine ((pointsTo_split_subset (Finset.subset_univ (I s))).1).trans ?_
    iintro ⟨H, -⟩
    iexact H
  refine (lend_shares f n).trans ?_
  iintro ⟨H, HR⟩
  isplitl [H]; · iexact H
  iapply hsub; iexact HR

/-- Where nothing is asked of the others, a part is all. -/
theorem of_part {J : Finset K} {Φ : K → sProp 𝕄} (h : ∀ s, s ∉ J → Φ s = iprop(emp)) : bigSep J Φ ⊢ bigSep Finset.univ Φ := by
  have hd : Finset.univ = J ∪ (Finset.univ \ J) := by rw [Finset.union_sdiff_of_subset (Finset.subset_univ J)]
  rw [hd, bigSep_two Finset.disjoint_sdiff, bigSep_congr (s := Finset.univ \ J) (Ψ := fun _ => (BI.emp : sProp 𝕄)) fun s hs => h s (Finset.mem_sdiff.mp hs).2,
    BI.bigSep_emp_const]
  iintro H
  isplitl [H]; · iexact H
  iempintro

/-- The places go to the devices whose copies write them. -/
theorem buffers (U keep : Dev nD → sProp 𝕄)
    (h : ∀ c, U c ⊢ iprop(bigSep Finset.univ (M.place m c) ∗ bigSep Finset.univ (M.source m c) ∗ keep c)) :
    bigSep Finset.univ U ⊢ bigSep Finset.univ fun c => iprop(bigSep Finset.univ ((M.plan m).need c) ∗ keep c) := by
  have hp : (bigSep Finset.univ fun c : Dev nD => bigSep Finset.univ (M.place m c))
      = bigSep Finset.univ fun c : Dev nD => bigSep Finset.univ fun s => M.place m (M.dest s c) s := by
    rw [Pipeline.bigSep_univ_comm, Pipeline.bigSep_univ_comm (fun (c : Dev nD) (s : K) => M.place m (M.dest s c) s)]
    exact bigSep_congr fun s _ => BI.bigSep_univ_equiv (M.dest s) (fun c : Dev nD => M.place m c s)
  have hr : (bigSep Finset.univ fun c => iprop(bigSep Finset.univ ((M.plan m).need c) ∗ keep c))
      = iprop((bigSep Finset.univ fun c : Dev nD => bigSep Finset.univ fun s => M.place m (M.dest s c) s)
        ∗ (bigSep Finset.univ fun c : Dev nD => bigSep Finset.univ (M.source m c)) ∗ bigSep Finset.univ keep) := by
    rw [← bigSep_sep', ← bigSep_sep']
    refine bigSep_congr fun c _ => ?_
    have : bigSep Finset.univ ((M.plan m).need c) = iprop((bigSep Finset.univ fun s => M.place m (M.dest s c) s) ∗ bigSep Finset.univ (M.source m c)) := by
      rw [← bigSep_sep']; rfl
    rw [this]
    exact BI.Entails.antisymm BI.sep_assoc BI.sep_assoc'
  rw [hr, ← hp, ← bigSep_sep', ← bigSep_sep']
  exact bigSep_mono fun c _ => h c

/-- The end of the run read: every copy has arrived. -/
theorem read_pays (hhold : ∀ (d : Dev nD) (s : K) (x : Copy sig), M.copy d s = some x → ∃ t ∈ M.hold, M.goods t = s) (keep : Dev nD → sProp 𝕄) (c : Dev nD) (s' : Phys nD τ sig Val) :
    iprop((bigSep M.hold ((M.plan m).pay c) ∗ keep c) ∗ SI s')
      ⊢ (⌜∀ (d : Dev nD) (s : K) (x : Copy sig), M.copy d s = some x → M.dest s d = c → x.Arrived m (M.origin d s) c s'.mem.mem⌝ : sProp 𝕄) := by
  have key : ∀ (d : Dev nD) (s : K) (x : Copy sig), M.copy d s = some x → M.dest s d = c →
      (iprop((bigSep M.hold ((M.plan m).pay c) ∗ keep c) ∗ SI s') ⊢ (⌜x.Arrived m (M.origin d s) c s'.mem.mem⌝ : sProp 𝕄)) := by
    intro d s x hx hto
    obtain ⟨t, ht, hg⟩ := hhold d s x hx
    have h : (bigSep M.hold ((M.plan m).pay c)) ⊢ x.brought m (M.origin d s) c :=
      (BI.bigSep_elim ht).trans (Entails.of_eq (M.pay_eq m hg hx hto))
    iintro ⟨⟨H, -⟩, HSI⟩
    ihave H' := h $$ H
    iapply (x.arrived m (M.origin d s) c s')
    isplitl [H'] <;> iassumption
  refine fun a ha d s x hx hto => ?_
  exact key d s x hx hto a ha

/-- What a device keeps of the arguments. -/
def keep (args : Finset (Ref sig .tc)) (n : ℕ) (c : Dev nD) : sProp 𝕄 :=
  bigSep args fun b => ((c.tc : Thread nD τ).loc b) ↦{kept n} m ((c.tc : Thread nD τ).loc b)

theorem read_keep (args : Finset (Ref sig .tc)) (n : ℕ) (c : Dev nD) (A : sProp 𝕄) (s' : Phys nD τ sig Val) :
    iprop((A ∗ keep m args n c) ∗ SI s')
      ⊢ (⌜∀ b ∈ args, s'.mem.mem ((c.tc : Thread nD τ).loc b) = m ((c.tc : Thread nD τ).loc b)⌝ : sProp 𝕄) := by
  have key : ∀ b ∈ args, iprop((A ∗ keep m args n c) ∗ SI s')
      ⊢ (⌜s'.mem.mem ((c.tc : Thread nD τ).loc b) = m ((c.tc : Thread nD τ).loc b)⌝ : sProp 𝕄) := by
    intro b hb
    have h : keep m args n c ⊢ iprop(((c.tc : Thread nD τ).loc b) ↦{kept n} m ((c.tc : Thread nD τ).loc b)) :=
      BI.bigSep_elim hb
    iintro ⟨⟨-, H⟩, HSI⟩
    ihave H' := h $$ H
    icombine HSI H' gives %h
    ipureintro
    funext i
    exact h i (Finset.mem_univ i)
  exact fun a ha b hb => key b hb a ha

/-- A program that is one call of this kind, run: every copy arrives, the arguments stay, the semaphores end at zero. -/
theorem run {Λ₀ : Idealize.SL.Sem.Labels} {Pi : Type} [Fintype Pi] [DecidableEq Pi] [∀ e, Nonempty (Val e)] (cfgs : Pi → Pipeline.Cfg sig Λ₀)
    (cinj : Function.Injective (Pipeline.cellOf (nD := nD) (τ := τ) cfgs)) (p : Pi) (hW : ∀ p, Fin (cfgs p).W → False) (hN : (cfgs p).N = 1)
    (hw : Pipeline.WinFacts₀ (cfgs p).spec) (ho : Pipeline.OwnSemFacts (cfgs p).spec M.sem)
    (hrest : ∀ c : Dev nD, (Pipeline.scopedRest (cfgs p).spec c : sProp 𝕄) = iprop(emp))
    (hsc : ∀ sm : SemLoc sig, sm.isScoped .tc = true)
    (defs₀ : Defs nD τ sig Val Λ₀) (𝒱₀ : Variants) (g : Dev nD → PrngReg)
    (main : Dev nD → Prog (TpuEff nD τ sig Val (Pipeline.Sig Λ₀ Pi fun p => ((cfgs p).toPCfg (Val := Val)).Adm) .tc) PUnit)
    (hmain : ∀ c, main c = .op (.customCall (Pipeline.entry p) ()) fun _ => .ret ⟨⟩)
    (args : Finset (Ref sig .tc)) (n : ℕ)
    (hdev : ∀ c, (Pipeline.unscopedRest (cfgs p).spec c fun b => m ((c.tc : Thread nD τ).loc b))
      ⊢ iprop(bigSep Finset.univ (M.place m c) ∗ bigSep Finset.univ (M.source m c) ∗ keep m args n c))
    (hbody : ∀ c κ (t : Fin (cfgs p).N), (M.plan m).State κ c Finset.univ (M.plan m).fars Finset.univ ∅ ∅
      ⊢ wp frame (wpE defs₀ 𝒱₀ (c.tc : Thread nD τ) none) Set.univ
        (defs₀ .tc (cfgs p).body ((cfgs p).bodyArgs t ((cfgs p).slots t))) fun _ => (M.plan m).State κ c ∅ ∅ ∅ Finset.univ M.hold)
    (hhold : ∀ (d : Dev nD) (s : K) (x : Copy sig), M.copy d s = some x → ∃ t ∈ M.hold, M.goods t = s := by exact fun _ s _ _ => ⟨s, Finset.mem_univ s, rfl⟩) :
    θ_run (Pipeline.defs (fun p => (cfgs p).toPCfg) defs₀) (onTc main) ⟨m, fun _ => 0, g⟩ fun r =>
      (∀ (c d : Dev nD) (s : K) (x : Copy sig), M.copy d s = some x → M.dest s d = c → x.Arrived m (M.origin d s) c r.2.mem)
      ∧ (∀ c : Dev nD, ∀ b ∈ args, r.2.mem ((c.tc : Thread nD τ).loc b) = m ((c.tc : Thread nD τ).loc b))
      ∧ r.2.sem = fun _ => 0 := by
  haveI : IsEmpty (Fin (cfgs p).W) := ⟨hW p⟩
  refine (M.plan m).run cfgs cinj p hW hN hw ho hrest defs₀ 𝒱₀ m g main hmain (keep m args n) (M.buffers m _ _ fun c => ?_) hbody
    (fun c m' => (∀ (d : Dev nD) (s : K) (x : Copy sig), M.copy d s = some x → M.dest s d = c → x.Arrived m (M.origin d s) c m'.mem)
      ∧ ∀ b ∈ args, m'.mem ((c.tc : Thread nD τ).loc b) = m ((c.tc : Thread nD τ).loc b))
    (fun c s' => fun a ha => ⟨M.read_pays m hhold _ c s' a ha, read_keep m args n c _ s' a ha⟩) ?_
  · refine (Entails.of_eq ?_).trans (hdev c)
    unfold unscopedBufs Pipeline.unscopedRest
    rw [Finset.univ_eq_empty (α := Fin (cfgs p).W), Finset.image_empty, Finset.sdiff_empty]
  · intro s hs h0
    refine ⟨fun c => (hs c).1, fun c => (hs c).2, funext fun g' => h0 g' ?_⟩
    rcases g' with ⟨⟨d, q⟩, sm⟩
    by_cases hq : q = .tc
    · subst hq; exact Or.inr (hsc sm)
    · exact Or.inl hq

end Moves

end Cert.Exchange

end
-- ==== Proof.Exchange.Windows.lean ====
/-
# Windows of a buffer, by coordinates
-/
module

public import proofs.«01_k».proof.Proof.Exchange.Moves
public import Idealize.ShloMosaic.Lib.Pipeline.ValueKit.Geometry
public import Idealize.ShloMosaic.Lib.Pipeline.Value
public import Idealize.ShloMosaic.Lib.Layout
public import Idealize.ShloMosaic.Lib.ValueIdxCore

@[expose] public section

noncomputable section

namespace Cert.Exchange

open Idealize.ShloMosaic Idealize.ShloMosaic.ValueIdx

variable {sig : RefSig} {κ : Kind}

/-- Windows that lie apart along one axis have no element in common. -/
theorem apart (b : Ref sig κ) {off size off' size' : Fin b.ty.shape.rank → Nat} {inb inb'} (a : Fin b.ty.shape.rank)
    (h : off a + size a ≤ off' a ∨ off' a + size' a ≤ off a) :
    Disjoint ((View.whole b).slice (Rect.unit off size inb)).set ((View.whole b).slice (Rect.unit off' size' inb')).set := by
  rw [Finset.disjoint_left]
  intro i hi hi'
  rw [View.set_slice_whole, Rect.mem_set_unit] at hi hi'
  have h1 := hi a
  have h2 := hi' a
  omega

/-- The same of windows whose unit axes are dropped. -/
theorem apart_slabs (b : Ref sig κ) {off size off' size' : Fin b.ty.shape.rank → Nat} {inb inb'} {s' : Shape}
    {hn : s'.numel = (Rect.unit off size inb).shape.numel} {hn' : s'.numel = (Rect.unit off' size' inb').shape.numel} (a : Fin b.ty.shape.rank)
    (h : off a + size a ≤ off' a ∨ off' a + size' a ≤ off a) :
    Disjoint (α := Finset b.ty.shape.Idx) (((View.whole b).slice (Rect.unit off size inb)).reshape s' hn).set
      (((View.whole b).slice (Rect.unit off' size' inb')).reshape s' hn').set :=
  (congrArg₂ (Disjoint (α := Finset b.ty.shape.Idx)) (View.set_reshape _ hn) (View.set_reshape _ hn')).mpr (apart b a h)

/-- The coordinates of a window's elements. -/
theorem mem_slab (b : Ref sig κ) {off size : Fin b.ty.shape.rank → Nat} {inb} {s' : Shape} {hn : s'.numel = (Rect.unit off size inb).shape.numel}
    {i : b.ty.shape.Idx} (hi : i ∈ (((View.whole b).slice (Rect.unit off size inb)).reshape s' hn).set) (a : Fin b.ty.shape.rank) :
    off a ≤ i a ∧ (i a : ℕ) < off a + size a := by
  rw [View.set_reshape, View.set_slice_whole, Rect.mem_set_unit] at hi
  exact hi a

/-- The element of a window that lies at given coordinates of the buffer. -/
theorem at_window (b : Ref sig κ) {off off' size : Fin b.ty.shape.rank → Nat} {inb} (ho : off = off') (i : (Rect.unit off size inb).shape.Idx) (j : b.ty.shape.Idx)
    (h : ∀ a, off' a + (i a : ℕ) = j a) : ((View.whole b).slice (Rect.unit off size inb)).emb i = j := by
  subst ho
  funext a
  exact Fin.ext ((ValueKit.view_emb_slice_whole_unit_val b off size inb i a).trans (h a))

/-- The same of a window whose unit axes are dropped: `i` and `k` are the same element, with and without them. -/
theorem at_slab (b : Ref sig κ) {off off' size : Fin b.ty.shape.rank → Nat} {inb} (ho : off = off') {s' : Shape}
    {hn : s'.numel = (Rect.unit off size inb).shape.numel} (i : s'.Idx) (k : (Rect.unit off size inb).shape.Idx)
    (hk : ((Rect.unit off size inb).shape.rowMajor k : ℕ) = s'.rowMajor i) (j : b.ty.shape.Idx) (h : ∀ a, off' a + (k a : ℕ) = j a) :
    (((View.whole b).slice (Rect.unit off size inb)).reshape s' hn).emb i = j := by
  have e : Shape.reshapeEquiv hn i = k := Shape.reshapeEquiv_eq_of_rowMajor hn hk
  show ((View.whole b).slice (Rect.unit off size inb)).emb (Shape.reshapeEquiv hn i) = j
  rw [e]
  exact at_window b ho k j h

/-- A leading unit axis moves no element. -/
theorem flat {a b : ℕ} (i : Fin a) (j : Fin b) :
    ((⟨3, ![1, a, b]⟩ : Shape).rowMajor (ix3 (0 : Fin 1) i j) : ℕ) = (⟨2, ![a, b]⟩ : Shape).rowMajor (ix2 i j) := by
  rw [Shape.rowMajor_val_three, Shape.rowMajor_val_two]
  show (0 * a + i.val) * b + j.val = i.val * b + j.val
  rw [Nat.zero_mul, Nat.zero_add]

end Cert.Exchange

end
-- ==== Proof.Exchange.PairShare.lean ====
/-
# `pair_share`: both cores of a chip get both halves

Every device copies its two halves into its own results and into its sibling's, at the rows of its core. Semaphores 0, 1
tell the sender that a half has been read, 2, 3 tell the receiver that it is there, 4, 5 are the copies within a device.
-/
module

public import proofs.«01_k».proof.Proof.Exchange.Windows
public import proofs.«01_k».proof.Proof.Gen.PairShareIdeal
public import proofs.«01_k».proof.Proof.Gen.PairShareIdeal.Skeleton
public import proofs.«01_k».proof.Proof.Gen.PairShareIdeal.Launch
public import proofs.«01_k».proof.Proof.Gen.PairShareIdeal.Points

@[expose] public section

noncomputable section

namespace Cert.PairShareIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.PairShareIdeal Cert.PairShareIdeal.Gen Cert.Exchange

variable {F : FTy → Type} [FloatOps F]

/-- The other core of the chip. -/
def other (c : Dev nD) : Dev nD := ⟨(4 * (c.val / 4) + 2 * ((c.val / 2) % 2) + 1) - (c.val % 2), by revert c; decide⟩
theorem other_other : ∀ c, other (other c) = c := by decide
def sibling : Equiv.Perm (Dev nD) := ⟨other, other, other_other, other_other⟩
theorem dev1_eq (c : Dev nD) : (⟨k0_dev1 c, k0_dev1_lt c⟩ : Dev nD) = other c := Fin.ext (k0_dev1_eq c)
theorem dev2_eq (c : Dev nD) : (⟨k0_dev2 c, k0_dev2_lt c⟩ : Dev nD) = other c := Fin.ext (k0_dev2_eq c)

/-- Where device `c` puts its half of the first array, -/
abbrev dst0 (c : Dev nD) : Memref sig .tc .hbm S512x1284 .f32 :=
  (Memref.whole main_v1_0).slice (Rect.unit (s := S1024x1284) (k0_off1 c) S512x1284.size (k0_off1_inb c)) (fun _ => rfl)
/-- and of the second. -/
abbrev dst1 (c : Dev nD) : Memref sig .tc .hbm S256x1024 .f32 :=
  (Memref.whole main_v1_1).slice (Rect.unit (s := S512x1024) (k0_off2 c) S256x1024.size (k0_off2_inb c)) (fun _ => rfl)

def copy (c : Dev nD) : Fin 6 → Option (Copy sig)
  | 0 => none
  | 1 => none
  | 2 => some ⟨Memref.whole main_arg0, dst0 c⟩
  | 3 => some ⟨Memref.whole main_arg1, dst1 c⟩
  | 4 => some ⟨Memref.whole main_arg0, dst0 c⟩
  | 5 => some ⟨Memref.whole main_arg1, dst1 c⟩

def moves : Moves nD sig (Fin 6) where
  sem s := .dma s
  sem_inj := by decide
  amt := ![(dst0 0).view.dmaCredit, (dst1 0).view.dmaCredit, (dst0 0).view.dmaCredit, (dst1 0).view.dmaCredit,
    (dst0 0).view.dmaCredit, (dst1 0).view.dmaCredit]
  amt_pos := by
    have h0 := (dst0 0).view.dmaCredit_pos (by decide)
    have h1 := (dst1 0).view.dmaCredit_pos (by decide)
    intro s; fin_cases s <;> first | exact h0 | exact h1
  dest := ![.refl _, .refl _, sibling, sibling, .refl _, .refl _]
  far := ![false, false, true, true, false, false]
  copy := copy
  lend := ![0, 0, 0, 0, 1, 1]

theorem body (m : Mem nD τ sig (Elt F)) (c : Dev nD) (κ : Dev nD × Fin 6 → ℕ) (t : Fin cfg0.N) :
    (moves.plan m).State κ c Finset.univ (moves.plan m).fars Finset.univ ∅ ∅
      ⊢ wp frame (wpE (defs₀ (F := F)) Variants.none (c.tc : Thread nD τ) none) Set.univ (bodyAt0 t)
        fun _ => (moves.plan m).State κ c ∅ ∅ ∅ Finset.univ Finset.univ := by
  rw [show (moves.plan m).fars = {2, 3} from show (Finset.univ.filter fun s => moves.far s = true) = {2, 3} by decide]
  simp only [bodyAt0, cc0_pair_share_eq_skeleton, k0_part1_eq_skeleton, k0_part2_eq_skeleton]
  unfold cc0_pair_share_skel
  rw [k0_part1_eq_skeleton, k0_part2_eq_skeleton]
  unfold k0_part1_skel k0_part2_skel
  simp only [Prog.lift, Prog.bind_op, Prog.bind_ret, Prog.pure_eq_ret, wp_deviceId]
  refine Moves.wp_local defs₀ Variants.none 4 rfl rfl rfl rfl rfl (by decide) (by decide) ?_
  refine Moves.wp_remote defs₀ Variants.none 2 0 _ rfl rfl rfl rfl (dev1_eq c).symm rfl rfl rfl rfl rfl (by decide) (by decide) (by decide) ?_
  refine Moves.wp_local defs₀ Variants.none 5 rfl rfl rfl rfl rfl (by decide) (by decide) ?_
  refine Moves.wp_remote defs₀ Variants.none 3 1 _ rfl rfl rfl rfl (dev2_eq c).symm rfl rfl rfl rfl rfl (by decide) (by decide) (by decide) ?_
  refine Moves.State_cast defs₀ Variants.none (T' := ∅) (C' := Finset.univ) (A' := Finset.univ) (V' := ∅) (D' := ∅) (by decide) (by decide) rfl rfl rfl ?_
  refine Moves.wp_wait defs₀ Variants.none 2 rfl rfl (by decide) (by decide) (by decide) ?_
  refine Moves.wp_wait defs₀ Variants.none 3 rfl rfl (by decide) (by decide) (by decide) ?_
  refine Moves.wp_wait defs₀ Variants.none 0 rfl rfl (by decide) (by decide) (by decide) ?_
  refine Moves.wp_wait defs₀ Variants.none 1 rfl rfl (by decide) (by decide) (by decide) ?_
  refine Moves.wp_wait defs₀ Variants.none 4 rfl rfl (by decide) (by decide) (by decide) ?_
  refine Moves.wp_wait defs₀ Variants.none 5 rfl rfl (by decide) (by decide) (by decide) ?_
  refine Moves.State_cast defs₀ Variants.none (T' := ∅) (C' := ∅) (A' := ∅) (V' := Finset.univ) (D' := Finset.univ) rfl (by decide) (by decide) (by decide) (by decide) ?_
  rw [wp_ret]
  exact fupd_intro

/-- The halves of the two cores go to different rows. -/
theorem apart0 {c d : Dev nD} (h : c.val % 2 ≠ d.val % 2) : Disjoint (dst0 c).view.set (dst0 d).view.set :=
  apart main_v1_0 (⟨0, by decide⟩ : Fin 2) (by
    rw [k0_off1_eq, k0_off1_eq]
    show 512 * (c.val % 2) + 512 ≤ 512 * (d.val % 2) ∨ 512 * (d.val % 2) + 512 ≤ 512 * (c.val % 2)
    omega)
theorem apart1 {c d : Dev nD} (h : c.val % 2 ≠ d.val % 2) : Disjoint (dst1 c).view.set (dst1 d).view.set :=
  apart main_v1_1 (⟨0, by decide⟩ : Fin 2) (by
    rw [k0_off2_eq, k0_off2_eq]
    show 256 * (c.val % 2) + 256 ≤ 256 * (d.val % 2) ∨ 256 * (d.val % 2) + 256 ≤ 256 * (c.val % 2)
    omega)
theorem other_core : ∀ c : Dev nD, (other c).val % 2 ≠ c.val % 2 := by decide

/-- The launch's buffers are the places and the sources of the copies, and what is kept of the arguments. -/
theorem hdev (m : Mem nD τ sig (Elt F)) (c : Dev nD) :
    (Pipeline.unscopedRest cfg0.spec c (fun b => m ((c.tc : Thread nD τ).loc b)) : sProp (Res nD τ sig (Elt F)))
      ⊢ iprop(bigSep Finset.univ (moves.place m c) ∗ bigSep Finset.univ (moves.source m c) ∗ Moves.keep m {main_arg0, main_arg1} 2 c) := by
  have e : ({2, 4} ∪ {3, 5} : Finset (Fin 6)) = {2, 3, 4, 5} := by decide
  have hp0 : iprop(((c.tc : Thread nD τ).loc main_v1_0) ↦{fullShare} m ((c.tc : Thread nD τ).loc main_v1_0)) ⊢ bigSep {2, 4} (moves.place m c) :=
    Moves.cut_places _ _ (fun s => (dst0 ((moves.dest s).symm c)).view.set) _ (by intro s hs; fin_cases hs <;> rfl) (by
      intro s hs s' hs' hne
      fin_cases hs <;> fin_cases hs' <;> first | exact absurd rfl hne | exact apart0 (other_core c) | exact apart0 (other_core c).symm)
  have hp1 : iprop(((c.tc : Thread nD τ).loc main_v1_1) ↦{fullShare} m ((c.tc : Thread nD τ).loc main_v1_1)) ⊢ bigSep {3, 5} (moves.place m c) :=
    Moves.cut_places _ _ (fun s => (dst1 ((moves.dest s).symm c)).view.set) _ (by intro s hs; fin_cases hs <;> rfl) (by
      intro s hs s' hs' hne
      fin_cases hs <;> fin_cases hs' <;> first | exact absurd rfl hne | exact apart1 (other_core c) | exact apart1 (other_core c).symm)
  have hs0 : iprop(((c.tc : Thread nD τ).loc main_arg0) ↦{fullShare} m ((c.tc : Thread nD τ).loc main_arg0))
      ⊢ iprop((((c.tc : Thread nD τ).loc main_arg0) ↦{kept 2} m ((c.tc : Thread nD τ).loc main_arg0)) ∗ bigSep {2, 4} (moves.source m c)) :=
    Moves.lend_sources _ 2 _ (fun _ => (Memref.whole main_arg0).view.set) moves.lend _ (by intro s hs; fin_cases hs <;> rfl) (by decide) (by decide)
  have hs1 : iprop(((c.tc : Thread nD τ).loc main_arg1) ↦{fullShare} m ((c.tc : Thread nD τ).loc main_arg1))
      ⊢ iprop((((c.tc : Thread nD τ).loc main_arg1) ↦{kept 2} m ((c.tc : Thread nD τ).loc main_arg1)) ∗ bigSep {3, 5} (moves.source m c)) :=
    Moves.lend_sources _ 2 _ (fun _ => (Memref.whole main_arg1).view.set) moves.lend _ (by intro s hs; fin_cases hs <;> rfl) (by decide) (by decide)
  have hp : iprop(bigSep {2, 4} (moves.place m c) ∗ bigSep {3, 5} (moves.place m c)) ⊢ bigSep Finset.univ (moves.place m c) := by
    rw [← Moves.bigSep_two (by decide), e]
    exact Moves.of_part (by intro s hs; fin_cases s <;> first | rfl | exact absurd (by decide) hs)
  have hs : iprop(bigSep {2, 4} (moves.source m c) ∗ bigSep {3, 5} (moves.source m c)) ⊢ bigSep Finset.univ (moves.source m c) := by
    rw [← Moves.bigSep_two (by decide), e]
    exact Moves.of_part (by intro s hs; fin_cases s <;> first | rfl | exact absurd (by decide) hs)
  rw [unscopedRest0_eq]
  unfold Moves.keep
  rw [Moves.bigSep_one_more (by decide), BI.bigSep_singleton]
  iintro ⟨HA, HB, HV, HW⟩
  ihave HV := hp0 $$ HV
  ihave HW := hp1 $$ HW
  ihave HA := hs0 $$ HA
  ihave HB := hs1 $$ HB
  icases HA with ⟨HA, HSA⟩
  icases HB with ⟨HB, HSB⟩
  isplitl [HV HW]
  · iapply hp; isplitl [HV] <;> iassumption
  isplitl [HSA HSB]
  · iapply hs; isplitl [HSA] <;> iassumption
  isplitl [HA] <;> iassumption

/-- Every copy of the exchange arrives, the arguments are as they were and every counter is back at zero. -/
theorem run_main (m : Mem nD τ sig (Elt F)) (ρ : Dev nD → PrngReg) :
    θ_run defs (onTc (τ := τ) (main (F := F))) ⟨m, fun _ => 0, ρ⟩ fun r =>
      (∀ (c d : Dev nD) (s : Fin 6) (x : Copy sig), moves.copy d s = some x → moves.dest s d = c → x.Arrived m d c r.2.mem)
        ∧ (∀ c : Dev nD, ∀ b ∈ ({main_arg0, main_arg1} : Finset (Ref sig .tc)), r.2.mem ((c.tc : Thread nD τ).loc b) = m ((c.tc : Thread nD τ).loc b))
        ∧ r.2.sem = fun _ => 0 :=
  Moves.run moves m cfgs cellOf_inj 0 (by decide) N_0 winFacts0.to₀ (by decide) scopedRest0_eq (by decide) defs₀ Variants.none ρ main (fun _ => rfl)
    {main_arg0, main_arg1} 2 (hdev m) (body m)

end Cert.PairShareIdeal.Exchange

end
-- ==== Proof.Exchange.PairShareValue.lean ====
/-
# `pair_share`: the results, and the reference's
-/
module

public import proofs.«01_k».proof.Proof.Exchange.PairShare
public import proofs.«01_k».proof.Defs
public import proofs.«01_k».proof.Proof.Gen.PairShare
public import proofs.«01_k».proof.Proof.Gen.PairShareRef
public import proofs.«01_k».proof.Proof.Gen.PairShareRefIdeal
public import proofs.«01_k».proof.Proof.Gen.PairShareRefIdeal.Run
public import proofs.«01_k».proof.Proof.Gen.PairShareRefIdeal.Read

@[expose] public section

noncomputable section

namespace Cert.PairShareIdeal.Exchange

open Idealize.ShloMosaic Idealize.ShloMosaic.TcCoe Idealize.SL.Sem Idealize.ShloMosaic.ValueIdx
open Cert.PairShareIdeal Cert.PairShareIdeal.Gen Cert.Exchange

variable {F : FTy → Type} [FloatOps F]

/-- Row `r` of a chip's pair of results is row `r % 1024` of what the chip's two devices hold together. -/
theorem ref0 (x : (⟨⟨2, ![4096, 1284]⟩, .f32⟩ : BufTy).Contents (Elt F)) (j : Shape.Idx ⟨2, ![8192, 1284]⟩) (i : Shape.Idx ⟨2, ![4096, 1284]⟩)
    (h0 : (i 0 : ℕ) = 1024 * ((j 0 : ℕ) / 2048) + (j 0 : ℕ) % 1024) (h1 : (i 1 : ℕ) = j 1) :
    Cert.PairShareRefIdeal.Read.val_main_v2 (F := F) x j = x i := by
  rw [Cert.PairShareRefIdeal.Read.val_main_v2_apply, Cert.PairShareRefIdeal.Read.val_main_v1_apply, Cert.PairShareRefIdeal.Read.val_main_v0_apply]
  have hj0 : (j 0 : ℕ) < 8192 := (j 0).isLt
  have hj1 : (j 1 : ℕ) < 1284 := (j 1).isLt
  refine congrArg x (funext fun a => Fin.ext ?_)
  match a with
  | ⟨0, _⟩ => refine Eq.trans ?_ h0.symm; dsimp only; omega
  | ⟨1, _⟩ => refine Eq.trans ?_ h1.symm; dsimp only; omega

theorem ref1 (x : (⟨⟨2, ![2048, 1024]⟩, .f32⟩ : BufTy).Contents (Elt F)) (j : Shape.Idx ⟨2, ![4096, 1024]⟩) (i : Shape.Idx ⟨2, ![2048, 1024]⟩)
    (h0 : (i 0 : ℕ) = 512 * ((j 0 : ℕ) / 1024) + (j 0 : ℕ) % 512) (h1 : (i 1 : ℕ) = j 1) :
    Cert.PairShareRefIdeal.Read.val_main_v5 (F := F) x j = x i := by
  rw [Cert.PairShareRefIdeal.Read.val_main_v5_apply, Cert.PairShareRefIdeal.Read.val_main_v4_apply, Cert.PairShareRefIdeal.Read.val_main_v3_apply]
  have hj0 : (j 0 : ℕ) < 4096 := (j 0).isLt
  have hj1 : (j 1 : ℕ) < 1024 := (j 1).isLt
  refine congrArg x (funext fun a => Fin.ext ?_)
  match a with
  | ⟨0, _⟩ => refine Eq.trans ?_ h0.symm; dsimp only; omega
  | ⟨1, _⟩ => refine Eq.trans ?_ h1.symm; dsimp only; omega

/-- Of the two devices of `c`'s chip, the one on core `q`. -/
theorem mate : ∀ (c : Dev nD) (q : Fin 2), ∃ d : Dev nD, d.val = 2 * (c.val / 2) + q.val ∧ (d = c ∨ other d = c) := by decide

section Results

variable {m m' : Mem nD τ sig (Elt F)}
  (harr : ∀ (c d : Dev nD) (s : Fin 6) (x : Copy sig), moves.copy d s = some x → moves.dest s d = c → x.Arrived m d c m')

include harr

theorem result0 (x : (⟨⟨2, ![4096, 1284]⟩, .f32⟩ : BufTy).Contents (Elt F))
    (hm : ∀ d : Dev nD, m ((d.tc : Thread nD τ).loc main_arg0) = Layout.block ⟨2, ![512, 1284]⟩ ⟨2, ![4096, 1284]⟩ 0 8 d x) (c : Dev nD) :
    m' ((c.tc : Thread nD τ).loc main_v1_0)
      = Layout.block ⟨2, ![1024, 1284]⟩ ⟨2, ![8192, 1284]⟩ 0 8 c (Cert.PairShareRefIdeal.Read.val_main_v2 (F := F) x) := by
  funext j
  have hj0 : ((j : Shape.Idx S1024x1284) 0 : ℕ) < 1024 := (j 0).isLt
  obtain ⟨d, hd, hdc⟩ := mate c ⟨((j : Shape.Idx S1024x1284) 0 : ℕ) / 512, by omega⟩
  have hA : ∀ i : Shape.Idx S512x1284, m' ((c.tc : Thread nD τ).loc main_v1_0) ((dst0 d).view.emb i) = m ((d.tc : Thread nD τ).loc main_arg0) i := by
    rcases hdc with rfl | h
    · exact harr d d 4 _ rfl rfl
    · exact harr c d 2 _ rfl h
  have hj : (dst0 d).view.emb (ix2 (⟨((j : Shape.Idx S1024x1284) 0 : ℕ) % 512, Nat.mod_lt _ (by decide)⟩ : Fin 512) ((j : Shape.Idx S1024x1284) 1)) = j := by
    refine at_window main_v1_0 (k0_off1_eq d) _ _ fun a => ?_
    match a with
    | ⟨0, _⟩ => show 512 * (d.val % 2) + ((j : Shape.Idx S1024x1284) 0 : ℕ) % 512 = ((j : Shape.Idx S1024x1284) 0 : ℕ); simp only at hd; omega
    | ⟨1, _⟩ => exact Nat.zero_add _
  rw [← hj, hA, hm d, hj]
  refine (ref0 x _ _ ?_ ?_).symm
  · rw [Layout.Tiles.idx_val, Layout.Tiles.idx_val]
    show d.val * 512 + ((j : Shape.Idx S1024x1284) 0 : ℕ) % 512
      = 1024 * ((c.val * 1024 + ((j : Shape.Idx S1024x1284) 0 : ℕ)) / 2048) + (c.val * 1024 + ((j : Shape.Idx S1024x1284) 0 : ℕ)) % 1024
    simp only at hd; omega
  · rfl

theorem result1 (x : (⟨⟨2, ![2048, 1024]⟩, .f32⟩ : BufTy).Contents (Elt F))
    (hm : ∀ d : Dev nD, m ((d.tc : Thread nD τ).loc main_arg1) = Layout.block ⟨2, ![256, 1024]⟩ ⟨2, ![2048, 1024]⟩ 0 8 d x) (c : Dev nD) :
    m' ((c.tc : Thread nD τ).loc main_v1_1)
      = Layout.block ⟨2, ![512, 1024]⟩ ⟨2, ![4096, 1024]⟩ 0 8 c (Cert.PairShareRefIdeal.Read.val_main_v5 (F := F) x) := by
  funext j
  have hj0 : ((j : Shape.Idx S512x1024) 0 : ℕ) < 512 := (j 0).isLt
  obtain ⟨d, hd, hdc⟩ := mate c ⟨((j : Shape.Idx S512x1024) 0 : ℕ) / 256, by omega⟩
  have hA : ∀ i : Shape.Idx S256x1024, m' ((c.tc : Thread nD τ).loc main_v1_1) ((dst1 d).view.emb i) = m ((d.tc : Thread nD τ).loc main_arg1) i := by
    rcases hdc with rfl | h
    · exact harr d d 5 _ rfl rfl
    · exact harr c d 3 _ rfl h
  have hj : (dst1 d).view.emb (ix2 (⟨((j : Shape.Idx S512x1024) 0 : ℕ) % 256, Nat.mod_lt _ (by decide)⟩ : Fin 256) ((j : Shape.Idx S512x1024) 1)) = j := by
    refine at_window main_v1_1 (k0_off2_eq d) _ _ fun a => ?_
    match a with
    | ⟨0, _⟩ => show 256 * (d.val % 2) + ((j : Shape.Idx S512x1024) 0 : ℕ) % 256 = ((j : Shape.Idx S512x1024) 0 : ℕ); simp only at hd; omega
    | ⟨1, _⟩ => exact Nat.zero_add _
  rw [← hj, hA, hm d, hj]
  refine (ref1 x _ _ ?_ ?_).symm
  · rw [Layout.Tiles.idx_val, Layout.Tiles.idx_val]
    show d.val * 256 + ((j : Shape.Idx S512x1024) 0 : ℕ) % 256
      = 512 * ((c.val * 512 + ((j : Shape.Idx S512x1024) 0 : ℕ)) / 1024) + (c.val * 512 + ((j : Shape.Idx S512x1024) 0 : ℕ)) % 512
    simp only at hd; omega
  · rfl

end Results

/-! ## The statements, over any float values -/

/-- From blocks of one machine's arrays the devices end with blocks of that machine's results. -/
theorem matches_ref (m : Mem nD τ sig (Elt F)) (g : Dev nD → PrngReg)
    (m' : Mem Cert.PairShareRefIdeal.nD Cert.PairShareRefIdeal.τ Cert.PairShareRefIdeal.sig (Elt F)) (g' : Dev Cert.PairShareRefIdeal.nD → PrngReg)
    (hm : ∀ c : Dev nD,
      m ((c.tc : Thread nD τ).loc main_arg0) = Layout.block ⟨2, ![512, 1284]⟩ ⟨2, ![4096, 1284]⟩ 0 8 c (m' (((0 : Dev Cert.PairShareRefIdeal.nD).tc : Thread Cert.PairShareRefIdeal.nD Cert.PairShareRefIdeal.τ).loc Cert.PairShareRefIdeal.main_arg0))
      ∧ m ((c.tc : Thread nD τ).loc main_arg1) = Layout.block ⟨2, ![256, 1024]⟩ ⟨2, ![2048, 1024]⟩ 0 8 c (m' (((0 : Dev Cert.PairShareRefIdeal.nD).tc : Thread Cert.PairShareRefIdeal.nD Cert.PairShareRefIdeal.τ).loc Cert.PairShareRefIdeal.main_arg1))) :
    ∃ (v0 : Buf (Elt F) (((0 : Dev Cert.PairShareRefIdeal.nD).tc : Thread Cert.PairShareRefIdeal.nD Cert.PairShareRefIdeal.τ).loc Cert.PairShareRefIdeal.main_v2))
      (v1 : Buf (Elt F) (((0 : Dev Cert.PairShareRefIdeal.nD).tc : Thread Cert.PairShareRefIdeal.nD Cert.PairShareRefIdeal.τ).loc Cert.PairShareRefIdeal.main_v5)),
      θ_run defs (onTc (τ := τ) (main (F := F))) ⟨m, fun _ => 0, g⟩ (fun r => ∀ c : Dev nD,
          r.2.mem ((c.tc : Thread nD τ).loc main_v1_0) = Layout.block ⟨2, ![1024, 1284]⟩ ⟨2, ![8192, 1284]⟩ 0 8 c v0
          ∧ r.2.mem ((c.tc : Thread nD τ).loc main_v1_1) = Layout.block ⟨2, ![512, 1024]⟩ ⟨2, ![4096, 1024]⟩ 0 8 c v1
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run Cert.PairShareRefIdeal.defs (onTc (τ := Cert.PairShareRefIdeal.τ) (Cert.PairShareRefIdeal.main (F := F))) ⟨m', fun _ => 0, g'⟩ (fun r =>
          r.2.mem (((0 : Dev Cert.PairShareRefIdeal.nD).tc : Thread Cert.PairShareRefIdeal.nD Cert.PairShareRefIdeal.τ).loc Cert.PairShareRefIdeal.main_v2) = v0
          ∧ r.2.mem (((0 : Dev Cert.PairShareRefIdeal.nD).tc : Thread Cert.PairShareRefIdeal.nD Cert.PairShareRefIdeal.τ).loc Cert.PairShareRefIdeal.main_v5) = v1
          ∧ r.2.mem (((0 : Dev Cert.PairShareRefIdeal.nD).tc : Thread Cert.PairShareRefIdeal.nD Cert.PairShareRefIdeal.τ).loc Cert.PairShareRefIdeal.main_arg0) = m' (((0 : Dev Cert.PairShareRefIdeal.nD).tc : Thread Cert.PairShareRefIdeal.nD Cert.PairShareRefIdeal.τ).loc Cert.PairShareRefIdeal.main_arg0)
          ∧ r.2.mem (((0 : Dev Cert.PairShareRefIdeal.nD).tc : Thread Cert.PairShareRefIdeal.nD Cert.PairShareRefIdeal.τ).loc Cert.PairShareRefIdeal.main_arg1) = m' (((0 : Dev Cert.PairShareRefIdeal.nD).tc : Thread Cert.PairShareRefIdeal.nD Cert.PairShareRefIdeal.τ).loc Cert.PairShareRefIdeal.main_arg1)) :=
  ⟨_, _,
    (θ_run _ _ _).mono (fun r h c => ⟨result0 h.1 _ (fun d => (hm d).1) c, result1 h.1 _ (fun d => (hm d).2) c,
      h.2.1 c main_arg0 (by decide), h.2.1 c main_arg1 (by decide)⟩) (run_main m g),
    (θ_run _ _ _).mono (fun r h => h 0) (Cert.PairShareRefIdeal.Value.run m' g')⟩

/-- The reference has no semaphore. -/
theorem ref_quiet {α : Type} (s t : GSem Cert.PairShareRefIdeal.nD Cert.PairShareRefIdeal.τ Cert.PairShareRefIdeal.sig → α) : s = t := by
  funext q
  rcases q with ⟨_, (q | q)⟩ <;> exact q.elim0

end Cert.PairShareIdeal.Exchange

open Idealize.ShloMosaic Idealize.ShloMosaic.TcCoe Idealize.SL.Sem Cert.PairShareIdeal.Exchange

theorem frame_PairShareIdeal : Cert.quiescent_PairShareIdeal := fun m g _ =>
  (θ_run Cert.PairShareIdeal.defs _ _).mono (fun _ h => ⟨fun c => ⟨h.2.1 c _ (by decide), h.2.1 c _ (by decide)⟩, h.2.2⟩) (run_main (F := Ideal) m g)
theorem frame_PairShare : Cert.quiescent_PairShare := fun m g _ =>
  (θ_run Cert.PairShareIdeal.defs _ _).mono (fun _ h => ⟨fun c => ⟨h.2.1 c _ (by decide), h.2.1 c _ (by decide)⟩, h.2.2⟩) (run_main (F := Bits) m g)
theorem frame_PairShareRefIdeal : Cert.quiescent_PairShareRefIdeal := fun m g _ =>
  (θ_run Cert.PairShareRefIdeal.defs _ _).mono (fun _ h => ⟨fun c => (h c).2.2, ref_quiet _ _⟩) (Cert.PairShareRefIdeal.Value.run (F := Ideal) m g)
theorem frame_PairShareRef : Cert.quiescent_PairShareRef := fun m g _ =>
  (θ_run Cert.PairShareRefIdeal.defs _ _).mono (fun _ h => ⟨fun c => (h c).2.2, ref_quiet _ _⟩) (Cert.PairShareRefIdeal.Value.run (F := Bits) m g)
theorem algebraic_PairShare : Cert.algebraic_PairShareIdeal_PairShareRefIdeal := fun m g m' g' _ hm => matches_ref (F := Ideal) m g m' g' hm
theorem bitexact_PairShare : Cert.bitexact_PairShare_PairShareRef := fun m g m' g' _ hm => matches_ref (F := Bits) m g m' g' hm

end
-- ==== Proof.Exchange.ChipExchange.lean ====
/-
# `chip_exchange`: every slab to the chip that owns it

A device holds one slab for every chip and sends it to the device of that chip on its own core, at the place that its own
chip names. Semaphores 0–5 tell the sender that a slab has been read (three chips, two arrays), 6–11 tell the receiver that
it is there, 12 and 13 are the copies within a device.
-/
module

public import proofs.«01_k».proof.Proof.Exchange.Windows
public import proofs.«01_k».proof.Proof.Gen.ChipExchangeIdeal
public import proofs.«01_k».proof.Proof.Gen.ChipExchangeIdeal.Skeleton
public import proofs.«01_k».proof.Proof.Gen.ChipExchangeIdeal.Launch
public import proofs.«01_k».proof.Proof.Gen.ChipExchangeIdeal.Points

@[expose] public section

noncomputable section

namespace Cert.ChipExchangeIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ChipExchangeIdeal Cert.ChipExchangeIdeal.Gen Cert.Exchange

variable {F : FTy → Type} [FloatOps F]

/-- The device across the first axis of the mesh, the second, and both: the three other chips, on the same core. -/
def overX (c : Dev nD) : Dev nD := ⟨(2 * ((c.val / 2) % 2) + (c.val % 2) + 4) - 4 * (c.val / 4), by revert c; decide⟩
def overY (c : Dev nD) : Dev nD := ⟨(4 * (c.val / 4) + (c.val % 2) + 2) - 2 * ((c.val / 2) % 2), by revert c; decide⟩
def overXY (c : Dev nD) : Dev nD := ⟨((c.val % 2) + 6) - (4 * (c.val / 4) + 2 * ((c.val / 2) % 2)), by revert c; decide⟩
theorem overX_overX : ∀ c, overX (overX c) = c := by decide
theorem overY_overY : ∀ c, overY (overY c) = c := by decide
theorem overXY_overXY : ∀ c, overXY (overXY c) = c := by decide
def permX : Equiv.Perm (Dev nD) := ⟨overX, overX, overX_overX, overX_overX⟩
def permY : Equiv.Perm (Dev nD) := ⟨overY, overY, overY_overY, overY_overY⟩
def permXY : Equiv.Perm (Dev nD) := ⟨overXY, overXY, overXY_overXY, overXY_overXY⟩
theorem dev1_eq (c : Dev nD) : (⟨k0_dev1 c, k0_dev1_lt c⟩ : Dev nD) = overX c := Fin.ext (k0_dev1_eq c)
theorem dev2_eq (c : Dev nD) : (⟨k0_dev2 c, k0_dev2_lt c⟩ : Dev nD) = overY c := Fin.ext (k0_dev2_eq c)
theorem dev3_eq (c : Dev nD) : (⟨k0_dev3 c, k0_dev3_lt c⟩ : Dev nD) = overXY c := Fin.ext (k0_dev3_eq c)
theorem dev4_eq (c : Dev nD) : (⟨k0_dev4 c, k0_dev4_lt c⟩ : Dev nD) = overX c := Fin.ext (k0_dev4_eq c)
theorem dev5_eq (c : Dev nD) : (⟨k0_dev5 c, k0_dev5_lt c⟩ : Dev nD) = overY c := Fin.ext (k0_dev5_eq c)
theorem dev6_eq (c : Dev nD) : (⟨k0_dev6 c, k0_dev6_lt c⟩ : Dev nD) = overXY c := Fin.ext (k0_dev6_eq c)

/-- A slab of the first array, given the offset it starts at, -/
abbrev src0 (o : Fin 3 → Nat) (h : ∀ a, o a + S1x512x1284.size a ≤ S4x512x1284.size a) : Memref sig .tc .hbm S512x1284 .f32 :=
  ((Memref.whole main_arg0).slice (Rect.unit (s := S4x512x1284) o S1x512x1284.size h) (fun _ => rfl)).squeeze S512x1284 squeezes_S1x512x1284_S512x1284
/-- and of the second. -/
abbrev src1 (o : Fin 3 → Nat) (h : ∀ a, o a + S1x256x1024.size a ≤ S4x256x1024.size a) : Memref sig .tc .hbm S256x1024 .f32 :=
  ((Memref.whole main_arg1).slice (Rect.unit (s := S4x256x1024) o S1x256x1024.size h) (fun _ => rfl)).squeeze S256x1024 squeezes_S1x256x1024_S256x1024
/-- Where device `c` puts its slab of the first array, -/
abbrev dst0 (c : Dev nD) : Memref sig .tc .hbm S512x1284 .f32 :=
  ((Memref.whole main_v1_0).slice (Rect.unit (s := S4x512x1284) (k0_off1 c) S1x512x1284.size (k0_off1_inb c)) (fun _ => rfl)).squeeze S512x1284 squeezes_S1x512x1284_S512x1284
/-- and of the second. -/
abbrev dst1 (c : Dev nD) : Memref sig .tc .hbm S256x1024 .f32 :=
  ((Memref.whole main_v1_1).slice (Rect.unit (s := S4x256x1024) (k0_off5 c) S1x256x1024.size (k0_off5_inb c)) (fun _ => rfl)).squeeze S256x1024 squeezes_S1x256x1024_S256x1024

def copy (c : Dev nD) : Fin 14 → Option (Copy sig)
  | 6 => some ⟨src0 (k0_off2 c) (k0_off2_inb c), dst0 c⟩
  | 7 => some ⟨src0 (k0_off3 c) (k0_off3_inb c), dst0 c⟩
  | 8 => some ⟨src0 (k0_off4 c) (k0_off4_inb c), dst0 c⟩
  | 9 => some ⟨src1 (k0_off6 c) (k0_off6_inb c), dst1 c⟩
  | 10 => some ⟨src1 (k0_off7 c) (k0_off7_inb c), dst1 c⟩
  | 11 => some ⟨src1 (k0_off8 c) (k0_off8_inb c), dst1 c⟩
  | 12 => some ⟨src0 (k0_off1 c) (k0_off1_inb c), dst0 c⟩
  | 13 => some ⟨src1 (k0_off5 c) (k0_off5_inb c), dst1 c⟩
  | _ => none

/-- What a slab of each array credits. -/
def credit : Fin 2 → ℕ := ![(dst0 0).view.dmaCredit, (dst1 0).view.dmaCredit]
/-- The array that a semaphore is for. -/
def array : Fin 14 → Fin 2 := ![0, 0, 0, 1, 1, 1, 0, 0, 0, 1, 1, 1, 0, 1]

def moves : Moves nD sig (Fin 14) where
  sem s := .dma s
  sem_inj := by decide
  amt s := credit (array s)
  amt_pos s := by
    have h : ∀ t, 0 < credit t := by
      have h0 := (dst0 0).view.dmaCredit_pos (by decide)
      have h1 := (dst1 0).view.dmaCredit_pos (by decide)
      intro t; fin_cases t <;> first | exact h0 | exact h1
    exact h _
  dest := ![.refl _, .refl _, .refl _, .refl _, .refl _, .refl _, permX, permY, permXY, permX, permY, permXY, .refl _, .refl _]
  far := ![false, false, false, false, false, false, true, true, true, true, true, true, false, false]
  copy := copy
  lend := ![0, 0, 0, 0, 0, 0, 0, 1, 2, 0, 1, 2, 3, 3]

theorem body (m : Mem nD τ sig (Elt F)) (c : Dev nD) (κ : Dev nD × Fin 14 → ℕ) (t : Fin cfg0.N) :
    (moves.plan m).State κ c Finset.univ (moves.plan m).fars Finset.univ ∅ ∅
      ⊢ wp frame (wpE (defs₀ (F := F)) Variants.none (c.tc : Thread nD τ) none) Set.univ (bodyAt0 t)
        fun _ => (moves.plan m).State κ c ∅ ∅ ∅ Finset.univ Finset.univ := by
  rw [show (moves.plan m).fars = {6, 7, 8, 9, 10, 11} from show (Finset.univ.filter fun s => moves.far s = true) = {6, 7, 8, 9, 10, 11} by decide]
  simp only [bodyAt0, cc0_chip_exchange_eq_skeleton]
  unfold cc0_chip_exchange_skel
  rw [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, wp_deviceId]
  refine Moves.wp_local defs₀ Variants.none 12 rfl rfl rfl rfl rfl (by decide) (by decide) ?_
  refine Moves.wp_remote defs₀ Variants.none 6 0 _ rfl rfl rfl rfl (dev1_eq c).symm rfl rfl rfl rfl rfl (by decide) (by decide) (by decide) ?_
  refine Moves.wp_remote defs₀ Variants.none 7 1 _ rfl rfl rfl rfl (dev2_eq c).symm rfl rfl rfl rfl rfl (by decide) (by decide) (by decide) ?_
  refine Moves.wp_remote defs₀ Variants.none 8 2 _ rfl rfl rfl rfl (dev3_eq c).symm rfl rfl rfl rfl rfl (by decide) (by decide) (by decide) ?_
  refine Moves.wp_local defs₀ Variants.none 13 rfl rfl rfl rfl rfl (by decide) (by decide) ?_
  refine Moves.wp_remote defs₀ Variants.none 9 3 _ rfl rfl rfl rfl (dev4_eq c).symm rfl rfl rfl rfl rfl (by decide) (by decide) (by decide) ?_
  refine Moves.wp_remote defs₀ Variants.none 10 4 _ rfl rfl rfl rfl (dev5_eq c).symm rfl rfl rfl rfl rfl (by decide) (by decide) (by decide) ?_
  refine Moves.wp_remote defs₀ Variants.none 11 5 _ rfl rfl rfl rfl (dev6_eq c).symm rfl rfl rfl rfl rfl (by decide) (by decide) (by decide) ?_
  refine Moves.State_cast defs₀ Variants.none (T' := ∅) (C' := Finset.univ) (A' := Finset.univ) (V' := ∅) (D' := ∅) (by decide) (by decide) rfl rfl rfl ?_
  refine Moves.wp_wait defs₀ Variants.none 6 rfl rfl (by decide) (by decide) (by decide) ?_
  refine Moves.wp_wait defs₀ Variants.none 7 rfl rfl (by decide) (by decide) (by decide) ?_
  refine Moves.wp_wait defs₀ Variants.none 8 rfl rfl (by decide) (by decide) (by decide) ?_
  refine Moves.wp_wait defs₀ Variants.none 9 rfl rfl (by decide) (by decide) (by decide) ?_
  refine Moves.wp_wait defs₀ Variants.none 10 rfl rfl (by decide) (by decide) (by decide) ?_
  refine Moves.wp_wait defs₀ Variants.none 11 rfl rfl (by decide) (by decide) (by decide) ?_
  refine Moves.wp_wait defs₀ Variants.none 0 rfl rfl (by decide) (by decide) (by decide) ?_
  refine Moves.wp_wait defs₀ Variants.none 1 rfl rfl (by decide) (by decide) (by decide) ?_
  refine Moves.wp_wait defs₀ Variants.none 2 rfl rfl (by decide) (by decide) (by decide) ?_
  refine Moves.wp_wait defs₀ Variants.none 3 rfl rfl (by decide) (by decide) (by decide) ?_
  refine Moves.wp_wait defs₀ Variants.none 4 rfl rfl (by decide) (by decide) (by decide) ?_
  refine Moves.wp_wait defs₀ Variants.none 5 rfl rfl (by decide) (by decide) (by decide) ?_
  refine Moves.wp_wait defs₀ Variants.none 12 rfl rfl (by decide) (by decide) (by decide) ?_
  refine Moves.wp_wait defs₀ Variants.none 13 rfl rfl (by decide) (by decide) (by decide) ?_
  refine Moves.State_cast defs₀ Variants.none (T' := ∅) (C' := ∅) (A' := ∅) (V' := Finset.univ) (D' := Finset.univ) rfl (by decide) (by decide) (by decide) (by decide) ?_
  rw [wp_ret]
  exact fupd_intro

/-- Slabs from different chips go to different places. -/
theorem apart0 {c d : Dev nD} (h : c.val / 2 ≠ d.val / 2) : Disjoint (dst0 c).view.set (dst0 d).view.set :=
  apart_slabs main_v1_0 (⟨0, by decide⟩ : Fin 3) (by
    rw [k0_off1_eq, k0_off1_eq]
    show 2 * (c.val / 4) + c.val / 2 % 2 + 1 ≤ 2 * (d.val / 4) + d.val / 2 % 2 ∨ 2 * (d.val / 4) + d.val / 2 % 2 + 1 ≤ 2 * (c.val / 4) + c.val / 2 % 2
    omega)
theorem apart1 {c d : Dev nD} (h : c.val / 2 ≠ d.val / 2) : Disjoint (dst1 c).view.set (dst1 d).view.set :=
  apart_slabs main_v1_1 (⟨0, by decide⟩ : Fin 3) (by
    rw [k0_off5_eq, k0_off5_eq]
    show 2 * (c.val / 4) + c.val / 2 % 2 + 1 ≤ 2 * (d.val / 4) + d.val / 2 % 2 ∨ 2 * (d.val / 4) + d.val / 2 % 2 + 1 ≤ 2 * (c.val / 4) + c.val / 2 % 2
    omega)
/-- The copies of one array into a device come from different chips. -/
theorem chips : ∀ (c : Dev nD), (∀ s ∈ ({6, 7, 8, 12} : Finset (Fin 14)), ∀ s' ∈ ({6, 7, 8, 12} : Finset (Fin 14)), s ≠ s' →
      ((moves.dest s).symm c).val / 2 ≠ ((moves.dest s').symm c).val / 2)
    ∧ ∀ s ∈ ({9, 10, 11, 13} : Finset (Fin 14)), ∀ s' ∈ ({9, 10, 11, 13} : Finset (Fin 14)), s ≠ s' →
      ((moves.dest s).symm c).val / 2 ≠ ((moves.dest s').symm c).val / 2 := by decide

/-- The launch's buffers are the places and the sources of the copies, and what is kept of the arguments. -/
theorem hdev (m : Mem nD τ sig (Elt F)) (c : Dev nD) :
    (Pipeline.unscopedRest cfg0.spec c (fun b => m ((c.tc : Thread nD τ).loc b)) : sProp (Res nD τ sig (Elt F)))
      ⊢ iprop(bigSep Finset.univ (moves.place m c) ∗ bigSep Finset.univ (moves.source m c) ∗ Moves.keep m {main_arg0, main_arg1} 4 c) := by
  have e : ({6, 7, 8, 12} ∪ {9, 10, 11, 13} : Finset (Fin 14)) = {6, 7, 8, 9, 10, 11, 12, 13} := by decide
  have hp0 : iprop(((c.tc : Thread nD τ).loc main_v1_0) ↦{fullShare} m ((c.tc : Thread nD τ).loc main_v1_0)) ⊢ bigSep {6, 7, 8, 12} (moves.place m c) :=
    Moves.cut_places _ _ (fun s => (dst0 ((moves.dest s).symm c)).view.set) _ (by intro s hs; fin_cases hs <;> rfl)
      fun s hs s' hs' hne => apart0 ((chips c).1 s hs s' hs' hne)
  have hp1 : iprop(((c.tc : Thread nD τ).loc main_v1_1) ↦{fullShare} m ((c.tc : Thread nD τ).loc main_v1_1)) ⊢ bigSep {9, 10, 11, 13} (moves.place m c) :=
    Moves.cut_places _ _ (fun s => (dst1 ((moves.dest s).symm c)).view.set) _ (by intro s hs; fin_cases hs <;> rfl)
      fun s hs s' hs' hne => apart1 ((chips c).2 s hs s' hs' hne)
  have hs0 : iprop(((c.tc : Thread nD τ).loc main_arg0) ↦{fullShare} m ((c.tc : Thread nD τ).loc main_arg0))
      ⊢ iprop((((c.tc : Thread nD τ).loc main_arg0) ↦{kept 4} m ((c.tc : Thread nD τ).loc main_arg0)) ∗ bigSep {6, 7, 8, 12} (moves.source m c)) :=
    Moves.lend_sources _ 4 _ (fun s => match s with
      | 6 => (src0 (k0_off2 c) (k0_off2_inb c)).view.set
      | 7 => (src0 (k0_off3 c) (k0_off3_inb c)).view.set
      | 8 => (src0 (k0_off4 c) (k0_off4_inb c)).view.set
      | _ => (src0 (k0_off1 c) (k0_off1_inb c)).view.set) moves.lend _ (by intro s hs; fin_cases hs <;> rfl) (by decide) (by decide)
  have hs1 : iprop(((c.tc : Thread nD τ).loc main_arg1) ↦{fullShare} m ((c.tc : Thread nD τ).loc main_arg1))
      ⊢ iprop((((c.tc : Thread nD τ).loc main_arg1) ↦{kept 4} m ((c.tc : Thread nD τ).loc main_arg1)) ∗ bigSep {9, 10, 11, 13} (moves.source m c)) :=
    Moves.lend_sources _ 4 _ (fun s => match s with
      | 9 => (src1 (k0_off6 c) (k0_off6_inb c)).view.set
      | 10 => (src1 (k0_off7 c) (k0_off7_inb c)).view.set
      | 11 => (src1 (k0_off8 c) (k0_off8_inb c)).view.set
      | _ => (src1 (k0_off5 c) (k0_off5_inb c)).view.set) moves.lend _ (by intro s hs; fin_cases hs <;> rfl) (by decide) (by decide)
  have hp : iprop(bigSep {6, 7, 8, 12} (moves.place m c) ∗ bigSep {9, 10, 11, 13} (moves.place m c)) ⊢ bigSep Finset.univ (moves.place m c) := by
    rw [← Moves.bigSep_two (by decide), e]
    exact Moves.of_part (by intro s hs; fin_cases s <;> first | rfl | exact absurd (by decide) hs)
  have hs : iprop(bigSep {6, 7, 8, 12} (moves.source m c) ∗ bigSep {9, 10, 11, 13} (moves.source m c)) ⊢ bigSep Finset.univ (moves.source m c) := by
    rw [← Moves.bigSep_two (by decide), e]
    exact Moves.of_part (by intro s hs; fin_cases s <;> first | rfl | exact absurd (by decide) hs)
  rw [unscopedRest0_eq]
  unfold Moves.keep
  rw [Moves.bigSep_one_more (by decide), BI.bigSep_singleton]
  iintro ⟨HA, HB, HV, HW⟩
  ihave HV := hp0 $$ HV
  ihave HW := hp1 $$ HW
  ihave HA := hs0 $$ HA
  ihave HB := hs1 $$ HB
  icases HA with ⟨HA, HSA⟩
  icases HB with ⟨HB, HSB⟩
  isplitl [HV HW]
  · iapply hp; isplitl [HV] <;> iassumption
  isplitl [HSA HSB]
  · iapply hs; isplitl [HSA] <;> iassumption
  isplitl [HA] <;> iassumption

/-- Every copy of the exchange arrives, the arguments are as they were and every counter is back at zero. -/
theorem run_main (m : Mem nD τ sig (Elt F)) (ρ : Dev nD → PrngReg) :
    θ_run defs (onTc (τ := τ) (main (F := F))) ⟨m, fun _ => 0, ρ⟩ fun r =>
      (∀ (c d : Dev nD) (s : Fin 14) (x : Copy sig), moves.copy d s = some x → moves.dest s d = c → x.Arrived m d c r.2.mem)
        ∧ (∀ c : Dev nD, ∀ b ∈ ({main_arg0, main_arg1} : Finset (Ref sig .tc)), r.2.mem ((c.tc : Thread nD τ).loc b) = m ((c.tc : Thread nD τ).loc b))
        ∧ r.2.sem = fun _ => 0 :=
  Moves.run moves m cfgs cellOf_inj 0 (by decide) N_0 winFacts0.to₀ (by decide) scopedRest0_eq (by decide) defs₀ Variants.none ρ main (fun _ => rfl)
    {main_arg0, main_arg1} 4 (hdev m) (body m)

end Cert.ChipExchangeIdeal.Exchange

end
-- ==== Proof.Exchange.ChipExchangeValue.lean ====
/-
# `chip_exchange`: the results, and the reference's
-/
module

public import proofs.«01_k».proof.Proof.Exchange.ChipExchange
public import proofs.«01_k».proof.Defs
public import proofs.«01_k».proof.Proof.Gen.ChipExchange
public import proofs.«01_k».proof.Proof.Gen.ChipExchangeRef
public import proofs.«01_k».proof.Proof.Gen.ChipExchangeRefIdeal
public import proofs.«01_k».proof.Proof.Gen.ChipExchangeRefIdeal.Run
public import proofs.«01_k».proof.Proof.Gen.ChipExchangeRefIdeal.Read

@[expose] public section

noncomputable section

namespace Cert.ChipExchangeIdeal.Exchange

open Idealize.ShloMosaic Idealize.ShloMosaic.TcCoe Idealize.SL.Sem Idealize.ShloMosaic.ValueIdx
open Cert.ChipExchangeIdeal Cert.ChipExchangeIdeal.Gen Cert.Exchange

variable {F : FTy → Type} [FloatOps F]

/-- Slab `q` of a device's results comes from the device of chip `q` on its core: its slab for this device's chip. -/
theorem ref0 (x : (⟨⟨3, ![32, 512, 1284]⟩, .f32⟩ : BufTy).Contents (Elt F)) (j i : Shape.Idx ⟨3, ![32, 512, 1284]⟩)
    (h0 : (i 0 : ℕ) = 8 * ((j 0 : ℕ) % 4) + 4 * ((j 0 : ℕ) / 4 % 2) + (j 0 : ℕ) / 8) (h1 : (i 1 : ℕ) = j 1) (h2 : (i 2 : ℕ) = j 2) :
    Cert.ChipExchangeRefIdeal.Read.val_main_v2 (F := F) x j = x i := by
  rw [Cert.ChipExchangeRefIdeal.Read.val_main_v2_apply, Cert.ChipExchangeRefIdeal.Read.val_main_v1_apply, Cert.ChipExchangeRefIdeal.Read.val_main_v0_apply]
  have hj0 : (j 0 : ℕ) < 32 := (j 0).isLt
  have hj1 : (j 1 : ℕ) < 512 := (j 1).isLt
  have hj2 : (j 2 : ℕ) < 1284 := (j 2).isLt
  refine congrArg x (funext fun a => Fin.ext ?_)
  match a with
  | ⟨0, _⟩ => refine Eq.trans ?_ h0.symm; dsimp only; omega
  | ⟨1, _⟩ => refine Eq.trans ?_ h1.symm; dsimp only; omega
  | ⟨2, _⟩ => refine Eq.trans ?_ h2.symm; dsimp only; omega

theorem ref1 (x : (⟨⟨3, ![32, 256, 1024]⟩, .f32⟩ : BufTy).Contents (Elt F)) (j i : Shape.Idx ⟨3, ![32, 256, 1024]⟩)
    (h0 : (i 0 : ℕ) = 8 * ((j 0 : ℕ) % 4) + 4 * ((j 0 : ℕ) / 4 % 2) + (j 0 : ℕ) / 8) (h1 : (i 1 : ℕ) = j 1) (h2 : (i 2 : ℕ) = j 2) :
    Cert.ChipExchangeRefIdeal.Read.val_main_v5 (F := F) x j = x i := by
  rw [Cert.ChipExchangeRefIdeal.Read.val_main_v5_apply, Cert.ChipExchangeRefIdeal.Read.val_main_v4_apply, Cert.ChipExchangeRefIdeal.Read.val_main_v3_apply]
  have hj0 : (j 0 : ℕ) < 32 := (j 0).isLt
  have hj1 : (j 1 : ℕ) < 256 := (j 1).isLt
  have hj2 : (j 2 : ℕ) < 1024 := (j 2).isLt
  refine congrArg x (funext fun a => Fin.ext ?_)
  match a with
  | ⟨0, _⟩ => refine Eq.trans ?_ h0.symm; dsimp only; omega
  | ⟨1, _⟩ => refine Eq.trans ?_ h1.symm; dsimp only; omega
  | ⟨2, _⟩ => refine Eq.trans ?_ h2.symm; dsimp only; omega

/-- The device of chip `q` on the core of `c`. -/
theorem mate : ∀ (c : Dev nD) (q : Fin 4), ∃ d : Dev nD, d.val = 2 * q.val + c.val % 2 ∧ (d = c ∨ overX d = c ∨ overY d = c ∨ overXY d = c) := by decide

/-- What device `d` sends to `c`, a device on its core: its slab for the chip of `c`. -/
theorem sent0 {c d : Dev nD} (h : d = c ∨ overX d = c ∨ overY d = c ∨ overXY d = c) :
    ∃ s o ho, moves.dest s d = c ∧ moves.copy d s = some ⟨src0 o ho, dst0 d⟩ ∧ o = ![c.val / 2, 0, 0] := by
  rcases h with rfl | rfl | rfl | rfl
  · exact ⟨12, _, k0_off1_inb d, rfl, rfl, (k0_off1_eq d).trans (congrArg (![·, 0, 0]) (by revert d; decide))⟩
  · exact ⟨6, _, k0_off2_inb d, rfl, rfl, (k0_off2_eq d).trans (congrArg (![·, 0, 0]) (by revert d; decide))⟩
  · exact ⟨7, _, k0_off3_inb d, rfl, rfl, (k0_off3_eq d).trans (congrArg (![·, 0, 0]) (by revert d; decide))⟩
  · exact ⟨8, _, k0_off4_inb d, rfl, rfl, (k0_off4_eq d).trans (congrArg (![·, 0, 0]) (by revert d; decide))⟩
theorem sent1 {c d : Dev nD} (h : d = c ∨ overX d = c ∨ overY d = c ∨ overXY d = c) :
    ∃ s o ho, moves.dest s d = c ∧ moves.copy d s = some ⟨src1 o ho, dst1 d⟩ ∧ o = ![c.val / 2, 0, 0] := by
  rcases h with rfl | rfl | rfl | rfl
  · exact ⟨13, _, k0_off5_inb d, rfl, rfl, (k0_off5_eq d).trans (congrArg (![·, 0, 0]) (by revert d; decide))⟩
  · exact ⟨9, _, k0_off6_inb d, rfl, rfl, (k0_off6_eq d).trans (congrArg (![·, 0, 0]) (by revert d; decide))⟩
  · exact ⟨10, _, k0_off7_inb d, rfl, rfl, (k0_off7_eq d).trans (congrArg (![·, 0, 0]) (by revert d; decide))⟩
  · exact ⟨11, _, k0_off8_inb d, rfl, rfl, (k0_off8_eq d).trans (congrArg (![·, 0, 0]) (by revert d; decide))⟩

section Results

variable {m m' : Mem nD τ sig (Elt F)}
  (harr : ∀ (c d : Dev nD) (s : Fin 14) (x : Copy sig), moves.copy d s = some x → moves.dest s d = c → x.Arrived m d c m')

include harr

theorem result0 (x : (⟨⟨3, ![32, 512, 1284]⟩, .f32⟩ : BufTy).Contents (Elt F))
    (hm : ∀ d : Dev nD, m ((d.tc : Thread nD τ).loc main_arg0) = Layout.block ⟨3, ![4, 512, 1284]⟩ ⟨3, ![32, 512, 1284]⟩ 0 8 d x) (c : Dev nD) :
    m' ((c.tc : Thread nD τ).loc main_v1_0)
      = Layout.block ⟨3, ![4, 512, 1284]⟩ ⟨3, ![32, 512, 1284]⟩ 0 8 c (Cert.ChipExchangeRefIdeal.Read.val_main_v2 (F := F) x) := by
  funext j
  have hj0 : ((j : Shape.Idx S4x512x1284) 0 : ℕ) < 4 := (j 0).isLt
  obtain ⟨d, hd, hdc⟩ := mate c ((j : Shape.Idx S4x512x1284) 0)
  obtain ⟨s, o, ho, hto, hx, heq⟩ := sent0 hdc
  have hA : ∀ i : Shape.Idx S512x1284, m' ((c.tc : Thread nD τ).loc main_v1_0) ((dst0 d).view.emb i)
      = m ((d.tc : Thread nD τ).loc main_arg0) ((src0 o ho).view.emb i) := harr c d s _ hx hto
  have hj : (dst0 d).view.emb (ix2 ((j : Shape.Idx S4x512x1284) 1) ((j : Shape.Idx S4x512x1284) 2)) = j := by
    refine at_slab main_v1_0 (k0_off1_eq d) _ (ix3 (0 : Fin 1) ((j : Shape.Idx S4x512x1284) 1) ((j : Shape.Idx S4x512x1284) 2)) (flat _ _) _ fun a => ?_
    match a with
    | ⟨0, _⟩ => show 2 * (d.val / 4) + d.val / 2 % 2 + 0 = ((j : Shape.Idx S4x512x1284) 0 : ℕ); omega
    | ⟨1, _⟩ => exact Nat.zero_add _
    | ⟨2, _⟩ => exact Nat.zero_add _
  have hs : (src0 o ho).view.emb (ix2 ((j : Shape.Idx S4x512x1284) 1) ((j : Shape.Idx S4x512x1284) 2)) = (ix3 (⟨c.val / 2, by have h : c.val < 8 := c.isLt; omega⟩ : Fin 4) ((j : Shape.Idx S4x512x1284) 1) ((j : Shape.Idx S4x512x1284) 2) : Shape.Idx S4x512x1284) := by
    refine at_slab main_arg0 heq _ (ix3 (0 : Fin 1) ((j : Shape.Idx S4x512x1284) 1) ((j : Shape.Idx S4x512x1284) 2)) (flat _ _) _ fun a => ?_
    match a with
    | ⟨0, _⟩ => exact Nat.add_zero _
    | ⟨1, _⟩ => exact Nat.zero_add _
    | ⟨2, _⟩ => exact Nat.zero_add _
  rw [← hj, hA, hm d, hj, hs]
  refine (ref0 x _ _ ?_ ?_ ?_).symm
  · rw [Layout.Tiles.idx_val, Layout.Tiles.idx_val]
    show d.val * 4 + c.val / 2 = 8 * ((c.val * 4 + ((j : Shape.Idx S4x512x1284) 0 : ℕ)) % 4) + 4 * ((c.val * 4 + ((j : Shape.Idx S4x512x1284) 0 : ℕ)) / 4 % 2) + (c.val * 4 + ((j : Shape.Idx S4x512x1284) 0 : ℕ)) / 8
    omega
  · rfl
  · rfl

theorem result1 (x : (⟨⟨3, ![32, 256, 1024]⟩, .f32⟩ : BufTy).Contents (Elt F))
    (hm : ∀ d : Dev nD, m ((d.tc : Thread nD τ).loc main_arg1) = Layout.block ⟨3, ![4, 256, 1024]⟩ ⟨3, ![32, 256, 1024]⟩ 0 8 d x) (c : Dev nD) :
    m' ((c.tc : Thread nD τ).loc main_v1_1)
      = Layout.block ⟨3, ![4, 256, 1024]⟩ ⟨3, ![32, 256, 1024]⟩ 0 8 c (Cert.ChipExchangeRefIdeal.Read.val_main_v5 (F := F) x) := by
  funext j
  have hj0 : ((j : Shape.Idx S4x256x1024) 0 : ℕ) < 4 := (j 0).isLt
  obtain ⟨d, hd, hdc⟩ := mate c ((j : Shape.Idx S4x256x1024) 0)
  obtain ⟨s, o, ho, hto, hx, heq⟩ := sent1 hdc
  have hA : ∀ i : Shape.Idx S256x1024, m' ((c.tc : Thread nD τ).loc main_v1_1) ((dst1 d).view.emb i)
      = m ((d.tc : Thread nD τ).loc main_arg1) ((src1 o ho).view.emb i) := harr c d s _ hx hto
  have hj : (dst1 d).view.emb (ix2 ((j : Shape.Idx S4x256x1024) 1) ((j : Shape.Idx S4x256x1024) 2)) = j := by
    refine at_slab main_v1_1 (k0_off5_eq d) _ (ix3 (0 : Fin 1) ((j : Shape.Idx S4x256x1024) 1) ((j : Shape.Idx S4x256x1024) 2)) (flat _ _) _ fun a => ?_
    match a with
    | ⟨0, _⟩ => show 2 * (d.val / 4) + d.val / 2 % 2 + 0 = ((j : Shape.Idx S4x256x1024) 0 : ℕ); omega
    | ⟨1, _⟩ => exact Nat.zero_add _
    | ⟨2, _⟩ => exact Nat.zero_add _
  have hs : (src1 o ho).view.emb (ix2 ((j : Shape.Idx S4x256x1024) 1) ((j : Shape.Idx S4x256x1024) 2)) = (ix3 (⟨c.val / 2, by have h : c.val < 8 := c.isLt; omega⟩ : Fin 4) ((j : Shape.Idx S4x256x1024) 1) ((j : Shape.Idx S4x256x1024) 2) : Shape.Idx S4x256x1024) := by
    refine at_slab main_arg1 heq _ (ix3 (0 : Fin 1) ((j : Shape.Idx S4x256x1024) 1) ((j : Shape.Idx S4x256x1024) 2)) (flat _ _) _ fun a => ?_
    match a with
    | ⟨0, _⟩ => exact Nat.add_zero _
    | ⟨1, _⟩ => exact Nat.zero_add _
    | ⟨2, _⟩ => exact Nat.zero_add _
  rw [← hj, hA, hm d, hj, hs]
  refine (ref1 x _ _ ?_ ?_ ?_).symm
  · rw [Layout.Tiles.idx_val, Layout.Tiles.idx_val]
    show d.val * 4 + c.val / 2 = 8 * ((c.val * 4 + ((j : Shape.Idx S4x256x1024) 0 : ℕ)) % 4) + 4 * ((c.val * 4 + ((j : Shape.Idx S4x256x1024) 0 : ℕ)) / 4 % 2) + (c.val * 4 + ((j : Shape.Idx S4x256x1024) 0 : ℕ)) / 8
    omega
  · rfl
  · rfl

end Results

/-! ## The statements, over any float values -/

/-- From blocks of one machine's arrays the devices end with blocks of that machine's results. -/
theorem matches_ref (m : Mem nD τ sig (Elt F)) (g : Dev nD → PrngReg)
    (m' : Mem Cert.ChipExchangeRefIdeal.nD Cert.ChipExchangeRefIdeal.τ Cert.ChipExchangeRefIdeal.sig (Elt F)) (g' : Dev Cert.ChipExchangeRefIdeal.nD → PrngReg)
    (hm : ∀ c : Dev nD,
      m ((c.tc : Thread nD τ).loc main_arg0) = Layout.block ⟨3, ![4, 512, 1284]⟩ ⟨3, ![32, 512, 1284]⟩ 0 8 c (m' (((0 : Dev Cert.ChipExchangeRefIdeal.nD).tc : Thread Cert.ChipExchangeRefIdeal.nD Cert.ChipExchangeRefIdeal.τ).loc Cert.ChipExchangeRefIdeal.main_arg0))
      ∧ m ((c.tc : Thread nD τ).loc main_arg1) = Layout.block ⟨3, ![4, 256, 1024]⟩ ⟨3, ![32, 256, 1024]⟩ 0 8 c (m' (((0 : Dev Cert.ChipExchangeRefIdeal.nD).tc : Thread Cert.ChipExchangeRefIdeal.nD Cert.ChipExchangeRefIdeal.τ).loc Cert.ChipExchangeRefIdeal.main_arg1))) :
    ∃ (v0 : Buf (Elt F) (((0 : Dev Cert.ChipExchangeRefIdeal.nD).tc : Thread Cert.ChipExchangeRefIdeal.nD Cert.ChipExchangeRefIdeal.τ).loc Cert.ChipExchangeRefIdeal.main_v2))
      (v1 : Buf (Elt F) (((0 : Dev Cert.ChipExchangeRefIdeal.nD).tc : Thread Cert.ChipExchangeRefIdeal.nD Cert.ChipExchangeRefIdeal.τ).loc Cert.ChipExchangeRefIdeal.main_v5)),
      θ_run defs (onTc (τ := τ) (main (F := F))) ⟨m, fun _ => 0, g⟩ (fun r => ∀ c : Dev nD,
          r.2.mem ((c.tc : Thread nD τ).loc main_v1_0) = Layout.block ⟨3, ![4, 512, 1284]⟩ ⟨3, ![32, 512, 1284]⟩ 0 8 c v0
          ∧ r.2.mem ((c.tc : Thread nD τ).loc main_v1_1) = Layout.block ⟨3, ![4, 256, 1024]⟩ ⟨3, ![32, 256, 1024]⟩ 0 8 c v1
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run Cert.ChipExchangeRefIdeal.defs (onTc (τ := Cert.ChipExchangeRefIdeal.τ) (Cert.ChipExchangeRefIdeal.main (F := F))) ⟨m', fun _ => 0, g'⟩ (fun r =>
          r.2.mem (((0 : Dev Cert.ChipExchangeRefIdeal.nD).tc : Thread Cert.ChipExchangeRefIdeal.nD Cert.ChipExchangeRefIdeal.τ).loc Cert.ChipExchangeRefIdeal.main_v2) = v0
          ∧ r.2.mem (((0 : Dev Cert.ChipExchangeRefIdeal.nD).tc : Thread Cert.ChipExchangeRefIdeal.nD Cert.ChipExchangeRefIdeal.τ).loc Cert.ChipExchangeRefIdeal.main_v5) = v1
          ∧ r.2.mem (((0 : Dev Cert.ChipExchangeRefIdeal.nD).tc : Thread Cert.ChipExchangeRefIdeal.nD Cert.ChipExchangeRefIdeal.τ).loc Cert.ChipExchangeRefIdeal.main_arg0) = m' (((0 : Dev Cert.ChipExchangeRefIdeal.nD).tc : Thread Cert.ChipExchangeRefIdeal.nD Cert.ChipExchangeRefIdeal.τ).loc Cert.ChipExchangeRefIdeal.main_arg0)
          ∧ r.2.mem (((0 : Dev Cert.ChipExchangeRefIdeal.nD).tc : Thread Cert.ChipExchangeRefIdeal.nD Cert.ChipExchangeRefIdeal.τ).loc Cert.ChipExchangeRefIdeal.main_arg1) = m' (((0 : Dev Cert.ChipExchangeRefIdeal.nD).tc : Thread Cert.ChipExchangeRefIdeal.nD Cert.ChipExchangeRefIdeal.τ).loc Cert.ChipExchangeRefIdeal.main_arg1)) :=
  ⟨_, _,
    (θ_run _ _ _).mono (fun r h c => ⟨result0 h.1 _ (fun d => (hm d).1) c, result1 h.1 _ (fun d => (hm d).2) c,
      h.2.1 c main_arg0 (by decide), h.2.1 c main_arg1 (by decide)⟩) (run_main m g),
    (θ_run _ _ _).mono (fun r h => h 0) (Cert.ChipExchangeRefIdeal.Value.run m' g')⟩

/-- The reference has no semaphore. -/
theorem ref_quiet {α : Type} (s t : GSem Cert.ChipExchangeRefIdeal.nD Cert.ChipExchangeRefIdeal.τ Cert.ChipExchangeRefIdeal.sig → α) : s = t := by
  funext q
  rcases q with ⟨_, (q | q)⟩ <;> exact q.elim0

end Cert.ChipExchangeIdeal.Exchange

open Idealize.ShloMosaic Idealize.ShloMosaic.TcCoe Idealize.SL.Sem Cert.ChipExchangeIdeal.Exchange

theorem frame_ChipExchangeIdeal : Cert.quiescent_ChipExchangeIdeal := fun m g _ =>
  (θ_run Cert.ChipExchangeIdeal.defs _ _).mono (fun _ h => ⟨fun c => ⟨h.2.1 c _ (by decide), h.2.1 c _ (by decide)⟩, h.2.2⟩) (run_main (F := Ideal) m g)
theorem frame_ChipExchange : Cert.quiescent_ChipExchange := fun m g _ =>
  (θ_run Cert.ChipExchangeIdeal.defs _ _).mono (fun _ h => ⟨fun c => ⟨h.2.1 c _ (by decide), h.2.1 c _ (by decide)⟩, h.2.2⟩) (run_main (F := Bits) m g)
theorem frame_ChipExchangeRefIdeal : Cert.quiescent_ChipExchangeRefIdeal := fun m g _ =>
  (θ_run Cert.ChipExchangeRefIdeal.defs _ _).mono (fun _ h => ⟨fun c => (h c).2.2, ref_quiet _ _⟩) (Cert.ChipExchangeRefIdeal.Value.run (F := Ideal) m g)
theorem frame_ChipExchangeRef : Cert.quiescent_ChipExchangeRef := fun m g _ =>
  (θ_run Cert.ChipExchangeRefIdeal.defs _ _).mono (fun _ h => ⟨fun c => (h c).2.2, ref_quiet _ _⟩) (Cert.ChipExchangeRefIdeal.Value.run (F := Bits) m g)
theorem algebraic_ChipExchange : Cert.algebraic_ChipExchangeIdeal_ChipExchangeRefIdeal := fun m g m' g' _ hm => matches_ref (F := Ideal) m g m' g' hm
theorem bitexact_ChipExchange : Cert.bitexact_ChipExchange_ChipExchangeRef := fun m g m' g' _ hm => matches_ref (F := Bits) m g m' g' hm

end
-- ==== Proof.Exchange.Across.lean ====
/-
# The devices of a 2×2×2 mesh

Device `4x + 2y + c` lies at `(x, y, c)`.
-/
module

public import proofs.«01_k».proof.Proof.Exchange.Moves

@[expose] public section

noncomputable section

namespace Cert.Exchange

open Idealize.ShloMosaic

/-- The device whose number differs from that of `c` in the bits of `k`; the other core of the chip is `across 1`. -/
def across (k : Fin 8) (c : Dev 8) : Dev 8 := ⟨c.val ^^^ k.val, by revert k c; decide⟩
theorem across_across : ∀ k c, across k (across k c) = c := by decide
def perm (k : Fin 8) : Equiv.Perm (Dev 8) := ⟨across k, across k, across_across k, across_across k⟩

end Cert.Exchange

end
-- ==== Proof.Exchange.PairExchange.lean ====
/-
# `pair_exchange`: halves to the other core of the chip, small rows to every device

A device keeps one half of every slab of two arrays and sends the other to its sibling; of a third array, its own rows, every
device gets a copy, at the place the sender names. Semaphores 0, 1 and 4–10 tell the sender that the two halves and the seven
copies of the rows have been read, 2, 3 and 11–17 tell the receiver that they are there, 18–20 are the copies within a device.
-/
module

public import proofs.«01_k».proof.Proof.Exchange.Across
public import proofs.«01_k».proof.Proof.Exchange.Windows
public import proofs.«01_k».proof.Proof.Gen.PairExchangeIdeal
public import proofs.«01_k».proof.Proof.Gen.PairExchangeIdeal.Skeleton
public import proofs.«01_k».proof.Proof.Gen.PairExchangeIdeal.Launch
public import proofs.«01_k».proof.Proof.Gen.PairExchangeIdeal.Points

@[expose] public section

noncomputable section

namespace Cert.PairExchangeIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.PairExchangeIdeal Cert.PairExchangeIdeal.Gen Cert.Exchange

variable {F : FTy → Type} [FloatOps F]

theorem dev1_eq (c : Dev nD) : (⟨k0_dev1 c, k0_dev1_lt c⟩ : Dev nD) = across 1 c := Fin.ext (by revert c; decide +kernel)
theorem dev2_eq (c : Dev nD) : (⟨k0_dev2 c, k0_dev2_lt c⟩ : Dev nD) = across 1 c := Fin.ext (by revert c; decide +kernel)
theorem dev3_eq (c : Dev nD) : (⟨k0_dev3 c, k0_dev3_lt c⟩ : Dev nD) = across 1 c := Fin.ext (by revert c; decide +kernel)
theorem dev4_eq (c : Dev nD) : (⟨k0_dev4 c, k0_dev4_lt c⟩ : Dev nD) = across 2 c := Fin.ext (by revert c; decide +kernel)
theorem dev5_eq (c : Dev nD) : (⟨k0_dev5 c, k0_dev5_lt c⟩ : Dev nD) = across 3 c := Fin.ext (by revert c; decide +kernel)
theorem dev6_eq (c : Dev nD) : (⟨k0_dev6 c, k0_dev6_lt c⟩ : Dev nD) = across 4 c := Fin.ext (by revert c; decide +kernel)
theorem dev7_eq (c : Dev nD) : (⟨k0_dev7 c, k0_dev7_lt c⟩ : Dev nD) = across 5 c := Fin.ext (by revert c; decide +kernel)
theorem dev8_eq (c : Dev nD) : (⟨k0_dev8 c, k0_dev8_lt c⟩ : Dev nD) = across 6 c := Fin.ext (by revert c; decide +kernel)
theorem dev9_eq (c : Dev nD) : (⟨k0_dev9 c, k0_dev9_lt c⟩ : Dev nD) = across 7 c := Fin.ext (by revert c; decide +kernel)

/-- Half of the rows of the first array, given the offset they start at, -/
abbrev half0 (o : Fin 3 → Nat) (h : ∀ a, o a + S4x512x1284.size a ≤ S4x1024x1284.size a) : Memref sig .tc .hbm S4x512x1284 .f32 :=
  (Memref.whole main_arg0).slice (Rect.unit (s := S4x1024x1284) o S4x512x1284.size h) (fun _ => rfl)
/-- and of the second. -/
abbrev half1 (o : Fin 3 → Nat) (h : ∀ a, o a + S4x256x1024.size a ≤ S4x512x1024.size a) : Memref sig .tc .hbm S4x256x1024 .f32 :=
  (Memref.whole main_arg1).slice (Rect.unit (s := S4x512x1024) o S4x256x1024.size h) (fun _ => rfl)
/-- Where the small rows of device `c` go. -/
abbrev slot (c : Dev nD) : Memref sig .tc .hbm S8x6784 .f32 :=
  ((Memref.whole main_v1_4).slice (Rect.unit (s := S8x8x6784) (k0_off1 c) S1x8x6784.size (k0_off1_inb c)) (fun _ => rfl)).squeeze S8x6784 squeezes_S1x8x6784_S8x6784

/-- The small rows, to the place of device `c`. -/
def rows (c : Dev nD) : Copy sig := ⟨Memref.whole main_arg2, slot c⟩

def copy (c : Dev nD) : Fin 21 → Option (Copy sig) :=
  ![none, none,
    some ⟨half0 (k0_off3 c) (k0_off3_inb c), Memref.whole main_v1_2⟩, some ⟨half1 (k0_off5 c) (k0_off5_inb c), Memref.whole main_v1_3⟩,
    none, none, none, none, none, none, none,
    some (rows c), some (rows c), some (rows c), some (rows c), some (rows c), some (rows c), some (rows c),
    some ⟨half0 (k0_off2 c) (k0_off2_inb c), Memref.whole main_v1_0⟩, some ⟨half1 (k0_off4 c) (k0_off4_inb c), Memref.whole main_v1_1⟩,
    some (rows c)]

/-- What a half of each array, and the small rows, credit. -/
def credit : Fin 3 → ℕ := ![(Memref.whole main_v1_0).view.dmaCredit, (Memref.whole main_v1_1).view.dmaCredit, (slot 0).view.dmaCredit]
/-- The array that a semaphore is for. -/
def array : Fin 21 → Fin 3 := ![0, 1, 0, 1, 2, 2, 2, 2, 2, 2, 2, 2, 2, 2, 2, 2, 2, 2, 0, 1, 2]

def moves : Moves nD sig (Fin 21) where
  sem s := .dma s
  sem_inj := by decide
  amt s := credit (array s)
  amt_pos s := by
    have h : ∀ t, 0 < credit t := by
      have h0 := (Memref.whole main_v1_0).view.dmaCredit_pos (by decide)
      have h1 := (Memref.whole main_v1_1).view.dmaCredit_pos (by decide)
      have h2 := (slot 0).view.dmaCredit_pos (by decide)
      intro t; fin_cases t <;> first | exact h0 | exact h1 | exact h2
    exact h _
  dest := ![.refl _, .refl _, perm 1, perm 1, .refl _, .refl _, .refl _, .refl _, .refl _, .refl _, .refl _,
    perm 1, perm 2, perm 3, perm 4, perm 5, perm 6, perm 7, .refl _, .refl _, .refl _]
  far := ![false, false, true, true, false, false, false, false, false, false, false, true, true, true, true, true, true, true, false, false, false]
  copy := copy
  lend := ![0, 0, 0, 0, 0, 0, 0, 0, 0, 0, 0, 1, 2, 3, 4, 5, 6, 7, 1, 1, 0]

theorem body (m : Mem nD τ sig (Elt F)) (c : Dev nD) (κ : Dev nD × Fin 21 → ℕ) (t : Fin cfg0.N) :
    (moves.plan m).State κ c Finset.univ (moves.plan m).fars Finset.univ ∅ ∅
      ⊢ wp frame (wpE (defs₀ (F := F)) Variants.none (c.tc : Thread nD τ) none) Set.univ (bodyAt0 t)
        fun _ => (moves.plan m).State κ c ∅ ∅ ∅ Finset.univ Finset.univ := by
  rw [show (moves.plan m).fars = {2, 3, 11, 12, 13, 14, 15, 16, 17} from
    show (Finset.univ.filter fun s => moves.far s = true) = {2, 3, 11, 12, 13, 14, 15, 16, 17} by decide]
  simp only [bodyAt0, cc0_pair_exchange_eq_skeleton]
  unfold cc0_pair_exchange_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  refine Moves.wp_local defs₀ Variants.none 20 rfl rfl rfl rfl rfl (by decide) (by decide) ?_
  refine Moves.wp_local defs₀ Variants.none 18 rfl rfl rfl rfl rfl (by decide) (by decide) ?_
  refine Moves.wp_remote defs₀ Variants.none 2 0 _ rfl rfl rfl rfl (dev1_eq c).symm rfl rfl rfl rfl rfl (by decide) (by decide) (by decide) ?_
  refine Moves.wp_local defs₀ Variants.none 19 rfl rfl rfl rfl rfl (by decide) (by decide) ?_
  refine Moves.wp_remote defs₀ Variants.none 3 1 _ rfl rfl rfl rfl (dev2_eq c).symm rfl rfl rfl rfl rfl (by decide) (by decide) (by decide) ?_
  refine Moves.wp_remote defs₀ Variants.none 11 4 _ rfl rfl rfl rfl (dev3_eq c).symm rfl rfl rfl rfl rfl (by decide) (by decide) (by decide) ?_
  refine Moves.wp_remote defs₀ Variants.none 12 5 _ rfl rfl rfl rfl (dev4_eq c).symm rfl rfl rfl rfl rfl (by decide) (by decide) (by decide) ?_
  refine Moves.wp_remote defs₀ Variants.none 13 6 _ rfl rfl rfl rfl (dev5_eq c).symm rfl rfl rfl rfl rfl (by decide) (by decide) (by decide) ?_
  refine Moves.wp_remote defs₀ Variants.none 14 7 _ rfl rfl rfl rfl (dev6_eq c).symm rfl rfl rfl rfl rfl (by decide) (by decide) (by decide) ?_
  refine Moves.wp_remote defs₀ Variants.none 15 8 _ rfl rfl rfl rfl (dev7_eq c).symm rfl rfl rfl rfl rfl (by decide) (by decide) (by decide) ?_
  refine Moves.wp_remote defs₀ Variants.none 16 9 _ rfl rfl rfl rfl (dev8_eq c).symm rfl rfl rfl rfl rfl (by decide) (by decide) (by decide) ?_
  refine Moves.wp_remote defs₀ Variants.none 17 10 _ rfl rfl rfl rfl (dev9_eq c).symm rfl rfl rfl rfl rfl (by decide) (by decide) (by decide) ?_
  refine Moves.State_cast defs₀ Variants.none (T' := ∅) (C' := Finset.univ) (A' := Finset.univ) (V' := ∅) (D' := ∅) (by decide) (by decide) rfl rfl rfl ?_
  refine Moves.wp_wait defs₀ Variants.none 2 rfl rfl (by decide) (by decide) (by decide) ?_
  refine Moves.wp_wait defs₀ Variants.none 3 rfl rfl (by decide) (by decide) (by decide) ?_
  refine Moves.wp_wait defs₀ Variants.none 11 rfl rfl (by decide) (by decide) (by decide) ?_
  refine Moves.wp_wait defs₀ Variants.none 12 rfl rfl (by decide) (by decide) (by decide) ?_
  refine Moves.wp_wait defs₀ Variants.none 13 rfl rfl (by decide) (by decide) (by decide) ?_
  refine Moves.wp_wait defs₀ Variants.none 14 rfl rfl (by decide) (by decide) (by decide) ?_
  refine Moves.wp_wait defs₀ Variants.none 15 rfl rfl (by decide) (by decide) (by decide) ?_
  refine Moves.wp_wait defs₀ Variants.none 16 rfl rfl (by decide) (by decide) (by decide) ?_
  refine Moves.wp_wait defs₀ Variants.none 17 rfl rfl (by decide) (by decide) (by decide) ?_
  refine Moves.wp_wait defs₀ Variants.none 0 rfl rfl (by decide) (by decide) (by decide) ?_
  refine Moves.wp_wait defs₀ Variants.none 1 rfl rfl (by decide) (by decide) (by decide) ?_
  refine Moves.wp_wait defs₀ Variants.none 4 rfl rfl (by decide) (by decide) (by decide) ?_
  refine Moves.wp_wait defs₀ Variants.none 5 rfl rfl (by decide) (by decide) (by decide) ?_
  refine Moves.wp_wait defs₀ Variants.none 6 rfl rfl (by decide) (by decide) (by decide) ?_
  refine Moves.wp_wait defs₀ Variants.none 7 rfl rfl (by decide) (by decide) (by decide) ?_
  refine Moves.wp_wait defs₀ Variants.none 8 rfl rfl (by decide) (by decide) (by decide) ?_
  refine Moves.wp_wait defs₀ Variants.none 9 rfl rfl (by decide) (by decide) (by decide) ?_
  refine Moves.wp_wait defs₀ Variants.none 10 rfl rfl (by decide) (by decide) (by decide) ?_
  refine Moves.wp_wait defs₀ Variants.none 20 rfl rfl (by decide) (by decide) (by decide) ?_
  refine Moves.wp_wait defs₀ Variants.none 18 rfl rfl (by decide) (by decide) (by decide) ?_
  refine Moves.wp_wait defs₀ Variants.none 19 rfl rfl (by decide) (by decide) (by decide) ?_
  refine Moves.State_cast defs₀ Variants.none (T' := ∅) (C' := ∅) (A' := ∅) (V' := Finset.univ) (D' := Finset.univ) rfl (by decide) (by decide) (by decide) (by decide) ?_
  rw [wp_ret]
  exact fupd_intro

/-- The slot of a device is the one of its number. -/
theorem slot_off : ∀ c : Dev nD, k0_off1 c = ![c.val, 0, 0] := by decide +kernel
theorem apart_slot {c d : Dev nD} (h : c ≠ d) : Disjoint (slot c).view.set (slot d).view.set :=
  apart_slabs main_v1_4 (⟨0, by decide⟩ : Fin 3) (by
    have h' : c.val ≠ d.val := fun e => h (Fin.ext e)
    rw [slot_off, slot_off]
    show c.val + 1 ≤ d.val ∨ d.val + 1 ≤ c.val
    omega)
/-- The small rows come into a device from eight different devices. -/
theorem senders : ∀ (c : Dev nD), ∀ s ∈ ({11, 12, 13, 14, 15, 16, 17, 20} : Finset (Fin 21)), ∀ s' ∈ ({11, 12, 13, 14, 15, 16, 17, 20} : Finset (Fin 21)), s ≠ s' →
    (moves.dest s).symm c ≠ (moves.dest s').symm c := by decide

/-- A set of one semaphore has no two that differ. -/
theorem alone {s : Fin 21} {p : Fin 21 → Fin 21 → Prop} : ∀ a ∈ ({s} : Finset (Fin 21)), ∀ b ∈ ({s} : Finset (Fin 21)), a ≠ b → p a b :=
  fun _ ha _ hb hne => absurd ((Finset.mem_singleton.mp ha).trans (Finset.mem_singleton.mp hb).symm) hne

/-- The launch's buffers are the places and the sources of the copies, and what is kept of the arguments. -/
theorem hdev (m : Mem nD τ sig (Elt F)) (c : Dev nD) :
    (Pipeline.unscopedRest cfg0.spec c (fun b => m ((c.tc : Thread nD τ).loc b)) : sProp (Res nD τ sig (Elt F)))
      ⊢ iprop(bigSep Finset.univ (moves.place m c) ∗ bigSep Finset.univ (moves.source m c) ∗ Moves.keep m {main_arg0, main_arg1, main_arg2} 8 c) := by
  have ep : ({18} ∪ ({19} ∪ ({2} ∪ ({3} ∪ {11, 12, 13, 14, 15, 16, 17, 20}))) : Finset (Fin 21)) = {2, 3, 11, 12, 13, 14, 15, 16, 17, 18, 19, 20} := by decide
  have es : ({2, 18} ∪ ({3, 19} ∪ {11, 12, 13, 14, 15, 16, 17, 20}) : Finset (Fin 21)) = {2, 3, 11, 12, 13, 14, 15, 16, 17, 18, 19, 20} := by decide
  have hp0 : iprop(((c.tc : Thread nD τ).loc main_v1_0) ↦{fullShare} m ((c.tc : Thread nD τ).loc main_v1_0)) ⊢ bigSep {18} (moves.place m c) :=
    Moves.cut_places _ _ (fun _ => (Memref.whole main_v1_0).view.set) _ (by intro s hs; fin_cases hs; rfl) alone
  have hp1 : iprop(((c.tc : Thread nD τ).loc main_v1_1) ↦{fullShare} m ((c.tc : Thread nD τ).loc main_v1_1)) ⊢ bigSep {19} (moves.place m c) :=
    Moves.cut_places _ _ (fun _ => (Memref.whole main_v1_1).view.set) _ (by intro s hs; fin_cases hs; rfl) alone
  have hp2 : iprop(((c.tc : Thread nD τ).loc main_v1_2) ↦{fullShare} m ((c.tc : Thread nD τ).loc main_v1_2)) ⊢ bigSep {2} (moves.place m c) :=
    Moves.cut_places _ _ (fun _ => (Memref.whole main_v1_2).view.set) _ (by intro s hs; fin_cases hs; rfl) alone
  have hp3 : iprop(((c.tc : Thread nD τ).loc main_v1_3) ↦{fullShare} m ((c.tc : Thread nD τ).loc main_v1_3)) ⊢ bigSep {3} (moves.place m c) :=
    Moves.cut_places _ _ (fun _ => (Memref.whole main_v1_3).view.set) _ (by intro s hs; fin_cases hs; rfl) alone
  have hp4 : iprop(((c.tc : Thread nD τ).loc main_v1_4) ↦{fullShare} m ((c.tc : Thread nD τ).loc main_v1_4)) ⊢ bigSep {11, 12, 13, 14, 15, 16, 17, 20} (moves.place m c) :=
    Moves.cut_places _ _ (fun s => (slot ((moves.dest s).symm c)).view.set) _ (by intro s hs; fin_cases hs <;> rfl)
      fun s hs s' hs' hne => apart_slot (senders c s hs s' hs' hne)
  have hs0 : iprop(((c.tc : Thread nD τ).loc main_arg0) ↦{fullShare} m ((c.tc : Thread nD τ).loc main_arg0))
      ⊢ iprop((((c.tc : Thread nD τ).loc main_arg0) ↦{kept 8} m ((c.tc : Thread nD τ).loc main_arg0)) ∗ bigSep {2, 18} (moves.source m c)) :=
    Moves.lend_sources _ 8 _ (fun s => match s with
      | 2 => (half0 (k0_off3 c) (k0_off3_inb c)).view.set
      | _ => (half0 (k0_off2 c) (k0_off2_inb c)).view.set) moves.lend _ (by intro s hs; fin_cases hs <;> rfl) (by decide) (by decide)
  have hs1 : iprop(((c.tc : Thread nD τ).loc main_arg1) ↦{fullShare} m ((c.tc : Thread nD τ).loc main_arg1))
      ⊢ iprop((((c.tc : Thread nD τ).loc main_arg1) ↦{kept 8} m ((c.tc : Thread nD τ).loc main_arg1)) ∗ bigSep {3, 19} (moves.source m c)) :=
    Moves.lend_sources _ 8 _ (fun s => match s with
      | 3 => (half1 (k0_off5 c) (k0_off5_inb c)).view.set
      | _ => (half1 (k0_off4 c) (k0_off4_inb c)).view.set) moves.lend _ (by intro s hs; fin_cases hs <;> rfl) (by decide) (by decide)
  have hs2 : iprop(((c.tc : Thread nD τ).loc main_arg2) ↦{fullShare} m ((c.tc : Thread nD τ).loc main_arg2))
      ⊢ iprop((((c.tc : Thread nD τ).loc main_arg2) ↦{kept 8} m ((c.tc : Thread nD τ).loc main_arg2)) ∗ bigSep {11, 12, 13, 14, 15, 16, 17, 20} (moves.source m c)) :=
    Moves.lend_sources _ 8 _ (fun _ => (Memref.whole main_arg2).view.set) moves.lend _ (by intro s hs; fin_cases hs <;> rfl) (by decide) (by decide)
  have hp : iprop(bigSep {18} (moves.place m c) ∗ bigSep {19} (moves.place m c) ∗ bigSep {2} (moves.place m c) ∗ bigSep {3} (moves.place m c)
      ∗ bigSep {11, 12, 13, 14, 15, 16, 17, 20} (moves.place m c)) ⊢ bigSep Finset.univ (moves.place m c) := by
    rw [← Moves.bigSep_two (J := {3}) (by decide), ← Moves.bigSep_two (J := {2}) (by decide), ← Moves.bigSep_two (J := {19}) (by decide),
      ← Moves.bigSep_two (J := {18}) (by decide), ep]
    exact Moves.of_part (by intro s hs; fin_cases s <;> first | rfl | exact absurd (by decide) hs)
  have hs : iprop(bigSep {2, 18} (moves.source m c) ∗ bigSep {3, 19} (moves.source m c) ∗ bigSep {11, 12, 13, 14, 15, 16, 17, 20} (moves.source m c))
      ⊢ bigSep Finset.univ (moves.source m c) := by
    rw [← Moves.bigSep_two (J := {3, 19}) (by decide), ← Moves.bigSep_two (J := {2, 18}) (by decide), es]
    exact Moves.of_part (by intro s hs; fin_cases s <;> first | rfl | exact absurd (by decide) hs)
  rw [unscopedRest0_eq]
  unfold Moves.keep
  rw [Moves.bigSep_one_more (by decide), Moves.bigSep_one_more (by decide), BI.bigSep_singleton]
  iintro ⟨HA, HB, HC, HV, HW, HX, HY, HZ⟩
  ihave HV := hp0 $$ HV
  ihave HW := hp1 $$ HW
  ihave HX := hp2 $$ HX
  ihave HY := hp3 $$ HY
  ihave HZ := hp4 $$ HZ
  ihave HA := hs0 $$ HA
  ihave HB := hs1 $$ HB
  ihave HC := hs2 $$ HC
  icases HA with ⟨HA, HSA⟩
  icases HB with ⟨HB, HSB⟩
  icases HC with ⟨HC, HSC⟩
  isplitl [HV HW HX HY HZ]
  · iapply hp
    isplitl [HV]; iassumption
    isplitl [HW]; iassumption
    isplitl [HX]; iassumption
    isplitl [HY] <;> iassumption
  isplitl [HSA HSB HSC]
  · iapply hs
    isplitl [HSA]; iassumption
    isplitl [HSB] <;> iassumption
  isplitl [HA]; iassumption
  isplitl [HB] <;> iassumption

/-- Every copy of the exchange arrives, the arguments are as they were and every counter is back at zero. -/
theorem run_main (m : Mem nD τ sig (Elt F)) (ρ : Dev nD → PrngReg) :
    θ_run defs (onTc (τ := τ) (main (F := F))) ⟨m, fun _ => 0, ρ⟩ fun r =>
      (∀ (c d : Dev nD) (s : Fin 21) (x : Copy sig), moves.copy d s = some x → moves.dest s d = c → x.Arrived m d c r.2.mem)
        ∧ (∀ c : Dev nD, ∀ b ∈ ({main_arg0, main_arg1, main_arg2} : Finset (Ref sig .tc)), r.2.mem ((c.tc : Thread nD τ).loc b) = m ((c.tc : Thread nD τ).loc b))
        ∧ r.2.sem = fun _ => 0 :=
  Moves.run moves m cfgs cellOf_inj 0 (by decide) N_0 winFacts0.to₀ (by decide) scopedRest0_eq (by decide) defs₀ Variants.none ρ main (fun _ => rfl)
    {main_arg0, main_arg1, main_arg2} 8 (hdev m) (body m)

end Cert.PairExchangeIdeal.Exchange

end
-- ==== Proof.Exchange.PairExchangeValue.lean ====
/-
# `pair_exchange`: the results, and the reference's
-/
module

public import proofs.«01_k».proof.Proof.Exchange.PairExchange
public import proofs.«01_k».proof.Defs
public import proofs.«01_k».proof.Proof.Gen.PairExchange
public import proofs.«01_k».proof.Proof.Gen.PairExchangeRef
public import proofs.«01_k».proof.Proof.Gen.PairExchangeRefIdeal
public import proofs.«01_k».proof.Proof.Gen.PairExchangeRefIdeal.Run
public import proofs.«01_k».proof.Proof.Gen.PairExchangeRefIdeal.Read

@[expose] public section

noncomputable section

namespace Cert.PairExchangeIdeal.Exchange

open Idealize.ShloMosaic Idealize.ShloMosaic.TcCoe Idealize.SL.Sem Idealize.ShloMosaic.ValueIdx
open Cert.PairExchangeIdeal Cert.PairExchangeIdeal.Gen Cert.Exchange
open Cert.PairExchangeRefIdeal.Read

variable {F : FTy → Type} [FloatOps F]

/-- Two arrays with a unit axis joined along it: the coordinate there tells which one is read. -/
theorem joined {α : Type} {a b p q : ℕ} (x y : Shape.Idx ⟨5, ![a, 1, b, p, q]⟩ → α)
    (h : Shape.Concatenates [⟨5, ![a, 1, b, p, q]⟩, ⟨5, ![a, 1, b, p, q]⟩] ⟨5, ![a, 2, b, p, q]⟩ 1) (j : Shape.Idx ⟨5, ![a, 2, b, p, q]⟩) :
    concatenate ⟨5, ![a, 2, b, p, q]⟩ 1 [⟨⟨5, ![a, 1, b, p, q]⟩, x⟩, ⟨⟨5, ![a, 1, b, p, q]⟩, y⟩] h j
      = (if (j 1 : ℕ) = 0 then x else y) (ix5 (j 0) (⟨0, Nat.one_pos⟩ : Fin 1) (j 2) (j 3) (j 4)) := by
  have h1 : (j 1 : ℕ) < 2 := (j 1).isLt
  split
  · next e =>
    refine concatenate_pair_apply_left _ x y h j rfl _ fun b => ?_
    match b with
    | ⟨0, _⟩ => rfl
    | ⟨1, _⟩ => exact e.symm
    | ⟨2, _⟩ => rfl
    | ⟨3, _⟩ => rfl
    | ⟨4, _⟩ => rfl
  · next e =>
    refine concatenate_pair_apply_right _ x y h j rfl rfl _ (fun b hb => ?_) ?_
    · match b, hb with
      | ⟨0, _⟩, _ => rfl
      | ⟨1, _⟩, hb => exact absurd rfl hb
      | ⟨2, _⟩, _ => rfl
      | ⟨3, _⟩, _ => rfl
      | ⟨4, _⟩, _ => rfl
    · show 0 + 1 = (j 1 : ℕ)
      omega

/-- The slabs by chip, core and number. -/
theorem fold0 (x : (⟨⟨3, ![32, 1024, 1284]⟩, .f32⟩ : BufTy).Contents (Elt F)) (t : Shape.Idx ⟨5, ![4, 2, 4, 1024, 1284]⟩) (i : Shape.Idx ⟨3, ![32, 1024, 1284]⟩)
    (h0 : (i 0 : ℕ) = ((t 0 : ℕ) * 2 + t 1) * 4 + t 2) (h1 : (i 1 : ℕ) = t 3) (h2 : (i 2 : ℕ) = t 4) : val_main_v0 (F := F) x t = x i := by
  have ht3 : (t 3 : ℕ) < 1024 := (t 3).isLt
  have ht4 : (t 4 : ℕ) < 1284 := (t 4).isLt
  rw [val_main_v0_apply]
  refine congrArg x (funext fun a => Fin.ext ?_)
  match a with
  | ⟨0, _⟩ => refine Eq.trans ?_ h0.symm; dsimp only; omega
  | ⟨1, _⟩ => refine Eq.trans ?_ h1.symm; dsimp only; omega
  | ⟨2, _⟩ => refine Eq.trans ?_ h2.symm; dsimp only; omega

theorem fold1 (x : (⟨⟨3, ![32, 512, 1024]⟩, .f32⟩ : BufTy).Contents (Elt F)) (t : Shape.Idx ⟨5, ![4, 2, 4, 512, 1024]⟩) (i : Shape.Idx ⟨3, ![32, 512, 1024]⟩)
    (h0 : (i 0 : ℕ) = ((t 0 : ℕ) * 2 + t 1) * 4 + t 2) (h1 : (i 1 : ℕ) = t 3) (h2 : (i 2 : ℕ) = t 4) : val_main_v1 (F := F) x t = x i := by
  have ht3 : (t 3 : ℕ) < 512 := (t 3).isLt
  have ht4 : (t 4 : ℕ) < 1024 := (t 4).isLt
  rw [val_main_v1_apply]
  refine congrArg x (funext fun a => Fin.ext ?_)
  match a with
  | ⟨0, _⟩ => refine Eq.trans ?_ h0.symm; dsimp only; omega
  | ⟨1, _⟩ => refine Eq.trans ?_ h1.symm; dsimp only; omega
  | ⟨2, _⟩ => refine Eq.trans ?_ h2.symm; dsimp only; omega

/-- A device keeps the half of its rows that its core names, -/
theorem own0 (x : (⟨⟨3, ![32, 1024, 1284]⟩, .f32⟩ : BufTy).Contents (Elt F)) (j : Shape.Idx ⟨3, ![32, 512, 1284]⟩) (i : Shape.Idx ⟨3, ![32, 1024, 1284]⟩)
    (h0 : (i 0 : ℕ) = j 0) (h1 : (i 1 : ℕ) = 512 * ((j 0 : ℕ) / 4 % 2) + j 1) (h2 : (i 2 : ℕ) = j 2) :
    val_main_v8 (F := F) x j = x i := by
  have hj0 : (j 0 : ℕ) < 32 := (j 0).isLt
  have hj1 : (j 1 : ℕ) < 512 := (j 1).isLt
  have hj2 : (j 2 : ℕ) < 1284 := (j 2).isLt
  have e0 : (idx_main_v8 j 0 : ℕ) = (j 0 : ℕ) / 8 := by dsimp only; omega
  have e1 : (idx_main_v8 j 1 : ℕ) = (j 0 : ℕ) / 4 % 2 := by dsimp only; omega
  have e2 : (idx_main_v8 j 2 : ℕ) = (j 0 : ℕ) % 4 := by dsimp only; omega
  have e3 : (idx_main_v8 j 3 : ℕ) = j 1 := by dsimp only; omega
  have e4 : (idx_main_v8 j 4 : ℕ) = j 2 := by dsimp only; omega
  rw [val_main_v8_apply]
  unfold val_main_v7
  rw [joined, e1]
  generalize idx_main_v8 j = t at e0 e1 e2 e3 e4 ⊢
  split <;> [rw [val_main_v5_apply]; rw [val_main_v6_apply]] <;> refine fold0 x _ _ ?_ ?_ ?_ <;> dsimp only [ix5] <;> omega

theorem own1 (x : (⟨⟨3, ![32, 512, 1024]⟩, .f32⟩ : BufTy).Contents (Elt F)) (j : Shape.Idx ⟨3, ![32, 256, 1024]⟩) (i : Shape.Idx ⟨3, ![32, 512, 1024]⟩)
    (h0 : (i 0 : ℕ) = j 0) (h1 : (i 1 : ℕ) = 256 * ((j 0 : ℕ) / 4 % 2) + j 1) (h2 : (i 2 : ℕ) = j 2) :
    val_main_v12 (F := F) x j = x i := by
  have hj0 : (j 0 : ℕ) < 32 := (j 0).isLt
  have hj1 : (j 1 : ℕ) < 256 := (j 1).isLt
  have hj2 : (j 2 : ℕ) < 1024 := (j 2).isLt
  have e0 : (idx_main_v12 j 0 : ℕ) = (j 0 : ℕ) / 8 := by dsimp only; omega
  have e1 : (idx_main_v12 j 1 : ℕ) = (j 0 : ℕ) / 4 % 2 := by dsimp only; omega
  have e2 : (idx_main_v12 j 2 : ℕ) = (j 0 : ℕ) % 4 := by dsimp only; omega
  have e3 : (idx_main_v12 j 3 : ℕ) = j 1 := by dsimp only; omega
  have e4 : (idx_main_v12 j 4 : ℕ) = j 2 := by dsimp only; omega
  rw [val_main_v12_apply]
  unfold val_main_v11
  rw [joined, e1]
  generalize idx_main_v12 j = t at e0 e1 e2 e3 e4 ⊢
  split <;> [rw [val_main_v9_apply]; rw [val_main_v10_apply]] <;> refine fold1 x _ _ ?_ ?_ ?_ <;> dsimp only [ix5] <;> omega

/-- and gets the same half of its sibling's. -/
theorem other0 (x : (⟨⟨3, ![32, 1024, 1284]⟩, .f32⟩ : BufTy).Contents (Elt F)) (j : Shape.Idx ⟨3, ![32, 512, 1284]⟩) (i : Shape.Idx ⟨3, ![32, 1024, 1284]⟩)
    (h0 : (i 0 : ℕ) = (j 0 : ℕ) + 4 - 8 * ((j 0 : ℕ) / 4 % 2)) (h1 : (i 1 : ℕ) = 512 * ((j 0 : ℕ) / 4 % 2) + j 1) (h2 : (i 2 : ℕ) = j 2) :
    val_main_v16 (F := F) x j = x i := by
  have hj0 : (j 0 : ℕ) < 32 := (j 0).isLt
  have hj1 : (j 1 : ℕ) < 512 := (j 1).isLt
  have hj2 : (j 2 : ℕ) < 1284 := (j 2).isLt
  have e0 : (idx_main_v16 j 0 : ℕ) = (j 0 : ℕ) / 8 := by dsimp only; omega
  have e1 : (idx_main_v16 j 1 : ℕ) = (j 0 : ℕ) / 4 % 2 := by dsimp only; omega
  have e2 : (idx_main_v16 j 2 : ℕ) = (j 0 : ℕ) % 4 := by dsimp only; omega
  have e3 : (idx_main_v16 j 3 : ℕ) = j 1 := by dsimp only; omega
  have e4 : (idx_main_v16 j 4 : ℕ) = j 2 := by dsimp only; omega
  rw [val_main_v16_apply]
  unfold val_main_v15
  rw [joined, e1]
  generalize idx_main_v16 j = t at e0 e1 e2 e3 e4 ⊢
  split <;> [rw [val_main_v13_apply]; rw [val_main_v14_apply]] <;> refine fold0 x _ _ ?_ ?_ ?_ <;> dsimp only [ix5] <;> omega

theorem other1 (x : (⟨⟨3, ![32, 512, 1024]⟩, .f32⟩ : BufTy).Contents (Elt F)) (j : Shape.Idx ⟨3, ![32, 256, 1024]⟩) (i : Shape.Idx ⟨3, ![32, 512, 1024]⟩)
    (h0 : (i 0 : ℕ) = (j 0 : ℕ) + 4 - 8 * ((j 0 : ℕ) / 4 % 2)) (h1 : (i 1 : ℕ) = 256 * ((j 0 : ℕ) / 4 % 2) + j 1) (h2 : (i 2 : ℕ) = j 2) :
    val_main_v20 (F := F) x j = x i := by
  have hj0 : (j 0 : ℕ) < 32 := (j 0).isLt
  have hj1 : (j 1 : ℕ) < 256 := (j 1).isLt
  have hj2 : (j 2 : ℕ) < 1024 := (j 2).isLt
  have e0 : (idx_main_v20 j 0 : ℕ) = (j 0 : ℕ) / 8 := by dsimp only; omega
  have e1 : (idx_main_v20 j 1 : ℕ) = (j 0 : ℕ) / 4 % 2 := by dsimp only; omega
  have e2 : (idx_main_v20 j 2 : ℕ) = (j 0 : ℕ) % 4 := by dsimp only; omega
  have e3 : (idx_main_v20 j 3 : ℕ) = j 1 := by dsimp only; omega
  have e4 : (idx_main_v20 j 4 : ℕ) = j 2 := by dsimp only; omega
  rw [val_main_v20_apply]
  unfold val_main_v19
  rw [joined, e1]
  generalize idx_main_v20 j = t at e0 e1 e2 e3 e4 ⊢
  split <;> [rw [val_main_v17_apply]; rw [val_main_v18_apply]] <;> refine fold1 x _ _ ?_ ?_ ?_ <;> dsimp only [ix5] <;> omega

/-- Every device gets the small rows of all eight. -/
theorem every (x : (⟨⟨2, ![64, 6784]⟩, .f32⟩ : BufTy).Contents (Elt F)) (j : Shape.Idx ⟨3, ![64, 8, 6784]⟩) (i : Shape.Idx ⟨2, ![64, 6784]⟩)
    (h0 : (i 0 : ℕ) = 8 * ((j 0 : ℕ) % 8) + j 1) (h1 : (i 1 : ℕ) = j 2) : val_main_v4 (F := F) x j = x i := by
  have hj0 : (j 0 : ℕ) < 64 := (j 0).isLt
  have hj1 : (j 1 : ℕ) < 8 := (j 1).isLt
  have hj2 : (j 2 : ℕ) < 6784 := (j 2).isLt
  rw [val_main_v4_apply, val_main_v3_apply, val_main_v2_apply]
  refine congrArg x (funext fun a => Fin.ext ?_)
  match a with
  | ⟨0, _⟩ => refine Eq.trans ?_ h0.symm; dsimp only; omega
  | ⟨1, _⟩ => refine Eq.trans ?_ h1.symm; dsimp only; omega

/-- The small rows of `d` come to `c` by one of eight copies. -/
theorem sender : ∀ c d : Dev nD, ∃ s ∈ ({11, 12, 13, 14, 15, 16, 17, 20} : Finset (Fin 21)), moves.dest s d = c := by decide
theorem of_rows (d : Dev nD) : ∀ s ∈ ({11, 12, 13, 14, 15, 16, 17, 20} : Finset (Fin 21)), moves.copy d s = some (rows d) := by
  intro s hs; fin_cases hs <;> rfl

section Results

variable {m m' : Mem nD τ sig (Elt F)}
  (harr : ∀ (c d : Dev nD) (s : Fin 21) (x : Copy sig), moves.copy d s = some x → moves.dest s d = c → x.Arrived m d c m')

include harr

theorem result0 (x : (⟨⟨3, ![32, 1024, 1284]⟩, .f32⟩ : BufTy).Contents (Elt F))
    (hm : ∀ d : Dev nD, m ((d.tc : Thread nD τ).loc main_arg0) = Layout.block ⟨3, ![4, 1024, 1284]⟩ ⟨3, ![32, 1024, 1284]⟩ 0 8 d x) (c : Dev nD) :
    m' ((c.tc : Thread nD τ).loc main_v1_0) = Layout.block ⟨3, ![4, 512, 1284]⟩ ⟨3, ![32, 512, 1284]⟩ 0 8 c (val_main_v8 (F := F) x) := by
  funext j
  have hc : c.val < 8 := c.isLt
  have hj0 : ((j : Shape.Idx S4x512x1284) 0 : ℕ) < 4 := (j 0).isLt
  have hj1 : ((j : Shape.Idx S4x512x1284) 1 : ℕ) < 512 := (j 1).isLt
  have hA : ∀ i : Shape.Idx S4x512x1284, m' ((c.tc : Thread nD τ).loc main_v1_0) i
      = m ((c.tc : Thread nD τ).loc main_arg0) ((half0 (k0_off2 c) (k0_off2_inb c)).view.emb i) := harr c c 18 _ rfl rfl
  have hs : (half0 (k0_off2 c) (k0_off2_inb c)).view.emb j = (ix3 ((j : Shape.Idx S4x512x1284) 0) (⟨512 * (c.val % 2) + ((j : Shape.Idx S4x512x1284) 1 : ℕ), by omega⟩ : Fin 1024) ((j : Shape.Idx S4x512x1284) 2) : Shape.Idx S4x1024x1284) := by
    refine at_window main_arg0 (off' := ![0, 512 * (c.val % 2), 0]) (k0_off2_eq c) _ _ fun a => ?_
    match a with
    | ⟨0, _⟩ => exact Nat.zero_add _
    | ⟨1, _⟩ => rfl
    | ⟨2, _⟩ => exact Nat.zero_add _
  rw [hA, hm c, hs]
  refine (own0 x _ _ ?_ ?_ ?_).symm
  · rw [Layout.Tiles.idx_val, Layout.Tiles.idx_val]
    show c.val * 4 + ((j : Shape.Idx S4x512x1284) 0 : ℕ) = c.val * 4 + ((j : Shape.Idx S4x512x1284) 0 : ℕ)
    rfl
  · rw [Layout.Tiles.idx_val, Layout.Tiles.idx_val, Layout.Tiles.idx_val]
    show 512 * (c.val % 2) + ((j : Shape.Idx S4x512x1284) 1 : ℕ) = 512 * ((c.val * 4 + ((j : Shape.Idx S4x512x1284) 0 : ℕ)) / 4 % 2) + ((j : Shape.Idx S4x512x1284) 1 : ℕ)
    omega
  · rfl

theorem result1 (x : (⟨⟨3, ![32, 512, 1024]⟩, .f32⟩ : BufTy).Contents (Elt F))
    (hm : ∀ d : Dev nD, m ((d.tc : Thread nD τ).loc main_arg1) = Layout.block ⟨3, ![4, 512, 1024]⟩ ⟨3, ![32, 512, 1024]⟩ 0 8 d x) (c : Dev nD) :
    m' ((c.tc : Thread nD τ).loc main_v1_1) = Layout.block ⟨3, ![4, 256, 1024]⟩ ⟨3, ![32, 256, 1024]⟩ 0 8 c (val_main_v12 (F := F) x) := by
  funext j
  have hc : c.val < 8 := c.isLt
  have hj0 : ((j : Shape.Idx S4x256x1024) 0 : ℕ) < 4 := (j 0).isLt
  have hj1 : ((j : Shape.Idx S4x256x1024) 1 : ℕ) < 256 := (j 1).isLt
  have hA : ∀ i : Shape.Idx S4x256x1024, m' ((c.tc : Thread nD τ).loc main_v1_1) i
      = m ((c.tc : Thread nD τ).loc main_arg1) ((half1 (k0_off4 c) (k0_off4_inb c)).view.emb i) := harr c c 19 _ rfl rfl
  have hs : (half1 (k0_off4 c) (k0_off4_inb c)).view.emb j = (ix3 ((j : Shape.Idx S4x256x1024) 0) (⟨256 * (c.val % 2) + ((j : Shape.Idx S4x256x1024) 1 : ℕ), by omega⟩ : Fin 512) ((j : Shape.Idx S4x256x1024) 2) : Shape.Idx S4x512x1024) := by
    refine at_window main_arg1 (off' := ![0, 256 * (c.val % 2), 0]) (k0_off4_eq c) _ _ fun a => ?_
    match a with
    | ⟨0, _⟩ => exact Nat.zero_add _
    | ⟨1, _⟩ => rfl
    | ⟨2, _⟩ => exact Nat.zero_add _
  rw [hA, hm c, hs]
  refine (own1 x _ _ ?_ ?_ ?_).symm
  · rw [Layout.Tiles.idx_val, Layout.Tiles.idx_val]
    show c.val * 4 + ((j : Shape.Idx S4x256x1024) 0 : ℕ) = c.val * 4 + ((j : Shape.Idx S4x256x1024) 0 : ℕ)
    rfl
  · rw [Layout.Tiles.idx_val, Layout.Tiles.idx_val, Layout.Tiles.idx_val]
    show 256 * (c.val % 2) + ((j : Shape.Idx S4x256x1024) 1 : ℕ) = 256 * ((c.val * 4 + ((j : Shape.Idx S4x256x1024) 0 : ℕ)) / 4 % 2) + ((j : Shape.Idx S4x256x1024) 1 : ℕ)
    omega
  · rfl

theorem result2 (x : (⟨⟨3, ![32, 1024, 1284]⟩, .f32⟩ : BufTy).Contents (Elt F))
    (hm : ∀ d : Dev nD, m ((d.tc : Thread nD τ).loc main_arg0) = Layout.block ⟨3, ![4, 1024, 1284]⟩ ⟨3, ![32, 1024, 1284]⟩ 0 8 d x) (c : Dev nD) :
    m' ((c.tc : Thread nD τ).loc main_v1_2) = Layout.block ⟨3, ![4, 512, 1284]⟩ ⟨3, ![32, 512, 1284]⟩ 0 8 c (val_main_v16 (F := F) x) := by
  funext j
  have hc : c.val < 8 := c.isLt
  have hj0 : ((j : Shape.Idx S4x512x1284) 0 : ℕ) < 4 := (j 0).isLt
  have hj1 : ((j : Shape.Idx S4x512x1284) 1 : ℕ) < 512 := (j 1).isLt
  have hd : ∀ c : Dev nD, (across 1 c).val = c.val + 1 - 2 * (c.val % 2) := by decide
  have hA : ∀ i : Shape.Idx S4x512x1284, m' ((c.tc : Thread nD τ).loc main_v1_2) i
      = m (((across 1 c).tc : Thread nD τ).loc main_arg0) ((half0 (k0_off3 (across 1 c)) (k0_off3_inb (across 1 c))).view.emb i) := harr c (across 1 c) 2 _ rfl (across_across 1 c)
  have hs : (half0 (k0_off3 (across 1 c)) (k0_off3_inb (across 1 c))).view.emb j = (ix3 ((j : Shape.Idx S4x512x1284) 0) (⟨512 * (c.val % 2) + ((j : Shape.Idx S4x512x1284) 1 : ℕ), by omega⟩ : Fin 1024) ((j : Shape.Idx S4x512x1284) 2) : Shape.Idx S4x1024x1284) := by
    refine at_window main_arg0 (off' := ![0, 512 * (c.val % 2), 0]) ((k0_off3_eq (across 1 c)).trans (congrArg (![0, ·, 0]) (show _ = 512 * (c.val % 2) by rw [hd]; have h : c.val < 8 := c.isLt; omega))) _ _ fun a => ?_
    match a with
    | ⟨0, _⟩ => exact Nat.zero_add _
    | ⟨1, _⟩ => rfl
    | ⟨2, _⟩ => exact Nat.zero_add _
  rw [hA, hm (across 1 c), hs]
  refine (other0 x _ _ ?_ ?_ ?_).symm
  · rw [Layout.Tiles.idx_val, Layout.Tiles.idx_val]
    show (across 1 c).val * 4 + ((j : Shape.Idx S4x512x1284) 0 : ℕ) = c.val * 4 + ((j : Shape.Idx S4x512x1284) 0 : ℕ) + 4 - 8 * ((c.val * 4 + ((j : Shape.Idx S4x512x1284) 0 : ℕ)) / 4 % 2)
    rw [hd]; omega
  · rw [Layout.Tiles.idx_val, Layout.Tiles.idx_val, Layout.Tiles.idx_val]
    show 512 * (c.val % 2) + ((j : Shape.Idx S4x512x1284) 1 : ℕ) = 512 * ((c.val * 4 + ((j : Shape.Idx S4x512x1284) 0 : ℕ)) / 4 % 2) + ((j : Shape.Idx S4x512x1284) 1 : ℕ)
    omega
  · rfl

theorem result3 (x : (⟨⟨3, ![32, 512, 1024]⟩, .f32⟩ : BufTy).Contents (Elt F))
    (hm : ∀ d : Dev nD, m ((d.tc : Thread nD τ).loc main_arg1) = Layout.block ⟨3, ![4, 512, 1024]⟩ ⟨3, ![32, 512, 1024]⟩ 0 8 d x) (c : Dev nD) :
    m' ((c.tc : Thread nD τ).loc main_v1_3) = Layout.block ⟨3, ![4, 256, 1024]⟩ ⟨3, ![32, 256, 1024]⟩ 0 8 c (val_main_v20 (F := F) x) := by
  funext j
  have hc : c.val < 8 := c.isLt
  have hj0 : ((j : Shape.Idx S4x256x1024) 0 : ℕ) < 4 := (j 0).isLt
  have hj1 : ((j : Shape.Idx S4x256x1024) 1 : ℕ) < 256 := (j 1).isLt
  have hd : ∀ c : Dev nD, (across 1 c).val = c.val + 1 - 2 * (c.val % 2) := by decide
  have hA : ∀ i : Shape.Idx S4x256x1024, m' ((c.tc : Thread nD τ).loc main_v1_3) i
      = m (((across 1 c).tc : Thread nD τ).loc main_arg1) ((half1 (k0_off5 (across 1 c)) (k0_off5_inb (across 1 c))).view.emb i) := harr c (across 1 c) 3 _ rfl (across_across 1 c)
  have hs : (half1 (k0_off5 (across 1 c)) (k0_off5_inb (across 1 c))).view.emb j = (ix3 ((j : Shape.Idx S4x256x1024) 0) (⟨256 * (c.val % 2) + ((j : Shape.Idx S4x256x1024) 1 : ℕ), by omega⟩ : Fin 512) ((j : Shape.Idx S4x256x1024) 2) : Shape.Idx S4x512x1024) := by
    refine at_window main_arg1 (off' := ![0, 256 * (c.val % 2), 0]) ((k0_off5_eq (across 1 c)).trans (congrArg (![0, ·, 0]) (show _ = 256 * (c.val % 2) by rw [hd]; have h : c.val < 8 := c.isLt; omega))) _ _ fun a => ?_
    match a with
    | ⟨0, _⟩ => exact Nat.zero_add _
    | ⟨1, _⟩ => rfl
    | ⟨2, _⟩ => exact Nat.zero_add _
  rw [hA, hm (across 1 c), hs]
  refine (other1 x _ _ ?_ ?_ ?_).symm
  · rw [Layout.Tiles.idx_val, Layout.Tiles.idx_val]
    show (across 1 c).val * 4 + ((j : Shape.Idx S4x256x1024) 0 : ℕ) = c.val * 4 + ((j : Shape.Idx S4x256x1024) 0 : ℕ) + 4 - 8 * ((c.val * 4 + ((j : Shape.Idx S4x256x1024) 0 : ℕ)) / 4 % 2)
    rw [hd]; omega
  · rw [Layout.Tiles.idx_val, Layout.Tiles.idx_val, Layout.Tiles.idx_val]
    show 256 * (c.val % 2) + ((j : Shape.Idx S4x256x1024) 1 : ℕ) = 256 * ((c.val * 4 + ((j : Shape.Idx S4x256x1024) 0 : ℕ)) / 4 % 2) + ((j : Shape.Idx S4x256x1024) 1 : ℕ)
    omega
  · rfl

theorem result4 (x : (⟨⟨2, ![64, 6784]⟩, .f32⟩ : BufTy).Contents (Elt F))
    (hm : ∀ d : Dev nD, m ((d.tc : Thread nD τ).loc main_arg2) = Layout.block ⟨2, ![8, 6784]⟩ ⟨2, ![64, 6784]⟩ 0 8 d x) (c : Dev nD) :
    m' ((c.tc : Thread nD τ).loc main_v1_4) = Layout.block ⟨3, ![8, 8, 6784]⟩ ⟨3, ![64, 8, 6784]⟩ 0 8 c (val_main_v4 (F := F) x) := by
  funext j
  have hc : c.val < 8 := c.isLt
  have hj0 : ((j : Shape.Idx S8x8x6784) 0 : ℕ) < 8 := (j 0).isLt
  let d : Dev nD := (j : Shape.Idx S8x8x6784) 0
  obtain ⟨s, hs, hto⟩ := sender c d
  have hA : ∀ i : Shape.Idx S8x6784, m' ((c.tc : Thread nD τ).loc main_v1_4) ((slot d).view.emb i) = m ((d.tc : Thread nD τ).loc main_arg2) i :=
    harr c d s _ (of_rows d s hs) hto
  have hj : (slot d).view.emb (ix2 ((j : Shape.Idx S8x8x6784) 1) ((j : Shape.Idx S8x8x6784) 2)) = j := by
    refine at_slab main_v1_4 (slot_off d) _ (ix3 (0 : Fin 1) ((j : Shape.Idx S8x8x6784) 1) ((j : Shape.Idx S8x8x6784) 2)) (flat _ _) _ fun a => ?_
    match a with
    | ⟨0, _⟩ => exact Nat.add_zero _
    | ⟨1, _⟩ => exact Nat.zero_add _
    | ⟨2, _⟩ => exact Nat.zero_add _
  rw [← hj, hA, hm d, hj]
  refine (every x _ _ ?_ ?_).symm
  · rw [Layout.Tiles.idx_val, Layout.Tiles.idx_val, Layout.Tiles.idx_val]
    show ((j : Shape.Idx S8x8x6784) 0 : ℕ) * 8 + ((j : Shape.Idx S8x8x6784) 1 : ℕ) = 8 * ((c.val * 8 + ((j : Shape.Idx S8x8x6784) 0 : ℕ)) % 8) + ((j : Shape.Idx S8x8x6784) 1 : ℕ)
    omega
  · rfl

end Results

/-! ## The statements, over any float values -/

/-- From blocks of one machine's arrays the devices end with blocks of that machine's results. -/
theorem matches_ref (m : Mem nD τ sig (Elt F)) (g : Dev nD → PrngReg)
    (m' : Mem Cert.PairExchangeRefIdeal.nD Cert.PairExchangeRefIdeal.τ Cert.PairExchangeRefIdeal.sig (Elt F)) (g' : Dev Cert.PairExchangeRefIdeal.nD → PrngReg)
    (hm : ∀ c : Dev nD,
      m ((c.tc : Thread nD τ).loc main_arg0) = Layout.block ⟨3, ![4, 1024, 1284]⟩ ⟨3, ![32, 1024, 1284]⟩ 0 8 c (m' (((0 : Dev Cert.PairExchangeRefIdeal.nD).tc : Thread Cert.PairExchangeRefIdeal.nD Cert.PairExchangeRefIdeal.τ).loc Cert.PairExchangeRefIdeal.main_arg0))
      ∧ m ((c.tc : Thread nD τ).loc main_arg1) = Layout.block ⟨3, ![4, 512, 1024]⟩ ⟨3, ![32, 512, 1024]⟩ 0 8 c (m' (((0 : Dev Cert.PairExchangeRefIdeal.nD).tc : Thread Cert.PairExchangeRefIdeal.nD Cert.PairExchangeRefIdeal.τ).loc Cert.PairExchangeRefIdeal.main_arg1))
      ∧ m ((c.tc : Thread nD τ).loc main_arg2) = Layout.block ⟨2, ![8, 6784]⟩ ⟨2, ![64, 6784]⟩ 0 8 c (m' (((0 : Dev Cert.PairExchangeRefIdeal.nD).tc : Thread Cert.PairExchangeRefIdeal.nD Cert.PairExchangeRefIdeal.τ).loc Cert.PairExchangeRefIdeal.main_arg2))) :
    ∃ (v0 : Buf (Elt F) (((0 : Dev Cert.PairExchangeRefIdeal.nD).tc : Thread Cert.PairExchangeRefIdeal.nD Cert.PairExchangeRefIdeal.τ).loc Cert.PairExchangeRefIdeal.main_v8))
      (v1 : Buf (Elt F) (((0 : Dev Cert.PairExchangeRefIdeal.nD).tc : Thread Cert.PairExchangeRefIdeal.nD Cert.PairExchangeRefIdeal.τ).loc Cert.PairExchangeRefIdeal.main_v12))
      (v2 : Buf (Elt F) (((0 : Dev Cert.PairExchangeRefIdeal.nD).tc : Thread Cert.PairExchangeRefIdeal.nD Cert.PairExchangeRefIdeal.τ).loc Cert.PairExchangeRefIdeal.main_v16))
      (v3 : Buf (Elt F) (((0 : Dev Cert.PairExchangeRefIdeal.nD).tc : Thread Cert.PairExchangeRefIdeal.nD Cert.PairExchangeRefIdeal.τ).loc Cert.PairExchangeRefIdeal.main_v20))
      (v4 : Buf (Elt F) (((0 : Dev Cert.PairExchangeRefIdeal.nD).tc : Thread Cert.PairExchangeRefIdeal.nD Cert.PairExchangeRefIdeal.τ).loc Cert.PairExchangeRefIdeal.main_v4)),
      θ_run defs (onTc (τ := τ) (main (F := F))) ⟨m, fun _ => 0, g⟩ (fun r => ∀ c : Dev nD,
          r.2.mem ((c.tc : Thread nD τ).loc main_v1_0) = Layout.block ⟨3, ![4, 512, 1284]⟩ ⟨3, ![32, 512, 1284]⟩ 0 8 c v0
          ∧ r.2.mem ((c.tc : Thread nD τ).loc main_v1_1) = Layout.block ⟨3, ![4, 256, 1024]⟩ ⟨3, ![32, 256, 1024]⟩ 0 8 c v1
          ∧ r.2.mem ((c.tc : Thread nD τ).loc main_v1_2) = Layout.block ⟨3, ![4, 512, 1284]⟩ ⟨3, ![32, 512, 1284]⟩ 0 8 c v2
          ∧ r.2.mem ((c.tc : Thread nD τ).loc main_v1_3) = Layout.block ⟨3, ![4, 256, 1024]⟩ ⟨3, ![32, 256, 1024]⟩ 0 8 c v3
          ∧ r.2.mem ((c.tc : Thread nD τ).loc main_v1_4) = Layout.block ⟨3, ![8, 8, 6784]⟩ ⟨3, ![64, 8, 6784]⟩ 0 8 c v4
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run Cert.PairExchangeRefIdeal.defs (onTc (τ := Cert.PairExchangeRefIdeal.τ) (Cert.PairExchangeRefIdeal.main (F := F))) ⟨m', fun _ => 0, g'⟩ (fun r =>
          r.2.mem (((0 : Dev Cert.PairExchangeRefIdeal.nD).tc : Thread Cert.PairExchangeRefIdeal.nD Cert.PairExchangeRefIdeal.τ).loc Cert.PairExchangeRefIdeal.main_v8) = v0
          ∧ r.2.mem (((0 : Dev Cert.PairExchangeRefIdeal.nD).tc : Thread Cert.PairExchangeRefIdeal.nD Cert.PairExchangeRefIdeal.τ).loc Cert.PairExchangeRefIdeal.main_v12) = v1
          ∧ r.2.mem (((0 : Dev Cert.PairExchangeRefIdeal.nD).tc : Thread Cert.PairExchangeRefIdeal.nD Cert.PairExchangeRefIdeal.τ).loc Cert.PairExchangeRefIdeal.main_v16) = v2
          ∧ r.2.mem (((0 : Dev Cert.PairExchangeRefIdeal.nD).tc : Thread Cert.PairExchangeRefIdeal.nD Cert.PairExchangeRefIdeal.τ).loc Cert.PairExchangeRefIdeal.main_v20) = v3
          ∧ r.2.mem (((0 : Dev Cert.PairExchangeRefIdeal.nD).tc : Thread Cert.PairExchangeRefIdeal.nD Cert.PairExchangeRefIdeal.τ).loc Cert.PairExchangeRefIdeal.main_v4) = v4
          ∧ r.2.mem (((0 : Dev Cert.PairExchangeRefIdeal.nD).tc : Thread Cert.PairExchangeRefIdeal.nD Cert.PairExchangeRefIdeal.τ).loc Cert.PairExchangeRefIdeal.main_arg0) = m' (((0 : Dev Cert.PairExchangeRefIdeal.nD).tc : Thread Cert.PairExchangeRefIdeal.nD Cert.PairExchangeRefIdeal.τ).loc Cert.PairExchangeRefIdeal.main_arg0)
          ∧ r.2.mem (((0 : Dev Cert.PairExchangeRefIdeal.nD).tc : Thread Cert.PairExchangeRefIdeal.nD Cert.PairExchangeRefIdeal.τ).loc Cert.PairExchangeRefIdeal.main_arg1) = m' (((0 : Dev Cert.PairExchangeRefIdeal.nD).tc : Thread Cert.PairExchangeRefIdeal.nD Cert.PairExchangeRefIdeal.τ).loc Cert.PairExchangeRefIdeal.main_arg1)
          ∧ r.2.mem (((0 : Dev Cert.PairExchangeRefIdeal.nD).tc : Thread Cert.PairExchangeRefIdeal.nD Cert.PairExchangeRefIdeal.τ).loc Cert.PairExchangeRefIdeal.main_arg2) = m' (((0 : Dev Cert.PairExchangeRefIdeal.nD).tc : Thread Cert.PairExchangeRefIdeal.nD Cert.PairExchangeRefIdeal.τ).loc Cert.PairExchangeRefIdeal.main_arg2)) :=
  ⟨_, _, _, _, _,
    (θ_run _ _ _).mono (fun r h c => ⟨result0 h.1 _ (fun d => (hm d).1) c, result1 h.1 _ (fun d => (hm d).2.1) c,
      result2 h.1 _ (fun d => (hm d).1) c, result3 h.1 _ (fun d => (hm d).2.1) c, result4 h.1 _ (fun d => (hm d).2.2) c,
      h.2.1 c main_arg0 (by decide), h.2.1 c main_arg1 (by decide), h.2.1 c main_arg2 (by decide)⟩) (run_main m g),
    (θ_run _ _ _).mono (fun r h => h 0) (Cert.PairExchangeRefIdeal.Value.run m' g')⟩

/-- The reference has no semaphore. -/
theorem ref_quiet {α : Type} (s t : GSem Cert.PairExchangeRefIdeal.nD Cert.PairExchangeRefIdeal.τ Cert.PairExchangeRefIdeal.sig → α) : s = t := by
  funext q
  rcases q with ⟨_, (q | q)⟩ <;> exact q.elim0

end Cert.PairExchangeIdeal.Exchange

open Idealize.ShloMosaic Idealize.ShloMosaic.TcCoe Idealize.SL.Sem Cert.PairExchangeIdeal.Exchange

theorem frame_PairExchangeIdeal : Cert.quiescent_PairExchangeIdeal := fun m g _ =>
  (θ_run Cert.PairExchangeIdeal.defs _ _).mono (fun _ h => ⟨fun c => ⟨h.2.1 c _ (by decide), h.2.1 c _ (by decide), h.2.1 c _ (by decide)⟩, h.2.2⟩) (run_main (F := Ideal) m g)
theorem frame_PairExchange : Cert.quiescent_PairExchange := fun m g _ =>
  (θ_run Cert.PairExchangeIdeal.defs _ _).mono (fun _ h => ⟨fun c => ⟨h.2.1 c _ (by decide), h.2.1 c _ (by decide), h.2.1 c _ (by decide)⟩, h.2.2⟩) (run_main (F := Bits) m g)
theorem frame_PairExchangeRefIdeal : Cert.quiescent_PairExchangeRefIdeal := fun m g _ =>
  (θ_run Cert.PairExchangeRefIdeal.defs _ _).mono (fun _ h => ⟨fun c => (h c).2.2.2.2.2, ref_quiet _ _⟩) (Cert.PairExchangeRefIdeal.Value.run (F := Ideal) m g)
theorem frame_PairExchangeRef : Cert.quiescent_PairExchangeRef := fun m g _ =>
  (θ_run Cert.PairExchangeRefIdeal.defs _ _).mono (fun _ h => ⟨fun c => (h c).2.2.2.2.2, ref_quiet _ _⟩) (Cert.PairExchangeRefIdeal.Value.run (F := Bits) m g)
theorem algebraic_PairExchange : Cert.algebraic_PairExchangeIdeal_PairExchangeRefIdeal := fun m g m' g' _ hm => matches_ref (F := Ideal) m g m' g' hm
theorem bitexact_PairExchange : Cert.bitexact_PairExchange_PairExchangeRef := fun m g m' g' _ hm => matches_ref (F := Bits) m g m' g' hm

end
-- ==== Proof.Exchange.GatherWeights.lean ====
/-
# `gather_weights`: the shards of every chip, to both cores of every chip

A core keeps its chip's shards of three arrays and sends, to the cores of its own number on the other chips, its half of the rows of
the first two and all of the third. What comes in of the first two is passed on to the other core of the chip, which so gets the
halves it was not sent. Of each array's six copies the first three are those to the other chips and the last three the ones that pass
them on: semaphores 0–11 tell their senders that they have been read, 12–23 that they are there; 24–26 and 27–29 do the same for
the third array, and 30–32 are the copies within a device.
-/
module

public import proofs.«01_k».proof.Proof.Exchange.Across
public import proofs.«01_k».proof.Proof.Exchange.Windows
public import proofs.«01_k».proof.Proof.Gen.GatherWeightsIdeal
public import proofs.«01_k».proof.Proof.Gen.GatherWeightsIdeal.Skeleton
public import proofs.«01_k».proof.Proof.Gen.GatherWeightsIdeal.Launch
public import proofs.«01_k».proof.Proof.Gen.GatherWeightsIdeal.Points

@[expose] public section

noncomputable section

namespace Cert.GatherWeightsIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.GatherWeightsIdeal Cert.GatherWeightsIdeal.Gen Cert.Exchange

variable {F : FTy → Type} [FloatOps F]

theorem dev1_eq (c : Dev nD) : (⟨k0_dev1 c, k0_dev1_lt c⟩ : Dev nD) = across 4 c := Fin.ext (by revert c; decide +kernel)
theorem dev2_eq (c : Dev nD) : (⟨k0_dev2 c, k0_dev2_lt c⟩ : Dev nD) = across 2 c := Fin.ext (by revert c; decide +kernel)
theorem dev3_eq (c : Dev nD) : (⟨k0_dev3 c, k0_dev3_lt c⟩ : Dev nD) = across 6 c := Fin.ext (by revert c; decide +kernel)
theorem dev4_eq (c : Dev nD) : (⟨k0_dev4 c, k0_dev4_lt c⟩ : Dev nD) = across 4 c := Fin.ext (by revert c; decide +kernel)
theorem dev5_eq (c : Dev nD) : (⟨k0_dev5 c, k0_dev5_lt c⟩ : Dev nD) = across 2 c := Fin.ext (by revert c; decide +kernel)
theorem dev6_eq (c : Dev nD) : (⟨k0_dev6 c, k0_dev6_lt c⟩ : Dev nD) = across 6 c := Fin.ext (by revert c; decide +kernel)
theorem dev7_eq (c : Dev nD) : (⟨k0_dev7 c, k0_dev7_lt c⟩ : Dev nD) = across 4 c := Fin.ext (by revert c; decide +kernel)
theorem dev8_eq (c : Dev nD) : (⟨k0_dev8 c, k0_dev8_lt c⟩ : Dev nD) = across 2 c := Fin.ext (by revert c; decide +kernel)
theorem dev9_eq (c : Dev nD) : (⟨k0_dev9 c, k0_dev9_lt c⟩ : Dev nD) = across 6 c := Fin.ext (by revert c; decide +kernel)
theorem dev10_eq (c : Dev nD) : (⟨k0_dev10 c, k0_dev10_lt c⟩ : Dev nD) = across 1 c := Fin.ext (by revert c; decide +kernel)
theorem dev11_eq (c : Dev nD) : (⟨k0_dev11 c, k0_dev11_lt c⟩ : Dev nD) = across 1 c := Fin.ext (by revert c; decide +kernel)
theorem dev12_eq (c : Dev nD) : (⟨k0_dev12 c, k0_dev12_lt c⟩ : Dev nD) = across 1 c := Fin.ext (by revert c; decide +kernel)
theorem dev13_eq (c : Dev nD) : (⟨k0_dev13 c, k0_dev13_lt c⟩ : Dev nD) = across 1 c := Fin.ext (by revert c; decide +kernel)
theorem dev14_eq (c : Dev nD) : (⟨k0_dev14 c, k0_dev14_lt c⟩ : Dev nD) = across 1 c := Fin.ext (by revert c; decide +kernel)
theorem dev15_eq (c : Dev nD) : (⟨k0_dev15 c, k0_dev15_lt c⟩ : Dev nD) = across 1 c := Fin.ext (by revert c; decide +kernel)

/-- Half of the rows of a shard of the first array, given where they start, -/
abbrev part0 (o : Fin 2 → Nat) (h : ∀ a, o a + S512x1284.size a ≤ S1024x1284.size a) : Memref sig .tc .hbm S512x1284 .bf16 :=
  (Memref.whole main_arg0).slice (Rect.unit (s := S1024x1284) o S512x1284.size h) (fun _ => rfl)
/-- and of the second. -/
abbrev part1 (o : Fin 2 → Nat) (h : ∀ a, o a + S256x1024.size a ≤ S512x1024.size a) : Memref sig .tc .hbm S256x1024 .bf16 :=
  (Memref.whole main_arg1).slice (Rect.unit (s := S512x1024) o S256x1024.size h) (fun _ => rfl)
/-- The place for them among all the shards of the first array, -/
abbrev half0 (o : Fin 3 → Nat) (h : ∀ a, o a + S1x512x1284.size a ≤ S4x1024x1284.size a) : Memref sig .tc .hbm S512x1284 .bf16 :=
  ((Memref.whole main_v1_0).slice (Rect.unit (s := S4x1024x1284) o S1x512x1284.size h) (fun _ => rfl)).squeeze S512x1284 squeezes_S1x512x1284_S512x1284
/-- and of the second. -/
abbrev half1 (o : Fin 3 → Nat) (h : ∀ a, o a + S1x256x1024.size a ≤ S4x512x1024.size a) : Memref sig .tc .hbm S256x1024 .bf16 :=
  ((Memref.whole main_v1_1).slice (Rect.unit (s := S4x512x1024) o S1x256x1024.size h) (fun _ => rfl)).squeeze S256x1024 squeezes_S1x256x1024_S256x1024
/-- The places of the shards of the chip of `c`. -/
abbrev slab0 (c : Dev nD) : Memref sig .tc .hbm S1024x1284 .bf16 :=
  ((Memref.whole main_v1_0).slice (Rect.unit (s := S4x1024x1284) (k0_off1 c) S1x1024x1284.size (k0_off1_inb c)) (fun _ => rfl)).squeeze S1024x1284 squeezes_S1x1024x1284_S1024x1284
abbrev slab1 (c : Dev nD) : Memref sig .tc .hbm S512x1024 .bf16 :=
  ((Memref.whole main_v1_1).slice (Rect.unit (s := S4x512x1024) (k0_off2 c) S1x512x1024.size (k0_off2_inb c)) (fun _ => rfl)).squeeze S512x1024 squeezes_S1x512x1024_S512x1024
abbrev slab2 (c : Dev nD) : Memref sig .tc .hbm S8x384 .f32 :=
  ((Memref.whole main_v1_2).slice (Rect.unit (s := S4x8x384) (k0_off3 c) S1x8x384.size (k0_off3_inb c)) (fun _ => rfl)).squeeze S8x384 squeezes_S1x8x384_S8x384

/-- What `c` sends of the rows of each array to the other chips, -/
def sent0 (c : Dev nD) : Copy sig := ⟨part0 (k0_off4 c) (k0_off4_inb c), half0 (k0_off5 c) (k0_off5_inb c)⟩
def sent1 (c : Dev nD) : Copy sig := ⟨part1 (k0_off6 c) (k0_off6_inb c), half1 (k0_off7 c) (k0_off7_inb c)⟩
def sent2 (c : Dev nD) : Copy sig := ⟨Memref.whole main_arg2, slab2 c⟩
/-- what it passes on of the rows of `d`, the place told by itself. -/
def passed0 (d : Dev nD) (o : Fin 3 → Nat) (h : ∀ a, o a + S1x512x1284.size a ≤ S4x1024x1284.size a) : Copy sig := ⟨part0 (k0_off4 d) (k0_off4_inb d), half0 o h⟩
def passed1 (d : Dev nD) (o : Fin 3 → Nat) (h : ∀ a, o a + S1x256x1024.size a ≤ S4x512x1024.size a) : Copy sig := ⟨part1 (k0_off6 d) (k0_off6_inb d), half1 o h⟩

/-- It is what came in, if the place is the one the sender has told. -/
theorem sent0_eq {d : Dev nD} {o : Fin 3 → Nat} (ho : k0_off5 d = o) (h) : some (sent0 d) = some (passed0 d o h) := by subst ho; rfl
theorem sent1_eq {d : Dev nD} {o : Fin 3 → Nat} (ho : k0_off7 d = o) (h) : some (sent1 d) = some (passed1 d o h) := by subst ho; rfl

def copy (c : Dev nD) : Fin 33 → Option (Copy sig) :=
  ![none, none, none, none, none, none, none, none, none, none, none, none,
    some (sent0 c), some (sent0 c), some (sent0 c),
    some (passed0 (across 4 c) (k0_off9 c) (k0_off9_inb c)), some (passed0 (across 2 c) (k0_off11 c) (k0_off11_inb c)), some (passed0 (across 6 c) (k0_off13 c) (k0_off13_inb c)),
    some (sent1 c), some (sent1 c), some (sent1 c),
    some (passed1 (across 4 c) (k0_off15 c) (k0_off15_inb c)), some (passed1 (across 2 c) (k0_off17 c) (k0_off17_inb c)), some (passed1 (across 6 c) (k0_off19 c) (k0_off19_inb c)),
    none, none, none,
    some (sent2 c), some (sent2 c), some (sent2 c),
    some ⟨Memref.whole main_arg0, slab0 c⟩, some ⟨Memref.whole main_arg1, slab1 c⟩, some (sent2 c)]

/-- What half a shard of the first two arrays, and a shard of each, credit. -/
def credit : Fin 5 → ℕ :=
  ![(half0 (k0_off5 0) (k0_off5_inb 0)).view.dmaCredit, (half1 (k0_off7 0) (k0_off7_inb 0)).view.dmaCredit,
    (slab0 0).view.dmaCredit, (slab1 0).view.dmaCredit, (slab2 0).view.dmaCredit]
/-- Which of these a semaphore counts. -/
def unit : Fin 33 → Fin 5 := ![0, 0, 0, 0, 0, 0, 1, 1, 1, 1, 1, 1, 0, 0, 0, 0, 0, 0, 1, 1, 1, 1, 1, 1, 4, 4, 4, 4, 4, 4, 2, 3, 4]

def moves : Moves nD sig (Fin 33) where
  sem s := .dma s
  sem_inj := by decide
  amt s := credit (unit s)
  amt_pos s := by
    have h : ∀ t, 0 < credit t := by
      have h0 := (half0 (k0_off5 0) (k0_off5_inb 0)).view.dmaCredit_pos (by decide)
      have h1 := (half1 (k0_off7 0) (k0_off7_inb 0)).view.dmaCredit_pos (by decide)
      have h2 := (slab0 0).view.dmaCredit_pos (by decide)
      have h3 := (slab1 0).view.dmaCredit_pos (by decide)
      have h4 := (slab2 0).view.dmaCredit_pos (by decide)
      intro t; fin_cases t <;> first | exact h0 | exact h1 | exact h2 | exact h3 | exact h4
    exact h _
  dest := ![.refl _, .refl _, .refl _, .refl _, .refl _, .refl _, .refl _, .refl _, .refl _, .refl _, .refl _, .refl _,
    perm 4, perm 2, perm 6, perm 1, perm 1, perm 1, perm 4, perm 2, perm 6, perm 1, perm 1, perm 1,
    .refl _, .refl _, .refl _, perm 4, perm 2, perm 6, .refl _, .refl _, .refl _]
  far s := (12 ≤ s && s ≤ 23) || (27 ≤ s && s ≤ 29)
  copy := copy
  lend := ![0, 0, 0, 0, 0, 0, 0, 0, 0, 0, 0, 0, 1, 2, 3, 0, 0, 0, 1, 2, 3, 0, 0, 0, 0, 0, 0, 1, 2, 3, 0, 0, 0]
  relay := ![none, none, none, none, none, none, none, none, none, none, none, none, none, none, none, some 12, some 13, some 14,
    none, none, none, some 18, some 19, some 20, none, none, none, none, none, none, none, none, none]
  goods := ![0, 1, 2, 12, 13, 14, 6, 7, 8, 18, 19, 20, 12, 13, 14, 15, 16, 17, 18, 19, 20, 21, 22, 23, 24, 25, 26, 27, 28, 29, 30, 31, 32]
  hold := Finset.univ \ {12, 13, 14, 18, 19, 20}

/-- A sender and the one that passes its rows on tell the same place. -/
theorem told9 : ∀ c : Dev nD, k0_off5 (across 4 c) = k0_off9 c := by decide +kernel
theorem told11 : ∀ c : Dev nD, k0_off5 (across 2 c) = k0_off11 c := by decide +kernel
theorem told13 : ∀ c : Dev nD, k0_off5 (across 6 c) = k0_off13 c := by decide +kernel
theorem told15 : ∀ c : Dev nD, k0_off7 (across 4 c) = k0_off15 c := by decide +kernel
theorem told17 : ∀ c : Dev nD, k0_off7 (across 2 c) = k0_off17 c := by decide +kernel
theorem told19 : ∀ c : Dev nD, k0_off7 (across 6 c) = k0_off19 c := by decide +kernel

theorem body (m : Mem nD τ sig (Elt F)) (c : Dev nD) (κ : Dev nD × Fin 33 → ℕ) (t : Fin cfg0.N) :
    (moves.plan m).State κ c Finset.univ (moves.plan m).fars Finset.univ ∅ ∅
      ⊢ wp frame (wpE (defs₀ (F := F)) Variants.none (c.tc : Thread nD τ) none) Set.univ (bodyAt0 t)
        fun _ => (moves.plan m).State κ c ∅ ∅ ∅ Finset.univ moves.hold := by
  rw [show (moves.plan m).fars = {12, 13, 14, 15, 16, 17, 18, 19, 20, 21, 22, 23, 27, 28, 29} from
    show (Finset.univ.filter fun s => moves.far s = true) = {12, 13, 14, 15, 16, 17, 18, 19, 20, 21, 22, 23, 27, 28, 29} by decide]
  simp only [bodyAt0, cc0_gather_weights_eq_skeleton]
  unfold cc0_gather_weights_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel
  simp only [Prog.lift, Prog.bind_op, Prog.bind_ret, Prog.pure_eq_ret, wp_deviceId]
  refine Moves.wp_local defs₀ Variants.none 30 rfl rfl rfl rfl rfl (by decide) (by decide) ?_
  refine Moves.wp_local defs₀ Variants.none 31 rfl rfl rfl rfl rfl (by decide) (by decide) ?_
  refine Moves.wp_local defs₀ Variants.none 32 rfl rfl rfl rfl rfl (by decide) (by decide) ?_
  refine Moves.wp_remote defs₀ Variants.none 12 0 _ rfl rfl rfl rfl (dev1_eq c).symm rfl rfl rfl rfl rfl (by decide) (by decide) (by decide) ?_
  refine Moves.wp_remote defs₀ Variants.none 13 1 _ rfl rfl rfl rfl (dev2_eq c).symm rfl rfl rfl rfl rfl (by decide) (by decide) (by decide) ?_
  refine Moves.wp_remote defs₀ Variants.none 14 2 _ rfl rfl rfl rfl (dev3_eq c).symm rfl rfl rfl rfl rfl (by decide) (by decide) (by decide) ?_
  refine Moves.wp_remote defs₀ Variants.none 18 6 _ rfl rfl rfl rfl (dev4_eq c).symm rfl rfl rfl rfl rfl (by decide) (by decide) (by decide) ?_
  refine Moves.wp_remote defs₀ Variants.none 19 7 _ rfl rfl rfl rfl (dev5_eq c).symm rfl rfl rfl rfl rfl (by decide) (by decide) (by decide) ?_
  refine Moves.wp_remote defs₀ Variants.none 20 8 _ rfl rfl rfl rfl (dev6_eq c).symm rfl rfl rfl rfl rfl (by decide) (by decide) (by decide) ?_
  refine Moves.wp_remote defs₀ Variants.none 27 24 _ rfl rfl rfl rfl (dev7_eq c).symm rfl rfl rfl rfl rfl (by decide) (by decide) (by decide) ?_
  refine Moves.wp_remote defs₀ Variants.none 28 25 _ rfl rfl rfl rfl (dev8_eq c).symm rfl rfl rfl rfl rfl (by decide) (by decide) (by decide) ?_
  refine Moves.wp_remote defs₀ Variants.none 29 26 _ rfl rfl rfl rfl (dev9_eq c).symm rfl rfl rfl rfl rfl (by decide) (by decide) (by decide) ?_
  refine Moves.State_cast defs₀ Variants.none (T' := {3, 4, 5, 9, 10, 11, 15, 16, 17, 21, 22, 23}) (C' := Finset.univ \ {3, 4, 5, 9, 10, 11}) (A' := Finset.univ) (V' := ∅) (D' := ∅)
    (by decide) (by decide) rfl rfl rfl ?_
  refine Moves.wp_wait_early defs₀ Variants.none 12 rfl rfl (by decide) (by decide) (by decide) (by decide) (by decide) ?_
  refine Moves.wp_relay defs₀ Variants.none 15 3 12 (across 4 c) _ rfl rfl rfl (sent0_eq (told9 c) _) (across_across 4 c) (dev10_eq c).symm rfl rfl rfl rfl rfl (by decide) (by decide) (by decide) (by decide) ?_
  refine Moves.wp_wait_early defs₀ Variants.none 13 rfl rfl (by decide) (by decide) (by decide) (by decide) (by decide) ?_
  refine Moves.wp_relay defs₀ Variants.none 16 4 13 (across 2 c) _ rfl rfl rfl (sent0_eq (told11 c) _) (across_across 2 c) (dev11_eq c).symm rfl rfl rfl rfl rfl (by decide) (by decide) (by decide) (by decide) ?_
  refine Moves.wp_wait_early defs₀ Variants.none 14 rfl rfl (by decide) (by decide) (by decide) (by decide) (by decide) ?_
  refine Moves.wp_relay defs₀ Variants.none 17 5 14 (across 6 c) _ rfl rfl rfl (sent0_eq (told13 c) _) (across_across 6 c) (dev12_eq c).symm rfl rfl rfl rfl rfl (by decide) (by decide) (by decide) (by decide) ?_
  refine Moves.wp_wait_early defs₀ Variants.none 18 rfl rfl (by decide) (by decide) (by decide) (by decide) (by decide) ?_
  refine Moves.wp_relay defs₀ Variants.none 21 9 18 (across 4 c) _ rfl rfl rfl (sent1_eq (told15 c) _) (across_across 4 c) (dev13_eq c).symm rfl rfl rfl rfl rfl (by decide) (by decide) (by decide) (by decide) ?_
  refine Moves.wp_wait_early defs₀ Variants.none 19 rfl rfl (by decide) (by decide) (by decide) (by decide) (by decide) ?_
  refine Moves.wp_relay defs₀ Variants.none 22 10 19 (across 2 c) _ rfl rfl rfl (sent1_eq (told17 c) _) (across_across 2 c) (dev14_eq c).symm rfl rfl rfl rfl rfl (by decide) (by decide) (by decide) (by decide) ?_
  refine Moves.wp_wait_early defs₀ Variants.none 20 rfl rfl (by decide) (by decide) (by decide) (by decide) (by decide) ?_
  refine Moves.wp_relay defs₀ Variants.none 23 11 20 (across 6 c) _ rfl rfl rfl (sent1_eq (told19 c) _) (across_across 6 c) (dev15_eq c).symm rfl rfl rfl rfl rfl (by decide) (by decide) (by decide) (by decide) ?_
  refine Moves.State_cast defs₀ Variants.none (T' := ∅) (C' := Finset.univ \ {12, 13, 14, 18, 19, 20}) (A' := Finset.univ \ {12, 13, 14, 18, 19, 20}) (V' := {12, 13, 14, 18, 19, 20}) (D' := ∅)
    (by decide) (by decide) (by decide) (by decide) (by decide) ?_
  refine Moves.wp_wait_early defs₀ Variants.none 15 rfl rfl (by decide) (by decide) (by decide) (by decide) (by decide) ?_
  refine Moves.wp_wait_early defs₀ Variants.none 16 rfl rfl (by decide) (by decide) (by decide) (by decide) (by decide) ?_
  refine Moves.wp_wait_early defs₀ Variants.none 17 rfl rfl (by decide) (by decide) (by decide) (by decide) (by decide) ?_
  refine Moves.wp_wait_early defs₀ Variants.none 21 rfl rfl (by decide) (by decide) (by decide) (by decide) (by decide) ?_
  refine Moves.wp_wait_early defs₀ Variants.none 22 rfl rfl (by decide) (by decide) (by decide) (by decide) (by decide) ?_
  refine Moves.wp_wait_early defs₀ Variants.none 23 rfl rfl (by decide) (by decide) (by decide) (by decide) (by decide) ?_
  refine Moves.wp_wait_early defs₀ Variants.none 27 rfl rfl (by decide) (by decide) (by decide) (by decide) (by decide) ?_
  refine Moves.wp_wait_early defs₀ Variants.none 28 rfl rfl (by decide) (by decide) (by decide) (by decide) (by decide) ?_
  refine Moves.wp_wait_early defs₀ Variants.none 29 rfl rfl (by decide) (by decide) (by decide) (by decide) (by decide) ?_
  refine Moves.wp_wait_early defs₀ Variants.none 0 rfl rfl (by decide) (by decide) (by decide) (by decide) (by decide) ?_
  refine Moves.wp_wait_early defs₀ Variants.none 1 rfl rfl (by decide) (by decide) (by decide) (by decide) (by decide) ?_
  refine Moves.wp_wait_early defs₀ Variants.none 2 rfl rfl (by decide) (by decide) (by decide) (by decide) (by decide) ?_
  refine Moves.wp_wait_early defs₀ Variants.none 6 rfl rfl (by decide) (by decide) (by decide) (by decide) (by decide) ?_
  refine Moves.wp_wait_early defs₀ Variants.none 7 rfl rfl (by decide) (by decide) (by decide) (by decide) (by decide) ?_
  refine Moves.wp_wait_early defs₀ Variants.none 8 rfl rfl (by decide) (by decide) (by decide) (by decide) (by decide) ?_
  refine Moves.wp_wait_early defs₀ Variants.none 24 rfl rfl (by decide) (by decide) (by decide) (by decide) (by decide) ?_
  refine Moves.wp_wait_early defs₀ Variants.none 25 rfl rfl (by decide) (by decide) (by decide) (by decide) (by decide) ?_
  refine Moves.wp_wait_early defs₀ Variants.none 26 rfl rfl (by decide) (by decide) (by decide) (by decide) (by decide) ?_
  refine Moves.wp_wait_early defs₀ Variants.none 3 rfl rfl (by decide) (by decide) (by decide) (by decide) (by decide) ?_
  refine Moves.wp_wait_early defs₀ Variants.none 4 rfl rfl (by decide) (by decide) (by decide) (by decide) (by decide) ?_
  refine Moves.wp_wait_early defs₀ Variants.none 5 rfl rfl (by decide) (by decide) (by decide) (by decide) (by decide) ?_
  refine Moves.wp_wait_early defs₀ Variants.none 9 rfl rfl (by decide) (by decide) (by decide) (by decide) (by decide) ?_
  refine Moves.wp_wait_early defs₀ Variants.none 10 rfl rfl (by decide) (by decide) (by decide) (by decide) (by decide) ?_
  refine Moves.wp_wait_early defs₀ Variants.none 11 rfl rfl (by decide) (by decide) (by decide) (by decide) (by decide) ?_
  refine Moves.wp_wait_early defs₀ Variants.none 30 rfl rfl (by decide) (by decide) (by decide) (by decide) (by decide) ?_
  refine Moves.wp_wait_early defs₀ Variants.none 31 rfl rfl (by decide) (by decide) (by decide) (by decide) (by decide) ?_
  refine Moves.wp_wait_early defs₀ Variants.none 32 rfl rfl (by decide) (by decide) (by decide) (by decide) (by decide) ?_
  refine Moves.State_cast defs₀ Variants.none (T' := ∅) (C' := ∅) (A' := ∅) (V' := Finset.univ) (D' := moves.hold) rfl (by decide) (by decide) (by decide) (by decide) ?_
  rw [wp_ret]
  exact fupd_intro

/-- What the copy that credits `s` of `c` writes there: the place of a chip, and from which of its halves up to which. -/
def spot (c : Dev nD) (s : Fin 33) : ℕ × ℕ × ℕ :=
  let o := moves.origin ((moves.dest s).symm c) s
  if s < 24 then (o.val / 2, o.val % 2, o.val % 2 + 1) else (o.val / 2, 0, 2)
/-- Copies into one array write different chips' places, or halves that do not meet. -/
def Clear (J : Finset (Fin 33)) : Prop :=
  ∀ (c : Dev nD), ∀ s ∈ J, ∀ s' ∈ J, s ≠ s' → (spot c s).1 ≠ (spot c s').1 ∨ (spot c s).2.2 ≤ (spot c s').2.1 ∨ (spot c s').2.2 ≤ (spot c s).2.1
theorem clear0 : Clear {12, 13, 14, 15, 16, 17, 30} := by unfold Clear; decide +kernel
theorem clear1 : Clear {18, 19, 20, 21, 22, 23, 31} := by unfold Clear; decide +kernel
theorem clear2 : Clear {27, 28, 29, 32} := by unfold Clear; decide +kernel

/-- An index lies in a spot, the halves being of `n` rows. -/
def In (n : ℕ) (p : ℕ × ℕ × ℕ) (i j : ℕ) : Prop := i = p.1 ∧ p.2.1 * n ≤ j ∧ j < p.2.2 * n

theorem clear_disjoint {α : Type} [DecidableEq α] {J : Finset (Fin 33)} (hJ : Clear J) (c : Dev nD) (n : ℕ) (I : Fin 33 → Finset α) (u v : α → ℕ)
    (h : ∀ s ∈ J, ∀ i ∈ I s, In n (spot c s) (u i) (v i)) : ∀ s ∈ J, ∀ s' ∈ J, s ≠ s' → Disjoint (I s) (I s') := by
  intro s hs s' hs' hne
  refine Finset.disjoint_left.mpr fun i hi hi' => ?_
  obtain ⟨h1, h2, h3⟩ := h s hs i hi
  obtain ⟨g1, g2, g3⟩ := h s' hs' i hi'
  rcases hJ c s hs s' hs' hne with e | e | e
  · exact e (h1.symm.trans g1)
  · exact absurd (Nat.mul_le_mul_right n e) (by omega)
  · exact absurd (Nat.mul_le_mul_right n e) (by omega)

theorem in_half0 {o : Fin 3 → Nat} {h} {i : S4x1024x1284.Idx} (hi : i ∈ (half0 o h).view.set) {q l : ℕ} (ho : o = ![q, l * 512, 0]) :
    In 512 (q, l, l + 1) (i 0).val (i 1).val := by
  subst ho
  have h0 := mem_slab main_v1_0 hi (0 : Fin 3)
  have h1 := mem_slab main_v1_0 hi (1 : Fin 3)
  change q ≤ (i 0).val ∧ (i 0).val < q + 1 at h0
  change l * 512 ≤ (i 1).val ∧ (i 1).val < l * 512 + 512 at h1
  exact ⟨by omega, h1.1, by show _ < (l + 1) * 512; omega⟩
theorem in_half1 {o : Fin 3 → Nat} {h} {i : S4x512x1024.Idx} (hi : i ∈ (half1 o h).view.set) {q l : ℕ} (ho : o = ![q, l * 256, 0]) :
    In 256 (q, l, l + 1) (i 0).val (i 1).val := by
  subst ho
  have h0 := mem_slab main_v1_1 hi (0 : Fin 3)
  have h1 := mem_slab main_v1_1 hi (1 : Fin 3)
  change q ≤ (i 0).val ∧ (i 0).val < q + 1 at h0
  change l * 256 ≤ (i 1).val ∧ (i 1).val < l * 256 + 256 at h1
  exact ⟨by omega, h1.1, by show _ < (l + 1) * 256; omega⟩
theorem in_slab0 {c : Dev nD} {i : S4x1024x1284.Idx} (hi : i ∈ (slab0 c).view.set) {q : ℕ} (ho : k0_off1 c 0 = q) : In 512 (q, 0, 2) (i 0).val (i 1).val := by
  have h0 := mem_slab main_v1_0 hi (0 : Fin 3)
  have h1 : (i 1).val < 1024 := (i 1).isLt
  change k0_off1 c 0 ≤ (i 0).val ∧ (i 0).val < k0_off1 c 0 + 1 at h0
  exact ⟨by show _ = q; omega, by show 0 * 512 ≤ _; omega, by show _ < 2 * 512; omega⟩
theorem in_slab1 {c : Dev nD} {i : S4x512x1024.Idx} (hi : i ∈ (slab1 c).view.set) {q : ℕ} (ho : k0_off2 c 0 = q) : In 256 (q, 0, 2) (i 0).val (i 1).val := by
  have h0 := mem_slab main_v1_1 hi (0 : Fin 3)
  have h1 : (i 1).val < 512 := (i 1).isLt
  change k0_off2 c 0 ≤ (i 0).val ∧ (i 0).val < k0_off2 c 0 + 1 at h0
  exact ⟨by show _ = q; omega, by show 0 * 256 ≤ _; omega, by show _ < 2 * 256; omega⟩
theorem in_slab2 {c : Dev nD} {i : S4x8x384.Idx} (hi : i ∈ (slab2 c).view.set) {q : ℕ} (ho : k0_off3 c 0 = q) : In 4 (q, 0, 2) (i 0).val (i 1).val := by
  have h0 := mem_slab main_v1_2 hi (0 : Fin 3)
  have h1 : (i 1).val < 8 := (i 1).isLt
  change k0_off3 c 0 ≤ (i 0).val ∧ (i 0).val < k0_off3 c 0 + 1 at h0
  exact ⟨by show _ = q; omega, by show 0 * 4 ≤ _; omega, by show _ < 2 * 4; omega⟩

/-- What the copies into each of the three arrays of `c` write. -/
def into0 (c : Dev nD) : Fin 33 → Finset S4x1024x1284.Idx
  | 12 => (half0 (k0_off5 (across 4 c)) (k0_off5_inb _)).view.set
  | 13 => (half0 (k0_off5 (across 2 c)) (k0_off5_inb _)).view.set
  | 14 => (half0 (k0_off5 (across 6 c)) (k0_off5_inb _)).view.set
  | 15 => (half0 (k0_off9 (across 1 c)) (k0_off9_inb _)).view.set
  | 16 => (half0 (k0_off11 (across 1 c)) (k0_off11_inb _)).view.set
  | 17 => (half0 (k0_off13 (across 1 c)) (k0_off13_inb _)).view.set
  | _ => (slab0 c).view.set
def into1 (c : Dev nD) : Fin 33 → Finset S4x512x1024.Idx
  | 18 => (half1 (k0_off7 (across 4 c)) (k0_off7_inb _)).view.set
  | 19 => (half1 (k0_off7 (across 2 c)) (k0_off7_inb _)).view.set
  | 20 => (half1 (k0_off7 (across 6 c)) (k0_off7_inb _)).view.set
  | 21 => (half1 (k0_off15 (across 1 c)) (k0_off15_inb _)).view.set
  | 22 => (half1 (k0_off17 (across 1 c)) (k0_off17_inb _)).view.set
  | 23 => (half1 (k0_off19 (across 1 c)) (k0_off19_inb _)).view.set
  | _ => (slab1 c).view.set
def into2 (c : Dev nD) (s : Fin 33) : Finset S4x8x384.Idx := (slab2 ((moves.dest s).symm c)).view.set

/-- Where a core's own rows go. -/
theorem own0 : ∀ c : Dev nD, k0_off5 c = ![c.val / 2, c.val % 2 * 512, 0] := by decide +kernel
theorem own1 : ∀ c : Dev nD, k0_off7 c = ![c.val / 2, c.val % 2 * 256, 0] := by decide +kernel
theorem chip0 : ∀ c : Dev nD, k0_off1 c = ![c.val / 2, 0, 0] := by decide +kernel
theorem chip1 : ∀ c : Dev nD, k0_off2 c = ![c.val / 2, 0, 0] := by decide +kernel
theorem chip2 : ∀ c : Dev nD, k0_off3 c = ![c.val / 2, 0, 0] := by decide +kernel

theorem into0_in (c : Dev nD) : ∀ s ∈ ({12, 13, 14, 15, 16, 17, 30} : Finset (Fin 33)), ∀ i ∈ into0 c s, In 512 (spot c s) (i 0).val (i 1).val := by
  intro s hs i hi
  fin_cases hs
  · exact in_half0 hi (own0 _)
  · exact in_half0 hi (own0 _)
  · exact in_half0 hi (own0 _)
  · exact in_half0 hi ((told9 _).symm.trans (own0 _))
  · exact in_half0 hi ((told11 _).symm.trans (own0 _))
  · exact in_half0 hi ((told13 _).symm.trans (own0 _))
  · exact in_slab0 hi (congrFun (chip0 c) 0)
theorem into1_in (c : Dev nD) : ∀ s ∈ ({18, 19, 20, 21, 22, 23, 31} : Finset (Fin 33)), ∀ i ∈ into1 c s, In 256 (spot c s) (i 0).val (i 1).val := by
  intro s hs i hi
  fin_cases hs
  · exact in_half1 hi (own1 _)
  · exact in_half1 hi (own1 _)
  · exact in_half1 hi (own1 _)
  · exact in_half1 hi ((told15 _).symm.trans (own1 _))
  · exact in_half1 hi ((told17 _).symm.trans (own1 _))
  · exact in_half1 hi ((told19 _).symm.trans (own1 _))
  · exact in_slab1 hi (congrFun (chip1 c) 0)
theorem into2_in (c : Dev nD) : ∀ s ∈ ({27, 28, 29, 32} : Finset (Fin 33)), ∀ i ∈ into2 c s, In 4 (spot c s) (i 0).val (i 1).val := by
  intro s hs i hi
  fin_cases hs <;> exact in_slab2 hi (congrFun (chip2 _) 0)

/-- The launch's buffers are the places and the sources of the copies, and what is kept of the arguments. -/
theorem hdev (m : Mem nD τ sig (Elt F)) (c : Dev nD) :
    (Pipeline.unscopedRest cfg0.spec c (fun b => m ((c.tc : Thread nD τ).loc b)) : sProp (Res nD τ sig (Elt F)))
      ⊢ iprop(bigSep Finset.univ (moves.place m c) ∗ bigSep Finset.univ (moves.source m c) ∗ Moves.keep m {main_arg0, main_arg1, main_arg2} 4 c) := by
  have ep : ({12, 13, 14, 15, 16, 17, 30} ∪ ({18, 19, 20, 21, 22, 23, 31} ∪ {27, 28, 29, 32}) : Finset (Fin 33)) = {12, 13, 14, 15, 16, 17, 18, 19, 20, 21, 22, 23, 27, 28, 29, 30, 31, 32} := by decide
  have es : ({12, 13, 14, 30} ∪ ({18, 19, 20, 31} ∪ {27, 28, 29, 32}) : Finset (Fin 33)) = {12, 13, 14, 18, 19, 20, 27, 28, 29, 30, 31, 32} := by decide
  have hp0 : iprop(((c.tc : Thread nD τ).loc main_v1_0) ↦{fullShare} m ((c.tc : Thread nD τ).loc main_v1_0)) ⊢ bigSep {12, 13, 14, 15, 16, 17, 30} (moves.place m c) :=
    Moves.cut_places _ _ (into0 c) _ (by intro s hs; fin_cases hs <;> rfl)
      (clear_disjoint clear0 c 512 _ (fun i => (i 0).val) (fun i => (i 1).val) (into0_in c))
  have hp1 : iprop(((c.tc : Thread nD τ).loc main_v1_1) ↦{fullShare} m ((c.tc : Thread nD τ).loc main_v1_1)) ⊢ bigSep {18, 19, 20, 21, 22, 23, 31} (moves.place m c) :=
    Moves.cut_places _ _ (into1 c) _ (by intro s hs; fin_cases hs <;> rfl)
      (clear_disjoint clear1 c 256 _ (fun i => (i 0).val) (fun i => (i 1).val) (into1_in c))
  have hp2 : iprop(((c.tc : Thread nD τ).loc main_v1_2) ↦{fullShare} m ((c.tc : Thread nD τ).loc main_v1_2)) ⊢ bigSep {27, 28, 29, 32} (moves.place m c) :=
    Moves.cut_places _ _ (into2 c) _ (by intro s hs; fin_cases hs <;> rfl)
      (clear_disjoint clear2 c 4 _ (fun i => (i 0).val) (fun i => (i 1).val) (into2_in c))
  have hs0 : iprop(((c.tc : Thread nD τ).loc main_arg0) ↦{fullShare} m ((c.tc : Thread nD τ).loc main_arg0))
      ⊢ iprop((((c.tc : Thread nD τ).loc main_arg0) ↦{kept 4} m ((c.tc : Thread nD τ).loc main_arg0)) ∗ bigSep {12, 13, 14, 30} (moves.source m c)) :=
    Moves.lend_sources _ 4 _ (fun s => match s with
      | 30 => (Memref.whole main_arg0).view.set
      | _ => (part0 (k0_off4 c) (k0_off4_inb c)).view.set) moves.lend _ (by intro s hs; fin_cases hs <;> rfl) (by decide) (by decide)
  have hs1 : iprop(((c.tc : Thread nD τ).loc main_arg1) ↦{fullShare} m ((c.tc : Thread nD τ).loc main_arg1))
      ⊢ iprop((((c.tc : Thread nD τ).loc main_arg1) ↦{kept 4} m ((c.tc : Thread nD τ).loc main_arg1)) ∗ bigSep {18, 19, 20, 31} (moves.source m c)) :=
    Moves.lend_sources _ 4 _ (fun s => match s with
      | 31 => (Memref.whole main_arg1).view.set
      | _ => (part1 (k0_off6 c) (k0_off6_inb c)).view.set) moves.lend _ (by intro s hs; fin_cases hs <;> rfl) (by decide) (by decide)
  have hs2 : iprop(((c.tc : Thread nD τ).loc main_arg2) ↦{fullShare} m ((c.tc : Thread nD τ).loc main_arg2))
      ⊢ iprop((((c.tc : Thread nD τ).loc main_arg2) ↦{kept 4} m ((c.tc : Thread nD τ).loc main_arg2)) ∗ bigSep {27, 28, 29, 32} (moves.source m c)) :=
    Moves.lend_sources _ 4 _ (fun _ => (Memref.whole main_arg2).view.set) moves.lend _ (by intro s hs; fin_cases hs <;> rfl) (by decide) (by decide)
  have hp : iprop(bigSep {12, 13, 14, 15, 16, 17, 30} (moves.place m c) ∗ bigSep {18, 19, 20, 21, 22, 23, 31} (moves.place m c) ∗ bigSep {27, 28, 29, 32} (moves.place m c)) ⊢ bigSep Finset.univ (moves.place m c) := by
    rw [← Moves.bigSep_two (J := {18, 19, 20, 21, 22, 23, 31}) (by decide), ← Moves.bigSep_two (J := {12, 13, 14, 15, 16, 17, 30}) (by decide), ep]
    exact Moves.of_part (by intro s hs; fin_cases s <;> first | rfl | exact absurd (by decide) hs)
  have hs : iprop(bigSep {12, 13, 14, 30} (moves.source m c) ∗ bigSep {18, 19, 20, 31} (moves.source m c) ∗ bigSep {27, 28, 29, 32} (moves.source m c)) ⊢ bigSep Finset.univ (moves.source m c) := by
    rw [← Moves.bigSep_two (J := {18, 19, 20, 31}) (by decide), ← Moves.bigSep_two (J := {12, 13, 14, 30}) (by decide), es]
    exact Moves.of_part (by intro s hs; fin_cases s <;> first | rfl | exact absurd (by decide) hs)
  rw [unscopedRest0_eq]
  unfold Moves.keep
  rw [Moves.bigSep_one_more (by decide), Moves.bigSep_one_more (by decide), BI.bigSep_singleton]
  iintro ⟨HA, HB, HC, HV, HW, HX⟩
  ihave HV := hp0 $$ HV
  ihave HW := hp1 $$ HW
  ihave HX := hp2 $$ HX
  ihave HA := hs0 $$ HA
  ihave HB := hs1 $$ HB
  ihave HC := hs2 $$ HC
  icases HA with ⟨HA, HSA⟩
  icases HB with ⟨HB, HSB⟩
  icases HC with ⟨HC, HSC⟩
  isplitl [HV HW HX]
  · iapply hp
    isplitl [HV]; iassumption
    isplitl [HW] <;> iassumption
  isplitl [HSA HSB HSC]
  · iapply hs
    isplitl [HSA]; iassumption
    isplitl [HSB] <;> iassumption
  isplitl [HA]; iassumption
  isplitl [HB] <;> iassumption

/-- What every copy brings is held in the end, by the semaphore that tells of its being read if it is passed on. -/
theorem held (d : Dev nD) (s : Fin 33) (x : Copy sig) (hx : moves.copy d s = some x) : ∃ t ∈ moves.hold, moves.goods t = s := by
  have h : ∀ s : Fin 33, (∃ t ∈ moves.hold, moves.goods t = s) ∨ s ∈ ({3, 4, 5, 9, 10, 11} : Finset (Fin 33)) := by decide
  rcases h s with h | h
  · exact h
  · refine absurd ?_ (Option.some_ne_none x)
    rw [← hx]
    fin_cases h <;> rfl

/-- Every copy arrives, the arguments are as they were and every counter is back at zero. -/
theorem run_main (m : Mem nD τ sig (Elt F)) (ρ : Dev nD → PrngReg) :
    θ_run defs (onTc (τ := τ) (main (F := F))) ⟨m, fun _ => 0, ρ⟩ fun r =>
      (∀ (c d : Dev nD) (s : Fin 33) (x : Copy sig), moves.copy d s = some x → moves.dest s d = c → x.Arrived m (moves.origin d s) c r.2.mem)
        ∧ (∀ c : Dev nD, ∀ b ∈ ({main_arg0, main_arg1, main_arg2} : Finset (Ref sig .tc)), r.2.mem ((c.tc : Thread nD τ).loc b) = m ((c.tc : Thread nD τ).loc b))
        ∧ r.2.sem = fun _ => 0 :=
  Moves.run moves m cfgs cellOf_inj 0 (by decide) N_0 winFacts0.to₀ (by decide) scopedRest0_eq (by decide) defs₀ Variants.none ρ main (fun _ => rfl)
    {main_arg0, main_arg1, main_arg2} 4 (hdev m) (body m) held

end Cert.GatherWeightsIdeal.Exchange

end
-- ==== Proof.Exchange.GatherWeightsValue.lean ====
/-
# `gather_weights`: the results, and the reference's
-/
module

public import proofs.«01_k».proof.Proof.Exchange.GatherWeights
public import proofs.«01_k».proof.Defs
public import proofs.«01_k».proof.Proof.Gen.GatherWeights
public import proofs.«01_k».proof.Proof.Gen.GatherWeightsRef
public import proofs.«01_k».proof.Proof.Gen.GatherWeightsRefIdeal
public import proofs.«01_k».proof.Proof.Gen.GatherWeightsRefIdeal.Run
public import proofs.«01_k».proof.Proof.Gen.GatherWeightsRefIdeal.Read

@[expose] public section

noncomputable section

namespace Cert.GatherWeightsIdeal.Exchange

open Idealize.ShloMosaic Idealize.ShloMosaic.TcCoe Idealize.SL.Sem Idealize.ShloMosaic.ValueIdx
open Cert.GatherWeightsIdeal Cert.GatherWeightsIdeal.Gen Cert.Exchange

variable {F : FTy → Type} [FloatOps F]

/-- The block of an array a device has is that of its chip's number. -/
theorem chip_block : ∀ d : Dev nD, ((Layout.meshBlock [2, 2, 2] ![[0, 1], []] d) (0 : Fin 2) : ℕ) = d.val / 2 ∧ ((Layout.meshBlock [2, 2, 2] ![[0, 1], []] d) (1 : Fin 2) : ℕ) = 0 := by
  decide +kernel

/-- A shard is its chip's part of the reference's result. -/
theorem shard0 (x : (⟨⟨2, ![4096, 1284]⟩, .bf16⟩ : BufTy).Contents (Elt F)) (d : Dev nD) (j : Shape.Idx ⟨3, ![4, 1024, 1284]⟩) (h : (j 0 : ℕ) = d.val / 2) :
    (Layout.blockN ⟨2, ![1024, 1284]⟩ ⟨2, ![4096, 1284]⟩ (Layout.meshBlock [2, 2, 2] ![[0, 1], []] d) x) (ix2 (j 1) (j 2)) = Cert.GatherWeightsRefIdeal.Read.val_main_v0 (F := F) x j := by
  rw [Cert.GatherWeightsRefIdeal.Read.val_main_v0_apply]
  have hj1 : (j 1 : ℕ) < 1024 := (j 1).isLt
  have hj2 : (j 2 : ℕ) < 1284 := (j 2).isLt
  refine congrArg x (funext fun a => Fin.ext ?_)
  match a with
  | ⟨0, _⟩ =>
    refine (Layout.TilesN.idx_val _ _ _ _).trans ?_
    show ((Layout.meshBlock [2, 2, 2] ![[0, 1], []] d) (0 : Fin 2) : ℕ) * 1024 + (j 1 : ℕ) = (((j 0 : ℕ) * 1024 + (j 1 : ℕ)) * 1284 + (j 2 : ℕ)) / 1284
    rw [(chip_block d).1]; omega
  | ⟨1, _⟩ =>
    refine (Layout.TilesN.idx_val _ _ _ _).trans ?_
    show ((Layout.meshBlock [2, 2, 2] ![[0, 1], []] d) (1 : Fin 2) : ℕ) * 1284 + (j 2 : ℕ) = (((j 0 : ℕ) * 1024 + (j 1 : ℕ)) * 1284 + (j 2 : ℕ)) % 1284
    rw [(chip_block d).2]; omega

theorem shard1 (x : (⟨⟨2, ![2048, 1024]⟩, .bf16⟩ : BufTy).Contents (Elt F)) (d : Dev nD) (j : Shape.Idx ⟨3, ![4, 512, 1024]⟩) (h : (j 0 : ℕ) = d.val / 2) :
    (Layout.blockN ⟨2, ![512, 1024]⟩ ⟨2, ![2048, 1024]⟩ (Layout.meshBlock [2, 2, 2] ![[0, 1], []] d) x) (ix2 (j 1) (j 2)) = Cert.GatherWeightsRefIdeal.Read.val_main_v1 (F := F) x j := by
  rw [Cert.GatherWeightsRefIdeal.Read.val_main_v1_apply]
  have hj1 : (j 1 : ℕ) < 512 := (j 1).isLt
  have hj2 : (j 2 : ℕ) < 1024 := (j 2).isLt
  refine congrArg x (funext fun a => Fin.ext ?_)
  match a with
  | ⟨0, _⟩ =>
    refine (Layout.TilesN.idx_val _ _ _ _).trans ?_
    show ((Layout.meshBlock [2, 2, 2] ![[0, 1], []] d) (0 : Fin 2) : ℕ) * 512 + (j 1 : ℕ) = (((j 0 : ℕ) * 512 + (j 1 : ℕ)) * 1024 + (j 2 : ℕ)) / 1024
    rw [(chip_block d).1]; omega
  | ⟨1, _⟩ =>
    refine (Layout.TilesN.idx_val _ _ _ _).trans ?_
    show ((Layout.meshBlock [2, 2, 2] ![[0, 1], []] d) (1 : Fin 2) : ℕ) * 1024 + (j 2 : ℕ) = (((j 0 : ℕ) * 512 + (j 1 : ℕ)) * 1024 + (j 2 : ℕ)) % 1024
    rw [(chip_block d).2]; omega

theorem shard2 (x : (⟨⟨2, ![32, 384]⟩, .f32⟩ : BufTy).Contents (Elt F)) (d : Dev nD) (j : Shape.Idx ⟨3, ![4, 8, 384]⟩) (h : (j 0 : ℕ) = d.val / 2) :
    (Layout.blockN ⟨2, ![8, 384]⟩ ⟨2, ![32, 384]⟩ (Layout.meshBlock [2, 2, 2] ![[0, 1], []] d) x) (ix2 (j 1) (j 2)) = Cert.GatherWeightsRefIdeal.Read.val_main_v2 (F := F) x j := by
  rw [Cert.GatherWeightsRefIdeal.Read.val_main_v2_apply]
  have hj1 : (j 1 : ℕ) < 8 := (j 1).isLt
  have hj2 : (j 2 : ℕ) < 384 := (j 2).isLt
  refine congrArg x (funext fun a => Fin.ext ?_)
  match a with
  | ⟨0, _⟩ =>
    refine (Layout.TilesN.idx_val _ _ _ _).trans ?_
    show ((Layout.meshBlock [2, 2, 2] ![[0, 1], []] d) (0 : Fin 2) : ℕ) * 8 + (j 1 : ℕ) = (((j 0 : ℕ) * 8 + (j 1 : ℕ)) * 384 + (j 2 : ℕ)) / 384
    rw [(chip_block d).1]; omega
  | ⟨1, _⟩ =>
    refine (Layout.TilesN.idx_val _ _ _ _).trans ?_
    show ((Layout.meshBlock [2, 2, 2] ![[0, 1], []] d) (1 : Fin 2) : ℕ) * 384 + (j 2 : ℕ) = (((j 0 : ℕ) * 8 + (j 1 : ℕ)) * 384 + (j 2 : ℕ)) % 384
    rw [(chip_block d).2]; omega

/-- A core of another chip has this core's number, or that of the other core of this chip. -/
theorem others : ∀ c o : Dev nD, o.val / 2 ≠ c.val / 2 →
    (o = across 4 c ∨ o = across 2 c ∨ o = across 6 c) ∨ (o = across 4 (across 1 c) ∨ o = across 2 (across 1 c) ∨ o = across 6 (across 1 c)) := by decide +kernel
/-- A chip is this one, or that of three cores with this core's number. -/
theorem chips : ∀ (c : Dev nD) (q : Fin 4), ∃ d : Dev nD, d.val / 2 = q.val ∧ (d = c ∨ d = across 4 c ∨ d = across 2 c ∨ d = across 6 c) := by decide +kernel

theorem read0 : ∀ c : Dev nD, k0_off4 c = ![c.val % 2 * 512, 0] := by decide +kernel
theorem read1 : ∀ c : Dev nD, k0_off6 c = ![c.val % 2 * 256, 0] := by decide +kernel

/-- The rows of a core of another chip come from itself or from the other core of this one. -/
theorem comes0 {c o : Dev nD} (h : o.val / 2 ≠ c.val / 2) : ∃ d s p hp q hq, moves.dest s d = c ∧ moves.copy d s = some ⟨part0 p hp, half0 q hq⟩ ∧ moves.origin d s = o
    ∧ p = ![o.val % 2 * 512, 0] ∧ q = ![o.val / 2, o.val % 2 * 512, 0] := by
  rcases others c o h with (rfl | rfl | rfl) | (rfl | rfl | rfl)
  · exact ⟨_, 12, _, k0_off4_inb _, _, k0_off5_inb _, across_across 4 c, rfl, rfl, read0 _, own0 _⟩
  · exact ⟨_, 13, _, k0_off4_inb _, _, k0_off5_inb _, across_across 2 c, rfl, rfl, read0 _, own0 _⟩
  · exact ⟨_, 14, _, k0_off4_inb _, _, k0_off5_inb _, across_across 6 c, rfl, rfl, read0 _, own0 _⟩
  · exact ⟨across 1 c, 15, _, k0_off4_inb _, _, k0_off9_inb _, across_across 1 c, rfl, rfl, read0 _, (told9 _).symm.trans (own0 _)⟩
  · exact ⟨across 1 c, 16, _, k0_off4_inb _, _, k0_off11_inb _, across_across 1 c, rfl, rfl, read0 _, (told11 _).symm.trans (own0 _)⟩
  · exact ⟨across 1 c, 17, _, k0_off4_inb _, _, k0_off13_inb _, across_across 1 c, rfl, rfl, read0 _, (told13 _).symm.trans (own0 _)⟩

theorem comes1 {c o : Dev nD} (h : o.val / 2 ≠ c.val / 2) : ∃ d s p hp q hq, moves.dest s d = c ∧ moves.copy d s = some ⟨part1 p hp, half1 q hq⟩ ∧ moves.origin d s = o
    ∧ p = ![o.val % 2 * 256, 0] ∧ q = ![o.val / 2, o.val % 2 * 256, 0] := by
  rcases others c o h with (rfl | rfl | rfl) | (rfl | rfl | rfl)
  · exact ⟨_, 18, _, k0_off6_inb _, _, k0_off7_inb _, across_across 4 c, rfl, rfl, read1 _, own1 _⟩
  · exact ⟨_, 19, _, k0_off6_inb _, _, k0_off7_inb _, across_across 2 c, rfl, rfl, read1 _, own1 _⟩
  · exact ⟨_, 20, _, k0_off6_inb _, _, k0_off7_inb _, across_across 6 c, rfl, rfl, read1 _, own1 _⟩
  · exact ⟨across 1 c, 21, _, k0_off6_inb _, _, k0_off15_inb _, across_across 1 c, rfl, rfl, read1 _, (told15 _).symm.trans (own1 _)⟩
  · exact ⟨across 1 c, 22, _, k0_off6_inb _, _, k0_off17_inb _, across_across 1 c, rfl, rfl, read1 _, (told17 _).symm.trans (own1 _)⟩
  · exact ⟨across 1 c, 23, _, k0_off6_inb _, _, k0_off19_inb _, across_across 1 c, rfl, rfl, read1 _, (told19 _).symm.trans (own1 _)⟩

/-- Each shard of the third array comes from a core of its chip. -/
theorem comes2 {c d : Dev nD} (h : d = c ∨ d = across 4 c ∨ d = across 2 c ∨ d = across 6 c) :
    ∃ s, moves.dest s d = c ∧ moves.copy d s = some ⟨Memref.whole main_arg2, slab2 d⟩ ∧ moves.origin d s = d := by
  rcases h with rfl | rfl | rfl | rfl
  · exact ⟨32, rfl, rfl, rfl⟩
  · exact ⟨27, across_across 4 c, rfl, rfl⟩
  · exact ⟨28, across_across 2 c, rfl, rfl⟩
  · exact ⟨29, across_across 6 c, rfl, rfl⟩

section Results

variable {m m' : Mem nD τ sig (Elt F)}
  (harr : ∀ (c d : Dev nD) (s : Fin 33) (x : Copy sig), moves.copy d s = some x → moves.dest s d = c → x.Arrived m (moves.origin d s) c m')

include harr

/-- Every row is that of the core that sent it first. -/
theorem row0 (c : Dev nD) (j : Shape.Idx S4x1024x1284) : ∃ o : Dev nD, (j 0 : ℕ) = o.val / 2
    ∧ m' ((c.tc : Thread nD τ).loc main_v1_0) j = m ((o.tc : Thread nD τ).loc main_arg0) (ix2 (j 1) (j 2)) := by
  have hj0 : (j 0 : ℕ) < 4 := (j 0).isLt
  have hj1 : (j 1 : ℕ) < 1024 := (j 1).isLt
  by_cases hc : (j 0 : ℕ) = c.val / 2
  · refine ⟨c, hc, ?_⟩
    have hA : ∀ i : Shape.Idx S1024x1284, m' ((c.tc : Thread nD τ).loc main_v1_0) ((slab0 c).view.emb i) = m ((c.tc : Thread nD τ).loc main_arg0) i := harr c c 30 _ rfl rfl
    have hj : (slab0 c).view.emb (ix2 (j 1) (j 2)) = j := by
      refine at_slab main_v1_0 (chip0 c) _ (ix3 (0 : Fin 1) (j 1) (j 2)) (flat _ _) _ fun a => ?_
      match a with
      | ⟨0, _⟩ => exact hc.symm
      | ⟨1, _⟩ => exact Nat.zero_add _
      | ⟨2, _⟩ => exact Nat.zero_add _
    rw [← hA, hj]
  · obtain ⟨o, ho⟩ : ∃ o : Dev nD, o.val = 2 * (j 0 : ℕ) + (j 1 : ℕ) / 512 := ⟨⟨2 * (j 0 : ℕ) + (j 1 : ℕ) / 512, by show _ < 8; omega⟩, rfl⟩
    have hq : o.val / 2 = (j 0 : ℕ) := by omega
    have hr : o.val % 2 * 512 + (j 1 : ℕ) % 512 = (j 1 : ℕ) := by omega
    obtain ⟨d, s, p, hp, q, hq', hto, hx, hor, rp, rq⟩ := comes0 (c := c) (o := o) (by omega)
    refine ⟨o, hq.symm, ?_⟩
    have hA : ∀ i : Shape.Idx S512x1284, m' ((c.tc : Thread nD τ).loc main_v1_0) ((half0 q hq').view.emb i) = m (((moves.origin d s).tc : Thread nD τ).loc main_arg0) ((part0 p hp).view.emb i) :=
      harr c d s _ hx hto
    rw [hor] at hA
    have hj : (half0 q hq').view.emb (ix2 (⟨(j 1 : ℕ) % 512, Nat.mod_lt _ (by decide)⟩ : Fin 512) (j 2)) = j := by
      refine at_slab main_v1_0 rq _ (ix3 (0 : Fin 1) (⟨(j 1 : ℕ) % 512, Nat.mod_lt _ (by decide)⟩ : Fin 512) (j 2)) (flat _ _) _ fun a => ?_
      match a with
      | ⟨0, _⟩ => exact hq
      | ⟨1, _⟩ => exact hr
      | ⟨2, _⟩ => exact Nat.zero_add _
    have hs : (part0 p hp).view.emb (ix2 (⟨(j 1 : ℕ) % 512, Nat.mod_lt _ (by decide)⟩ : Fin 512) (j 2)) = (ix2 (j 1) (j 2) : Shape.Idx S1024x1284) := by
      refine at_window main_arg0 rp _ _ fun a => ?_
      match a with
      | ⟨0, _⟩ => exact hr
      | ⟨1, _⟩ => exact Nat.zero_add _
    rw [← hs, ← hA, hj]

/-- Every row is that of the core that sent it first. -/
theorem row1 (c : Dev nD) (j : Shape.Idx S4x512x1024) : ∃ o : Dev nD, (j 0 : ℕ) = o.val / 2
    ∧ m' ((c.tc : Thread nD τ).loc main_v1_1) j = m ((o.tc : Thread nD τ).loc main_arg1) (ix2 (j 1) (j 2)) := by
  have hj0 : (j 0 : ℕ) < 4 := (j 0).isLt
  have hj1 : (j 1 : ℕ) < 512 := (j 1).isLt
  by_cases hc : (j 0 : ℕ) = c.val / 2
  · refine ⟨c, hc, ?_⟩
    have hA : ∀ i : Shape.Idx S512x1024, m' ((c.tc : Thread nD τ).loc main_v1_1) ((slab1 c).view.emb i) = m ((c.tc : Thread nD τ).loc main_arg1) i := harr c c 31 _ rfl rfl
    have hj : (slab1 c).view.emb (ix2 (j 1) (j 2)) = j := by
      refine at_slab main_v1_1 (chip1 c) _ (ix3 (0 : Fin 1) (j 1) (j 2)) (flat _ _) _ fun a => ?_
      match a with
      | ⟨0, _⟩ => exact hc.symm
      | ⟨1, _⟩ => exact Nat.zero_add _
      | ⟨2, _⟩ => exact Nat.zero_add _
    rw [← hA, hj]
  · obtain ⟨o, ho⟩ : ∃ o : Dev nD, o.val = 2 * (j 0 : ℕ) + (j 1 : ℕ) / 256 := ⟨⟨2 * (j 0 : ℕ) + (j 1 : ℕ) / 256, by show _ < 8; omega⟩, rfl⟩
    have hq : o.val / 2 = (j 0 : ℕ) := by omega
    have hr : o.val % 2 * 256 + (j 1 : ℕ) % 256 = (j 1 : ℕ) := by omega
    obtain ⟨d, s, p, hp, q, hq', hto, hx, hor, rp, rq⟩ := comes1 (c := c) (o := o) (by omega)
    refine ⟨o, hq.symm, ?_⟩
    have hA : ∀ i : Shape.Idx S256x1024, m' ((c.tc : Thread nD τ).loc main_v1_1) ((half1 q hq').view.emb i) = m (((moves.origin d s).tc : Thread nD τ).loc main_arg1) ((part1 p hp).view.emb i) :=
      harr c d s _ hx hto
    rw [hor] at hA
    have hj : (half1 q hq').view.emb (ix2 (⟨(j 1 : ℕ) % 256, Nat.mod_lt _ (by decide)⟩ : Fin 256) (j 2)) = j := by
      refine at_slab main_v1_1 rq _ (ix3 (0 : Fin 1) (⟨(j 1 : ℕ) % 256, Nat.mod_lt _ (by decide)⟩ : Fin 256) (j 2)) (flat _ _) _ fun a => ?_
      match a with
      | ⟨0, _⟩ => exact hq
      | ⟨1, _⟩ => exact hr
      | ⟨2, _⟩ => exact Nat.zero_add _
    have hs : (part1 p hp).view.emb (ix2 (⟨(j 1 : ℕ) % 256, Nat.mod_lt _ (by decide)⟩ : Fin 256) (j 2)) = (ix2 (j 1) (j 2) : Shape.Idx S512x1024) := by
      refine at_window main_arg1 rp _ _ fun a => ?_
      match a with
      | ⟨0, _⟩ => exact hr
      | ⟨1, _⟩ => exact Nat.zero_add _
    rw [← hs, ← hA, hj]

theorem row2 (c : Dev nD) (j : Shape.Idx S4x8x384) : ∃ o : Dev nD, (j 0 : ℕ) = o.val / 2
    ∧ m' ((c.tc : Thread nD τ).loc main_v1_2) j = m ((o.tc : Thread nD τ).loc main_arg2) (ix2 (j 1) (j 2)) := by
  obtain ⟨d, hd, hdc⟩ := chips c (j 0)
  obtain ⟨s, hto, hx, hor⟩ := comes2 hdc
  refine ⟨d, hd.symm, ?_⟩
  have hA : ∀ i : Shape.Idx S8x384, m' ((c.tc : Thread nD τ).loc main_v1_2) ((slab2 d).view.emb i) = m (((moves.origin d s).tc : Thread nD τ).loc main_arg2) i := harr c d s _ hx hto
  rw [hor] at hA
  have hj : (slab2 d).view.emb (ix2 (j 1) (j 2)) = j := by
    refine at_slab main_v1_2 (chip2 d) _ (ix3 (0 : Fin 1) (j 1) (j 2)) (flat _ _) _ fun a => ?_
    match a with
    | ⟨0, _⟩ => exact hd
    | ⟨1, _⟩ => exact Nat.zero_add _
    | ⟨2, _⟩ => exact Nat.zero_add _
  rw [← hA, hj]

theorem result0 (x : (⟨⟨2, ![4096, 1284]⟩, .bf16⟩ : BufTy).Contents (Elt F))
    (hm : ∀ d : Dev nD, m ((d.tc : Thread nD τ).loc main_arg0) = Layout.blockN ⟨2, ![1024, 1284]⟩ ⟨2, ![4096, 1284]⟩ (Layout.meshBlock [2, 2, 2] ![[0, 1], []] d) x) (c : Dev nD) :
    m' ((c.tc : Thread nD τ).loc main_v1_0) = Cert.GatherWeightsRefIdeal.Read.val_main_v0 (F := F) x := by
  funext j
  obtain ⟨o, ho, h⟩ := row0 harr c j
  rw [h, hm o]
  exact shard0 x o j ho

theorem result1 (x : (⟨⟨2, ![2048, 1024]⟩, .bf16⟩ : BufTy).Contents (Elt F))
    (hm : ∀ d : Dev nD, m ((d.tc : Thread nD τ).loc main_arg1) = Layout.blockN ⟨2, ![512, 1024]⟩ ⟨2, ![2048, 1024]⟩ (Layout.meshBlock [2, 2, 2] ![[0, 1], []] d) x) (c : Dev nD) :
    m' ((c.tc : Thread nD τ).loc main_v1_1) = Cert.GatherWeightsRefIdeal.Read.val_main_v1 (F := F) x := by
  funext j
  obtain ⟨o, ho, h⟩ := row1 harr c j
  rw [h, hm o]
  exact shard1 x o j ho

theorem result2 (x : (⟨⟨2, ![32, 384]⟩, .f32⟩ : BufTy).Contents (Elt F))
    (hm : ∀ d : Dev nD, m ((d.tc : Thread nD τ).loc main_arg2) = Layout.blockN ⟨2, ![8, 384]⟩ ⟨2, ![32, 384]⟩ (Layout.meshBlock [2, 2, 2] ![[0, 1], []] d) x) (c : Dev nD) :
    m' ((c.tc : Thread nD τ).loc main_v1_2) = Cert.GatherWeightsRefIdeal.Read.val_main_v2 (F := F) x := by
  funext j
  obtain ⟨o, ho, h⟩ := row2 harr c j
  rw [h, hm o]
  exact shard2 x o j ho

end Results

/-! ## The statements, over any float values -/

/-- From shards of one machine's arrays, the same on both cores of a chip, every device ends with that machine's results. -/
theorem matches_ref (m : Mem nD τ sig (Elt F)) (g : Dev nD → PrngReg)
    (m' : Mem Cert.GatherWeightsRefIdeal.nD Cert.GatherWeightsRefIdeal.τ Cert.GatherWeightsRefIdeal.sig (Elt F)) (g' : Dev Cert.GatherWeightsRefIdeal.nD → PrngReg)
    (hm : ∀ c : Dev nD,
      m ((c.tc : Thread nD τ).loc main_arg0) = Layout.blockN ⟨2, ![1024, 1284]⟩ ⟨2, ![4096, 1284]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg0))
      ∧ m ((c.tc : Thread nD τ).loc main_arg1) = Layout.blockN ⟨2, ![512, 1024]⟩ ⟨2, ![2048, 1024]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg1))
      ∧ m ((c.tc : Thread nD τ).loc main_arg2) = Layout.blockN ⟨2, ![8, 384]⟩ ⟨2, ![32, 384]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg2))) :
    ∃ (v0 : Buf (Elt F) (((0 : Dev Cert.GatherWeightsRefIdeal.nD).tc : Thread Cert.GatherWeightsRefIdeal.nD Cert.GatherWeightsRefIdeal.τ).loc Cert.GatherWeightsRefIdeal.main_v0))
      (v1 : Buf (Elt F) (((0 : Dev Cert.GatherWeightsRefIdeal.nD).tc : Thread Cert.GatherWeightsRefIdeal.nD Cert.GatherWeightsRefIdeal.τ).loc Cert.GatherWeightsRefIdeal.main_v1))
      (v2 : Buf (Elt F) (((0 : Dev Cert.GatherWeightsRefIdeal.nD).tc : Thread Cert.GatherWeightsRefIdeal.nD Cert.GatherWeightsRefIdeal.τ).loc Cert.GatherWeightsRefIdeal.main_v2)),
      θ_run defs (onTc (τ := τ) (main (F := F))) ⟨m, fun _ => 0, g⟩ (fun r => ∀ c : Dev nD,
          r.2.mem ((c.tc : Thread nD τ).loc main_v1_0) = v0
          ∧ r.2.mem ((c.tc : Thread nD τ).loc main_v1_1) = v1
          ∧ r.2.mem ((c.tc : Thread nD τ).loc main_v1_2) = v2
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run Cert.GatherWeightsRefIdeal.defs (onTc (τ := Cert.GatherWeightsRefIdeal.τ) (Cert.GatherWeightsRefIdeal.main (F := F))) ⟨m', fun _ => 0, g'⟩ (fun r =>
          r.2.mem (((0 : Dev Cert.GatherWeightsRefIdeal.nD).tc : Thread Cert.GatherWeightsRefIdeal.nD Cert.GatherWeightsRefIdeal.τ).loc Cert.GatherWeightsRefIdeal.main_v0) = v0
          ∧ r.2.mem (((0 : Dev Cert.GatherWeightsRefIdeal.nD).tc : Thread Cert.GatherWeightsRefIdeal.nD Cert.GatherWeightsRefIdeal.τ).loc Cert.GatherWeightsRefIdeal.main_v1) = v1
          ∧ r.2.mem (((0 : Dev Cert.GatherWeightsRefIdeal.nD).tc : Thread Cert.GatherWeightsRefIdeal.nD Cert.GatherWeightsRefIdeal.τ).loc Cert.GatherWeightsRefIdeal.main_v2) = v2
          ∧ r.2.mem (((0 : Dev Cert.GatherWeightsRefIdeal.nD).tc : Thread Cert.GatherWeightsRefIdeal.nD Cert.GatherWeightsRefIdeal.τ).loc Cert.GatherWeightsRefIdeal.main_arg0) = m' (((0 : Dev Cert.GatherWeightsRefIdeal.nD).tc : Thread Cert.GatherWeightsRefIdeal.nD Cert.GatherWeightsRefIdeal.τ).loc Cert.GatherWeightsRefIdeal.main_arg0)
          ∧ r.2.mem (((0 : Dev Cert.GatherWeightsRefIdeal.nD).tc : Thread Cert.GatherWeightsRefIdeal.nD Cert.GatherWeightsRefIdeal.τ).loc Cert.GatherWeightsRefIdeal.main_arg1) = m' (((0 : Dev Cert.GatherWeightsRefIdeal.nD).tc : Thread Cert.GatherWeightsRefIdeal.nD Cert.GatherWeightsRefIdeal.τ).loc Cert.GatherWeightsRefIdeal.main_arg1)
          ∧ r.2.mem (((0 : Dev Cert.GatherWeightsRefIdeal.nD).tc : Thread Cert.GatherWeightsRefIdeal.nD Cert.GatherWeightsRefIdeal.τ).loc Cert.GatherWeightsRefIdeal.main_arg2) = m' (((0 : Dev Cert.GatherWeightsRefIdeal.nD).tc : Thread Cert.GatherWeightsRefIdeal.nD Cert.GatherWeightsRefIdeal.τ).loc Cert.GatherWeightsRefIdeal.main_arg2)) :=
  ⟨_, _, _,
    (θ_run _ _ _).mono (fun r h c => ⟨result0 h.1 _ (fun d => (hm d).1) c, result1 h.1 _ (fun d => (hm d).2.1) c, result2 h.1 _ (fun d => (hm d).2.2) c,
      h.2.1 c main_arg0 (by decide), h.2.1 c main_arg1 (by decide), h.2.1 c main_arg2 (by decide)⟩) (run_main m g),
    (θ_run _ _ _).mono (fun r h => h 0) (Cert.GatherWeightsRefIdeal.Value.run m' g')⟩

/-- The reference has no semaphore. -/
theorem ref_quiet {α : Type} (s t : GSem Cert.GatherWeightsRefIdeal.nD Cert.GatherWeightsRefIdeal.τ Cert.GatherWeightsRefIdeal.sig → α) : s = t := by
  funext q
  rcases q with ⟨_, (q | q)⟩ <;> exact q.elim0

end Cert.GatherWeightsIdeal.Exchange

open Idealize.ShloMosaic Idealize.ShloMosaic.TcCoe Idealize.SL.Sem Cert.GatherWeightsIdeal.Exchange

theorem frame_GatherWeightsIdeal : Cert.quiescent_GatherWeightsIdeal := fun m g _ =>
  (θ_run Cert.GatherWeightsIdeal.defs _ _).mono (fun _ h => ⟨fun c => ⟨h.2.1 c _ (by decide), h.2.1 c _ (by decide), h.2.1 c _ (by decide)⟩, h.2.2⟩) (run_main (F := Ideal) m g)
theorem frame_GatherWeights : Cert.quiescent_GatherWeights := fun m g _ =>
  (θ_run Cert.GatherWeightsIdeal.defs _ _).mono (fun _ h => ⟨fun c => ⟨h.2.1 c _ (by decide), h.2.1 c _ (by decide), h.2.1 c _ (by decide)⟩, h.2.2⟩) (run_main (F := Bits) m g)
theorem frame_GatherWeightsRefIdeal : Cert.quiescent_GatherWeightsRefIdeal := fun m g _ =>
  (θ_run Cert.GatherWeightsRefIdeal.defs _ _).mono (fun _ h => ⟨fun c => (h c).2.2.2, ref_quiet _ _⟩) (Cert.GatherWeightsRefIdeal.Value.run (F := Ideal) m g)
theorem frame_GatherWeightsRef : Cert.quiescent_GatherWeightsRef := fun m g _ =>
  (θ_run Cert.GatherWeightsRefIdeal.defs _ _).mono (fun _ h => ⟨fun c => (h c).2.2.2, ref_quiet _ _⟩) (Cert.GatherWeightsRefIdeal.Value.run (F := Bits) m g)
theorem algebraic_GatherWeights : Cert.algebraic_GatherWeightsIdeal_GatherWeightsRefIdeal := fun m g m' g' _ hm => matches_ref (F := Ideal) m g m' g' hm
theorem bitexact_GatherWeights : Cert.bitexact_GatherWeights_GatherWeightsRef := fun m g m' g' _ hm => matches_ref (F := Bits) m g m' g' hm

end
-- ==== Proof.Update.Common.lean ====
/-
# One-device calls: what their proofs share

Two body tables with one label agree when the label's two bodies do; a machine without semaphores has one counter state;
an index of a stack of `n` equal slabs, and the ideal host's sum over the stack.
-/
module

public import Idealize.ShloMosaic.Lib.Pipeline.Value
public import Idealize.ShloMosaic.Lib.IdealHost

@[expose] public section

noncomputable section

namespace Cert.Update

open Idealize.ShloMosaic Idealize.ShloMosaic.TcCoe Idealize.SL.Sem

/-- Tables over one label with the same body there are the same. -/
theorem one_body {nD : Nat} {τ : Topo} {sig : RefSig} {Val : EltTy → Type} {Λ : Labels}
    {f g : (ℓ : Λ.Label) → Λ.Args ℓ → Prog (TpuEff nD τ sig Val Λ .tc) (Λ.Result ℓ)}
    (z : Λ.Label) (hz : ∀ ℓ, ℓ = z) (h : ∀ a, f z a = g z a) : Defs.onTc f = Defs.onTc g := by
  refine congrArg Defs.onTc (funext fun ℓ => ?_)
  cases hz ℓ
  exact funext h

/-- Without semaphores any two counter states agree. -/
theorem no_sems {nD : Nat} {τ : Topo} {sig : RefSig} (hr : sig.nSem = 0) (hd : sig.nDmaSem = 0) {α : Type}
    (s t : GSem nD τ sig → α) : s = t := by
  funext q
  rcases q with ⟨_, (q | q)⟩
  · exact (Fin.cast hr q).elim0
  · exact (Fin.cast hd q).elim0

/-- The element of slab `k` at row `i 0`, column `i 1`. -/
def slab {n r c : Nat} (i : Shape.Idx ⟨2, ![r, c]⟩) (k : Fin n) : Shape.Idx ⟨3, ![n, r, c]⟩ := fun a => match a with
  | ⟨0, _⟩ => ⟨k.val, k.isLt⟩
  | ⟨1, _⟩ => ⟨(i 0).val, (i 0).isLt⟩
  | ⟨2, _⟩ => ⟨(i 1).val, (i 1).isLt⟩

/-- An index is slab `k`'s when its three coordinates are. -/
theorem eq_slab {n r c : Nat} {x : Shape.Idx ⟨3, ![n, r, c]⟩} {i : Shape.Idx ⟨2, ![r, c]⟩} {k : Fin n}
    (h0 : (x 0).val = k.val) (h1 : (x 1).val = (i 0).val) (h2 : (x 2).val = (i 1).val) : x = slab i k :=
  funext fun a => Fin.ext (match a with | ⟨0, _⟩ => h0 | ⟨1, _⟩ => h1 | ⟨2, _⟩ => h2)

/-- The host's sum over the stack: its zero start and every slab. -/
theorem hostSum_slabs {n r c : Nat} (x : FVec Ideal ⟨3, ![n, r, c]⟩ .f32) {Z : Shape} (hZ : 0 < Z.numel)
    (hr : Shape.ReducesTo ⟨3, ![n, r, c]⟩ [0] ⟨2, ![r, c]⟩) (hs : Shape.Reduces ⟨3, ![n, r, c]⟩ [0] ⟨2, ![r, c]⟩) (i : Shape.Idx ⟨2, ![r, c]⟩) :
    Host.reduceAdd x (constant (F := Ideal) Z .f32 0x00000000#32) hr hZ i = ∑ k : Fin n, x (slab i k) := by
  simp only [Host.reduceAdd, Ideal.hostReduceAdd_def]
  rw [Ideal.hostReduceAdd_single hr hs]
  rw [show (constant (F := Ideal) Z .f32 0x00000000#32) (Shape.Idx.first hZ) = (0 : Ideal .f32) from Ideal.ofBits_zero_f32, zero_add]
  refine Finset.sum_congr rfl fun k _ => congrArg x (eq_slab ?_ ?_ ?_) <;> rfl

end Cert.Update

end
-- ==== Proof.Update.PairAdd.lean ====
/-
# `pair_add`: the sum of a device's gradient blocks and its partner's

Each grid point adds one block of the two arguments; together they add the arrays element by element.
-/
module

public import proofs.«01_k».proof.Defs
public import proofs.«01_k».proof.Proof.Update.Common
public import proofs.«01_k».proof.Proof.Gen.PairAddIn
public import proofs.«01_k».proof.Proof.Gen.PairAddInIdeal
public import proofs.«01_k».proof.Proof.Gen.PairAddInIdeal.Value
public import proofs.«01_k».proof.Proof.Gen.PairAddInRef
public import proofs.«01_k».proof.Proof.Gen.PairAddInRefIdeal
public import proofs.«01_k».proof.Proof.Gen.PairAddInRefIdeal.Run
public import proofs.«01_k».proof.Proof.Gen.PairAddOut
public import proofs.«01_k».proof.Proof.Gen.PairAddOutIdeal
public import proofs.«01_k».proof.Proof.Gen.PairAddOutIdeal.Value
public import proofs.«01_k».proof.Proof.Gen.PairAddOutRef
public import proofs.«01_k».proof.Proof.Gen.PairAddOutRefIdeal
public import proofs.«01_k».proof.Proof.Gen.PairAddOutRefIdeal.Run

@[expose] public section

noncomputable section

open Idealize.ShloMosaic Idealize.ShloMosaic.TcCoe Idealize.SL.Sem Cert.Update

/-! ## The input projection's gradient -/

theorem tables_PairAddIn : Cert.PairAddIn.defs (F := Bits) = Cert.PairAddInIdeal.defs (F := Bits) :=
  congrArg (Pipeline.defs Cert.PairAddInIdeal.pcfgs) (one_body 0 (by decide) fun (_, _) => rfl)

section
open Cert.PairAddInIdeal Cert.PairAddInIdeal.Gen Cert.PairAddInIdeal.Value

/-- The run leaves the two arguments and every semaphore, whatever the floats mean. -/
theorem still_PairAddIn {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨kept_main_arg0 m r h.1 c, kept_main_arg1 m r h.1 c⟩, h.2⟩) (run_main_quiescent m g)

end

theorem frame_PairAddIn : Cert.quiescent_PairAddIn := fun m g _ => by
  rw [tables_PairAddIn]; exact still_PairAddIn (F := Bits) m g
theorem frame_PairAddInIdeal : Cert.quiescent_PairAddInIdeal := fun m g _ => still_PairAddIn (F := Ideal) m g
theorem frame_PairAddInRefIdeal : Cert.quiescent_PairAddInRefIdeal := fun m g _ =>
  (θ_run Cert.PairAddInRefIdeal.defs _ _).mono (fun _ h => ⟨fun c => (h c).2, no_sems rfl rfl _ _⟩) (Cert.PairAddInRefIdeal.Value.run (F := Ideal) m g)
theorem frame_PairAddInRef : Cert.quiescent_PairAddInRef := fun m g _ =>
  (θ_run Cert.PairAddInRefIdeal.defs _ _).mono (fun _ h => ⟨fun c => (h c).2, no_sems rfl rfl _ _⟩) (Cert.PairAddInRefIdeal.Value.run (F := Bits) m g)

theorem algebraic_PairAddIn : Cert.algebraic_PairAddInIdeal_PairAddInRefIdeal := fun m g m' g' _ hm =>
  ⟨_, Cert.PairAddInIdeal.Value.run (F := Ideal) m g,
    (θ_run _ _ _).mono (fun _ h c => ⟨(h c).1.trans (congrArg₂ addf (hm c).1 (hm c).2), (h c).2⟩)
      (Cert.PairAddInRefIdeal.Value.run (F := Ideal) m' g')⟩
theorem bitexact_PairAddIn : Cert.bitexact_PairAddIn_PairAddInRef := fun m g m' g' _ hm =>
  ⟨_, by rw [tables_PairAddIn]; exact Cert.PairAddInIdeal.Value.run (F := Bits) m g,
    (θ_run Cert.PairAddInRefIdeal.defs _ _).mono (fun _ h c => ⟨(h c).1.trans (congrArg₂ addf (hm c).1 (hm c).2), (h c).2⟩)
      (Cert.PairAddInRefIdeal.Value.run (F := Bits) m' g')⟩

/-! ## The output projection's gradient -/

theorem tables_PairAddOut : Cert.PairAddOut.defs (F := Bits) = Cert.PairAddOutIdeal.defs (F := Bits) :=
  congrArg (Pipeline.defs Cert.PairAddOutIdeal.pcfgs) (one_body 0 (by decide) fun (_, _) => rfl)

section
open Cert.PairAddOutIdeal Cert.PairAddOutIdeal.Gen Cert.PairAddOutIdeal.Value

/-- The run leaves the two arguments and every semaphore, whatever the floats mean. -/
theorem still_PairAddOut {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨kept_main_arg0 m r h.1 c, kept_main_arg1 m r h.1 c⟩, h.2⟩) (run_main_quiescent m g)

end

theorem frame_PairAddOut : Cert.quiescent_PairAddOut := fun m g _ => by
  rw [tables_PairAddOut]; exact still_PairAddOut (F := Bits) m g
theorem frame_PairAddOutIdeal : Cert.quiescent_PairAddOutIdeal := fun m g _ => still_PairAddOut (F := Ideal) m g
theorem frame_PairAddOutRefIdeal : Cert.quiescent_PairAddOutRefIdeal := fun m g _ =>
  (θ_run Cert.PairAddOutRefIdeal.defs _ _).mono (fun _ h => ⟨fun c => (h c).2, no_sems rfl rfl _ _⟩) (Cert.PairAddOutRefIdeal.Value.run (F := Ideal) m g)
theorem frame_PairAddOutRef : Cert.quiescent_PairAddOutRef := fun m g _ =>
  (θ_run Cert.PairAddOutRefIdeal.defs _ _).mono (fun _ h => ⟨fun c => (h c).2, no_sems rfl rfl _ _⟩) (Cert.PairAddOutRefIdeal.Value.run (F := Bits) m g)

theorem algebraic_PairAddOut : Cert.algebraic_PairAddOutIdeal_PairAddOutRefIdeal := fun m g m' g' _ hm =>
  ⟨_, Cert.PairAddOutIdeal.Value.run (F := Ideal) m g,
    (θ_run _ _ _).mono (fun _ h c => ⟨(h c).1.trans (congrArg₂ addf (hm c).1 (hm c).2), (h c).2⟩)
      (Cert.PairAddOutRefIdeal.Value.run (F := Ideal) m' g')⟩
theorem bitexact_PairAddOut : Cert.bitexact_PairAddOut_PairAddOutRef := fun m g m' g' _ hm =>
  ⟨_, by rw [tables_PairAddOut]; exact Cert.PairAddOutIdeal.Value.run (F := Bits) m g,
    (θ_run Cert.PairAddOutRefIdeal.defs _ _).mono (fun _ h c => ⟨(h c).1.trans (congrArg₂ addf (hm c).1 (hm c).2), (h c).2⟩)
      (Cert.PairAddOutRefIdeal.Value.run (F := Bits) m' g')⟩

end
-- ==== Proof.Update.ChipAdd.lean ====
/-
# `chip_add`: the sum of the four chips' gradient blocks

Each grid point adds one block of rows of the four slabs; together they add the slabs element by element, from the
first to the last. The reference's sum over the first axis starts from zero.
-/
module

public import proofs.«01_k».proof.Defs
public import proofs.«01_k».proof.Proof.Update.Common
public import proofs.«01_k».proof.Proof.Gen.ChipAddIn
public import proofs.«01_k».proof.Proof.Gen.ChipAddInIdeal
public import proofs.«01_k».proof.Proof.Gen.ChipAddInIdeal.Value
public import proofs.«01_k».proof.Proof.Gen.ChipAddInRefIdeal
public import proofs.«01_k».proof.Proof.Gen.ChipAddInRefIdeal.Run
public import proofs.«01_k».proof.Proof.Gen.ChipAddOut
public import proofs.«01_k».proof.Proof.Gen.ChipAddOutIdeal
public import proofs.«01_k».proof.Proof.Gen.ChipAddOutIdeal.Value
public import proofs.«01_k».proof.Proof.Gen.ChipAddOutRefIdeal
public import proofs.«01_k».proof.Proof.Gen.ChipAddOutRefIdeal.Run

@[expose] public section

noncomputable section

open Idealize.ShloMosaic Idealize.ShloMosaic.TcCoe Idealize.SL.Sem Cert.Update

namespace Cert.Update

/-- The four slabs added from the first to the last. -/
def sum4 {F : FTy → Type} [FloatOps F] {r c : Nat} (x : FVec F ⟨3, ![4, r, c]⟩ .f32) : FVec F ⟨2, ![r, c]⟩ .f32 := fun i =>
  FloatOps.addf (FloatOps.addf (FloatOps.addf (x (slab i 0)) (x (slab i 1))) (x (slab i 2))) (x (slab i 3))

/-- Over the extended reals that is the host's sum. -/
theorem host_sum4 {r c : Nat} (x : FVec Ideal ⟨3, ![4, r, c]⟩ .f32) {Z : Shape} (hZ : 0 < Z.numel)
    (hr : Shape.ReducesTo ⟨3, ![4, r, c]⟩ [0] ⟨2, ![r, c]⟩) (hs : Shape.Reduces ⟨3, ![4, r, c]⟩ [0] ⟨2, ![r, c]⟩) :
    Host.reduceAdd x (constant (F := Ideal) Z .f32 0x00000000#32) hr hZ = sum4 x := by
  funext i
  rw [hostSum_slabs x hZ hr hs, Fin.sum_univ_four]
  rfl

end Cert.Update

/-! ## The input projection's gradient -/

theorem tables_ChipAddIn : Cert.ChipAddIn.defs (F := Bits) = Cert.ChipAddInIdeal.defs (F := Bits) :=
  congrArg (Pipeline.defs Cert.ChipAddInIdeal.pcfgs) (one_body 0 (by decide) fun (_, _) => rfl)

namespace Cert.ChipAddInIdeal.Sum
open Cert.ChipAddInIdeal Cert.ChipAddInIdeal.Gen Cert.ChipAddInIdeal.Value

variable {F : FTy → Type} [FloatOps F] (m : (ℓ : Loc nD τ sig) → Buf (Elt F) ℓ) (g : Dev nD → PrngReg)

/-- Window `k` reads slab `k`'s rows of the point, the output's window the point's rows. -/
theorem blocks_at : ∀ t : Fin cfg0.N, win0_0.index t = ![0, t.val, 0] ∧ win0_1.index t = ![1, t.val, 0]
    ∧ win0_2.index t = ![2, t.val, 0] ∧ win0_3.index t = ![3, t.val, 0] ∧ win0_4.index t = ![t.val, 0] :=
  (by decide +kernel : ∀ t : Fin grid0.N, _)

theorem zeros3 : (![0, 0, 0] : Fin 3 → Nat) = fun _ => 0 := by decide

/-- A point writes its rows of the sum of the slabs. -/
theorem writes (c : Dev nD) (t : Fin cfg0.N) :
    (dats m 0 c).flushed 4 t = ((cfg0.win 4).blk t).view.read (Elt F) (sum4 (V m c main_arg0)) := by
  rw [flushed4]
  unfold out0_4
  simp only [View.ld_unit_zero (S := S1x128x1284) zeros3]
  obtain ⟨e0, e1, e2, e3, e4⟩ := blocks_at t
  funext j
  refine (canon4_eq _ _ _ _ j).trans ?_
  have o0 : ((((cfg0.win 4).blk t).view.emb j) 0).val = win0_4.index t 0 * 128 + 1 * (j 0).val := rfl
  have o1 : ((((cfg0.win 4).blk t).view.emb j) 1).val = win0_4.index t 1 * 1284 + 1 * (j 1).val := rfl
  have s0 : ((cfg0.win 0).blk t).view.emb (ix4_0 j) = slab (((cfg0.win 4).blk t).view.emb j) (0 : Fin 4) :=
    eq_slab (show win0_0.index t 0 * 1 + 1 * 0 = 0 by rw [e0]; rfl)
      (show win0_0.index t 1 * 128 + 1 * (j 0).val = _ by rw [o0, e0, e4]; rfl)
      (show win0_0.index t 2 * 1284 + 1 * (j 1).val = _ by rw [o1, e0, e4]; rfl)
  have s1 : ((cfg0.win 1).blk t).view.emb (ix4_1 j) = slab (((cfg0.win 4).blk t).view.emb j) (1 : Fin 4) :=
    eq_slab (show win0_1.index t 0 * 1 + 1 * 0 = 1 by rw [e1]; rfl)
      (show win0_1.index t 1 * 128 + 1 * (j 0).val = _ by rw [o0, e1, e4]; rfl)
      (show win0_1.index t 2 * 1284 + 1 * (j 1).val = _ by rw [o1, e1, e4]; rfl)
  have s2 : ((cfg0.win 2).blk t).view.emb (ix4_2 j) = slab (((cfg0.win 4).blk t).view.emb j) (2 : Fin 4) :=
    eq_slab (show win0_2.index t 0 * 1 + 1 * 0 = 2 by rw [e2]; rfl)
      (show win0_2.index t 1 * 128 + 1 * (j 0).val = _ by rw [o0, e2, e4]; rfl)
      (show win0_2.index t 2 * 1284 + 1 * (j 1).val = _ by rw [o1, e2, e4]; rfl)
  have s3 : ((cfg0.win 3).blk t).view.emb (ix4_3 j) = slab (((cfg0.win 4).blk t).view.emb j) (3 : Fin 4) :=
    eq_slab (show win0_3.index t 0 * 1 + 1 * 0 = 3 by rw [e3]; rfl)
      (show win0_3.index t 1 * 128 + 1 * (j 0).val = _ by rw [o0, e3, e4]; rfl)
      (show win0_3.index t 2 * 1284 + 1 * (j 1).val = _ by rw [o1, e3, e4]; rfl)
  show FloatOps.addf (FloatOps.addf (FloatOps.addf (V m c main_arg0 (((cfg0.win 0).blk t).view.emb (ix4_0 j)))
      (V m c main_arg0 (((cfg0.win 1).blk t).view.emb (ix4_1 j)))) (V m c main_arg0 (((cfg0.win 2).blk t).view.emb (ix4_2 j))))
      (V m c main_arg0 (((cfg0.win 3).blk t).view.emb (ix4_3 j))) = sum4 (V m c main_arg0) (((cfg0.win 4).blk t).view.emb j)
  rw [s0, s1, s2, s3]
  rfl

/-- Every row is some point's. -/
theorem rows (i : S512x1284.Idx) : ∃ t : Fin cfg0.N, (cfg0.win 4).flush t = true ∧ i ∈ ((cfg0.win 4).blk t).view.set := by
  have h0 : (i 0).val < 512 := (i 0).isLt
  have h1 : (i 1).val < 1284 := (i 1).isLt
  have hN : cfg0.N = 4 := by decide
  obtain ⟨t, ht⟩ : ∃ t : Fin cfg0.N, t.val = (i 0).val / 128 := ⟨⟨(i 0).val / 128, by omega⟩, rfl⟩
  refine ⟨t, flush0_4 t, ?_⟩
  show i ∈ ((View.whole main_v0).slice (win0_4.rect t)).set
  rw [View.set_slice_whole, Rect.mem_set_unit]
  intro a
  show win0_4.index t a * S128x1284.size a ≤ (i a).val ∧ (i a).val < win0_4.index t a * S128x1284.size a + S128x1284.size a
  rw [(blocks_at t).2.2.2.2]
  match a with
  | ⟨0, _⟩ => show t.val * 128 ≤ (i 0).val ∧ (i 0).val < t.val * 128 + 128; omega
  | ⟨1, _⟩ => show 0 * 1284 ≤ (i 1).val ∧ (i 1).val < 0 * 1284 + 1284; omega

/-- The run leaves the sum of the slabs, the argument and every semaphore. -/
theorem sums : θ_run defs (onTc (τ := τ) (main (F := F))) ⟨m, fun _ => 0, g⟩ (fun r => (∀ c : Dev nD,
      r.2.mem ((c.tc : Thread nD τ).loc main_v0) = sum4 (r := 512) (c := 1284) (m ((c.tc : Thread nD τ).loc main_arg0))
      ∧ r.2.mem ((c.tc : Thread nD τ).loc main_arg0) = m ((c.tc : Thread nD τ).loc main_arg0)) ∧ r.2.sem = fun _ => 0) :=
  (θ_run defs _ _).mono (fun r h => ⟨fun c => ⟨(post4 m r h.1 c).trans
    ((dats m 0 c).arrAt_eq_of_cover 4 _ (fun t _ => writes m c t) rows), kept_main_arg0 m r h.1 c⟩, h.2⟩) (run_main_quiescent m g)

end Cert.ChipAddInIdeal.Sum

theorem frame_ChipAddIn : Cert.quiescent_ChipAddIn := fun m g _ => by
  rw [tables_ChipAddIn]
  exact (θ_run Cert.ChipAddInIdeal.defs _ _).mono (fun _ h => ⟨fun c => (h.1 c).2, h.2⟩) (Cert.ChipAddInIdeal.Sum.sums (F := Bits) m g)
theorem frame_ChipAddInIdeal : Cert.quiescent_ChipAddInIdeal := fun m g _ =>
  (θ_run _ _ _).mono (fun _ h => ⟨fun c => (h.1 c).2, h.2⟩) (Cert.ChipAddInIdeal.Sum.sums (F := Ideal) m g)
theorem frame_ChipAddInRefIdeal : Cert.quiescent_ChipAddInRefIdeal := fun m g _ =>
  (θ_run _ _ _).mono (fun _ h => ⟨fun c => (h c).2, no_sems rfl rfl _ _⟩) (Cert.ChipAddInRefIdeal.Value.run (F := Ideal) m g)

theorem algebraic_ChipAddIn : Cert.algebraic_ChipAddInIdeal_ChipAddInRefIdeal := fun m g m' g' _ hm =>
  ⟨_, (θ_run _ _ _).mono (fun _ h => h.1) (Cert.ChipAddInIdeal.Sum.sums (F := Ideal) m g),
    (θ_run _ _ _).mono (fun _ h c => ⟨(h c).1.trans ((host_sum4 _ _ _ (by decide)).trans (congrArg sum4 (hm c))), (h c).2⟩)
      (Cert.ChipAddInRefIdeal.Value.run (F := Ideal) m' g')⟩

/-! ## The output projection's gradient -/

theorem tables_ChipAddOut : Cert.ChipAddOut.defs (F := Bits) = Cert.ChipAddOutIdeal.defs (F := Bits) :=
  congrArg (Pipeline.defs Cert.ChipAddOutIdeal.pcfgs) (one_body 0 (by decide) fun (_, _) => rfl)

namespace Cert.ChipAddOutIdeal.Sum
open Cert.ChipAddOutIdeal Cert.ChipAddOutIdeal.Gen Cert.ChipAddOutIdeal.Value

variable {F : FTy → Type} [FloatOps F] (m : (ℓ : Loc nD τ sig) → Buf (Elt F) ℓ) (g : Dev nD → PrngReg)

/-- Window `k` reads slab `k`'s rows of the point, the output's window the point's rows. -/
theorem blocks_at : ∀ t : Fin cfg0.N, win0_0.index t = ![0, t.val, 0] ∧ win0_1.index t = ![1, t.val, 0]
    ∧ win0_2.index t = ![2, t.val, 0] ∧ win0_3.index t = ![3, t.val, 0] ∧ win0_4.index t = ![t.val, 0] :=
  (by decide +kernel : ∀ t : Fin grid0.N, _)

theorem zeros3 : (![0, 0, 0] : Fin 3 → Nat) = fun _ => 0 := by decide

/-- A point writes its rows of the sum of the slabs. -/
theorem writes (c : Dev nD) (t : Fin cfg0.N) :
    (dats m 0 c).flushed 4 t = ((cfg0.win 4).blk t).view.read (Elt F) (sum4 (V m c main_arg0)) := by
  rw [flushed4]
  unfold out0_4
  simp only [View.ld_unit_zero (S := S1x128x1024) zeros3]
  obtain ⟨e0, e1, e2, e3, e4⟩ := blocks_at t
  funext j
  refine (canon4_eq _ _ _ _ j).trans ?_
  have o0 : ((((cfg0.win 4).blk t).view.emb j) 0).val = win0_4.index t 0 * 128 + 1 * (j 0).val := rfl
  have o1 : ((((cfg0.win 4).blk t).view.emb j) 1).val = win0_4.index t 1 * 1024 + 1 * (j 1).val := rfl
  have s0 : ((cfg0.win 0).blk t).view.emb (ix4_0 j) = slab (((cfg0.win 4).blk t).view.emb j) (0 : Fin 4) :=
    eq_slab (show win0_0.index t 0 * 1 + 1 * 0 = 0 by rw [e0]; rfl)
      (show win0_0.index t 1 * 128 + 1 * (j 0).val = _ by rw [o0, e0, e4]; rfl)
      (show win0_0.index t 2 * 1024 + 1 * (j 1).val = _ by rw [o1, e0, e4]; rfl)
  have s1 : ((cfg0.win 1).blk t).view.emb (ix4_1 j) = slab (((cfg0.win 4).blk t).view.emb j) (1 : Fin 4) :=
    eq_slab (show win0_1.index t 0 * 1 + 1 * 0 = 1 by rw [e1]; rfl)
      (show win0_1.index t 1 * 128 + 1 * (j 0).val = _ by rw [o0, e1, e4]; rfl)
      (show win0_1.index t 2 * 1024 + 1 * (j 1).val = _ by rw [o1, e1, e4]; rfl)
  have s2 : ((cfg0.win 2).blk t).view.emb (ix4_2 j) = slab (((cfg0.win 4).blk t).view.emb j) (2 : Fin 4) :=
    eq_slab (show win0_2.index t 0 * 1 + 1 * 0 = 2 by rw [e2]; rfl)
      (show win0_2.index t 1 * 128 + 1 * (j 0).val = _ by rw [o0, e2, e4]; rfl)
      (show win0_2.index t 2 * 1024 + 1 * (j 1).val = _ by rw [o1, e2, e4]; rfl)
  have s3 : ((cfg0.win 3).blk t).view.emb (ix4_3 j) = slab (((cfg0.win 4).blk t).view.emb j) (3 : Fin 4) :=
    eq_slab (show win0_3.index t 0 * 1 + 1 * 0 = 3 by rw [e3]; rfl)
      (show win0_3.index t 1 * 128 + 1 * (j 0).val = _ by rw [o0, e3, e4]; rfl)
      (show win0_3.index t 2 * 1024 + 1 * (j 1).val = _ by rw [o1, e3, e4]; rfl)
  show FloatOps.addf (FloatOps.addf (FloatOps.addf (V m c main_arg0 (((cfg0.win 0).blk t).view.emb (ix4_0 j)))
      (V m c main_arg0 (((cfg0.win 1).blk t).view.emb (ix4_1 j)))) (V m c main_arg0 (((cfg0.win 2).blk t).view.emb (ix4_2 j))))
      (V m c main_arg0 (((cfg0.win 3).blk t).view.emb (ix4_3 j))) = sum4 (V m c main_arg0) (((cfg0.win 4).blk t).view.emb j)
  rw [s0, s1, s2, s3]
  rfl

/-- Every row is some point's. -/
theorem rows (i : S256x1024.Idx) : ∃ t : Fin cfg0.N, (cfg0.win 4).flush t = true ∧ i ∈ ((cfg0.win 4).blk t).view.set := by
  have h0 : (i 0).val < 256 := (i 0).isLt
  have h1 : (i 1).val < 1024 := (i 1).isLt
  have hN : cfg0.N = 2 := by decide
  obtain ⟨t, ht⟩ : ∃ t : Fin cfg0.N, t.val = (i 0).val / 128 := ⟨⟨(i 0).val / 128, by omega⟩, rfl⟩
  refine ⟨t, flush0_4 t, ?_⟩
  show i ∈ ((View.whole main_v0).slice (win0_4.rect t)).set
  rw [View.set_slice_whole, Rect.mem_set_unit]
  intro a
  show win0_4.index t a * S128x1024.size a ≤ (i a).val ∧ (i a).val < win0_4.index t a * S128x1024.size a + S128x1024.size a
  rw [(blocks_at t).2.2.2.2]
  match a with
  | ⟨0, _⟩ => show t.val * 128 ≤ (i 0).val ∧ (i 0).val < t.val * 128 + 128; omega
  | ⟨1, _⟩ => show 0 * 1024 ≤ (i 1).val ∧ (i 1).val < 0 * 1024 + 1024; omega

/-- The run leaves the sum of the slabs, the argument and every semaphore. -/
theorem sums : θ_run defs (onTc (τ := τ) (main (F := F))) ⟨m, fun _ => 0, g⟩ (fun r => (∀ c : Dev nD,
      r.2.mem ((c.tc : Thread nD τ).loc main_v0) = sum4 (r := 256) (c := 1024) (m ((c.tc : Thread nD τ).loc main_arg0))
      ∧ r.2.mem ((c.tc : Thread nD τ).loc main_arg0) = m ((c.tc : Thread nD τ).loc main_arg0)) ∧ r.2.sem = fun _ => 0) :=
  (θ_run defs _ _).mono (fun r h => ⟨fun c => ⟨(post4 m r h.1 c).trans
    ((dats m 0 c).arrAt_eq_of_cover 4 _ (fun t _ => writes m c t) rows), kept_main_arg0 m r h.1 c⟩, h.2⟩) (run_main_quiescent m g)

end Cert.ChipAddOutIdeal.Sum

theorem frame_ChipAddOut : Cert.quiescent_ChipAddOut := fun m g _ => by
  rw [tables_ChipAddOut]
  exact (θ_run Cert.ChipAddOutIdeal.defs _ _).mono (fun _ h => ⟨fun c => (h.1 c).2, h.2⟩) (Cert.ChipAddOutIdeal.Sum.sums (F := Bits) m g)
theorem frame_ChipAddOutIdeal : Cert.quiescent_ChipAddOutIdeal := fun m g _ =>
  (θ_run _ _ _).mono (fun _ h => ⟨fun c => (h.1 c).2, h.2⟩) (Cert.ChipAddOutIdeal.Sum.sums (F := Ideal) m g)
theorem frame_ChipAddOutRefIdeal : Cert.quiescent_ChipAddOutRefIdeal := fun m g _ =>
  (θ_run _ _ _).mono (fun _ h => ⟨fun c => (h c).2, no_sems rfl rfl _ _⟩) (Cert.ChipAddOutRefIdeal.Value.run (F := Ideal) m g)

theorem algebraic_ChipAddOut : Cert.algebraic_ChipAddOutIdeal_ChipAddOutRefIdeal := fun m g m' g' _ hm =>
  ⟨_, (θ_run _ _ _).mono (fun _ h => h.1) (Cert.ChipAddOutIdeal.Sum.sums (F := Ideal) m g),
    (θ_run _ _ _).mono (fun _ h c => ⟨(h c).1.trans ((host_sum4 _ _ _ (by decide)).trans (congrArg sum4 (hm c))), (h c).2⟩)
      (Cert.ChipAddOutRefIdeal.Value.run (F := Ideal) m' g')⟩

end
-- ==== Proof.Update.SumSlots.lean ====
/-
# `sum_slots`: the sum of the eight devices' packed blocks

One point adds the eight slabs of the argument element by element, from the first to the last.
-/
module

public import proofs.«01_k».proof.Defs
public import proofs.«01_k».proof.Proof.Update.Common
public import proofs.«01_k».proof.Proof.Gen.SumSlots
public import proofs.«01_k».proof.Proof.Gen.SumSlotsIdeal
public import proofs.«01_k».proof.Proof.Gen.SumSlotsIdeal.Value
public import proofs.«01_k».proof.Proof.Gen.SumSlotsRefIdeal
public import proofs.«01_k».proof.Proof.Gen.SumSlotsRefIdeal.Run

@[expose] public section

noncomputable section

open Idealize.ShloMosaic Idealize.ShloMosaic.TcCoe Idealize.SL.Sem Cert.Update

theorem tables_SumSlots : Cert.SumSlots.defs (F := Bits) = Cert.SumSlotsIdeal.defs (F := Bits) :=
  congrArg (Pipeline.defs Cert.SumSlotsIdeal.pcfgs) (one_body 0 (by decide) fun (_, _) => rfl)

namespace Cert.SumSlotsIdeal.Sum
open Cert.SumSlotsIdeal Cert.SumSlotsIdeal.Gen Cert.SumSlotsIdeal.Value

variable {F : FTy → Type} [FloatOps F] (m : (ℓ : Loc nD τ sig) → Buf (Elt F) ℓ) (g : Dev nD → PrngReg)

/-- The run leaves the argument and every semaphore, whatever the floats mean. -/
theorem still : θ_run defs (onTc (τ := τ) (main (F := F))) ⟨m, fun _ => 0, g⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => kept_main_arg0 m r h.1 c, h.2⟩) (run_main_quiescent m g)

/-- The payload of the slabs read off an array is the host's sum of the array. -/
theorem host_sum (x : Vec Ideal S8x8x6784 .f32) {Z : Shape} (hZ : 0 < Z.numel)
    (hr : Shape.ReducesTo ⟨3, ![8, 8, 6784]⟩ [0] ⟨2, ![8, 6784]⟩) :
    Host.reduceAdd (x : FVec Ideal ⟨3, ![8, 8, 6784]⟩ .f32) (constant (F := Ideal) Z .f32 0x00000000#32) hr hZ = G1 x := by
  funext i
  have hi : r0_8.idx i = i := funext fun a => Fin.ext (match a with
    | ⟨0, _⟩ => show 0 + 1 * (i 0).val = (i 0).val by omega
    | ⟨1, _⟩ => show 0 + 1 * (i 1).val = (i 1).val by omega)
  rw [hostSum_slabs x hZ hr (by decide), Fin.sum_univ_eight]
  refine Eq.trans ?_ (piece1_0 _ _ _ _ _ _ _ _ i).symm
  rw [hi]
  refine congrArg₂ _ (congrArg₂ _ (congrArg₂ _ (congrArg₂ _ (congrArg₂ _ (congrArg₂ _ (congrArg₂ _ ?_ ?_) ?_) ?_) ?_) ?_) ?_) ?_ <;>
    exact congrArg x (eq_slab rfl ((Nat.zero_add _).trans (Nat.one_mul _)) ((Nat.zero_add _).trans (Nat.one_mul _))).symm

end Cert.SumSlotsIdeal.Sum

theorem frame_SumSlots : Cert.quiescent_SumSlots := fun m g _ => by
  rw [tables_SumSlots]; exact Cert.SumSlotsIdeal.Sum.still (F := Bits) m g
theorem frame_SumSlotsIdeal : Cert.quiescent_SumSlotsIdeal := fun m g _ => Cert.SumSlotsIdeal.Sum.still (F := Ideal) m g
theorem frame_SumSlotsRefIdeal : Cert.quiescent_SumSlotsRefIdeal := fun m g _ =>
  (θ_run _ _ _).mono (fun _ h => ⟨fun c => (h c).2, no_sems rfl rfl _ _⟩) (Cert.SumSlotsRefIdeal.Value.run (F := Ideal) m g)

theorem algebraic_SumSlots : Cert.algebraic_SumSlotsIdeal_SumSlotsRefIdeal := fun m g m' g' _ hm =>
  ⟨_, Cert.SumSlotsIdeal.Value.run (F := Ideal) m g,
    (θ_run _ _ _).mono (fun _ h c => ⟨(h c).1.trans ((Cert.SumSlotsIdeal.Sum.host_sum _ _ _).trans (congrArg Cert.SumSlotsIdeal.Value.G1 (hm c))), (h c).2⟩)
      (Cert.SumSlotsRefIdeal.Value.run (F := Ideal) m' g')⟩

end
-- ==== Proof.Update.Adamw.lean ====
/-
# `adamw`: the weight update of one device

Every element of the new moments and of the weight's change is one expression in the four arguments' elements at the
same index. The kernel and the reference compute it by the same tree of operations; they differ only in which of the
two divisions and square roots they use, and over the extended reals these are the same function.
-/
module

public import proofs.«01_k».proof.Defs
public import proofs.«01_k».proof.Proof.Update.Common
public import proofs.«01_k».proof.Proof.Gen.AdamwIn
public import proofs.«01_k».proof.Proof.Gen.AdamwInIdeal.Value
public import proofs.«01_k».proof.Proof.Gen.AdamwInIdeal
public import proofs.«01_k».proof.Proof.Gen.AdamwInRefIdeal
public import proofs.«01_k».proof.Proof.Gen.AdamwInRefIdeal.Run
public import proofs.«01_k».proof.Proof.Gen.AdamwOut
public import proofs.«01_k».proof.Proof.Gen.AdamwOutIdeal.Value
public import proofs.«01_k».proof.Proof.Gen.AdamwOutIdeal
public import proofs.«01_k».proof.Proof.Gen.AdamwOutRefIdeal
public import proofs.«01_k».proof.Proof.Gen.AdamwOutRefIdeal.Run
public import proofs.«01_k».proof.Proof.Gen.AdamwSmall
public import proofs.«01_k».proof.Proof.Gen.AdamwSmallIdeal.Value
public import proofs.«01_k».proof.Proof.Gen.AdamwSmallIdeal
public import proofs.«01_k».proof.Proof.Gen.AdamwSmallRefIdeal
public import proofs.«01_k».proof.Proof.Gen.AdamwSmallRefIdeal.Run

@[expose] public section

noncomputable section

namespace Cert.Update

open Idealize.ShloMosaic Idealize.ShloMosaic.TcCoe Idealize.SL.Sem

/-! ## The update's three results, for arrays of any shape -/

section Step

variable {F : FTy → Type} [FloatOps F] {S : Shape}

local notation "Arr" => Shape.Idx S → Elt F EltTy.f32

/-- The first moment after the step. -/
def moment1 (g m : Arr) : Arr := fun i =>
  FloatOps.addf (FloatOps.mulf (Scalar.ofBits .f32 0x3F666666#32) (m i)) (FloatOps.mulf (Scalar.ofBits .f32 0x3DCCCCCD#32) (g i))

/-- The second moment after the step. -/
def moment2 (g v : Arr) : Arr := fun i =>
  FloatOps.addf (FloatOps.mulf (Scalar.ofBits .f32 0x3F7FBE77#32) (v i))
    (FloatOps.mulf (Scalar.ofBits .f32 0x3A83126F#32) (FloatOps.mulf (g i) (g i)))

/-- What the step adds to the weight. -/
def delta (w g m v : Arr) : Arr := fun i =>
  FloatOps.mulf (Scalar.ofBits .f32 0xBA83126F#32) (FloatOps.addf
    (FloatOps.divf (FloatOps.divf (moment1 g m i) (Scalar.ofBits .f32 0x3F26BD02#32))
      (FloatOps.addf (FloatOps.sqrt (FloatOps.divf (moment2 g v i) (Scalar.ofBits .f32 0x3C231ACC#32))) (Scalar.ofBits .f32 0x322BCC77#32)))
    (FloatOps.mulf (Scalar.ofBits .f32 0x3C23D70A#32) (w i)))

end Step

end Cert.Update

open Idealize.ShloMosaic Idealize.ShloMosaic.TcCoe Idealize.SL.Sem Cert.Update

/-! ## The input projection's weight -/

theorem tables_AdamwIn : Cert.AdamwIn.defs (F := Bits) = Cert.AdamwInIdeal.defs (F := Bits) :=
  congrArg (Pipeline.defs Cert.AdamwInIdeal.pcfgs) (one_body 0 (by decide) fun (_, _) => rfl)

section
open Cert.AdamwInIdeal Cert.AdamwInIdeal.Gen Cert.AdamwInIdeal.Value

/-- The run leaves the four arguments and every semaphore, whatever the floats mean. -/
theorem still_AdamwIn {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨kept_main_arg0 m r h.1 c, kept_main_arg1 m r h.1 c,
    kept_main_arg2 m r h.1 c, kept_main_arg3 m r h.1 c⟩, h.2⟩) (run_main_quiescent m g)

end

theorem frame_AdamwIn : Cert.quiescent_AdamwIn := fun m g _ => by
  rw [tables_AdamwIn]; exact still_AdamwIn (F := Bits) m g
theorem frame_AdamwInIdeal : Cert.quiescent_AdamwInIdeal := fun m g _ => still_AdamwIn (F := Ideal) m g
theorem frame_AdamwInRefIdeal : Cert.quiescent_AdamwInRefIdeal := fun m g _ =>
  (θ_run Cert.AdamwInRefIdeal.defs _ _).mono (fun _ h => ⟨fun c => (h c).2.2.2, no_sems rfl rfl _ _⟩) (Cert.AdamwInRefIdeal.Value.run (F := Ideal) m g)

theorem algebraic_AdamwIn : Cert.algebraic_AdamwInIdeal_AdamwInRefIdeal := fun m g m' g' _ hm =>
  ⟨fun c => delta (S := Cert.AdamwInIdeal.S1024x1284) (m ((c.tc : Thread Cert.AdamwInIdeal.nD Cert.AdamwInIdeal.τ).loc Cert.AdamwInIdeal.main_arg0)) (m (c.tc.loc Cert.AdamwInIdeal.main_arg1))
      (m (c.tc.loc Cert.AdamwInIdeal.main_arg2)) (m (c.tc.loc Cert.AdamwInIdeal.main_arg3)),
    fun c => moment1 (S := Cert.AdamwInIdeal.S1024x1284) (m (c.tc.loc Cert.AdamwInIdeal.main_arg1)) (m (c.tc.loc Cert.AdamwInIdeal.main_arg2)),
    fun c => moment2 (S := Cert.AdamwInIdeal.S1024x1284) (m (c.tc.loc Cert.AdamwInIdeal.main_arg1)) (m (c.tc.loc Cert.AdamwInIdeal.main_arg3)),
    (θ_run _ _ _).mono (fun _ h => h) (Cert.AdamwInIdeal.Value.run (F := Ideal) m g),
    (θ_run _ _ _).mono (fun _ h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamwInRefIdeal.Value.run (F := Ideal) m' g')⟩

/-! ## The output projection's weight -/

theorem tables_AdamwOut : Cert.AdamwOut.defs (F := Bits) = Cert.AdamwOutIdeal.defs (F := Bits) :=
  congrArg (Pipeline.defs Cert.AdamwOutIdeal.pcfgs) (one_body 0 (by decide) fun (_, _) => rfl)

section
open Cert.AdamwOutIdeal Cert.AdamwOutIdeal.Gen Cert.AdamwOutIdeal.Value

/-- The run leaves the four arguments and every semaphore, whatever the floats mean. -/
theorem still_AdamwOut {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨kept_main_arg0 m r h.1 c, kept_main_arg1 m r h.1 c,
    kept_main_arg2 m r h.1 c, kept_main_arg3 m r h.1 c⟩, h.2⟩) (run_main_quiescent m g)

end

theorem frame_AdamwOut : Cert.quiescent_AdamwOut := fun m g _ => by
  rw [tables_AdamwOut]; exact still_AdamwOut (F := Bits) m g
theorem frame_AdamwOutIdeal : Cert.quiescent_AdamwOutIdeal := fun m g _ => still_AdamwOut (F := Ideal) m g
theorem frame_AdamwOutRefIdeal : Cert.quiescent_AdamwOutRefIdeal := fun m g _ =>
  (θ_run Cert.AdamwOutRefIdeal.defs _ _).mono (fun _ h => ⟨fun c => (h c).2.2.2, no_sems rfl rfl _ _⟩) (Cert.AdamwOutRefIdeal.Value.run (F := Ideal) m g)

theorem algebraic_AdamwOut : Cert.algebraic_AdamwOutIdeal_AdamwOutRefIdeal := fun m g m' g' _ hm =>
  ⟨fun c => delta (S := Cert.AdamwOutIdeal.S512x1024) (m ((c.tc : Thread Cert.AdamwOutIdeal.nD Cert.AdamwOutIdeal.τ).loc Cert.AdamwOutIdeal.main_arg0)) (m (c.tc.loc Cert.AdamwOutIdeal.main_arg1))
      (m (c.tc.loc Cert.AdamwOutIdeal.main_arg2)) (m (c.tc.loc Cert.AdamwOutIdeal.main_arg3)),
    fun c => moment1 (S := Cert.AdamwOutIdeal.S512x1024) (m (c.tc.loc Cert.AdamwOutIdeal.main_arg1)) (m (c.tc.loc Cert.AdamwOutIdeal.main_arg2)),
    fun c => moment2 (S := Cert.AdamwOutIdeal.S512x1024) (m (c.tc.loc Cert.AdamwOutIdeal.main_arg1)) (m (c.tc.loc Cert.AdamwOutIdeal.main_arg3)),
    (θ_run _ _ _).mono (fun _ h => h) (Cert.AdamwOutIdeal.Value.run (F := Ideal) m g),
    (θ_run _ _ _).mono (fun _ h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamwOutRefIdeal.Value.run (F := Ideal) m' g')⟩

/-! ## The packed small parameters -/

theorem tables_AdamwSmall : Cert.AdamwSmall.defs (F := Bits) = Cert.AdamwSmallIdeal.defs (F := Bits) :=
  congrArg (Pipeline.defs Cert.AdamwSmallIdeal.pcfgs) (one_body 0 (by decide) fun (_, _) => rfl)

section
open Cert.AdamwSmallIdeal Cert.AdamwSmallIdeal.Gen Cert.AdamwSmallIdeal.Value

/-- The run leaves the four arguments and every semaphore, whatever the floats mean. -/
theorem still_AdamwSmall {F : FTy → Type} [FloatOps F] (m : (ℓ : Loc nD τ sig) → Buf (Elt F) ℓ) (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨kept_main_arg0 m r h.1 c, kept_main_arg1 m r h.1 c,
    kept_main_arg2 m r h.1 c, kept_main_arg3 m r h.1 c⟩, h.2⟩) (run_main_quiescent m g)

end

theorem frame_AdamwSmall : Cert.quiescent_AdamwSmall := fun m g _ => by
  rw [tables_AdamwSmall]; exact still_AdamwSmall (F := Bits) m g
theorem frame_AdamwSmallIdeal : Cert.quiescent_AdamwSmallIdeal := fun m g _ => still_AdamwSmall (F := Ideal) m g
theorem frame_AdamwSmallRefIdeal : Cert.quiescent_AdamwSmallRefIdeal := fun m g _ =>
  (θ_run Cert.AdamwSmallRefIdeal.defs _ _).mono (fun _ h => ⟨fun c => (h c).2.2.2, no_sems rfl rfl _ _⟩) (Cert.AdamwSmallRefIdeal.Value.run (F := Ideal) m g)

theorem algebraic_AdamwSmall : Cert.algebraic_AdamwSmallIdeal_AdamwSmallRefIdeal := fun m g m' g' _ hm =>
  ⟨fun c => delta (S := Cert.AdamwSmallIdeal.S8x5120) (m ((c.tc : Thread Cert.AdamwSmallIdeal.nD Cert.AdamwSmallIdeal.τ).loc Cert.AdamwSmallIdeal.main_arg0)) (m (c.tc.loc Cert.AdamwSmallIdeal.main_arg1))
      (m (c.tc.loc Cert.AdamwSmallIdeal.main_arg2)) (m (c.tc.loc Cert.AdamwSmallIdeal.main_arg3)),
    fun c => moment1 (S := Cert.AdamwSmallIdeal.S8x5120) (m (c.tc.loc Cert.AdamwSmallIdeal.main_arg1)) (m (c.tc.loc Cert.AdamwSmallIdeal.main_arg2)),
    fun c => moment2 (S := Cert.AdamwSmallIdeal.S8x5120) (m (c.tc.loc Cert.AdamwSmallIdeal.main_arg1)) (m (c.tc.loc Cert.AdamwSmallIdeal.main_arg3)),
    (θ_run _ _ _).mono (fun _ h => h) (Cert.AdamwSmallIdeal.Value.run (F := Ideal) m g),
    (θ_run _ _ _).mono (fun _ h c => by
      obtain ⟨h0, h1, h2, h3⟩ := hm c
      refine ⟨(h c).1.trans ?_, (h c).2.1.trans ?_, (h c).2.2.1.trans ?_, (h c).2.2.2⟩ <;> simp only [h0, h1, h2, h3] <;> rfl)
      (Cert.AdamwSmallRefIdeal.Value.run (F := Ideal) m' g')⟩
end
-- ==== Proof.Products.Common.lean ====
/-
# Products of matrices over the extended reals

Entries of the three kinds of product, for any extents: rows times columns, rows times rows, columns times columns. A
printed product, on the core onto a zero accumulator or on the host, is one of them.
-/
module

public import Idealize.ShloMosaic.Lib.Pipeline.Value
public import Idealize.ShloMosaic.Lib.Pointwise.Contract
public import Idealize.ShloMosaic.PureOps.Ideal.Laws

@[expose] public section

noncomputable section

namespace Cert.Products

open Idealize.ShloMosaic

variable {φ ψ : FTy} {r k c : Nat}

/-- Rows of the left operand times columns of the right one. -/
def rowsCols (a : FVec Ideal ⟨2, ![r, k]⟩ φ) (b : FVec Ideal ⟨2, ![k, c]⟩ ψ) : FVec Ideal ⟨2, ![r, c]⟩ .f32 := fun i =>
  ∑ x : Fin k, a (ix2 (i 0) x) * b (ix2 x (i 1))

/-- Rows of the left operand times rows of the right one. -/
def rowsRows (a : FVec Ideal ⟨2, ![r, k]⟩ φ) (b : FVec Ideal ⟨2, ![c, k]⟩ ψ) : FVec Ideal ⟨2, ![r, c]⟩ .f32 := fun i =>
  ∑ x : Fin k, a (ix2 (i 0) x) * b (ix2 (i 1) x)

/-- Columns of the left operand times columns of the right one. -/
def colsCols (a : FVec Ideal ⟨2, ![k, r]⟩ φ) (b : FVec Ideal ⟨2, ![k, c]⟩ ψ) : FVec Ideal ⟨2, ![r, c]⟩ .f32 := fun i =>
  ∑ x : Fin k, a (ix2 x (i 0)) * b (ix2 x (i 1))

/-- Two indices of a matrix with the same coordinates. -/
theorem eq_ix2 {m n : Nat} {i : Shape.Idx ⟨2, ![m, n]⟩} {x : Fin m} {y : Fin n} (h0 : (i 0).val = x.val) (h1 : (i 1).val = y.val) :
    i = ix2 x y :=
  funext fun a => Fin.ext (match a with | ⟨0, _⟩ => h0 | ⟨1, _⟩ => h1)

section Dims
variable {sl sr so : Shape} (d : DotDims sl sr so) (prec : Option ContractPrecision)

/-- A product onto a zero accumulator is the host's product. -/
theorem matmul_zero (a : FVec Ideal sl φ) (b : FVec Ideal sr ψ) :
    matmul d prec a b (constant (F := Ideal) so .f32 0x00000000#32) = Host.dotGeneral d none a b := by
  funext i
  simp only [matmul, Host.dotGeneral, Ideal.matmul_apply, Ideal.dotGeneral_apply]
  rw [show (constant (F := Ideal) so .f32 0x00000000#32) i = (0 : Ideal .f32) from Ideal.ofBits_zero_f32, zero_add]

/-- The host's product with one contracting axis, its operands read where `L` and `R` say. -/
theorem dot_entry {x : Fin sl.rank} (hc : d.lhsContracting = [x]) {n : Nat} (hn : sl.size x = n)
    (a : FVec Ideal sl φ) (b : FVec Ideal sr ψ) (i : so.Idx) (L : Fin n → sl.Idx) (R : Fin n → sr.Idx)
    (hL : ∀ y, d.lhsIdx i (d.contrIdx₁ hc hn y) = L y) (hR : ∀ y, d.rhsIdx i (d.contrIdx₁ hc hn y) = R y) :
    Host.dotGeneral d prec a b i = ∑ y : Fin n, a (L y) * b (R y) := by
  simp only [Host.dotGeneral, Ideal.dotGeneral_apply, d.sum_contr₁ hc hn, ← hL, ← hR]

end Dims

/-- The dimension numbers of a product contracting both operands' first axes. -/
def firstAxes (k r c : Nat) : DotDims ⟨2, ![k, r]⟩ ⟨2, ![k, c]⟩ ⟨2, ![r, c]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem dot_rowsCols (a : FVec Ideal ⟨2, ![r, k]⟩ φ) (b : FVec Ideal ⟨2, ![k, c]⟩ ψ) :
    Host.dotGeneral (DotDims.plain r k c) none a b = rowsCols a b :=
  funext fun i => dot_entry _ _ (x := 1) rfl rfl a b i _ _ (fun _ => eq_ix2 rfl rfl) (fun _ => eq_ix2 rfl rfl)

theorem dot_rowsRows (a : FVec Ideal ⟨2, ![r, k]⟩ φ) (b : FVec Ideal ⟨2, ![c, k]⟩ ψ) :
    Host.dotGeneral (DotDims.transposedRhs r k c) none a b = rowsRows a b :=
  funext fun i => dot_entry _ _ (x := 1) rfl rfl a b i _ _ (fun _ => eq_ix2 rfl rfl) (fun _ => eq_ix2 rfl rfl)

theorem dot_colsCols (a : FVec Ideal ⟨2, ![k, r]⟩ φ) (b : FVec Ideal ⟨2, ![k, c]⟩ ψ) :
    Host.dotGeneral (firstAxes k r c) none a b = colsCols a b :=
  funext fun i => dot_entry _ _ (x := 0) rfl rfl a b i _ _ (fun _ => eq_ix2 rfl rfl) (fun _ => eq_ix2 rfl rfl)

/-! ## Spans of columns -/

/-- A sum over a range is the sum over its two parts. -/
theorem sum_split {m n l : Nat} (h : m + n = l) (f : Fin l → EReal) :
    ∑ x, f x = (∑ x : Fin m, f ⟨x.val, by omega⟩) + ∑ x : Fin n, f ⟨m + x.val, by omega⟩ := by
  subst h; exact Fin.sum_univ_add f

/-- Rows of the left operand times the columns from `o` on of the right one's rows. -/
def rowsSpan {l : Nat} (o : Nat) (h : o + k ≤ l) (a : FVec Ideal ⟨2, ![r, k]⟩ φ) (b : FVec Ideal ⟨2, ![c, l]⟩ ψ) :
    FVec Ideal ⟨2, ![r, c]⟩ .f32 := fun i =>
  ∑ x : Fin k, a (ix2 (i 0) x) * b (ix2 (i 1) ⟨o + x.val, by omega⟩)

/-- A block's product on the core at `j` is the whole operands' at `i`, if its rows are theirs. -/
theorem span_entry {s l : Nat} {o : Nat} {h : o + k ≤ l} (prec : Option ContractPrecision) {φ' : FTy}
    {a : FVec Ideal ⟨2, ![s, k]⟩ φ} {b : FVec Ideal ⟨2, ![c, k]⟩ ψ} {A : FVec Ideal ⟨2, ![r, k]⟩ φ'} {B : FVec Ideal ⟨2, ![c, l]⟩ ψ}
    {j : Shape.Idx ⟨2, ![s, c]⟩} {i : Shape.Idx ⟨2, ![r, c]⟩} (ha : ∀ x, a (ix2 (j 0) x) = A (ix2 (i 0) x))
    (hb : ∀ x : Fin k, b (ix2 (j 1) x) = B (ix2 (i 1) ⟨o + x.val, by omega⟩)) :
    matmul (DotDims.transposedRhs s k c) prec a b (constant (F := Ideal) _ .f32 0x00000000#32) j = rowsSpan o h A B i := by
  rw [matmul_zero, dot_rowsRows]
  exact Finset.sum_congr rfl fun x _ => by rw [ha, hb]

/-- Rows of the left operand times the columns from `o` on of the right one. -/
def colsSpan {l : Nat} (o : Nat) (h : o + c ≤ l) (a : FVec Ideal ⟨2, ![r, k]⟩ φ) (b : FVec Ideal ⟨2, ![k, l]⟩ ψ) :
    FVec Ideal ⟨2, ![r, c]⟩ .f32 := fun i =>
  ∑ x : Fin k, a (ix2 (i 0) x) * b (ix2 x ⟨o + (i 1).val, Nat.lt_of_lt_of_le (Nat.add_lt_add_left (i 1).isLt o) h⟩)

/-- The same for the columns of the right operand from `o` on. -/
theorem cols_entry {s l : Nat} {o : Nat} {h : o + c ≤ l} (prec : Option ContractPrecision) {φ' : FTy}
    {a : FVec Ideal ⟨2, ![s, k]⟩ φ} {b : FVec Ideal ⟨2, ![k, c]⟩ ψ} {A : FVec Ideal ⟨2, ![r, k]⟩ φ'} {B : FVec Ideal ⟨2, ![k, l]⟩ ψ}
    {j : Shape.Idx ⟨2, ![s, c]⟩} {i : Shape.Idx ⟨2, ![r, c]⟩} (ha : ∀ x, a (ix2 (j 0) x) = A (ix2 (i 0) x))
    (hb : ∀ x : Fin k, b (ix2 x (j 1)) = B (ix2 x ⟨o + (i 1).val, Nat.lt_of_lt_of_le (Nat.add_lt_add_left (i 1).isLt o) h⟩)) :
    matmul (DotDims.plain s k c) prec a b (constant (F := Ideal) _ .f32 0x00000000#32) j = colsSpan o h A B i := by
  rw [matmul_zero, dot_rowsCols]
  exact Finset.sum_congr rfl fun x _ => by rw [ha, hb]

/-- The host's slice of columns of a whole product. -/
theorem slice_dot {l : Nat} {o : Nat} (h : o + c ≤ l) (a : FVec Ideal ⟨2, ![r, k]⟩ φ) (b : FVec Ideal ⟨2, ![k, l]⟩ ψ)
    (hs : Shape.Slices ⟨2, ![r, l]⟩ ![0, o] ⟨2, ![r, c]⟩) :
    extractStridedSlice ⟨2, ![r, c]⟩ ![0, o] (Host.dotGeneral (DotDims.plain r k l) none a b) hs = colsSpan o h a b := by
  rw [dot_rowsCols]
  exact funext fun i => congrArg (rowsCols a b) (eq_ix2 (x := i 0)
    (y := ⟨o + (i 1).val, Nat.lt_of_lt_of_le (Nat.add_lt_add_left (i 1).isLt o) h⟩) (Nat.zero_add _) rfl)

/-! ## Blocks of rows -/

section Blocks
variable {f : Fin 2 → Nat} {t b y n : Nat}

theorem at_row (e : f = ![t, 0]) : f 0 * b + 1 * y = t * b + y := by rw [e]; show t * b + 1 * y = _; omega

theorem at_col (e : f = ![t, 0]) : f 1 * b + 1 * y = y := by rw [e]; show 0 * b + 1 * y = _; omega

/-- An index lies in the block of rows its row lies in. -/
theorem in_rows {R : Nat} (e : f = ![t, 0]) (i : Shape.Idx ⟨2, ![R, n]⟩) (h : t * b ≤ (i 0).val ∧ (i 0).val < t * b + b) :
    ∀ a : Fin 2, f a * (![b, n] : Fin 2 → Nat) a ≤ (i a).val ∧ (i a).val < f a * (![b, n] : Fin 2 → Nat) a + (![b, n] : Fin 2 → Nat) a := by
  subst e
  have h1 : (i 1).val < n := (i 1).isLt
  intro a
  match a with
  | ⟨0, _⟩ => exact h
  | ⟨1, _⟩ => show 0 * n ≤ (i 1).val ∧ (i 1).val < 0 * n + n; omega

end Blocks

end Cert.Products

end
-- ==== Proof.Products.InProj.lean ====
/-
# `in_proj`: the input projection

Each grid point forms 256 rows of the six parts of the product of the input and the packed weight, and the input's rows in the
narrower format. The reference forms the whole product and slices it.
-/
module

public import proofs.«01_k».proof.Defs
public import proofs.«01_k».proof.Proof.Update.Common
public import proofs.«01_k».proof.Proof.Products.Common
public import proofs.«01_k».proof.Proof.Gen.InProj
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run

@[expose] public section

noncomputable section

open Idealize.ShloMosaic Idealize.ShloMosaic.TcCoe Idealize.SL.Sem Cert.Update Cert.Products

theorem tables_InProj : Cert.InProj.defs (F := Bits) = Cert.InProjIdeal.defs (F := Bits) :=
  congrArg (Pipeline.defs Cert.InProjIdeal.pcfgs) (one_body 0 (by decide) fun (_, _) => rfl)

namespace Cert.InProjIdeal.Rows
open Cert.InProjIdeal Cert.InProjIdeal.Gen Cert.InProjIdeal.Value

variable (m : (ℓ : Loc nD τ sig) → Buf (Elt Ideal) ℓ) (g : Dev nD → PrngReg)

/-- The input's window and the outputs' are the point's rows, the weight's is the whole weight. -/
theorem blocks_at : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

theorem zeros : (![0, 0] : Fin 2 → Nat) = fun _ => 0 := by decide

/-- The input's product with `n` columns of the weight from `o` on. -/
abbrev part (n o : Nat) (h : o + n ≤ 5248) (c : Dev nD) : FVec Ideal ⟨2, ![4096, n]⟩ .f32 :=
  colsSpan (φ := .f32) (ψ := .bf16) o h (m ((c.tc : Thread nD τ).loc main_arg0)) (m ((c.tc : Thread nD τ).loc main_arg1))

/-- What a point computes for that part is its rows of it. -/
theorem part_rows {n : Nat} (o : Nat) (h : o + n ≤ 5248) (c : Dev nD) (t : Fin cfg0.N) (inb)
    {j : Shape.Idx ⟨2, ![256, n]⟩} {i : Shape.Idx ⟨2, ![4096, n]⟩} (i0 : (i 0).val = t.val * 256 + (j 0).val) (i1 : (i 1).val = (j 1).val) :
    matmul (φ₂ := .bf16) (DotDims.plain 256 1024 n) none (k0_pay1 (iblk m c 0 t))
      (View.ld (iblk m c 1 t) (Rect.unit (s := S1024x5248) ![0, o] ![1024, n] inb)) (constant (F := Ideal) _ .f32 0x00000000#32) j
      = part m n o h c i := by
  obtain ⟨e0, e1, -⟩ := blocks_at t
  refine cols_entry none (fun x => congrArg (V m c main_arg0) (eq_ix2 ((at_row e0).trans i0.symm) (at_col e0)))
    fun x => congrArg (V m c main_arg1) (eq_ix2 ?_ ?_)
  · show win0_1.index t 0 * 1024 + 1 * (0 + 1 * x.val) = x.val
    rw [e1]; show 0 * 1024 + _ = _; omega
  · show win0_1.index t 1 * 5248 + 1 * (o + 1 * (j 1).val) = o + (i 1).val
    rw [e1, i1]; show 0 * 5248 + _ = _; omega

/-- The point of a row. -/
theorem point_of (x : Nat) (hx : x < 4096) : ∃ t : Fin cfg0.N, t.val * 256 ≤ x ∧ x < t.val * 256 + 256 := by
  have hN : cfg0.N = 16 := by decide
  exact ⟨⟨x / 256, by omega⟩, by show x / 256 * 256 ≤ x; omega, by show x < x / 256 * 256 + 256; omega⟩

theorem part1 (c : Dev nD) : (dats m 0 c).arrAt 2 cfg0.N = part m 1024 0 (by decide) c := by
  refine (dats m 0 c).arrAt_eq_of_cover 2 _ (fun t _ => ?_) fun i => ?_
  · rw [flushed2]
    unfold out0_2
    rw [View.canon_unit_zero zeros, View.ld_unit_zero (S := S256x1024) zeros]
    exact funext fun j => part_rows m 0 (by decide) c t _ (at_row (blocks_at t).2.2.1) (at_col (blocks_at t).2.2.1)
  · obtain ⟨t, ht⟩ := point_of (i 0).val (i 0).isLt
    refine ⟨t, flush0_2 t, ?_⟩
    show i ∈ ((View.whole main_v0_0).slice (win0_2.rect t)).set
    rw [View.set_slice_whole, Rect.mem_set_unit]
    exact in_rows (blocks_at t).2.2.1 i ht

theorem part2 (c : Dev nD) : (dats m 0 c).arrAt 3 cfg0.N = part m 1024 1024 (by decide) c := by
  refine (dats m 0 c).arrAt_eq_of_cover 3 _ (fun t _ => ?_) fun i => ?_
  · rw [flushed3]
    unfold out0_3
    rw [View.canon_unit_zero zeros, View.ld_unit_zero (S := S256x1024) zeros]
    exact funext fun j => part_rows m 1024 (by decide) c t _ (at_row (blocks_at t).2.2.2.1) (at_col (blocks_at t).2.2.2.1)
  · obtain ⟨t, ht⟩ := point_of (i 0).val (i 0).isLt
    refine ⟨t, flush0_3 t, ?_⟩
    show i ∈ ((View.whole main_v0_1).slice (win0_3.rect t)).set
    rw [View.set_slice_whole, Rect.mem_set_unit]
    exact in_rows (blocks_at t).2.2.2.1 i ht

theorem part3 (c : Dev nD) : (dats m 0 c).arrAt 4 cfg0.N = part m 1024 2048 (by decide) c := by
  refine (dats m 0 c).arrAt_eq_of_cover 4 _ (fun t _ => ?_) fun i => ?_
  · rw [flushed4]
    unfold out0_4
    rw [View.canon_unit_zero zeros, View.ld_unit_zero (S := S256x1024) zeros]
    exact funext fun j => part_rows m 2048 (by decide) c t _ (at_row (blocks_at t).2.2.2.2.1) (at_col (blocks_at t).2.2.2.2.1)
  · obtain ⟨t, ht⟩ := point_of (i 0).val (i 0).isLt
    refine ⟨t, flush0_4 t, ?_⟩
    show i ∈ ((View.whole main_v0_2).slice (win0_4.rect t)).set
    rw [View.set_slice_whole, Rect.mem_set_unit]
    exact in_rows (blocks_at t).2.2.2.2.1 i ht

theorem part4 (c : Dev nD) : (dats m 0 c).arrAt 5 cfg0.N = part m 1536 3072 (by decide) c := by
  refine (dats m 0 c).arrAt_eq_of_cover 5 _ (fun t _ => ?_) fun i => ?_
  · rw [flushed5]
    unfold out0_5
    rw [View.canon_unit_zero zeros, View.ld_unit_zero (S := S256x1024) zeros]
    exact funext fun j => part_rows m 3072 (by decide) c t _ (at_row (blocks_at t).2.2.2.2.2.1) (at_col (blocks_at t).2.2.2.2.2.1)
  · obtain ⟨t, ht⟩ := point_of (i 0).val (i 0).isLt
    refine ⟨t, flush0_5 t, ?_⟩
    show i ∈ ((View.whole main_v0_3).slice (win0_5.rect t)).set
    rw [View.set_slice_whole, Rect.mem_set_unit]
    exact in_rows (blocks_at t).2.2.2.2.2.1 i ht

theorem part5 (c : Dev nD) : (dats m 0 c).arrAt 6 cfg0.N = part m 512 4608 (by decide) c := by
  refine (dats m 0 c).arrAt_eq_of_cover 6 _ (fun t _ => ?_) fun i => ?_
  · rw [flushed6]
    unfold out0_6
    rw [View.canon_unit_zero zeros, View.ld_unit_zero (S := S256x1024) zeros]
    exact funext fun j => part_rows m 4608 (by decide) c t _ (at_row (blocks_at t).2.2.2.2.2.2.1) (at_col (blocks_at t).2.2.2.2.2.2.1)
  · obtain ⟨t, ht⟩ := point_of (i 0).val (i 0).isLt
    refine ⟨t, flush0_6 t, ?_⟩
    show i ∈ ((View.whole main_v0_4).slice (win0_6.rect t)).set
    rw [View.set_slice_whole, Rect.mem_set_unit]
    exact in_rows (blocks_at t).2.2.2.2.2.2.1 i ht

theorem part6 (c : Dev nD) : (dats m 0 c).arrAt 7 cfg0.N = part m 128 5120 (by decide) c := by
  refine (dats m 0 c).arrAt_eq_of_cover 7 _ (fun t _ => ?_) fun i => ?_
  · rw [flushed7]
    unfold out0_7
    rw [View.canon_unit_zero zeros, View.ld_unit_zero (S := S256x1024) zeros]
    exact funext fun j => part_rows m 5120 (by decide) c t _ (at_row (blocks_at t).2.2.2.2.2.2.2.1) (at_col (blocks_at t).2.2.2.2.2.2.2.1)
  · obtain ⟨t, ht⟩ := point_of (i 0).val (i 0).isLt
    refine ⟨t, flush0_7 t, ?_⟩
    show i ∈ ((View.whole main_v0_5).slice (win0_7.rect t)).set
    rw [View.set_slice_whole, Rect.mem_set_unit]
    exact in_rows (blocks_at t).2.2.2.2.2.2.2.1 i ht

/-- The input in the narrower format. -/
abbrev narrow (c : Dev nD) : FVec Ideal S4096x1024 .bf16 :=
  truncf .bf16 (m ((c.tc : Thread nD τ).loc main_arg0) : FVec Ideal S4096x1024 .f32) bitsLt_bf16_f32

theorem part7 (c : Dev nD) : (dats m 0 c).arrAt 8 cfg0.N = narrow m c := by
  refine (dats m 0 c).arrAt_eq_of_cover 8 _ (fun t _ => ?_) fun i => ?_
  · rw [flushed8]
    unfold out0_8
    rw [View.canon_unit_zero zeros, View.ld_unit_zero (S := S256x1024) zeros]
    refine funext fun j => congrArg (V m c main_arg0) (funext fun a => Fin.ext ?_)
    show win0_0.index t a * S256x1024.size a + 1 * (j a).val = win0_8.index t a * S256x1024.size a + 1 * (j a).val
    rw [(blocks_at t).1, (blocks_at t).2.2.2.2.2.2.2.2]
  · obtain ⟨t, ht⟩ := point_of (i 0).val (i 0).isLt
    refine ⟨t, flush0_8 t, ?_⟩
    show i ∈ ((View.whole main_v0_6).slice (win0_8.rect t)).set
    rw [View.set_slice_whole, Rect.mem_set_unit]
    exact in_rows (blocks_at t).2.2.2.2.2.2.2.2 i ht

/-- The run leaves the seven parts. -/
theorem leaves : θ_run defs (onTc (τ := τ) (main (F := Ideal))) ⟨m, fun _ => 0, g⟩ (fun r => ∀ c : Dev nD,
      r.2.mem ((c.tc : Thread nD τ).loc main_v0_0) = part m 1024 0 (by decide) c
      ∧ r.2.mem ((c.tc : Thread nD τ).loc main_v0_1) = part m 1024 1024 (by decide) c
      ∧ r.2.mem ((c.tc : Thread nD τ).loc main_v0_2) = part m 1024 2048 (by decide) c
      ∧ r.2.mem ((c.tc : Thread nD τ).loc main_v0_3) = part m 1536 3072 (by decide) c
      ∧ r.2.mem ((c.tc : Thread nD τ).loc main_v0_4) = part m 512 4608 (by decide) c
      ∧ r.2.mem ((c.tc : Thread nD τ).loc main_v0_5) = part m 128 5120 (by decide) c
      ∧ r.2.mem ((c.tc : Thread nD τ).loc main_v0_6) = narrow m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(post2 m r h.1 c).trans (part1 m c), (post3 m r h.1 c).trans (part2 m c), (post4 m r h.1 c).trans (part3 m c), (post5 m r h.1 c).trans (part4 m c), (post6 m r h.1 c).trans (part5 m c), (post7 m r h.1 c).trans (part6 m c), (post8 m r h.1 c).trans (part7 m c),
    kept_main_arg0 m r h.1 c, kept_main_arg1 m r h.1 c⟩) (run_main_quiescent m g)

end Cert.InProjIdeal.Rows

theorem frame_InProj : Cert.quiescent_InProj := fun m g _ => by
  rw [tables_InProj]; exact Cert.InProjIdeal.Gen.frame (F := Bits) m g
theorem frame_InProjIdeal : Cert.quiescent_InProjIdeal := fun m g _ => Cert.InProjIdeal.Gen.frame (F := Ideal) m g
theorem frame_InProjRefIdeal : Cert.quiescent_InProjRefIdeal := fun m g _ =>
  (θ_run Cert.InProjRefIdeal.defs _ _).mono (fun _ h => ⟨fun c => (h c).2.2.2.2.2.2.2, no_sems rfl rfl _ _⟩)
    (Cert.InProjRefIdeal.Value.run (F := Ideal) m g)

/-- A slice of the reference's product. -/
theorem sliced_InProj {n : Nat} (o : Nat) (h : o + n ≤ 5248) (a : FVec Ideal Cert.InProjRefIdeal.S4096x1024 .f32)
    (w : FVec Ideal Cert.InProjRefIdeal.S1024x5248 .bf16) (hw) (hs) :
    extractStridedSlice ⟨2, ![4096, n]⟩ ![0, o] (Host.dotGeneral (F := Ideal)
      Cert.InProjRefIdeal.dot_S4096x1024_S1024x5248_S4096x5248_1_0_0_1_n_n none a (extf .f32 w hw)) hs = colsSpan o h a w :=
  slice_dot h a (extf .f32 w hw) hs

theorem algebraic_InProj : Cert.algebraic_InProjIdeal_InProjRefIdeal := fun m g m' g' _ hm =>
  ⟨_, _, _, _, _, _, _, Cert.InProjIdeal.Rows.leaves m g,
    (θ_run _ _ _).mono (fun _ h c => by
      obtain ⟨h0, h1⟩ := hm c
      obtain ⟨r0, r1, r2, r3, r4, r5, r6, rest⟩ := h c
      rw [h0, h1] at r0 r1 r2 r3 r4 r5
      rw [h0] at r6
      exact ⟨r0.trans (sliced_InProj 0 (by decide) _ _ _ _), r1.trans (sliced_InProj 1024 (by decide) _ _ _ _), r2.trans (sliced_InProj 2048 (by decide) _ _ _ _),
        r3.trans (sliced_InProj 3072 (by decide) _ _ _ _), r4.trans (sliced_InProj 4608 (by decide) _ _ _ _), r5.trans (sliced_InProj 5120 (by decide) _ _ _ _), r6, rest⟩)
      (Cert.InProjRefIdeal.Value.run (F := Ideal) m' g')⟩

end
-- ==== Proof.Products.GradX.lean ====
/-
# `grad_x`: the input's gradient

Each grid point forms 256 rows: the residual's share and the six cotangents times their columns of the packed weight, each
product on its own. The reference joins the cotangents into one matrix and forms one product over all 5248 columns.
-/
module

public import proofs.«01_k».proof.Defs
public import proofs.«01_k».proof.Proof.Update.Common
public import proofs.«01_k».proof.Proof.Products.Common
public import proofs.«01_k».proof.Proof.Gen.GradX
public import proofs.«01_k».proof.Proof.Gen.GradXIdeal
public import proofs.«01_k».proof.Proof.Gen.GradXIdeal.Value
public import proofs.«01_k».proof.Proof.Gen.GradXRefIdeal
public import proofs.«01_k».proof.Proof.Gen.GradXRefIdeal.Run

@[expose] public section

noncomputable section

open Idealize.ShloMosaic Idealize.ShloMosaic.TcCoe Idealize.SL.Sem Cert.Update Cert.Products

namespace Cert.Products

/-- The residual's share and the six products, added in this order. -/
def sixSpans (dr dz dg dq : FVec Ideal ⟨2, ![4096, 1024]⟩ .f32) (dx : FVec Ideal ⟨2, ![4096, 1536]⟩ .f32)
    (dk : FVec Ideal ⟨2, ![4096, 512]⟩ .f32) (dt : FVec Ideal ⟨2, ![4096, 128]⟩ .f32) (w : FVec Ideal ⟨2, ![1024, 5248]⟩ .bf16) :
    FVec Ideal ⟨2, ![4096, 1024]⟩ .f32 :=
  addf (addf (addf (addf (addf (addf (mulf (broadcast _ (Scalar.ofBits (F := Ideal) .f32 0x3F9837F0#32)) dr)
    (rowsSpan 0 (by decide) dz w)) (rowsSpan 1024 (by decide) dg w)) (rowsSpan 2048 (by decide) dq w))
    (rowsSpan 3072 (by decide) dx w)) (rowsSpan 4608 (by decide) dk w)) (rowsSpan 5120 (by decide) dt w)

end Cert.Products

theorem tables_GradX : Cert.GradX.defs (F := Bits) = Cert.GradXIdeal.defs (F := Bits) :=
  congrArg (Pipeline.defs Cert.GradXIdeal.pcfgs) (one_body 0 (by decide) fun (_, _) => rfl)

namespace Cert.GradXIdeal.Rows
open Cert.GradXIdeal Cert.GradXIdeal.Gen Cert.GradXIdeal.Value

variable (m : (ℓ : Loc nD τ sig) → Buf (Elt Ideal) ℓ) (g : Dev nD → PrngReg)

/-- Every window reads or writes the point's rows, but the weight's, which reads it whole. -/
theorem blocks_at : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0] ∧ win0_8.index t = ![t.val, 0] :=
  (by decide +kernel : ∀ t : Fin grid0.N, _)

theorem zeros : (![0, 0] : Fin 2 → Nat) = fun _ => 0 := by decide

/-- A point writes its rows of the sum. -/
theorem writes (c : Dev nD) (t : Fin cfg0.N) :
    (dats m 0 c).flushed 8 t = ((cfg0.win 8).blk t).view.read (Elt Ideal) (sixSpans (V m c main_arg0) (V m c main_arg1)
      (V m c main_arg2) (V m c main_arg3) (V m c main_arg4) (V m c main_arg5) (V m c main_arg6) (V m c main_arg7)) := by
  rw [flushed8]
  unfold out0_8
  rw [View.canon_unit_zero zeros]
  simp only [View.ld_unit_zero (S := S256x1024) zeros, View.ld_unit_zero (S := S256x1536) zeros,
    View.ld_unit_zero (S := S256x512) zeros, View.ld_unit_zero (S := S256x128) zeros]
  obtain ⟨e0, e1, e2, e3, e4, e5, e6, e7, e8⟩ := blocks_at t
  funext j
  obtain ⟨i, hi⟩ : ∃ i : S4096x1024.Idx, i = ((cfg0.win 8).blk t).view.emb j := ⟨_, rfl⟩
  have i0 : (i 0).val = t.val * 256 + (j 0).val := (congrArg (fun i => (i 0).val) hi).trans (at_row e8)
  have i1 : (i 1).val = (j 1).val := (congrArg (fun i => (i 1).val) hi).trans (at_col e8)
  have h0 : iblk m c 0 t j = V m c main_arg0 i := congrArg (V m c main_arg0) (Eq.trans (b := ((cfg0.win 8).blk t).view.emb j) (by
    funext a; apply Fin.ext
    show win0_0.index t a * S256x1024.size a + 1 * (j a).val = win0_8.index t a * S256x1024.size a + 1 * (j a).val
    rw [e0, e8]) hi.symm)
  have h1 : ∀ x : Fin 1024, iblk m c 1 t (ix2 (j 0) x) = V m c main_arg1 (ix2 (i 0) x) := fun x => congrArg (V m c main_arg1) (eq_ix2
    ((at_row e1).trans i0.symm) (at_col e1))
  have h2 : ∀ x : Fin 1024, iblk m c 2 t (ix2 (j 0) x) = V m c main_arg2 (ix2 (i 0) x) := fun x => congrArg (V m c main_arg2) (eq_ix2
    ((at_row e2).trans i0.symm) (at_col e2))
  have h3 : ∀ x : Fin 1024, iblk m c 3 t (ix2 (j 0) x) = V m c main_arg3 (ix2 (i 0) x) := fun x => congrArg (V m c main_arg3) (eq_ix2
    ((at_row e3).trans i0.symm) (at_col e3))
  have h4 : ∀ x : Fin 1536, iblk m c 4 t (ix2 (j 0) x) = V m c main_arg4 (ix2 (i 0) x) := fun x => congrArg (V m c main_arg4) (eq_ix2
    ((at_row e4).trans i0.symm) (at_col e4))
  have h5 : ∀ x : Fin 512, iblk m c 5 t (ix2 (j 0) x) = V m c main_arg5 (ix2 (i 0) x) := fun x => congrArg (V m c main_arg5) (eq_ix2
    ((at_row e5).trans i0.symm) (at_col e5))
  have h6 : ∀ x : Fin 128, iblk m c 6 t (ix2 (j 0) x) = V m c main_arg6 (ix2 (i 0) x) := fun x => congrArg (V m c main_arg6) (eq_ix2
    ((at_row e6).trans i0.symm) (at_col e6))
  have h7 : ∀ {n : Nat} (o : Nat) (h : o + n ≤ 5248) (inb) (x : Fin n),
      View.ld (iblk m c 7 t) (Rect.unit (s := S1024x5248) ![0, o] ![1024, n] inb) (ix2 (j 1) x)
        = V m c main_arg7 (ix2 (i 1) ⟨o + x.val, by omega⟩) := fun o _ _ x => congrArg (V m c main_arg7) (eq_ix2
    (show win0_7.index t 0 * 1024 + 1 * (0 + 1 * (j 1).val) = (i 1).val by rw [e7, i1]; show 0 * 1024 + _ = _; omega)
    (show win0_7.index t 1 * 5248 + 1 * (o + 1 * x.val) = o + x.val by rw [e7]; show 0 * 5248 + _ = _; omega))
  show _ = sixSpans _ _ _ _ _ _ _ _ (((cfg0.win 8).blk t).view.emb j)
  rw [← hi]
  refine congrArg₂ FloatOps.addf (congrArg₂ FloatOps.addf (congrArg₂ FloatOps.addf (congrArg₂ FloatOps.addf (congrArg₂ FloatOps.addf
    (congrArg₂ FloatOps.addf (congrArg (FloatOps.mulf _) h0) ?_) ?_) ?_) ?_) ?_) ?_
  · exact span_entry none h1 (h7 0 (by decide) _)
  · exact span_entry none h2 (h7 1024 (by decide) _)
  · exact span_entry none h3 (h7 2048 (by decide) _)
  · exact span_entry none h4 (h7 3072 (by decide) _)
  · exact span_entry none h5 (h7 4608 (by decide) _)
  · exact span_entry none h6 (h7 5120 (by decide) _)

/-- Every row is some point's. -/
theorem rows (i : S4096x1024.Idx) : ∃ t : Fin cfg0.N, (cfg0.win 8).flush t = true ∧ i ∈ ((cfg0.win 8).blk t).view.set := by
  have h0 : (i 0).val < 4096 := (i 0).isLt
  have hN : cfg0.N = 16 := by decide
  obtain ⟨t, ht⟩ : ∃ t : Fin cfg0.N, t.val = (i 0).val / 256 := ⟨⟨(i 0).val / 256, by omega⟩, rfl⟩
  refine ⟨t, flush0_8 t, ?_⟩
  show i ∈ ((View.whole main_v0).slice (win0_8.rect t)).set
  rw [View.set_slice_whole, Rect.mem_set_unit]
  exact in_rows (blocks_at t).2.2.2.2.2.2.2.2 i ⟨by omega, by omega⟩

/-- The sum at the launch's memory. -/
abbrev total (c : Dev nD) : FVec Ideal S4096x1024 .f32 :=
  sixSpans (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The run leaves the sum in the result. -/
theorem leaves : θ_run defs (onTc (τ := τ) (main (F := Ideal))) ⟨m, fun _ => 0, g⟩ (fun r => ∀ c : Dev nD,
      r.2.mem ((c.tc : Thread nD τ).loc main_v0) = total m c) :=
  (θ_run defs _ _).mono (fun r h c => (post8 m r h.1 c).trans
    ((dats m 0 c).arrAt_eq_of_cover 8 _ (fun t _ => writes m c t) rows)) (run_main_quiescent m g)

end Cert.GradXIdeal.Rows

theorem frame_GradX : Cert.quiescent_GradX := fun m g _ => by
  rw [tables_GradX]; exact Cert.GradXIdeal.Gen.frame (F := Bits) m g
theorem frame_GradXIdeal : Cert.quiescent_GradXIdeal := fun m g _ => Cert.GradXIdeal.Gen.frame (F := Ideal) m g
theorem frame_GradXRefIdeal : Cert.quiescent_GradXRefIdeal := fun m g _ =>
  (θ_run Cert.GradXRefIdeal.defs _ _).mono (fun _ h => ⟨fun c => (h c).2, no_sems rfl rfl _ _⟩) (Cert.GradXRefIdeal.Value.run (F := Ideal) m g)

namespace Cert.GradXRefIdeal.Joined
open Cert.GradXRefIdeal Cert.GradXRefIdeal.Gen

/-- One product of the joined cotangents is the six products' sum. -/
theorem joined (dr dz dg dq : FVec Ideal S4096x1024 .f32) (dx : FVec Ideal S4096x1536 .f32) (dk : FVec Ideal S4096x512 .f32)
    (dt : FVec Ideal S4096x128 .f32) (w : FVec Ideal S1024x5248 .bf16) :
    addf (mulf (broadcastInDim S4096x1024 ![] bcast_S_S4096x1024 (constant (F := Ideal) S_ .f32 0x3F9837F0#32)) dr)
      (Host.dotGeneral (F := Ideal) dot_S4096x5248_S1024x5248_S4096x1024_1_1_0_0_n_n none (concatenate S4096x5248 1 [⟨S4096x1024, dz⟩,
        ⟨S4096x1024, dg⟩, ⟨S4096x1024, dq⟩, ⟨S4096x1536, dx⟩, ⟨S4096x512, dk⟩, ⟨S4096x128, dt⟩]
        concatenates_S4096x1024_S4096x1024_S4096x1024_S4096x1536_S4096x512_S4096x128_S4096x5248_d1) (extf .f32 w bitsLt_bf16_f32))
      = sixSpans dr dz dg dq dx dk dt w := by
  funext i
  obtain ⟨u, hu⟩ : ∃ u : FVec Ideal S4096x5248 .f32, u = concatenate S4096x5248 1 [⟨S4096x1024, dz⟩,
    ⟨S4096x1024, dg⟩, ⟨S4096x1024, dq⟩, ⟨S4096x1536, dx⟩, ⟨S4096x512, dk⟩, ⟨S4096x128, dt⟩]
    concatenates_S4096x1024_S4096x1024_S4096x1024_S4096x1536_S4096x512_S4096x128_S4096x5248_d1 := ⟨_, rfl⟩
  have piece : ∀ (p : Nat) (hp : p < 6) {n : Nat} (o : Nat) (h : o + n ≤ 5248) (d : FVec Ideal ⟨2, ![4096, n]⟩ .f32)
      (_ : ([⟨S4096x1024, dz⟩, ⟨S4096x1024, dg⟩, ⟨S4096x1024, dq⟩, ⟨S4096x1536, dx⟩, ⟨S4096x512, dk⟩, ⟨S4096x128, dt⟩] :
        List ((s : Shape) × (s.Idx → Elt Ideal .f32)))[p]'hp = ⟨⟨2, ![4096, n]⟩, d⟩)
      (_ : ((([S4096x1024, S4096x1024, S4096x1024, S4096x1536, S4096x512, S4096x128] : List Shape).take p).map fun s =>
        if h : s.rank = S4096x5248.rank then s.size ((1 : Fin S4096x5248.rank).cast h.symm) else 0).sum = o) (x : Fin n),
      u (ix2 (i 0) ⟨o + x.val, by omega⟩) = d (ix2 (i 0) x) := fun p hp {n} o h d e eo x => by
    rw [hu]
    refine concatenate_apply_piece (α := Elt Ideal .f32) (t := S4096x5248) 1 [⟨S4096x1024, dz⟩, ⟨S4096x1024, dg⟩, ⟨S4096x1024, dq⟩, ⟨S4096x1536, dx⟩,
      ⟨S4096x512, dk⟩, ⟨S4096x128, dt⟩] _ (ix2 (i 0) ⟨o + x.val, by omega⟩) p hp ⟨2, ![4096, n]⟩ d e rfl o ?_ (ix2 (i 0) x) (fun b hb => ?_) rfl
    · rw [← eo]; simp only [List.map_take, List.map_cons, List.map_nil]
    · match b, hb with
      | ⟨0, _⟩, _ => rfl
      | ⟨1, _⟩, hb => exact absurd rfl hb
  rw [← hu]
  have e : Host.dotGeneral (F := Ideal) dot_S4096x5248_S1024x5248_S4096x1024_1_1_0_0_n_n none u (extf .f32 w bitsLt_bf16_f32) i
      = ∑ x : Fin 5248, u (ix2 (i 0) x) * w (ix2 (i 1) x) := congrFun (dot_rowsRows u (extf .f32 w bitsLt_bf16_f32)) i
  rw [sum_split (m := 5120) (n := 128) rfl, sum_split (m := 4608) (n := 512) (l := 5120) rfl, sum_split (m := 3072) (n := 1536) (l := 4608) rfl,
    sum_split (m := 2048) (n := 1024) (l := 3072) rfl, sum_split (m := 1024) (n := 1024) (l := 2048) rfl] at e
  have s0 : (∑ x : Fin 1024, u (ix2 (i 0) ⟨x.val, by omega⟩) * w (ix2 (i 1) ⟨x.val, by omega⟩)) = rowsSpan 0 (by decide) dz w i :=
    Finset.sum_congr rfl fun x _ => congrArg₂ (· * ·) ((congrArg u (eq_ix2 rfl (Nat.zero_add _).symm)).trans (piece 0 (by decide) 0 (by decide) dz rfl rfl x))
      (congrArg w (eq_ix2 rfl (Nat.zero_add _).symm))
  have s1 : (∑ x : Fin 1024, u (ix2 (i 0) ⟨1024 + x.val, by omega⟩) * w (ix2 (i 1) ⟨1024 + x.val, by omega⟩)) = rowsSpan 1024 (by decide) dg w i :=
    Finset.sum_congr rfl fun x _ => congrArg (· * _) (piece 1 (by decide) 1024 (by decide) dg rfl rfl x)
  have s2 : (∑ x : Fin 1024, u (ix2 (i 0) ⟨2048 + x.val, by omega⟩) * w (ix2 (i 1) ⟨2048 + x.val, by omega⟩)) = rowsSpan 2048 (by decide) dq w i :=
    Finset.sum_congr rfl fun x _ => congrArg (· * _) (piece 2 (by decide) 2048 (by decide) dq rfl rfl x)
  have s3 : (∑ x : Fin 1536, u (ix2 (i 0) ⟨3072 + x.val, by omega⟩) * w (ix2 (i 1) ⟨3072 + x.val, by omega⟩)) = rowsSpan 3072 (by decide) dx w i :=
    Finset.sum_congr rfl fun x _ => congrArg (· * _) (piece 3 (by decide) 3072 (by decide) dx rfl rfl x)
  have s4 : (∑ x : Fin 512, u (ix2 (i 0) ⟨4608 + x.val, by omega⟩) * w (ix2 (i 1) ⟨4608 + x.val, by omega⟩)) = rowsSpan 4608 (by decide) dk w i :=
    Finset.sum_congr rfl fun x _ => congrArg (· * _) (piece 4 (by decide) 4608 (by decide) dk rfl rfl x)
  have s5 : (∑ x : Fin 128, u (ix2 (i 0) ⟨5120 + x.val, by omega⟩) * w (ix2 (i 1) ⟨5120 + x.val, by omega⟩)) = rowsSpan 5120 (by decide) dt w i :=
    Finset.sum_congr rfl fun x _ => congrArg (· * _) (piece 5 (by decide) 5120 (by decide) dt rfl rfl x)
  rw [s0, s1, s2, s3, s4, s5] at e
  refine (congrArg (FloatOps.addf (mulf (broadcast _ (Scalar.ofBits (F := Ideal) .f32 0x3F9837F0#32)) dr i)) e).trans ?_
  show (_ : EReal) + (((((_ + _) + _) + _) + _) + _) = ((((((_ : EReal) + _) + _) + _) + _) + _) + _
  simp only [add_assoc]

end Cert.GradXRefIdeal.Joined

theorem algebraic_GradX : Cert.algebraic_GradXIdeal_GradXRefIdeal := fun m g m' g' _ hm =>
  ⟨_, (θ_run _ _ _).mono (fun _ h c => ⟨h.1 c, h.2.1 c⟩)
    (θ_run_and (Cert.GradXIdeal.Rows.leaves m g) (Cert.GradXIdeal.Gen.frame (F := Ideal) m g)),
    (θ_run _ _ _).mono (fun _ h c => by
      obtain ⟨h0, h1, h2, h3, h4, h5, h6, h7⟩ := hm c
      refine ⟨(h c).1.trans ((Cert.GradXRefIdeal.Joined.joined _ _ _ _ _ _ _ _).trans ?_), (h c).2⟩
      rw [h0, h1, h2, h3, h4, h5, h6, h7])
      (Cert.GradXRefIdeal.Value.run (F := Ideal) m' g')⟩
end
-- ==== Proof.Products.Sweep.lean ====
/-
# A product over all rows, summed block by block

The points of a grid go through eight blocks of 512 rows for each block of columns, and a sum is carried from point to
point: each point adds the columns-times-columns product of its two blocks. At the eighth block the sum is the product
over all 4096 rows.
-/
module

public import proofs.«01_k».proof.Proof.Products.Common

@[expose] public section

noncomputable section

namespace Cert.Products

open Idealize.ShloMosaic

variable {φ ψ : FTy} {r c : Nat}

/-- A point's step: what it holds and the product of its blocks. -/
theorem step_eq (acc : FVec Ideal ⟨2, ![r, c]⟩ .f32) (a : FVec Ideal ⟨2, ![512, r]⟩ φ) (b : FVec Ideal ⟨2, ![512, c]⟩ ψ) :
    addf acc (matmul (firstAxes 512 r c) none a b (constant (F := Ideal) _ .f32 0x00000000#32)) = addf acc (colsCols a b) := by
  rw [matmul_zero, dot_colsCols]

/-- The first point's step starts from zero. -/
theorem start_eq (y : FVec Ideal ⟨2, ![r, c]⟩ .f32) :
    addf (broadcast ⟨2, ![r, c]⟩ (Scalar.ofBits (F := Ideal) .f32 0x00000000#32)) y = y := by
  funext i
  show (Scalar.ofBits (F := Ideal) .f32 0x00000000#32 : EReal) + y i = y i
  rw [show (Scalar.ofBits (F := Ideal) .f32 0x00000000#32 : EReal) = 0 from Ideal.ofBits_zero_f32, zero_add]

/-- Columns of the left operand times the columns from `o` on of the right one. -/
def colsFrom {k l : Nat} (o : Nat) (h : o + c ≤ l) (a : FVec Ideal ⟨2, ![k, r]⟩ φ) (b : FVec Ideal ⟨2, ![k, l]⟩ ψ) :
    FVec Ideal ⟨2, ![r, c]⟩ .f32 := fun i =>
  ∑ x : Fin k, a (ix2 x (i 0)) * b (ix2 x ⟨o + (i 1).val, Nat.lt_of_lt_of_le (Nat.add_lt_add_left (i 1).isLt o) h⟩)

/-- The sum carried through the points, at a last block of rows. -/
theorem swept {N l : Nat} (S : (n : Nat) → n < N → FVec Ideal ⟨2, ![r, c]⟩ .f32)
    (a : Fin N → FVec Ideal ⟨2, ![512, r]⟩ φ) (b : Fin N → FVec Ideal ⟨2, ![512, c]⟩ ψ)
    (A : FVec Ideal ⟨2, ![4096, r]⟩ φ) (B : FVec Ideal ⟨2, ![4096, l]⟩ ψ) (hl : ∀ t : Fin N, t.val / 8 * c + c ≤ l)
    (first : ∀ t : Fin N, t.val % 8 = 0 → S t.val t.isLt = colsCols (a t) (b t))
    (next : ∀ t : Fin N, ¬t.val % 8 = 0 →
      S t.val t.isLt = addf (S (t.val - 1) (Nat.lt_of_le_of_lt (Nat.sub_le _ _) t.isLt)) (colsCols (a t) (b t)))
    (ha : ∀ t (y : Fin 512) (d : Fin r), a t (ix2 y d) = A (ix2 ⟨t.val % 8 * 512 + y.val, by omega⟩ d))
    (hb : ∀ t (y : Fin 512) (e : Fin c), b t (ix2 y e)
      = B (ix2 ⟨t.val % 8 * 512 + y.val, by omega⟩ ⟨t.val / 8 * c + e.val, Nat.lt_of_lt_of_le (Nat.add_lt_add_left e.isLt _) (hl t)⟩))
    (t : Fin N) (ht : t.val % 8 = 7) : S t.val t.isLt = colsFrom (t.val / 8 * c) (hl t) A B := by
  have part : ∀ (i : Shape.Idx ⟨2, ![r, c]⟩) (k : Nat) (hk : k < 8) (u : Fin N) (hu : u.val = t.val / 8 * 8 + k),
      S u.val u.isLt i = ∑ x : Fin ((k + 1) * 512), A (ix2 ⟨x.val, by omega⟩ (i 0))
        * B (ix2 ⟨x.val, by omega⟩ ⟨t.val / 8 * c + (i 1).val, Nat.lt_of_lt_of_le (Nat.add_lt_add_left (i 1).isLt _) (hl t)⟩) := by
    intro i k
    have term : ∀ (u : Fin N) (k : Nat) (_ : k < 8) (_ : u.val = t.val / 8 * 8 + k), colsCols (a u) (b u) i
        = ∑ y : Fin 512, A (ix2 ⟨k * 512 + y.val, by omega⟩ (i 0))
          * B (ix2 ⟨k * 512 + y.val, by omega⟩ ⟨t.val / 8 * c + (i 1).val, Nat.lt_of_lt_of_le (Nat.add_lt_add_left (i 1).isLt _) (hl t)⟩) := by
      intro u k hk hu
      have em : u.val % 8 = k := by omega
      have ed : u.val / 8 = t.val / 8 := by omega
      refine Finset.sum_congr rfl fun y _ => congrArg₂ (· * ·) ((ha u y (i 0)).trans ?_) ((hb u y (i 1)).trans ?_)
      · exact congrArg A (eq_ix2 (show u.val % 8 * 512 + y.val = k * 512 + y.val by rw [em]) rfl)
      · exact congrArg B (eq_ix2 (show u.val % 8 * 512 + y.val = k * 512 + y.val by rw [em])
          (show u.val / 8 * c + (i 1).val = t.val / 8 * c + (i 1).val by rw [ed]))
    induction k with
    | zero =>
      intro hk u hu
      rw [first u (by omega), term u 0 hk hu]
      exact Finset.sum_congr rfl fun y _ => congrArg₂ (· * ·) (congrArg A (eq_ix2 (show 0 * 512 + y.val = y.val by omega) rfl))
        (congrArg B (eq_ix2 (show 0 * 512 + y.val = y.val by omega) rfl))
    | succ k ih =>
      intro hk u hu
      rw [next u (by omega)]
      have e := ih (by omega) ⟨u.val - 1, Nat.lt_of_le_of_lt (Nat.sub_le _ _) u.isLt⟩ (show u.val - 1 = _ by omega)
      rw [sum_split (m := (k + 1) * 512) (n := 512) (by omega)]
      exact congrArg₂ (fun x y : EReal => x + y) e (term u (k + 1) hk hu)
  funext i
  exact part i 7 (by decide) t (by omega)

/-- The product of all rows, read at a block of columns' place. -/
theorem cols_at {l : Nat} {f : Fin 2 → Nat} {q : Nat} (e : f = ![0, q]) {h : q * c + c ≤ l} (A : FVec Ideal ⟨2, ![4096, r]⟩ φ)
    (B : FVec Ideal ⟨2, ![4096, l]⟩ ψ) (j : Shape.Idx ⟨2, ![r, c]⟩) (i : Shape.Idx ⟨2, ![r, l]⟩)
    (h0 : (i 0).val = f 0 * r + 1 * (j 0).val) (h1 : (i 1).val = f 1 * c + 1 * (j 1).val) :
    colsFrom (q * c) h A B j = colsCols A B i := by
  subst e
  have e0 : (j 0).val = (i 0).val := h0.symm ▸ (show (j 0).val = 0 * r + 1 * (j 0).val by omega)
  have e1 : q * c + (j 1).val = (i 1).val := h1.symm ▸ (show q * c + (j 1).val = q * c + 1 * (j 1).val by omega)
  exact Finset.sum_congr rfl fun x _ => congrArg₂ (fun x y : EReal => x * y) (congrArg A (eq_ix2 rfl e0)) (congrArg B (eq_ix2 rfl e1))

section Place
variable {f : Fin 2 → Nat} {p q b y : Nat}

theorem row_at (e : f = ![p, q]) : f 0 * b + 1 * y = p * b + y := by rw [e]; show p * b + 1 * y = _; omega

theorem col_at (e : f = ![p, q]) : f 1 * b + 1 * y = q * b + y := by rw [e]; show q * b + 1 * y = _; omega

end Place

end Cert.Products

end
-- ==== Proof.Products.GradWOut.lean ====
/-
# `gw_out_ssd`: the output projection's share of the weight's gradient

Eight points go through the rows, 512 at a time, and a scratch carries the sum of the blocks' products; the last point
stores it. The reference forms one product over all rows.
-/
module

public import proofs.«01_k».proof.Defs
public import proofs.«01_k».proof.Proof.Update.Common
public import proofs.«01_k».proof.Proof.Products.Sweep
public import proofs.«01_k».proof.Proof.Gen.GradWOut
public import proofs.«01_k».proof.Proof.Gen.GradWOutIdeal
public import proofs.«01_k».proof.Proof.Gen.GradWOutIdeal.Value
public import proofs.«01_k».proof.Proof.Gen.GradWOutRefIdeal
public import proofs.«01_k».proof.Proof.Gen.GradWOutRefIdeal.Run
public import Idealize.ShloMosaic.Lib.Tactic

@[expose] public section

noncomputable section

open Idealize.ShloMosaic Idealize.ShloMosaic.TcCoe Idealize.SL.Sem Cert.Update Cert.Products

theorem tables_GradWOut : Cert.GradWOut.defs (F := Bits) = Cert.GradWOutIdeal.defs (F := Bits) :=
  congrArg (Pipeline.defs Cert.GradWOutIdeal.pcfgs) (one_body 0 (by decide) fun (_, _) => rfl)

namespace Cert.GradWOutIdeal.Summed
open Cert.GradWOutIdeal Cert.GradWOutIdeal.Gen Cert.GradWOutIdeal.Value

variable (m : (ℓ : Loc nD τ sig) → Buf (Elt Ideal) ℓ) (g : Dev nD → PrngReg)

theorem zeros : (![0, 0] : Fin 2 → Nat) = fun _ => 0 := by decide

/-- Both operands' blocks go with the point's rows; the result's block is the whole array. -/
theorem blocks_at : ∀ t : Fin cfg0.N, t.val / 8 = 0 ∧ win0_0.index t = ![t.val % 8, 0] ∧ win0_1.index t = ![t.val % 8, t.val / 8]
    ∧ win0_2.index t = ![0, t.val / 8] :=
  (by decide +kernel : ∀ t : Fin grid0.N, _)

/-- What a step stores. -/
theorem step (acc : FVec Ideal S1024x1024 .f32) (x : FVec Ideal S512x1024 .f32) (y : FVec Ideal S512x1024 .f32) :
    k0_pay2 acc x y = addf acc (colsCols x y) := by
  unfold k0_pay2
  simp only [shapeCast_self]
  exact step_eq acc (truncf .bf16 x bitsLt_bf16_f32) (truncf .bf16 y bitsLt_bf16_f32)

section Cases
variable (c : Dev nD) (i : grid0.Coords) (x : FVec Ideal S512x1024 .f32) (y : FVec Ideal S512x1024 .f32) (acc : FVec Ideal S1024x1024 .f32)
  (a1 : Memref sig .tc .vmem S512x1024 .f32) (h1 : a1.IsWhole) (a2 : Memref sig .tc .vmem S512x1024 .f32) (h2 : a2.IsWhole)
  (a3 : Memref sig .tc .vmem S1024x1024 .f32) (h3 : a3.IsWhole) (a4 : Memref sig .tc .vmem S1024x1024 .f32) (h4 : a4.IsWhole)

/-- The first block of rows. -/
theorem first (hc0 : cond0_0 i) (hc1 : ¬cond0_1 i) : sout0_A_0 (F := Ideal) c i a1 h1 a2 h2 a3 h3 a4 h4 hc0 hc1 x y = colsCols x y := by
  unfold sout0_A_0
  rw [View.read_writes_eq_canon _ _ _ (scover0_A_0 (F := Ideal) c i a1 h1 a2 h2 a3 h3 a4 h4 hc0 hc1 x y)]
  unfold kernelRun0_A
  dsimp only
  sl_unfold_words
  rw [View.canon_cons_unit_zero (S := S1024x1024) zeros, View.readCov_unit_zero (S := S1024x1024) _ zeros, step]
  simp only [View.readAt_eq_ld, h1.read_unread, h2.read_unread, View.ld_unit_zero (S := S512x1024) zeros]
  simp only [k0_pay1, shapeCast_self]
  exact start_eq _

/-- A block of rows between. -/
theorem between (hc0 : ¬cond0_0 i) (hc1 : ¬cond0_1 i) :
    sout0_B_0 (F := Ideal) c i a1 h1 a2 h2 a3 h3 a4 h4 hc0 hc1 x y acc = addf acc (colsCols x y) := by
  unfold sout0_B_0
  rw [View.read_writes_eq_canon _ _ _ (scover0_B_0 (F := Ideal) c i a1 h1 a2 h2 a3 h3 a4 h4 hc0 hc1 x y acc)]
  unfold kernelRun0_B
  dsimp only
  rw [View.canon_unit_zero zeros, step]
  simp only [View.readAt_eq_ld, h1.read_unread, h2.read_unread, h4.read_unread, View.ld_unit_zero (S := S512x1024) zeros,
    View.ld_unit_zero (S := S1024x1024) zeros]

/-- The last block of rows. -/
theorem last (hc0 : ¬cond0_0 i) (hc1 : cond0_1 i) :
    out0_C_2 (F := Ideal) c i a1 h1 a2 h2 a3 h3 a4 h4 hc0 hc1 x y acc = addf acc (colsCols x y) := by
  unfold out0_C_2
  rw [View.read_writes_eq_canon _ _ _ (cover0_C_2 (F := Ideal) c i a1 h1 a2 h2 a3 h3 a4 h4 hc0 hc1 x y acc)]
  unfold kernelRun0_C
  dsimp only
  sl_unfold_words
  rw [View.canon_unit_zero zeros, View.readCov_unit_zero (S := S1024x1024) _ zeros]
  simp only [shapeCast_self]
  rw [step]
  simp only [View.readAt_eq_ld, h1.read_unread, h2.read_unread, h4.read_unread, View.ld_unit_zero (S := S512x1024) zeros,
    View.ld_unit_zero (S := S1024x1024) zeros]

end Cases

theorem fits (t : Fin cfg0.N) : t.val / 8 * 1024 + 1024 ≤ 1024 := by rw [(blocks_at t).1]

/-- The sum is in the scratch, and in the result's buffer after the last block of rows. -/
abbrev sum (c : Dev nD) (n : Nat) (h : n < cfg0.N) : FVec Ideal S1024x1024 .f32 :=
  if n % 8 = 7 then (outsAt0 m c n h).1 else (outsAt0 m c n h).2

/-- The sum after the last block of rows. -/
theorem summed (c : Dev nD) (t : Fin cfg0.N) (ht : t.val % 8 = 7) : sum m c t.val t.isLt
    = colsFrom (φ := .f32) (ψ := .f32) (t.val / 8 * 1024) (fits t) (V m c main_arg0) (V m c main_arg1) := by
  refine swept (sum m c) (fun t => iblk m c 0 t) (fun t => iblk m c 1 t) _ _ fits (fun t h0 => ?_) (fun t h0 => ?_)
    (fun t y d => congrArg (V m c main_arg0) (eq_ix2 (row_at (blocks_at t).2.1) (at_col (blocks_at t).2.1)))
    (fun t y e => congrArg (V m c main_arg1) (eq_ix2 (row_at (blocks_at t).2.2.1) (col_at (blocks_at t).2.2.1))) t ht
  · rw [sum, if_neg (by omega), outsAt0_A m c t h0 (by omega)]
    dsimp only
    rw [first]
  · rw [sum, sum, if_neg (show ¬(t.val - 1) % 8 = 7 by omega)]
    by_cases h1 : t.val % 8 = 7
    · rw [if_pos h1, outsAt0_C m c t h0 h1]; dsimp only; rw [last]
    · rw [if_neg h1, outsAt0_B m c t h0 h1]; dsimp only; rw [between]

/-- A last point writes its columns of the product. -/
theorem writes (c : Dev nD) (t : Fin cfg0.N) (hf : (cfg0.win 2).flush t = true) : (dats m 0 c).flushed 2 t
    = ((cfg0.win 2).blk t).view.read (Elt Ideal) (colsCols (φ := .f32) (ψ := .f32) (V m c main_arg0) (V m c main_arg1)) := by
  have h7 : t.val % 8 = 7 := (flush0_2 t).mp hf
  have e := summed m c t h7
  rw [sum, if_pos h7] at e
  rw [flushed2, e]
  exact funext fun j => cols_at (blocks_at t).2.2.2 _ _ j _ rfl rfl

/-- The product at the launch's memory. -/
abbrev total (c : Dev nD) : FVec Ideal S1024x1024 .f32 :=
  colsCols (φ := .f32) (ψ := .f32) (m ((c.tc : Thread nD τ).loc main_arg0)) (m ((c.tc : Thread nD τ).loc main_arg1))

/-- The run leaves the product in the result. -/
theorem leaves : θ_run defs (onTc (τ := τ) (main (F := Ideal))) ⟨m, fun _ => 0, g⟩ (fun r => ∀ c : Dev nD,
      r.2.mem ((c.tc : Thread nD τ).loc main_v0) = total m c) :=
  (θ_run defs _ _).mono (fun r h c => (post2 m r h.1 c).trans ((dats m 0 c).arrAt_eq_of_cover 2 _ (writes m c) fun i =>
    (covered_iff2 i).2 ⟨Nat.zero_le _, (i 0).isLt, Nat.zero_le _, (i 1).isLt⟩)) (run_main_quiescent m g)

end Cert.GradWOutIdeal.Summed

theorem frame_GradWOut : Cert.quiescent_GradWOut := fun m g _ => by
  rw [tables_GradWOut]; exact Cert.GradWOutIdeal.Gen.frame (F := Bits) m g
theorem frame_GradWOutIdeal : Cert.quiescent_GradWOutIdeal := fun m g _ => Cert.GradWOutIdeal.Gen.frame (F := Ideal) m g
theorem frame_GradWOutRefIdeal : Cert.quiescent_GradWOutRefIdeal := fun m g _ =>
  (θ_run Cert.GradWOutRefIdeal.defs _ _).mono (fun _ h => ⟨fun c => (h c).2, no_sems rfl rfl _ _⟩) (Cert.GradWOutRefIdeal.Value.run (F := Ideal) m g)

theorem algebraic_GradWOut : Cert.algebraic_GradWOutIdeal_GradWOutRefIdeal := fun m g m' g' _ hm =>
  ⟨_, (θ_run _ _ _).mono (fun _ h c => ⟨h.1 c, h.2.1 c⟩)
    (θ_run_and (Cert.GradWOutIdeal.Summed.leaves m g) (Cert.GradWOutIdeal.Gen.frame (F := Ideal) m g)),
    (θ_run _ _ _).mono (fun _ h c => by
      obtain ⟨h0, h1⟩ := hm c
      refine ⟨(h c).1.trans ((dot_colsCols _ _).trans ?_), (h c).2⟩
      rw [h0, h1])
      (Cert.GradWOutRefIdeal.Value.run (F := Ideal) m' g')⟩
end
-- ==== Proof.Products.GradWZ.lean ====
/-
# `gw_z`: the gate's share of the weight's gradient

Eight points go through the rows, 512 at a time, and a scratch carries the sum of the blocks' products; the last point
stores it. The reference forms one product over all rows.
-/
module

public import proofs.«01_k».proof.Defs
public import proofs.«01_k».proof.Proof.Update.Common
public import proofs.«01_k».proof.Proof.Products.Sweep
public import proofs.«01_k».proof.Proof.Gen.GradWZ
public import proofs.«01_k».proof.Proof.Gen.GradWZIdeal
public import proofs.«01_k».proof.Proof.Gen.GradWZIdeal.Value
public import proofs.«01_k».proof.Proof.Gen.GradWZRefIdeal
public import proofs.«01_k».proof.Proof.Gen.GradWZRefIdeal.Run
public import Idealize.ShloMosaic.Lib.Tactic

@[expose] public section

noncomputable section

open Idealize.ShloMosaic Idealize.ShloMosaic.TcCoe Idealize.SL.Sem Cert.Update Cert.Products

theorem tables_GradWZ : Cert.GradWZ.defs (F := Bits) = Cert.GradWZIdeal.defs (F := Bits) :=
  congrArg (Pipeline.defs Cert.GradWZIdeal.pcfgs) (one_body 0 (by decide) fun (_, _) => rfl)

namespace Cert.GradWZIdeal.Summed
open Cert.GradWZIdeal Cert.GradWZIdeal.Gen Cert.GradWZIdeal.Value

variable (m : (ℓ : Loc nD τ sig) → Buf (Elt Ideal) ℓ) (g : Dev nD → PrngReg)

theorem zeros : (![0, 0] : Fin 2 → Nat) = fun _ => 0 := by decide

/-- Both operands' blocks go with the point's rows; the result's block is the whole array. -/
theorem blocks_at : ∀ t : Fin cfg0.N, t.val / 8 = 0 ∧ win0_0.index t = ![t.val % 8, 0] ∧ win0_1.index t = ![t.val % 8, t.val / 8]
    ∧ win0_2.index t = ![0, t.val / 8] :=
  (by decide +kernel : ∀ t : Fin grid0.N, _)

/-- What a step stores. -/
theorem step (acc : FVec Ideal S1024x1024 .f32) (x : FVec Ideal S512x1024 .bf16) (y : FVec Ideal S512x1024 .f32) :
    k0_pay2 acc x y = addf acc (colsCols x y) := by
  unfold k0_pay2
  simp only [shapeCast_self]
  exact step_eq acc x (truncf .bf16 y bitsLt_bf16_f32)

section Cases
variable (c : Dev nD) (i : grid0.Coords) (x : FVec Ideal S512x1024 .bf16) (y : FVec Ideal S512x1024 .f32) (acc : FVec Ideal S1024x1024 .f32)
  (a1 : Memref sig .tc .vmem S512x1024 .bf16) (h1 : a1.IsWhole) (a2 : Memref sig .tc .vmem S512x1024 .f32) (h2 : a2.IsWhole)
  (a3 : Memref sig .tc .vmem S1024x1024 .f32) (h3 : a3.IsWhole) (a4 : Memref sig .tc .vmem S1024x1024 .f32) (h4 : a4.IsWhole)

/-- The first block of rows. -/
theorem first (hc0 : cond0_0 i) (hc1 : ¬cond0_1 i) : sout0_A_0 (F := Ideal) c i a1 h1 a2 h2 a3 h3 a4 h4 hc0 hc1 x y = colsCols x y := by
  unfold sout0_A_0
  rw [View.read_writes_eq_canon _ _ _ (scover0_A_0 (F := Ideal) c i a1 h1 a2 h2 a3 h3 a4 h4 hc0 hc1 x y)]
  unfold kernelRun0_A
  dsimp only
  sl_unfold_words
  rw [View.canon_cons_unit_zero (S := S1024x1024) zeros, View.readCov_unit_zero (S := S1024x1024) _ zeros, step]
  simp only [View.readAt_eq_ld, h1.read_unread, h2.read_unread, View.ld_unit_zero (S := S512x1024) zeros]
  simp only [k0_pay1, shapeCast_self]
  exact start_eq _

/-- A block of rows between. -/
theorem between (hc0 : ¬cond0_0 i) (hc1 : ¬cond0_1 i) :
    sout0_B_0 (F := Ideal) c i a1 h1 a2 h2 a3 h3 a4 h4 hc0 hc1 x y acc = addf acc (colsCols x y) := by
  unfold sout0_B_0
  rw [View.read_writes_eq_canon _ _ _ (scover0_B_0 (F := Ideal) c i a1 h1 a2 h2 a3 h3 a4 h4 hc0 hc1 x y acc)]
  unfold kernelRun0_B
  dsimp only
  rw [View.canon_unit_zero zeros, step]
  simp only [View.readAt_eq_ld, h1.read_unread, h2.read_unread, h4.read_unread, View.ld_unit_zero (S := S512x1024) zeros,
    View.ld_unit_zero (S := S1024x1024) zeros]

/-- The last block of rows. -/
theorem last (hc0 : ¬cond0_0 i) (hc1 : cond0_1 i) :
    out0_C_2 (F := Ideal) c i a1 h1 a2 h2 a3 h3 a4 h4 hc0 hc1 x y acc = addf acc (colsCols x y) := by
  unfold out0_C_2
  rw [View.read_writes_eq_canon _ _ _ (cover0_C_2 (F := Ideal) c i a1 h1 a2 h2 a3 h3 a4 h4 hc0 hc1 x y acc)]
  unfold kernelRun0_C
  dsimp only
  sl_unfold_words
  rw [View.canon_unit_zero zeros, View.readCov_unit_zero (S := S1024x1024) _ zeros]
  simp only [shapeCast_self]
  rw [step]
  simp only [View.readAt_eq_ld, h1.read_unread, h2.read_unread, h4.read_unread, View.ld_unit_zero (S := S512x1024) zeros,
    View.ld_unit_zero (S := S1024x1024) zeros]

end Cases

theorem fits (t : Fin cfg0.N) : t.val / 8 * 1024 + 1024 ≤ 1024 := by rw [(blocks_at t).1]

/-- The sum is in the scratch, and in the result's buffer after the last block of rows. -/
abbrev sum (c : Dev nD) (n : Nat) (h : n < cfg0.N) : FVec Ideal S1024x1024 .f32 :=
  if n % 8 = 7 then (outsAt0 m c n h).1 else (outsAt0 m c n h).2

/-- The sum after the last block of rows. -/
theorem summed (c : Dev nD) (t : Fin cfg0.N) (ht : t.val % 8 = 7) : sum m c t.val t.isLt
    = colsFrom (φ := .bf16) (ψ := .f32) (t.val / 8 * 1024) (fits t) (V m c main_arg0) (V m c main_arg1) := by
  refine swept (sum m c) (fun t => iblk m c 0 t) (fun t => iblk m c 1 t) _ _ fits (fun t h0 => ?_) (fun t h0 => ?_)
    (fun t y d => congrArg (V m c main_arg0) (eq_ix2 (row_at (blocks_at t).2.1) (at_col (blocks_at t).2.1)))
    (fun t y e => congrArg (V m c main_arg1) (eq_ix2 (row_at (blocks_at t).2.2.1) (col_at (blocks_at t).2.2.1))) t ht
  · rw [sum, if_neg (by omega), outsAt0_A m c t h0 (by omega)]
    dsimp only
    rw [first]
  · rw [sum, sum, if_neg (show ¬(t.val - 1) % 8 = 7 by omega)]
    by_cases h1 : t.val % 8 = 7
    · rw [if_pos h1, outsAt0_C m c t h0 h1]; dsimp only; rw [last]
    · rw [if_neg h1, outsAt0_B m c t h0 h1]; dsimp only; rw [between]

/-- A last point writes its columns of the product. -/
theorem writes (c : Dev nD) (t : Fin cfg0.N) (hf : (cfg0.win 2).flush t = true) : (dats m 0 c).flushed 2 t
    = ((cfg0.win 2).blk t).view.read (Elt Ideal) (colsCols (φ := .bf16) (ψ := .f32) (V m c main_arg0) (V m c main_arg1)) := by
  have h7 : t.val % 8 = 7 := (flush0_2 t).mp hf
  have e := summed m c t h7
  rw [sum, if_pos h7] at e
  rw [flushed2, e]
  exact funext fun j => cols_at (blocks_at t).2.2.2 _ _ j _ rfl rfl

/-- The product at the launch's memory. -/
abbrev total (c : Dev nD) : FVec Ideal S1024x1024 .f32 :=
  colsCols (φ := .bf16) (ψ := .f32) (m ((c.tc : Thread nD τ).loc main_arg0)) (m ((c.tc : Thread nD τ).loc main_arg1))

/-- The run leaves the product in the result. -/
theorem leaves : θ_run defs (onTc (τ := τ) (main (F := Ideal))) ⟨m, fun _ => 0, g⟩ (fun r => ∀ c : Dev nD,
      r.2.mem ((c.tc : Thread nD τ).loc main_v0) = total m c) :=
  (θ_run defs _ _).mono (fun r h c => (post2 m r h.1 c).trans ((dats m 0 c).arrAt_eq_of_cover 2 _ (writes m c) fun i =>
    (covered_iff2 i).2 ⟨Nat.zero_le _, (i 0).isLt, Nat.zero_le _, (i 1).isLt⟩)) (run_main_quiescent m g)

end Cert.GradWZIdeal.Summed

theorem frame_GradWZ : Cert.quiescent_GradWZ := fun m g _ => by
  rw [tables_GradWZ]; exact Cert.GradWZIdeal.Gen.frame (F := Bits) m g
theorem frame_GradWZIdeal : Cert.quiescent_GradWZIdeal := fun m g _ => Cert.GradWZIdeal.Gen.frame (F := Ideal) m g
theorem frame_GradWZRefIdeal : Cert.quiescent_GradWZRefIdeal := fun m g _ =>
  (θ_run Cert.GradWZRefIdeal.defs _ _).mono (fun _ h => ⟨fun c => (h c).2, no_sems rfl rfl _ _⟩) (Cert.GradWZRefIdeal.Value.run (F := Ideal) m g)

theorem algebraic_GradWZ : Cert.algebraic_GradWZIdeal_GradWZRefIdeal := fun m g m' g' _ hm =>
  ⟨_, (θ_run _ _ _).mono (fun _ h c => ⟨h.1 c, h.2.1 c⟩)
    (θ_run_and (Cert.GradWZIdeal.Summed.leaves m g) (Cert.GradWZIdeal.Gen.frame (F := Ideal) m g)),
    (θ_run _ _ _).mono (fun _ h c => by
      obtain ⟨h0, h1⟩ := hm c
      refine ⟨(h c).1.trans ((dot_colsCols _ _).trans ?_), (h c).2⟩
      rw [h0, h1]; rfl)
      (Cert.GradWZRefIdeal.Value.run (F := Ideal) m' g')⟩
end
-- ==== Proof.Products.GradWXbc.lean ====
/-
# `gw_xbc`: the convolution's inputs' share of the weight's gradient

For each half of the columns, eight points go through the rows, 512 at a time, and a scratch carries the sum of the
blocks' products; the last point stores it. The reference forms one product over all rows.
-/
module

public import proofs.«01_k».proof.Defs
public import proofs.«01_k».proof.Proof.Update.Common
public import proofs.«01_k».proof.Proof.Products.Sweep
public import proofs.«01_k».proof.Proof.Gen.GradWXbc
public import proofs.«01_k».proof.Proof.Gen.GradWXbcIdeal
public import proofs.«01_k».proof.Proof.Gen.GradWXbcIdeal.Value
public import proofs.«01_k».proof.Proof.Gen.GradWXbcRefIdeal
public import proofs.«01_k».proof.Proof.Gen.GradWXbcRefIdeal.Run
public import Idealize.ShloMosaic.Lib.Tactic

@[expose] public section

noncomputable section

open Idealize.ShloMosaic Idealize.ShloMosaic.TcCoe Idealize.SL.Sem Cert.Update Cert.Products

theorem tables_GradWXbc : Cert.GradWXbc.defs (F := Bits) = Cert.GradWXbcIdeal.defs (F := Bits) :=
  congrArg (Pipeline.defs Cert.GradWXbcIdeal.pcfgs) (one_body 0 (by decide) fun (_, _) => rfl)

namespace Cert.GradWXbcIdeal.Summed
open Cert.GradWXbcIdeal Cert.GradWXbcIdeal.Gen Cert.GradWXbcIdeal.Value

variable (m : (ℓ : Loc nD τ sig) → Buf (Elt Ideal) ℓ) (g : Dev nD → PrngReg)

theorem zeros : (![0, 0] : Fin 2 → Nat) = fun _ => 0 := by decide

/-- Both operands' blocks go with the point's rows; the result's block is the point's half of the columns. -/
theorem blocks_at : ∀ t : Fin cfg0.N, t.val / 8 < 2 ∧ win0_0.index t = ![t.val % 8, 0] ∧ win0_1.index t = ![t.val % 8, t.val / 8]
    ∧ win0_2.index t = ![0, t.val / 8] :=
  (by decide +kernel : ∀ t : Fin grid0.N, _)

/-- What a step stores. -/
theorem step (acc : FVec Ideal S1024x768 .f32) (x : FVec Ideal S512x1024 .bf16) (y : FVec Ideal S512x768 .f32) :
    k0_pay2 acc x y = addf acc (colsCols x y) := by
  unfold k0_pay2
  simp only [shapeCast_self]
  exact step_eq acc x (truncf .bf16 y bitsLt_bf16_f32)

section Cases
variable (c : Dev nD) (i : grid0.Coords) (x : FVec Ideal S512x1024 .bf16) (y : FVec Ideal S512x768 .f32) (acc : FVec Ideal S1024x768 .f32)
  (a1 : Memref sig .tc .vmem S512x1024 .bf16) (h1 : a1.IsWhole) (a2 : Memref sig .tc .vmem S512x768 .f32) (h2 : a2.IsWhole)
  (a3 : Memref sig .tc .vmem S1024x768 .f32) (h3 : a3.IsWhole) (a4 : Memref sig .tc .vmem S1024x768 .f32) (h4 : a4.IsWhole)

/-- The first block of rows. -/
theorem first (hc0 : cond0_0 i) (hc1 : ¬cond0_1 i) : sout0_A_0 (F := Ideal) c i a1 h1 a2 h2 a3 h3 a4 h4 hc0 hc1 x y = colsCols x y := by
  unfold sout0_A_0
  rw [View.read_writes_eq_canon _ _ _ (scover0_A_0 (F := Ideal) c i a1 h1 a2 h2 a3 h3 a4 h4 hc0 hc1 x y)]
  unfold kernelRun0_A
  dsimp only
  sl_unfold_words
  rw [View.canon_cons_unit_zero (S := S1024x768) zeros, View.readCov_unit_zero (S := S1024x768) _ zeros, step]
  simp only [View.readAt_eq_ld, h1.read_unread, h2.read_unread, View.ld_unit_zero (S := S512x1024) zeros, View.ld_unit_zero (S := S512x768) zeros]
  simp only [k0_pay1, shapeCast_self]
  exact start_eq _

/-- A block of rows between. -/
theorem between (hc0 : ¬cond0_0 i) (hc1 : ¬cond0_1 i) :
    sout0_B_0 (F := Ideal) c i a1 h1 a2 h2 a3 h3 a4 h4 hc0 hc1 x y acc = addf acc (colsCols x y) := by
  unfold sout0_B_0
  rw [View.read_writes_eq_canon _ _ _ (scover0_B_0 (F := Ideal) c i a1 h1 a2 h2 a3 h3 a4 h4 hc0 hc1 x y acc)]
  unfold kernelRun0_B
  dsimp only
  rw [View.canon_unit_zero zeros, step]
  simp only [View.readAt_eq_ld, h1.read_unread, h2.read_unread, h4.read_unread, View.ld_unit_zero (S := S512x1024) zeros,
    View.ld_unit_zero (S := S512x768) zeros, View.ld_unit_zero (S := S1024x768) zeros]

/-- The last block of rows. -/
theorem last (hc0 : ¬cond0_0 i) (hc1 : cond0_1 i) :
    out0_C_2 (F := Ideal) c i a1 h1 a2 h2 a3 h3 a4 h4 hc0 hc1 x y acc = addf acc (colsCols x y) := by
  unfold out0_C_2
  rw [View.read_writes_eq_canon _ _ _ (cover0_C_2 (F := Ideal) c i a1 h1 a2 h2 a3 h3 a4 h4 hc0 hc1 x y acc)]
  unfold kernelRun0_C
  dsimp only
  sl_unfold_words
  rw [View.canon_unit_zero zeros, View.readCov_unit_zero (S := S1024x768) _ zeros]
  simp only [shapeCast_self]
  rw [step]
  simp only [View.readAt_eq_ld, h1.read_unread, h2.read_unread, h4.read_unread, View.ld_unit_zero (S := S512x1024) zeros,
    View.ld_unit_zero (S := S512x768) zeros, View.ld_unit_zero (S := S1024x768) zeros]

end Cases

theorem fits (t : Fin cfg0.N) : t.val / 8 * 768 + 768 ≤ 1536 := by have := (blocks_at t).1; omega

/-- The sum is in the scratch, and in the result's buffer after the last block of rows. -/
abbrev sum (c : Dev nD) (n : Nat) (h : n < cfg0.N) : FVec Ideal S1024x768 .f32 :=
  if n % 8 = 7 then (outsAt0 m c n h).1 else (outsAt0 m c n h).2

/-- The sum after the last block of rows. -/
theorem summed (c : Dev nD) (t : Fin cfg0.N) (ht : t.val % 8 = 7) : sum m c t.val t.isLt
    = colsFrom (φ := .bf16) (ψ := .f32) (t.val / 8 * 768) (fits t) (V m c main_arg0) (V m c main_arg1) := by
  refine swept (sum m c) (fun t => iblk m c 0 t) (fun t => iblk m c 1 t) _ _ fits (fun t h0 => ?_) (fun t h0 => ?_)
    (fun t y d => congrArg (V m c main_arg0) (eq_ix2 (row_at (blocks_at t).2.1) (at_col (blocks_at t).2.1)))
    (fun t y e => congrArg (V m c main_arg1) (eq_ix2 (row_at (blocks_at t).2.2.1) (col_at (blocks_at t).2.2.1))) t ht
  · rw [sum, if_neg (by omega), outsAt0_A m c t h0 (by omega)]
    dsimp only
    rw [first]
  · rw [sum, sum, if_neg (show ¬(t.val - 1) % 8 = 7 by omega)]
    by_cases h1 : t.val % 8 = 7
    · rw [if_pos h1, outsAt0_C m c t h0 h1]; dsimp only; rw [last]
    · rw [if_neg h1, outsAt0_B m c t h0 h1]; dsimp only; rw [between]

/-- A last point writes its columns of the product. -/
theorem writes (c : Dev nD) (t : Fin cfg0.N) (hf : (cfg0.win 2).flush t = true) : (dats m 0 c).flushed 2 t
    = ((cfg0.win 2).blk t).view.read (Elt Ideal) (colsCols (φ := .bf16) (ψ := .f32) (V m c main_arg0) (V m c main_arg1)) := by
  have h7 : t.val % 8 = 7 := (flush0_2 t).mp hf
  have e := summed m c t h7
  rw [sum, if_pos h7] at e
  rw [flushed2, e]
  exact funext fun j => cols_at (blocks_at t).2.2.2 _ _ j _ rfl rfl

/-- The product at the launch's memory. -/
abbrev total (c : Dev nD) : FVec Ideal S1024x1536 .f32 :=
  colsCols (φ := .bf16) (ψ := .f32) (m ((c.tc : Thread nD τ).loc main_arg0)) (m ((c.tc : Thread nD τ).loc main_arg1))

/-- The run leaves the product in the result. -/
theorem leaves : θ_run defs (onTc (τ := τ) (main (F := Ideal))) ⟨m, fun _ => 0, g⟩ (fun r => ∀ c : Dev nD,
      r.2.mem ((c.tc : Thread nD τ).loc main_v0) = total m c) :=
  (θ_run defs _ _).mono (fun r h c => (post2 m r h.1 c).trans ((dats m 0 c).arrAt_eq_of_cover 2 _ (writes m c) fun i =>
    (covered_iff2 i).2 ⟨Nat.zero_le _, (i 0).isLt, Nat.zero_le _, (i 1).isLt⟩)) (run_main_quiescent m g)

end Cert.GradWXbcIdeal.Summed

theorem frame_GradWXbc : Cert.quiescent_GradWXbc := fun m g _ => by
  rw [tables_GradWXbc]; exact Cert.GradWXbcIdeal.Gen.frame (F := Bits) m g
theorem frame_GradWXbcIdeal : Cert.quiescent_GradWXbcIdeal := fun m g _ => Cert.GradWXbcIdeal.Gen.frame (F := Ideal) m g
theorem frame_GradWXbcRefIdeal : Cert.quiescent_GradWXbcRefIdeal := fun m g _ =>
  (θ_run Cert.GradWXbcRefIdeal.defs _ _).mono (fun _ h => ⟨fun c => (h c).2, no_sems rfl rfl _ _⟩) (Cert.GradWXbcRefIdeal.Value.run (F := Ideal) m g)

theorem algebraic_GradWXbc : Cert.algebraic_GradWXbcIdeal_GradWXbcRefIdeal := fun m g m' g' _ hm =>
  ⟨_, (θ_run _ _ _).mono (fun _ h c => ⟨h.1 c, h.2.1 c⟩)
    (θ_run_and (Cert.GradWXbcIdeal.Summed.leaves m g) (Cert.GradWXbcIdeal.Gen.frame (F := Ideal) m g)),
    (θ_run _ _ _).mono (fun _ h c => by
      obtain ⟨h0, h1⟩ := hm c
      refine ⟨(h c).1.trans ((dot_colsCols _ _).trans ?_), (h c).2⟩
      rw [h0, h1]; rfl)
      (Cert.GradWXbcRefIdeal.Value.run (F := Ideal) m' g')⟩
end
-- ==== Proof.Products.GradWKv.lean ====
/-
# `gw_kv`: the key and value projections' share of the weight's gradient

Eight points go through the rows, 512 at a time, and a scratch carries the sum of the blocks' products; the last point
stores it. The reference forms one product over all rows.
-/
module

public import proofs.«01_k».proof.Defs
public import proofs.«01_k».proof.Proof.Update.Common
public import proofs.«01_k».proof.Proof.Products.Sweep
public import proofs.«01_k».proof.Proof.Gen.GradWKv
public import proofs.«01_k».proof.Proof.Gen.GradWKvIdeal
public import proofs.«01_k».proof.Proof.Gen.GradWKvIdeal.Value
public import proofs.«01_k».proof.Proof.Gen.GradWKvRefIdeal
public import proofs.«01_k».proof.Proof.Gen.GradWKvRefIdeal.Run
public import Idealize.ShloMosaic.Lib.Tactic

@[expose] public section

noncomputable section

open Idealize.ShloMosaic Idealize.ShloMosaic.TcCoe Idealize.SL.Sem Cert.Update Cert.Products

theorem tables_GradWKv : Cert.GradWKv.defs (F := Bits) = Cert.GradWKvIdeal.defs (F := Bits) :=
  congrArg (Pipeline.defs Cert.GradWKvIdeal.pcfgs) (one_body 0 (by decide) fun (_, _) => rfl)

namespace Cert.GradWKvIdeal.Summed
open Cert.GradWKvIdeal Cert.GradWKvIdeal.Gen Cert.GradWKvIdeal.Value

variable (m : (ℓ : Loc nD τ sig) → Buf (Elt Ideal) ℓ) (g : Dev nD → PrngReg)

theorem zeros : (![0, 0] : Fin 2 → Nat) = fun _ => 0 := by decide

/-- Both operands' blocks go with the point's rows; the result's block is the whole array. -/
theorem blocks_at : ∀ t : Fin cfg0.N, t.val / 8 = 0 ∧ win0_0.index t = ![t.val % 8, 0] ∧ win0_1.index t = ![t.val % 8, t.val / 8]
    ∧ win0_2.index t = ![0, t.val / 8] :=
  (by decide +kernel : ∀ t : Fin grid0.N, _)

/-- What a step stores. -/
theorem step (acc : FVec Ideal S1024x512 .f32) (x : FVec Ideal S512x1024 .bf16) (y : FVec Ideal S512x512 .f32) :
    k0_pay2 acc x y = addf acc (colsCols x y) := by
  unfold k0_pay2
  simp only [shapeCast_self]
  exact step_eq acc x (truncf .bf16 y bitsLt_bf16_f32)

section Cases
variable (c : Dev nD) (i : grid0.Coords) (x : FVec Ideal S512x1024 .bf16) (y : FVec Ideal S512x512 .f32) (acc : FVec Ideal S1024x512 .f32)
  (a1 : Memref sig .tc .vmem S512x1024 .bf16) (h1 : a1.IsWhole) (a2 : Memref sig .tc .vmem S512x512 .f32) (h2 : a2.IsWhole)
  (a3 : Memref sig .tc .vmem S1024x512 .f32) (h3 : a3.IsWhole) (a4 : Memref sig .tc .vmem S1024x512 .f32) (h4 : a4.IsWhole)

/-- The first block of rows. -/
theorem first (hc0 : cond0_0 i) (hc1 : ¬cond0_1 i) : sout0_A_0 (F := Ideal) c i a1 h1 a2 h2 a3 h3 a4 h4 hc0 hc1 x y = colsCols x y := by
  unfold sout0_A_0
  rw [View.read_writes_eq_canon _ _ _ (scover0_A_0 (F := Ideal) c i a1 h1 a2 h2 a3 h3 a4 h4 hc0 hc1 x y)]
  unfold kernelRun0_A
  dsimp only
  sl_unfold_words
  rw [View.canon_cons_unit_zero (S := S1024x512) zeros, View.readCov_unit_zero (S := S1024x512) _ zeros, step]
  simp only [View.readAt_eq_ld, h1.read_unread, h2.read_unread, View.ld_unit_zero (S := S512x1024) zeros, View.ld_unit_zero (S := S512x512) zeros]
  simp only [k0_pay1, shapeCast_self]
  exact start_eq _

/-- A block of rows between. -/
theorem between (hc0 : ¬cond0_0 i) (hc1 : ¬cond0_1 i) :
    sout0_B_0 (F := Ideal) c i a1 h1 a2 h2 a3 h3 a4 h4 hc0 hc1 x y acc = addf acc (colsCols x y) := by
  unfold sout0_B_0
  rw [View.read_writes_eq_canon _ _ _ (scover0_B_0 (F := Ideal) c i a1 h1 a2 h2 a3 h3 a4 h4 hc0 hc1 x y acc)]
  unfold kernelRun0_B
  dsimp only
  rw [View.canon_unit_zero zeros, step]
  simp only [View.readAt_eq_ld, h1.read_unread, h2.read_unread, h4.read_unread, View.ld_unit_zero (S := S512x1024) zeros,
    View.ld_unit_zero (S := S512x512) zeros, View.ld_unit_zero (S := S1024x512) zeros]

/-- The last block of rows. -/
theorem last (hc0 : ¬cond0_0 i) (hc1 : cond0_1 i) :
    out0_C_2 (F := Ideal) c i a1 h1 a2 h2 a3 h3 a4 h4 hc0 hc1 x y acc = addf acc (colsCols x y) := by
  unfold out0_C_2
  rw [View.read_writes_eq_canon _ _ _ (cover0_C_2 (F := Ideal) c i a1 h1 a2 h2 a3 h3 a4 h4 hc0 hc1 x y acc)]
  unfold kernelRun0_C
  dsimp only
  sl_unfold_words
  rw [View.canon_unit_zero zeros, View.readCov_unit_zero (S := S1024x512) _ zeros]
  simp only [shapeCast_self]
  rw [step]
  simp only [View.readAt_eq_ld, h1.read_unread, h2.read_unread, h4.read_unread, View.ld_unit_zero (S := S512x1024) zeros,
    View.ld_unit_zero (S := S512x512) zeros, View.ld_unit_zero (S := S1024x512) zeros]

end Cases

theorem fits (t : Fin cfg0.N) : t.val / 8 * 512 + 512 ≤ 512 := by rw [(blocks_at t).1]

/-- The sum is in the scratch, and in the result's buffer after the last block of rows. -/
abbrev sum (c : Dev nD) (n : Nat) (h : n < cfg0.N) : FVec Ideal S1024x512 .f32 :=
  if n % 8 = 7 then (outsAt0 m c n h).1 else (outsAt0 m c n h).2

/-- The sum after the last block of rows. -/
theorem summed (c : Dev nD) (t : Fin cfg0.N) (ht : t.val % 8 = 7) : sum m c t.val t.isLt
    = colsFrom (φ := .bf16) (ψ := .f32) (t.val / 8 * 512) (fits t) (V m c main_arg0) (V m c main_arg1) := by
  refine swept (sum m c) (fun t => iblk m c 0 t) (fun t => iblk m c 1 t) _ _ fits (fun t h0 => ?_) (fun t h0 => ?_)
    (fun t y d => congrArg (V m c main_arg0) (eq_ix2 (row_at (blocks_at t).2.1) (at_col (blocks_at t).2.1)))
    (fun t y e => congrArg (V m c main_arg1) (eq_ix2 (row_at (blocks_at t).2.2.1) (col_at (blocks_at t).2.2.1))) t ht
  · rw [sum, if_neg (by omega), outsAt0_A m c t h0 (by omega)]
    dsimp only
    rw [first]
  · rw [sum, sum, if_neg (show ¬(t.val - 1) % 8 = 7 by omega)]
    by_cases h1 : t.val % 8 = 7
    · rw [if_pos h1, outsAt0_C m c t h0 h1]; dsimp only; rw [last]
    · rw [if_neg h1, outsAt0_B m c t h0 h1]; dsimp only; rw [between]

/-- A last point writes its columns of the product. -/
theorem writes (c : Dev nD) (t : Fin cfg0.N) (hf : (cfg0.win 2).flush t = true) : (dats m 0 c).flushed 2 t
    = ((cfg0.win 2).blk t).view.read (Elt Ideal) (colsCols (φ := .bf16) (ψ := .f32) (V m c main_arg0) (V m c main_arg1)) := by
  have h7 : t.val % 8 = 7 := (flush0_2 t).mp hf
  have e := summed m c t h7
  rw [sum, if_pos h7] at e
  rw [flushed2, e]
  exact funext fun j => cols_at (blocks_at t).2.2.2 _ _ j _ rfl rfl

/-- The product at the launch's memory. -/
abbrev total (c : Dev nD) : FVec Ideal S1024x512 .f32 :=
  colsCols (φ := .bf16) (ψ := .f32) (m ((c.tc : Thread nD τ).loc main_arg0)) (m ((c.tc : Thread nD τ).loc main_arg1))

/-- The run leaves the product in the result. -/
theorem leaves : θ_run defs (onTc (τ := τ) (main (F := Ideal))) ⟨m, fun _ => 0, g⟩ (fun r => ∀ c : Dev nD,
      r.2.mem ((c.tc : Thread nD τ).loc main_v0) = total m c) :=
  (θ_run defs _ _).mono (fun r h c => (post2 m r h.1 c).trans ((dats m 0 c).arrAt_eq_of_cover 2 _ (writes m c) fun i =>
    (covered_iff2 i).2 ⟨Nat.zero_le _, (i 0).isLt, Nat.zero_le _, (i 1).isLt⟩)) (run_main_quiescent m g)

end Cert.GradWKvIdeal.Summed

theorem frame_GradWKv : Cert.quiescent_GradWKv := fun m g _ => by
  rw [tables_GradWKv]; exact Cert.GradWKvIdeal.Gen.frame (F := Bits) m g
theorem frame_GradWKvIdeal : Cert.quiescent_GradWKvIdeal := fun m g _ => Cert.GradWKvIdeal.Gen.frame (F := Ideal) m g
theorem frame_GradWKvRefIdeal : Cert.quiescent_GradWKvRefIdeal := fun m g _ =>
  (θ_run Cert.GradWKvRefIdeal.defs _ _).mono (fun _ h => ⟨fun c => (h c).2, no_sems rfl rfl _ _⟩) (Cert.GradWKvRefIdeal.Value.run (F := Ideal) m g)

theorem algebraic_GradWKv : Cert.algebraic_GradWKvIdeal_GradWKvRefIdeal := fun m g m' g' _ hm =>
  ⟨_, (θ_run _ _ _).mono (fun _ h c => ⟨h.1 c, h.2.1 c⟩)
    (θ_run_and (Cert.GradWKvIdeal.Summed.leaves m g) (Cert.GradWKvIdeal.Gen.frame (F := Ideal) m g)),
    (θ_run _ _ _).mono (fun _ h c => by
      obtain ⟨h0, h1⟩ := hm c
      refine ⟨(h c).1.trans ((dot_colsCols _ _).trans ?_), (h c).2⟩
      rw [h0, h1]; rfl)
      (Cert.GradWKvRefIdeal.Value.run (F := Ideal) m' g')⟩
end
-- ==== Proof.Products.GradWDt.lean ====
/-
# `gw_dt`: the time steps' share of the weight's gradient

Eight points go through the rows, 512 at a time, and a scratch carries the sum of the blocks' products; the last point
stores it. The reference forms one product over all rows.
-/
module

public import proofs.«01_k».proof.Defs
public import proofs.«01_k».proof.Proof.Update.Common
public import proofs.«01_k».proof.Proof.Products.Sweep
public import proofs.«01_k».proof.Proof.Gen.GradWDt
public import proofs.«01_k».proof.Proof.Gen.GradWDtIdeal
public import proofs.«01_k».proof.Proof.Gen.GradWDtIdeal.Value
public import proofs.«01_k».proof.Proof.Gen.GradWDtRefIdeal
public import proofs.«01_k».proof.Proof.Gen.GradWDtRefIdeal.Run
public import Idealize.ShloMosaic.Lib.Tactic

@[expose] public section

noncomputable section

open Idealize.ShloMosaic Idealize.ShloMosaic.TcCoe Idealize.SL.Sem Cert.Update Cert.Products

theorem tables_GradWDt : Cert.GradWDt.defs (F := Bits) = Cert.GradWDtIdeal.defs (F := Bits) :=
  congrArg (Pipeline.defs Cert.GradWDtIdeal.pcfgs) (one_body 0 (by decide) fun (_, _) => rfl)

namespace Cert.GradWDtIdeal.Summed
open Cert.GradWDtIdeal Cert.GradWDtIdeal.Gen Cert.GradWDtIdeal.Value

variable (m : (ℓ : Loc nD τ sig) → Buf (Elt Ideal) ℓ) (g : Dev nD → PrngReg)

theorem zeros : (![0, 0] : Fin 2 → Nat) = fun _ => 0 := by decide

/-- Both operands' blocks go with the point's rows; the result's block is the whole array. -/
theorem blocks_at : ∀ t : Fin cfg0.N, t.val / 8 = 0 ∧ win0_0.index t = ![t.val % 8, 0] ∧ win0_1.index t = ![t.val % 8, t.val / 8]
    ∧ win0_2.index t = ![0, t.val / 8] :=
  (by decide +kernel : ∀ t : Fin grid0.N, _)

/-- What a step stores. -/
theorem step (acc : FVec Ideal S1024x128 .f32) (x : FVec Ideal S512x1024 .bf16) (y : FVec Ideal S512x128 .f32) :
    k0_pay2 acc x y = addf acc (colsCols x y) := by
  unfold k0_pay2
  simp only [shapeCast_self]
  exact step_eq acc x (truncf .bf16 y bitsLt_bf16_f32)

section Cases
variable (c : Dev nD) (i : grid0.Coords) (x : FVec Ideal S512x1024 .bf16) (y : FVec Ideal S512x128 .f32) (acc : FVec Ideal S1024x128 .f32)
  (a1 : Memref sig .tc .vmem S512x1024 .bf16) (h1 : a1.IsWhole) (a2 : Memref sig .tc .vmem S512x128 .f32) (h2 : a2.IsWhole)
  (a3 : Memref sig .tc .vmem S1024x128 .f32) (h3 : a3.IsWhole) (a4 : Memref sig .tc .vmem S1024x128 .f32) (h4 : a4.IsWhole)

/-- The first block of rows. -/
theorem first (hc0 : cond0_0 i) (hc1 : ¬cond0_1 i) : sout0_A_0 (F := Ideal) c i a1 h1 a2 h2 a3 h3 a4 h4 hc0 hc1 x y = colsCols x y := by
  unfold sout0_A_0
  rw [View.read_writes_eq_canon _ _ _ (scover0_A_0 (F := Ideal) c i a1 h1 a2 h2 a3 h3 a4 h4 hc0 hc1 x y)]
  unfold kernelRun0_A
  dsimp only
  sl_unfold_words
  rw [View.canon_cons_unit_zero (S := S1024x128) zeros, View.readCov_unit_zero (S := S1024x128) _ zeros, step]
  simp only [View.readAt_eq_ld, h1.read_unread, h2.read_unread, View.ld_unit_zero (S := S512x1024) zeros, View.ld_unit_zero (S := S512x128) zeros]
  simp only [k0_pay1, shapeCast_self]
  exact start_eq _

/-- A block of rows between. -/
theorem between (hc0 : ¬cond0_0 i) (hc1 : ¬cond0_1 i) :
    sout0_B_0 (F := Ideal) c i a1 h1 a2 h2 a3 h3 a4 h4 hc0 hc1 x y acc = addf acc (colsCols x y) := by
  unfold sout0_B_0
  rw [View.read_writes_eq_canon _ _ _ (scover0_B_0 (F := Ideal) c i a1 h1 a2 h2 a3 h3 a4 h4 hc0 hc1 x y acc)]
  unfold kernelRun0_B
  dsimp only
  rw [View.canon_unit_zero zeros, step]
  simp only [View.readAt_eq_ld, h1.read_unread, h2.read_unread, h4.read_unread, View.ld_unit_zero (S := S512x1024) zeros,
    View.ld_unit_zero (S := S512x128) zeros, View.ld_unit_zero (S := S1024x128) zeros]

/-- The last block of rows. -/
theorem last (hc0 : ¬cond0_0 i) (hc1 : cond0_1 i) :
    out0_C_2 (F := Ideal) c i a1 h1 a2 h2 a3 h3 a4 h4 hc0 hc1 x y acc = addf acc (colsCols x y) := by
  unfold out0_C_2
  rw [View.read_writes_eq_canon _ _ _ (cover0_C_2 (F := Ideal) c i a1 h1 a2 h2 a3 h3 a4 h4 hc0 hc1 x y acc)]
  unfold kernelRun0_C
  dsimp only
  sl_unfold_words
  rw [View.canon_unit_zero zeros, View.readCov_unit_zero (S := S1024x128) _ zeros]
  simp only [shapeCast_self]
  rw [step]
  simp only [View.readAt_eq_ld, h1.read_unread, h2.read_unread, h4.read_unread, View.ld_unit_zero (S := S512x1024) zeros,
    View.ld_unit_zero (S := S512x128) zeros, View.ld_unit_zero (S := S1024x128) zeros]

end Cases

theorem fits (t : Fin cfg0.N) : t.val / 8 * 128 + 128 ≤ 128 := by rw [(blocks_at t).1]

/-- The sum is in the scratch, and in the result's buffer after the last block of rows. -/
abbrev sum (c : Dev nD) (n : Nat) (h : n < cfg0.N) : FVec Ideal S1024x128 .f32 :=
  if n % 8 = 7 then (outsAt0 m c n h).1 else (outsAt0 m c n h).2

/-- The sum after the last block of rows. -/
theorem summed (c : Dev nD) (t : Fin cfg0.N) (ht : t.val % 8 = 7) : sum m c t.val t.isLt
    = colsFrom (φ := .bf16) (ψ := .f32) (t.val / 8 * 128) (fits t) (V m c main_arg0) (V m c main_arg1) := by
  refine swept (sum m c) (fun t => iblk m c 0 t) (fun t => iblk m c 1 t) _ _ fits (fun t h0 => ?_) (fun t h0 => ?_)
    (fun t y d => congrArg (V m c main_arg0) (eq_ix2 (row_at (blocks_at t).2.1) (at_col (blocks_at t).2.1)))
    (fun t y e => congrArg (V m c main_arg1) (eq_ix2 (row_at (blocks_at t).2.2.1) (col_at (blocks_at t).2.2.1))) t ht
  · rw [sum, if_neg (by omega), outsAt0_A m c t h0 (by omega)]
    dsimp only
    rw [first]
  · rw [sum, sum, if_neg (show ¬(t.val - 1) % 8 = 7 by omega)]
    by_cases h1 : t.val % 8 = 7
    · rw [if_pos h1, outsAt0_C m c t h0 h1]; dsimp only; rw [last]
    · rw [if_neg h1, outsAt0_B m c t h0 h1]; dsimp only; rw [between]

/-- A last point writes its columns of the product. -/
theorem writes (c : Dev nD) (t : Fin cfg0.N) (hf : (cfg0.win 2).flush t = true) : (dats m 0 c).flushed 2 t
    = ((cfg0.win 2).blk t).view.read (Elt Ideal) (colsCols (φ := .bf16) (ψ := .f32) (V m c main_arg0) (V m c main_arg1)) := by
  have h7 : t.val % 8 = 7 := (flush0_2 t).mp hf
  have e := summed m c t h7
  rw [sum, if_pos h7] at e
  rw [flushed2, e]
  exact funext fun j => cols_at (blocks_at t).2.2.2 _ _ j _ rfl rfl

/-- The product at the launch's memory. -/
abbrev total (c : Dev nD) : FVec Ideal S1024x128 .f32 :=
  colsCols (φ := .bf16) (ψ := .f32) (m ((c.tc : Thread nD τ).loc main_arg0)) (m ((c.tc : Thread nD τ).loc main_arg1))

/-- The run leaves the product in the result. -/
theorem leaves : θ_run defs (onTc (τ := τ) (main (F := Ideal))) ⟨m, fun _ => 0, g⟩ (fun r => ∀ c : Dev nD,
      r.2.mem ((c.tc : Thread nD τ).loc main_v0) = total m c) :=
  (θ_run defs _ _).mono (fun r h c => (post2 m r h.1 c).trans ((dats m 0 c).arrAt_eq_of_cover 2 _ (writes m c) fun i =>
    (covered_iff2 i).2 ⟨Nat.zero_le _, (i 0).isLt, Nat.zero_le _, (i 1).isLt⟩)) (run_main_quiescent m g)

end Cert.GradWDtIdeal.Summed

theorem frame_GradWDt : Cert.quiescent_GradWDt := fun m g _ => by
  rw [tables_GradWDt]; exact Cert.GradWDtIdeal.Gen.frame (F := Bits) m g
theorem frame_GradWDtIdeal : Cert.quiescent_GradWDtIdeal := fun m g _ => Cert.GradWDtIdeal.Gen.frame (F := Ideal) m g
theorem frame_GradWDtRefIdeal : Cert.quiescent_GradWDtRefIdeal := fun m g _ =>
  (θ_run Cert.GradWDtRefIdeal.defs _ _).mono (fun _ h => ⟨fun c => (h c).2, no_sems rfl rfl _ _⟩) (Cert.GradWDtRefIdeal.Value.run (F := Ideal) m g)

theorem algebraic_GradWDt : Cert.algebraic_GradWDtIdeal_GradWDtRefIdeal := fun m g m' g' _ hm =>
  ⟨_, (θ_run _ _ _).mono (fun _ h c => ⟨h.1 c, h.2.1 c⟩)
    (θ_run_and (Cert.GradWDtIdeal.Summed.leaves m g) (Cert.GradWDtIdeal.Gen.frame (F := Ideal) m g)),
    (θ_run _ _ _).mono (fun _ h c => by
      obtain ⟨h0, h1⟩ := hm c
      refine ⟨(h c).1.trans ((dot_colsCols _ _).trans ?_), (h c).2⟩
      rw [h0, h1]; rfl)
      (Cert.GradWDtRefIdeal.Value.run (F := Ideal) m' g')⟩
end
-- ==== Proof.Products.Norm.lean ====
/-
# A layer norm of rows, its error and its backward step, over the extended reals

The functions of this module take a matrix of any number of rows, and a row's values depend on that row alone. The printed
operations, on the core and on the host, are these functions.
-/
module

public import proofs.«01_k».proof.Proof.Products.Common
public import Idealize.ShloMosaic.Lib.Pointwise.Reduce

@[expose] public section

noncomputable section

namespace Cert.Products

open Idealize.ShloMosaic

/-- A matrix of rows as wide as the model. -/
abbrev Rows (R : Nat) : Type := FVec Ideal ⟨2, ![R, 1024]⟩ .f32

variable {R : Nat}

/-- A value for each row, laid along it. -/
def across (v : Fin R → EReal) : Rows R := fun i => v (i 0)

/-- A value for each row, as a column. -/
def column (v : Fin R → EReal) : FVec Ideal ⟨2, ![R, 1]⟩ .f32 := fun i => v (i 0)

/-- One row, repeated. -/
def along (g : Rows 1) : Rows R := fun i => g (ix2 0 (i 1))

/-- A row's sum. -/
def rowSum (x : Rows R) : Fin R → EReal := fun y => ∑ d : Fin 1024, x (ix2 y d)

/-- A column's sum. -/
def colSums (x : Rows R) : Rows 1 := fun i => ∑ y : Fin R, x (ix2 y (i 1))

/-- A row's mean. -/
def avg (x : Rows R) : Fin R → EReal := fun y => Ideal.div (rowSum x y) (Ideal.ofBits .f32 0x44800000#32)

/-- Each row less its mean. -/
def centred (x : Rows R) : Rows R := subf x (across (avg x))

/-- One over a row's deviation. -/
def scale (x : Rows R) : Fin R → EReal := fun y =>
  Ideal.rsqrt (avg (mulf (centred x) (centred x)) y + Ideal.ofBits .f32 0x3727C5AC#32)

/-- The normalised rows. -/
def normed (x : Rows R) : Rows R := mulf (centred x) (across (scale x))

/-- The norm's output less the target. -/
def err (x : Rows R) (g b : Rows 1) (t : Rows R) : Rows R := subf (addf (mulf (normed x) (along g)) (along b)) t

/-- The error over the width: the output's cotangent. -/
def share (e : Rows R) : Rows R := mulf e (broadcast _ (Scalar.ofBits (F := Ideal) .f32 0x3A800000#32))

/-- The norm's backward step from the scales, the normalised rows and their cotangents. -/
def through (s : Fin R → EReal) (u d : Rows R) : Rows R :=
  mulf (across s) (subf (subf d (across (avg d))) (mulf u (across (avg (mulf d u)))))

/-- The cotangent of the norm's input. -/
def grad (x : Rows R) (g b : Rows 1) (t : Rows R) : Rows R :=
  through (scale x) (normed x) (mulf (share (err x g b t)) (along g))

/-- The rows of the weight from `o` on. -/
def part (o : Nat) (h : o + 1024 ≤ 2048) (w : FVec Ideal ⟨2, ![2048, 1024]⟩ .bf16) : FVec Ideal ⟨2, ![1024, 1024]⟩ .bf16 := fun i =>
  w (ix2 ⟨o + (i 0).val, Nat.lt_of_lt_of_le (Nat.add_lt_add_left (i 0).isLt o) h⟩ (i 1))

/-- The norm's input: the residual's share and both mixers' products. -/
def mixed (a b x : Rows R) (w : FVec Ideal ⟨2, ![2048, 1024]⟩ .bf16) : Rows R :=
  addf (mulf (broadcast _ (Scalar.ofBits (F := Ideal) .f32 0x3F9837F0#32)) x)
    (addf (rowsCols a (part 0 (by decide) w)) (rowsCols b (part 1024 (by decide) w)))

/-! ## A choice of rows -/

section Choice
variable {Q : Nat} (σ : Fin R → Fin Q)

/-- The rows `σ` names. -/
def pick (x : Rows Q) : Rows R := fun i => x (ix2 (σ (i 0)) (i 1))

theorem mixed_pick (a b x : Rows Q) (w : FVec Ideal ⟨2, ![2048, 1024]⟩ .bf16) :
    mixed (pick σ a) (pick σ b) (pick σ x) w = pick σ (mixed a b x w) := rfl

theorem normed_pick (x : Rows Q) : normed (pick σ x) = pick σ (normed x) := rfl

theorem err_pick (x : Rows Q) (g b : Rows 1) (t : Rows Q) : err (pick σ x) g b (pick σ t) = pick σ (err x g b t) := rfl

theorem grad_pick (x : Rows Q) (g b : Rows 1) (t : Rows Q) : grad (pick σ x) g b (pick σ t) = pick σ (grad x g b t) := rfl

end Choice

/-! ## On the core -/

section Core
variable (x : Rows R) (v : Fin R → EReal) (g : Rows 1)

theorem sum_rows {b : BitVec 32} (h : Shape.Reduces ⟨2, ![R, 1024]⟩ [1] ⟨1, ![R]⟩) (hf : FKind.Formats .f32) (hb : b = FKind.add.neutral .f32 hf)
    (hc : Shape.ShapeCasts ⟨1, ![R]⟩ ⟨2, ![R, 1]⟩) :
    shapeCast ⟨2, ![R, 1]⟩ (multiReduction .add [1] ⟨1, ![R]⟩ x b h hf hb) hc = column (rowSum x) := by
  funext j
  have h1 : (j 1).val < 1 := (j 1).isLt
  rw [shapeCast_apply _ hc j (ix1 (j 0)) (by
    rw [Shape.rowMajor_val_one, Shape.rowMajor_val_two]; show (j 0).val = (j 0).val * 1 + (j 1).val; omega)]
  exact Ideal.reduceAdd_r2_a1 h x (ix1 (j 0))

theorem sum_cols {b : BitVec 32} (h : Shape.Reduces ⟨2, ![R, 1024]⟩ [0] ⟨1, ![1024]⟩) (hf : FKind.Formats .f32) (hb : b = FKind.add.neutral .f32 hf)
    (hc : Shape.ShapeCasts ⟨1, ![1024]⟩ ⟨2, ![1, 1024]⟩) :
    shapeCast ⟨2, ![1, 1024]⟩ (multiReduction .add [0] ⟨1, ![1024]⟩ x b h hf hb) hc = colSums x := by
  funext j
  have h0 : (j 0).val < 1 := (j 0).isLt
  rw [shapeCast_apply _ hc j (ix1 (j 1)) (by
    rw [Shape.rowMajor_val_one, Shape.rowMajor_val_two]; show (j 1).val = (j 0).val * 1024 + (j 1).val; omega)]
  exact Ideal.reduceAdd_r2_a0 h x (ix1 (j 1))

theorem lay_across (h : Shape.Broadcasts ⟨2, ![R, 1]⟩ ⟨2, ![R, 1024]⟩) : broadcastTo ⟨2, ![R, 1024]⟩ (column v) h = across v := by
  funext j
  refine broadcastTo_apply (column v) h j (ix2 (j 0) 0) fun a => ?_
  match a with
  | ⟨0, _⟩ =>
    have h0 : (j 0).val < R := (j 0).isLt
    show (j 0).val = if R = 1 then 0 else (j 0).val
    split <;> omega
  | ⟨1, _⟩ => rfl

theorem lay_along (h : Shape.Broadcasts ⟨2, ![1, 1024]⟩ ⟨2, ![R, 1024]⟩) : broadcastTo ⟨2, ![R, 1024]⟩ g h = along g := by
  funext j
  refine broadcastTo_apply g h j (ix2 0 (j 1)) fun a => ?_
  match a with
  | ⟨0, _⟩ => rfl
  | ⟨1, _⟩ => rfl

theorem mean_rows : divf (column (rowSum x)) (broadcast _ (Scalar.ofBits (F := Ideal) .f32 0x44800000#32)) = column (avg x) := rfl

/-- The sum of all rows' values, weighed and laid along a row of 128. -/
theorem sum_all {b : BitVec 32} (c : EReal) (h : Shape.Reduces ⟨2, ![R, 1]⟩ [0] ⟨1, ![1]⟩) (hf : FKind.Formats .f32) (hb : b = FKind.add.neutral .f32 hf)
    (hc : Shape.ShapeCasts ⟨1, ![1]⟩ ⟨2, ![1, 1]⟩) (hl : Shape.Broadcasts ⟨2, ![1, 1]⟩ ⟨2, ![1, 128]⟩) :
    broadcastTo ⟨2, ![1, 128]⟩ (mulf (φ := .f32) (broadcast ⟨2, ![1, 1]⟩ c)
      (shapeCast ⟨2, ![1, 1]⟩ (multiReduction .add [0] ⟨1, ![1]⟩ (column v) b h hf hb) hc)) hl = fun _ => c * ∑ y, v y := by
  funext j
  rw [broadcastTo_apply _ hl j (ix2 0 0) (fun a => match a with | ⟨0, _⟩ => rfl | ⟨1, _⟩ => rfl)]
  refine congrArg (fun z : EReal => c * z) ?_
  rw [shapeCast_apply _ hc (ix2 0 0) (ix1 0) (by rw [Shape.rowMajor_val_one, Shape.rowMajor_val_two]; rfl)]
  exact Ideal.reduceAdd_r2_a0 h (column v) (ix1 0)

end Core

/-! ## On the host -/

section Host
variable (x : Rows R) (v : Fin R → EReal) (g : Rows 1)

/-- A sum from zero. -/
theorem from_zero (z : EReal) : constant (F := Ideal) ⟨0, ![]⟩ .f32 0x00000000#32 ix0 + z = z := by
  rw [show (constant (F := Ideal) ⟨0, ![]⟩ .f32 0x00000000#32 ix0 : EReal) = 0 from Ideal.ofBits_zero_f32, zero_add]

theorem host_sum_rows (h : Shape.ReducesTo ⟨2, ![R, 1024]⟩ [1] ⟨1, ![R]⟩) (hu : 0 < Shape.numel ⟨0, ![]⟩) :
    Host.reduceAdd x (constant (F := Ideal) ⟨0, ![]⟩ .f32 0x00000000#32) h hu = fun i => rowSum x (i 0) :=
  funext fun i => (Ideal.hostReduceAdd_r2_a1 h x _ i).trans (from_zero _)

theorem host_sum_cols (h : Shape.ReducesTo ⟨2, ![R, 1024]⟩ [0] ⟨1, ![1024]⟩) (hu : 0 < Shape.numel ⟨0, ![]⟩)
    (hb : Shape.BroadcastsInDim ⟨1, ![1024]⟩ ⟨2, ![1, 1024]⟩ ![1]) :
    broadcastInDim ⟨2, ![1, 1024]⟩ ![1] hb (Host.reduceAdd x (constant (F := Ideal) ⟨0, ![]⟩ .f32 0x00000000#32) h hu) = colSums x := by
  funext j
  rw [broadcastInDim_apply _ hb _ j (ix1 (j 1)) (fun a => match a with | ⟨0, _⟩ => rfl)]
  exact (Ideal.hostReduceAdd_r2_a0 h x _ (ix1 (j 1))).trans (from_zero _)

theorem host_sum_all (f : (⟨1, ![R]⟩ : Shape).Idx → EReal) (h : Shape.ReducesTo ⟨1, ![R]⟩ [0] ⟨0, ![]⟩) (hu : 0 < Shape.numel ⟨0, ![]⟩) :
    Host.reduceAdd (φ := .f32) f (constant (F := Ideal) ⟨0, ![]⟩ .f32 0x00000000#32) h hu = fun _ => ∑ y, f (ix1 y) :=
  funext fun i => (Ideal.hostReduceAdd_r1_a0 h f _ i).trans (from_zero _)

theorem host_column (hb : Shape.BroadcastsInDim ⟨1, ![R]⟩ ⟨2, ![R, 1]⟩ ![0]) :
    broadcastInDim ⟨2, ![R, 1]⟩ ![0] hb (fun i : Shape.Idx ⟨1, ![R]⟩ => v (i 0)) = column v := by
  funext j
  refine broadcastInDim_apply _ hb _ j (ix1 (j 0)) fun a => ?_
  match a with
  | ⟨0, _⟩ =>
    have h0 : (j 0).val < R := (j 0).isLt
    show (j 0).val = if R = 1 then 0 else (j 0).val
    split <;> omega

theorem host_across (hb : Shape.BroadcastsInDim ⟨2, ![R, 1]⟩ ⟨2, ![R, 1024]⟩ ![0, 1]) :
    broadcastInDim ⟨2, ![R, 1024]⟩ ![0, 1] hb (column v) = across v := by
  funext j
  refine broadcastInDim_apply _ hb _ j (ix2 (j 0) 0) fun a => ?_
  match a with
  | ⟨0, _⟩ =>
    have h0 : (j 0).val < R := (j 0).isLt
    show (j 0).val = if R = 1 then 0 else (j 0).val
    split <;> omega
  | ⟨1, _⟩ => rfl

theorem host_along (hb : Shape.BroadcastsInDim ⟨2, ![1, 1024]⟩ ⟨2, ![R, 1024]⟩ ![0, 1]) :
    broadcastInDim ⟨2, ![R, 1024]⟩ ![0, 1] hb g = along g := by
  funext j
  refine broadcastInDim_apply _ hb _ j (ix2 0 (j 1)) fun a => ?_
  match a with
  | ⟨0, _⟩ => rfl
  | ⟨1, _⟩ => rfl

theorem host_mean (hb : Shape.BroadcastsInDim ⟨0, ![]⟩ ⟨2, ![R, 1]⟩ ![]) :
    Host.divf (column (rowSum x)) (broadcastInDim ⟨2, ![R, 1]⟩ ![] hb (constant (F := Ideal) ⟨0, ![]⟩ .f32 0x44800000#32)) = column (avg x) := rfl

/-- A row's mean, from the printed sum. -/
theorem host_avg (h : Shape.ReducesTo ⟨2, ![R, 1024]⟩ [1] ⟨1, ![R]⟩) (hu : 0 < Shape.numel ⟨0, ![]⟩) (hc : Shape.BroadcastsInDim ⟨1, ![R]⟩ ⟨2, ![R, 1]⟩ ![0])
    (hb : Shape.BroadcastsInDim ⟨0, ![]⟩ ⟨2, ![R, 1]⟩ ![]) :
    Host.divf (broadcastInDim ⟨2, ![R, 1]⟩ ![0] hc (Host.reduceAdd x (constant (F := Ideal) ⟨0, ![]⟩ .f32 0x00000000#32) h hu))
      (broadcastInDim ⟨2, ![R, 1]⟩ ![] hb (constant (F := Ideal) ⟨0, ![]⟩ .f32 0x44800000#32)) = column (avg x) := by
  rw [host_sum_rows, host_column, host_mean]

theorem host_centred : subf x (across (avg x)) = centred x := rfl

theorem host_scale (hb : Shape.BroadcastsInDim ⟨0, ![]⟩ ⟨2, ![R, 1]⟩ ![]) :
    Host.rsqrt (addf (column (avg (mulf (centred x) (centred x)))) (broadcastInDim ⟨2, ![R, 1]⟩ ![] hb (constant (F := Ideal) ⟨0, ![]⟩ .f32 0x3727C5AC#32)))
      = column (scale x) := rfl

theorem host_normed : mulf (centred x) (across (scale x)) = normed x := rfl

theorem host_err (b : Rows 1) (t : Rows R) : subf (addf (mulf (normed x) (along g)) (along b)) t = err x g b t := rfl

theorem host_through (s : Fin R → EReal) (d : Rows R) :
    mulf (across s) (subf (subf d (across (avg d))) (mulf x (across (avg (mulf d x))))) = through s x d := rfl

theorem host_grad (b : Rows 1) (t : Rows R) :
    through (scale x) (normed x) (mulf (share (err x g b t)) (along g)) = grad x g b t := rfl

end Host

/-! ## The width's reciprocal -/

theorem ofBits_width : Ideal.ofBits .f32 0x44800000#32 = ((1024 : ℝ) : EReal) := by
  simp [Ideal.ofBits, Ideal.ieee, -EReal.coe_mul]; norm_num

theorem ofBits_recip : Ideal.ofBits .f32 0x3A800000#32 = ((1 / 1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_weight : Ideal.ofBits .f32 0x3A000000#32 = ((1 / 2048 : ℝ) : EReal) := by
  simp [Ideal.ofBits, Ideal.ieee, -EReal.coe_mul]; norm_num

/-- Dividing by the width is multiplying by its reciprocal. -/
theorem div_width (z : EReal) : Ideal.div z (Ideal.ofBits .f32 0x44800000#32) = z * Ideal.ofBits .f32 0x3A800000#32 := by
  have hn : ((1024 : ℝ) : EReal) ≠ 0 := by simp
  rw [ofBits_width, ofBits_recip, Ideal.div, if_neg hn, ← EReal.coe_inv, one_div]

theorem host_share (e : Rows R) (hb : Shape.BroadcastsInDim ⟨0, ![]⟩ ⟨2, ![R, 1024]⟩ ![]) :
    Host.divf e (broadcastInDim ⟨2, ![R, 1024]⟩ ![] hb (constant (F := Ideal) ⟨0, ![]⟩ .f32 0x44800000#32)) = share e :=
  funext fun i => div_width (e i)

/-- A real of positive sign goes into a sum. -/
theorem real_mul_sum {n : Nat} {c : ℝ} (hc : 0 ≤ c) (f : Fin n → EReal) : (c : EReal) * ∑ y, f y = ∑ y, (c : EReal) * f y := by
  have h : ∀ s : Finset (Fin n), (c : EReal) * ∑ y ∈ s, f y = ∑ y ∈ s, (c : EReal) * f y := fun s => by
    induction s using Finset.cons_induction with
    | empty => simp
    | cons a s ha ih =>
      rw [Finset.sum_cons, Finset.sum_cons,
        EReal.left_distrib_of_nonneg_of_ne_top (EReal.coe_nonneg.2 hc) (EReal.coe_ne_top c), ih]
  exact h _

/-- Half the sum of the means is the weighed sum of the sums. -/
theorem half_means {n : Nat} (f : Fin n → EReal) :
    Ideal.ofBits .f32 0x3F000000#32 * ∑ y, Ideal.div (f y) (Ideal.ofBits .f32 0x44800000#32) = ∑ y, Ideal.ofBits .f32 0x3A000000#32 * f y := by
  rw [ofBits_half, real_mul_sum (by norm_num)]
  refine Finset.sum_congr rfl fun y _ => ?_
  rw [div_width, ofBits_recip, ofBits_weight, mul_comm (f y), ← mul_assoc, ← EReal.coe_mul]
  norm_num

/-- Half the sum of the means of the squares. -/
theorem host_loss (e : Rows R) (h : Shape.ReducesTo ⟨2, ![R, 1024]⟩ [1] ⟨1, ![R]⟩) (h' : Shape.ReducesTo ⟨1, ![R]⟩ [0] ⟨0, ![]⟩)
    (hu : 0 < Shape.numel ⟨0, ![]⟩) (hb : Shape.BroadcastsInDim ⟨0, ![]⟩ ⟨1, ![R]⟩ ![]) (hl : Shape.BroadcastsInDim ⟨0, ![]⟩ ⟨2, ![1, 128]⟩ ![]) :
    broadcastInDim ⟨2, ![1, 128]⟩ ![] hl (mulf (constant (F := Ideal) ⟨0, ![]⟩ .f32 0x3F000000#32) (Host.reduceAdd
      (Host.divf (Host.reduceAdd (mulf e e) (constant (F := Ideal) ⟨0, ![]⟩ .f32 0x00000000#32) h hu)
        (broadcastInDim ⟨1, ![R]⟩ ![] hb (constant (F := Ideal) ⟨0, ![]⟩ .f32 0x44800000#32)))
      (constant (F := Ideal) ⟨0, ![]⟩ .f32 0x00000000#32) h' hu))
      = fun _ => ∑ y, Ideal.ofBits .f32 0x3A000000#32 * rowSum (mulf e e) y := by
  rw [host_sum_rows, host_sum_all]
  exact funext fun _ => half_means (rowSum (mulf e e))

/-! ## Sixteen blocks of rows -/

/-- A sum carried through sixteen points of 256 rows each is the sum over all rows. -/
theorem carried {N : Nat} (hN : N = 16) (S : (n : Nat) → n < N → EReal) (f : Fin 4096 → EReal)
    (first : ∀ t : Fin N, t.val = 0 → S t.val t.isLt = ∑ y : Fin 256, f ⟨t.val * 256 + y.val, by omega⟩)
    (next : ∀ t : Fin N, t.val ≠ 0 → S t.val t.isLt
      = S (t.val - 1) (Nat.lt_of_le_of_lt (Nat.sub_le _ _) t.isLt) + ∑ y : Fin 256, f ⟨t.val * 256 + y.val, by omega⟩)
    (t : Fin N) (ht : t.val = 15) : S t.val t.isLt = ∑ y, f y := by
  subst hN
  have part : ∀ (k : Nat) (hk : k < 16), S k hk = ∑ y : Fin ((k + 1) * 256), f ⟨y.val, by omega⟩ := by
    intro k
    induction k with
    | zero =>
      intro hk
      exact (first ⟨0, hk⟩ rfl).trans (Finset.sum_congr rfl fun y _ => congrArg f (Fin.ext (show 0 * 256 + y.val = y.val by omega)))
    | succ k ih =>
      intro hk
      refine (next ⟨k + 1, hk⟩ (Nat.succ_ne_zero k)).trans ?_
      rw [sum_split (m := (k + 1) * 256) (n := 256) (l := (k + 1 + 1) * 256) (by omega)]
      exact congrArg (· + _) (ih (by omega))
  obtain ⟨n, hn⟩ := t
  obtain rfl : n = 15 := ht
  exact part 15 hn

end Cert.Products

end
-- ==== Proof.Products.OutLnLossPoint.lean ====
/-
# `out_ln_loss`: what a grid point computes

A point forms 256 rows: the norm's input, its output's error, and the cotangents of the input and of both mixers' outputs.
It adds its rows' loss and their share of the gradients of the norm's scale and shift to what it finds.
-/
module

public import proofs.«01_k».proof.Defs
public import proofs.«01_k».proof.Proof.Products.Sweep
public import proofs.«01_k».proof.Proof.Products.Norm
public import proofs.«01_k».proof.Proof.Gen.OutLnLossIdeal
public import proofs.«01_k».proof.Proof.Gen.OutLnLossIdeal.Value
public import Idealize.ShloMosaic.Lib.Tactic

@[expose] public section

noncomputable section

open Idealize.ShloMosaic Idealize.ShloMosaic.TcCoe Idealize.SL.Sem Cert.Products

namespace Cert.OutLnLossIdeal.Normed
open Cert.OutLnLossIdeal Cert.OutLnLossIdeal.Gen

theorem zeros : (![0, 0] : Fin 2 → Nat) = fun _ => 0 := by decide

/-! ## What a point computes from its blocks -/

section Steps
variable (a b x t : Rows 256) (w : FVec Ideal S2048x1024 .bf16) (gam bet : Rows 1) (acc : Rows 1) (lo : FVec Ideal S1x128 .f32)

theorem sums : shapeCast S256x1 (multiReduction .add [1] S256 x 0x00000000#32 reduces_S256x1024_S256 (.inl rfl) rfl) shapeCasts_S256_S256x1
    = column (rowSum x) :=
  sum_rows x _ _ _ _

theorem downs : shapeCast S1x1024 (multiReduction .add [0] S1024 x 0x00000000#32 reduces_S256x1024_S1024 (.inl rfl) rfl)
    shapeCasts_S1024_S1x1024 = colSums x :=
  sum_cols x _ _ _ _

/-- The loss of a block's rows. -/
def loss (e : Rows 256) : FVec Ideal S1x128 .f32 := fun _ => Ideal.ofBits .f32 0x3A000000#32 * ∑ y, rowSum (mulf e e) y

theorem spread : broadcastTo S1x128 (mulf (broadcast S1x1 (Scalar.ofBits (F := Ideal) .f32 0x3A000000#32)) (shapeCast S1x1
    (multiReduction .add [0] S1 (column (rowSum (mulf x x))) 0x00000000#32 reduces_S256x1_S1 (.inl rfl) rfl) shapeCasts_S1_S1x1))
    broadcasts_S1x1_S1x128 = loss x :=
  sum_all _ _ _ _ _ _ _

theorem forward (v : FVec Ideal S1024x1024 .bf16) :
    matmul dot_S256x1024_S1024x1024_S256x1024_1_0_0_1_n_n none (truncf .bf16 a bitsLt_bf16_f32) v
      (constant (F := Ideal) S256x1024 .f32 0x00000000#32) = rowsCols a v :=
  (matmul_zero _ _ _ _).trans (dot_rowsCols (truncf .bf16 a bitsLt_bf16_f32) v)

theorem step8 : k0_pay8 (F := Ideal) a (part 0 (by decide) w) b (part 1024 (by decide) w) x = centred (mixed a b x w) := by
  unfold k0_pay8
  dsimp only
  rw [forward a, forward b, sums, mean_rows, lay_across]
  rfl

theorem step9 : k0_pay9 (F := Ideal) a (part 0 (by decide) w) b (part 1024 (by decide) w) x = column (scale (mixed a b x w)) := by
  unfold k0_pay9
  dsimp only
  rw [step8, sums]
  rfl

theorem step10 : k0_pay10 (F := Ideal) a (part 0 (by decide) w) b (part 1024 (by decide) w) x = normed (mixed a b x w) := by
  unfold k0_pay10
  dsimp only
  rw [step8, step9, lay_across]
  rfl

theorem step11 : k0_pay11 (F := Ideal) a (part 0 (by decide) w) b (part 1024 (by decide) w) x gam
    = mulf (normed (mixed a b x w)) (along gam) := by
  unfold k0_pay11
  dsimp only
  rw [step10, lay_along]

theorem step12 : k0_pay12 (F := Ideal) (mulf (normed x) (along gam)) bet t = err x gam bet t := by
  unfold k0_pay12
  dsimp only
  rw [lay_along]
  rfl

theorem step13 : k0_pay13 (F := Ideal) (mulf (normed x) (along gam)) bet t lo = addf lo (loss (err x gam bet t)) := by
  unfold k0_pay13
  dsimp only
  rw [step12, sums, spread, shapeCast_self]

theorem step14 : k0_pay14 (F := Ideal) (mulf (normed x) (along gam)) bet t = share (err x gam bet t) := by
  unfold k0_pay14
  dsimp only
  rw [step12]
  rfl

theorem step15 : k0_pay15 (F := Ideal) (normed x) (mulf (normed x) (along gam)) bet t acc
    = addf acc (colSums (mulf (share (err x gam bet t)) (normed x))) := by
  unfold k0_pay15
  dsimp only
  rw [step14, downs, shapeCast_self]

theorem step16 : k0_pay16 (F := Ideal) (mulf (normed x) (along gam)) bet t acc = addf acc (colSums (share (err x gam bet t))) := by
  unfold k0_pay16
  dsimp only
  rw [step14, downs, shapeCast_self]

theorem step17 : k0_pay17 (F := Ideal) gam (mulf (normed x) (along gam)) bet t = mulf (share (err x gam bet t)) (along gam) := by
  unfold k0_pay17
  dsimp only
  rw [step14, lay_along]

theorem step1 : k0_pay1 (F := Ideal) (column (scale x)) (normed x) (k0_pay17 gam (mulf (normed x) (along gam)) bet t)
    (k0_pay18 gam (mulf (normed x) (along gam)) bet t) = grad x gam bet t := by
  unfold k0_pay1 k0_pay18
  dsimp only
  rw [step17, sums, sums, mean_rows, mean_rows, lay_across, lay_across, lay_across]
  rfl

theorem backward (v : FVec Ideal S1024x1024 .bf16) :
    matmul dot_S256x1024_S1024x1024_S256x1024_1_1_0_0_n_n none (truncf .bf16 a bitsLt_bf16_f32) v
      (constant (F := Ideal) S256x1024 .f32 0x00000000#32) = rowsRows a v :=
  (matmul_zero _ _ _ _).trans (dot_rowsRows (truncf .bf16 a bitsLt_bf16_f32) v)

theorem step3 (v : FVec Ideal S1024x1024 .bf16) : k0_pay3 (F := Ideal) (column (scale x)) (normed x)
    (k0_pay17 gam (mulf (normed x) (along gam)) bet t) (k0_pay18 gam (mulf (normed x) (along gam)) bet t) v = rowsRows (grad x gam bet t) v := by
  unfold k0_pay3 k0_pay2
  dsimp only
  rw [step1, backward]

theorem step4 (v : FVec Ideal S1024x1024 .bf16) : k0_pay4 (F := Ideal) (column (scale x)) (normed x)
    (k0_pay17 gam (mulf (normed x) (along gam)) bet t) (k0_pay18 gam (mulf (normed x) (along gam)) bet t) v = rowsRows (grad x gam bet t) v := by
  unfold k0_pay4 k0_pay2
  dsimp only
  rw [step1, backward]

/-- A half of the weight's block. -/
theorem half (o : Nat) (h : o + 1024 ≤ 2048) (inb) :
    View.ld (Val := Elt Ideal) (e' := .bf16) w (Rect.unit (s := S2048x1024) ![o, 0] S1024x1024.size inb) = part o h w :=
  funext fun i => congrArg w (eq_ix2 (show o + 1 * (i 0).val = o + (i 0).val by omega) (show 0 + 1 * (i 1).val = (i 1).val by omega))

end Steps

/-! ## What a point leaves -/

/-- A point's values: three blocks of rows and what it adds to the three sums. -/
abbrev values (a b x t : Rows 256) (w : FVec Ideal S2048x1024 .bf16) (gam bet : Rows 1) :
    Rows 256 × Rows 256 × Rows 256 × FVec Ideal S1x128 .f32 × Rows 1 × Rows 1 :=
  (grad (mixed a b x w) gam bet t, rowsRows (grad (mixed a b x w) gam bet t) (part 0 (by decide) w),
    rowsRows (grad (mixed a b x w) gam bet t) (part 1024 (by decide) w), loss (err (mixed a b x w) gam bet t),
    colSums (mulf (share (err (mixed a b x w) gam bet t)) (normed (mixed a b x w))), colSums (share (err (mixed a b x w) gam bet t)))

section Cases
variable (c : Dev nD) (i : grid0.Coords) (a b x t : Rows 256) (w : FVec Ideal S2048x1024 .bf16) (gam bet p q : Rows 1) (lo : FVec Ideal S1x128 .f32)
  (a1 : Memref sig .tc .vmem S256x1024 .f32) (h1 : a1.IsWhole) (a2 : Memref sig .tc .vmem S256x1024 .f32) (h2 : a2.IsWhole)
  (a3 : Memref sig .tc .vmem S256x1024 .f32) (h3 : a3.IsWhole) (a4 : Memref sig .tc .vmem S256x1024 .f32) (h4 : a4.IsWhole)
  (a5 : Memref sig .tc .vmem S2048x1024 .bf16) (h5 : a5.IsWhole) (a6 : Memref sig .tc .vmem S1x1024 .f32) (h6 : a6.IsWhole)
  (a7 : Memref sig .tc .vmem S1x1024 .f32) (h7 : a7.IsWhole) (a8 : Memref sig .tc .vmem S256x1024 .f32) (h8 : a8.IsWhole)
  (a9 : Memref sig .tc .vmem S256x1024 .f32) (h9 : a9.IsWhole) (a10 : Memref sig .tc .vmem S256x1024 .f32) (h10 : a10.IsWhole)
  (a11 : Memref sig .tc .vmem S1x128 .f32) (h11 : a11.IsWhole) (a12 : Memref sig .tc .vmem S1x1024 .f32) (h12 : a12.IsWhole)
  (a13 : Memref sig .tc .vmem S1x1024 .f32) (h13 : a13.IsWhole)

/-- The first point leaves its values. -/
theorem first (hc : cond0_0 i) :
    (out0_A_7 (F := Ideal) c i a1 h1 a2 h2 a3 h3 a4 h4 a5 h5 a6 h6 a7 h7 a8 h8 a9 h9 a10 h10 a11 h11 a12 h12 a13 h13 hc a b x t w gam bet,
      out0_A_8 (F := Ideal) c i a1 h1 a2 h2 a3 h3 a4 h4 a5 h5 a6 h6 a7 h7 a8 h8 a9 h9 a10 h10 a11 h11 a12 h12 a13 h13 hc a b x t w gam bet,
      out0_A_9 (F := Ideal) c i a1 h1 a2 h2 a3 h3 a4 h4 a5 h5 a6 h6 a7 h7 a8 h8 a9 h9 a10 h10 a11 h11 a12 h12 a13 h13 hc a b x t w gam bet,
      out0_A_10 (F := Ideal) c i a1 h1 a2 h2 a3 h3 a4 h4 a5 h5 a6 h6 a7 h7 a8 h8 a9 h9 a10 h10 a11 h11 a12 h12 a13 h13 hc a b x t w gam bet,
      out0_A_11 (F := Ideal) c i a1 h1 a2 h2 a3 h3 a4 h4 a5 h5 a6 h6 a7 h7 a8 h8 a9 h9 a10 h10 a11 h11 a12 h12 a13 h13 hc a b x t w gam bet,
      out0_A_12 (F := Ideal) c i a1 h1 a2 h2 a3 h3 a4 h4 a5 h5 a6 h6 a7 h7 a8 h8 a9 h9 a10 h10 a11 h11 a12 h12 a13 h13 hc a b x t w gam bet)
      = values a b x t w gam bet := by
  unfold out0_A_7 out0_A_8 out0_A_9 out0_A_10 out0_A_11 out0_A_12
  refine congrArg₂ Prod.mk ?_ (congrArg₂ Prod.mk ?_ (congrArg₂ Prod.mk ?_ (congrArg₂ Prod.mk ?_ (congrArg₂ Prod.mk ?_ ?_))))
  all_goals rw [View.read_writes_eq_canon]
  rotate_left
  · apply cover0_A_7
  rotate_left
  · apply cover0_A_8
  rotate_left
  · apply cover0_A_9
  rotate_left
  · apply cover0_A_10
  rotate_left
  · apply cover0_A_11
  rotate_left
  · apply cover0_A_12
  all_goals unfold kernelRun0_A
  all_goals dsimp only
  all_goals sl_unfold_words
  all_goals simp only [View.readAt_eq_ld, h1.read_unread, h2.read_unread, h3.read_unread, h4.read_unread, h5.read_unread, h6.read_unread,
    h7.read_unread, View.ld_unit_zero (S := S256x1024) zeros, View.ld_unit_zero (S := S1x1024) zeros]
  · rw [View.canon_unit_zero zeros, half w 0 (by decide), half w 1024 (by decide), step9, step10, step11, step1]
  · rw [View.canon_unit_zero zeros, half w 0 (by decide), half w 1024 (by decide), step9, step10, step11, step3]
  · rw [View.canon_unit_zero zeros, half w 0 (by decide), half w 1024 (by decide), step9, step10, step11, step4]
  · rw [View.canon_cons_unit_zero (S := S1x128) zeros, View.readCov_unit_zero (S := S1x128) _ zeros, half w 0 (by decide),
      half w 1024 (by decide), step11, step13]
    exact start_eq _
  · rw [View.canon_cons_unit_zero (S := S1x1024) zeros, View.readCov_unit_zero (S := S1x1024) _ zeros, half w 0 (by decide),
      half w 1024 (by decide), step10, step11, step15]
    exact start_eq _
  · rw [View.canon_cons_unit_zero (S := S1x1024) zeros, View.readCov_unit_zero (S := S1x1024) _ zeros, half w 0 (by decide),
      half w 1024 (by decide), step11, step16]
    exact start_eq _

/-- A later point adds its own to the sums it finds. -/
theorem later (hc : ¬cond0_0 i) :
    (out0_B_7 (F := Ideal) c i a1 h1 a2 h2 a3 h3 a4 h4 a5 h5 a6 h6 a7 h7 a8 h8 a9 h9 a10 h10 a11 h11 a12 h12 a13 h13 hc a b x t w gam bet lo p q,
      out0_B_8 (F := Ideal) c i a1 h1 a2 h2 a3 h3 a4 h4 a5 h5 a6 h6 a7 h7 a8 h8 a9 h9 a10 h10 a11 h11 a12 h12 a13 h13 hc a b x t w gam bet lo p q,
      out0_B_9 (F := Ideal) c i a1 h1 a2 h2 a3 h3 a4 h4 a5 h5 a6 h6 a7 h7 a8 h8 a9 h9 a10 h10 a11 h11 a12 h12 a13 h13 hc a b x t w gam bet lo p q,
      out0_B_10 (F := Ideal) c i a1 h1 a2 h2 a3 h3 a4 h4 a5 h5 a6 h6 a7 h7 a8 h8 a9 h9 a10 h10 a11 h11 a12 h12 a13 h13 hc a b x t w gam bet lo p q,
      out0_B_11 (F := Ideal) c i a1 h1 a2 h2 a3 h3 a4 h4 a5 h5 a6 h6 a7 h7 a8 h8 a9 h9 a10 h10 a11 h11 a12 h12 a13 h13 hc a b x t w gam bet lo p q,
      out0_B_12 (F := Ideal) c i a1 h1 a2 h2 a3 h3 a4 h4 a5 h5 a6 h6 a7 h7 a8 h8 a9 h9 a10 h10 a11 h11 a12 h12 a13 h13 hc a b x t w gam bet lo p q)
      = ((values a b x t w gam bet).1, (values a b x t w gam bet).2.1, (values a b x t w gam bet).2.2.1, addf lo (values a b x t w gam bet).2.2.2.1,
          addf p (values a b x t w gam bet).2.2.2.2.1, addf q (values a b x t w gam bet).2.2.2.2.2) := by
  unfold out0_B_7 out0_B_8 out0_B_9 out0_B_10 out0_B_11 out0_B_12
  refine congrArg₂ Prod.mk ?_ (congrArg₂ Prod.mk ?_ (congrArg₂ Prod.mk ?_ (congrArg₂ Prod.mk ?_ (congrArg₂ Prod.mk ?_ ?_))))
  all_goals rw [View.read_writes_eq_canon]
  rotate_left
  · apply cover0_B_7
  rotate_left
  · apply cover0_B_8
  rotate_left
  · apply cover0_B_9
  rotate_left
  · apply cover0_B_10
  rotate_left
  · apply cover0_B_11
  rotate_left
  · apply cover0_B_12
  all_goals unfold kernelRun0_B
  all_goals dsimp only
  all_goals sl_unfold_words
  all_goals rw [View.canon_unit_zero zeros]
  all_goals simp only [View.readAt_eq_ld, h1.read_unread, h2.read_unread, h3.read_unread, h4.read_unread, h5.read_unread, h6.read_unread,
    h7.read_unread, h11.read_unread, h12.read_unread, h13.read_unread, View.ld_unit_zero (S := S256x1024) zeros,
    View.ld_unit_zero (S := S1x1024) zeros, View.ld_unit_zero (S := S1x128) zeros]
  all_goals rw [half w 0 (by decide), half w 1024 (by decide)]
  · rw [step9, step10, step11, step1]
  · rw [step9, step10, step11, step3]
  · rw [step9, step10, step11, step4]
  · rw [step11, step13]
  · rw [step10, step11, step15]
  · rw [step11, step16]

end Cases

end Cert.OutLnLossIdeal.Normed

end
-- ==== Proof.Products.OutLnLossRef.lean ====
/-
# `out_ln_loss`'s reference

The host's operations are the norm's functions on all rows: the product of the joined outputs is the sum of the two halves'
products, a slice of the product with the whole weight is the product with a half, and half the sum of the rows' means is
the rows' weighed sum.
-/
module

public import proofs.«01_k».proof.Proof.Products.Norm
public import proofs.«01_k».proof.Proof.Gen.OutLnLossRefIdeal
public import proofs.«01_k».proof.Proof.Gen.OutLnLossRefIdeal.Run

@[expose] public section

noncomputable section

open Idealize.ShloMosaic Idealize.ShloMosaic.TcCoe Idealize.SL.Sem Cert.Products

namespace Cert.OutLnLossRefIdeal.Normed
open Cert.OutLnLossRefIdeal Cert.OutLnLossRefIdeal.Gen Cert.OutLnLossRefIdeal.Value

/-- The host's input of the norm. -/
theorem input (a b x : Rows 4096) (w : FVec Ideal S2048x1024 .bf16) :
    addf (mulf (broadcastInDim S4096x1024 ![] bcast_S_S4096x1024 (constant (F := Ideal) S_ .f32 0x3F9837F0#32)) x)
      (Host.dotGeneral (F := Ideal) dot_S4096x2048_S2048x1024_S4096x1024_1_0_0_1_n_n none (concatenate S4096x2048 1 [⟨S4096x1024, a⟩, ⟨S4096x1024, b⟩]
        concatenates_S4096x1024_S4096x1024_S4096x2048_d1) (extf .f32 w bitsLt_bf16_f32)) = mixed a b x w := by
  funext i
  obtain ⟨u, hu⟩ : ∃ u : FVec Ideal S4096x2048 .f32, u = concatenate S4096x2048 1 [⟨S4096x1024, a⟩, ⟨S4096x1024, b⟩]
    concatenates_S4096x1024_S4096x1024_S4096x2048_d1 := ⟨_, rfl⟩
  have piece : ∀ (p : Nat) (hp : p < 2) (o : Nat) (h : o + 1024 ≤ 2048) (d : Rows 4096)
      (_ : ([⟨S4096x1024, a⟩, ⟨S4096x1024, b⟩] : List ((s : Shape) × (s.Idx → Elt Ideal .f32)))[p]'hp = ⟨S4096x1024, d⟩)
      (_ : ((([S4096x1024, S4096x1024] : List Shape).take p).map fun s =>
        if h : s.rank = S4096x2048.rank then s.size ((1 : Fin S4096x2048.rank).cast h.symm) else 0).sum = o) (x : Fin 1024),
      u (ix2 (i 0) ⟨o + x.val, by omega⟩) = d (ix2 (i 0) x) := fun p hp o h d e eo x => by
    rw [hu]
    refine concatenate_apply_piece (α := Elt Ideal .f32) (t := S4096x2048) 1 [⟨S4096x1024, a⟩, ⟨S4096x1024, b⟩] _
      (ix2 (i 0) ⟨o + x.val, by omega⟩) p hp S4096x1024 d e rfl o ?_ (ix2 (i 0) x) (fun k hk => ?_) rfl
    · rw [← eo]; simp only [List.map_take, List.map_cons, List.map_nil]
    · match k, hk with
      | ⟨0, _⟩, _ => rfl
      | ⟨1, _⟩, hk => exact absurd rfl hk
  rw [← hu]
  have e : Host.dotGeneral (F := Ideal) dot_S4096x2048_S2048x1024_S4096x1024_1_0_0_1_n_n none u (extf .f32 w bitsLt_bf16_f32) i
      = ∑ x : Fin 2048, u (ix2 (i 0) x) * w (ix2 x (i 1)) := congrFun (dot_rowsCols u (extf .f32 w bitsLt_bf16_f32)) i
  rw [sum_split (m := 1024) (n := 1024) (l := 2048) rfl] at e
  refine (congrArg (FloatOps.addf (mulf (broadcast _ (Scalar.ofBits (F := Ideal) .f32 0x3F9837F0#32)) x i)) (e.trans ?_)).trans rfl
  refine congrArg₂ (fun y z : EReal => y + z) (Finset.sum_congr rfl fun x _ => ?_) (Finset.sum_congr rfl fun x _ => ?_)
  · exact congrArg₂ (fun y z : EReal => y * z) ((congrArg u (eq_ix2 rfl (Nat.zero_add _).symm)).trans (piece 0 (by decide) 0 (by decide) a rfl rfl x))
      (congrArg w (eq_ix2 (Nat.zero_add _).symm rfl))
  · exact congrArg (fun y : EReal => y * _) (piece 1 (by decide) 1024 (by decide) b rfl rfl x)

/-- A slice of the product with the whole weight. -/
theorem sliced (o : Nat) (h : o + 1024 ≤ 2048) (d : Rows 4096) (w : FVec Ideal S2048x1024 .bf16) (hs) :
    extractStridedSlice S4096x1024 ![0, o] (Host.dotGeneral (F := Ideal) dot_S4096x1024_S2048x1024_S4096x2048_1_1_0_0_n_n none d
      (extf .f32 w bitsLt_bf16_f32)) hs = rowsRows d (part o h w) := by
  rw [show Host.dotGeneral (F := Ideal) dot_S4096x1024_S2048x1024_S4096x2048_1_1_0_0_n_n none d (extf .f32 w bitsLt_bf16_f32) = rowsRows d w from
    dot_rowsRows d (extf .f32 w bitsLt_bf16_f32)]
  exact funext fun i => congrArg (rowsRows d w) (eq_ix2 (x := i 0)
    (y := ⟨o + (i 1).val, Nat.lt_of_lt_of_le (Nat.add_lt_add_left (i 1).isLt o) h⟩) (Nat.zero_add _) rfl)

variable (m : (ℓ : Loc nD τ sig) → Buf (Elt Ideal) ℓ) (c : Dev nD)

/-- The norm's input. -/
abbrev row : Rows 4096 := mixed (m ((c.tc : Thread nD τ).loc main_arg0)) (m ((c.tc : Thread nD τ).loc main_arg1))
  (m ((c.tc : Thread nD τ).loc main_arg2)) (m ((c.tc : Thread nD τ).loc main_arg4))

/-- The error. -/
abbrev off : Rows 4096 := err (row m c) (m ((c.tc : Thread nD τ).loc main_arg5)) (m ((c.tc : Thread nD τ).loc main_arg6))
  (m ((c.tc : Thread nD τ).loc main_arg3))

/-- The cotangent of the norm's input. -/
abbrev back : Rows 4096 := grad (row m c) (m ((c.tc : Thread nD τ).loc main_arg5)) (m ((c.tc : Thread nD τ).loc main_arg6))
  (m ((c.tc : Thread nD τ).loc main_arg3))

theorem value0 : res_main_v54 m c = back m c := by
  unfold res_main_v54
  rw [input, host_avg (row m c), host_across, host_centred, host_avg, host_scale, host_across, host_normed, host_along, host_along, host_err, host_share,
    host_avg, host_avg, host_across, host_across, host_through, host_grad]

theorem value1 : res_main_v56 m c = rowsRows (back m c) (part 0 (by decide) (m ((c.tc : Thread nD τ).loc main_arg4))) := by
  unfold res_main_v56
  rw [input, host_avg (row m c), host_across, host_centred, host_avg, host_scale, host_across, host_normed, host_along, host_along, host_err, host_share,
    host_avg, host_avg, host_across, host_across, host_through, host_grad]
  exact sliced 0 (by decide) _ _ _

theorem value2 : res_main_v57 m c = rowsRows (back m c) (part 1024 (by decide) (m ((c.tc : Thread nD τ).loc main_arg4))) := by
  unfold res_main_v57
  rw [input, host_avg (row m c), host_across, host_centred, host_avg, host_scale, host_across, host_normed, host_along, host_along, host_err, host_share,
    host_avg, host_avg, host_across, host_across, host_through, host_grad]
  exact sliced 1024 (by decide) _ _ _

theorem value3 : res_main_v58 m c = fun _ => ∑ y, Ideal.ofBits .f32 0x3A000000#32 * rowSum (mulf (off m c) (off m c)) y := by
  unfold res_main_v58
  rw [input, host_avg (row m c), host_across, host_centred, host_avg, host_scale, host_across, host_normed, host_along, host_along, host_err]
  exact host_loss _ _ _ _ _ _

theorem value4 : res_main_v61 m c = colSums (mulf (share (off m c)) (normed (row m c))) := by
  unfold res_main_v61
  rw [input, host_avg (row m c), host_across, host_centred, host_avg, host_scale, host_across, host_normed, host_along, host_along, host_err, host_share]
  exact host_sum_cols _ _ _ _

theorem value5 : res_main_v63 m c = colSums (share (off m c)) := by
  unfold res_main_v63
  rw [input, host_avg (row m c), host_across, host_centred, host_avg, host_scale, host_across, host_normed, host_along, host_along, host_err, host_share]
  exact host_sum_cols _ _ _ _

end Cert.OutLnLossRefIdeal.Normed

end
-- ==== Proof.Products.OutLnLoss.lean ====
/-
# `out_ln_loss`: the output projection, the layer norm and the loss

Each of sixteen points writes 256 rows of the cotangents of the norm's input and of both mixers' outputs. The loss and the
gradients of the norm's scale and shift are carried from point to point. The reference joins the mixers' outputs, takes
whole products and sums over all rows at once; it divides where the kernel multiplies by the reciprocal.
-/
module

public import proofs.«01_k».proof.Defs
public import proofs.«01_k».proof.Proof.Update.Common
public import proofs.«01_k».proof.Proof.Products.OutLnLossPoint
public import proofs.«01_k».proof.Proof.Products.OutLnLossRef
public import proofs.«01_k».proof.Proof.Gen.OutLnLoss
public import proofs.«01_k».proof.Proof.Gen.OutLnLossIdeal
public import proofs.«01_k».proof.Proof.Gen.OutLnLossIdeal.Value

@[expose] public section

noncomputable section

open Idealize.ShloMosaic Idealize.ShloMosaic.TcCoe Idealize.SL.Sem Cert.Update Cert.Products

theorem tables_OutLnLoss : Cert.OutLnLoss.defs (F := Bits) = Cert.OutLnLossIdeal.defs (F := Bits) :=
  congrArg (Pipeline.defs Cert.OutLnLossIdeal.pcfgs) (one_body 0 (by decide) fun (_, _) => rfl)

namespace Cert.OutLnLossIdeal.Normed
open Cert.OutLnLossIdeal Cert.OutLnLossIdeal.Gen Cert.OutLnLossIdeal.Value

variable (m : (ℓ : Loc nD τ sig) → Buf (Elt Ideal) ℓ) (g : Dev nD → PrngReg)

/-- The windows of whole rows are the point's rows, the others are whole arrays. -/
theorem blocks_at : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0]
    ∧ win0_11.index t = ![0, 0] ∧ win0_12.index t = ![0, 0] :=
  (by decide +kernel : ∀ t : Fin grid0.N, _)

theorem points : cfg0.N = 16 := by decide

theorem small (t : Fin cfg0.N) : t.val < 16 := Nat.lt_of_lt_of_eq t.isLt points

/-- A point's rows. -/
def rows (t : Fin cfg0.N) (y : Fin 256) : Fin 4096 := ⟨t.val * 256 + y.val, by have := small t; omega⟩

/-- A whole array's place. -/
theorem at_zero {f : Fin 2 → Nat} {b y : Nat} (e : f = ![0, 0]) : f 0 * b + 1 * y = y := by rw [e]; show 0 * b + 1 * y = _; omega

/-- Two places with the same coordinates. -/
theorem same {r n : Nat} {i j : Shape.Idx ⟨2, ![r, n]⟩} (h0 : (i 0).val = (j 0).val) (h1 : (i 1).val = (j 1).val) : i = j :=
  funext fun a => Fin.ext (match a with | ⟨0, _⟩ => h0 | ⟨1, _⟩ => h1)

section Whole
variable (c : Dev nD)

/-- The norm's input. -/
abbrev input : Rows 4096 := mixed (m ((c.tc : Thread nD τ).loc main_arg0)) (m ((c.tc : Thread nD τ).loc main_arg1))
  (m ((c.tc : Thread nD τ).loc main_arg2)) (m ((c.tc : Thread nD τ).loc main_arg4))

/-- The error of the norm's output. -/
abbrev error : Rows 4096 := err (input m c) (m ((c.tc : Thread nD τ).loc main_arg5)) (m ((c.tc : Thread nD τ).loc main_arg6))
  (m ((c.tc : Thread nD τ).loc main_arg3))

/-- The cotangent of the norm's input. -/
abbrev back : Rows 4096 := grad (input m c) (m ((c.tc : Thread nD τ).loc main_arg5)) (m ((c.tc : Thread nD τ).loc main_arg6))
  (m ((c.tc : Thread nD τ).loc main_arg3))

/-- The cotangent of a mixer's output. -/
abbrev side (o : Nat) (h : o + 1024 ≤ 2048) : Rows 4096 := rowsRows (back m c) (part o h (m ((c.tc : Thread nD τ).loc main_arg4)))

/-- The loss. -/
abbrev total : FVec Ideal S1x128 .f32 := fun _ => ∑ y, Ideal.ofBits .f32 0x3A000000#32 * rowSum (mulf (error m c) (error m c)) y

/-- The scale's gradient, row by row. -/
abbrev scales : Rows 4096 := mulf (share (error m c)) (normed (input m c))

end Whole

section Points
variable (c : Dev nD) (t : Fin cfg0.N)

/-- A point's values. -/
abbrev mine : Rows 256 × Rows 256 × Rows 256 × FVec Ideal S1x128 .f32 × Rows 1 × Rows 1 :=
  values (iblk m c 0 t) (iblk m c 1 t) (iblk m c 2 t) (iblk m c 3 t) (iblk m c 4 t) (iblk m c 5 t) (iblk m c 6 t)

/-- They are the whole values at the point's rows. -/
theorem mine_eq : mine m c t = (pick (rows t) (back m c), pick (rows t) (side m c 0 (by decide)), pick (rows t) (side m c 1024 (by decide)),
    loss (pick (rows t) (error m c)), colSums (pick (rows t) (scales m c)), colSums (pick (rows t) (share (error m c)))) := by
  obtain ⟨e0, e1, e2, e3, e4, e5, e6, -⟩ := blocks_at t
  have i0 : (iblk m c 0 t : Rows 256) = pick (rows t) (V m c main_arg0) := funext fun j => congrArg (V m c main_arg0) (eq_ix2 (at_row e0) (at_col e0))
  have i1 : (iblk m c 1 t : Rows 256) = pick (rows t) (V m c main_arg1) := funext fun j => congrArg (V m c main_arg1) (eq_ix2 (at_row e1) (at_col e1))
  have i2 : (iblk m c 2 t : Rows 256) = pick (rows t) (V m c main_arg2) := funext fun j => congrArg (V m c main_arg2) (eq_ix2 (at_row e2) (at_col e2))
  have i3 : (iblk m c 3 t : Rows 256) = pick (rows t) (V m c main_arg3) := funext fun j => congrArg (V m c main_arg3) (eq_ix2 (at_row e3) (at_col e3))
  have i4 : (iblk m c 4 t : FVec Ideal S2048x1024 .bf16) = V m c main_arg4 :=
    funext fun j => congrArg (V m c main_arg4) (same (at_zero e4) (at_col e4))
  have i5 : (iblk m c 5 t : Rows 1) = V m c main_arg5 := funext fun j => congrArg (V m c main_arg5) (same (at_zero e5) (at_col e5))
  have i6 : (iblk m c 6 t : Rows 1) = V m c main_arg6 := funext fun j => congrArg (V m c main_arg6) (same (at_zero e6) (at_col e6))
  show values _ _ _ _ _ _ _ = _
  rw [i0, i1, i2, i3, i4, i5, i6]
  rfl

theorem start (h0 : t.val % 16 = 0) : outsAt0 m c t.val t.isLt = mine m c t := (outsAt0_A m c t h0).trans (first ..)

theorem step (h0 : ¬t.val % 16 = 0) : outsAt0 m c t.val t.isLt = ((mine m c t).1, (mine m c t).2.1, (mine m c t).2.2.1,
      addf (outsAt0 m c (t.val - 1) (Nat.lt_of_le_of_lt (Nat.sub_le _ _) t.isLt)).2.2.2.1 (mine m c t).2.2.2.1,
      addf (outsAt0 m c (t.val - 1) (Nat.lt_of_le_of_lt (Nat.sub_le _ _) t.isLt)).2.2.2.2.1 (mine m c t).2.2.2.2.1,
      addf (outsAt0 m c (t.val - 1) (Nat.lt_of_le_of_lt (Nat.sub_le _ _) t.isLt)).2.2.2.2.2 (mine m c t).2.2.2.2.2) :=
  (outsAt0_B m c t h0).trans (later ..)

/-- The three blocks of rows, at every point. -/
theorem blocks : (outsAt0 m c t.val t.isLt).1 = pick (rows t) (back m c)
    ∧ (outsAt0 m c t.val t.isLt).2.1 = pick (rows t) (side m c 0 (by decide))
    ∧ (outsAt0 m c t.val t.isLt).2.2.1 = pick (rows t) (side m c 1024 (by decide)) := by
  by_cases h0 : t.val % 16 = 0
  · rw [start m c t h0, mine_eq]; exact ⟨rfl, rfl, rfl⟩
  · rw [step m c t h0, mine_eq]; exact ⟨rfl, rfl, rfl⟩

/-- The three sums, after the last point. -/
theorem sums_after (ht : t.val = 15) : (outsAt0 m c t.val t.isLt).2.2.2.1 = total m c
    ∧ (outsAt0 m c t.val t.isLt).2.2.2.2.1 = colSums (scales m c)
    ∧ (outsAt0 m c t.val t.isLt).2.2.2.2.2 = colSums (share (error m c)) := by
  have weigh : ∀ f : Fin 256 → EReal, Ideal.ofBits .f32 0x3A000000#32 * ∑ y, f y = ∑ y, Ideal.ofBits .f32 0x3A000000#32 * f y := fun f => by
    rw [ofBits_weight]; exact real_mul_sum (by norm_num) f
  refine ⟨funext fun j => ?_, funext fun j => ?_, funext fun j => ?_⟩
  · refine carried points (fun n h => (outsAt0 m c n h).2.2.2.1 j) (fun y => Ideal.ofBits .f32 0x3A000000#32 * rowSum (mulf (error m c) (error m c)) y)
      (fun t h => ?_) (fun t h => ?_) t ht
    · exact (congrFun (congrArg (fun z => z.2.2.2.1) ((start m c t (by omega)).trans (mine_eq m c t))) j).trans (weigh _)
    · refine (congrFun (congrArg (fun z => z.2.2.2.1) (step m c t (by have := small t; omega))) j).trans ?_
      rw [mine_eq]
      exact (congrArg (fun z : EReal => _ + z) (weigh _))
  · refine carried points (fun n h => (outsAt0 m c n h).2.2.2.2.1 j) (fun y => scales m c (ix2 y (j 1))) (fun t h => ?_) (fun t h => ?_) t ht
    · exact (congrFun (congrArg (fun z => z.2.2.2.2.1) ((start m c t (by omega)).trans (mine_eq m c t))) j).trans rfl
    · refine (congrFun (congrArg (fun z => z.2.2.2.2.1) (step m c t (by have := small t; omega))) j).trans ?_
      rw [mine_eq]
      exact rfl
  · refine carried points (fun n h => (outsAt0 m c n h).2.2.2.2.2 j) (fun y => share (error m c) (ix2 y (j 1))) (fun t h => ?_) (fun t h => ?_) t ht
    · exact (congrFun (congrArg (fun z => z.2.2.2.2.2) ((start m c t (by omega)).trans (mine_eq m c t))) j).trans rfl
    · refine (congrFun (congrArg (fun z => z.2.2.2.2.2) (step m c t (by have := small t; omega))) j).trans ?_
      rw [mine_eq]
      exact rfl

end Points

/-! ## What the run leaves -/

section Results
variable (c : Dev nD)

/-- The point of a row. -/
theorem point_of (x : Nat) (hx : x < 4096) : ∃ t : Fin cfg0.N, t.val * 256 ≤ x ∧ x < t.val * 256 + 256 :=
  ⟨⟨x / 256, by have := points; omega⟩, by show x / 256 * 256 ≤ x; omega, by show x < x / 256 * 256 + 256; omega⟩

/-- The last point. -/
theorem last_point : ∃ t : Fin cfg0.N, t.val = 15 := ⟨⟨15, by decide⟩, rfl⟩

theorem result7 : (dats m 0 c).arrAt 7 cfg0.N = back m c := by
  refine (dats m 0 c).arrAt_eq_of_cover 7 _ (fun t _ => ?_) fun i => ?_
  · rw [flushed7, (blocks m c t).1]
    exact funext fun j => congrArg (back m c) (eq_ix2 (at_row (blocks_at t).2.2.2.2.2.2.2.1) (at_col (blocks_at t).2.2.2.2.2.2.2.1)).symm
  · obtain ⟨t, ht⟩ := point_of (i 0).val (i 0).isLt
    refine ⟨t, flush0_7 t, ?_⟩
    show i ∈ ((View.whole main_v0_0).slice (win0_7.rect t)).set
    rw [View.set_slice_whole, Rect.mem_set_unit]
    exact in_rows (blocks_at t).2.2.2.2.2.2.2.1 i ht

theorem result8 : (dats m 0 c).arrAt 8 cfg0.N = side m c 0 (by decide) := by
  refine (dats m 0 c).arrAt_eq_of_cover 8 _ (fun t _ => ?_) fun i => ?_
  · rw [flushed8, (blocks m c t).2.1]
    exact funext fun j => congrArg (side m c 0 (by decide)) (eq_ix2 (at_row (blocks_at t).2.2.2.2.2.2.2.2.1) (at_col (blocks_at t).2.2.2.2.2.2.2.2.1)).symm
  · obtain ⟨t, ht⟩ := point_of (i 0).val (i 0).isLt
    refine ⟨t, flush0_8 t, ?_⟩
    show i ∈ ((View.whole main_v0_1).slice (win0_8.rect t)).set
    rw [View.set_slice_whole, Rect.mem_set_unit]
    exact in_rows (blocks_at t).2.2.2.2.2.2.2.2.1 i ht

theorem result9 : (dats m 0 c).arrAt 9 cfg0.N = side m c 1024 (by decide) := by
  refine (dats m 0 c).arrAt_eq_of_cover 9 _ (fun t _ => ?_) fun i => ?_
  · rw [flushed9, (blocks m c t).2.2]
    exact funext fun j => congrArg (side m c 1024 (by decide)) (eq_ix2 (at_row (blocks_at t).2.2.2.2.2.2.2.2.2.1) (at_col (blocks_at t).2.2.2.2.2.2.2.2.2.1)).symm
  · obtain ⟨t, ht⟩ := point_of (i 0).val (i 0).isLt
    refine ⟨t, flush0_9 t, ?_⟩
    show i ∈ ((View.whole main_v0_2).slice (win0_9.rect t)).set
    rw [View.set_slice_whole, Rect.mem_set_unit]
    exact in_rows (blocks_at t).2.2.2.2.2.2.2.2.2.1 i ht

theorem result10 : (dats m 0 c).arrAt 10 cfg0.N = total m c := by
  refine (dats m 0 c).arrAt_eq_of_cover 10 _ (fun t hf => ?_) fun i => ?_
  · have h15 : t.val % 16 = 15 := (flush0_10 t).mp hf
    rw [flushed10, (sums_after m c t (by have := small t; omega)).1]
    rfl
  · obtain ⟨t, ht⟩ := last_point
    refine ⟨t, (flush0_10 t).mpr (by omega), ?_⟩
    show i ∈ ((View.whole main_v0_3).slice (win0_10.rect t)).set
    rw [View.set_slice_whole, Rect.mem_set_unit]
    exact in_rows (b := 1) (blocks_at t).2.2.2.2.2.2.2.2.2.2.1 i ⟨by omega, by have : (i 0).val < 1 := (i 0).isLt; omega⟩

theorem result11 : (dats m 0 c).arrAt 11 cfg0.N = colSums (scales m c) := by
  refine (dats m 0 c).arrAt_eq_of_cover 11 _ (fun t hf => ?_) fun i => ?_
  · have h15 : t.val % 16 = 15 := (flush0_11 t).mp hf
    rw [flushed11, (sums_after m c t (by have := small t; omega)).2.1]
    exact funext fun j => congrArg (colSums (scales m c)) (same (at_zero (blocks_at t).2.2.2.2.2.2.2.2.2.2.2.1) (at_col (blocks_at t).2.2.2.2.2.2.2.2.2.2.2.1)).symm
  · obtain ⟨t, ht⟩ := last_point
    refine ⟨t, (flush0_11 t).mpr (by omega), ?_⟩
    show i ∈ ((View.whole main_v0_4).slice (win0_11.rect t)).set
    rw [View.set_slice_whole, Rect.mem_set_unit]
    exact in_rows (b := 1) (blocks_at t).2.2.2.2.2.2.2.2.2.2.2.1 i ⟨by omega, by have : (i 0).val < 1 := (i 0).isLt; omega⟩

theorem result12 : (dats m 0 c).arrAt 12 cfg0.N = colSums (share (error m c)) := by
  refine (dats m 0 c).arrAt_eq_of_cover 12 _ (fun t hf => ?_) fun i => ?_
  · have h15 : t.val % 16 = 15 := (flush0_12 t).mp hf
    rw [flushed12, (sums_after m c t (by have := small t; omega)).2.2]
    exact funext fun j => congrArg (colSums (share (error m c))) (same (at_zero (blocks_at t).2.2.2.2.2.2.2.2.2.2.2.2) (at_col (blocks_at t).2.2.2.2.2.2.2.2.2.2.2.2)).symm
  · obtain ⟨t, ht⟩ := last_point
    refine ⟨t, (flush0_12 t).mpr (by omega), ?_⟩
    show i ∈ ((View.whole main_v0_5).slice (win0_12.rect t)).set
    rw [View.set_slice_whole, Rect.mem_set_unit]
    exact in_rows (b := 1) (blocks_at t).2.2.2.2.2.2.2.2.2.2.2.2 i ⟨by omega, by have : (i 0).val < 1 := (i 0).isLt; omega⟩

end Results

/-- The run leaves the six results and its arguments. -/
theorem leaves : θ_run defs (onTc (τ := τ) (main (F := Ideal))) ⟨m, fun _ => 0, g⟩ (fun r => ∀ c : Dev nD,
      r.2.mem ((c.tc : Thread nD τ).loc main_v0_0) = back m c
      ∧ r.2.mem ((c.tc : Thread nD τ).loc main_v0_1) = side m c 0 (by decide)
      ∧ r.2.mem ((c.tc : Thread nD τ).loc main_v0_2) = side m c 1024 (by decide)
      ∧ r.2.mem ((c.tc : Thread nD τ).loc main_v0_3) = total m c
      ∧ r.2.mem ((c.tc : Thread nD τ).loc main_v0_4) = colSums (scales m c)
      ∧ r.2.mem ((c.tc : Thread nD τ).loc main_v0_5) = colSums (share (error m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(post7 m r h.1 c).trans (result7 m c), (post8 m r h.1 c).trans (result8 m c),
    (post9 m r h.1 c).trans (result9 m c), (post10 m r h.1 c).trans (result10 m c), (post11 m r h.1 c).trans (result11 m c),
    (post12 m r h.1 c).trans (result12 m c), kept_main_arg0 m r h.1 c, kept_main_arg1 m r h.1 c, kept_main_arg2 m r h.1 c,
    kept_main_arg3 m r h.1 c, kept_main_arg4 m r h.1 c, kept_main_arg5 m r h.1 c, kept_main_arg6 m r h.1 c⟩) (run_main_quiescent m g)

end Cert.OutLnLossIdeal.Normed

theorem frame_OutLnLoss : Cert.quiescent_OutLnLoss := fun m g _ => by
  rw [tables_OutLnLoss]; exact Cert.OutLnLossIdeal.Gen.frame (F := Bits) m g
theorem frame_OutLnLossIdeal : Cert.quiescent_OutLnLossIdeal := fun m g _ => Cert.OutLnLossIdeal.Gen.frame (F := Ideal) m g
theorem frame_OutLnLossRefIdeal : Cert.quiescent_OutLnLossRefIdeal := fun m g _ =>
  (θ_run Cert.OutLnLossRefIdeal.defs _ _).mono (fun _ h => ⟨fun c => (h c).2.2.2.2.2.2, no_sems rfl rfl _ _⟩)
    (Cert.OutLnLossRefIdeal.Value.run (F := Ideal) m g)

open Cert.OutLnLossRefIdeal.Normed in
theorem algebraic_OutLnLoss : Cert.algebraic_OutLnLossIdeal_OutLnLossRefIdeal := fun m g m' g' _ hm =>
  ⟨_, _, _, _, _, _, Cert.OutLnLossIdeal.Normed.leaves m g,
    (θ_run _ _ _).mono (fun _ h c => by
      obtain ⟨h0, h1, h2, h3, h4, h5, h6⟩ := hm c
      obtain ⟨r0, r1, r2, r3, r4, r5, rest⟩ := h c
      rw [value0] at r0; rw [value1] at r1; rw [value2] at r2; rw [value3] at r3; rw [value4] at r4; rw [value5] at r5
      dsimp only [back, off, row] at r0 r1 r2 r3 r4 r5
      rw [h0, h1, h2, h3, h4, h5, h6] at r0 r1 r2 r3 r4 r5
      exact ⟨r0, r1, r2, r3, r4, r5, rest⟩)
      (Cert.OutLnLossRefIdeal.Value.run (F := Ideal) m' g')⟩

end
-- ==== Proof.lean ====
module

public import proofs.«01_k».proof.Defs
public import proofs.«01_k».proof.Proof.Gen.PairShare
public import proofs.«01_k».proof.Proof.Gen.PairShareIdeal
public import proofs.«01_k».proof.Proof.Gen.PairShareIdeal.Skeleton
public import proofs.«01_k».proof.Proof.Gen.PairShareIdeal.Launch
public import proofs.«01_k».proof.Proof.Gen.PairShareIdeal.Points
public import proofs.«01_k».proof.Proof.Gen.PairShareRef
public import proofs.«01_k».proof.Proof.Gen.PairShareRefIdeal
public import proofs.«01_k».proof.Proof.Gen.PairShareRefIdeal.Run
public import proofs.«01_k».proof.Proof.Gen.PairShareRefIdeal.Read
public import proofs.«01_k».proof.Proof.Gen.ChipExchange
public import proofs.«01_k».proof.Proof.Gen.ChipExchangeIdeal
public import proofs.«01_k».proof.Proof.Gen.ChipExchangeIdeal.Skeleton
public import proofs.«01_k».proof.Proof.Gen.ChipExchangeIdeal.Launch
public import proofs.«01_k».proof.Proof.Gen.ChipExchangeIdeal.Points
public import proofs.«01_k».proof.Proof.Gen.ChipExchangeRef
public import proofs.«01_k».proof.Proof.Gen.ChipExchangeRefIdeal
public import proofs.«01_k».proof.Proof.Gen.ChipExchangeRefIdeal.Run
public import proofs.«01_k».proof.Proof.Gen.ChipExchangeRefIdeal.Read
public import proofs.«01_k».proof.Proof.Gen.PairExchange
public import proofs.«01_k».proof.Proof.Gen.PairExchangeIdeal
public import proofs.«01_k».proof.Proof.Gen.PairExchangeIdeal.Skeleton
public import proofs.«01_k».proof.Proof.Gen.PairExchangeIdeal.Launch
public import proofs.«01_k».proof.Proof.Gen.PairExchangeIdeal.Points
public import proofs.«01_k».proof.Proof.Gen.PairExchangeRef
public import proofs.«01_k».proof.Proof.Gen.PairExchangeRefIdeal
public import proofs.«01_k».proof.Proof.Gen.PairExchangeRefIdeal.Run
public import proofs.«01_k».proof.Proof.Gen.PairExchangeRefIdeal.Read
public import proofs.«01_k».proof.Proof.Gen.GatherWeights
public import proofs.«01_k».proof.Proof.Gen.GatherWeightsIdeal
public import proofs.«01_k».proof.Proof.Gen.GatherWeightsIdeal.Skeleton
public import proofs.«01_k».proof.Proof.Gen.GatherWeightsIdeal.Launch
public import proofs.«01_k».proof.Proof.Gen.GatherWeightsIdeal.Points
public import proofs.«01_k».proof.Proof.Gen.GatherWeightsRef
public import proofs.«01_k».proof.Proof.Gen.GatherWeightsRefIdeal
public import proofs.«01_k».proof.Proof.Gen.GatherWeightsRefIdeal.Run
public import proofs.«01_k».proof.Proof.Gen.GatherWeightsRefIdeal.Read
public import proofs.«01_k».proof.Proof.Gen.PairAddIn
public import proofs.«01_k».proof.Proof.Gen.PairAddInIdeal
public import proofs.«01_k».proof.Proof.Gen.PairAddInIdeal.Value
public import proofs.«01_k».proof.Proof.Gen.PairAddInRef
public import proofs.«01_k».proof.Proof.Gen.PairAddInRefIdeal
public import proofs.«01_k».proof.Proof.Gen.PairAddInRefIdeal.Run
public import proofs.«01_k».proof.Proof.Gen.PairAddInRefIdeal.Read
public import proofs.«01_k».proof.Proof.Gen.PairAddOut
public import proofs.«01_k».proof.Proof.Gen.PairAddOutIdeal
public import proofs.«01_k».proof.Proof.Gen.PairAddOutIdeal.Value
public import proofs.«01_k».proof.Proof.Gen.PairAddOutRef
public import proofs.«01_k».proof.Proof.Gen.PairAddOutRefIdeal
public import proofs.«01_k».proof.Proof.Gen.PairAddOutRefIdeal.Run
public import proofs.«01_k».proof.Proof.Gen.PairAddOutRefIdeal.Read
public import proofs.«01_k».proof.Proof.Gen.ChipAddIn
public import proofs.«01_k».proof.Proof.Gen.ChipAddInIdeal
public import proofs.«01_k».proof.Proof.Gen.ChipAddInIdeal.Value
public import proofs.«01_k».proof.Proof.Gen.ChipAddInRefIdeal
public import proofs.«01_k».proof.Proof.Gen.ChipAddInRefIdeal.Run
public import proofs.«01_k».proof.Proof.Gen.ChipAddInRefIdeal.Read
public import proofs.«01_k».proof.Proof.Gen.ChipAddOut
public import proofs.«01_k».proof.Proof.Gen.ChipAddOutIdeal
public import proofs.«01_k».proof.Proof.Gen.ChipAddOutIdeal.Value
public import proofs.«01_k».proof.Proof.Gen.ChipAddOutRefIdeal
public import proofs.«01_k».proof.Proof.Gen.ChipAddOutRefIdeal.Run
public import proofs.«01_k».proof.Proof.Gen.ChipAddOutRefIdeal.Read
public import proofs.«01_k».proof.Proof.Gen.SumSlots
public import proofs.«01_k».proof.Proof.Gen.SumSlotsIdeal
public import proofs.«01_k».proof.Proof.Gen.SumSlotsIdeal.Value
public import proofs.«01_k».proof.Proof.Gen.SumSlotsRefIdeal
public import proofs.«01_k».proof.Proof.Gen.SumSlotsRefIdeal.Run
public import proofs.«01_k».proof.Proof.Gen.SumSlotsRefIdeal.Read
public import proofs.«01_k».proof.Proof.Gen.AdamwIn
public import proofs.«01_k».proof.Proof.Gen.AdamwInIdeal
public import proofs.«01_k».proof.Proof.Gen.AdamwInIdeal.Value
public import proofs.«01_k».proof.Proof.Gen.AdamwInRefIdeal
public import proofs.«01_k».proof.Proof.Gen.AdamwInRefIdeal.Run
public import proofs.«01_k».proof.Proof.Gen.AdamwInRefIdeal.Read
public import proofs.«01_k».proof.Proof.Gen.AdamwOut
public import proofs.«01_k».proof.Proof.Gen.AdamwOutIdeal
public import proofs.«01_k».proof.Proof.Gen.AdamwOutIdeal.Value
public import proofs.«01_k».proof.Proof.Gen.AdamwOutRefIdeal
public import proofs.«01_k».proof.Proof.Gen.AdamwOutRefIdeal.Run
public import proofs.«01_k».proof.Proof.Gen.AdamwOutRefIdeal.Read
public import proofs.«01_k».proof.Proof.Gen.AdamwSmall
public import proofs.«01_k».proof.Proof.Gen.AdamwSmallIdeal
public import proofs.«01_k».proof.Proof.Gen.AdamwSmallIdeal.Value
public import proofs.«01_k».proof.Proof.Gen.AdamwSmallRefIdeal
public import proofs.«01_k».proof.Proof.Gen.AdamwSmallRefIdeal.Run
public import proofs.«01_k».proof.Proof.Gen.AdamwSmallRefIdeal.Read
public import proofs.«01_k».proof.Proof.Gen.InProj
public import proofs.«01_k».proof.Proof.Gen.InProjIdeal
public import proofs.«01_k».proof.Proof.Gen.InProjIdeal.Value
public import proofs.«01_k».proof.Proof.Gen.InProjRefIdeal
public import proofs.«01_k».proof.Proof.Gen.InProjRefIdeal.Run
public import proofs.«01_k».proof.Proof.Gen.GradX
public import proofs.«01_k».proof.Proof.Gen.GradXIdeal
public import proofs.«01_k».proof.Proof.Gen.GradXIdeal.Value
public import proofs.«01_k».proof.Proof.Gen.GradXRefIdeal
public import proofs.«01_k».proof.Proof.Gen.GradXRefIdeal.Run
public import proofs.«01_k».proof.Proof.Gen.GradWOut
public import proofs.«01_k».proof.Proof.Gen.GradWOutIdeal
public import proofs.«01_k».proof.Proof.Gen.GradWOutIdeal.Value
public import proofs.«01_k».proof.Proof.Gen.GradWOutRefIdeal
public import proofs.«01_k».proof.Proof.Gen.GradWOutRefIdeal.Run
public import proofs.«01_k».proof.Proof.Gen.GradWZ
public import proofs.«01_k».proof.Proof.Gen.GradWZIdeal
public import proofs.«01_k».proof.Proof.Gen.GradWZIdeal.Value
public import proofs.«01_k».proof.Proof.Gen.GradWZRefIdeal
public import proofs.«01_k».proof.Proof.Gen.GradWZRefIdeal.Run
public import proofs.«01_k».proof.Proof.Gen.GradWXbc
public import proofs.«01_k».proof.Proof.Gen.GradWXbcIdeal
public import proofs.«01_k».proof.Proof.Gen.GradWXbcIdeal.Value
public import proofs.«01_k».proof.Proof.Gen.GradWXbcRefIdeal
public import proofs.«01_k».proof.Proof.Gen.GradWXbcRefIdeal.Run
public import proofs.«01_k».proof.Proof.Gen.GradWKv
public import proofs.«01_k».proof.Proof.Gen.GradWKvIdeal
public import proofs.«01_k».proof.Proof.Gen.GradWKvIdeal.Value
public import proofs.«01_k».proof.Proof.Gen.GradWKvRefIdeal
public import proofs.«01_k».proof.Proof.Gen.GradWKvRefIdeal.Run
public import proofs.«01_k».proof.Proof.Gen.GradWDt
public import proofs.«01_k».proof.Proof.Gen.GradWDtIdeal
public import proofs.«01_k».proof.Proof.Gen.GradWDtIdeal.Value
public import proofs.«01_k».proof.Proof.Gen.GradWDtRefIdeal
public import proofs.«01_k».proof.Proof.Gen.GradWDtRefIdeal.Run
public import proofs.«01_k».proof.Proof.Gen.OutLnLoss
public import proofs.«01_k».proof.Proof.Gen.OutLnLossIdeal
public import proofs.«01_k».proof.Proof.Gen.OutLnLossIdeal.Value
public import proofs.«01_k».proof.Proof.Gen.OutLnLossRefIdeal
public import proofs.«01_k».proof.Proof.Gen.OutLnLossRefIdeal.Run
public import proofs.«01_k».proof.Proof.Exchange.PairShareValue
public import proofs.«01_k».proof.Proof.Exchange.ChipExchangeValue
public import proofs.«01_k».proof.Proof.Exchange.PairExchangeValue
public import proofs.«01_k».proof.Proof.Exchange.GatherWeightsValue
public import proofs.«01_k».proof.Proof.Update.PairAdd
public import proofs.«01_k».proof.Proof.Update.ChipAdd
public import proofs.«01_k».proof.Proof.Update.SumSlots
public import proofs.«01_k».proof.Proof.Update.Adamw
public import proofs.«01_k».proof.Proof.Products.InProj
public import proofs.«01_k».proof.Proof.Products.GradX
public import proofs.«01_k».proof.Proof.Products.GradWOut
public import proofs.«01_k».proof.Proof.Products.GradWZ
public import proofs.«01_k».proof.Proof.Products.GradWXbc
public import proofs.«01_k».proof.Proof.Products.GradWKv
public import proofs.«01_k».proof.Proof.Products.GradWDt
public import proofs.«01_k».proof.Proof.Products.OutLnLoss

@[expose] public section

noncomputable section

namespace Cert.Proof

open Idealize.ShloMosaic Idealize.SL.Sem

theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
    frame_PairShare, frame_PairShareIdeal, frame_PairShareRefIdeal, frame_PairShareRef,
    frame_ChipExchange, frame_ChipExchangeIdeal, frame_ChipExchangeRefIdeal, frame_ChipExchangeRef,
    frame_PairExchange, frame_PairExchangeIdeal, frame_PairExchangeRefIdeal, frame_PairExchangeRef,
    frame_GatherWeights, frame_GatherWeightsIdeal, frame_GatherWeightsRefIdeal, frame_GatherWeightsRef,
    frame_PairAddIn, frame_PairAddInIdeal, frame_PairAddInRefIdeal, frame_PairAddInRef,
    frame_PairAddOut, frame_PairAddOutIdeal, frame_PairAddOutRefIdeal, frame_PairAddOutRef,
    frame_ChipAddIn, frame_ChipAddInIdeal, frame_ChipAddInRefIdeal,
    frame_ChipAddOut, frame_ChipAddOutIdeal, frame_ChipAddOutRefIdeal,
    frame_SumSlots, frame_SumSlotsIdeal, frame_SumSlotsRefIdeal,
    frame_AdamwIn, frame_AdamwInIdeal, frame_AdamwInRefIdeal,
    frame_AdamwOut, frame_AdamwOutIdeal, frame_AdamwOutRefIdeal,
    frame_AdamwSmall, frame_AdamwSmallIdeal, frame_AdamwSmallRefIdeal,
    frame_InProj, frame_InProjIdeal, frame_InProjRefIdeal,
    frame_GradX, frame_GradXIdeal, frame_GradXRefIdeal,
    frame_GradWOut, frame_GradWOutIdeal, frame_GradWOutRefIdeal,
    frame_GradWZ, frame_GradWZIdeal, frame_GradWZRefIdeal,
    frame_GradWXbc, frame_GradWXbcIdeal, frame_GradWXbcRefIdeal,
    frame_GradWKv, frame_GradWKvIdeal, frame_GradWKvRefIdeal,
    frame_GradWDt, frame_GradWDtIdeal, frame_GradWDtRefIdeal,
    frame_OutLnLoss, frame_OutLnLossIdeal, frame_OutLnLossRefIdeal,
    trivial, algebraic_PairShare, bitexact_PairShare,
    trivial, algebraic_ChipExchange, bitexact_ChipExchange,
    trivial, algebraic_PairExchange, bitexact_PairExchange,
    trivial, algebraic_GatherWeights, bitexact_GatherWeights,
    trivial, algebraic_PairAddIn, bitexact_PairAddIn,
    trivial, algebraic_PairAddOut, bitexact_PairAddOut,
    trivial, algebraic_ChipAddIn,
    trivial, algebraic_ChipAddOut,
    trivial, algebraic_SumSlots,
    trivial, algebraic_AdamwIn,
    trivial, algebraic_AdamwOut,
    trivial, algebraic_AdamwSmall,
    trivial, algebraic_InProj,
    trivial, algebraic_GradX,
    trivial, algebraic_GradWOut,
    trivial, algebraic_GradWZ,
    trivial, algebraic_GradWXbc,
    trivial, algebraic_GradWKv,
    trivial, algebraic_GradWDt,
    trivial, algebraic_OutLnLoss⟩

end Cert.Proof

end
